-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite [hPre_finite : Cert.Pre_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite [hPre_finite : Cert.Pre_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_loss [hPre_finite_loss : Cert.Pre_finite_loss.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_loss.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).1 = (fun _ => 1#1)
    ∧ (Cert.Pre_finite_loss.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.1 = (fun _ => 1#1)
    ∧ (Cert.Pre_finite_loss.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.1 = (fun _ => 1#1)
    ∧ (Cert.Pre_finite_loss.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.2.1 = (fun _ => 1#1)
    ∧ (Cert.Pre_finite_loss.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.2.2.1 = (fun _ => 1#1)
    ∧ (Cert.Pre_finite_loss.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.2.2.2.1 = (fun _ => 1#1)
    ∧ (Cert.Pre_finite_loss.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_loss [hPre_finite_loss : Cert.Pre_finite_loss.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_loss.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).1 = (fun _ => 1#1)
    ∧ (Cert.Pre_finite_loss.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.1 = (fun _ => 1#1)
    ∧ (Cert.Pre_finite_loss.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.1 = (fun _ => 1#1)
    ∧ (Cert.Pre_finite_loss.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.2.1 = (fun _ => 1#1)
    ∧ (Cert.Pre_finite_loss.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.2.2.1 = (fun _ => 1#1)
    ∧ (Cert.Pre_finite_loss.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.2.2.2.1 = (fun _ => 1#1)
    ∧ (Cert.Pre_finite_loss.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.2.2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_head [hPre_finite_head : Cert.Pre_finite_head.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_head.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).1 = (fun _ => 1#1)
    ∧ (Cert.Pre_finite_head.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.1 = (fun _ => 1#1)
    ∧ (Cert.Pre_finite_head.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.1 = (fun _ => 1#1)
    ∧ (Cert.Pre_finite_head.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.1 = (fun _ => 1#1)
    ∧ (Cert.Pre_finite_head.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_head [hPre_finite_head : Cert.Pre_finite_head.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_head.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).1 = (fun _ => 1#1)
    ∧ (Cert.Pre_finite_head.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.1 = (fun _ => 1#1)
    ∧ (Cert.Pre_finite_head.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.1 = (fun _ => 1#1)
    ∧ (Cert.Pre_finite_head.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.1 = (fun _ => 1#1)
    ∧ (Cert.Pre_finite_head.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel8Ideal_pre_finite [hKernel8Ideal : Cert.Kernel8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_finite [hReference8Ideal : Cert.Reference8Ideal.Facts] [hPre_finite : Cert.Pre_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_finite_loss [hKernel10Ideal : Cert.Kernel10Ideal.Facts] [hPre_finite_loss : Cert.Pre_finite_loss.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_loss m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_finite_loss [hReference10Ideal : Cert.Reference10Ideal.Facts] [hPre_finite_loss : Cert.Pre_finite_loss.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_loss m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite_head [hKernel11Ideal : Cert.Kernel11Ideal.Facts] [hPre_finite_head : Cert.Pre_finite_head.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_head m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite_head [hReference11Ideal : Cert.Reference11Ideal.Facts] [hPre_finite_head : Cert.Pre_finite_head.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_head m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9)
      ∧ r.2.mem ((c.tc : Thread Cert.Kernel17.nD Cert.Kernel17.τ).loc Cert.Kernel17.main_arg10) = m ((c.tc : Thread Cert.Kernel17.nD Cert.Kernel17.τ).loc Cert.Kernel17.main_arg10)
      ∧ r.2.mem ((c.tc : Thread Cert.Kernel17.nD Cert.Kernel17.τ).loc Cert.Kernel17.main_arg11) = m ((c.tc : Thread Cert.Kernel17.nD Cert.Kernel17.τ).loc Cert.Kernel17.main_arg11))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
      ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
      ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9)
      ∧ r.2.mem ((c.tc : Thread Cert.Reference17Ideal.nD Cert.Reference17Ideal.τ).loc Cert.Reference17Ideal.main_arg10) = m ((c.tc : Thread Cert.Reference17Ideal.nD Cert.Reference17Ideal.τ).loc Cert.Reference17Ideal.main_arg10)
      ∧ r.2.mem ((c.tc : Thread Cert.Reference17Ideal.nD Cert.Reference17Ideal.τ).loc Cert.Reference17Ideal.main_arg11) = m ((c.tc : Thread Cert.Reference17Ideal.nD Cert.Reference17Ideal.τ).loc Cert.Reference17Ideal.main_arg11))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)) (v2 : (c : Dev Cert.KernelIdeal.nD) → Buf (Elt Ideal) ((c.tc : Thread Cert.KernelIdeal.nD Cert.KernelIdeal.τ).loc Cert.KernelIdeal.main_v63_2)) (v3 : (c : Dev Cert.KernelIdeal.nD) → Buf (Elt Ideal) ((c.tc : Thread Cert.KernelIdeal.nD Cert.KernelIdeal.τ).loc Cert.KernelIdeal.main_v63_3)) (v4 : (c : Dev Cert.KernelIdeal.nD) → Buf (Elt Ideal) ((c.tc : Thread Cert.KernelIdeal.nD Cert.KernelIdeal.τ).loc Cert.KernelIdeal.main_v63_4)) (v5 : (c : Dev Cert.KernelIdeal.nD) → Buf (Elt Ideal) ((c.tc : Thread Cert.KernelIdeal.nD Cert.KernelIdeal.τ).loc Cert.KernelIdeal.main_v63_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_v63_2) = v2 c
          ∧ r.2.mem ((c.tc : Thread Cert.KernelIdeal.nD Cert.KernelIdeal.τ).loc Cert.KernelIdeal.main_v63_3) = v3 c
          ∧ r.2.mem ((c.tc : Thread Cert.KernelIdeal.nD Cert.KernelIdeal.τ).loc Cert.KernelIdeal.main_v63_4) = v4 c
          ∧ r.2.mem ((c.tc : Thread Cert.KernelIdeal.nD Cert.KernelIdeal.τ).loc Cert.KernelIdeal.main_v63_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v104) = v4 c
          ∧ r.2.mem ((c.tc : Thread Cert.ReferenceIdeal.nD Cert.ReferenceIdeal.τ).loc Cert.ReferenceIdeal.main_v105) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg2) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite [hKernel8Ideal : Cert.Kernel8Ideal.Facts] [hReference8Ideal : Cert.Reference8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v63_0)) (v1 : (c : Dev Cert.Kernel8Ideal.nD) → Buf (Elt Ideal) ((c.tc : Thread Cert.Kernel8Ideal.nD Cert.Kernel8Ideal.τ).loc Cert.Kernel8Ideal.main_v63_1)) (v2 : (c : Dev Cert.Kernel8Ideal.nD) → Buf (Elt Ideal) ((c.tc : Thread Cert.Kernel8Ideal.nD Cert.Kernel8Ideal.τ).loc Cert.Kernel8Ideal.main_v63_2)) (v3 : (c : Dev Cert.Kernel8Ideal.nD) → Buf (Elt Ideal) ((c.tc : Thread Cert.Kernel8Ideal.nD Cert.Kernel8Ideal.τ).loc Cert.Kernel8Ideal.main_v63_3)) (v4 : (c : Dev Cert.Kernel8Ideal.nD) → Buf (Elt Ideal) ((c.tc : Thread Cert.Kernel8Ideal.nD Cert.Kernel8Ideal.τ).loc Cert.Kernel8Ideal.main_v63_4)) (v5 : (c : Dev Cert.Kernel8Ideal.nD) → Buf (Elt Ideal) ((c.tc : Thread Cert.Kernel8Ideal.nD Cert.Kernel8Ideal.τ).loc Cert.Kernel8Ideal.main_v63_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v63_0) = v0 c
          ∧ r.2.mem ((c.tc : Thread Cert.Kernel8Ideal.nD Cert.Kernel8Ideal.τ).loc Cert.Kernel8Ideal.main_v63_1) = v1 c
          ∧ r.2.mem ((c.tc : Thread Cert.Kernel8Ideal.nD Cert.Kernel8Ideal.τ).loc Cert.Kernel8Ideal.main_v63_2) = v2 c
          ∧ r.2.mem ((c.tc : Thread Cert.Kernel8Ideal.nD Cert.Kernel8Ideal.τ).loc Cert.Kernel8Ideal.main_v63_3) = v3 c
          ∧ r.2.mem ((c.tc : Thread Cert.Kernel8Ideal.nD Cert.Kernel8Ideal.τ).loc Cert.Kernel8Ideal.main_v63_4) = v4 c
          ∧ r.2.mem ((c.tc : Thread Cert.Kernel8Ideal.nD Cert.Kernel8Ideal.τ).loc Cert.Kernel8Ideal.main_v63_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v99) = v0 c
          ∧ r.2.mem ((c.tc : Thread Cert.Reference8Ideal.nD Cert.Reference8Ideal.τ).loc Cert.Reference8Ideal.main_v102) = v1 c
          ∧ r.2.mem ((c.tc : Thread Cert.Reference8Ideal.nD Cert.Reference8Ideal.τ).loc Cert.Reference8Ideal.main_v93) = v2 c
          ∧ r.2.mem ((c.tc : Thread Cert.Reference8Ideal.nD Cert.Reference8Ideal.τ).loc Cert.Reference8Ideal.main_v103) = v3 c
          ∧ r.2.mem ((c.tc : Thread Cert.Reference8Ideal.nD Cert.Reference8Ideal.τ).loc Cert.Reference8Ideal.main_v104) = v4 c
          ∧ r.2.mem ((c.tc : Thread Cert.Reference8Ideal.nD Cert.Reference8Ideal.τ).loc Cert.Reference8Ideal.main_v105) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v11_0)) (v1 : (c : Dev Cert.Kernel9Ideal.nD) → Buf (Elt Ideal) ((c.tc : Thread Cert.Kernel9Ideal.nD Cert.Kernel9Ideal.τ).loc Cert.Kernel9Ideal.main_v11_1)) (v2 : (c : Dev Cert.Kernel9Ideal.nD) → Buf (Elt Ideal) ((c.tc : Thread Cert.Kernel9Ideal.nD Cert.Kernel9Ideal.τ).loc Cert.Kernel9Ideal.main_v11_2)) (v3 : (c : Dev Cert.Kernel9Ideal.nD) → Buf (Elt Ideal) ((c.tc : Thread Cert.Kernel9Ideal.nD Cert.Kernel9Ideal.τ).loc Cert.Kernel9Ideal.main_v11_3)) (v4 : (c : Dev Cert.Kernel9Ideal.nD) → Buf (Elt Ideal) ((c.tc : Thread Cert.Kernel9Ideal.nD Cert.Kernel9Ideal.τ).loc Cert.Kernel9Ideal.main_v11_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11_0) = v0 c
          ∧ r.2.mem ((c.tc : Thread Cert.Kernel9Ideal.nD Cert.Kernel9Ideal.τ).loc Cert.Kernel9Ideal.main_v11_1) = v1 c
          ∧ r.2.mem ((c.tc : Thread Cert.Kernel9Ideal.nD Cert.Kernel9Ideal.τ).loc Cert.Kernel9Ideal.main_v11_2) = v2 c
          ∧ r.2.mem ((c.tc : Thread Cert.Kernel9Ideal.nD Cert.Kernel9Ideal.τ).loc Cert.Kernel9Ideal.main_v11_3) = v3 c
          ∧ r.2.mem ((c.tc : Thread Cert.Kernel9Ideal.nD Cert.Kernel9Ideal.τ).loc Cert.Kernel9Ideal.main_v11_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v27) = v2 c
          ∧ r.2.mem ((c.tc : Thread Cert.Reference9Ideal.nD Cert.Reference9Ideal.τ).loc Cert.Reference9Ideal.main_v16) = v3 c
          ∧ r.2.mem ((c.tc : Thread Cert.Reference9Ideal.nD Cert.Reference9Ideal.τ).loc Cert.Reference9Ideal.main_v51) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_finite_loss [hKernel10Ideal : Cert.Kernel10Ideal.Facts] [hReference10Ideal : Cert.Reference10Ideal.Facts] [hPre_finite_loss : Cert.Pre_finite_loss.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_loss m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v11_0)) (v1 : (c : Dev Cert.Kernel10Ideal.nD) → Buf (Elt Ideal) ((c.tc : Thread Cert.Kernel10Ideal.nD Cert.Kernel10Ideal.τ).loc Cert.Kernel10Ideal.main_v11_1)) (v2 : (c : Dev Cert.Kernel10Ideal.nD) → Buf (Elt Ideal) ((c.tc : Thread Cert.Kernel10Ideal.nD Cert.Kernel10Ideal.τ).loc Cert.Kernel10Ideal.main_v11_2)) (v3 : (c : Dev Cert.Kernel10Ideal.nD) → Buf (Elt Ideal) ((c.tc : Thread Cert.Kernel10Ideal.nD Cert.Kernel10Ideal.τ).loc Cert.Kernel10Ideal.main_v11_3)) (v4 : (c : Dev Cert.Kernel10Ideal.nD) → Buf (Elt Ideal) ((c.tc : Thread Cert.Kernel10Ideal.nD Cert.Kernel10Ideal.τ).loc Cert.Kernel10Ideal.main_v11_4)) (v5 : (c : Dev Cert.Kernel10Ideal.nD) → Buf (Elt Ideal) ((c.tc : Thread Cert.Kernel10Ideal.nD Cert.Kernel10Ideal.τ).loc Cert.Kernel10Ideal.main_v11_5)) (v6 : (c : Dev Cert.Kernel10Ideal.nD) → Buf (Elt Ideal) ((c.tc : Thread Cert.Kernel10Ideal.nD Cert.Kernel10Ideal.τ).loc Cert.Kernel10Ideal.main_v11_6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11_0) = v0 c
          ∧ r.2.mem ((c.tc : Thread Cert.Kernel10Ideal.nD Cert.Kernel10Ideal.τ).loc Cert.Kernel10Ideal.main_v11_1) = v1 c
          ∧ r.2.mem ((c.tc : Thread Cert.Kernel10Ideal.nD Cert.Kernel10Ideal.τ).loc Cert.Kernel10Ideal.main_v11_2) = v2 c
          ∧ r.2.mem ((c.tc : Thread Cert.Kernel10Ideal.nD Cert.Kernel10Ideal.τ).loc Cert.Kernel10Ideal.main_v11_3) = v3 c
          ∧ r.2.mem ((c.tc : Thread Cert.Kernel10Ideal.nD Cert.Kernel10Ideal.τ).loc Cert.Kernel10Ideal.main_v11_4) = v4 c
          ∧ r.2.mem ((c.tc : Thread Cert.Kernel10Ideal.nD Cert.Kernel10Ideal.τ).loc Cert.Kernel10Ideal.main_v11_5) = v5 c
          ∧ r.2.mem ((c.tc : Thread Cert.Kernel10Ideal.nD Cert.Kernel10Ideal.τ).loc Cert.Kernel10Ideal.main_v11_6) = v6 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v96) = v0 c
          ∧ r.2.mem ((c.tc : Thread Cert.Reference10Ideal.nD Cert.Reference10Ideal.τ).loc Cert.Reference10Ideal.main_v100) = v1 c
          ∧ r.2.mem ((c.tc : Thread Cert.Reference10Ideal.nD Cert.Reference10Ideal.τ).loc Cert.Reference10Ideal.main_v104) = v2 c
          ∧ r.2.mem ((c.tc : Thread Cert.Reference10Ideal.nD Cert.Reference10Ideal.τ).loc Cert.Reference10Ideal.main_v93) = v3 c
          ∧ r.2.mem ((c.tc : Thread Cert.Reference10Ideal.nD Cert.Reference10Ideal.τ).loc Cert.Reference10Ideal.main_v105) = v4 c
          ∧ r.2.mem ((c.tc : Thread Cert.Reference10Ideal.nD Cert.Reference10Ideal.τ).loc Cert.Reference10Ideal.main_v106) = v5 c
          ∧ r.2.mem ((c.tc : Thread Cert.Reference10Ideal.nD Cert.Reference10Ideal.τ).loc Cert.Reference10Ideal.main_v107) = v6 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal_pre_finite_head [hKernel11Ideal : Cert.Kernel11Ideal.Facts] [hReference11Ideal : Cert.Reference11Ideal.Facts] [hPre_finite_head : Cert.Pre_finite_head.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_head m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v91) = v0 c
          ∧ r.2.mem ((c.tc : Thread Cert.Reference11Ideal.nD Cert.Reference11Ideal.τ).loc Cert.Reference11Ideal.main_v65) = v1 c
          ∧ r.2.mem ((c.tc : Thread Cert.Reference11Ideal.nD Cert.Reference11Ideal.τ).loc Cert.Reference11Ideal.main_v92) = v2 c
          ∧ r.2.mem ((c.tc : Thread Cert.Reference11Ideal.nD Cert.Reference11Ideal.τ).loc Cert.Reference11Ideal.main_v93) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v16) = v1 c
          ∧ r.2.mem ((c.tc : Thread Cert.Reference12Ideal.nD Cert.Reference12Ideal.τ).loc Cert.Reference12Ideal.main_v12) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)) →
    ∃ (v0 : (c : Dev Cert.Kernel13Ideal.nD) → Buf (Elt Ideal) ((c.tc : Thread Cert.Kernel13Ideal.nD Cert.Kernel13Ideal.τ).loc Cert.Kernel13Ideal.main_v10_0)) (v1 : (c : Dev Cert.Kernel13Ideal.nD) → Buf (Elt Ideal) ((c.tc : Thread Cert.Kernel13Ideal.nD Cert.Kernel13Ideal.τ).loc Cert.Kernel13Ideal.main_v10_1)) (v2 : (c : Dev Cert.Kernel13Ideal.nD) → Buf (Elt Ideal) ((c.tc : Thread Cert.Kernel13Ideal.nD Cert.Kernel13Ideal.τ).loc Cert.Kernel13Ideal.main_v10_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v10_0) = v0 c
          ∧ r.2.mem ((c.tc : Thread Cert.Kernel13Ideal.nD Cert.Kernel13Ideal.τ).loc Cert.Kernel13Ideal.main_v10_1) = v1 c
          ∧ r.2.mem ((c.tc : Thread Cert.Kernel13Ideal.nD Cert.Kernel13Ideal.τ).loc Cert.Kernel13Ideal.main_v10_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v219) = v0 c
          ∧ r.2.mem ((c.tc : Thread Cert.Reference13Ideal.nD Cert.Reference13Ideal.τ).loc Cert.Reference13Ideal.main_v251) = v1 c
          ∧ r.2.mem ((c.tc : Thread Cert.Reference13Ideal.nD Cert.Reference13Ideal.τ).loc Cert.Reference13Ideal.main_v275) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)) (v5 : (c : Dev Cert.Kernel14Ideal.nD) → Buf (Elt Ideal) ((c.tc : Thread Cert.Kernel14Ideal.nD Cert.Kernel14Ideal.τ).loc Cert.Kernel14Ideal.main_v0_5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_v0_5) = v5 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_v47) = v3 c
          ∧ r.2.mem ((c.tc : Thread Cert.Reference14Ideal.nD Cert.Reference14Ideal.τ).loc Cert.Reference14Ideal.main_v28) = v4 c
          ∧ r.2.mem ((c.tc : Thread Cert.Reference14Ideal.nD Cert.Reference14Ideal.τ).loc Cert.Reference14Ideal.main_v34) = v5 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_v47) = v3 c
          ∧ r.2.mem ((c.tc : Thread Cert.Reference15Ideal.nD Cert.Reference15Ideal.τ).loc Cert.Reference15Ideal.main_v28) = v4 c
          ∧ r.2.mem ((c.tc : Thread Cert.Reference15Ideal.nD Cert.Reference15Ideal.τ).loc Cert.Reference15Ideal.main_v34) = v5 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)
      ∧ m' ((c.tc : Thread Cert.Reference17Ideal.nD Cert.Reference17Ideal.τ).loc Cert.Reference17Ideal.main_arg10) = m ((c.tc : Thread Cert.Kernel17Ideal.nD Cert.Kernel17Ideal.τ).loc Cert.Kernel17Ideal.main_arg10)
      ∧ m' ((c.tc : Thread Cert.Reference17Ideal.nD Cert.Reference17Ideal.τ).loc Cert.Reference17Ideal.main_arg11) = m ((c.tc : Thread Cert.Kernel17Ideal.nD Cert.Kernel17Ideal.τ).loc Cert.Kernel17Ideal.main_arg11)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)) (v5 : (c : Dev Cert.Kernel17Ideal.nD) → Buf (Elt Ideal) ((c.tc : Thread Cert.Kernel17Ideal.nD Cert.Kernel17Ideal.τ).loc Cert.Kernel17Ideal.main_v0_5)) (v6 : (c : Dev Cert.Kernel17Ideal.nD) → Buf (Elt Ideal) ((c.tc : Thread Cert.Kernel17Ideal.nD Cert.Kernel17Ideal.τ).loc Cert.Kernel17Ideal.main_v0_6)) (v7 : (c : Dev Cert.Kernel17Ideal.nD) → Buf (Elt Ideal) ((c.tc : Thread Cert.Kernel17Ideal.nD Cert.Kernel17Ideal.τ).loc Cert.Kernel17Ideal.main_v0_7)) (v8 : (c : Dev Cert.Kernel17Ideal.nD) → Buf (Elt Ideal) ((c.tc : Thread Cert.Kernel17Ideal.nD Cert.Kernel17Ideal.τ).loc Cert.Kernel17Ideal.main_v0_8)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_v0_5) = v5 c
          ∧ r.2.mem ((c.tc : Thread Cert.Kernel17Ideal.nD Cert.Kernel17Ideal.τ).loc Cert.Kernel17Ideal.main_v0_6) = v6 c
          ∧ r.2.mem ((c.tc : Thread Cert.Kernel17Ideal.nD Cert.Kernel17Ideal.τ).loc Cert.Kernel17Ideal.main_v0_7) = v7 c
          ∧ r.2.mem ((c.tc : Thread Cert.Kernel17Ideal.nD Cert.Kernel17Ideal.τ).loc Cert.Kernel17Ideal.main_v0_8) = v8 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
          ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
          ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_v47) = v3 c
          ∧ r.2.mem ((c.tc : Thread Cert.Reference17Ideal.nD Cert.Reference17Ideal.τ).loc Cert.Reference17Ideal.main_v28) = v4 c
          ∧ r.2.mem ((c.tc : Thread Cert.Reference17Ideal.nD Cert.Reference17Ideal.τ).loc Cert.Reference17Ideal.main_v34) = v5 c
          ∧ r.2.mem ((c.tc : Thread Cert.Reference17Ideal.nD Cert.Reference17Ideal.τ).loc Cert.Reference17Ideal.main_v71) = v6 c
          ∧ r.2.mem ((c.tc : Thread Cert.Reference17Ideal.nD Cert.Reference17Ideal.τ).loc Cert.Reference17Ideal.main_v52) = v7 c
          ∧ r.2.mem ((c.tc : Thread Cert.Reference17Ideal.nD Cert.Reference17Ideal.τ).loc Cert.Reference17Ideal.main_v58) = v8 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9)
          ∧ r.2.mem ((c.tc : Thread Cert.Reference17Ideal.nD Cert.Reference17Ideal.τ).loc Cert.Reference17Ideal.main_arg10) = m' ((c.tc : Thread Cert.Reference17Ideal.nD Cert.Reference17Ideal.τ).loc Cert.Reference17Ideal.main_arg10)
          ∧ r.2.mem ((c.tc : Thread Cert.Reference17Ideal.nD Cert.Reference17Ideal.τ).loc Cert.Reference17Ideal.main_arg11) = m' ((c.tc : Thread Cert.Reference17Ideal.nD Cert.Reference17Ideal.τ).loc Cert.Reference17Ideal.main_arg11))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)) (v5 : (c : Dev Cert.Kernel18Ideal.nD) → Buf (Elt Ideal) ((c.tc : Thread Cert.Kernel18Ideal.nD Cert.Kernel18Ideal.τ).loc Cert.Kernel18Ideal.main_v0_5)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_v0_5) = v5 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_v47) = v3 c
          ∧ r.2.mem ((c.tc : Thread Cert.Reference18Ideal.nD Cert.Reference18Ideal.τ).loc Cert.Reference18Ideal.main_v28) = v4 c
          ∧ r.2.mem ((c.tc : Thread Cert.Reference18Ideal.nD Cert.Reference18Ideal.τ).loc Cert.Reference18Ideal.main_v34) = v5 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite_loss : Cert.Pre_finite_loss.Facts) (hPre_finite_head : Cert.Pre_finite_head.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite (hKernel8Ideal := hKernel8Ideal) (hPre_finite := hPre_finite)
    ∧ quiescent_Reference8Ideal (hReference8Ideal := hReference8Ideal)
    ∧ quiescent_Reference8Ideal_pre_finite (hReference8Ideal := hReference8Ideal) (hPre_finite := hPre_finite)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_loss (hKernel10Ideal := hKernel10Ideal) (hPre_finite_loss := hPre_finite_loss)
    ∧ quiescent_Reference10Ideal (hReference10Ideal := hReference10Ideal)
    ∧ quiescent_Reference10Ideal_pre_finite_loss (hReference10Ideal := hReference10Ideal) (hPre_finite_loss := hPre_finite_loss)
    ∧ quiescent_Kernel11 (hKernel11 := hKernel11)
    ∧ quiescent_Kernel11Ideal (hKernel11Ideal := hKernel11Ideal)
    ∧ quiescent_Kernel11Ideal_pre_finite_head (hKernel11Ideal := hKernel11Ideal) (hPre_finite_head := hPre_finite_head)
    ∧ quiescent_Reference11Ideal (hReference11Ideal := hReference11Ideal)
    ∧ quiescent_Reference11Ideal_pre_finite_head (hReference11Ideal := hReference11Ideal) (hPre_finite_head := hPre_finite_head)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite (hKernel8Ideal := hKernel8Ideal) (hReference8Ideal := hReference8Ideal) (hPre_finite := hPre_finite)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_loss (hKernel10Ideal := hKernel10Ideal) (hReference10Ideal := hReference10Ideal) (hPre_finite_loss := hPre_finite_loss)
    ∧ preserves_Kernel11_Kernel11Ideal
    ∧ algebraic_Kernel11Ideal_Reference11Ideal_pre_finite_head (hKernel11Ideal := hKernel11Ideal) (hReference11Ideal := hReference11Ideal) (hPre_finite_head := hPre_finite_head)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S16384x1024 : Shape := ⟨2, ![16384, 1024]⟩
abbrev S1024 : Shape := ⟨1, ![1024]⟩
abbrev S2x1024x2816 : Shape := ⟨3, ![2, 1024, 2816]⟩
abbrev S2x2816x1024 : Shape := ⟨3, ![2, 2816, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S2x1024x2816 : S_.BroadcastsInDim S2x1024x2816 (![] : Fin 0 → Fin S2x1024x2816.rank)
  bcast_S_S2x2816x1024 : S_.BroadcastsInDim S2x2816x1024 (![] : Fin 0 → Fin S2x2816x1024.rank)

variable [Facts]

def fn_part1 {F : FTy → Type} [FloatOps F] (main_arg6 : FVec F S2x2816x1024 .f32) (main_arg7 : FVec F S16384x1024 .f32) (main_v2 : IVec S16384x1024 1) (main_v5 : IVec S1024 1) (main_v8 : IVec S1024 1) (main_v11 : IVec S1024 1) (main_v14 : IVec S2x1024x2816 1) (main_v17 : IVec S2x1024x2816 1) : IVec S16384x1024 1 × IVec S1024 1 × IVec S1024 1 × IVec S1024 1 × IVec S2x1024x2816 1 × IVec S2x1024x2816 1 × IVec S2x2816x1024 1 × IVec S16384x1024 1 :=
  let main_v18 : FVec F S2x2816x1024 .f32 := Host.absf main_arg6
  let main_cst_5 : FVec F S_ .f32 := constant S_ .f32 0x7F800000#32
  let main_v19 : FVec F S2x2816x1024 .f32 := broadcastInDim S2x2816x1024 ![] bcast_S_S2x2816x1024 main_cst_5
  let main_v20 : IVec S2x2816x1024 1 := cmpf .olt main_v18 main_v19
  let main_v21 : FVec F S16384x1024 .f32 := Host.absf main_arg7
  let main_cst_6 : FVec F S_ .f32 := constant S_ .f32 0x7F800000#32
  let main_v22 : FVec F S16384x1024 .f32 := broadcastInDim S16384x1024 ![] bcast_S_S16384x1024 main_cst_6
  let main_v23 : IVec S16384x1024 1 := cmpf .olt main_v21 main_v22
  (main_v2, main_v5, main_v8, main_v11, main_v14, main_v17, main_v20, main_v23)

def fn {F : FTy → Type} [FloatOps F] (main_arg0 : FVec F S16384x1024 .f32) (main_arg1 : FVec F S1024 .f32) (main_arg2 : FVec F S1024 .f32) (main_arg3 : FVec F S1024 .f32) (main_arg4 : FVec F S2x1024x2816 .f32) (main_arg5 : FVec F S2x1024x2816 .f32) (main_arg6 : FVec F S2x2816x1024 .f32) (main_arg7 : FVec F S16384x1024 .f32) : IVec S16384x1024 1 × IVec S1024 1 × IVec S1024 1 × IVec S1024 1 × IVec S2x1024x2816 1 × IVec S2x1024x2816 1 × IVec S2x2816x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S2x1024x2816 .f32 := Host.absf main_arg4
  let main_cst_3 : FVec F S_ .f32 := constant S_ .f32 0x7F800000#32
  let main_v13 : FVec F S2x1024x2816 .f32 := broadcastInDim S2x1024x2816 ![] bcast_S_S2x1024x2816 main_cst_3
  let main_v14 : IVec S2x1024x2816 1 := cmpf .olt main_v12 main_v13
  let main_v15 : FVec F S2x1024x2816 .f32 := Host.absf main_arg5
  let main_cst_4 : FVec F S_ .f32 := constant S_ .f32 0x7F800000#32
  let main_v16 : FVec F S2x1024x2816 .f32 := broadcastInDim S2x1024x2816 ![] bcast_S_S2x1024x2816 main_cst_4
  let main_v17 : IVec S2x1024x2816 1 := cmpf .olt main_v15 main_v16
  fn_part1 (F := F) main_arg6 main_arg7 main_v2 main_v5 main_v8 main_v11 main_v14 main_v17
-- ==== Pre_finite_head.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S16384x1024 .f32) (main_arg1 : FVec F S1024 .f32) (main_arg2 : FVec F S1024 .f32) (main_arg3 : FVec F S1024x1024 .f32) (main_arg4 : FVec F S16384x1024 .f32) : IVec S16384x1024 1 × IVec S1024 1 × IVec S1024 1 × IVec S1024x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_finite_loss.lean ====
abbrev S16384x1024 : Shape := ⟨2, ![16384, 1024]⟩
abbrev S2x1024x2816 : Shape := ⟨3, ![2, 1024, 2816]⟩
abbrev S2x2816x1024 : Shape := ⟨3, ![2, 2816, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S2x1024x2816 : S_.BroadcastsInDim S2x1024x2816 (![] : Fin 0 → Fin S2x1024x2816.rank)
  bcast_S_S2x2816x1024 : S_.BroadcastsInDim S2x2816x1024 (![] : Fin 0 → Fin S2x2816x1024.rank)
  bcast_S_S1024 : S_.BroadcastsInDim S1024 (![] : Fin 0 → Fin S1024.rank)

variable [Facts]

def fn_part1 {F : FTy → Type} [FloatOps F] (main_arg6 : FVec F S16384x1024 .f32) (main_v2 : IVec S16384x1024 1) (main_v5 : IVec S2x1024x2816 1) (main_v8 : IVec S2x1024x2816 1) (main_v11 : IVec S2x2816x1024 1) (main_v14 : IVec S1024 1) (main_v17 : IVec S1024 1) : IVec S16384x1024 1 × IVec S2x1024x2816 1 × IVec S2x1024x2816 1 × IVec S2x2816x1024 1 × IVec S1024 1 × IVec S1024 1 × IVec S16384x1024 1 :=
  let main_v18 : FVec F S16384x1024 .f32 := Host.absf main_arg6
  let main_cst_5 : FVec F S_ .f32 := constant S_ .f32 0x7F800000#32
  let main_v19 : FVec F S16384x1024 .f32 := broadcastInDim S16384x1024 ![] bcast_S_S16384x1024 main_cst_5
  let main_v20 : IVec S16384x1024 1 := cmpf .olt main_v18 main_v19
  (main_v2, main_v5, main_v8, main_v11, main_v14, main_v17, main_v20)

def fn {F : FTy → Type} [FloatOps F] (main_arg0 : FVec F S16384x1024 .f32) (main_arg1 : FVec F S2x1024x2816 .f32) (main_arg2 : FVec F S2x1024x2816 .f32) (main_arg3 : FVec F S2x2816x1024 .f32) (main_arg4 : FVec F S1024 .f32) (main_arg5 : FVec F S1024 .f32) (main_arg6 : FVec F S16384x1024 .f32) : IVec S16384x1024 1 × IVec S2x1024x2816 1 × IVec S2x1024x2816 1 × IVec S2x2816x1024 1 × IVec S1024 1 × IVec S1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S2x1024x2816 .f32 := Host.absf main_arg1
  let main_cst_0 : FVec F S_ .f32 := constant S_ .f32 0x7F800000#32
  let main_v4 : FVec F S2x1024x2816 .f32 := broadcastInDim S2x1024x2816 ![] bcast_S_S2x1024x2816 main_cst_0
  let main_v5 : IVec S2x1024x2816 1 := cmpf .olt main_v3 main_v4
  let main_v6 : FVec F S2x1024x2816 .f32 := Host.absf main_arg2
  let main_cst_1 : FVec F S_ .f32 := constant S_ .f32 0x7F800000#32
  let main_v7 : FVec F S2x1024x2816 .f32 := broadcastInDim S2x1024x2816 ![] bcast_S_S2x1024x2816 main_cst_1
  let main_v8 : IVec S2x1024x2816 1 := cmpf .olt main_v6 main_v7
  let main_v9 : FVec F S2x2816x1024 .f32 := Host.absf main_arg3
  let main_cst_2 : FVec F S_ .f32 := constant S_ .f32 0x7F800000#32
  let main_v10 : FVec F S2x2816x1024 .f32 := broadcastInDim S2x2816x1024 ![] bcast_S_S2x2816x1024 main_cst_2
  let main_v11 : IVec S2x2816x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Kernel.lean ====
abbrev S16384x1024 : Shape := ⟨2, ![16384, 1024]⟩
abbrev S1024 : Shape := ⟨1, ![1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S16384x4x704 : Shape := ⟨3, ![16384, 4, 704]⟩
abbrev S4x16384x704 : Shape := ⟨3, ![4, 16384, 704]⟩
abbrev S2x1024x4x704 : Shape := ⟨4, ![2, 1024, 4, 704]⟩
abbrev S4x2x1024x704 : Shape := ⟨4, ![4, 2, 1024, 704]⟩
abbrev S2x4x704x1024 : Shape := ⟨4, ![2, 4, 704, 1024]⟩
abbrev S4x2x704x1024 : Shape := ⟨4, ![4, 2, 704, 1024]⟩
abbrev S512x1024 : Shape := ⟨2, ![512, 1024]⟩
abbrev S4x512x704 : Shape := ⟨3, ![4, 512, 704]⟩
abbrev S4x1x1024x704 : Shape := ⟨4, ![4, 1, 1024, 704]⟩
abbrev S4x1x704x1024 : Shape := ⟨4, ![4, 1, 704, 1024]⟩
abbrev S8x1024 : Shape := ⟨2, ![8, 1024]⟩
abbrev S1x1x704x1024 : Shape := ⟨4, ![1, 1, 704, 1024]⟩
abbrev S704x1024 : Shape := ⟨2, ![704, 1024]⟩
abbrev S512x704 : Shape := ⟨2, ![512, 704]⟩
abbrev S1x512x704 : Shape := ⟨3, ![1, 512, 704]⟩
abbrev S1x1x1024x704 : Shape := ⟨4, ![1, 1, 1024, 704]⟩
abbrev S1024x704 : Shape := ⟨2, ![1024, 704]⟩
abbrev S512 : Shape := ⟨1, ![512]⟩
abbrev S512x1 : Shape := ⟨2, ![512, 1]⟩
abbrev S64x8x1024 : Shape := ⟨3, ![64, 8, 1024]⟩

abbrev nBuf : Space → Nat
  | .hbm => 86
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S16384x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024x2816, .f32⟩
  | .hbm, ⟨41, _⟩ => ⟨S1024x2816, .f32⟩
  | .hbm, ⟨42, _⟩ => ⟨S16384x2816, .f32⟩
  | .hbm, ⟨43, _⟩ => ⟨S1x1024x2816, .f32⟩
  | .hbm, ⟨44, _⟩ => ⟨S1024x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S_, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S_, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S_, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x4x704, .f32⟩
  | .hbm, ⟨64, _⟩ => ⟨S4x16384x704, .f32⟩
  | .hbm, ⟨65, _⟩ => ⟨S4x16384x704, .bf16⟩
  | .hbm, ⟨66, _⟩ => ⟨S16384x2816, .f32⟩
  | .hbm, ⟨67, _⟩ => ⟨S16384x4x704, .f32⟩
  | .hbm, ⟨68, _⟩ => ⟨S4x16384x704, .f32⟩
  | .hbm, ⟨69, _⟩ => ⟨S4x16384x704, .bf16⟩
  | .hbm, ⟨70, _⟩ => ⟨S2x1024x4x704, .f32⟩
  | .hbm, ⟨71, _⟩ => ⟨S4x2x1024x704, .f32⟩
  | .hbm, ⟨72, _⟩ => ⟨S4x2x1024x704, .bf16⟩
  | .hbm, ⟨73, _⟩ => ⟨S2x1024x4x704, .f32⟩
  | .hbm, ⟨74, _⟩ => ⟨S4x2x1024x704, .f32⟩
  | .hbm, ⟨75, _⟩ => ⟨S4x2x1024x704, .bf16⟩
  | .hbm, ⟨76, _⟩ => ⟨S2x4x704x1024, .f32⟩
  | .hbm, ⟨77, _⟩ => ⟨S4x2x704x1024, .f32⟩
  | .hbm, ⟨78, _⟩ => ⟨S4x2x704x1024, .bf16⟩
  | .hbm, ⟨79, _⟩ => ⟨S1x1024, .f32⟩
  | .hbm, ⟨80, _⟩ => ⟨S4x16384x704, .bf16⟩
  | .hbm, ⟨81, _⟩ => ⟨S4x16384x704, .bf16⟩
  | .hbm, ⟨82, _⟩ => ⟨S16384x1024, .f32⟩
  | .hbm, ⟨83, _⟩ => ⟨S1x1024, .f32⟩
  | .hbm, ⟨84, _⟩ => ⟨S1x1024, .f32⟩
  | .hbm, ⟨85, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x1x1024x704, .bf16⟩
  | .local _ .vmem, ⟨7, _⟩ => ⟨S4x1x1024x704, .bf16⟩
  | .local _ .vmem, ⟨8, _⟩ => ⟨S4x1x704x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S4x512x704, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63_0 : Ref sig .tc := ⟨.hbm, 80, rfl⟩
abbrev main_v63_1 : Ref sig .tc := ⟨.hbm, 81, rfl⟩
abbrev main_v63_2 : Ref sig .tc := ⟨.hbm, 82, rfl⟩
abbrev main_v63_3 : Ref sig .tc := ⟨.hbm, 83, rfl⟩
abbrev main_v63_4 : Ref sig .tc := ⟨.hbm, 84, rfl⟩
abbrev main_v63_5 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v176 : BitVec 1 := Scalar.cmpi .eq arg0 c31_i32
  let v177 : BitVec 32 := Scalar.extui v176
  let c0_i32_137 : BitVec 32 := 0#32
  let v178 : BitVec 1 := Scalar.cmpi .ne v177 c0_i32_137
  v178

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x1024x704 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S16384x1024 : Shape := ⟨2, ![16384, 1024]⟩
abbrev S1024 : Shape := ⟨1, ![1024]⟩
abbrev S2x1024x2816 : Shape := ⟨3, ![2, 1024, 2816]⟩
abbrev S2x2816x1024 : Shape := ⟨3, ![2, 2816, 1024]⟩
abbrev S_ : Shape := ⟨0, ![]⟩
abbrev S16384x2816 : Shape := ⟨2, ![16384, 2816]⟩
abbrev S1x1024 : Shape := ⟨2, ![1, 1024]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x4x704 : Shape := ⟨3, ![16384, 4, 704]⟩
abbrev S4x16384x704 : Shape := ⟨3, ![4, 16384, 704]⟩

abbrev nBuf : Space → Nat
  | .hbm => 152
  | .vmem => 0
  | .smem => 0
  | _ => 0

abbrev hbmTy0_0 (i : Nat) : BufTy := match i % 128 with
  | 0 => ⟨S16384x1024, .f32⟩
  | 1 => ⟨S1024, .f32⟩
  | 2 => ⟨S1024, .f32⟩
  | 3 => ⟨S1024, .f32⟩
  | 4 => ⟨S2x1024x2816, .f32⟩
  | 5 => ⟨S2x1024x2816, .f32⟩
  | 6 => ⟨S2x2816x1024, .f32⟩
  | 7 => ⟨S16384x1024, .f32⟩
  | 8 => ⟨S_, .f32⟩
  | 9 => ⟨S16384x2816, .f32⟩
  | 10 => ⟨S1x1024, .f32⟩
  | 11 => ⟨S16384x1024, .f32⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S16384x1024, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S_, .f32⟩
  | 26 => ⟨S16384, .f32⟩
  | 27 => ⟨S16384x1, .f32⟩
  | 28 => ⟨S_, .f32⟩
  | 29 => ⟨S16384x1, .f32⟩
  | 30 => ⟨S16384x1, .f32⟩
  | 31 => ⟨S16384x1024, .f32⟩
  | 32 => ⟨S16384x1024, .f32⟩
  | 33 => ⟨S_, .f32⟩
  | 34 => ⟨S16384x1, .f32⟩
  | 35 => ⟨S16384x1, .f32⟩
  | 36 => ⟨S16384x1, .f32⟩
  | 37 => ⟨S16384x1, .f32⟩
  | 38 => ⟨S_, .f32⟩
  | 39 => ⟨S16384x1, .f32⟩
  | 40 => ⟨S16384x1, .f32⟩
  | 41 => ⟨S16384x1024, .f32⟩
  | 42 => ⟨S16384x1024, .f32⟩
  | 43 => ⟨S1x1024, .f32⟩
  | 44 => ⟨S16384x1024, .f32⟩
  | 45 => ⟨S16384x1024, .f32⟩
  | 46 => ⟨S1x1024, .f32⟩
  | 47 => ⟨S16384x1024, .f32⟩
  | 48 => ⟨S16384x1024, .f32⟩
  | 49 => ⟨S1x1024x2816, .f32⟩
  | 50 => ⟨S1024x2816, .f32⟩
  | 51 => ⟨S16384x2816, .f32⟩
  | 52 => ⟨S16384x2816, .f32⟩
  | 53 => ⟨S1x1024x2816, .f32⟩
  | 54 => ⟨S1024x2816, .f32⟩
  | 55 => ⟨S16384x2816, .f32⟩
  | 56 => ⟨S16384x2816, .f32⟩
  | 57 => ⟨S_, .f32⟩
  | 58 => ⟨S16384x1024, .f32⟩
  | 59 => ⟨S16384x1024, .f32⟩
  | 60 => ⟨S16384x2816, .f32⟩
  | 61 => ⟨S16384x2816, .f32⟩
  | 62 => ⟨S_, .f32⟩
  | 63 => ⟨S16384x2816, .f32⟩
  | 64 => ⟨S16384x2816, .f32⟩
  | 65 => ⟨S_, .f32⟩
  | 66 => ⟨S16384x2816, .f32⟩
  | 67 => ⟨S16384x2816, .f32⟩
  | 68 => ⟨S_, .f32⟩
  | 69 => ⟨S16384x2816, .f32⟩
  | 70 => ⟨S16384x2816, .f32⟩
  | 71 => ⟨S16384x2816, .f32⟩
  | 72 => ⟨S16384x2816, .f32⟩
  | 73 => ⟨S16384x2816, .f32⟩
  | 74 => ⟨S1x2816x1024, .f32⟩
  | 75 => ⟨S2816x1024, .f32⟩
  | 76 => ⟨S16384x1024, .f32⟩
  | 77 => ⟨S16384x1024, .f32⟩
  | 78 => ⟨S16384x1024, .f32⟩
  | 79 => ⟨S16384x1024, .f32⟩
  | 80 => ⟨S16384x2816, .f32⟩
  | 81 => ⟨S16384x2816, .f32⟩
  | 82 => ⟨S16384x2816, .f32⟩
  | 83 => ⟨S16384x2816, .f32⟩
  | 84 => ⟨S16384x2816, .f32⟩
  | 85 => ⟨S16384x2816, .f32⟩
  | 86 => ⟨S16384x2816, .f32⟩
  | 87 => ⟨S_, .f32⟩
  | 88 => ⟨S16384x1024, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S_, .f32⟩
  | 95 => ⟨S1024, .f32⟩
  | 96 => ⟨S1x1024, .f32⟩
  | 97 => ⟨S_, .f32⟩
  | 98 => ⟨S1024, .f32⟩
  | 99 => ⟨S16384x1024, .f32⟩
  | 100 => ⟨S_, .f32⟩
  | 101 => ⟨S1024, .f32⟩
  | 102 => ⟨S1x1024, .f32⟩
  | 103 => ⟨S16384x1024, .f32⟩
  | 104 => ⟨S16384x1024, .f32⟩
  | 105 => ⟨S_, .f32⟩
  | 106 => ⟨S1024, .f32⟩
  | 107 => ⟨S16384x1024, .f32⟩
  | 108 => ⟨S_, .f32⟩
  | 109 => ⟨S16384, .f32⟩
  | 110 => ⟨S16384x1, .f32⟩
  | 111 => ⟨S16384x1024, .f32⟩
  | 112 => ⟨S16384x1024, .f32⟩
  | 113 => ⟨S16384x1, .f32⟩
  | 114 => ⟨S16384x1024, .f32⟩
  | 115 => ⟨S_, .f32⟩
  | 116 => ⟨S16384, .f32⟩
  | 117 => ⟨S16384x1, .f32⟩
  | 118 => ⟨S_, .f32⟩
  | 119 => ⟨S16384x1, .f32⟩
  | 120 => ⟨S16384x1, .f32⟩
  | 121 => ⟨S_, .f32⟩
  | 122 => ⟨S16384, .f32⟩
  | 123 => ⟨S16384x1024, .f32⟩
  | 124 => ⟨S16384x1024, .f32⟩
  | 125 => ⟨S16384x1024, .f32⟩
  | 126 => ⟨S_, .f32⟩
  | 127 => ⟨S16384, .f32⟩
  | _ => ⟨S16384x1024, .f32⟩

abbrev hbmTy0_1 (i : Nat) : BufTy := match i % 128 with
  | 0 => ⟨S16384x1, .f32⟩
  | 1 => ⟨S16384x1024, .f32⟩
  | 2 => ⟨S16384x1, .f32⟩
  | 3 => ⟨S_, .f32⟩
  | 4 => ⟨S16384x1, .f32⟩
  | 5 => ⟨S16384x1, .f32⟩
  | 6 => ⟨S_, .f32⟩
  | 7 => ⟨S16384, .f32⟩
  | 8 => ⟨S16384x1024, .f32⟩
  | 9 => ⟨S16384x1024, .f32⟩
  | 10 => ⟨S_, .f32⟩
  | 11 => ⟨S1024, .f32⟩
  | 12 => ⟨S1x1024, .f32⟩
  | 13 => ⟨S_, .f32⟩
  | 14 => ⟨S1024, .f32⟩
  | 15 => ⟨S16384x4x704, .f32⟩
  | 16 => ⟨S4x16384x704, .f32⟩
  | 17 => ⟨S4x16384x704, .bf16⟩
  | 18 => ⟨S16384x4x704, .f32⟩
  | 19 => ⟨S4x16384x704, .f32⟩
  | 20 => ⟨S4x16384x704, .bf16⟩
  | 21 => ⟨S1x1024, .f32⟩
  | 22 => ⟨S1x1024, .f32⟩
  | 23 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_v43_2 : Ref sig .tc := ⟨.hbm, 67, rfl⟩
abbrev main_call0_cst_1 : Ref sig .tc := ⟨.hbm, 68, rfl⟩
abbrev main_call0_v6 : Ref sig .tc := ⟨.hbm, 69, rfl⟩
abbrev main_call0_v7 : Ref sig .tc := ⟨.hbm, 70, rfl⟩
abbrev main_v43_1 : Ref sig .tc := ⟨.hbm, 71, rfl⟩
abbrev main_v43_0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v54 : Ref sig .tc := ⟨.hbm, 86, rfl⟩
abbrev main_cst_8 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_9 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_v64 : Ref sig .tc := ⟨.hbm, 99, rfl⟩
abbrev main_cst_11 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_12 : Ref sig .tc := ⟨.hbm, 105, rfl⟩
abbrev main_v69 : Ref sig .tc := ⟨.hbm, 106, rfl⟩
abbrev main_v70 : Ref sig .tc := ⟨.hbm, 107, rfl⟩
abbrev main_cst_13 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_14 : Ref sig .tc := ⟨.hbm, 115, rfl⟩
abbrev main_v77 : Ref sig .tc := ⟨.hbm, 116, rfl⟩
abbrev main_v78 : Ref sig .tc := ⟨.hbm, 117, rfl⟩
abbrev main_cst_15 : Ref sig .tc := ⟨.hbm, 118, rfl⟩
abbrev main_v79 : Ref sig .tc := ⟨.hbm, 119, rfl⟩
abbrev main_v80 : Ref sig .tc := ⟨.hbm, 120, rfl⟩
abbrev main_cst_16 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_17 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_18 : Ref sig .tc := ⟨.hbm, 131, rfl⟩
abbrev main_v89 : Ref sig .tc := ⟨.hbm, 132, rfl⟩
abbrev main_v90 : Ref sig .tc := ⟨.hbm, 133, rfl⟩
abbrev main_cst_19 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_20 : Ref sig .tc := ⟨.hbm, 138, rfl⟩
abbrev main_v94 : Ref sig .tc := ⟨.hbm, 139, rfl⟩
abbrev main_v95 : Ref sig .tc := ⟨.hbm, 140, rfl⟩
abbrev main_cst_21 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩

abbrev nD : Nat := 1
abbrev τ : Topo := Topo.v7x

variable {F : FTy → Type} [FloatOps F]
-- ==== Kernel2.lean ====
abbrev S16384x1024 : Shape := ⟨2, ![16384, 1024]⟩
abbrev S16384x2816 : Shape := ⟨2, ![16384, 2816]⟩
abbrev S1x16384x1024 : Shape := ⟨3, ![1, 16384, 1024]⟩
abbrev S16384x4x704 : Shape := ⟨3, ![16384, 4, 704]⟩
abbrev S4x16384x704 : Shape := ⟨3, ![4, 16384, 704]⟩
abbrev S4x1024x704 : Shape := ⟨3, ![4, 1024, 704]⟩
abbrev S1x1024x1024 : Shape := ⟨3, ![1, 1024, 1024]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 7
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S1x16384x1024, .f32⟩
  | .hbm, ⟨3, _⟩ => ⟨S16384x4x704, .f32⟩
  | .hbm, ⟨4, _⟩ => ⟨S4x16384x704, .f32⟩
  | .hbm, ⟨5, _⟩ => ⟨S4x16384x704, .bf16⟩
  | .hbm, ⟨6, _⟩ => ⟨S4x1024x704, .f32⟩
  | .local _ .vmem, ⟨0, _⟩ => ⟨S1x1024x1024, .f32⟩
  | .local _ .vmem, ⟨1, _⟩ => ⟨S1x1024x1024, .f32⟩
  | .local _ .vmem, ⟨2, _⟩ => ⟨S4x1024x704, .bf16⟩
  | .local _ .vmem, ⟨3, _⟩ => ⟨S4x1024x704, .bf16⟩
  | .local _ .vmem, ⟨4, _⟩ => ⟨S4x1024x704, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S_, .f32⟩
  | .hbm, ⟨3, _⟩ => ⟨S1024x2816, .f32⟩
  | .hbm, ⟨4, _⟩ => ⟨S16384x2816, .f32⟩
  | .hbm, ⟨5, _⟩ => ⟨S2816x1024, .f32⟩
  | .hbm, ⟨6, _⟩ => ⟨S1024x2816, .f32⟩
  | .hbm, ⟨7, _⟩ => ⟨S1024x4x704, .f32⟩
  | .hbm, ⟨8, _⟩ => ⟨S4x1024x704, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S16384x2816 : Shape := ⟨2, ![16384, 2816]⟩
abbrev S16384x1024 : Shape := ⟨2, ![16384, 1024]⟩
abbrev S16384x4x704 : Shape := ⟨3, ![16384, 4, 704]⟩
abbrev S4x16384x704 : Shape := ⟨3, ![4, 16384, 704]⟩
abbrev S1x16384x1024 : Shape := ⟨3, ![1, 16384, 1024]⟩
abbrev S4x704x1024 : Shape := ⟨3, ![4, 704, 1024]⟩
abbrev S4x1024x704 : Shape := ⟨3, ![4, 1024, 704]⟩
abbrev S1x1024x1024 : Shape := ⟨3, ![1, 1024, 1024]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩

abbrev nBuf : Space → Nat
  | .hbm => 7
  | .vmem => 5
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x4x704, .f32⟩
  | .hbm, ⟨3, _⟩ => ⟨S4x16384x704, .f32⟩
  | .hbm, ⟨4, _⟩ => ⟨S4x16384x704, .bf16⟩
  | .hbm, ⟨5, _⟩ => ⟨S1x16384x1024, .f32⟩
  | .hbm, ⟨6, _⟩ => ⟨S4x704x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S1x1024x1024, .f32⟩
  | .local _ .vmem, ⟨3, _⟩ => ⟨S1x1024x1024, .f32⟩
  | .local _ .vmem, ⟨4, _⟩ => ⟨S4x704x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference3Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S16384x1024 : Shape := ⟨2, ![16384, 1024]⟩
abbrev S1024x16384 : Shape := ⟨2, ![1024, 16384]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x16384, .f32⟩
  | .hbm, ⟨3, _⟩ => ⟨S1024x16384, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S16384x1024 : Shape := ⟨2, ![16384, 1024]⟩
abbrev S16384x256 : Shape := ⟨2, ![16384, 256]⟩
abbrev S1x16384x1024 : Shape := ⟨3, ![1, 16384, 1024]⟩
abbrev S1x16384x256 : Shape := ⟨3, ![1, 16384, 256]⟩
abbrev S1x1024x256 : Shape := ⟨3, ![1, 1024, 256]⟩
abbrev S1x1024x1024 : Shape := ⟨3, ![1, 1024, 1024]⟩
abbrev S1024x1024 : Shape := ⟨2, ![1024, 1024]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1x16384x1024, .f32⟩
  | .hbm, ⟨3, _⟩ => ⟨S16384x256, .bf16⟩
  | .hbm, ⟨4, _⟩ => ⟨S1x16384x256, .bf16⟩
  | .hbm, ⟨5, _⟩ => ⟨S1x1024x256, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S16384x1024 : Shape := ⟨2, ![16384, 1024]⟩
abbrev S16384x256 : Shape := ⟨2, ![16384, 256]⟩
abbrev S_ : Shape := ⟨0, ![]⟩
abbrev S1024x256 : Shape := ⟨2, ![1024, 256]⟩
abbrev S256x1024 : Shape := ⟨2, ![256, 1024]⟩
abbrev S1x1024x256 : Shape := ⟨3, ![1, 1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S_, .f32⟩
  | .hbm, ⟨3, _⟩ => ⟨S1024x256, .f32⟩
  | .hbm, ⟨4, _⟩ => ⟨S16384x256, .f32⟩
  | .hbm, ⟨5, _⟩ => ⟨S256x1024, .f32⟩
  | .hbm, ⟨6, _⟩ => ⟨S1024x256, .f32⟩
  | .hbm, ⟨7, _⟩ => ⟨S1x1024x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S16384x1024 : Shape := ⟨2, ![16384, 1024]⟩
abbrev S1x16384x1024 : Shape := ⟨3, ![1, 16384, 1024]⟩
abbrev S1x1024x1024 : Shape := ⟨3, ![1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S1x16384x1024, .bf16⟩
  | .hbm, ⟨4, _⟩ => ⟨S1x16384x1024, .f32⟩
  | .hbm, ⟨5, _⟩ => ⟨S1x1024x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S16384x1024 : Shape := ⟨2, ![16384, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S16384x1024 : Shape := ⟨2, ![16384, 1024]⟩
abbrev S16384x2048 : Shape := ⟨2, ![16384, 2048]⟩
abbrev S16384x4x512 : Shape := ⟨3, ![16384, 4, 512]⟩
abbrev S4x16384x512 : Shape := ⟨3, ![4, 16384, 512]⟩
abbrev S1x16384x1024 : Shape := ⟨3, ![1, 16384, 1024]⟩
abbrev S4x1024x512 : Shape := ⟨3, ![4, 1024, 512]⟩
abbrev S1x1024x1024 : Shape := ⟨3, ![1, 1024, 1024]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .f32⟩
  | .hbm, ⟨3, _⟩ => ⟨S16384x4x512, .f32⟩
  | .hbm, ⟨4, _⟩ => ⟨S4x16384x512, .f32⟩
  | .hbm, ⟨5, _⟩ => ⟨S4x16384x512, .bf16⟩
  | .hbm, ⟨6, _⟩ => ⟨S1x16384x1024, .f32⟩
  | .hbm, ⟨7, _⟩ => ⟨S4x1024x512, .f32⟩
  | .hbm, ⟨8, _⟩ => ⟨S16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S4x1024x512, .bf16⟩
  | .local _ .vmem, ⟨3, _⟩ => ⟨S4x1024x512, .bf16⟩
  | .local _ .vmem, ⟨4, _⟩ => ⟨S1024x1024, .f32⟩
  | .local _ .vmem, ⟨5, _⟩ => ⟨S1024x1024, .f32⟩
  | .local _ .vmem, ⟨6, _⟩ => ⟨S4x1024x512, .f32⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S16384x1024 : Shape := ⟨2, ![16384, 1024]⟩
abbrev S16384x2048 : Shape := ⟨2, ![16384, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .f32⟩
  | .hbm, ⟨3, _⟩ => ⟨S_, .f32⟩
  | .hbm, ⟨4, _⟩ => ⟨S1024x2048, .f32⟩
  | .hbm, ⟨5, _⟩ => ⟨S16384x2048, .f32⟩
  | .hbm, ⟨6, _⟩ => ⟨S2048x1024, .f32⟩
  | .hbm, ⟨7, _⟩ => ⟨S1024x2048, .f32⟩
  | .hbm, ⟨8, _⟩ => ⟨S1024x4x512, .f32⟩
  | .hbm, ⟨9, _⟩ => ⟨S4x1024x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S16384x1024 : Shape := ⟨2, ![16384, 1024]⟩
abbrev S1024 : Shape := ⟨1, ![1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S16384x4x704 : Shape := ⟨3, ![16384, 4, 704]⟩
abbrev S4x16384x704 : Shape := ⟨3, ![4, 16384, 704]⟩
abbrev S2x1024x4x704 : Shape := ⟨4, ![2, 1024, 4, 704]⟩
abbrev S4x2x1024x704 : Shape := ⟨4, ![4, 2, 1024, 704]⟩
abbrev S2x4x704x1024 : Shape := ⟨4, ![2, 4, 704, 1024]⟩
abbrev S4x2x704x1024 : Shape := ⟨4, ![4, 2, 704, 1024]⟩
abbrev S512x1024 : Shape := ⟨2, ![512, 1024]⟩
abbrev S4x512x704 : Shape := ⟨3, ![4, 512, 704]⟩
abbrev S4x1x1024x704 : Shape := ⟨4, ![4, 1, 1024, 704]⟩
abbrev S4x1x704x1024 : Shape := ⟨4, ![4, 1, 704, 1024]⟩
abbrev S8x1024 : Shape := ⟨2, ![8, 1024]⟩
abbrev S1x1x704x1024 : Shape := ⟨4, ![1, 1, 704, 1024]⟩
abbrev S704x1024 : Shape := ⟨2, ![704, 1024]⟩
abbrev S512x704 : Shape := ⟨2, ![512, 704]⟩
abbrev S1x512x704 : Shape := ⟨3, ![1, 512, 704]⟩
abbrev S1x1x1024x704 : Shape := ⟨4, ![1, 1, 1024, 704]⟩
abbrev S1024x704 : Shape := ⟨2, ![1024, 704]⟩
abbrev S512 : Shape := ⟨1, ![512]⟩
abbrev S512x1 : Shape := ⟨2, ![512, 1]⟩
abbrev S64x8x1024 : Shape := ⟨3, ![64, 8, 1024]⟩

abbrev nBuf : Space → Nat
  | .hbm => 86
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S16384x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024x2816, .f32⟩
  | .hbm, ⟨41, _⟩ => ⟨S1024x2816, .f32⟩
  | .hbm, ⟨42, _⟩ => ⟨S16384x2816, .f32⟩
  | .hbm, ⟨43, _⟩ => ⟨S1x1024x2816, .f32⟩
  | .hbm, ⟨44, _⟩ => ⟨S1024x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S_, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S_, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S_, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x4x704, .f32⟩
  | .hbm, ⟨64, _⟩ => ⟨S4x16384x704, .f32⟩
  | .hbm, ⟨65, _⟩ => ⟨S4x16384x704, .bf16⟩
  | .hbm, ⟨66, _⟩ => ⟨S16384x2816, .f32⟩
  | .hbm, ⟨67, _⟩ => ⟨S16384x4x704, .f32⟩
  | .hbm, ⟨68, _⟩ => ⟨S4x16384x704, .f32⟩
  | .hbm, ⟨69, _⟩ => ⟨S4x16384x704, .bf16⟩
  | .hbm, ⟨70, _⟩ => ⟨S2x1024x4x704, .f32⟩
  | .hbm, ⟨71, _⟩ => ⟨S4x2x1024x704, .f32⟩
  | .hbm, ⟨72, _⟩ => ⟨S4x2x1024x704, .bf16⟩
  | .hbm, ⟨73, _⟩ => ⟨S2x1024x4x704, .f32⟩
  | .hbm, ⟨74, _⟩ => ⟨S4x2x1024x704, .f32⟩
  | .hbm, ⟨75, _⟩ => ⟨S4x2x1024x704, .bf16⟩
  | .hbm, ⟨76, _⟩ => ⟨S2x4x704x1024, .f32⟩
  | .hbm, ⟨77, _⟩ => ⟨S4x2x704x1024, .f32⟩
  | .hbm, ⟨78, _⟩ => ⟨S4x2x704x1024, .bf16⟩
  | .hbm, ⟨79, _⟩ => ⟨S1x1024, .f32⟩
  | .hbm, ⟨80, _⟩ => ⟨S4x16384x704, .bf16⟩
  | .hbm, ⟨81, _⟩ => ⟨S4x16384x704, .bf16⟩
  | .hbm, ⟨82, _⟩ => ⟨S16384x1024, .f32⟩
  | .hbm, ⟨83, _⟩ => ⟨S1x1024, .f32⟩
  | .hbm, ⟨84, _⟩ => ⟨S1x1024, .f32⟩
  | .hbm, ⟨85, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x1x1024x704, .bf16⟩
  | .local _ .vmem, ⟨7, _⟩ => ⟨S4x1x1024x704, .bf16⟩
  | .local _ .vmem, ⟨8, _⟩ => ⟨S4x1x704x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S4x512x704, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63_0 : Ref sig .tc := ⟨.hbm, 80, rfl⟩
abbrev main_v63_1 : Ref sig .tc := ⟨.hbm, 81, rfl⟩
abbrev main_v63_2 : Ref sig .tc := ⟨.hbm, 82, rfl⟩
abbrev main_v63_3 : Ref sig .tc := ⟨.hbm, 83, rfl⟩
abbrev main_v63_4 : Ref sig .tc := ⟨.hbm, 84, rfl⟩
abbrev main_v63_5 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v176 : BitVec 1 := Scalar.cmpi .eq arg0 c31_i32
  let v177 : BitVec 32 := Scalar.extui v176
  let c0_i32_137 : BitVec 32 := 0#32
  let v178 : BitVec 1 := Scalar.cmpi .ne v177 c0_i32_137
  v178

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x1024x704 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference8Ideal.lean ====
abbrev S16384x1024 : Shape := ⟨2, ![16384, 1024]⟩
abbrev S1024 : Shape := ⟨1, ![1024]⟩
abbrev S2x1024x2816 : Shape := ⟨3, ![2, 1024, 2816]⟩
abbrev S2x2816x1024 : Shape := ⟨3, ![2, 2816, 1024]⟩
abbrev S_ : Shape := ⟨0, ![]⟩
abbrev S16384x2816 : Shape := ⟨2, ![16384, 2816]⟩
abbrev S1x1024 : Shape := ⟨2, ![1, 1024]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x4x704 : Shape := ⟨3, ![16384, 4, 704]⟩
abbrev S4x16384x704 : Shape := ⟨3, ![4, 16384, 704]⟩

abbrev nBuf : Space → Nat
  | .hbm => 152
  | .vmem => 0
  | .smem => 0
  | _ => 0

abbrev hbmTy0_0 (i : Nat) : BufTy := match i % 128 with
  | 0 => ⟨S16384x1024, .f32⟩
  | 1 => ⟨S1024, .f32⟩
  | 2 => ⟨S1024, .f32⟩
  | 3 => ⟨S1024, .f32⟩
  | 4 => ⟨S2x1024x2816, .f32⟩
  | 5 => ⟨S2x1024x2816, .f32⟩
  | 6 => ⟨S2x2816x1024, .f32⟩
  | 7 => ⟨S16384x1024, .f32⟩
  | 8 => ⟨S_, .f32⟩
  | 9 => ⟨S16384x2816, .f32⟩
  | 10 => ⟨S1x1024, .f32⟩
  | 11 => ⟨S16384x1024, .f32⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S16384x1024, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S_, .f32⟩
  | 26 => ⟨S16384, .f32⟩
  | 27 => ⟨S16384x1, .f32⟩
  | 28 => ⟨S_, .f32⟩
  | 29 => ⟨S16384x1, .f32⟩
  | 30 => ⟨S16384x1, .f32⟩
  | 31 => ⟨S16384x1024, .f32⟩
  | 32 => ⟨S16384x1024, .f32⟩
  | 33 => ⟨S_, .f32⟩
  | 34 => ⟨S16384x1, .f32⟩
  | 35 => ⟨S16384x1, .f32⟩
  | 36 => ⟨S16384x1, .f32⟩
  | 37 => ⟨S16384x1, .f32⟩
  | 38 => ⟨S_, .f32⟩
  | 39 => ⟨S16384x1, .f32⟩
  | 40 => ⟨S16384x1, .f32⟩
  | 41 => ⟨S16384x1024, .f32⟩
  | 42 => ⟨S16384x1024, .f32⟩
  | 43 => ⟨S1x1024, .f32⟩
  | 44 => ⟨S16384x1024, .f32⟩
  | 45 => ⟨S16384x1024, .f32⟩
  | 46 => ⟨S1x1024, .f32⟩
  | 47 => ⟨S16384x1024, .f32⟩
  | 48 => ⟨S16384x1024, .f32⟩
  | 49 => ⟨S1x1024x2816, .f32⟩
  | 50 => ⟨S1024x2816, .f32⟩
  | 51 => ⟨S16384x2816, .f32⟩
  | 52 => ⟨S16384x2816, .f32⟩
  | 53 => ⟨S1x1024x2816, .f32⟩
  | 54 => ⟨S1024x2816, .f32⟩
  | 55 => ⟨S16384x2816, .f32⟩
  | 56 => ⟨S16384x2816, .f32⟩
  | 57 => ⟨S_, .f32⟩
  | 58 => ⟨S16384x1024, .f32⟩
  | 59 => ⟨S16384x1024, .f32⟩
  | 60 => ⟨S16384x2816, .f32⟩
  | 61 => ⟨S16384x2816, .f32⟩
  | 62 => ⟨S_, .f32⟩
  | 63 => ⟨S16384x2816, .f32⟩
  | 64 => ⟨S16384x2816, .f32⟩
  | 65 => ⟨S_, .f32⟩
  | 66 => ⟨S16384x2816, .f32⟩
  | 67 => ⟨S16384x2816, .f32⟩
  | 68 => ⟨S_, .f32⟩
  | 69 => ⟨S16384x2816, .f32⟩
  | 70 => ⟨S16384x2816, .f32⟩
  | 71 => ⟨S16384x2816, .f32⟩
  | 72 => ⟨S16384x2816, .f32⟩
  | 73 => ⟨S16384x2816, .f32⟩
  | 74 => ⟨S1x2816x1024, .f32⟩
  | 75 => ⟨S2816x1024, .f32⟩
  | 76 => ⟨S16384x1024, .f32⟩
  | 77 => ⟨S16384x1024, .f32⟩
  | 78 => ⟨S16384x1024, .f32⟩
  | 79 => ⟨S16384x1024, .f32⟩
  | 80 => ⟨S16384x2816, .f32⟩
  | 81 => ⟨S16384x2816, .f32⟩
  | 82 => ⟨S16384x2816, .f32⟩
  | 83 => ⟨S16384x2816, .f32⟩
  | 84 => ⟨S16384x2816, .f32⟩
  | 85 => ⟨S16384x2816, .f32⟩
  | 86 => ⟨S16384x2816, .f32⟩
  | 87 => ⟨S_, .f32⟩
  | 88 => ⟨S16384x1024, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S_, .f32⟩
  | 95 => ⟨S1024, .f32⟩
  | 96 => ⟨S1x1024, .f32⟩
  | 97 => ⟨S_, .f32⟩
  | 98 => ⟨S1024, .f32⟩
  | 99 => ⟨S16384x1024, .f32⟩
  | 100 => ⟨S_, .f32⟩
  | 101 => ⟨S1024, .f32⟩
  | 102 => ⟨S1x1024, .f32⟩
  | 103 => ⟨S16384x1024, .f32⟩
  | 104 => ⟨S16384x1024, .f32⟩
  | 105 => ⟨S_, .f32⟩
  | 106 => ⟨S1024, .f32⟩
  | 107 => ⟨S16384x1024, .f32⟩
  | 108 => ⟨S_, .f32⟩
  | 109 => ⟨S16384, .f32⟩
  | 110 => ⟨S16384x1, .f32⟩
  | 111 => ⟨S16384x1024, .f32⟩
  | 112 => ⟨S16384x1024, .f32⟩
  | 113 => ⟨S16384x1, .f32⟩
  | 114 => ⟨S16384x1024, .f32⟩
  | 115 => ⟨S_, .f32⟩
  | 116 => ⟨S16384, .f32⟩
  | 117 => ⟨S16384x1, .f32⟩
  | 118 => ⟨S_, .f32⟩
  | 119 => ⟨S16384x1, .f32⟩
  | 120 => ⟨S16384x1, .f32⟩
  | 121 => ⟨S_, .f32⟩
  | 122 => ⟨S16384, .f32⟩
  | 123 => ⟨S16384x1024, .f32⟩
  | 124 => ⟨S16384x1024, .f32⟩
  | 125 => ⟨S16384x1024, .f32⟩
  | 126 => ⟨S_, .f32⟩
  | 127 => ⟨S16384, .f32⟩
  | _ => ⟨S16384x1024, .f32⟩

abbrev hbmTy0_1 (i : Nat) : BufTy := match i % 128 with
  | 0 => ⟨S16384x1, .f32⟩
  | 1 => ⟨S16384x1024, .f32⟩
  | 2 => ⟨S16384x1, .f32⟩
  | 3 => ⟨S_, .f32⟩
  | 4 => ⟨S16384x1, .f32⟩
  | 5 => ⟨S16384x1, .f32⟩
  | 6 => ⟨S_, .f32⟩
  | 7 => ⟨S16384, .f32⟩
  | 8 => ⟨S16384x1024, .f32⟩
  | 9 => ⟨S16384x1024, .f32⟩
  | 10 => ⟨S_, .f32⟩
  | 11 => ⟨S1024, .f32⟩
  | 12 => ⟨S1x1024, .f32⟩
  | 13 => ⟨S_, .f32⟩
  | 14 => ⟨S1024, .f32⟩
  | 15 => ⟨S16384x4x704, .f32⟩
  | 16 => ⟨S4x16384x704, .f32⟩
  | 17 => ⟨S4x16384x704, .bf16⟩
  | 18 => ⟨S16384x4x704, .f32⟩
  | 19 => ⟨S4x16384x704, .f32⟩
  | 20 => ⟨S4x16384x704, .bf16⟩
  | 21 => ⟨S1x1024, .f32⟩
  | 22 => ⟨S1x1024, .f32⟩
  | 23 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_v43_2 : Ref sig .tc := ⟨.hbm, 67, rfl⟩
abbrev main_call0_cst_1 : Ref sig .tc := ⟨.hbm, 68, rfl⟩
abbrev main_call0_v6 : Ref sig .tc := ⟨.hbm, 69, rfl⟩
abbrev main_call0_v7 : Ref sig .tc := ⟨.hbm, 70, rfl⟩
abbrev main_v43_1 : Ref sig .tc := ⟨.hbm, 71, rfl⟩
abbrev main_v43_0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v54 : Ref sig .tc := ⟨.hbm, 86, rfl⟩
abbrev main_cst_8 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_9 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_v64 : Ref sig .tc := ⟨.hbm, 99, rfl⟩
abbrev main_cst_11 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_12 : Ref sig .tc := ⟨.hbm, 105, rfl⟩
abbrev main_v69 : Ref sig .tc := ⟨.hbm, 106, rfl⟩
abbrev main_v70 : Ref sig .tc := ⟨.hbm, 107, rfl⟩
abbrev main_cst_13 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_14 : Ref sig .tc := ⟨.hbm, 115, rfl⟩
abbrev main_v77 : Ref sig .tc := ⟨.hbm, 116, rfl⟩
abbrev main_v78 : Ref sig .tc := ⟨.hbm, 117, rfl⟩
abbrev main_cst_15 : Ref sig .tc := ⟨.hbm, 118, rfl⟩
abbrev main_v79 : Ref sig .tc := ⟨.hbm, 119, rfl⟩
abbrev main_v80 : Ref sig .tc := ⟨.hbm, 120, rfl⟩
abbrev main_cst_16 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_17 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_18 : Ref sig .tc := ⟨.hbm, 131, rfl⟩
abbrev main_v89 : Ref sig .tc := ⟨.hbm, 132, rfl⟩
abbrev main_v90 : Ref sig .tc := ⟨.hbm, 133, rfl⟩
abbrev main_cst_19 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_20 : Ref sig .tc := ⟨.hbm, 138, rfl⟩
abbrev main_v94 : Ref sig .tc := ⟨.hbm, 139, rfl⟩
abbrev main_v95 : Ref sig .tc := ⟨.hbm, 140, rfl⟩
abbrev main_cst_21 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩

abbrev nD : Nat := 1
abbrev τ : Topo := Topo.v7x

variable {F : FTy → Type} [FloatOps F]
-- ==== Kernel9.lean ====
abbrev S16384x1024 : Shape := ⟨2, ![16384, 1024]⟩
abbrev S2x1024x2816 : Shape := ⟨3, ![2, 1024, 2816]⟩
abbrev S2x2816x1024 : Shape := ⟨3, ![2, 2816, 1024]⟩
abbrev S1024 : Shape := ⟨1, ![1024]⟩
abbrev S2x1024x4x704 : Shape := ⟨4, ![2, 1024, 4, 704]⟩
abbrev S4x2x1024x704 : Shape := ⟨4, ![4, 2, 1024, 704]⟩
abbrev S2x4x704x1024 : Shape := ⟨4, ![2, 4, 704, 1024]⟩
abbrev S4x2x704x1024 : Shape := ⟨4, ![4, 2, 704, 1024]⟩
abbrev S1x1024 : Shape := ⟨2, ![1, 1024]⟩
abbrev S4x16384x704 : Shape := ⟨3, ![4, 16384, 704]⟩
abbrev S512x1024 : Shape := ⟨2, ![512, 1024]⟩
abbrev S4x1x1024x704 : Shape := ⟨4, ![4, 1, 1024, 704]⟩
abbrev S4x1x704x1024 : Shape := ⟨4, ![4, 1, 704, 1024]⟩
abbrev S4x512x704 : Shape := ⟨3, ![4, 512, 704]⟩
abbrev S1x1x1024x704 : Shape := ⟨4, ![1, 1, 1024, 704]⟩
abbrev S1024x704 : Shape := ⟨2, ![1024, 704]⟩
abbrev S512x704 : Shape := ⟨2, ![512, 704]⟩
abbrev S1x512x704 : Shape := ⟨3, ![1, 512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 22
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S1024, .f32⟩
  | .hbm, ⟨5, _⟩ => ⟨S1024, .f32⟩
  | .hbm, ⟨6, _⟩ => ⟨S2x1024x4x704, .f32⟩
  | .hbm, ⟨7, _⟩ => ⟨S4x2x1024x704, .f32⟩
  | .hbm, ⟨8, _⟩ => ⟨S4x2x1024x704, .bf16⟩
  | .hbm, ⟨9, _⟩ => ⟨S2x1024x4x704, .f32⟩
  | .hbm, ⟨10, _⟩ => ⟨S4x2x1024x704, .f32⟩
  | .hbm, ⟨11, _⟩ => ⟨S4x2x1024x704, .bf16⟩
  | .hbm, ⟨12, _⟩ => ⟨S2x4x704x1024, .f32⟩
  | .hbm, ⟨13, _⟩ => ⟨S4x2x704x1024, .f32⟩
  | .hbm, ⟨14, _⟩ => ⟨S4x2x704x1024, .bf16⟩
  | .hbm, ⟨15, _⟩ => ⟨S1x1024, .f32⟩
  | .hbm, ⟨16, _⟩ => ⟨S1x1024, .f32⟩
  | .hbm, ⟨17, _⟩ => ⟨S4x16384x704, .bf16⟩
  | .hbm, ⟨18, _⟩ => ⟨S4x16384x704, .bf16⟩
  | .hbm, ⟨19, _⟩ => ⟨S4x16384x704, .bf16⟩
  | .hbm, ⟨20, _⟩ => ⟨S16384x1024, .f32⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S4x1x1024x704, .bf16⟩
  | .local _ .vmem, ⟨3, _⟩ => ⟨S4x1x1024x704, .bf16⟩
  | .local _ .vmem, ⟨4, _⟩ => ⟨S4x1x704x1024, .bf16⟩
  | .local _ .vmem, ⟨5, _⟩ => ⟨S1x1024, .f32⟩
  | .local _ .vmem, ⟨6, _⟩ => ⟨S1x1024, .f32⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference9Ideal.lean ====
abbrev S16384x1024 : Shape := ⟨2, ![16384, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024x2816 : Shape := ⟨3, ![1, 1024, 2816]⟩
abbrev S1024x2816 : Shape := ⟨2, ![1024, 2816]⟩
abbrev S16384x2816 : Shape := ⟨2, ![16384, 2816]⟩
abbrev S_ : Shape := ⟨0, ![]⟩
abbrev S1x2816x1024 : Shape := ⟨3, ![1, 2816, 1024]⟩
abbrev S2816x1024 : Shape := ⟨2, ![2816, 1024]⟩
abbrev S16384x4x704 : Shape := ⟨3, ![16384, 4, 704]⟩
abbrev S4x16384x704 : Shape := ⟨3, ![4, 16384, 704]⟩
abbrev S16384 : Shape := ⟨1, ![16384]⟩
abbrev S16384x1 : Shape := ⟨2, ![16384, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S1024, .f32⟩
  | .hbm, ⟨5, _⟩ => ⟨S1024, .f32⟩
  | .hbm, ⟨6, _⟩ => ⟨S1x1024x2816, .f32⟩
  | .hbm, ⟨7, _⟩ => ⟨S1024x2816, .f32⟩
  | .hbm, ⟨8, _⟩ => ⟨S16384x2816, .f32⟩
  | .hbm, ⟨9, _⟩ => ⟨S1x1024x2816, .f32⟩
  | .hbm, ⟨10, _⟩ => ⟨S1024x2816, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S_, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x2816, .f32⟩
  | .hbm, ⟨44, _⟩ => ⟨S1x2816x1024, .f32⟩
  | .hbm, ⟨45, _⟩ => ⟨S2816x1024, .f32⟩
  | .hbm, ⟨46, _⟩ => ⟨S16384x1024, .f32⟩
  | .hbm, ⟨47, _⟩ => ⟨S16384x1024, .f32⟩
  | .hbm, ⟨48, _⟩ => ⟨S16384x4x704, .f32⟩
  | .hbm, ⟨49, _⟩ => ⟨S4x16384x704, .f32⟩
  | .hbm, ⟨50, _⟩ => ⟨S4x16384x704, .bf16⟩
  | .hbm, ⟨51, _⟩ => ⟨S16384x2816, .f32⟩
  | .hbm, ⟨52, _⟩ => ⟨S16384x4x704, .f32⟩
  | .hbm, ⟨53, _⟩ => ⟨S4x16384x704, .f32⟩
  | .hbm, ⟨54, _⟩ => ⟨S4x16384x704, .bf16⟩
  | .hbm, ⟨55, _⟩ => ⟨S16384x2816, .f32⟩
  | .hbm, ⟨56, _⟩ => ⟨S16384x4x704, .f32⟩
  | .hbm, ⟨57, _⟩ => ⟨S4x16384x704, .f32⟩
  | .hbm, ⟨58, _⟩ => ⟨S4x16384x704, .bf16⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S1x1024, .f32⟩
  | .hbm, ⟨83, _⟩ => ⟨S16384x1024, .f32⟩
  | .hbm, ⟨84, _⟩ => ⟨S16384x1024, .f32⟩
  | .hbm, ⟨85, _⟩ => ⟨S1x1024, .f32⟩
  | .hbm, ⟨86, _⟩ => ⟨S16384x1024, .f32⟩
  | .hbm, ⟨87, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_v7_2 : Ref sig .tc := ⟨.hbm, 28, rfl⟩
abbrev main_call1_cst_1 : Ref sig .tc := ⟨.hbm, 29, rfl⟩
abbrev main_call1_v6 : Ref sig .tc := ⟨.hbm, 30, rfl⟩
abbrev main_call1_v7 : Ref sig .tc := ⟨.hbm, 31, rfl⟩
abbrev main_v7_1 : Ref sig .tc := ⟨.hbm, 32, rfl⟩
abbrev main_v7_0 : Ref sig .tc := ⟨.hbm, 33, rfl⟩
abbrev main_cst : Ref sig .tc := ⟨.hbm, 34, rfl⟩
abbrev main_v8 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v9 : Ref sig .tc := ⟨.hbm, 39, rfl⟩
abbrev main_cst_0 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_1 : Ref sig .tc := ⟨.hbm, 59, rfl⟩
abbrev main_v28 : Ref sig .tc := ⟨.hbm, 60, rfl⟩
abbrev main_v29 : Ref sig .tc := ⟨.hbm, 61, rfl⟩
abbrev main_cst_2 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_3 : Ref sig .tc := ⟨.hbm, 68, rfl⟩
abbrev main_v35 : Ref sig .tc := ⟨.hbm, 69, rfl⟩
abbrev main_v36 : Ref sig .tc := ⟨.hbm, 70, rfl⟩
abbrev main_cst_4 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_5 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩

abbrev nD : Nat := 1
abbrev τ : Topo := Topo.v7x

variable {F : FTy → Type} [FloatOps F]
-- ==== Kernel10.lean ====
abbrev S16384x1024 : Shape := ⟨2, ![16384, 1024]⟩
abbrev S2x1024x2816 : Shape := ⟨3, ![2, 1024, 2816]⟩
abbrev S2x2816x1024 : Shape := ⟨3, ![2, 2816, 1024]⟩
abbrev S1024 : Shape := ⟨1, ![1024]⟩
abbrev S2x1024x4x704 : Shape := ⟨4, ![2, 1024, 4, 704]⟩
abbrev S4x2x1024x704 : Shape := ⟨4, ![4, 2, 1024, 704]⟩
abbrev S2x4x704x1024 : Shape := ⟨4, ![2, 4, 704, 1024]⟩
abbrev S4x2x704x1024 : Shape := ⟨4, ![4, 2, 704, 1024]⟩
abbrev S1x1024 : Shape := ⟨2, ![1, 1024]⟩
abbrev S4x16384x704 : Shape := ⟨3, ![4, 16384, 704]⟩
abbrev S1x1 : Shape := ⟨2, ![1, 1]⟩
abbrev S512x1024 : Shape := ⟨2, ![512, 1024]⟩
abbrev S4x1x1024x704 : Shape := ⟨4, ![4, 1, 1024, 704]⟩
abbrev S4x1x704x1024 : Shape := ⟨4, ![4, 1, 704, 1024]⟩
abbrev S4x512x704 : Shape := ⟨3, ![4, 512, 704]⟩
abbrev S8x1024 : Shape := ⟨2, ![8, 1024]⟩
abbrev S1x1x1024x704 : Shape := ⟨4, ![1, 1, 1024, 704]⟩
abbrev S1024x704 : Shape := ⟨2, ![1024, 704]⟩
abbrev S512x704 : Shape := ⟨2, ![512, 704]⟩
abbrev S1x512x704 : Shape := ⟨3, ![1, 512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩
abbrev S64x8x1024 : Shape := ⟨3, ![64, 8, 1024]⟩
abbrev S1x8x1024 : Shape := ⟨3, ![1, 8, 1024]⟩
abbrev S1 : Shape := ⟨1, ![1]⟩
abbrev S1x1x1 : Shape := ⟨3, ![1, 1, 1]⟩

abbrev nBuf : Space → Nat
  | .hbm => 25
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S2x1024x4x704, .f32⟩
  | .hbm, ⟨8, _⟩ => ⟨S4x2x1024x704, .f32⟩
  | .hbm, ⟨9, _⟩ => ⟨S4x2x1024x704, .bf16⟩
  | .hbm, ⟨10, _⟩ => ⟨S2x1024x4x704, .f32⟩
  | .hbm, ⟨11, _⟩ => ⟨S4x2x1024x704, .f32⟩
  | .hbm, ⟨12, _⟩ => ⟨S4x2x1024x704, .bf16⟩
  | .hbm, ⟨13, _⟩ => ⟨S2x4x704x1024, .f32⟩
  | .hbm, ⟨14, _⟩ => ⟨S4x2x704x1024, .f32⟩
  | .hbm, ⟨15, _⟩ => ⟨S4x2x704x1024, .bf16⟩
  | .hbm, ⟨16, _⟩ => ⟨S1x1024, .f32⟩
  | .hbm, ⟨17, _⟩ => ⟨S1x1024, .f32⟩
  | .hbm, ⟨18, _⟩ => ⟨S4x16384x704, .bf16⟩
  | .hbm, ⟨19, _⟩ => ⟨S4x16384x704, .bf16⟩
  | .hbm, ⟨20, _⟩ => ⟨S4x16384x704, .bf16⟩
  | .hbm, ⟨21, _⟩ => ⟨S16384x1024, .f32⟩
  | .hbm, ⟨22, _⟩ => ⟨S1x1024, .f32⟩
  | .hbm, ⟨23, _⟩ => ⟨S1x1024, .f32⟩
  | .hbm, ⟨24, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S4x1x1024x704, .bf16⟩
  | .local _ .vmem, ⟨3, _⟩ => ⟨S4x1x1024x704, .bf16⟩
  | .local _ .vmem, ⟨4, _⟩ => ⟨S4x1x704x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S1x1, .f32⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v207 : BitVec 1 := Scalar.cmpi .eq arg0 c31_i32
  let v208 : BitVec 32 := Scalar.extui v207
  let c0_i32_137 : BitVec 32 := 0#32
  let v209 : BitVec 1 := Scalar.cmpi .ne v208 c0_i32_137
  v209

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference10Ideal.lean ====
abbrev S16384x1024 : Shape := ⟨2, ![16384, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024x2816 : Shape := ⟨3, ![1, 1024, 2816]⟩
abbrev S1024x2816 : Shape := ⟨2, ![1024, 2816]⟩
abbrev S16384x2816 : Shape := ⟨2, ![16384, 2816]⟩
abbrev S_ : Shape := ⟨0, ![]⟩
abbrev S1x2816x1024 : Shape := ⟨3, ![1, 2816, 1024]⟩
abbrev S2816x1024 : Shape := ⟨2, ![2816, 1024]⟩
abbrev S16384 : Shape := ⟨1, ![16384]⟩
abbrev S16384x1 : Shape := ⟨2, ![16384, 1]⟩
abbrev S1x1024 : Shape := ⟨2, ![1, 1024]⟩
abbrev S16384x4x704 : Shape := ⟨3, ![16384, 4, 704]⟩
abbrev S4x16384x704 : Shape := ⟨3, ![4, 16384, 704]⟩
abbrev S1x1 : Shape := ⟨2, ![1, 1]⟩

abbrev nBuf : Space → Nat
  | .hbm => 166
  | .vmem => 0
  | .smem => 0
  | _ => 0

abbrev hbmTy0_0 (i : Nat) : BufTy := match i % 128 with
  | 0 => ⟨S16384x1024, .f32⟩
  | 1 => ⟨S2x1024x2816, .f32⟩
  | 2 => ⟨S2x1024x2816, .f32⟩
  | 3 => ⟨S2x2816x1024, .f32⟩
  | 4 => ⟨S1024, .f32⟩
  | 5 => ⟨S1024, .f32⟩
  | 6 => ⟨S16384x1024, .f32⟩
  | 7 => ⟨S1x1024x2816, .f32⟩
  | 8 => ⟨S1024x2816, .f32⟩
  | 9 => ⟨S16384x2816, .f32⟩
  | 10 => ⟨S1x1024x2816, .f32⟩
  | 11 => ⟨S1024x2816, .f32⟩
  | 12 => ⟨S16384x2816, .f32⟩
  | 13 => ⟨S16384x2816, .f32⟩
  | 14 => ⟨S16384x2816, .f32⟩
  | 15 => ⟨S_, .f32⟩
  | 16 => ⟨S16384x2816, .f32⟩
  | 17 => ⟨S16384x2816, .f32⟩
  | 18 => ⟨S_, .f32⟩
  | 19 => ⟨S16384x2816, .f32⟩
  | 20 => ⟨S16384x2816, .f32⟩
  | 21 => ⟨S16384x2816, .f32⟩
  | 22 => ⟨S16384x2816, .f32⟩
  | 23 => ⟨S16384x2816, .f32⟩
  | 24 => ⟨S_, .f32⟩
  | 25 => ⟨S16384x2816, .f32⟩
  | 26 => ⟨S16384x2816, .f32⟩
  | 27 => ⟨S_, .f32⟩
  | 28 => ⟨S16384x2816, .f32⟩
  | 29 => ⟨S16384x2816, .f32⟩
  | 30 => ⟨S_, .f32⟩
  | 31 => ⟨S16384x2816, .f32⟩
  | 32 => ⟨S16384x2816, .f32⟩
  | 33 => ⟨S16384x2816, .f32⟩
  | 34 => ⟨S16384x2816, .f32⟩
  | 35 => ⟨S_, .f32⟩
  | 36 => ⟨S16384x2816, .f32⟩
  | 37 => ⟨S16384x2816, .f32⟩
  | 38 => ⟨S16384x2816, .f32⟩
  | 39 => ⟨S16384x2816, .f32⟩
  | 40 => ⟨S16384x2816, .f32⟩
  | 41 => ⟨S_, .f32⟩
  | 42 => ⟨S16384x1024, .f32⟩
  | 43 => ⟨S16384x1024, .f32⟩
  | 44 => ⟨S16384x2816, .f32⟩
  | 45 => ⟨S1x2816x1024, .f32⟩
  | 46 => ⟨S2816x1024, .f32⟩
  | 47 => ⟨S16384x1024, .f32⟩
  | 48 => ⟨S16384x1024, .f32⟩
  | 49 => ⟨S_, .f32⟩
  | 50 => ⟨S16384, .f32⟩
  | 51 => ⟨S16384x1, .f32⟩
  | 52 => ⟨S_, .f32⟩
  | 53 => ⟨S16384x1, .f32⟩
  | 54 => ⟨S16384x1, .f32⟩
  | 55 => ⟨S16384x1024, .f32⟩
  | 56 => ⟨S16384x1024, .f32⟩
  | 57 => ⟨S16384x1024, .f32⟩
  | 58 => ⟨S_, .f32⟩
  | 59 => ⟨S16384x1024, .f32⟩
  | 60 => ⟨S16384x1024, .f32⟩
  | 61 => ⟨S_, .f32⟩
  | 62 => ⟨S16384, .f32⟩
  | 63 => ⟨S16384x1, .f32⟩
  | 64 => ⟨S_, .f32⟩
  | 65 => ⟨S16384x1, .f32⟩
  | 66 => ⟨S16384x1, .f32⟩
  | 67 => ⟨S16384x1024, .f32⟩
  | 68 => ⟨S16384x1024, .f32⟩
  | 69 => ⟨S_, .f32⟩
  | 70 => ⟨S16384x1, .f32⟩
  | 71 => ⟨S16384x1, .f32⟩
  | 72 => ⟨S16384x1, .f32⟩
  | 73 => ⟨S16384x1, .f32⟩
  | 74 => ⟨S_, .f32⟩
  | 75 => ⟨S16384x1, .f32⟩
  | 76 => ⟨S16384x1, .f32⟩
  | 77 => ⟨S16384x1024, .f32⟩
  | 78 => ⟨S16384x1024, .f32⟩
  | 79 => ⟨S1x1024, .f32⟩
  | 80 => ⟨S16384x1024, .f32⟩
  | 81 => ⟨S16384x1024, .f32⟩
  | 82 => ⟨S1x1024, .f32⟩
  | 83 => ⟨S16384x1024, .f32⟩
  | 84 => ⟨S16384x1024, .f32⟩
  | 85 => ⟨S16384x1024, .f32⟩
  | 86 => ⟨S16384x1024, .f32⟩
  | 87 => ⟨S_, .f32⟩
  | 88 => ⟨S16384x1024, .f32⟩
  | 89 => ⟨S16384x1024, .f32⟩
  | 90 => ⟨S_, .f32⟩
  | 91 => ⟨S16384, .f32⟩
  | 92 => ⟨S_, .f32⟩
  | 93 => ⟨S16384, .f32⟩
  | 94 => ⟨S16384, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S16384, .f32⟩
  | 103 => ⟨S_, .f32⟩
  | 104 => ⟨S16384, .f32⟩
  | 105 => ⟨S16384, .f32⟩
  | 106 => ⟨S16384x1024, .f32⟩
  | 107 => ⟨S16384x1024, .f32⟩
  | 108 => ⟨S_, .f32⟩
  | 109 => ⟨S1024, .f32⟩
  | 110 => ⟨S1x1024, .f32⟩
  | 111 => ⟨S_, .f32⟩
  | 112 => ⟨S1024, .f32⟩
  | 113 => ⟨S16384x1024, .f32⟩
  | 114 => ⟨S_, .f32⟩
  | 115 => ⟨S1024, .f32⟩
  | 116 => ⟨S1x1024, .f32⟩
  | 117 => ⟨S16384x1024, .f32⟩
  | 118 => ⟨S16384x1024, .f32⟩
  | 119 => ⟨S_, .f32⟩
  | 120 => ⟨S1024, .f32⟩
  | 121 => ⟨S16384x1024, .f32⟩
  | 122 => ⟨S_, .f32⟩
  | 123 => ⟨S16384, .f32⟩
  | 124 => ⟨S16384x1, .f32⟩
  | 125 => ⟨S16384x1024, .f32⟩
  | 126 => ⟨S16384x1024, .f32⟩
  | 127 => ⟨S16384x1, .f32⟩
  | _ => ⟨S16384x1024, .f32⟩

abbrev hbmTy0_1 (i : Nat) : BufTy := match i % 128 with
  | 0 => ⟨S16384x1024, .f32⟩
  | 1 => ⟨S_, .f32⟩
  | 2 => ⟨S16384, .f32⟩
  | 3 => ⟨S16384x1, .f32⟩
  | 4 => ⟨S_, .f32⟩
  | 5 => ⟨S16384x1, .f32⟩
  | 6 => ⟨S16384x1, .f32⟩
  | 7 => ⟨S_, .f32⟩
  | 8 => ⟨S16384, .f32⟩
  | 9 => ⟨S16384x1024, .f32⟩
  | 10 => ⟨S16384x1024, .f32⟩
  | 11 => ⟨S16384x1024, .f32⟩
  | 12 => ⟨S_, .f32⟩
  | 13 => ⟨S16384, .f32⟩
  | 14 => ⟨S16384x1, .f32⟩
  | 15 => ⟨S16384x1024, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384, .f32⟩
  | 22 => ⟨S16384x1024, .f32⟩
  | 23 => ⟨S16384x1024, .f32⟩
  | 24 => ⟨S16384x4x704, .f32⟩
  | 25 => ⟨S4x16384x704, .f32⟩
  | 26 => ⟨S4x16384x704, .bf16⟩
  | 27 => ⟨S16384x2816, .f32⟩
  | 28 => ⟨S16384x4x704, .f32⟩
  | 29 => ⟨S4x16384x704, .f32⟩
  | 30 => ⟨S4x16384x704, .bf16⟩
  | 31 => ⟨S16384x2816, .f32⟩
  | 32 => ⟨S16384x4x704, .f32⟩
  | 33 => ⟨S4x16384x704, .f32⟩
  | 34 => ⟨S4x16384x704, .bf16⟩
  | 35 => ⟨S1x1024, .f32⟩
  | 36 => ⟨S1x1024, .f32⟩
  | 37 => ⟨S1x1, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_v7_2 : Ref sig .tc := ⟨.hbm, 29, rfl⟩
abbrev main_call1_cst_1 : Ref sig .tc := ⟨.hbm, 30, rfl⟩
abbrev main_call1_v6 : Ref sig .tc := ⟨.hbm, 31, rfl⟩
abbrev main_call1_v7 : Ref sig .tc := ⟨.hbm, 32, rfl⟩
abbrev main_v7_1 : Ref sig .tc := ⟨.hbm, 33, rfl⟩
abbrev main_v7_0 : Ref sig .tc := ⟨.hbm, 34, rfl⟩
abbrev main_cst : Ref sig .tc := ⟨.hbm, 35, rfl⟩
abbrev main_v8 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v9 : Ref sig .tc := ⟨.hbm, 40, rfl⟩
abbrev main_cst_0 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_1 : Ref sig .tc := ⟨.hbm, 49, rfl⟩
abbrev main_v17 : Ref sig .tc := ⟨.hbm, 50, rfl⟩
abbrev main_v18 : Ref sig .tc := ⟨.hbm, 51, rfl⟩
abbrev main_cst_2 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_3 : Ref sig .tc := ⟨.hbm, 58, rfl⟩
abbrev main_v24 : Ref sig .tc := ⟨.hbm, 59, rfl⟩
abbrev main_v25 : Ref sig .tc := ⟨.hbm, 60, rfl⟩
abbrev main_cst_4 : Ref sig .tc := ⟨.hbm, 61, rfl⟩
abbrev main_v26 : Ref sig .tc := ⟨.hbm, 62, rfl⟩
abbrev main_v27 : Ref sig .tc := ⟨.hbm, 63, rfl⟩
abbrev main_cst_5 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_6 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_7 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_8 : Ref sig .tc := ⟨.hbm, 87, rfl⟩
abbrev main_v48 : Ref sig .tc := ⟨.hbm, 88, rfl⟩
abbrev main_v49 : Ref sig .tc := ⟨.hbm, 89, rfl⟩
abbrev main_cst_9 : Ref sig .tc := ⟨.hbm, 90, rfl⟩
abbrev main_v50 : Ref sig .tc := ⟨.hbm, 91, rfl⟩
abbrev main_cst_10 : Ref sig .tc := ⟨.hbm, 92, rfl⟩
abbrev main_v51 : Ref sig .tc := ⟨.hbm, 93, rfl⟩
abbrev main_v52 : Ref sig .tc := ⟨.hbm, 94, rfl⟩
abbrev main_cst_11 : Ref sig .tc := ⟨.hbm, 95, rfl⟩
abbrev main_v53 : Ref sig .tc := ⟨.hbm, 96, rfl⟩
abbrev main_cst_12 : Ref sig .tc := ⟨.hbm, 97, rfl⟩
abbrev main_v54 : Ref sig .tc := ⟨.hbm, 98, rfl⟩
abbrev main_cst_13 : Ref sig .tc := ⟨.hbm, 99, rfl⟩
abbrev main_cst_14 : Ref sig .tc := ⟨.hbm, 100, rfl⟩
abbrev main_v55 : Ref sig .tc := ⟨.hbm, 101, rfl⟩
abbrev main_v56 : Ref sig .tc := ⟨.hbm, 102, rfl⟩
abbrev main_cst_15 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_cst_16 : Ref sig .tc := ⟨.hbm, 108, rfl⟩
abbrev main_v61 : Ref sig .tc := ⟨.hbm, 109, rfl⟩
abbrev main_v62 : Ref sig .tc := ⟨.hbm, 110, rfl⟩
abbrev main_cst_17 : Ref sig .tc := ⟨.hbm, 111, rfl⟩
abbrev main_v63 : Ref sig .tc := ⟨.hbm, 112, rfl⟩
abbrev main_v64 : Ref sig .tc := ⟨.hbm, 113, rfl⟩
abbrev main_cst_18 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_19 : Ref sig .tc := ⟨.hbm, 119, rfl⟩
abbrev main_v69 : Ref sig .tc := ⟨.hbm, 120, rfl⟩
abbrev main_v70 : Ref sig .tc := ⟨.hbm, 121, rfl⟩
abbrev main_cst_20 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_21 : Ref sig .tc := ⟨.hbm, 129, rfl⟩
abbrev main_v77 : Ref sig .tc := ⟨.hbm, 130, rfl⟩
abbrev main_v78 : Ref sig .tc := ⟨.hbm, 131, rfl⟩
abbrev main_cst_22 : Ref sig .tc := ⟨.hbm, 132, rfl⟩
abbrev main_v79 : Ref sig .tc := ⟨.hbm, 133, rfl⟩
abbrev main_v80 : Ref sig .tc := ⟨.hbm, 134, rfl⟩
abbrev main_cst_23 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_24 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_25 : Ref sig .tc := ⟨.hbm, 145, rfl⟩
abbrev main_v89 : Ref sig .tc := ⟨.hbm, 146, rfl⟩
abbrev main_v90 : Ref sig .tc := ⟨.hbm, 147, rfl⟩
abbrev main_cst_26 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩

abbrev nD : Nat := 1
abbrev τ : Topo := Topo.v7x

variable {F : FTy → Type} [FloatOps F]
-- ==== Kernel11.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S16384x1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S16384x1024, .bf16⟩
  | .hbm, ⟨9, _⟩ => ⟨S16384x1024, .f32⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S8x1024, .f32⟩
  | .local _ .vmem, ⟨14, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v80 : BitVec 1 := Scalar.cmpi .eq arg0 c31_i32
  let v81 : BitVec 32 := Scalar.extui v80
  let c0_i32_37 : BitVec 32 := 0#32
  let v82 : BitVec 1 := Scalar.cmpi .ne v81 c0_i32_37
  v82

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference11Ideal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 145
  | .vmem => 0
  | .smem => 0
  | _ => 0

abbrev hbmTy0_0 (i : Nat) : BufTy := match i % 128 with
  | 0 => ⟨S16384x1024, .f32⟩
  | 1 => ⟨S1024, .f32⟩
  | 2 => ⟨S1024, .f32⟩
  | 3 => ⟨S1024x1024, .f32⟩
  | 4 => ⟨S16384x1024, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S16384x1024, .f32⟩
  | 12 => ⟨S16384x1024, .f32⟩
  | 13 => ⟨S16384x1024, .f32⟩
  | 14 => ⟨S_, .f32⟩
  | 15 => ⟨S16384x1024, .f32⟩
  | 16 => ⟨S16384x1024, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S16384x1024, .f32⟩
  | 24 => ⟨S16384x1024, .f32⟩
  | 25 => ⟨S_, .f32⟩
  | 26 => ⟨S16384x1, .f32⟩
  | 27 => ⟨S16384x1, .f32⟩
  | 28 => ⟨S16384x1, .f32⟩
  | 29 => ⟨S16384x1, .f32⟩
  | 30 => ⟨S_, .f32⟩
  | 31 => ⟨S16384x1, .f32⟩
  | 32 => ⟨S16384x1, .f32⟩
  | 33 => ⟨S16384x1024, .f32⟩
  | 34 => ⟨S16384x1024, .f32⟩
  | 35 => ⟨S1x1024, .f32⟩
  | 36 => ⟨S16384x1024, .f32⟩
  | 37 => ⟨S16384x1024, .f32⟩
  | 38 => ⟨S1x1024, .f32⟩
  | 39 => ⟨S16384x1024, .f32⟩
  | 40 => ⟨S16384x1024, .f32⟩
  | 41 => ⟨S16384x1024, .f32⟩
  | 42 => ⟨S16384x1024, .f32⟩
  | 43 => ⟨S_, .f32⟩
  | 44 => ⟨S16384x1024, .f32⟩
  | 45 => ⟨S16384x1024, .f32⟩
  | 46 => ⟨S_, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S16384x1024, .f32⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S16384x1024, .f32⟩
  | 59 => ⟨S16384x1024, .f32⟩
  | 60 => ⟨S_, .f32⟩
  | 61 => ⟨S1024, .f32⟩
  | 62 => ⟨S1x1024, .f32⟩
  | 63 => ⟨S_, .f32⟩
  | 64 => ⟨S1024, .f32⟩
  | 65 => ⟨S16384x1024, .f32⟩
  | 66 => ⟨S_, .f32⟩
  | 67 => ⟨S1024, .f32⟩
  | 68 => ⟨S1x1024, .f32⟩
  | 69 => ⟨S16384x1024, .f32⟩
  | 70 => ⟨S16384x1024, .f32⟩
  | 71 => ⟨S_, .f32⟩
  | 72 => ⟨S1024, .f32⟩
  | 73 => ⟨S16384x1024, .f32⟩
  | 74 => ⟨S_, .f32⟩
  | 75 => ⟨S16384, .f32⟩
  | 76 => ⟨S16384x1, .f32⟩
  | 77 => ⟨S16384x1024, .f32⟩
  | 78 => ⟨S16384x1024, .f32⟩
  | 79 => ⟨S16384x1, .f32⟩
  | 80 => ⟨S16384x1024, .f32⟩
  | 81 => ⟨S_, .f32⟩
  | 82 => ⟨S16384, .f32⟩
  | 83 => ⟨S16384x1, .f32⟩
  | 84 => ⟨S_, .f32⟩
  | 85 => ⟨S16384x1, .f32⟩
  | 86 => ⟨S16384x1, .f32⟩
  | 87 => ⟨S_, .f32⟩
  | 88 => ⟨S16384, .f32⟩
  | 89 => ⟨S16384x1024, .f32⟩
  | 90 => ⟨S16384x1024, .f32⟩
  | 91 => ⟨S16384x1024, .f32⟩
  | 92 => ⟨S_, .f32⟩
  | 93 => ⟨S16384, .f32⟩
  | 94 => ⟨S16384x1, .f32⟩
  | 95 => ⟨S16384x1024, .f32⟩
  | 96 => ⟨S16384x1, .f32⟩
  | 97 => ⟨S_, .f32⟩
  | 98 => ⟨S16384x1, .f32⟩
  | 99 => ⟨S16384x1, .f32⟩
  | 100 => ⟨S_, .f32⟩
  | 101 => ⟨S16384, .f32⟩
  | 102 => ⟨S16384x1024, .f32⟩
  | 103 => ⟨S16384x1024, .f32⟩
  | 104 => ⟨S_, .f32⟩
  | 105 => ⟨S16384, .f32⟩
  | 106 => ⟨S16384x1, .f32⟩
  | 107 => ⟨S_, .f32⟩
  | 108 => ⟨S16384x1, .f32⟩
  | 109 => ⟨S16384x1, .f32⟩
  | 110 => ⟨S16384x1024, .f32⟩
  | 111 => ⟨S16384x1024, .f32⟩
  | 112 => ⟨S16384x1024, .f32⟩
  | 113 => ⟨S_, .f32⟩
  | 114 => ⟨S16384, .f32⟩
  | 115 => ⟨S16384x1, .f32⟩
  | 116 => ⟨S_, .f32⟩
  | 117 => ⟨S16384x1, .f32⟩
  | 118 => ⟨S16384x1, .f32⟩
  | 119 => ⟨S16384x1024, .f32⟩
  | 120 => ⟨S16384x1024, .f32⟩
  | 121 => ⟨S_, .f32⟩
  | 122 => ⟨S16384x1, .f32⟩
  | 123 => ⟨S16384x1, .f32⟩
  | 124 => ⟨S16384x1, .f32⟩
  | 125 => ⟨S16384x1024, .f32⟩
  | 126 => ⟨S16384x1024, .f32⟩
  | 127 => ⟨S1x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S1x1024, .f32⟩
  | 3 => ⟨S16384x1024, .f32⟩
  | 4 => ⟨S16384x1024, .f32⟩
  | 5 => ⟨S16384x1024, .f32⟩
  | 6 => ⟨S16384x1024, .f32⟩
  | 7 => ⟨S_, .f32⟩
  | 8 => ⟨S16384x1024, .f32⟩
  | 9 => ⟨S16384x1024, .f32⟩
  | 10 => ⟨S_, .f32⟩
  | 11 => ⟨S16384x1024, .f32⟩
  | 12 => ⟨S16384x1024, .f32⟩
  | 13 => ⟨S16384x1024, .f32⟩
  | 14 => ⟨S16384x1024, .bf16⟩
  | 15 => ⟨S1x1024, .f32⟩
  | 16 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v29_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v29_1 : Ref sig .tc := ⟨.hbm, 52, rfl⟩
abbrev main_v29_0 : Ref sig .tc := ⟨.hbm, 53, rfl⟩
abbrev main_v30 : Ref sig .tc := ⟨.hbm, 54, rfl⟩
abbrev main_v31 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_cst_12 : Ref sig .tc := ⟨.hbm, 84, rfl⟩
abbrev main_v51 : Ref sig .tc := ⟨.hbm, 85, rfl⟩
abbrev main_v52 : Ref sig .tc := ⟨.hbm, 86, rfl⟩
abbrev main_cst_13 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_14 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_15 : Ref sig .tc := ⟨.hbm, 97, rfl⟩
abbrev main_v61 : Ref sig .tc := ⟨.hbm, 98, rfl⟩
abbrev main_v62 : Ref sig .tc := ⟨.hbm, 99, rfl⟩
abbrev main_cst_16 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_17 : Ref sig .tc := ⟨.hbm, 104, rfl⟩
abbrev main_v66 : Ref sig .tc := ⟨.hbm, 105, rfl⟩
abbrev main_v67 : Ref sig .tc := ⟨.hbm, 106, rfl⟩
abbrev main_cst_18 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_19 : Ref sig .tc := ⟨.hbm, 113, rfl⟩
abbrev main_v73 : Ref sig .tc := ⟨.hbm, 114, rfl⟩
abbrev main_v74 : Ref sig .tc := ⟨.hbm, 115, rfl⟩
abbrev main_cst_20 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_21 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_call2_v0 : Ref sig .tc := ⟨.hbm, 133, rfl⟩
abbrev main_call2_v1 : Ref sig .tc := ⟨.hbm, 134, rfl⟩
abbrev main_call2_cst : Ref sig .tc := ⟨.hbm, 135, rfl⟩
abbrev main_call2_v2 : Ref sig .tc := ⟨.hbm, 136, rfl⟩
abbrev main_call2_v3 : Ref sig .tc := ⟨.hbm, 137, rfl⟩
abbrev main_call2_cst_0 : Ref sig .tc := ⟨.hbm, 138, rfl⟩
abbrev main_call2_v4 : Ref sig .tc := ⟨.hbm, 139, rfl⟩
abbrev main_call2_v5 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩

abbrev nD : Nat := 1
abbrev τ : Topo := Topo.v7x

variable {F : FTy → Type} [FloatOps F]
-- ==== Kernel12.lean ====
abbrev S16384x1024 : Shape := ⟨2, ![16384, 1024]⟩
abbrev S1024x2048 : Shape := ⟨2, ![1024, 2048]⟩
abbrev S2048 : Shape := ⟨1, ![2048]⟩
abbrev S1024x4x512 : Shape := ⟨3, ![1024, 4, 512]⟩
abbrev S4x1024x512 : Shape := ⟨3, ![4, 1024, 512]⟩
abbrev S1x2048 : Shape := ⟨2, ![1, 2048]⟩
abbrev S512x1024 : Shape := ⟨2, ![512, 1024]⟩
abbrev S1x1024x512 : Shape := ⟨3, ![1, 1024, 512]⟩
abbrev S1024x512 : Shape := ⟨2, ![1024, 512]⟩
abbrev S512x512 : Shape := ⟨2, ![512, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S2048, .f32⟩
  | .hbm, ⟨3, _⟩ => ⟨S1024x4x512, .f32⟩
  | .hbm, ⟨4, _⟩ => ⟨S4x1024x512, .f32⟩
  | .hbm, ⟨5, _⟩ => ⟨S4x1024x512, .bf16⟩
  | .hbm, ⟨6, _⟩ => ⟨S1x2048, .f32⟩
  | .hbm, ⟨7, _⟩ => ⟨S16384x1024, .bf16⟩
  | .hbm, ⟨8, _⟩ => ⟨S16384x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S4x1024x512, .bf16⟩
  | .local _ .vmem, ⟨3, _⟩ => ⟨S1x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S16384x1024 : Shape := ⟨2, ![16384, 1024]⟩
abbrev S1024x2048 : Shape := ⟨2, ![1024, 2048]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S2048, .f32⟩
  | .hbm, ⟨3, _⟩ => ⟨S16384x2048, .f32⟩
  | .hbm, ⟨4, _⟩ => ⟨S1x2048, .f32⟩
  | .hbm, ⟨5, _⟩ => ⟨S16384x2048, .f32⟩
  | .hbm, ⟨6, _⟩ => ⟨S16384x2048, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x1024, .f32⟩
  | .hbm, ⟨21, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel13.lean ====
abbrev S16384x1024 : Shape := ⟨2, ![16384, 1024]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S32x1024 : Shape := ⟨2, ![32, 1024]⟩
abbrev S32x1x1024 : Shape := ⟨3, ![32, 1, 1024]⟩
abbrev S32x8x1024 : Shape := ⟨3, ![32, 8, 1024]⟩
abbrev S1x1024 : Shape := ⟨2, ![1, 1024]⟩
abbrev S512x1024 : Shape := ⟨2, ![512, 1024]⟩
abbrev S552x1024 : Shape := ⟨2, ![552, 1024]⟩
abbrev S7x544x1024 : Shape := ⟨3, ![7, 544, 1024]⟩
abbrev S8x1024 : Shape := ⟨2, ![8, 1024]⟩
abbrev S544x1024 : Shape := ⟨2, ![544, 1024]⟩
abbrev S1x544x1024 : Shape := ⟨3, ![1, 544, 1024]⟩
abbrev S8x8x256 : Shape := ⟨3, ![8, 8, 256]⟩
abbrev S1x64x256 : Shape := ⟨3, ![1, 64, 256]⟩
abbrev S64x256 : Shape := ⟨2, ![64, 256]⟩
abbrev S1x8x256 : Shape := ⟨3, ![1, 8, 256]⟩
abbrev S8x256 : Shape := ⟨2, ![8, 256]⟩
abbrev S1x256 : Shape := ⟨2, ![1, 256]⟩
abbrev S512 : Shape := ⟨1, ![512]⟩
abbrev S512x1 : Shape := ⟨2, ![512, 1]⟩

abbrev nBuf : Space → Nat
  | .hbm => 25
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S_, .i32⟩
  | .hbm, ⟨11, _⟩ => ⟨S_, .f32⟩
  | .hbm, ⟨12, _⟩ => ⟨S32x1024, .f32⟩
  | .hbm, ⟨13, _⟩ => ⟨S32x1x1024, .f32⟩
  | .hbm, ⟨14, _⟩ => ⟨S32x8x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x1024, .f32⟩
  | .local _ .vmem, ⟨5, _⟩ => ⟨S512x1024, .f32⟩
  | .local _ .vmem, ⟨6, _⟩ => ⟨S32x8x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S552x1024, .f32⟩
  | .local _ .vmem, ⟨21, _⟩ => ⟨S7x544x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_36 : BitVec 32 := 0#32
  let c8_i32 : BitVec 32 := 8#32
  let v43 : BitVec 32 := Scalar.addi c0_i32_36 c8_i32
  let c1_i32 : BitVec 32 := 1#32
  ⟨c0_i32_36, v43, c1_i32⟩
def k0_mult1 (k0_t1 : Fin k0_t1_loop.trips) : BitVec 32 :=
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  v110
def k0_off1 (k0_t1 : Fin k0_t1_loop.trips) (c0_i32_71 : BitVec 32) : Fin 3 → Nat :=
  let c1_72 : Index := 1#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v113 : BitVec 32 := Scalar.addi v111 c0_i32_71
  let v114 : Index := Scalar.indexCast v113
  let c0_73 : Index := 0#32
  ![1, v114.toNat, 0]
def k0_off2 (k0_t1 : Fin k0_t1_loop.trips) (c0_i32_77 : BitVec 32) : Fin 3 → Nat :=
  let c2_78 : Index := 2#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v124 : BitVec 32 := Scalar.addi v111 c0_i32_77
  let v125 : Index := Scalar.indexCast v124
  let c0_79 : Index := 0#32
  ![2, v125.toNat, 0]
def k0_off3 (k0_t1 : Fin k0_t1_loop.trips) (c0_i32_83 : BitVec 32) : Fin 3 → Nat :=
  let c3_84 : Index := 3#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v135 : BitVec 32 := Scalar.addi v111 c0_i32_83
  let v136 : Index := Scalar.indexCast v135
  let c0_85 : Index := 0#32
  ![3, v136.toNat, 0]
def k0_off4 (k0_t1 : Fin k0_t1_loop.trips) (c0_i32_89 : BitVec 32) : Fin 3 → Nat :=
  let c4_90 : Index := 4#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v146 : BitVec 32 := Scalar.addi v111 c0_i32_89
  let v147 : Index := Scalar.indexCast v146
  let c0_91 : Index := 0#32
  ![4, v147.toNat, 0]
def k0_off5 (k0_t1 : Fin k0_t1_loop.trips) (c0_i32_95 : BitVec 32) : Fin 3 → Nat :=
  let c5_96 : Index := 5#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v157 : BitVec 32 := Scalar.addi v111 c0_i32_95
  let v158 : Index := Scalar.indexCast v157
  let c0_97 : Index := 0#32
  ![5, v158.toNat, 0]
def k0_off6 (k0_t1 : Fin k0_t1_loop.trips) (c0_i32_101 : BitVec 32) : Fin 3 → Nat :=
  let c6_102 : Index := 6#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v168 : BitVec 32 := Scalar.addi v111 c0_i32_101
  let v169 : Index := Scalar.indexCast v168
  let c0_103 : Index := 0#32
  ![6, v169.toNat, 0]
def k0_off7 (k0_t1 : Fin k0_t1_loop.trips) (c8_i32_107 : BitVec 32) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v179 : BitVec 32 := Scalar.addi v111 c8_i32_107
  let v180 : Index := Scalar.indexCast v179
  let c0_108 : Index := 0#32
  ![v180.toNat, 0]
def k0_off8 (k0_t1 : Fin k0_t1_loop.trips) (c8_i32_112 : BitVec 32) : Fin 3 → Nat :=
  let c0_113 : Index := 0#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v189 : BitVec 32 := Scalar.addi v111 c8_i32_112
  let v190 : Index := Scalar.indexCast v189
  let c0_114 : Index := 0#32
  ![0, v190.toNat, 0]
def k0_off9 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v455 : Index := Scalar.indexCast v111
  let c0_229 : Index := 0#32
  ![v455.toNat, 0]
def k0_off10 (k0_t1 : Fin k0_t1_loop.trips) (c0_i32_231 : BitVec 32) : Fin 3 → Nat :=
  let c1_232 : Index := 1#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v458 : BitVec 32 := Scalar.addi v111 c0_i32_231
  let v459 : Index := Scalar.indexCast v458
  let c256 : Index := 256#32
  ![1, v459.toNat, 256]
def k0_off11 (k0_t1 : Fin k0_t1_loop.trips) (c0_i32_236 : BitVec 32) : Fin 3 → Nat :=
  let c2_237 : Index := 2#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v469 : BitVec 32 := Scalar.addi v111 c0_i32_236
  let v470 : Index := Scalar.indexCast v469
  let c256_238 : Index := 256#32
  ![2, v470.toNat, 256]
def k0_off12 (k0_t1 : Fin k0_t1_loop.trips) (c0_i32_242 : BitVec 32) : Fin 3 → Nat :=
  let c3_243 : Index := 3#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v480 : BitVec 32 := Scalar.addi v111 c0_i32_242
  let v481 : Index := Scalar.indexCast v480
  let c256_244 : Index := 256#32
  ![3, v481.toNat, 256]
def k0_off13 (k0_t1 : Fin k0_t1_loop.trips) (c0_i32_248 : BitVec 32) : Fin 3 → Nat :=
  let c4_249 : Index := 4#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v491 : BitVec 32 := Scalar.addi v111 c0_i32_248
  let v492 : Index := Scalar.indexCast v491
  let c256_250 : Index := 256#32
  ![4, v492.toNat, 256]
def k0_off14 (k0_t1 : Fin k0_t1_loop.trips) (c0_i32_254 : BitVec 32) : Fin 3 → Nat :=
  let c5_255 : Index := 5#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v502 : BitVec 32 := Scalar.addi v111 c0_i32_254
  let v503 : Index := Scalar.indexCast v502
  let c256_256 : Index := 256#32
  ![5, v503.toNat, 256]
def k0_off15 (k0_t1 : Fin k0_t1_loop.trips) (c0_i32_260 : BitVec 32) : Fin 3 → Nat :=
  let c6_261 : Index := 6#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v513 : BitVec 32 := Scalar.addi v111 c0_i32_260
  let v514 : Index := Scalar.indexCast v513
  let c256_262 : Index := 256#32
  ![6, v514.toNat, 256]
def k0_off16 (k0_t1 : Fin k0_t1_loop.trips) (c8_i32_266 : BitVec 32) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v524 : BitVec 32 := Scalar.addi v111 c8_i32_266
  let v525 : Index := Scalar.indexCast v524
  let c256_267 : Index := 256#32
  ![v525.toNat, 256]
def k0_off17 (k0_t1 : Fin k0_t1_loop.trips) (c8_i32_271 : BitVec 32) : Fin 3 → Nat :=
  let c0_272 : Index := 0#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v534 : BitVec 32 := Scalar.addi v111 c8_i32_271
  let v535 : Index := Scalar.indexCast v534
  let c256_273 : Index := 256#32
  ![0, v535.toNat, 256]
def k0_off18 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v800 : Index := Scalar.indexCast v111
  let c256_414 : Index := 256#32
  ![v800.toNat, 256]
def k0_off19 (k0_t1 : Fin k0_t1_loop.trips) (c0_i32_416 : BitVec 32) : Fin 3 → Nat :=
  let c1_417 : Index := 1#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v803 : BitVec 32 := Scalar.addi v111 c0_i32_416
  let v804 : Index := Scalar.indexCast v803
  let c512 : Index := 512#32
  ![1, v804.toNat, 512]
def k0_off20 (k0_t1 : Fin k0_t1_loop.trips) (c0_i32_421 : BitVec 32) : Fin 3 → Nat :=
  let c2_422 : Index := 2#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v814 : BitVec 32 := Scalar.addi v111 c0_i32_421
  let v815 : Index := Scalar.indexCast v814
  let c512_423 : Index := 512#32
  ![2, v815.toNat, 512]
def k0_off21 (k0_t1 : Fin k0_t1_loop.trips) (c0_i32_427 : BitVec 32) : Fin 3 → Nat :=
  let c3_428 : Index := 3#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v825 : BitVec 32 := Scalar.addi v111 c0_i32_427
  let v826 : Index := Scalar.indexCast v825
  let c512_429 : Index := 512#32
  ![3, v826.toNat, 512]
def k0_off22 (k0_t1 : Fin k0_t1_loop.trips) (c0_i32_433 : BitVec 32) : Fin 3 → Nat :=
  let c4_434 : Index := 4#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v836 : BitVec 32 := Scalar.addi v111 c0_i32_433
  let v837 : Index := Scalar.indexCast v836
  let c512_435 : Index := 512#32
  ![4, v837.toNat, 512]
def k0_off23 (k0_t1 : Fin k0_t1_loop.trips) (c0_i32_439 : BitVec 32) : Fin 3 → Nat :=
  let c5_440 : Index := 5#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v847 : BitVec 32 := Scalar.addi v111 c0_i32_439
  let v848 : Index := Scalar.indexCast v847
  let c512_441 : Index := 512#32
  ![5, v848.toNat, 512]
def k0_off24 (k0_t1 : Fin k0_t1_loop.trips) (c0_i32_445 : BitVec 32) : Fin 3 → Nat :=
  let c6_446 : Index := 6#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v858 : BitVec 32 := Scalar.addi v111 c0_i32_445
  let v859 : Index := Scalar.indexCast v858
  let c512_447 : Index := 512#32
  ![6, v859.toNat, 512]
def k0_off25 (k0_t1 : Fin k0_t1_loop.trips) (c8_i32_451 : BitVec 32) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v869 : BitVec 32 := Scalar.addi v111 c8_i32_451
  let v870 : Index := Scalar.indexCast v869
  let c512_452 : Index := 512#32
  ![v870.toNat, 512]
def k0_off26 (k0_t1 : Fin k0_t1_loop.trips) (c8_i32_456 : BitVec 32) : Fin 3 → Nat :=
  let c0_457 : Index := 0#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v879 : BitVec 32 := Scalar.addi v111 c8_i32_456
  let v880 : Index := Scalar.indexCast v879
  let c512_458 : Index := 512#32
  ![0, v880.toNat, 512]
def k0_off27 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v1145 : Index := Scalar.indexCast v111
  let c512_599 : Index := 512#32
  ![v1145.toNat, 512]
def k0_off28 (k0_t1 : Fin k0_t1_loop.trips) (c0_i32_601 : BitVec 32) : Fin 3 → Nat :=
  let c1_602 : Index := 1#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v1148 : BitVec 32 := Scalar.addi v111 c0_i32_601
  let v1149 : Index := Scalar.indexCast v1148
  let c768 : Index := 768#32
  ![1, v1149.toNat, 768]
def k0_off29 (k0_t1 : Fin k0_t1_loop.trips) (c0_i32_606 : BitVec 32) : Fin 3 → Nat :=
  let c2_607 : Index := 2#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v1159 : BitVec 32 := Scalar.addi v111 c0_i32_606
  let v1160 : Index := Scalar.indexCast v1159
  let c768_608 : Index := 768#32
  ![2, v1160.toNat, 768]
def k0_off30 (k0_t1 : Fin k0_t1_loop.trips) (c0_i32_612 : BitVec 32) : Fin 3 → Nat :=
  let c3_613 : Index := 3#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v1170 : BitVec 32 := Scalar.addi v111 c0_i32_612
  let v1171 : Index := Scalar.indexCast v1170
  let c768_614 : Index := 768#32
  ![3, v1171.toNat, 768]
def k0_off31 (k0_t1 : Fin k0_t1_loop.trips) (c0_i32_618 : BitVec 32) : Fin 3 → Nat :=
  let c4_619 : Index := 4#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v1181 : BitVec 32 := Scalar.addi v111 c0_i32_618
  let v1182 : Index := Scalar.indexCast v1181
  let c768_620 : Index := 768#32
  ![4, v1182.toNat, 768]
def k0_off32 (k0_t1 : Fin k0_t1_loop.trips) (c0_i32_624 : BitVec 32) : Fin 3 → Nat :=
  let c5_625 : Index := 5#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v1192 : BitVec 32 := Scalar.addi v111 c0_i32_624
  let v1193 : Index := Scalar.indexCast v1192
  let c768_626 : Index := 768#32
  ![5, v1193.toNat, 768]
def k0_off33 (k0_t1 : Fin k0_t1_loop.trips) (c0_i32_630 : BitVec 32) : Fin 3 → Nat :=
  let c6_631 : Index := 6#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v1203 : BitVec 32 := Scalar.addi v111 c0_i32_630
  let v1204 : Index := Scalar.indexCast v1203
  let c768_632 : Index := 768#32
  ![6, v1204.toNat, 768]
def k0_off34 (k0_t1 : Fin k0_t1_loop.trips) (c8_i32_636 : BitVec 32) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v1214 : BitVec 32 := Scalar.addi v111 c8_i32_636
  let v1215 : Index := Scalar.indexCast v1214
  let c768_637 : Index := 768#32
  ![v1215.toNat, 768]
def k0_off35 (k0_t1 : Fin k0_t1_loop.trips) (c8_i32_641 : BitVec 32) : Fin 3 → Nat :=
  let c0_642 : Index := 0#32
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v1224 : BitVec 32 := Scalar.addi v111 c8_i32_641
  let v1225 : Index := Scalar.indexCast v1224
  let c768_643 : Index := 768#32
  ![0, v1225.toNat, 768]
def k0_off36 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c64_i32 : BitVec 32 := 64#32
  let v110 : BitVec 32 := Scalar.muli arg17 c64_i32
  let v111 : BitVec 32 := v110
  let v1490 : Index := Scalar.indexCast v111
  let c768_784 : Index := 768#32
  ![v1490.toNat, 768]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference13Ideal.lean ====
abbrev S16384x1024 : Shape := ⟨2, ![16384, 1024]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S16414x1024 : Shape := ⟨2, ![16414, 1024]⟩
abbrev S1x1024 : Shape := ⟨2, ![1, 1024]⟩
abbrev S16384 : Shape := ⟨1, ![16384]⟩
abbrev S16384x1 : Shape := ⟨2, ![16384, 1]⟩

abbrev nBuf : Space → Nat
  | .hbm => 307
  | .vmem => 0
  | .smem => 0
  | _ => 0

abbrev hbmTy0_0 (i : Nat) : BufTy := match i % 128 with
  | 0 => ⟨S16384x1024, .f32⟩
  | 1 => ⟨S16384x1024, .f32⟩
  | 2 => ⟨S31x1024, .f32⟩
  | 3 => ⟨S1024, .f32⟩
  | 4 => ⟨S1024, .f32⟩
  | 5 => ⟨S1024, .f32⟩
  | 6 => ⟨S1024x1024, .f32⟩
  | 7 => ⟨S1024, .f32⟩
  | 8 => ⟨S1024, .f32⟩
  | 9 => ⟨S1024, .f32⟩
  | 10 => ⟨S_, .i32⟩
  | 11 => ⟨S_, .f32⟩
  | 12 => ⟨S16414x1024, .f32⟩
  | 13 => ⟨S1x1024, .f32⟩
  | 14 => ⟨S1024, .f32⟩
  | 15 => ⟨S16384x1024, .f32⟩
  | 16 => ⟨S1x1024, .f32⟩
  | 17 => ⟨S16384x1024, .f32⟩
  | 18 => ⟨S16384x1024, .f32⟩
  | 19 => ⟨S1x1024, .f32⟩
  | 20 => ⟨S1024, .f32⟩
  | 21 => ⟨S16384x1024, .f32⟩
  | 22 => ⟨S1x1024, .f32⟩
  | 23 => ⟨S16384x1024, .f32⟩
  | 24 => ⟨S16384x1024, .f32⟩
  | 25 => ⟨S1x1024, .f32⟩
  | 26 => ⟨S1024, .f32⟩
  | 27 => ⟨S16384x1024, .f32⟩
  | 28 => ⟨S1x1024, .f32⟩
  | 29 => ⟨S16384x1024, .f32⟩
  | 30 => ⟨S16384x1024, .f32⟩
  | 31 => ⟨S1x1024, .f32⟩
  | 32 => ⟨S1024, .f32⟩
  | 33 => ⟨S16384x1024, .f32⟩
  | 34 => ⟨S1x1024, .f32⟩
  | 35 => ⟨S16384x1024, .f32⟩
  | 36 => ⟨S16384x1024, .f32⟩
  | 37 => ⟨S1x1024, .f32⟩
  | 38 => ⟨S1024, .f32⟩
  | 39 => ⟨S16384x1024, .f32⟩
  | 40 => ⟨S1x1024, .f32⟩
  | 41 => ⟨S16384x1024, .f32⟩
  | 42 => ⟨S16384x1024, .f32⟩
  | 43 => ⟨S1x1024, .f32⟩
  | 44 => ⟨S1024, .f32⟩
  | 45 => ⟨S16384x1024, .f32⟩
  | 46 => ⟨S1x1024, .f32⟩
  | 47 => ⟨S16384x1024, .f32⟩
  | 48 => ⟨S16384x1024, .f32⟩
  | 49 => ⟨S1x1024, .f32⟩
  | 50 => ⟨S1024, .f32⟩
  | 51 => ⟨S16384x1024, .f32⟩
  | 52 => ⟨S1x1024, .f32⟩
  | 53 => ⟨S16384x1024, .f32⟩
  | 54 => ⟨S16384x1024, .f32⟩
  | 55 => ⟨S1x1024, .f32⟩
  | 56 => ⟨S1024, .f32⟩
  | 57 => ⟨S16384x1024, .f32⟩
  | 58 => ⟨S1x1024, .f32⟩
  | 59 => ⟨S16384x1024, .f32⟩
  | 60 => ⟨S16384x1024, .f32⟩
  | 61 => ⟨S1x1024, .f32⟩
  | 62 => ⟨S1024, .f32⟩
  | 63 => ⟨S16384x1024, .f32⟩
  | 64 => ⟨S1x1024, .f32⟩
  | 65 => ⟨S16384x1024, .f32⟩
  | 66 => ⟨S16384x1024, .f32⟩
  | 67 => ⟨S1x1024, .f32⟩
  | 68 => ⟨S1024, .f32⟩
  | 69 => ⟨S16384x1024, .f32⟩
  | 70 => ⟨S1x1024, .f32⟩
  | 71 => ⟨S16384x1024, .f32⟩
  | 72 => ⟨S16384x1024, .f32⟩
  | 73 => ⟨S1x1024, .f32⟩
  | 74 => ⟨S1024, .f32⟩
  | 75 => ⟨S16384x1024, .f32⟩
  | 76 => ⟨S1x1024, .f32⟩
  | 77 => ⟨S16384x1024, .f32⟩
  | 78 => ⟨S16384x1024, .f32⟩
  | 79 => ⟨S1x1024, .f32⟩
  | 80 => ⟨S1024, .f32⟩
  | 81 => ⟨S16384x1024, .f32⟩
  | 82 => ⟨S1x1024, .f32⟩
  | 83 => ⟨S16384x1024, .f32⟩
  | 84 => ⟨S16384x1024, .f32⟩
  | 85 => ⟨S1x1024, .f32⟩
  | 86 => ⟨S1024, .f32⟩
  | 87 => ⟨S16384x1024, .f32⟩
  | 88 => ⟨S1x1024, .f32⟩
  | 89 => ⟨S16384x1024, .f32⟩
  | 90 => ⟨S16384x1024, .f32⟩
  | 91 => ⟨S1x1024, .f32⟩
  | 92 => ⟨S1024, .f32⟩
  | 93 => ⟨S16384x1024, .f32⟩
  | 94 => ⟨S1x1024, .f32⟩
  | 95 => ⟨S16384x1024, .f32⟩
  | 96 => ⟨S16384x1024, .f32⟩
  | 97 => ⟨S1x1024, .f32⟩
  | 98 => ⟨S1024, .f32⟩
  | 99 => ⟨S16384x1024, .f32⟩
  | 100 => ⟨S1x1024, .f32⟩
  | 101 => ⟨S16384x1024, .f32⟩
  | 102 => ⟨S16384x1024, .f32⟩
  | 103 => ⟨S1x1024, .f32⟩
  | 104 => ⟨S1024, .f32⟩
  | 105 => ⟨S16384x1024, .f32⟩
  | 106 => ⟨S1x1024, .f32⟩
  | 107 => ⟨S16384x1024, .f32⟩
  | 108 => ⟨S16384x1024, .f32⟩
  | 109 => ⟨S1x1024, .f32⟩
  | 110 => ⟨S1024, .f32⟩
  | 111 => ⟨S16384x1024, .f32⟩
  | 112 => ⟨S1x1024, .f32⟩
  | 113 => ⟨S16384x1024, .f32⟩
  | 114 => ⟨S16384x1024, .f32⟩
  | 115 => ⟨S1x1024, .f32⟩
  | 116 => ⟨S1024, .f32⟩
  | 117 => ⟨S16384x1024, .f32⟩
  | 118 => ⟨S1x1024, .f32⟩
  | 119 => ⟨S16384x1024, .f32⟩
  | 120 => ⟨S16384x1024, .f32⟩
  | 121 => ⟨S1x1024, .f32⟩
  | 122 => ⟨S1024, .f32⟩
  | 123 => ⟨S16384x1024, .f32⟩
  | 124 => ⟨S1x1024, .f32⟩
  | 125 => ⟨S16384x1024, .f32⟩
  | 126 => ⟨S16384x1024, .f32⟩
  | 127 => ⟨S1x1024, .f32⟩
  | _ => ⟨S16384x1024, .f32⟩

abbrev hbmTy0_1 (i : Nat) : BufTy := match i % 128 with
  | 0 => ⟨S1024, .f32⟩
  | 1 => ⟨S16384x1024, .f32⟩
  | 2 => ⟨S1x1024, .f32⟩
  | 3 => ⟨S16384x1024, .f32⟩
  | 4 => ⟨S16384x1024, .f32⟩
  | 5 => ⟨S1x1024, .f32⟩
  | 6 => ⟨S1024, .f32⟩
  | 7 => ⟨S16384x1024, .f32⟩
  | 8 => ⟨S1x1024, .f32⟩
  | 9 => ⟨S16384x1024, .f32⟩
  | 10 => ⟨S16384x1024, .f32⟩
  | 11 => ⟨S1x1024, .f32⟩
  | 12 => ⟨S1024, .f32⟩
  | 13 => ⟨S16384x1024, .f32⟩
  | 14 => ⟨S1x1024, .f32⟩
  | 15 => ⟨S16384x1024, .f32⟩
  | 16 => ⟨S16384x1024, .f32⟩
  | 17 => ⟨S1x1024, .f32⟩
  | 18 => ⟨S1024, .f32⟩
  | 19 => ⟨S16384x1024, .f32⟩
  | 20 => ⟨S1x1024, .f32⟩
  | 21 => ⟨S16384x1024, .f32⟩
  | 22 => ⟨S16384x1024, .f32⟩
  | 23 => ⟨S1x1024, .f32⟩
  | 24 => ⟨S1024, .f32⟩
  | 25 => ⟨S16384x1024, .f32⟩
  | 26 => ⟨S1x1024, .f32⟩
  | 27 => ⟨S16384x1024, .f32⟩
  | 28 => ⟨S16384x1024, .f32⟩
  | 29 => ⟨S1x1024, .f32⟩
  | 30 => ⟨S1024, .f32⟩
  | 31 => ⟨S16384x1024, .f32⟩
  | 32 => ⟨S1x1024, .f32⟩
  | 33 => ⟨S16384x1024, .f32⟩
  | 34 => ⟨S16384x1024, .f32⟩
  | 35 => ⟨S1x1024, .f32⟩
  | 36 => ⟨S1024, .f32⟩
  | 37 => ⟨S16384x1024, .f32⟩
  | 38 => ⟨S1x1024, .f32⟩
  | 39 => ⟨S16384x1024, .f32⟩
  | 40 => ⟨S16384x1024, .f32⟩
  | 41 => ⟨S1x1024, .f32⟩
  | 42 => ⟨S1024, .f32⟩
  | 43 => ⟨S16384x1024, .f32⟩
  | 44 => ⟨S1x1024, .f32⟩
  | 45 => ⟨S16384x1024, .f32⟩
  | 46 => ⟨S16384x1024, .f32⟩
  | 47 => ⟨S1x1024, .f32⟩
  | 48 => ⟨S1024, .f32⟩
  | 49 => ⟨S16384x1024, .f32⟩
  | 50 => ⟨S1x1024, .f32⟩
  | 51 => ⟨S16384x1024, .f32⟩
  | 52 => ⟨S16384x1024, .f32⟩
  | 53 => ⟨S1x1024, .f32⟩
  | 54 => ⟨S1024, .f32⟩
  | 55 => ⟨S16384x1024, .f32⟩
  | 56 => ⟨S1x1024, .f32⟩
  | 57 => ⟨S16384x1024, .f32⟩
  | 58 => ⟨S16384x1024, .f32⟩
  | 59 => ⟨S1x1024, .f32⟩
  | 60 => ⟨S1024, .f32⟩
  | 61 => ⟨S16384x1024, .f32⟩
  | 62 => ⟨S1x1024, .f32⟩
  | 63 => ⟨S16384x1024, .f32⟩
  | 64 => ⟨S16384x1024, .f32⟩
  | 65 => ⟨S1x1024, .f32⟩
  | 66 => ⟨S1024, .f32⟩
  | 67 => ⟨S16384x1024, .f32⟩
  | 68 => ⟨S1x1024, .f32⟩
  | 69 => ⟨S16384x1024, .f32⟩
  | 70 => ⟨S16384x1024, .f32⟩
  | 71 => ⟨S16384x1024, .f32⟩
  | 72 => ⟨S16384x1024, .f32⟩
  | 73 => ⟨S16384x1024, .f32⟩
  | 74 => ⟨S16384x1024, .f32⟩
  | 75 => ⟨S16384x1024, .f32⟩
  | 76 => ⟨S16384x1024, .f32⟩
  | 77 => ⟨S16384x1024, .f32⟩
  | 78 => ⟨S16384x1024, .f32⟩
  | 79 => ⟨S16384x1024, .f32⟩
  | 80 => ⟨S16384x1024, .f32⟩
  | 81 => ⟨S16384x1024, .f32⟩
  | 82 => ⟨S16384x1024, .f32⟩
  | 83 => ⟨S16384x1024, .f32⟩
  | 84 => ⟨S16384x1024, .f32⟩
  | 85 => ⟨S16384x1024, .f32⟩
  | 86 => ⟨S16384x1024, .f32⟩
  | 87 => ⟨S16384x1024, .f32⟩
  | 88 => ⟨S16384x1024, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S16384x1024, .f32⟩
  | 96 => ⟨S16384x1024, .f32⟩
  | 97 => ⟨S16384x1024, .f32⟩
  | 98 => ⟨S16384x1024, .f32⟩
  | 99 => ⟨S16384x1024, .f32⟩
  | 100 => ⟨S16384x1024, .f32⟩
  | 101 => ⟨S1x1024, .f32⟩
  | 102 => ⟨S16384x1024, .f32⟩
  | 103 => ⟨S16384x1024, .f32⟩
  | 104 => ⟨S_, .f32⟩
  | 105 => ⟨S16384x1024, .f32⟩
  | 106 => ⟨S16384x1024, .f32⟩
  | 107 => ⟨S_, .f32⟩
  | 108 => ⟨S16384, .f32⟩
  | 109 => ⟨S16384x1, .f32⟩
  | 110 => ⟨S_, .f32⟩
  | 111 => ⟨S16384x1, .f32⟩
  | 112 => ⟨S16384x1, .f32⟩
  | 113 => ⟨S16384x1024, .f32⟩
  | 114 => ⟨S16384x1024, .f32⟩
  | 115 => ⟨S16384x1024, .f32⟩
  | 116 => ⟨S_, .f32⟩
  | 117 => ⟨S16384, .f32⟩
  | 118 => ⟨S16384x1, .f32⟩
  | 119 => ⟨S_, .f32⟩
  | 120 => ⟨S16384x1, .f32⟩
  | 121 => ⟨S16384x1, .f32⟩
  | 122 => ⟨S16384x1024, .f32⟩
  | 123 => ⟨S16384x1024, .f32⟩
  | 124 => ⟨S_, .f32⟩
  | 125 => ⟨S16384x1, .f32⟩
  | 126 => ⟨S16384x1, .f32⟩
  | 127 => ⟨S16384x1, .f32⟩
  | _ => ⟨S16384x1024, .f32⟩

abbrev hbmTy0_2 (i : Nat) : BufTy := match i % 128 with
  | 0 => ⟨S16384x1024, .f32⟩
  | 1 => ⟨S16384x1024, .f32⟩
  | 2 => ⟨S1x1024, .f32⟩
  | 3 => ⟨S16384x1024, .f32⟩
  | 4 => ⟨S16384x1024, .f32⟩
  | 5 => ⟨S1x1024, .f32⟩
  | 6 => ⟨S16384x1024, .f32⟩
  | 7 => ⟨S16384x1024, .f32⟩
  | 8 => ⟨S16384x1024, .f32⟩
  | 9 => ⟨S16384x1024, .f32⟩
  | 10 => ⟨S_, .f32⟩
  | 11 => ⟨S16384x1024, .f32⟩
  | 12 => ⟨S16384x1024, .f32⟩
  | 13 => ⟨S_, .f32⟩
  | 14 => ⟨S16384x1024, .f32⟩
  | 15 => ⟨S16384x1024, .f32⟩
  | 16 => ⟨S16384x1024, .f32⟩
  | 17 => ⟨S16384x1024, .f32⟩
  | 18 => ⟨S1x1024, .f32⟩
  | 19 => ⟨S16384x1024, .f32⟩
  | 20 => ⟨S16384x1024, .f32⟩
  | 21 => ⟨S16384x1024, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S16384x1024, .f32⟩
  | 29 => ⟨S16384x1024, .f32⟩
  | 30 => ⟨S16384x1024, .f32⟩
  | 31 => ⟨S_, .f32⟩
  | 32 => ⟨S16384, .f32⟩
  | 33 => ⟨S16384x1, .f32⟩
  | 34 => ⟨S_, .f32⟩
  | 35 => ⟨S16384x1, .f32⟩
  | 36 => ⟨S16384x1, .f32⟩
  | 37 => ⟨S16384x1024, .f32⟩
  | 38 => ⟨S16384x1024, .f32⟩
  | 39 => ⟨S_, .f32⟩
  | 40 => ⟨S16384x1, .f32⟩
  | 41 => ⟨S16384x1, .f32⟩
  | 42 => ⟨S16384x1, .f32⟩
  | 43 => ⟨S16384x1024, .f32⟩
  | 44 => ⟨S16384x1024, .f32⟩
  | 45 => ⟨S1x1024, .f32⟩
  | 46 => ⟨S16384x1024, .f32⟩
  | 47 => ⟨S16384x1024, .f32⟩
  | 48 => ⟨S1x1024, .f32⟩
  | 49 => ⟨S16384x1024, .f32⟩
  | 50 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_cst : Ref sig .tc := ⟨.hbm, 232, rfl⟩
abbrev main_v220 : Ref sig .tc := ⟨.hbm, 233, rfl⟩
abbrev main_v221 : Ref sig .tc := ⟨.hbm, 234, rfl⟩
abbrev main_cst_0 : Ref sig .tc := ⟨.hbm, 235, rfl⟩
abbrev main_v222 : Ref sig .tc := ⟨.hbm, 236, rfl⟩
abbrev main_v223 : Ref sig .tc := ⟨.hbm, 237, rfl⟩
abbrev main_cst_1 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_cst_2 : Ref sig .tc := ⟨.hbm, 244, rfl⟩
abbrev main_v229 : Ref sig .tc := ⟨.hbm, 245, rfl⟩
abbrev main_v230 : Ref sig .tc := ⟨.hbm, 246, rfl⟩
abbrev main_cst_3 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_cst_4 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_call1_v0 : Ref sig .tc := ⟨.hbm, 264, rfl⟩
abbrev main_call1_v1 : Ref sig .tc := ⟨.hbm, 265, rfl⟩
abbrev main_call1_cst : Ref sig .tc := ⟨.hbm, 266, rfl⟩
abbrev main_call1_v2 : Ref sig .tc := ⟨.hbm, 267, rfl⟩
abbrev main_call1_v3 : Ref sig .tc := ⟨.hbm, 268, rfl⟩
abbrev main_call1_cst_0 : Ref sig .tc := ⟨.hbm, 269, rfl⟩
abbrev main_call1_v4 : Ref sig .tc := ⟨.hbm, 270, rfl⟩
abbrev main_call1_v5 : Ref sig .tc := ⟨.hbm, 271, rfl⟩
abbrev main_v246 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_cst_5 : Ref sig .tc := ⟨.hbm, 278, rfl⟩
abbrev main_v252 : Ref sig .tc := ⟨.hbm, 279, rfl⟩
abbrev main_v253 : Ref sig .tc := ⟨.hbm, 280, rfl⟩
abbrev main_cst_6 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_v258 : Ref sig .tc := ⟨.hbm, 286, rfl⟩
abbrev main_cst_7 : Ref sig .tc := ⟨.hbm, 287, rfl⟩
abbrev main_v259 : Ref sig .tc := ⟨.hbm, 288, rfl⟩
abbrev main_v260 : Ref sig .tc := ⟨.hbm, 289, rfl⟩
abbrev main_cst_8 : Ref sig .tc := ⟨.hbm, 290, rfl⟩
abbrev main_v261 : Ref sig .tc := ⟨.hbm, 291, rfl⟩
abbrev main_v262 : Ref sig .tc := ⟨.hbm, 292, rfl⟩
abbrev main_v263 : Ref sig .tc := ⟨.hbm, 293, rfl⟩
abbrev main_v264 : Ref sig .tc := ⟨.hbm, 294, rfl⟩
abbrev main_cst_9 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩

abbrev nD : Nat := 1
abbrev τ : Topo := Topo.v7x

variable {F : FTy → Type} [FloatOps F]
-- ==== Kernel14.lean ====
abbrev S1024x512 : Shape := ⟨2, ![1024, 512]⟩
abbrev S256x1024 : Shape := ⟨2, ![256, 1024]⟩
abbrev S128x512 : Shape := ⟨2, ![128, 512]⟩
abbrev S32x1024 : Shape := ⟨2, ![32, 1024]⟩

abbrev nBuf : Space → Nat
  | .hbm => 14
  | .vmem => 28
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S256x1024, .f32⟩
  | .hbm, ⟨12, _⟩ => ⟨S256x1024, .f32⟩
  | .hbm, ⟨13, _⟩ => ⟨S256x1024, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S32x1024, .f32⟩
  | .local _ .vmem, ⟨23, _⟩ => ⟨S32x1024, .f32⟩
  | .local _ .vmem, ⟨24, _⟩ => ⟨S32x1024, .f32⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel14Ideal.lean ====
abbrev S1024x512 : Shape := ⟨2, ![1024, 512]⟩
abbrev S256x1024 : Shape := ⟨2, ![256, 1024]⟩
abbrev S128x512 : Shape := ⟨2, ![128, 512]⟩
abbrev S32x1024 : Shape := ⟨2, ![32, 1024]⟩

abbrev nBuf : Space → Nat
  | .hbm => 14
  | .vmem => 28
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S256x1024, .f32⟩
  | .hbm, ⟨12, _⟩ => ⟨S256x1024, .f32⟩
  | .hbm, ⟨13, _⟩ => ⟨S256x1024, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S32x1024, .f32⟩
  | .local _ .vmem, ⟨23, _⟩ => ⟨S32x1024, .f32⟩
  | .local _ .vmem, ⟨24, _⟩ => ⟨S32x1024, .f32⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference14Ideal.lean ====
abbrev S1024x512 : Shape := ⟨2, ![1024, 512]⟩
abbrev S256x1024 : Shape := ⟨2, ![256, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .f32⟩
  | .hbm, ⟨57, _⟩ => ⟨S256x1024, .f32⟩
  | .hbm, ⟨58, _⟩ => ⟨S256x1024, .f32⟩
  | .hbm, ⟨59, _⟩ => ⟨S_, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S_, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S_, .f32⟩
  | .hbm, ⟨72, _⟩ => ⟨S256x1024, .f32⟩
  | .hbm, ⟨73, _⟩ => ⟨S256x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel15.lean ====
abbrev S256x128 : Shape := ⟨2, ![256, 128]⟩
abbrev S32x128 : Shape := ⟨2, ![32, 128]⟩

abbrev nBuf : Space → Nat
  | .hbm => 14
  | .vmem => 28
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S256x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .vmem, ⟨17, _⟩ => ⟨S32x128, .f32⟩
  | .local _ .vmem, ⟨18, _⟩ => ⟨S32x128, .f32⟩
  | .local _ .vmem, ⟨19, _⟩ => ⟨S32x128, .f32⟩
  | .local _ .vmem, ⟨20, _⟩ => ⟨S32x128, .f32⟩
  | .local _ .vmem, ⟨21, _⟩ => ⟨S32x128, .f32⟩
  | .local _ .vmem, ⟨22, _⟩ => ⟨S32x128, .f32⟩
  | .local _ .vmem, ⟨23, _⟩ => ⟨S32x128, .f32⟩
  | .local _ .vmem, ⟨24, _⟩ => ⟨S32x128, .f32⟩
  | .local _ .vmem, ⟨25, _⟩ => ⟨S32x128, .f32⟩
  | .local _ .vmem, ⟨26, _⟩ => ⟨S32x128, .f32⟩
  | .local _ .vmem, ⟨27, _⟩ => ⟨S32x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel15Ideal.lean ====
abbrev S256x128 : Shape := ⟨2, ![256, 128]⟩
abbrev S32x128 : Shape := ⟨2, ![32, 128]⟩

abbrev nBuf : Space → Nat
  | .hbm => 14
  | .vmem => 28
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S256x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .vmem, ⟨17, _⟩ => ⟨S32x128, .f32⟩
  | .local _ .vmem, ⟨18, _⟩ => ⟨S32x128, .f32⟩
  | .local _ .vmem, ⟨19, _⟩ => ⟨S32x128, .f32⟩
  | .local _ .vmem, ⟨20, _⟩ => ⟨S32x128, .f32⟩
  | .local _ .vmem, ⟨21, _⟩ => ⟨S32x128, .f32⟩
  | .local _ .vmem, ⟨22, _⟩ => ⟨S32x128, .f32⟩
  | .local _ .vmem, ⟨23, _⟩ => ⟨S32x128, .f32⟩
  | .local _ .vmem, ⟨24, _⟩ => ⟨S32x128, .f32⟩
  | .local _ .vmem, ⟨25, _⟩ => ⟨S32x128, .f32⟩
  | .local _ .vmem, ⟨26, _⟩ => ⟨S32x128, .f32⟩
  | .local _ .vmem, ⟨27, _⟩ => ⟨S32x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference15Ideal.lean ====
abbrev S256x128 : Shape := ⟨2, ![256, 128]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S_, .f32⟩
  | .hbm, ⟨9, _⟩ => ⟨S256x128, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S_, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S_, .f32⟩
  | .hbm, ⟨20, _⟩ => ⟨S256x128, .f32⟩
  | .hbm, ⟨21, _⟩ => ⟨S256x128, .f32⟩
  | .hbm, ⟨22, _⟩ => ⟨S256x128, .f32⟩
  | .hbm, ⟨23, _⟩ => ⟨S_, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S256x128, .f32⟩
  | .hbm, ⟨32, _⟩ => ⟨S256x128, .f32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S256x128, .f32⟩
  | .hbm, ⟨37, _⟩ => ⟨S256x128, .f32⟩
  | .hbm, ⟨38, _⟩ => ⟨S_, .f32⟩
  | .hbm, ⟨39, _⟩ => ⟨S256x128, .f32⟩
  | .hbm, ⟨40, _⟩ => ⟨S256x128, .f32⟩
  | .hbm, ⟨41, _⟩ => ⟨S_, .f32⟩
  | .hbm, ⟨42, _⟩ => ⟨S256x128, .f32⟩
  | .hbm, ⟨43, _⟩ => ⟨S256x128, .f32⟩
  | .hbm, ⟨44, _⟩ => ⟨S_, .f32⟩
  | .hbm, ⟨45, _⟩ => ⟨S256x128, .f32⟩
  | .hbm, ⟨46, _⟩ => ⟨S256x128, .f32⟩
  | .hbm, ⟨47, _⟩ => ⟨S256x128, .f32⟩
  | .hbm, ⟨48, _⟩ => ⟨S_, .f32⟩
  | .hbm, ⟨49, _⟩ => ⟨S256x128, .f32⟩
  | .hbm, ⟨50, _⟩ => ⟨S256x128, .f32⟩
  | .hbm, ⟨51, _⟩ => ⟨S256x128, .f32⟩
  | .hbm, ⟨52, _⟩ => ⟨S_, .f32⟩
  | .hbm, ⟨53, _⟩ => ⟨S256x128, .f32⟩
  | .hbm, ⟨54, _⟩ => ⟨S256x128, .f32⟩
  | .hbm, ⟨55, _⟩ => ⟨S256x128, .f32⟩
  | .hbm, ⟨56, _⟩ => ⟨S_, .f32⟩
  | .hbm, ⟨57, _⟩ => ⟨S256x128, .f32⟩
  | .hbm, ⟨58, _⟩ => ⟨S256x128, .f32⟩
  | .hbm, ⟨59, _⟩ => ⟨S_, .f32⟩
  | .hbm, ⟨60, _⟩ => ⟨S256x128, .f32⟩
  | .hbm, ⟨61, _⟩ => ⟨S256x128, .f32⟩
  | .hbm, ⟨62, _⟩ => ⟨S256x128, .f32⟩
  | .hbm, ⟨63, _⟩ => ⟨S_, .f32⟩
  | .hbm, ⟨64, _⟩ => ⟨S256x128, .f32⟩
  | .hbm, ⟨65, _⟩ => ⟨S256x128, .f32⟩
  | .hbm, ⟨66, _⟩ => ⟨S256x128, .f32⟩
  | .hbm, ⟨67, _⟩ => ⟨S_, .f32⟩
  | .hbm, ⟨68, _⟩ => ⟨S256x128, .f32⟩
  | .hbm, ⟨69, _⟩ => ⟨S256x128, .f32⟩
  | .hbm, ⟨70, _⟩ => ⟨S256x128, .f32⟩
  | .hbm, ⟨71, _⟩ => ⟨S_, .f32⟩
  | .hbm, ⟨72, _⟩ => ⟨S256x128, .f32⟩
  | .hbm, ⟨73, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel16.lean ====
abbrev S192x128 : Shape := ⟨2, ![192, 128]⟩
abbrev S24x128 : Shape := ⟨2, ![24, 128]⟩

abbrev nBuf : Space → Nat
  | .hbm => 7
  | .vmem => 14
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S192x128, .f32⟩
  | .hbm, ⟨5, _⟩ => ⟨S192x128, .f32⟩
  | .hbm, ⟨6, _⟩ => ⟨S192x128, .f32⟩
  | .local _ .vmem, ⟨0, _⟩ => ⟨S24x128, .f32⟩
  | .local _ .vmem, ⟨1, _⟩ => ⟨S24x128, .f32⟩
  | .local _ .vmem, ⟨2, _⟩ => ⟨S24x128, .f32⟩
  | .local _ .vmem, ⟨3, _⟩ => ⟨S24x128, .f32⟩
  | .local _ .vmem, ⟨4, _⟩ => ⟨S24x128, .f32⟩
  | .local _ .vmem, ⟨5, _⟩ => ⟨S24x128, .f32⟩
  | .local _ .vmem, ⟨6, _⟩ => ⟨S24x128, .f32⟩
  | .local _ .vmem, ⟨7, _⟩ => ⟨S24x128, .f32⟩
  | .local _ .vmem, ⟨8, _⟩ => ⟨S24x128, .f32⟩
  | .local _ .vmem, ⟨9, _⟩ => ⟨S24x128, .f32⟩
  | .local _ .vmem, ⟨10, _⟩ => ⟨S24x128, .f32⟩
  | .local _ .vmem, ⟨11, _⟩ => ⟨S24x128, .f32⟩
  | .local _ .vmem, ⟨12, _⟩ => ⟨S24x128, .f32⟩
  | .local _ .vmem, ⟨13, _⟩ => ⟨S24x128, .f32⟩
  | _, _ => ⟨S192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S24x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S24x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S24x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
abbrev S192x128 : Shape := ⟨2, ![192, 128]⟩
abbrev S24x128 : Shape := ⟨2, ![24, 128]⟩

abbrev nBuf : Space → Nat
  | .hbm => 7
  | .vmem => 14
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S192x128, .f32⟩
  | .hbm, ⟨5, _⟩ => ⟨S192x128, .f32⟩
  | .hbm, ⟨6, _⟩ => ⟨S192x128, .f32⟩
  | .local _ .vmem, ⟨0, _⟩ => ⟨S24x128, .f32⟩
  | .local _ .vmem, ⟨1, _⟩ => ⟨S24x128, .f32⟩
  | .local _ .vmem, ⟨2, _⟩ => ⟨S24x128, .f32⟩
  | .local _ .vmem, ⟨3, _⟩ => ⟨S24x128, .f32⟩
  | .local _ .vmem, ⟨4, _⟩ => ⟨S24x128, .f32⟩
  | .local _ .vmem, ⟨5, _⟩ => ⟨S24x128, .f32⟩
  | .local _ .vmem, ⟨6, _⟩ => ⟨S24x128, .f32⟩
  | .local _ .vmem, ⟨7, _⟩ => ⟨S24x128, .f32⟩
  | .local _ .vmem, ⟨8, _⟩ => ⟨S24x128, .f32⟩
  | .local _ .vmem, ⟨9, _⟩ => ⟨S24x128, .f32⟩
  | .local _ .vmem, ⟨10, _⟩ => ⟨S24x128, .f32⟩
  | .local _ .vmem, ⟨11, _⟩ => ⟨S24x128, .f32⟩
  | .local _ .vmem, ⟨12, _⟩ => ⟨S24x128, .f32⟩
  | .local _ .vmem, ⟨13, _⟩ => ⟨S24x128, .f32⟩
  | _, _ => ⟨S192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S24x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S24x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S24x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S192x128 : Shape := ⟨2, ![192, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S_, .f32⟩
  | .hbm, ⟨5, _⟩ => ⟨S192x128, .f32⟩
  | .hbm, ⟨6, _⟩ => ⟨S192x128, .f32⟩
  | .hbm, ⟨7, _⟩ => ⟨S_, .f32⟩
  | .hbm, ⟨8, _⟩ => ⟨S192x128, .f32⟩
  | .hbm, ⟨9, _⟩ => ⟨S192x128, .f32⟩
  | .hbm, ⟨10, _⟩ => ⟨S192x128, .f32⟩
  | .hbm, ⟨11, _⟩ => ⟨S_, .f32⟩
  | .hbm, ⟨12, _⟩ => ⟨S192x128, .f32⟩
  | .hbm, ⟨13, _⟩ => ⟨S192x128, .f32⟩
  | .hbm, ⟨14, _⟩ => ⟨S192x128, .f32⟩
  | .hbm, ⟨15, _⟩ => ⟨S_, .f32⟩
  | .hbm, ⟨16, _⟩ => ⟨S192x128, .f32⟩
  | .hbm, ⟨17, _⟩ => ⟨S192x128, .f32⟩
  | .hbm, ⟨18, _⟩ => ⟨S192x128, .f32⟩
  | .hbm, ⟨19, _⟩ => ⟨S_, .f32⟩
  | .hbm, ⟨20, _⟩ => ⟨S192x128, .f32⟩
  | .hbm, ⟨21, _⟩ => ⟨S192x128, .f32⟩
  | .hbm, ⟨22, _⟩ => ⟨S_, .f32⟩
  | .hbm, ⟨23, _⟩ => ⟨S192x128, .f32⟩
  | .hbm, ⟨24, _⟩ => ⟨S192x128, .f32⟩
  | .hbm, ⟨25, _⟩ => ⟨S192x128, .f32⟩
  | .hbm, ⟨26, _⟩ => ⟨S_, .f32⟩
  | .hbm, ⟨27, _⟩ => ⟨S192x128, .f32⟩
  | .hbm, ⟨28, _⟩ => ⟨S192x128, .f32⟩
  | .hbm, ⟨29, _⟩ => ⟨S192x128, .f32⟩
  | .hbm, ⟨30, _⟩ => ⟨S_, .f32⟩
  | .hbm, ⟨31, _⟩ => ⟨S192x128, .f32⟩
  | .hbm, ⟨32, _⟩ => ⟨S192x128, .f32⟩
  | .hbm, ⟨33, _⟩ => ⟨S192x128, .f32⟩
  | .hbm, ⟨34, _⟩ => ⟨S_, .f32⟩
  | .hbm, ⟨35, _⟩ => ⟨S192x128, .f32⟩
  | .hbm, ⟨36, _⟩ => ⟨S192x128, .f32⟩
  | _, _ => ⟨S192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2048x704 : Shape := ⟨2, ![2048, 704]⟩
abbrev S1408x1024 : Shape := ⟨2, ![1408, 1024]⟩
abbrev S256x704 : Shape := ⟨2, ![256, 704]⟩
abbrev S176x1024 : Shape := ⟨2, ![176, 1024]⟩

abbrev nBuf : Space → Nat
  | .hbm => 21
  | .vmem => 42
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S2048x704, .f32⟩
  | .hbm, ⟨16, _⟩ => ⟨S2048x704, .f32⟩
  | .hbm, ⟨17, _⟩ => ⟨S2048x704, .f32⟩
  | .hbm, ⟨18, _⟩ => ⟨S1408x1024, .f32⟩
  | .hbm, ⟨19, _⟩ => ⟨S1408x1024, .f32⟩
  | .hbm, ⟨20, _⟩ => ⟨S1408x1024, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S256x704, .f32⟩
  | .local _ .vmem, ⟨25, _⟩ => ⟨S256x704, .f32⟩
  | .local _ .vmem, ⟨26, _⟩ => ⟨S256x704, .f32⟩
  | .local _ .vmem, ⟨27, _⟩ => ⟨S256x704, .f32⟩
  | .local _ .vmem, ⟨28, _⟩ => ⟨S256x704, .f32⟩
  | .local _ .vmem, ⟨29, _⟩ => ⟨S256x704, .f32⟩
  | .local _ .vmem, ⟨30, _⟩ => ⟨S256x704, .f32⟩
  | .local _ .vmem, ⟨31, _⟩ => ⟨S256x704, .f32⟩
  | .local _ .vmem, ⟨32, _⟩ => ⟨S256x704, .f32⟩
  | .local _ .vmem, ⟨33, _⟩ => ⟨S256x704, .f32⟩
  | .local _ .vmem, ⟨34, _⟩ => ⟨S256x704, .f32⟩
  | .local _ .vmem, ⟨35, _⟩ => ⟨S256x704, .f32⟩
  | .local _ .vmem, ⟨36, _⟩ => ⟨S176x1024, .f32⟩
  | .local _ .vmem, ⟨37, _⟩ => ⟨S176x1024, .f32⟩
  | .local _ .vmem, ⟨38, _⟩ => ⟨S176x1024, .f32⟩
  | .local _ .vmem, ⟨39, _⟩ => ⟨S176x1024, .f32⟩
  | .local _ .vmem, ⟨40, _⟩ => ⟨S176x1024, .f32⟩
  | .local _ .vmem, ⟨41, _⟩ => ⟨S176x1024, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x704 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x704 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x704 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x704 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x704 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x704 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S176x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S176x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S176x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel17Ideal.lean ====
abbrev S2048x704 : Shape := ⟨2, ![2048, 704]⟩
abbrev S1408x1024 : Shape := ⟨2, ![1408, 1024]⟩
abbrev S256x704 : Shape := ⟨2, ![256, 704]⟩
abbrev S176x1024 : Shape := ⟨2, ![176, 1024]⟩

abbrev nBuf : Space → Nat
  | .hbm => 21
  | .vmem => 42
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S2048x704, .f32⟩
  | .hbm, ⟨16, _⟩ => ⟨S2048x704, .f32⟩
  | .hbm, ⟨17, _⟩ => ⟨S2048x704, .f32⟩
  | .hbm, ⟨18, _⟩ => ⟨S1408x1024, .f32⟩
  | .hbm, ⟨19, _⟩ => ⟨S1408x1024, .f32⟩
  | .hbm, ⟨20, _⟩ => ⟨S1408x1024, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S256x704, .f32⟩
  | .local _ .vmem, ⟨25, _⟩ => ⟨S256x704, .f32⟩
  | .local _ .vmem, ⟨26, _⟩ => ⟨S256x704, .f32⟩
  | .local _ .vmem, ⟨27, _⟩ => ⟨S256x704, .f32⟩
  | .local _ .vmem, ⟨28, _⟩ => ⟨S256x704, .f32⟩
  | .local _ .vmem, ⟨29, _⟩ => ⟨S256x704, .f32⟩
  | .local _ .vmem, ⟨30, _⟩ => ⟨S256x704, .f32⟩
  | .local _ .vmem, ⟨31, _⟩ => ⟨S256x704, .f32⟩
  | .local _ .vmem, ⟨32, _⟩ => ⟨S256x704, .f32⟩
  | .local _ .vmem, ⟨33, _⟩ => ⟨S256x704, .f32⟩
  | .local _ .vmem, ⟨34, _⟩ => ⟨S256x704, .f32⟩
  | .local _ .vmem, ⟨35, _⟩ => ⟨S256x704, .f32⟩
  | .local _ .vmem, ⟨36, _⟩ => ⟨S176x1024, .f32⟩
  | .local _ .vmem, ⟨37, _⟩ => ⟨S176x1024, .f32⟩
  | .local _ .vmem, ⟨38, _⟩ => ⟨S176x1024, .f32⟩
  | .local _ .vmem, ⟨39, _⟩ => ⟨S176x1024, .f32⟩
  | .local _ .vmem, ⟨40, _⟩ => ⟨S176x1024, .f32⟩
  | .local _ .vmem, ⟨41, _⟩ => ⟨S176x1024, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x704 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x704 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x704 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x704 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x704 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x704 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S176x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S176x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S176x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference17Ideal.lean ====
abbrev S2048x704 : Shape := ⟨2, ![2048, 704]⟩
abbrev S1408x1024 : Shape := ⟨2, ![1408, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S_, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S2048x704, .f32⟩
  | .hbm, ⟨23, _⟩ => ⟨S_, .f32⟩
  | .hbm, ⟨24, _⟩ => ⟨S2048x704, .f32⟩
  | .hbm, ⟨25, _⟩ => ⟨S2048x704, .f32⟩
  | .hbm, ⟨26, _⟩ => ⟨S2048x704, .f32⟩
  | .hbm, ⟨27, _⟩ => ⟨S_, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | .hbm, ⟨37, _⟩ => ⟨S2048x704, .f32⟩
  | .hbm, ⟨38, _⟩ => ⟨S_, .f32⟩
  | .hbm, ⟨39, _⟩ => ⟨S2048x704, .f32⟩
  | .hbm, ⟨40, _⟩ => ⟨S2048x704, .f32⟩
  | .hbm, ⟨41, _⟩ => ⟨S2048x704, .f32⟩
  | .hbm, ⟨42, _⟩ => ⟨S_, .f32⟩
  | .hbm, ⟨43, _⟩ => ⟨S2048x704, .f32⟩
  | .hbm, ⟨44, _⟩ => ⟨S2048x704, .f32⟩
  | .hbm, ⟨45, _⟩ => ⟨S_, .f32⟩
  | .hbm, ⟨46, _⟩ => ⟨S2048x704, .f32⟩
  | .hbm, ⟨47, _⟩ => ⟨S2048x704, .f32⟩
  | .hbm, ⟨48, _⟩ => ⟨S_, .f32⟩
  | .hbm, ⟨49, _⟩ => ⟨S2048x704, .f32⟩
  | .hbm, ⟨50, _⟩ => ⟨S2048x704, .f32⟩
  | .hbm, ⟨51, _⟩ => ⟨S2048x704, .f32⟩
  | .hbm, ⟨52, _⟩ => ⟨S_, .f32⟩
  | .hbm, ⟨53, _⟩ => ⟨S2048x704, .f32⟩
  | .hbm, ⟨54, _⟩ => ⟨S2048x704, .f32⟩
  | .hbm, ⟨55, _⟩ => ⟨S2048x704, .f32⟩
  | .hbm, ⟨56, _⟩ => ⟨S_, .f32⟩
  | .hbm, ⟨57, _⟩ => ⟨S2048x704, .f32⟩
  | .hbm, ⟨58, _⟩ => ⟨S2048x704, .f32⟩
  | .hbm, ⟨59, _⟩ => ⟨S2048x704, .f32⟩
  | .hbm, ⟨60, _⟩ => ⟨S_, .f32⟩
  | .hbm, ⟨61, _⟩ => ⟨S2048x704, .f32⟩
  | .hbm, ⟨62, _⟩ => ⟨S2048x704, .f32⟩
  | .hbm, ⟨63, _⟩ => ⟨S_, .f32⟩
  | .hbm, ⟨64, _⟩ => ⟨S2048x704, .f32⟩
  | .hbm, ⟨65, _⟩ => ⟨S2048x704, .f32⟩
  | .hbm, ⟨66, _⟩ => ⟨S2048x704, .f32⟩
  | .hbm, ⟨67, _⟩ => ⟨S_, .f32⟩
  | .hbm, ⟨68, _⟩ => ⟨S2048x704, .f32⟩
  | .hbm, ⟨69, _⟩ => ⟨S2048x704, .f32⟩
  | .hbm, ⟨70, _⟩ => ⟨S2048x704, .f32⟩
  | .hbm, ⟨71, _⟩ => ⟨S_, .f32⟩
  | .hbm, ⟨72, _⟩ => ⟨S2048x704, .f32⟩
  | .hbm, ⟨73, _⟩ => ⟨S2048x704, .f32⟩
  | .hbm, ⟨74, _⟩ => ⟨S2048x704, .f32⟩
  | .hbm, ⟨75, _⟩ => ⟨S_, .f32⟩
  | .hbm, ⟨76, _⟩ => ⟨S2048x704, .f32⟩
  | .hbm, ⟨77, _⟩ => ⟨S2048x704, .f32⟩
  | .hbm, ⟨78, _⟩ => ⟨S_, .f32⟩
  | .hbm, ⟨79, _⟩ => ⟨S1408x1024, .f32⟩
  | .hbm, ⟨80, _⟩ => ⟨S1408x1024, .f32⟩
  | .hbm, ⟨81, _⟩ => ⟨S_, .f32⟩
  | .hbm, ⟨82, _⟩ => ⟨S1408x1024, .f32⟩
  | .hbm, ⟨83, _⟩ => ⟨S1408x1024, .f32⟩
  | .hbm, ⟨84, _⟩ => ⟨S1408x1024, .f32⟩
  | .hbm, ⟨85, _⟩ => ⟨S_, .f32⟩
  | .hbm, ⟨86, _⟩ => ⟨S1408x1024, .f32⟩
  | .hbm, ⟨87, _⟩ => ⟨S1408x1024, .f32⟩
  | .hbm, ⟨88, _⟩ => ⟨S1408x1024, .f32⟩
  | .hbm, ⟨89, _⟩ => ⟨S_, .f32⟩
  | .hbm, ⟨90, _⟩ => ⟨S1408x1024, .f32⟩
  | .hbm, ⟨91, _⟩ => ⟨S1408x1024, .f32⟩
  | .hbm, ⟨92, _⟩ => ⟨S1408x1024, .f32⟩
  | .hbm, ⟨93, _⟩ => ⟨S_, .f32⟩
  | .hbm, ⟨94, _⟩ => ⟨S1408x1024, .f32⟩
  | .hbm, ⟨95, _⟩ => ⟨S1408x1024, .f32⟩
  | .hbm, ⟨96, _⟩ => ⟨S_, .f32⟩
  | .hbm, ⟨97, _⟩ => ⟨S1408x1024, .f32⟩
  | .hbm, ⟨98, _⟩ => ⟨S1408x1024, .f32⟩
  | .hbm, ⟨99, _⟩ => ⟨S1408x1024, .f32⟩
  | .hbm, ⟨100, _⟩ => ⟨S_, .f32⟩
  | .hbm, ⟨101, _⟩ => ⟨S1408x1024, .f32⟩
  | .hbm, ⟨102, _⟩ => ⟨S1408x1024, .f32⟩
  | .hbm, ⟨103, _⟩ => ⟨S1408x1024, .f32⟩
  | .hbm, ⟨104, _⟩ => ⟨S_, .f32⟩
  | .hbm, ⟨105, _⟩ => ⟨S1408x1024, .f32⟩
  | .hbm, ⟨106, _⟩ => ⟨S1408x1024, .f32⟩
  | .hbm, ⟨107, _⟩ => ⟨S1408x1024, .f32⟩
  | .hbm, ⟨108, _⟩ => ⟨S_, .f32⟩
  | .hbm, ⟨109, _⟩ => ⟨S1408x1024, .f32⟩
  | .hbm, ⟨110, _⟩ => ⟨S1408x1024, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel18.lean ====
abbrev S256x1024 : Shape := ⟨2, ![256, 1024]⟩
abbrev S32x1024 : Shape := ⟨2, ![32, 1024]⟩

abbrev nBuf : Space → Nat
  | .hbm => 14
  | .vmem => 28
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | .local _ .vmem, ⟨22, _⟩ => ⟨S32x1024, .f32⟩
  | .local _ .vmem, ⟨23, _⟩ => ⟨S32x1024, .f32⟩
  | .local _ .vmem, ⟨24, _⟩ => ⟨S32x1024, .f32⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference18Ideal.lean ====
abbrev S256x1024 : Shape := ⟨2, ![256, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .f32⟩
  | .hbm, ⟨57, _⟩ => ⟨S256x1024, .f32⟩
  | .hbm, ⟨58, _⟩ => ⟨S256x1024, .f32⟩
  | .hbm, ⟨59, _⟩ => ⟨S_, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S_, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S_, .f32⟩
  | .hbm, ⟨72, _⟩ => ⟨S256x1024, .f32⟩
  | .hbm, ⟨73, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.Math.lean ====
module

public import Idealize.ShloMosaic.Lib.Pipeline.ValueKit.Point
public import Idealize.ShloMosaic.Lib.IdealHost
public import Idealize.ShloMosaic.PureOps.Ideal.Laws

/-! # The gradient of the feed-forward sub-layer, in real numbers

For one row `z` of the residual stream the layer norm is `hat z * g + b`; its input gradient at a cotangent `w` of `hat z` is
`lnb z w`. `In` holds the eight arrays of the sub-layer as real numbers and names each quantity of its forward pass and
of its gradient. The lemmas after it carry the ideal operations over to real numbers. -/

@[expose] public section

noncomputable section

namespace Cert.Ffn

open Idealize.ShloMosaic

/-- The residual's scale: the rational its literal is. -/
def al : ℝ := (Ideal.ofBits .f32 0x3FB504F3#32).toReal

/-- The layer norm's epsilon: the rational its literal is. -/
def eps : ℝ := (Ideal.ofBits .f32 0x3727C5AC#32).toReal

theorem ofBits_al : Ideal.ofBits .f32 0x3FB504F3#32 = (al : EReal) := by
  unfold al
  simp [Ideal.ofBits, Ideal.ieee, -EReal.coe_mul]

theorem ofBits_eps : Ideal.ofBits .f32 0x3727C5AC#32 = (eps : EReal) := by
  unfold eps
  simp [Ideal.ofBits, Ideal.ieee, -EReal.coe_mul]

theorem eps_pos : 0 < eps := by
  unfold eps
  simp [Ideal.ofBits, Ideal.ieee, -EReal.coe_mul]

theorem ofBits_1024 : Ideal.ofBits .f32 0x44800000#32 = ((1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_one : Ideal.ofBits .f32 0x3F800000#32 = ((1 : ℝ) : EReal) := by
  simp [Ideal.ofBits, Ideal.ieee, -EReal.coe_mul]; norm_num

/-- A finite sum of reals, read in the extended reals. -/
theorem coe_sum {ι : Type*} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

theorem div_1024 (a : ℝ) : Ideal.div (a : EReal) ((1024 : ℝ) : EReal) = ((a / 1024 : ℝ) : EReal) := by
  rw [Ideal.div_coe (by norm_num), ← EReal.coe_mul]; congr 1; ring

theorem div_pos {x y : ℝ} (hy : 0 < y) : Ideal.div (x : EReal) (y : EReal) = ((x / y : ℝ) : EReal) := by
  rw [Ideal.div_coe (ne_of_gt hy), ← EReal.coe_mul]; congr 1; ring

theorem rsqrt_pos {x : ℝ} (hx : 0 < x) : Ideal.rsqrt (x : EReal) = (((√x)⁻¹ : ℝ) : EReal) := by
  rw [Ideal.rsqrt_coe, if_neg (not_lt.mpr hx.le), if_neg hx.ne']

/-- The reciprocal standard deviation as the programs write it. -/
theorem rsqrt_row (z : Fin 1024 → ℝ) :
    Ideal.rsqrt (((∑ x, (z x - (∑ x, z x) / 1024) * (z x - (∑ x, z x) / 1024)) / 1024 + eps : ℝ) : EReal)
      = (((√((∑ x, (z x - (∑ x, z x) / 1024) * (z x - (∑ x, z x) / 1024)) / 1024 + eps))⁻¹ : ℝ) : EReal) :=
  rsqrt_pos (add_pos_of_nonneg_of_pos (div_nonneg (Finset.sum_nonneg fun k _ => mul_self_nonneg _) (by norm_num)) eps_pos)

/-- The logistic function as the programs write it. -/
theorem div_one_exp (a : ℝ) : Ideal.div 1 (1 + Ideal.exp (-(a : EReal))) = (((1 + Real.exp (-a))⁻¹ : ℝ) : EReal) := by
  rw [← EReal.coe_neg, Ideal.exp_coe, show (1 : EReal) = ((1 : ℝ) : EReal) from rfl, ← EReal.coe_add,
    div_pos (by positivity)]
  congr 1; exact one_div _

theorem one_add_coe (a : ℝ) : 1 + (a : EReal) = ((1 + a : ℝ) : EReal) := by rw [EReal.coe_add, EReal.coe_one]
theorem one_sub_coe (a : ℝ) : 1 - (a : EReal) = ((1 - a : ℝ) : EReal) := by rw [EReal.coe_sub, EReal.coe_one]

/-! ## One row -/

def mean (z : Fin 1024 → ℝ) : ℝ := (∑ k, z k) / 1024
def cen (z : Fin 1024 → ℝ) (k : Fin 1024) : ℝ := z k - mean z
def vare (z : Fin 1024 → ℝ) : ℝ := (∑ k, cen z k * cen z k) / 1024 + eps
def rstd (z : Fin 1024 → ℝ) : ℝ := (√(vare z))⁻¹
def hat (z : Fin 1024 → ℝ) (k : Fin 1024) : ℝ := cen z k * rstd z

/-- The layer norm's input gradient at the cotangent `w` of the normalised row. -/
def lnb (z w : Fin 1024 → ℝ) (k : Fin 1024) : ℝ :=
  rstd z * (w k - mean w - hat z k * mean (fun k => w k * hat z k))

theorem vare_pos (z : Fin 1024 → ℝ) : 0 < vare z :=
  add_pos_of_nonneg_of_pos (div_nonneg (Finset.sum_nonneg fun k _ => mul_self_nonneg _) (by norm_num)) eps_pos

def sig (a : ℝ) : ℝ := (1 + Real.exp (-a))⁻¹
def silu (a : ℝ) : ℝ := a * sig a
def dsilu (a : ℝ) : ℝ := sig a * (1 + a * (1 - sig a))

/-! ## The sub-layer -/

/-- The sub-layer's eight arrays, as real numbers: the residual, the bias before it, the norm's gain and bias, the three
weights and the cotangent of the sub-layer's sum. -/
structure In where
  r : Fin 16384 → Fin 1024 → ℝ
  bo : Fin 1024 → ℝ
  g : Fin 1024 → ℝ
  b : Fin 1024 → ℝ
  wg : Fin 1024 → Fin 2816 → ℝ
  wu : Fin 1024 → Fin 2816 → ℝ
  wd : Fin 2816 → Fin 1024 → ℝ
  ct : Fin 16384 → Fin 1024 → ℝ

namespace In

variable (I : In)

def z (t : Fin 16384) (k : Fin 1024) : ℝ := I.r t k + I.bo k
def x (t : Fin 16384) (k : Fin 1024) : ℝ := hat (I.z t) k * I.g k + I.b k
def gate (t : Fin 16384) (f : Fin 2816) : ℝ := ∑ k, I.x t k * I.wg k f
def up (t : Fin 16384) (f : Fin 2816) : ℝ := ∑ k, I.x t k * I.wu k f
def dh (t : Fin 16384) (f : Fin 2816) : ℝ := ∑ k, I.ct t k * I.wd f k
def dup (t : Fin 16384) (f : Fin 2816) : ℝ := I.dh t f * silu (I.gate t f)
def dgate (t : Fin 16384) (f : Fin 2816) : ℝ := I.dh t f * (I.up t f * dsilu (I.gate t f))
def dx (t : Fin 16384) (k : Fin 1024) : ℝ :=
  al * I.ct t k + ∑ f, I.dup t f * I.wu k f + ∑ f, I.dgate t f * I.wg k f
def dz (t : Fin 16384) (k : Fin 1024) : ℝ := lnb (I.z t) (fun k => I.dx t k * I.g k) k
def dg (k : Fin 1024) : ℝ := ∑ t, I.dx t k * hat (I.z t) k
def db (k : Fin 1024) : ℝ := ∑ t, I.dx t k
def ds (k : Fin 1024) : ℝ := ∑ t, I.dz t k

end In

/-- The eight arrays hold the real numbers of `I`, the weights at layer `L`. -/
structure Holds (L : Fin 2) (I : In) (x0 : (⟨2, ![16384, 1024]⟩ : Shape).Idx → EReal) (x1 x2 x3 : (⟨1, ![1024]⟩ : Shape).Idx → EReal)
    (x4 x5 : (⟨3, ![2, 1024, 2816]⟩ : Shape).Idx → EReal) (x6 : (⟨3, ![2, 2816, 1024]⟩ : Shape).Idx → EReal)
    (x7 : (⟨2, ![16384, 1024]⟩ : Shape).Idx → EReal) : Prop where
  r : ∀ t k, x0 (ix2 t k) = (I.r t k : EReal)
  bo : ∀ k, x1 (ix1 k) = (I.bo k : EReal)
  g : ∀ k, x2 (ix1 k) = (I.g k : EReal)
  b : ∀ k, x3 (ix1 k) = (I.b k : EReal)
  wg : ∀ k f, x4 (ix3 L k f) = (I.wg k f : EReal)
  wu : ∀ k f, x5 (ix3 L k f) = (I.wu k f : EReal)
  wd : ∀ f k, x6 (ix3 L f k) = (I.wd f k : EReal)
  ct : ∀ t k, x7 (ix2 t k) = (I.ct t k : EReal)

/-- Eight arrays without infinite entries hold real numbers. -/
theorem exists_holds (L : Fin 2) (x0 : (⟨2, ![16384, 1024]⟩ : Shape).Idx → EReal) (x1 x2 x3 : (⟨1, ![1024]⟩ : Shape).Idx → EReal)
    (x4 x5 : (⟨3, ![2, 1024, 2816]⟩ : Shape).Idx → EReal) (x6 : (⟨3, ![2, 2816, 1024]⟩ : Shape).Idx → EReal)
    (x7 : (⟨2, ![16384, 1024]⟩ : Shape).Idx → EReal) (h0 : ∀ i, x0 i ≠ ⊤ ∧ x0 i ≠ ⊥) (h1 : ∀ i, x1 i ≠ ⊤ ∧ x1 i ≠ ⊥)
    (h2 : ∀ i, x2 i ≠ ⊤ ∧ x2 i ≠ ⊥) (h3 : ∀ i, x3 i ≠ ⊤ ∧ x3 i ≠ ⊥) (h4 : ∀ i, x4 i ≠ ⊤ ∧ x4 i ≠ ⊥) (h5 : ∀ i, x5 i ≠ ⊤ ∧ x5 i ≠ ⊥)
    (h6 : ∀ i, x6 i ≠ ⊤ ∧ x6 i ≠ ⊥) (h7 : ∀ i, x7 i ≠ ⊤ ∧ x7 i ≠ ⊥) : ∃ I, Holds L I x0 x1 x2 x3 x4 x5 x6 x7 :=
  ⟨⟨fun t k => (x0 (ix2 t k)).toReal, fun k => (x1 (ix1 k)).toReal, fun k => (x2 (ix1 k)).toReal, fun k => (x3 (ix1 k)).toReal,
    fun k f => (x4 (ix3 L k f)).toReal, fun k f => (x5 (ix3 L k f)).toReal, fun f k => (x6 (ix3 L f k)).toReal,
    fun t k => (x7 (ix2 t k)).toReal⟩,
   ⟨fun t k => (EReal.coe_toReal (h0 _).1 (h0 _).2).symm, fun k => (EReal.coe_toReal (h1 _).1 (h1 _).2).symm,
    fun k => (EReal.coe_toReal (h2 _).1 (h2 _).2).symm, fun k => (EReal.coe_toReal (h3 _).1 (h3 _).2).symm,
    fun k f => (EReal.coe_toReal (h4 _).1 (h4 _).2).symm, fun k f => (EReal.coe_toReal (h5 _).1 (h5 _).2).symm,
    fun f k => (EReal.coe_toReal (h6 _).1 (h6 _).2).symm, fun t k => (EReal.coe_toReal (h7 _).1 (h7 _).2).symm⟩⟩

/-! ## Tiles: 32 tiles of 512 rows, 4 chips of 704 columns -/

def row (n : Fin 32) (r : Fin 512) : Fin 16384 := ⟨n.val * 512 + r.val, by omega⟩
def col (j : Fin 4) (f : Fin 704) : Fin 2816 := ⟨j.val * 704 + f.val, by omega⟩

theorem sum_col (f : Fin 2816 → ℝ) : ∑ i, f i = ∑ j : Fin 4, ∑ k : Fin 704, f (col j k) := by
  rw [← (finProdFinEquiv (m := 4) (n := 704)).sum_comp f, Fintype.sum_prod_type]
  refine Finset.sum_congr rfl fun j _ => Finset.sum_congr rfl fun k _ => congrArg f (Fin.ext ?_)
  simp [finProdFinEquiv, col]; omega

/-- A column sum over all rows, tile by tile and within a tile by row modulo 8. -/
theorem sum_row (f : Fin 16384 → ℝ) :
    ∑ i, f i = ∑ a : Fin 8, ∑ n : Fin 32, ∑ x : Fin 64, f (row n ⟨x.val * 8 + a.val, by omega⟩) := by
  rw [Finset.sum_comm, ← (finProdFinEquiv (m := 32) (n := 512)).sum_comp f, Fintype.sum_prod_type]
  refine Finset.sum_congr rfl fun n _ => ?_
  rw [Finset.sum_comm, ← (finProdFinEquiv (m := 64) (n := 8)).sum_comp fun k => f (finProdFinEquiv (n, k)), Fintype.sum_prod_type]
  refine Finset.sum_congr rfl fun j _ => Finset.sum_congr rfl fun k _ => congrArg f (Fin.ext ?_)
  simp [finProdFinEquiv, row]; omega

/-! ## The reverse pass of the layer norm -/

theorem sum_cen (z : Fin 1024 → ℝ) : ∑ k, cen z k = 0 := by
  simp only [cen, mean, Finset.sum_sub_distrib, Finset.sum_const, Finset.card_univ, Fintype.card_fin, nsmul_eq_mul]
  push_cast; ring

theorem rstd_sq (z : Fin 1024 → ℝ) : rstd z / vare z = rstd z * (rstd z * rstd z) := by
  have h : rstd z * rstd z = (vare z)⁻¹ := by
    unfold rstd
    rw [← mul_inv, Real.mul_self_sqrt (vare_pos z).le]
  rw [h]; rfl

/-- The cotangent of the centred row that arrives through the variance. -/
def viaVar (z w : Fin 1024 → ℝ) (k : Fin 1024) : ℝ :=
  (∑ k, cen z k * w k) * (-(1 / 2) * (rstd z / vare z)) / 1024 * (2 * cen z k)

/-- The reverse pass through the normalisation, the variance and the mean is `lnb`. -/
theorem lnb_of_reverse (z w : Fin 1024 → ℝ) (k : Fin 1024) :
    w k * rstd z + viaVar z w k + ((∑ k, -(w k * rstd z)) + ∑ k, -(viaVar z w k)) / 1024 = lnb z w k := by
  have h0 : ∑ k, -(viaVar z w k) = 0 := by
    rw [Finset.sum_neg_distrib]
    unfold viaVar
    rw [← Finset.mul_sum, ← Finset.mul_sum, sum_cen]; ring
  have h1 : ∑ k, -(w k * rstd z) = -((∑ k, w k) * rstd z) := by
    rw [Finset.sum_neg_distrib, Finset.sum_mul]
  have h2 : ∑ k, w k * hat z k = (∑ k, cen z k * w k) * rstd z := by
    rw [Finset.sum_mul]
    exact Finset.sum_congr rfl fun k _ => by unfold hat; ring
  rw [h0, h1]
  unfold lnb viaVar mean
  rw [h2, rstd_sq]
  unfold hat
  ring

/-! ## Column sums -/

/-- The rows of tile `n` that are `a` modulo 8, summed (nothing past the last tile). -/
def part (f : Fin 16384 → ℝ) (a : Fin 8) (n : ℕ) : ℝ :=
  if h : n < 32 then ∑ x : Fin 64, f (row ⟨n, h⟩ ⟨x.val * 8 + a.val, by omega⟩) else 0

theorem part_row (f : Fin 16384 → ℝ) (a : Fin 8) (n : Fin 32) :
    part f a n.val = ∑ x : Fin 64, f (row n ⟨x.val * 8 + a.val, by omega⟩) := dif_pos _

theorem sum_part (f : Fin 16384 → ℝ) : ∑ a : Fin 8, ∑ n ∈ Finset.range 32, part f a n = ∑ t, f t := by
  rw [sum_row]
  refine Finset.sum_congr rfl fun a _ => ?_
  rw [Finset.sum_range]
  exact Finset.sum_congr rfl fun n _ => dif_pos n.isLt

theorem row_eta (i : (⟨2, ![1, 1024]⟩ : Shape).Idx) : i = ix2 0 (i 1) := by
  funext a
  match a with
  | ⟨0, _⟩ => exact Subsingleton.elim (α := Fin 1) _ _
  | ⟨1, _⟩ => rfl

end Cert.Ffn

end
-- ==== Proof.Host.lean ====
module

public import proofs.«01_k».proof.Proof.Math
public import proofs.«01_k».proof.Proof.Gen.KernelIdeal.Frame
public import Idealize.ShloMosaic.Lib.Pipeline.Value
public import Idealize.ShloMosaic.Lib.Pipeline.ValueKit.Point

/-! # The kernel's host code: the arrays it hands to the region, entry by entry -/

@[expose] public section

noncomputable section

namespace Cert.KernelIdeal.Gen

open Idealize.ShloMosaic Idealize.ShloMosaic.TcCoe Idealize.SL.Sem Cert.Ffn

/-- The kernel's argument arrays hold the real numbers of `I`. -/
abbrev HoldsAt (I : In) (m : (ℓ : Loc nD τ sig) → Buf (Elt Ideal) ℓ) (c : Dev nD) : Prop :=
  Holds 1 I (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7))

variable {I : In} {m : (ℓ : Loc nD τ sig) → Buf (Elt Ideal) ℓ} {c : Dev nD} (H : HoldsAt I m c)

include H

/-- The sub-layer's sum: the residual plus the bias. -/
theorem V_z (t : Fin 16384) (k : Fin 1024) : V m c main_v2 (ix2 t k) = (I.z t k : EReal) := by
  entry_read
  pointwise
  simp only [H.r, H.bo, ← EReal.coe_add, In.z]

/-- The forward pass's gated activation, in chips. -/
theorem V_act (j : Fin 4) (t : Fin 16384) (f : Fin 704) : V m c main_v48 (ix3 j t f) = (silu (I.gate t (col j f)) : EReal) := by
  entry_read
  pointwise
  simp only [H.r, H.bo, H.g, H.b, H.wg, ← EReal.coe_add, ← EReal.coe_mul, ← EReal.coe_sub, coe_sum, ofBits_1024, ofBits_eps, div_1024,
    rsqrt_row fun k => I.r t k + I.bo k, div_one_exp]
  rfl

/-- The up projection times the activation's slope, in chips. -/
theorem V_bm (j : Fin 4) (t : Fin 16384) (f : Fin 704) :
    V m c main_v52 (ix3 j t f) = ((I.up t (col j f) * dsilu (I.gate t (col j f)) : ℝ) : EReal) := by
  entry_read
  pointwise
  simp only [H.r, H.bo, H.g, H.b, H.wg, H.wu, ← EReal.coe_add, ← EReal.coe_mul, ← EReal.coe_sub, coe_sum, ofBits_1024, ofBits_eps, div_1024,
    rsqrt_row fun k => I.r t k + I.bo k, div_one_exp, one_add_coe, one_sub_coe]
  rfl

theorem V_wg (j : Fin 4) (k : Fin 1024) (f : Fin 704) : V m c main_v55 (ix4 j 1 k f) = (I.wg k (col j f) : EReal) := by
  entry_read
  pointwise
  exact H.wg _ _

theorem V_wu (j : Fin 4) (k : Fin 1024) (f : Fin 704) : V m c main_v58 (ix4 j 1 k f) = (I.wu k (col j f) : EReal) := by
  entry_read
  pointwise
  exact H.wu _ _

theorem V_wd (j : Fin 4) (f : Fin 704) (k : Fin 1024) : V m c main_v61 (ix4 j 1 f k) = (I.wd (col j f) k : EReal) := by
  entry_read
  pointwise
  exact H.wd _ _

theorem V_g (k : Fin 1024) : V m c main_v62 (ix2 0 k) = (I.g k : EReal) := by
  entry_read
  pointwise
  exact H.g _

end Cert.KernelIdeal.Gen

end
-- ==== Proof.Open.lean ====
module

public import proofs.«01_k».proof.Proof.Gen.KernelIdeal.Frame
public import Idealize.ShloMosaic.Lib.Pipeline.Value
public import Idealize.ShloMosaic.Lib.Pipeline.ValueKit.Point
public import Idealize.ShloMosaic.Lib.IdealHost

/-! # What one run of the kernel's body leaves in its windows and scratch, as one expression of the blocks it loads

The body runs once per tile of 512 rows. Three cases: the first tile (A) starts the three column accumulators from
zero, a middle tile (B) adds to them, the last tile (C) adds and writes their totals out. -/

@[expose] public section

noncomputable section

namespace Cert.KernelIdeal.Gen

open Idealize.ShloMosaic Idealize.ShloMosaic.TcCoe Idealize.SL.Sem

theorem hz2 : (![0, 0] : Fin 2 → Nat) = fun _ => 0 := funext fun a => by fin_cases a <;> rfl

/-- Chip 0's columns of a row block, and its slabs of the three weights, as loaded. -/
def cutT0 (x : Vec Ideal S4x512x704 .bf16) : Vec Ideal S1x512x704 .bf16 :=
  View.ld x (Rect.unit ![0, 0, 0] S1x512x704.size inb_S4x512x704_S1x512x704_0_0_0)
def colsT0 (x : Vec Ideal S4x1x1024x704 .bf16) : Vec Ideal S1x1x1024x704 .bf16 :=
  View.ld x (Rect.unit ![0, 0, 0, 0] S1x1x1024x704.size inb_S4x1x1024x704_S1x1x1024x704_0_0_0_0)
def rowsT0 (x : Vec Ideal S4x1x704x1024 .bf16) : Vec Ideal S1x1x704x1024 .bf16 :=
  View.ld x (Rect.unit ![0, 0, 0, 0] S1x1x704x1024.size inb_S4x1x704x1024_S1x1x704x1024_0_0_0_0)

/-- Chip 1's columns of a row block, and its slabs of the three weights, as loaded. -/
def cutT1 (x : Vec Ideal S4x512x704 .bf16) : Vec Ideal S1x512x704 .bf16 :=
  View.ld x (Rect.unit ![1, 0, 0] S1x512x704.size inb_S4x512x704_S1x512x704_1_0_0)
def colsT1 (x : Vec Ideal S4x1x1024x704 .bf16) : Vec Ideal S1x1x1024x704 .bf16 :=
  View.ld x (Rect.unit ![1, 0, 0, 0] S1x1x1024x704.size inb_S4x1x1024x704_S1x1x1024x704_1_0_0_0)
def rowsT1 (x : Vec Ideal S4x1x704x1024 .bf16) : Vec Ideal S1x1x704x1024 .bf16 :=
  View.ld x (Rect.unit ![1, 0, 0, 0] S1x1x704x1024.size inb_S4x1x704x1024_S1x1x704x1024_1_0_0_0)

/-- Chip 2's columns of a row block, and its slabs of the three weights, as loaded. -/
def cutT2 (x : Vec Ideal S4x512x704 .bf16) : Vec Ideal S1x512x704 .bf16 :=
  View.ld x (Rect.unit ![2, 0, 0] S1x512x704.size inb_S4x512x704_S1x512x704_2_0_0)
def colsT2 (x : Vec Ideal S4x1x1024x704 .bf16) : Vec Ideal S1x1x1024x704 .bf16 :=
  View.ld x (Rect.unit ![2, 0, 0, 0] S1x1x1024x704.size inb_S4x1x1024x704_S1x1x1024x704_2_0_0_0)
def rowsT2 (x : Vec Ideal S4x1x704x1024 .bf16) : Vec Ideal S1x1x704x1024 .bf16 :=
  View.ld x (Rect.unit ![2, 0, 0, 0] S1x1x704x1024.size inb_S4x1x704x1024_S1x1x704x1024_2_0_0_0)

/-- Chip 3's columns of a row block, and its slabs of the three weights, as loaded. -/
def cutT3 (x : Vec Ideal S4x512x704 .bf16) : Vec Ideal S1x512x704 .bf16 :=
  View.ld x (Rect.unit ![3, 0, 0] S1x512x704.size inb_S4x512x704_S1x512x704_3_0_0)
def colsT3 (x : Vec Ideal S4x1x1024x704 .bf16) : Vec Ideal S1x1x1024x704 .bf16 :=
  View.ld x (Rect.unit ![3, 0, 0, 0] S1x1x1024x704.size inb_S4x1x1024x704_S1x1x1024x704_3_0_0_0)
def rowsT3 (x : Vec Ideal S4x1x704x1024 .bf16) : Vec Ideal S1x1x704x1024 .bf16 :=
  View.ld x (Rect.unit ![3, 0, 0, 0] S1x1x704x1024.size inb_S4x1x704x1024_S1x1x704x1024_3_0_0_0)

/-- The cotangent of the normalised row block: the four chips' two products added onto `ALPHA * dz`. -/
def dxV (x0 : Vec Ideal S512x1024 .f32) (x1 x2 : Vec Ideal S4x512x704 .bf16) (x3 x4 : Vec Ideal S4x1x1024x704 .bf16)
    (x5 : Vec Ideal S4x1x704x1024 .bf16) : Vec Ideal S512x1024 .f32 :=
  k0_pay36 (k0_pay10 x0) (k0_pay26 (k0_pay10 x0) (rowsT2 x5) (cutT2 x1))
    (k0_pay29 (k0_pay10 x0) (k0_pay20 (k0_pay10 x0) (rowsT1 x5) (cutT1 x1))
      (k0_pay23 (k0_pay10 x0) (k0_pay11 x0) (k0_pay14 x0 (rowsT0 x5) (cutT0 x1))
        (k0_pay17 x0 (rowsT0 x5) (cutT0 x2) (colsT0 x3)) (colsT0 x4) (rowsT1 x5) (cutT1 x2) (colsT1 x3))
      (colsT1 x4) (rowsT2 x5) (cutT2 x2) (colsT2 x3))
    (k0_pay30 (colsT2 x4)) (constant S512x1024 FTy.f32 0#32) (rowsT3 x5) (cutT3 x2) (cutT3 x1) (colsT3 x3) (colsT3 x4)

/-- The stores of the gate's cotangent, chip by chip. -/
def dgL (x0 : Vec Ideal S512x1024 .f32) (x2 : Vec Ideal S4x512x704 .bf16) (x5 : Vec Ideal S4x1x704x1024 .bf16) :
    List (View.Piece (Elt Ideal) S4x512x704 .bf16) :=
  [⟨Rect.unit ![3, 0, 0] S1x512x704.size inb_S4x512x704_S1x512x704_3_0_0, k0_pay34 (k0_pay10 x0) (rowsT3 x5) (cutT3 x2)⟩,
   ⟨Rect.unit ![2, 0, 0] S1x512x704.size inb_S4x512x704_S1x512x704_2_0_0, k0_pay27 (k0_pay10 x0) (rowsT2 x5) (cutT2 x2)⟩,
   ⟨Rect.unit ![1, 0, 0] S1x512x704.size inb_S4x512x704_S1x512x704_1_0_0, k0_pay21 (k0_pay10 x0) (rowsT1 x5) (cutT1 x2)⟩,
   ⟨Rect.unit ![0, 0, 0] S1x512x704.size inb_S4x512x704_S1x512x704_0_0_0, k0_pay15 x0 (rowsT0 x5) (cutT0 x2)⟩]

/-- The stores of the up projection's cotangent, chip by chip. -/
def duL (x0 : Vec Ideal S512x1024 .f32) (x1 : Vec Ideal S4x512x704 .bf16) (x5 : Vec Ideal S4x1x704x1024 .bf16) :
    List (View.Piece (Elt Ideal) S4x512x704 .bf16) :=
  [⟨Rect.unit ![3, 0, 0] S1x512x704.size inb_S4x512x704_S1x512x704_3_0_0, k0_pay35 (k0_pay10 x0) (rowsT3 x5) (cutT3 x1)⟩,
   ⟨Rect.unit ![2, 0, 0] S1x512x704.size inb_S4x512x704_S1x512x704_2_0_0, k0_pay28 (k0_pay10 x0) (rowsT2 x5) (cutT2 x1)⟩,
   ⟨Rect.unit ![1, 0, 0] S1x512x704.size inb_S4x512x704_S1x512x704_1_0_0, k0_pay22 (k0_pay10 x0) (rowsT1 x5) (cutT1 x1)⟩,
   ⟨Rect.unit ![0, 0, 0] S1x512x704.size inb_S4x512x704_S1x512x704_0_0_0, k0_pay16 x0 (rowsT0 x5) (cutT0 x1)⟩]

variable (c : Dev nD) (i : grid0.Coords) (a1 : Memref sig .tc .vmem S512x1024 .f32) (h1 : a1.IsWhole) (a2 : Memref sig .tc .vmem S4x512x704 .bf16) (h2 : a2.IsWhole) (a3 : Memref sig .tc .vmem S4x512x704 .bf16) (h3 : a3.IsWhole) (a4 : Memref sig .tc .vmem S4x1x1024x704 .bf16) (h4 : a4.IsWhole) (a5 : Memref sig .tc .vmem S4x1x1024x704 .bf16) (h5 : a5.IsWhole) (a6 : Memref sig .tc .vmem S4x1x704x1024 .bf16) (h6 : a6.IsWhole) (a7 : Memref sig .tc .vmem S512x1024 .f32) (h7 : a7.IsWhole) (a8 : Memref sig .tc .vmem S1x1024 .f32) (h8 : a8.IsWhole) (a9 : Memref sig .tc .vmem S4x512x704 .bf16) (h9 : a9.IsWhole) (a10 : Memref sig .tc .vmem S4x512x704 .bf16) (h10 : a10.IsWhole) (a11 : Memref sig .tc .vmem S512x1024 .f32) (h11 : a11.IsWhole) (a12 : Memref sig .tc .vmem S1x1024 .f32) (h12 : a12.IsWhole) (a13 : Memref sig .tc .vmem S1x1024 .f32) (h13 : a13.IsWhole) (a14 : Memref sig .tc .vmem S1x1024 .f32) (h14 : a14.IsWhole) (a15 : Memref sig .tc .vmem S8x1024 .f32) (h15 : a15.IsWhole) (a16 : Memref sig .tc .vmem S8x1024 .f32) (h16 : a16.IsWhole) (a17 : Memref sig .tc .vmem S8x1024 .f32) (h17 : a17.IsWhole)
  (x0 : Vec Ideal S512x1024 .f32) (x1 : Vec Ideal S4x512x704 .bf16) (x2 : Vec Ideal S4x512x704 .bf16)
  (x3 : Vec Ideal S4x1x1024x704 .bf16) (x4 : Vec Ideal S4x1x1024x704 .bf16) (x5 : Vec Ideal S4x1x704x1024 .bf16)
  (x6 : Vec Ideal S512x1024 .f32) (x7 : Vec Ideal S1x1024 .f32) (s0 s1 s2 : Vec Ideal S8x1024 .f32)

theorem out_A_8 (hc0 : cond0_0 i) (hc1 : ¬cond0_1 i) :
    out0_A_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = View.canon (dgL x0 x2 x5) := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_A_9 (hc0 : cond0_0 i) (hc1 : ¬cond0_1 i) :
    out0_A_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = View.canon (duL x0 x1 x5) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_A_10 (hc0 : cond0_0 i) (hc1 : ¬cond0_1 i) :
    out0_A_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = k0_pay40 (dxV x0 x1 x2 x3 x4 x5) x6 x7 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_A_0 (hc0 : cond0_0 i) (hc1 : ¬cond0_1 i) :
    sout0_A_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = k0_pay1 (k0_pay41 (dxV x0 x1 x2 x3 x4 x5) x6 (k0_pay7 (F := Ideal))) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  rw [View.canon_cons_unit_zero (S := S8x1024) hz2, View.readCov_unit_zero (S := S8x1024) _ hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_A_1 (hc0 : cond0_0 i) (hc1 : ¬cond0_1 i) :
    sout0_A_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = k0_pay2 (F := Ideal) (dxV x0 x1 x2 x3 x4 x5) (k0_pay8 (F := Ideal)) := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  rw [View.canon_cons_unit_zero (S := S8x1024) hz2, View.readCov_unit_zero (S := S8x1024) _ hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_A_2 (hc0 : cond0_0 i) (hc1 : ¬cond0_1 i) :
    sout0_A_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = k0_pay3 (k0_pay40 (dxV x0 x1 x2 x3 x4 x5) x6 x7) (k0_pay9 (F := Ideal)) := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  rw [View.canon_cons_unit_zero (S := S8x1024) hz2, View.readCov_unit_zero (S := S8x1024) _ hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_B_8 (hc0 : ¬cond0_0 i) (hc1 : ¬cond0_1 i) :
    out0_B_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = View.canon (dgL x0 x2 x5) := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_B
  dsimp only
  sl_unfold_words
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_B_9 (hc0 : ¬cond0_0 i) (hc1 : ¬cond0_1 i) :
    out0_B_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = View.canon (duL x0 x1 x5) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_B
  dsimp only
  sl_unfold_words
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_B_10 (hc0 : ¬cond0_0 i) (hc1 : ¬cond0_1 i) :
    out0_B_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay40 (dxV x0 x1 x2 x3 x4 x5) x6 x7 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_B_0 (hc0 : ¬cond0_0 i) (hc1 : ¬cond0_1 i) :
    sout0_B_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay1 (k0_pay41 (dxV x0 x1 x2 x3 x4 x5) x6 s0) := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_B_1 (hc0 : ¬cond0_0 i) (hc1 : ¬cond0_1 i) :
    sout0_B_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay2 (F := Ideal) (dxV x0 x1 x2 x3 x4 x5) s1 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_B_2 (hc0 : ¬cond0_0 i) (hc1 : ¬cond0_1 i) :
    sout0_B_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay3 (k0_pay40 (dxV x0 x1 x2 x3 x4 x5) x6 x7) s2 := by
  unfold sout0_B_2
  rw [View.read_writes_eq_canon _ _ _ (scover0_B_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_C_8 (hc0 : ¬cond0_0 i) (hc1 : cond0_1 i) :
    out0_C_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = View.canon (dgL x0 x2 x5) := by
  unfold out0_C_8
  rw [View.read_writes_eq_canon _ _ _ (cover0_C_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_C_9 (hc0 : ¬cond0_0 i) (hc1 : cond0_1 i) :
    out0_C_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = View.canon (duL x0 x1 x5) := by
  unfold out0_C_9
  rw [View.read_writes_eq_canon _ _ _ (cover0_C_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_C_10 (hc0 : ¬cond0_0 i) (hc1 : cond0_1 i) :
    out0_C_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay40 (dxV x0 x1 x2 x3 x4 x5) x6 x7 := by
  unfold out0_C_10
  rw [View.read_writes_eq_canon _ _ _ (cover0_C_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_C_0 (hc0 : ¬cond0_0 i) (hc1 : cond0_1 i) :
    sout0_C_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay1 (k0_pay41 (dxV x0 x1 x2 x3 x4 x5) x6 s0) := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_C_1 (hc0 : ¬cond0_0 i) (hc1 : cond0_1 i) :
    sout0_C_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay2 (F := Ideal) (dxV x0 x1 x2 x3 x4 x5) s1 := by
  unfold sout0_C_1
  rw [View.read_writes_eq_canon _ _ _ (scover0_C_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_C_2 (hc0 : ¬cond0_0 i) (hc1 : cond0_1 i) :
    sout0_C_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay3 (k0_pay40 (dxV x0 x1 x2 x3 x4 x5) x6 x7) s2 := by
  unfold sout0_C_2
  rw [View.read_writes_eq_canon _ _ _ (scover0_C_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_C_11 (hc0 : ¬cond0_0 i) (hc1 : cond0_1 i) :
    out0_C_11 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay4 (F := Ideal) (k0_pay1 (k0_pay41 (dxV x0 x1 x2 x3 x4 x5) x6 s0)) := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  rw [View.canon_unit_zero hz2, View.readCov_unit_zero (S := S8x1024) _ hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_C_12 (hc0 : ¬cond0_0 i) (hc1 : cond0_1 i) :
    out0_C_12 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay5 (F := Ideal) (k0_pay2 (F := Ideal) (dxV x0 x1 x2 x3 x4 x5) s1) := by
  unfold out0_C_12
  rw [View.read_writes_eq_canon _ _ _ (cover0_C_12 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  rw [View.canon_unit_zero hz2, View.readCov_unit_zero (S := S8x1024) _ hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_C_13 (hc0 : ¬cond0_0 i) (hc1 : cond0_1 i) :
    out0_C_13 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay6 (F := Ideal) (k0_pay3 (k0_pay40 (dxV x0 x1 x2 x3 x4 x5) x6 x7) s2) := by
  unfold out0_C_13
  rw [View.read_writes_eq_canon _ _ _ (cover0_C_13 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  rw [View.canon_unit_zero hz2, View.readCov_unit_zero (S := S8x1024) _ hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

end Cert.KernelIdeal.Gen

end
-- ==== Proof.Pay.lean ====
module

public import proofs.«01_k».proof.Proof.Math
public import proofs.«01_k».proof.Proof.Open

/-! # The body's expressions, entry by entry, at real blocks -/

@[expose] public section

noncomputable section

namespace Cert.KernelIdeal.Gen

open Idealize.ShloMosaic Cert.Ffn

theorem cutT0_at (x : Vec Ideal S4x512x704 .bf16) (r : Fin 512) (f : Fin 704) :
    cutT0 x (ix3 0 r f) = x (ix3 0 r f) :=
  View.ld_unit_apply_of x _ _ _ _ _ (fun a => by fin_cases a <;> simp [ix3])
theorem colsT0_at (x : Vec Ideal S4x1x1024x704 .bf16) (k : Fin 1024) (f : Fin 704) :
    colsT0 x (ix4 0 0 k f) = x (ix4 0 0 k f) :=
  View.ld_unit_apply_of x _ _ _ _ _ (fun a => by fin_cases a <;> simp [ix4])
theorem rowsT0_at (x : Vec Ideal S4x1x704x1024 .bf16) (f : Fin 704) (k : Fin 1024) :
    rowsT0 x (ix4 0 0 f k) = x (ix4 0 0 f k) :=
  View.ld_unit_apply_of x _ _ _ _ _ (fun a => by fin_cases a <;> simp [ix4])

theorem cutT1_at (x : Vec Ideal S4x512x704 .bf16) (r : Fin 512) (f : Fin 704) :
    cutT1 x (ix3 0 r f) = x (ix3 1 r f) :=
  View.ld_unit_apply_of x _ _ _ _ _ (fun a => by fin_cases a <;> simp [ix3])
theorem colsT1_at (x : Vec Ideal S4x1x1024x704 .bf16) (k : Fin 1024) (f : Fin 704) :
    colsT1 x (ix4 0 0 k f) = x (ix4 1 0 k f) :=
  View.ld_unit_apply_of x _ _ _ _ _ (fun a => by fin_cases a <;> simp [ix4])
theorem rowsT1_at (x : Vec Ideal S4x1x704x1024 .bf16) (f : Fin 704) (k : Fin 1024) :
    rowsT1 x (ix4 0 0 f k) = x (ix4 1 0 f k) :=
  View.ld_unit_apply_of x _ _ _ _ _ (fun a => by fin_cases a <;> simp [ix4])

theorem cutT2_at (x : Vec Ideal S4x512x704 .bf16) (r : Fin 512) (f : Fin 704) :
    cutT2 x (ix3 0 r f) = x (ix3 2 r f) :=
  View.ld_unit_apply_of x _ _ _ _ _ (fun a => by fin_cases a <;> simp [ix3])
theorem colsT2_at (x : Vec Ideal S4x1x1024x704 .bf16) (k : Fin 1024) (f : Fin 704) :
    colsT2 x (ix4 0 0 k f) = x (ix4 2 0 k f) :=
  View.ld_unit_apply_of x _ _ _ _ _ (fun a => by fin_cases a <;> simp [ix4])
theorem rowsT2_at (x : Vec Ideal S4x1x704x1024 .bf16) (f : Fin 704) (k : Fin 1024) :
    rowsT2 x (ix4 0 0 f k) = x (ix4 2 0 f k) :=
  View.ld_unit_apply_of x _ _ _ _ _ (fun a => by fin_cases a <;> simp [ix4])

theorem cutT3_at (x : Vec Ideal S4x512x704 .bf16) (r : Fin 512) (f : Fin 704) :
    cutT3 x (ix3 0 r f) = x (ix3 3 r f) :=
  View.ld_unit_apply_of x _ _ _ _ _ (fun a => by fin_cases a <;> simp [ix3])
theorem colsT3_at (x : Vec Ideal S4x1x1024x704 .bf16) (k : Fin 1024) (f : Fin 704) :
    colsT3 x (ix4 0 0 k f) = x (ix4 3 0 k f) :=
  View.ld_unit_apply_of x _ _ _ _ _ (fun a => by fin_cases a <;> simp [ix4])
theorem rowsT3_at (x : Vec Ideal S4x1x704x1024 .bf16) (f : Fin 704) (k : Fin 1024) :
    rowsT3 x (ix4 0 0 f k) = x (ix4 3 0 f k) :=
  View.ld_unit_apply_of x _ _ _ _ _ (fun a => by fin_cases a <;> simp [ix4])

theorem dxV_at (x0 : Vec Ideal S512x1024 .f32) (x1 x2 : Vec Ideal S4x512x704 .bf16) (x3 x4 : Vec Ideal S4x1x1024x704 .bf16)
    (x5 : Vec Ideal S4x1x704x1024 .bf16) (r : Fin 512) (c : Fin 1024 → ℝ) (a b : Fin 4 → Fin 704 → ℝ)
    (wg wu : Fin 4 → Fin 1024 → Fin 704 → ℝ) (wd : Fin 4 → Fin 704 → Fin 1024 → ℝ)
    (h0 : ∀ k, x0 (ix2 r k) = (c k : EReal)) (h1 : ∀ j f, x1 (ix3 j r f) = (a j f : EReal)) (h2 : ∀ j f, x2 (ix3 j r f) = (b j f : EReal))
    (h3 : ∀ j k f, x3 (ix4 j 0 k f) = (wg j k f : EReal)) (h4 : ∀ j k f, x4 (ix4 j 0 k f) = (wu j k f : EReal))
    (h5 : ∀ j f k, x5 (ix4 j 0 f k) = (wd j f k : EReal)) (k : Fin 1024) :
    dxV x0 x1 x2 x3 x4 x5 (ix2 r k) = ((al * c k + ∑ j, ∑ f, (∑ l, c l * wd j f l) * a j f * wu j k f
      + ∑ j, ∑ f, (∑ l, c l * wd j f l) * b j f * wg j k f : ℝ) : EReal) := by
  pointwise [dxV, k0_pay10, k0_pay11, k0_pay12, k0_pay13, k0_pay14, k0_pay17, k0_pay18, k0_pay19, k0_pay20, k0_pay23, k0_pay24,
    k0_pay25, k0_pay26, k0_pay29, k0_pay30, k0_pay31, k0_pay32, k0_pay33, k0_pay36]
  simp only [cutT0_at, cutT1_at, cutT2_at, cutT3_at, colsT0_at, colsT1_at, colsT2_at, colsT3_at, rowsT0_at, rowsT1_at, rowsT2_at,
    rowsT3_at, h0, h1, h2, h3, h4, h5, ofBits_al, coe_sum, ← EReal.coe_mul, ← EReal.coe_add]
  congr 1
  simp only [Fin.sum_univ_four]
  ring

theorem dgT0_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 0 r f) = (b f : EReal)) (h5 : ∀ f k, x5 (ix4 0 0 f k) = (wd f k : EReal)) (f : Fin 704) :
    k0_pay15 x0 (rowsT0 x5) (cutT0 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT0_at, rowsT0_at, h0, h2, h5, coe_sum, ← EReal.coe_mul]

theorem dgT1_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 1 r f) = (b f : EReal)) (h5 : ∀ f k, x5 (ix4 1 0 f k) = (wd f k : EReal)) (f : Fin 704) :
    k0_pay21 (k0_pay10 x0) (rowsT1 x5) (cutT1 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT1_at, rowsT1_at, h0, h2, h5, coe_sum, ← EReal.coe_mul]

theorem dgT2_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 2 r f) = (b f : EReal)) (h5 : ∀ f k, x5 (ix4 2 0 f k) = (wd f k : EReal)) (f : Fin 704) :
    k0_pay27 (k0_pay10 x0) (rowsT2 x5) (cutT2 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT2_at, rowsT2_at, h0, h2, h5, coe_sum, ← EReal.coe_mul]

theorem dgT3_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 3 r f) = (b f : EReal)) (h5 : ∀ f k, x5 (ix4 3 0 f k) = (wd f k : EReal)) (f : Fin 704) :
    k0_pay34 (k0_pay10 x0) (rowsT3 x5) (cutT3 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT3_at, rowsT3_at, h0, h2, h5, coe_sum, ← EReal.coe_mul]

theorem duT0_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 0 r f) = (b f : EReal)) (h5 : ∀ f k, x5 (ix4 0 0 f k) = (wd f k : EReal)) (f : Fin 704) :
    k0_pay16 x0 (rowsT0 x5) (cutT0 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT0_at, rowsT0_at, h0, h2, h5, coe_sum, ← EReal.coe_mul]

theorem duT1_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 1 r f) = (b f : EReal)) (h5 : ∀ f k, x5 (ix4 1 0 f k) = (wd f k : EReal)) (f : Fin 704) :
    k0_pay22 (k0_pay10 x0) (rowsT1 x5) (cutT1 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT1_at, rowsT1_at, h0, h2, h5, coe_sum, ← EReal.coe_mul]

theorem duT2_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 2 r f) = (b f : EReal)) (h5 : ∀ f k, x5 (ix4 2 0 f k) = (wd f k : EReal)) (f : Fin 704) :
    k0_pay28 (k0_pay10 x0) (rowsT2 x5) (cutT2 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT2_at, rowsT2_at, h0, h2, h5, coe_sum, ← EReal.coe_mul]

theorem duT3_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 3 r f) = (b f : EReal)) (h5 : ∀ f k, x5 (ix4 3 0 f k) = (wd f k : EReal)) (f : Fin 704) :
    k0_pay35 (k0_pay10 x0) (rowsT3 x5) (cutT3 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT3_at, rowsT3_at, h0, h2, h5, coe_sum, ← EReal.coe_mul]

theorem pay37_at (v115 : Vec Ideal S512x1024 .f32) (z : Fin 1024 → ℝ) (r : Fin 512) (h : ∀ k, v115 (ix2 r k) = (z k : EReal))
    (k : Fin 1024) : k0_pay37 v115 (ix2 r k) = (cen z k : EReal) := by
  pointwise [k0_pay37]
  simp only [h, coe_sum, ofBits_1024, div_1024, ← EReal.coe_sub, cen, mean]

theorem pay38_at (v115 : Vec Ideal S512x1024 .f32) (z : Fin 1024 → ℝ) (r : Fin 512) (h : ∀ k, v115 (ix2 r k) = (z k : EReal)) :
    k0_pay38 v115 (ix2 r 0) = (rstd z : EReal) := by
  pointwise [k0_pay38]
  simp only [pay37_at v115 z r h, coe_sum, ofBits_1024, ofBits_eps, div_1024, ← EReal.coe_mul, ← EReal.coe_add, rstd]
  exact rsqrt_pos (vare_pos z)

theorem pay39_at (v115 : Vec Ideal S512x1024 .f32) (z : Fin 1024 → ℝ) (r : Fin 512) (h : ∀ k, v115 (ix2 r k) = (z k : EReal))
    (k : Fin 1024) : k0_pay39 v115 (ix2 r k) = (hat z k : EReal) := by
  pointwise [k0_pay39]
  simp only [pay37_at v115 z r h, pay38_at v115 z r h, ← EReal.coe_mul, hat]

theorem pay40_at (v114 v115 : Vec Ideal S512x1024 .f32) (v117 : Vec Ideal S1x1024 .f32) (d z g : Fin 1024 → ℝ) (r : Fin 512)
    (hd : ∀ k, v114 (ix2 r k) = (d k : EReal)) (h : ∀ k, v115 (ix2 r k) = (z k : EReal)) (hg : ∀ k, v117 (ix2 0 k) = (g k : EReal))
    (k : Fin 1024) : k0_pay40 v114 v115 v117 (ix2 r k) = (lnb z (fun k => d k * g k) k : EReal) := by
  pointwise [k0_pay40]
  simp only [hd, hg, pay39_at v115 z r h, pay38_at v115 z r h, coe_sum, ofBits_1024, div_1024, ← EReal.coe_mul, ← EReal.coe_sub, lnb, mean]

theorem pay2_at (d : Vec Ideal S512x1024 .f32) (a : Vec Ideal S8x1024 .f32) (i : Fin 8) (k : Fin 1024) :
    k0_pay2 d a (ix2 i k) = a (ix2 i k) + ∑ x : Fin 64, d (ix2 ⟨x.val * 8 + i.val, by omega⟩ k) := by
  pointwise [k0_pay2]

theorem pay3_at (d : Vec Ideal S512x1024 .f32) (a : Vec Ideal S8x1024 .f32) (i : Fin 8) (k : Fin 1024) :
    k0_pay3 d a (ix2 i k) = a (ix2 i k) + ∑ x : Fin 64, d (ix2 ⟨x.val * 8 + i.val, by omega⟩ k) := by
  pointwise [k0_pay3]

theorem pay41_at (d z : Vec Ideal S512x1024 .f32) (a : Vec Ideal S8x1024 .f32) (i : Fin 8) (k : Fin 1024) :
    k0_pay1 (k0_pay41 d z a) (ix2 i k)
      = a (ix2 i k) + ∑ x : Fin 64, d (ix2 ⟨x.val * 8 + i.val, by omega⟩ k) * k0_pay39 z (ix2 ⟨x.val * 8 + i.val, by omega⟩ k) := by
  pointwise [k0_pay1, k0_pay41]

theorem pay4_at (a : Vec Ideal S8x1024 .f32) (k : Fin 1024) : k0_pay4 a (ix2 0 k) = ∑ i : Fin 8, a (ix2 i k) := by
  pointwise [k0_pay4]
theorem pay5_at (a : Vec Ideal S8x1024 .f32) (k : Fin 1024) : k0_pay5 a (ix2 0 k) = ∑ i : Fin 8, a (ix2 i k) := by
  pointwise [k0_pay5]
theorem pay6_at (a : Vec Ideal S8x1024 .f32) (k : Fin 1024) : k0_pay6 a (ix2 0 k) = ∑ i : Fin 8, a (ix2 i k) := by
  pointwise [k0_pay6]
theorem pay7_at (i : S8x1024.Idx) : k0_pay7 (F := Ideal) i = 0 := by
  pointwise [k0_pay7]
theorem pay8_at (i : S8x1024.Idx) : k0_pay8 (F := Ideal) i = 0 := by
  pointwise [k0_pay8]
theorem pay9_at (i : S8x1024.Idx) : k0_pay9 (F := Ideal) i = 0 := by
  pointwise [k0_pay9]

end Cert.KernelIdeal.Gen

end
-- ==== Proof.Blocks.lean ====
module

public import proofs.«01_k».proof.Proof.Host
public import proofs.«01_k».proof.Proof.Pay

/-! # The blocks the region's windows show the body at each tile -/

@[expose] public section

noncomputable section

namespace Cert.KernelIdeal.Gen

open Idealize.ShloMosaic Idealize.ShloMosaic.TcCoe Idealize.SL.Sem Cert.Ffn

/-- The tile number of a point of the grid. -/
def tile (t : Fin cfg0.N) : Fin 32 := ⟨t.val, lt_of_lt_of_eq t.isLt N_0⟩

theorem idx0_0 : ∀ t : Fin cfg0.N, win0_0.index t = ![t.val, 0] := by decide +kernel
theorem idx0_1 : ∀ t : Fin cfg0.N, win0_1.index t = ![0, t.val, 0] := by decide +kernel
theorem idx0_2 : ∀ t : Fin cfg0.N, win0_2.index t = ![0, t.val, 0] := by decide +kernel
theorem idx0_3 : ∀ t : Fin cfg0.N, win0_3.index t = ![0, 1, 0, 0] := by decide +kernel
theorem idx0_4 : ∀ t : Fin cfg0.N, win0_4.index t = ![0, 1, 0, 0] := by decide +kernel
theorem idx0_5 : ∀ t : Fin cfg0.N, win0_5.index t = ![0, 1, 0, 0] := by decide +kernel
theorem idx0_6 : ∀ t : Fin cfg0.N, win0_6.index t = ![t.val, 0] := by decide +kernel
theorem idx0_7 : ∀ t : Fin cfg0.N, win0_7.index t = ![0, 0] := by decide +kernel

/-- The place in chip `J`'s tile of an entry of the block. -/
theorem place {j : Fin 4} {r : Fin 512} {f : Fin 704} (J : Fin 4) (x : S1x512x704.Idx) (h0 : j.val = J.val + (x 0).val)
    (h1 : r.val = (x 1).val) (h2 : f.val = (x 2).val) : j = J ∧ x = ix3 0 r f := by
  have hx : (x 0).val < 1 := (x 0).isLt
  refine ⟨Fin.ext (by omega), (eq_ix3 x).trans ?_⟩
  rw [show x 0 = (0 : Fin 1) from Fin.ext (by show (x 0).val = 0; omega), show x 1 = r from Fin.ext h1.symm,
    show x 2 = f from Fin.ext h2.symm]

variable {I : In} {m : (ℓ : Loc nD τ sig) → Buf (Elt Ideal) ℓ} {c : Dev nD} (H : HoldsAt I m c) (t : Fin cfg0.N)

include H

theorem blk_ct (r : Fin 512) (k : Fin 1024) : (iblk m c 0 t : Vec Ideal S512x1024 .f32) (ix2 r k) = (I.ct (row (tile t) r) k : EReal) := by
  rw [← H.ct]
  blk_ext! [iblk, V, idx0_0 t, tile, row]

theorem blk_act (j : Fin 4) (r : Fin 512) (f : Fin 704) :
    (iblk m c 1 t : Vec Ideal S4x512x704 .bf16) (ix3 j r f) = (silu (I.gate (row (tile t) r) (col j f)) : EReal) := by
  rw [← V_act H]
  unfold iblk
  generalize V m c main_v48 = X
  blk_ext! [idx0_1 t, tile, row]

theorem blk_bm (j : Fin 4) (r : Fin 512) (f : Fin 704) : (iblk m c 2 t : Vec Ideal S4x512x704 .bf16) (ix3 j r f)
    = ((I.up (row (tile t) r) (col j f) * dsilu (I.gate (row (tile t) r) (col j f)) : ℝ) : EReal) := by
  rw [← V_bm H]
  unfold iblk
  generalize V m c main_v52 = X
  blk_ext! [idx0_2 t, tile, row]

theorem blk_wg (j : Fin 4) (k : Fin 1024) (f : Fin 704) :
    (iblk m c 3 t : Vec Ideal S4x1x1024x704 .bf16) (ix4 j 0 k f) = (I.wg k (col j f) : EReal) := by
  rw [← V_wg H]
  unfold iblk
  generalize V m c main_v55 = X
  blk_ext! [idx0_3 t]

theorem blk_wu (j : Fin 4) (k : Fin 1024) (f : Fin 704) :
    (iblk m c 4 t : Vec Ideal S4x1x1024x704 .bf16) (ix4 j 0 k f) = (I.wu k (col j f) : EReal) := by
  rw [← V_wu H]
  unfold iblk
  generalize V m c main_v58 = X
  blk_ext! [idx0_4 t]

theorem blk_wd (j : Fin 4) (f : Fin 704) (k : Fin 1024) :
    (iblk m c 5 t : Vec Ideal S4x1x704x1024 .bf16) (ix4 j 0 f k) = (I.wd (col j f) k : EReal) := by
  rw [← V_wd H]
  unfold iblk
  generalize V m c main_v61 = X
  blk_ext! [idx0_5 t]

theorem blk_z (r : Fin 512) (k : Fin 1024) : (iblk m c 6 t : Vec Ideal S512x1024 .f32) (ix2 r k) = (I.z (row (tile t) r) k : EReal) := by
  rw [← V_z H]
  unfold iblk
  generalize V m c main_v2 = X
  blk_ext! [idx0_6 t, tile, row]

theorem blk_g (k : Fin 1024) : (iblk m c 7 t : Vec Ideal S1x1024 .f32) (ix2 0 k) = (I.g k : EReal) := by
  rw [← V_g H]
  unfold iblk
  generalize V m c main_v62 = X
  blk_ext! [idx0_7 t]

/-! ## The body's expressions at those blocks -/

theorem dxV_blk (r : Fin 512) (k : Fin 1024) :
    dxV (iblk m c 0 t) (iblk m c 1 t) (iblk m c 2 t) (iblk m c 3 t) (iblk m c 4 t) (iblk m c 5 t) (ix2 r k)
      = (I.dx (row (tile t) r) k : EReal) := by
  rw [dxV_at _ _ _ _ _ _ r _ _ _ _ _ _ (blk_ct H t r) (fun j => blk_act H t j r) (fun j => blk_bm H t j r) (blk_wg H t) (blk_wu H t)
    (blk_wd H t) k]
  unfold In.dx
  rw [sum_col, sum_col]
  rfl

theorem dzV_blk (r : Fin 512) (k : Fin 1024) :
    k0_pay40 (dxV (iblk m c 0 t) (iblk m c 1 t) (iblk m c 2 t) (iblk m c 3 t) (iblk m c 4 t) (iblk m c 5 t)) (iblk m c 6 t) (iblk m c 7 t)
      (ix2 r k) = (I.dz (row (tile t) r) k : EReal) := by
  rw [pay40_at _ _ _ _ _ _ r (dxV_blk H t r) (blk_z H t r) (blk_g H t) k]
  rfl

theorem hat_blk (r : Fin 512) (k : Fin 1024) : k0_pay39 (iblk m c 6 t : Vec Ideal S512x1024 .f32) (ix2 r k)
    = (hat (I.z (row (tile t) r)) k : EReal) :=
  pay39_at _ _ r (blk_z H t r) k

theorem dgL_blk (j : Fin 4) (r : Fin 512) (f : Fin 704) :
    View.canon (dgL (iblk m c 0 t) (iblk m c 2 t) (iblk m c 5 t)) (ix3 j r f) = (I.dgate (row (tile t) r) (col j f) : EReal) := by
  unfold dgL
  canon_tiles
  · obtain ⟨rfl, rfl⟩ := place 3 x h0 h1 h2
    exact dgT3_at _ _ _ _ _ _ r (blk_ct H t r) (fun f => blk_bm H t 3 r f) (fun f k => blk_wd H t 3 f k) f
  · obtain ⟨rfl, rfl⟩ := place 2 x h0 h1 h2
    exact dgT2_at _ _ _ _ _ _ r (blk_ct H t r) (fun f => blk_bm H t 2 r f) (fun f k => blk_wd H t 2 f k) f
  · obtain ⟨rfl, rfl⟩ := place 1 x h0 h1 h2
    exact dgT1_at _ _ _ _ _ _ r (blk_ct H t r) (fun f => blk_bm H t 1 r f) (fun f k => blk_wd H t 1 f k) f
  · obtain ⟨rfl, rfl⟩ := place 0 x (h0.trans (Nat.zero_add _).symm) h1 h2
    exact dgT0_at _ _ _ _ _ _ r (blk_ct H t r) (fun f => blk_bm H t 0 r f) (fun f k => blk_wd H t 0 f k) f

theorem duL_blk (j : Fin 4) (r : Fin 512) (f : Fin 704) :
    View.canon (duL (iblk m c 0 t) (iblk m c 1 t) (iblk m c 5 t)) (ix3 j r f) = (I.dup (row (tile t) r) (col j f) : EReal) := by
  unfold duL
  canon_tiles
  · obtain ⟨rfl, rfl⟩ := place 3 x h0 h1 h2
    exact duT3_at _ _ _ _ _ _ r (blk_ct H t r) (fun f => blk_act H t 3 r f) (fun f k => blk_wd H t 3 f k) f
  · obtain ⟨rfl, rfl⟩ := place 2 x h0 h1 h2
    exact duT2_at _ _ _ _ _ _ r (blk_ct H t r) (fun f => blk_act H t 2 r f) (fun f k => blk_wd H t 2 f k) f
  · obtain ⟨rfl, rfl⟩ := place 1 x h0 h1 h2
    exact duT1_at _ _ _ _ _ _ r (blk_ct H t r) (fun f => blk_act H t 1 r f) (fun f k => blk_wd H t 1 f k) f
  · obtain ⟨rfl, rfl⟩ := place 0 x (h0.trans (Nat.zero_add _).symm) h1 h2
    exact duT0_at _ _ _ _ _ _ r (blk_ct H t r) (fun f => blk_act H t 0 r f) (fun f k => blk_wd H t 0 f k) f

end Cert.KernelIdeal.Gen

end
-- ==== Proof.Arrays.lean ====
module

public import proofs.«01_k».proof.Proof.Blocks
public import proofs.«01_k».proof.Proof.Gen.KernelIdeal.Value

/-! # The kernel's six result arrays, entry by entry -/

@[expose] public section

noncomputable section

namespace Cert.KernelIdeal.Gen

open Idealize.ShloMosaic Idealize.ShloMosaic.TcCoe Idealize.SL.Sem Cert.Ffn Cert.KernelIdeal.Value

theorem part_tile (f : Fin 16384 → ℝ) (a : Fin 8) (t : Fin cfg0.N) :
    part f a t.val = ∑ x : Fin 64, f (row (tile t) ⟨x.val * 8 + a.val, by omega⟩) := part_row f a (tile t)

variable {I : In} {m : (ℓ : Loc nD τ sig) → Buf (Elt Ideal) ℓ} {c : Dev nD} (H : HoldsAt I m c) (t : Fin cfg0.N)

include H

/-! ## What a tile leaves in its row blocks -/

theorem outs_dg (j : Fin 4) (r : Fin 512) (f : Fin 704) :
    (outsAt0 m c t.val t.isLt).1 (ix3 j r f) = (I.dgate (row (tile t) r) (col j f) : EReal) := by
  have hN := lt_of_lt_of_eq t.isLt (show cfg0.N = 32 from N_0)
  by_cases h0 : t.val % 32 = 0
  · rw [outsAt0_A m c t h0 (by omega)]; dsimp only; rw [out_A_8]; exact dgL_blk H t j r f
  · by_cases h1 : t.val % 32 = 31
    · rw [outsAt0_C m c t h0 h1]; dsimp only; rw [out_C_8]; exact dgL_blk H t j r f
    · rw [outsAt0_B m c t h0 h1]; dsimp only; rw [out_B_8]; exact dgL_blk H t j r f

theorem outs_du (j : Fin 4) (r : Fin 512) (f : Fin 704) :
    (outsAt0 m c t.val t.isLt).2.1 (ix3 j r f) = (I.dup (row (tile t) r) (col j f) : EReal) := by
  have hN := lt_of_lt_of_eq t.isLt (show cfg0.N = 32 from N_0)
  by_cases h0 : t.val % 32 = 0
  · rw [outsAt0_A m c t h0 (by omega)]; dsimp only; rw [out_A_9]; exact duL_blk H t j r f
  · by_cases h1 : t.val % 32 = 31
    · rw [outsAt0_C m c t h0 h1]; dsimp only; rw [out_C_9]; exact duL_blk H t j r f
    · rw [outsAt0_B m c t h0 h1]; dsimp only; rw [out_B_9]; exact duL_blk H t j r f

theorem outs_dz (r : Fin 512) (k : Fin 1024) :
    (outsAt0 m c t.val t.isLt).2.2.1 (ix2 r k) = (I.dz (row (tile t) r) k : EReal) := by
  have hN := lt_of_lt_of_eq t.isLt (show cfg0.N = 32 from N_0)
  by_cases h0 : t.val % 32 = 0
  · rw [outsAt0_A m c t h0 (by omega)]; dsimp only; rw [out_A_10]; exact dzV_blk H t r k
  · by_cases h1 : t.val % 32 = 31
    · rw [outsAt0_C m c t h0 h1]; dsimp only; rw [out_C_10]; exact dzV_blk H t r k
    · rw [outsAt0_B m c t h0 h1]; dsimp only; rw [out_B_10]; exact dzV_blk H t r k

/-! ## The three column accumulators -/

theorem step_g (s : Vec Ideal S8x1024 .f32) (a : Fin 8) (k : Fin 1024) (v : ℝ) (hs : s (ix2 a k) = (v : EReal)) :
    k0_pay1 (k0_pay41 (dxV (iblk m c 0 t) (iblk m c 1 t) (iblk m c 2 t) (iblk m c 3 t) (iblk m c 4 t) (iblk m c 5 t)) (iblk m c 6 t) s) (ix2 a k)
      = ((v + part (fun t => I.dx t k * hat (I.z t) k) a t.val : ℝ) : EReal) := by
  rw [pay41_at, hs, part_tile]
  simp only [dxV_blk H t, hat_blk H t, ← EReal.coe_mul, coe_sum, ← EReal.coe_add]

theorem step_b (s : Vec Ideal S8x1024 .f32) (a : Fin 8) (k : Fin 1024) (v : ℝ) (hs : s (ix2 a k) = (v : EReal)) :
    k0_pay2 (F := Ideal) (dxV (iblk m c 0 t) (iblk m c 1 t) (iblk m c 2 t) (iblk m c 3 t) (iblk m c 4 t) (iblk m c 5 t)) s (ix2 a k)
      = ((v + part (fun t => I.dx t k) a t.val : ℝ) : EReal) := by
  rw [pay2_at, hs, part_tile]
  simp only [dxV_blk H t, coe_sum, ← EReal.coe_add]

theorem step_s (s : Vec Ideal S8x1024 .f32) (a : Fin 8) (k : Fin 1024) (v : ℝ) (hs : s (ix2 a k) = (v : EReal)) :
    k0_pay3 (F := Ideal) (k0_pay40 (dxV (iblk m c 0 t) (iblk m c 1 t) (iblk m c 2 t) (iblk m c 3 t) (iblk m c 4 t) (iblk m c 5 t)) (iblk m c 6 t) (iblk m c 7 t)) s (ix2 a k)
      = ((v + part (fun t => I.dz t k) a t.val : ℝ) : EReal) := by
  rw [pay3_at, hs, part_tile]
  simp only [dzV_blk H t, coe_sum, ← EReal.coe_add]

/-- After tile `n` each accumulator holds, at row `a`, the sum over the tiles so far of their rows that are `a` modulo 8. -/
theorem accs : ∀ (n : ℕ) (hn : n < cfg0.N) (a : Fin 8) (k : Fin 1024),
    (outsAt0 m c n hn).2.2.2.2.2.2.1 (ix2 a k) = ((∑ i ∈ Finset.range (n + 1), part (fun t => I.dx t k * hat (I.z t) k) a i : ℝ) : EReal)
    ∧ (outsAt0 m c n hn).2.2.2.2.2.2.2.1 (ix2 a k) = ((∑ i ∈ Finset.range (n + 1), part (fun t => I.dx t k) a i : ℝ) : EReal)
    ∧ (outsAt0 m c n hn).2.2.2.2.2.2.2.2 (ix2 a k) = ((∑ i ∈ Finset.range (n + 1), part (fun t => I.dz t k) a i : ℝ) : EReal)
  | 0, hn, a, k => by
    have e := outsAt0_A m c ⟨0, hn⟩ (Nat.zero_mod _) (fun h => by dsimp only at h; omega)
    dsimp only at e
    rw [e]
    dsimp only
    rw [sout_A_0, sout_A_1, sout_A_2, step_g H ⟨0, hn⟩ _ a k 0 (pay7_at _), step_b H ⟨0, hn⟩ _ a k 0 (pay8_at _),
      step_s H ⟨0, hn⟩ _ a k 0 (pay9_at _)]
    simp only [zero_add, Finset.sum_range_one, and_self]
  | n + 1, hn, a, k => by
    obtain ⟨e0, e1, e2⟩ := accs n (Nat.lt_of_succ_lt hn) a k
    have hN := lt_of_lt_of_eq hn (show cfg0.N = 32 from N_0)
    rw [Finset.sum_range_succ _ (n + 1), Finset.sum_range_succ _ (n + 1), Finset.sum_range_succ _ (n + 1)]
    by_cases h1 : (n + 1) % 32 = 31
    · have e := outsAt0_C m c ⟨n + 1, hn⟩ (by dsimp only; omega) h1
      dsimp only at e
      rw [e]
      dsimp only
      rw [sout_C_0, sout_C_1, sout_C_2]
      exact ⟨step_g H ⟨n + 1, hn⟩ _ a k _ e0, step_b H ⟨n + 1, hn⟩ _ a k _ e1, step_s H ⟨n + 1, hn⟩ _ a k _ e2⟩
    · have e := outsAt0_B m c ⟨n + 1, hn⟩ (by dsimp only; omega) h1
      dsimp only at e
      rw [e]
      dsimp only
      rw [sout_B_0, sout_B_1, sout_B_2]
      exact ⟨step_g H ⟨n + 1, hn⟩ _ a k _ e0, step_b H ⟨n + 1, hn⟩ _ a k _ e1, step_s H ⟨n + 1, hn⟩ _ a k _ e2⟩

omit H in
/-- After the last tile the three totals are the accumulators' column sums. -/
theorem last_totals (t : Fin cfg0.N) (h0 : ¬t.val % 32 = 0) (h1 : t.val % 32 = 31) :
    (outsAt0 m c t.val t.isLt).2.2.2.1 = k0_pay4 (F := Ideal) (outsAt0 m c t.val t.isLt).2.2.2.2.2.2.1
    ∧ (outsAt0 m c t.val t.isLt).2.2.2.2.1 = k0_pay5 (F := Ideal) (outsAt0 m c t.val t.isLt).2.2.2.2.2.2.2.1
    ∧ (outsAt0 m c t.val t.isLt).2.2.2.2.2.1 = k0_pay6 (F := Ideal) (outsAt0 m c t.val t.isLt).2.2.2.2.2.2.2.2 := by
  rw [outsAt0_C m c t h0 h1]
  dsimp only
  rw [out_C_11, out_C_12, out_C_13, sout_C_0, sout_C_1, sout_C_2]
  exact ⟨rfl, rfl, rfl⟩

theorem last_sums (hn : 31 < cfg0.N) (k : Fin 1024) :
    (outsAt0 m c 31 hn).2.2.2.1 (ix2 0 k) = (I.dg k : EReal) ∧ (outsAt0 m c 31 hn).2.2.2.2.1 (ix2 0 k) = (I.db k : EReal)
    ∧ (outsAt0 m c 31 hn).2.2.2.2.2.1 (ix2 0 k) = (I.ds k : EReal) := by
  obtain ⟨e0, e1, e2⟩ := last_totals (m := m) (c := c) ⟨31, hn⟩ (by dsimp only; omega) (by dsimp only)
  dsimp only at e0 e1 e2
  rw [e0, e1, e2, pay4_at, pay5_at, pay6_at]
  have a31 := accs H 31 hn
  simp only [(a31 _ k).1, (a31 _ k).2.1, (a31 _ k).2.2, coe_sum, sum_part]
  exact ⟨rfl, rfl, rfl⟩

/-! ## The arrays -/

theorem G8_at (j : Fin 4) (t : Fin 16384) (f : Fin 704) : G8 m c (ix3 j t f) = (I.dgate t (col j f) : EReal) := by
  have hp : pt8Of (ix3 j t f) = t.val / 512 := by
    show 32 * (j.val / 4 - 0) + 1 * (t.val / 512 - 0) + 1 * (f.val / 704 - 0) = _
    omega
  have hN : t.val / 512 < cfg0.N := lt_of_lt_of_eq (by omega) N_0.symm
  have hl : loc8Of (ix3 j t f) = ix3 j ⟨t.val % 512, Nat.mod_lt _ (by decide)⟩ f := by
    funext a; apply Fin.ext
    match a with
    | ⟨0, _⟩ => show j.val % 4 = j.val; omega
    | ⟨1, _⟩ => rfl
    | ⟨2, _⟩ => show f.val % 704 = f.val; omega
  unfold G8
  rw [dif_pos (by rw [hp]; exact hN), hl, fold0_congr m c _ _ _ (by rw [Nat.zero_add]; exact hN) hp, ← outsAt0_sweep m c _ hN,
    outs_dg H ⟨t.val / 512, hN⟩]
  rw [show row (tile ⟨t.val / 512, hN⟩) ⟨t.val % 512, Nat.mod_lt _ (by decide)⟩ = t from Fin.ext (Nat.div_add_mod' _ _)]

theorem G9_at (j : Fin 4) (t : Fin 16384) (f : Fin 704) : G9 m c (ix3 j t f) = (I.dup t (col j f) : EReal) := by
  have hp : pt9Of (ix3 j t f) = t.val / 512 := by
    show 32 * (j.val / 4 - 0) + 1 * (t.val / 512 - 0) + 1 * (f.val / 704 - 0) = _
    omega
  have hN : t.val / 512 < cfg0.N := lt_of_lt_of_eq (by omega) N_0.symm
  have hl : loc9Of (ix3 j t f) = ix3 j ⟨t.val % 512, Nat.mod_lt _ (by decide)⟩ f := by
    funext a; apply Fin.ext
    match a with
    | ⟨0, _⟩ => show j.val % 4 = j.val; omega
    | ⟨1, _⟩ => rfl
    | ⟨2, _⟩ => show f.val % 704 = f.val; omega
  unfold G9
  rw [dif_pos (by rw [hp]; exact hN), hl, fold0_congr m c _ _ _ (by rw [Nat.zero_add]; exact hN) hp, ← outsAt0_sweep m c _ hN,
    outs_du H ⟨t.val / 512, hN⟩]
  rw [show row (tile ⟨t.val / 512, hN⟩) ⟨t.val % 512, Nat.mod_lt _ (by decide)⟩ = t from Fin.ext (Nat.div_add_mod' _ _)]

theorem G10_at (t : Fin 16384) (k : Fin 1024) : G10 m c (ix2 t k) = (I.dz t k : EReal) := by
  have hp : pt10Of (ix2 t k) = t.val / 512 := by
    show 1 * (t.val / 512 - 0) + 1 * (k.val / 1024 - 0) = _
    omega
  have hN : t.val / 512 < cfg0.N := lt_of_lt_of_eq (by omega) N_0.symm
  have hl : loc10Of (ix2 t k) = ix2 ⟨t.val % 512, Nat.mod_lt _ (by decide)⟩ k := by
    funext a; apply Fin.ext
    match a with
    | ⟨0, _⟩ => rfl
    | ⟨1, _⟩ => show k.val % 1024 = k.val; omega
  unfold G10
  rw [dif_pos (by rw [hp]; exact hN), hl, fold0_congr m c _ _ _ (by rw [Nat.zero_add]; exact hN) hp, ← outsAt0_sweep m c _ hN,
    outs_dz H ⟨t.val / 512, hN⟩]
  rw [show row (tile ⟨t.val / 512, hN⟩) ⟨t.val % 512, Nat.mod_lt _ (by decide)⟩ = t from Fin.ext (Nat.div_add_mod' _ _)]

theorem G11_at (k : Fin 1024) : G11 m c (ix2 0 k) = (I.dg k : EReal) := by
  have hN : 31 < cfg0.N := lt_of_lt_of_eq (by decide) N_0.symm
  rw [G11_last, ← outsAt0_sweep m c 31 hN]
  exact (last_sums H hN k).1

theorem G12_at (k : Fin 1024) : G12 m c (ix2 0 k) = (I.db k : EReal) := by
  have hN : 31 < cfg0.N := lt_of_lt_of_eq (by decide) N_0.symm
  rw [G12_last, ← outsAt0_sweep m c 31 hN]
  exact (last_sums H hN k).2.1

theorem G13_at (k : Fin 1024) : G13 m c (ix2 0 k) = (I.ds k : EReal) := by
  have hN : 31 < cfg0.N := lt_of_lt_of_eq (by decide) N_0.symm
  rw [G13_last, ← outsAt0_sweep m c 31 hN]
  exact (last_sums H hN k).2.2

end Cert.KernelIdeal.Gen

end
-- ==== Proof.Grad.lean ====
module

public import proofs.«01_k».proof.Proof.Math
public import proofs.«01_k».proof.Proof.Gen.ReferenceIdeal.Run
public import Idealize.ShloMosaic.Lib.Pipeline.Value
public import Idealize.ShloMosaic.Lib.Pipeline.ValueKit.Point

/-! # The reference: the reverse pass of the sub-layer, entry by entry

Each named array of the reference's run is one quantity of `In`; the reverse pass of the layer norm, which goes back
through its variance and its mean, is `lnb`. -/

@[expose] public section

noncomputable section

namespace Cert.ReferenceIdeal.Value

open Idealize.ShloMosaic Idealize.ShloMosaic.TcCoe Idealize.SL.Sem Cert.ReferenceIdeal Cert.ReferenceIdeal.Gen Cert.Ffn

/-- The reference's argument arrays hold the real numbers of `I`. -/
abbrev HoldsIn (I : In) (V0 : Valuation τ sig (Elt Ideal)) : Prop :=
  Holds 1 I (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7))

variable {I : In} {V0 : Valuation τ sig (Elt Ideal)} (H : HoldsIn I V0)

include H

theorem z_at (t : Fin 16384) (k : Fin 1024) : res_main_v3 V0 (ix2 t k) = (I.z t k : EReal) := by
  unfold res_main_v3
  pointwise
  rw [H.r, H.bo, ← EReal.coe_add]; rfl

theorem mean_at (t : Fin 16384) : res_main_v7 V0 (ix2 t 0) = (mean (I.z t) : EReal) := by
  unfold res_main_v7
  pointwise
  simp only [z_at H, coe_sum, ofBits_1024, div_1024]
  rfl

theorem cen_at (t : Fin 16384) (k : Fin 1024) : res_main_v9 V0 (ix2 t k) = (cen (I.z t) k : EReal) := by
  unfold res_main_v9
  pointwise
  rw [z_at H, mean_at H, ← EReal.coe_sub]; rfl

theorem cen_at' (t : Fin 16384) (k : Fin 1024) : res_main_v18 V0 (ix2 t k) = (cen (I.z t) k : EReal) := by
  unfold res_main_v18
  pointwise
  rw [z_at H, mean_at H, ← EReal.coe_sub]; rfl

theorem vare_at (t : Fin 16384) : res_main_v20 V0 (ix2 t 0) = (vare (I.z t) : EReal) := by
  unfold res_main_v20
  pointwise
  simp only [cen_at H, ← EReal.coe_mul, coe_sum, ofBits_1024, ofBits_eps, div_1024, ← EReal.coe_add]
  rfl

theorem rstd_at (t : Fin 16384) : res_main_v21 V0 (ix2 t 0) = (rstd (I.z t) : EReal) := by
  unfold res_main_v21
  pointwise
  rw [vare_at H, rsqrt_pos (vare_pos _)]; rfl

theorem hat_at (t : Fin 16384) (k : Fin 1024) : res_main_v26 V0 (ix2 t k) = (hat (I.z t) k : EReal) := by
  unfold res_main_v26
  pointwise
  rw [cen_at' H, rstd_at H, ← EReal.coe_mul]; rfl

theorem g_at (k : Fin 1024) : res_main_v27 V0 (ix2 0 k) = (I.g k : EReal) := by
  unfold res_main_v27
  pointwise
  exact H.g k

theorem x_at (t : Fin 16384) (k : Fin 1024) : res_main_v32 V0 (ix2 t k) = (I.x t k : EReal) := by
  unfold res_main_v32
  pointwise
  rw [hat_at H, g_at H, H.b, ← EReal.coe_mul, ← EReal.coe_add]; rfl

theorem wg_at (k : Fin 1024) (f : Fin 2816) : res_main_v34 V0 (ix2 k f) = (I.wg k f : EReal) := by
  unfold res_main_v34
  pointwise
  exact H.wg k f

theorem wu_at (k : Fin 1024) (f : Fin 2816) : res_main_v38 V0 (ix2 k f) = (I.wu k f : EReal) := by
  unfold res_main_v38
  pointwise
  exact H.wu k f

theorem wd_at (f : Fin 2816) (k : Fin 1024) : res_main_v46 V0 (ix2 f k) = (I.wd f k : EReal) := by
  unfold res_main_v46
  pointwise
  exact H.wd f k

theorem gate_at (t : Fin 16384) (f : Fin 2816) : res_main_v36 V0 (ix2 t f) = (I.gate t f : EReal) := by
  unfold res_main_v36 res_main_v0
  pointwise
  simp only [x_at H, wg_at H, ← EReal.coe_mul, coe_sum, add_zero]
  rfl

theorem up_at (t : Fin 16384) (f : Fin 2816) : res_main_v40 V0 (ix2 t f) = (I.up t f : EReal) := by
  unfold res_main_v40 res_main_v0
  pointwise
  simp only [x_at H, wu_at H, ← EReal.coe_mul, coe_sum, add_zero]
  rfl

theorem sig_at (t : Fin 16384) (f : Fin 2816) : res_main_v43_2 V0 (ix2 t f) = (Cert.Ffn.sig (I.gate t f) : EReal) := by
  unfold res_main_v43_2
  pointwise
  rw [gate_at H, div_one_exp]; rfl

theorem silu_at (t : Fin 16384) (f : Fin 2816) : res_main_v43_0 V0 (ix2 t f) = (silu (I.gate t f) : EReal) := by
  unfold res_main_v43_0
  pointwise
  rw [gate_at H, sig_at H, ← EReal.coe_mul]; rfl

theorem dh_at (t : Fin 16384) (f : Fin 2816) : res_main_v51 V0 (ix2 t f) = (I.dh t f : EReal) := by
  unfold res_main_v51
  pointwise
  simp only [H.ct, wd_at H, ← EReal.coe_mul, coe_sum]
  rfl

theorem dup_at (t : Fin 16384) (f : Fin 2816) : res_main_v52 V0 (ix2 t f) = (I.dup t f : EReal) := by
  unfold res_main_v52
  pointwise
  rw [silu_at H, dh_at H, ← EReal.coe_mul, mul_comm]; rfl

theorem v53_at (t : Fin 16384) (f : Fin 2816) : res_main_v53 V0 (ix2 t f) = ((I.dh t f * I.up t f : ℝ) : EReal) := by
  unfold res_main_v53
  pointwise
  rw [up_at H, dh_at H, ← EReal.coe_mul]

theorem dgate_at (t : Fin 16384) (f : Fin 2816) : res_main_v54 V0 (ix2 t f) = (I.dgate t f : EReal) := by
  unfold res_main_v54
  pointwise
  rw [v53_at H, sig_at H, gate_at H, one_sub_coe]
  simp only [← EReal.coe_mul, ← EReal.coe_add]
  congr 1
  unfold In.dgate dsilu
  ring

theorem dx_at (t : Fin 16384) (k : Fin 1024) : res_main_v60 V0 (ix2 t k) = (I.dx t k : EReal) := by
  unfold res_main_v60
  pointwise
  simp only [H.ct, dup_at H, dgate_at H, wg_at H, wu_at H, ofBits_al, ← EReal.coe_mul, ← EReal.coe_add, coe_sum]
  rfl

theorem w_at (t : Fin 16384) (k : Fin 1024) : res_main_v68 V0 (ix2 t k) = ((I.dx t k * I.g k : ℝ) : EReal) := by
  unfold res_main_v68
  pointwise
  rw [dx_at H, g_at H, ← EReal.coe_mul]

theorem wr_at (t : Fin 16384) (k : Fin 1024) : res_main_v74 V0 (ix2 t k) = ((I.dx t k * I.g k * rstd (I.z t) : ℝ) : EReal) := by
  unfold res_main_v74
  pointwise
  rw [w_at H, rstd_at H, ← EReal.coe_mul]

theorem viaVar_at (t : Fin 16384) (k : Fin 1024) :
    res_main_v83 V0 (ix2 t k) = (viaVar (I.z t) (fun k => I.dx t k * I.g k) k : EReal) := by
  unfold res_main_v83
  pointwise
  simp only [cen_at H, cen_at' H, w_at H, rstd_at H, vare_at H, Cert.Ffn.div_pos (vare_pos _), ofBits_1024, ofBits_two, ofBits_neg_half,
    ← EReal.coe_mul, coe_sum, div_1024, Fin.sum_univ_one]
  rfl

/-- The residual's gradient as the run states it. -/
def dzIn (V0 : Valuation τ sig (Elt Ideal)) : (⟨S16384x1024, .f32⟩ : BufTy).Contents (Elt Ideal) :=
  addf (addf (res_main_v74 V0) (res_main_v83 V0)) (broadcastInDim S16384x1024 ![0] bcast_S16384_S16384x1024_0 (Host.reduceAdd (Host.divf (addf (shapeCast _ (Host.reduceAdd (Host.negf (res_main_v74 V0)) (constant S_ .f32 0x00000000#32) reducesTo_S16384x1024_S16384_d1 h_S_) shapeCasts_S16384_S16384x1) (shapeCast _ (Host.reduceAdd (Host.negf (res_main_v83 V0)) (constant S_ .f32 0x00000000#32) reducesTo_S16384x1024_S16384_d1 h_S_) shapeCasts_S16384_S16384x1)) (broadcastInDim S16384x1 ![] bcast_S_S16384x1 (constant S_ .f32 0x44800000#32))) (constant S_ .f32 0x00000000#32) reducesTo_S16384x1_S16384_d1 h_S_))

theorem dz_at (t : Fin 16384) (k : Fin 1024) : dzIn V0 (ix2 t k) = (I.dz t k : EReal) := by
  unfold dzIn
  pointwise
  simp only [wr_at H, viaVar_at H, ← EReal.coe_neg, ← EReal.coe_add, coe_sum, ofBits_1024, div_1024, Fin.sum_univ_one]
  congr 1
  exact lnb_of_reverse (I.z t) (fun k => I.dx t k * I.g k) k

/-- The first result: the gate's gradient, in chips. -/
theorem res0_at (j : Fin 4) (t : Fin 16384) (f : Fin 704) :
    (truncf .bf16 (transpose S4x16384x704 [1, 0, 2] (shapeCast _ (res_main_v54 V0) shapeCasts_S16384x2816_S16384x4x704) transposes_S16384x4x704_S4x16384x704_1_0_2) bitsLt_bf16_f32) (ix3 j t f)
      = (I.dgate t (col j f) : EReal) := by
  pointwise
  exact dgate_at H t (col j f)

/-- The second result: the up projection's gradient, in chips. -/
theorem res1_at (j : Fin 4) (t : Fin 16384) (f : Fin 704) :
    (truncf .bf16 (transpose S4x16384x704 [1, 0, 2] (shapeCast _ (res_main_v52 V0) shapeCasts_S16384x2816_S16384x4x704) transposes_S16384x4x704_S4x16384x704_1_0_2) bitsLt_bf16_f32) (ix3 j t f)
      = (I.dup t (col j f) : EReal) := by
  pointwise
  exact dup_at H t (col j f)

/-- The fourth result: the gain's gradient. -/
theorem res3_at (k : Fin 1024) :
    (shapeCast _ (Host.reduceAdd (shapeCast _ (Host.reduceAdd (mulf (res_main_v26 V0) (res_main_v60 V0)) (constant S_ .f32 0x00000000#32) reducesTo_S16384x1024_S1024_d0 h_S_) shapeCasts_S1024_S1x1024) (constant S_ .f32 0x00000000#32) reducesTo_S1x1024_S1024_d0 h_S_) shapeCasts_S1024_S1x1024 : FVec Ideal S1x1024 .f32) (ix2 0 k)
      = (I.dg k : EReal) := by
  pointwise
  simp only [hat_at H, dx_at H, ← EReal.coe_mul, coe_sum, Fin.sum_univ_one]
  exact congrArg _ (Finset.sum_congr rfl fun t _ => mul_comm _ _)

/-- The fifth result: the norm bias's gradient. -/
theorem res4_at (k : Fin 1024) :
    (shapeCast _ (Host.reduceAdd (shapeCast _ (Host.reduceAdd (res_main_v60 V0) (constant S_ .f32 0x00000000#32) reducesTo_S16384x1024_S1024_d0 h_S_) shapeCasts_S1024_S1x1024) (constant S_ .f32 0x00000000#32) reducesTo_S1x1024_S1024_d0 h_S_) shapeCasts_S1024_S1x1024 : FVec Ideal S1x1024 .f32) (ix2 0 k)
      = (I.db k : EReal) := by
  pointwise
  simp only [dx_at H, ← EReal.coe_mul, coe_sum, Fin.sum_univ_one]
  rfl

/-- The sixth result: the gradient of the bias before the sub-layer. -/
theorem res5_at (k : Fin 1024) :
    (shapeCast _ (Host.reduceAdd (shapeCast _ (Host.reduceAdd (dzIn V0) (constant S_ .f32 0x00000000#32) reducesTo_S16384x1024_S1024_d0 h_S_) shapeCasts_S1024_S1x1024) (constant S_ .f32 0x00000000#32) reducesTo_S1x1024_S1024_d0 h_S_) shapeCasts_S1024_S1x1024 : FVec Ideal S1x1024 .f32) (ix2 0 k)
      = (I.ds k : EReal) := by
  pointwise
  simp only [dz_at H, ← EReal.coe_mul, coe_sum, Fin.sum_univ_one]
  rfl

end Cert.ReferenceIdeal.Value

end
-- ==== Proof.Bounded.lean ====
module

public import proofs.«01_k».proof.Defs
public import Idealize.ShloMosaic.Lib.KernelVsHost

/-! # Entries without infinities: the preconditions' shape facts and what their comparison says of an entry -/

@[expose] public section

noncomputable section

namespace Cert.Pre_finite

/-- The precondition's shape facts. -/
theorem shapes : Facts where
  bcast_S_S16384x1024 := by decide
  bcast_S_S1024 := by decide
  bcast_S_S2x1024x2816 := by decide
  bcast_S_S2x2816x1024 := by decide

end Cert.Pre_finite

namespace Cert.Ffn

open Idealize.ShloMosaic Idealize.ShloMosaic.TcCoe Idealize.SL.Sem

/-- A value whose magnitude compares below infinity is neither infinity. -/
theorem ne_of_olt (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  rw [← Ideal.xori_weird_eq_hostAbsf_olt_inf] at h
  have h' : IntOp.xori (BitVec.ofBool (decide ((x : EReal) = ⊤ ∨ (x : EReal) = ⊥))) 1#1 = 1#1 := h
  refine not_or.mp fun hx => ?_
  rw [decide_eq_true hx] at h'
  exact absurd h' (by decide)

end Cert.Ffn

end
-- ==== Proof.Finite.lean ====
module

public import proofs.«01_k».proof.Defs
public import proofs.«01_k».proof.Proof.Host
public import proofs.«01_k».proof.Proof.Bounded

/-! # The precondition: finite arguments are real numbers -/

@[expose] public section

noncomputable section

namespace Cert.Ffn

open Idealize.ShloMosaic Idealize.ShloMosaic.TcCoe Idealize.SL.Sem

/-- Under the precondition the kernel's arguments hold real numbers. -/
theorem holds_of_pre (m : (ℓ : Loc KernelIdeal.nD KernelIdeal.τ KernelIdeal.sig) → Buf (Elt Ideal) ℓ)
    (h : Cert.Pre_KernelIdeal_finite (hPre_finite := Pre_finite.shapes) m) (c : Dev KernelIdeal.nD) :
    ∃ I, KernelIdeal.Gen.HoldsAt I m c := by
  obtain ⟨h0, h1, h2, h3, h4, h5, h6, h7⟩ := h c
  exact exists_holds 1 _ _ _ _ _ _ _ _ (fun i => ne_of_olt _ (congrFun h0 i)) (fun i => ne_of_olt _ (congrFun h1 i))
    (fun i => ne_of_olt _ (congrFun h2 i)) (fun i => ne_of_olt _ (congrFun h3 i)) (fun i => ne_of_olt _ (congrFun h4 i))
    (fun i => ne_of_olt _ (congrFun h5 i)) (fun i => ne_of_olt _ (congrFun h6 i)) (fun i => ne_of_olt _ (congrFun h7 i))

end Cert.Ffn

end
-- ==== Proof.Equation.lean ====
module

public import proofs.«01_k».proof.Proof.Arrays
public import proofs.«01_k».proof.Proof.Grad
public import proofs.«01_k».proof.Proof.Finite

/-! # The equation: each result of the kernel is the reference's -/

@[expose] public section

noncomputable section

namespace Cert.Proof

open Idealize.ShloMosaic Idealize.ShloMosaic.TcCoe Idealize.ShloMosaic.StableHlo Idealize.SL.Sem Cert.Ffn Cert.KernelIdeal.Gen

theorem algebraic : Cert.algebraic_KernelIdeal_ReferenceIdeal_pre_finite (hKernelIdeal := Cert.KernelIdeal.Gen.facts)
    (hReferenceIdeal := Cert.ReferenceIdeal.Gen.facts) (hPre_finite := Cert.Pre_finite.shapes) := by
  intro m g m' g' hpre hargs
  refine ⟨fun c => KernelIdeal.Value.G8 m c, fun c => KernelIdeal.Value.G9 m c, fun c => KernelIdeal.Value.G10 m c,
    fun c => KernelIdeal.Value.G11 m c, fun c => KernelIdeal.Value.G12 m c, fun c => KernelIdeal.Value.G13 m c,
    KernelIdeal.Value.run m g, ?_⟩
  refine (θ_run _ _ _).mono (fun r h c => ?_) (ReferenceIdeal.Value.run m' g')
  obtain ⟨h0, h1, h2, h3, h4, h5, ha⟩ := h c
  obtain ⟨I, H⟩ := holds_of_pre m hpre c
  obtain ⟨a0, a1, a2, a3, a4, a5, a6, a7⟩ := hargs c
  have H' : ReferenceIdeal.Value.HoldsIn I (launchContents m' c) := by
    show Holds 1 I
      (m' ((c.tc : Thread ReferenceIdeal.nD ReferenceIdeal.τ).loc ReferenceIdeal.main_arg0))
      (m' ((c.tc : Thread ReferenceIdeal.nD ReferenceIdeal.τ).loc ReferenceIdeal.main_arg1))
      (m' ((c.tc : Thread ReferenceIdeal.nD ReferenceIdeal.τ).loc ReferenceIdeal.main_arg2))
      (m' ((c.tc : Thread ReferenceIdeal.nD ReferenceIdeal.τ).loc ReferenceIdeal.main_arg3))
      (m' ((c.tc : Thread ReferenceIdeal.nD ReferenceIdeal.τ).loc ReferenceIdeal.main_arg4))
      (m' ((c.tc : Thread ReferenceIdeal.nD ReferenceIdeal.τ).loc ReferenceIdeal.main_arg5))
      (m' ((c.tc : Thread ReferenceIdeal.nD ReferenceIdeal.τ).loc ReferenceIdeal.main_arg6))
      (m' ((c.tc : Thread ReferenceIdeal.nD ReferenceIdeal.τ).loc ReferenceIdeal.main_arg7))
    rw [a0, a1, a2, a3, a4, a5, a6, a7]
    exact H
  refine ⟨h0.trans ?_, h1.trans ?_, h2.trans ?_, h3.trans ?_, h4.trans ?_, h5.trans ?_, ha⟩
  · funext i
    rw [← ix3_eta i]
    exact (ReferenceIdeal.Value.res0_at H' _ _ _).trans (G8_at H _ _ _).symm
  · funext i
    rw [← ix3_eta i]
    exact (ReferenceIdeal.Value.res1_at H' _ _ _).trans (G9_at H _ _ _).symm
  · funext i
    rw [← ix2_eta i]
    exact (ReferenceIdeal.Value.dz_at H' _ _).trans (G10_at H _ _).symm
  · funext i
    rw [row_eta i]
    exact (ReferenceIdeal.Value.res3_at H' _).trans (G11_at H _).symm
  · funext i
    rw [row_eta i]
    exact (ReferenceIdeal.Value.res4_at H' _).trans (G12_at H _).symm
  · funext i
    rw [row_eta i]
    exact (ReferenceIdeal.Value.res5_at H' _).trans (G13_at H _).symm

end Cert.Proof

end
-- ==== Proof.Tiles.lean ====
module

public import Idealize.ShloMosaic.Lib.Pipeline.Value
public import Idealize.ShloMosaic.Lib.Pipeline.ReadBack
public import Idealize.ShloMosaic.Lib.Ring
public import Idealize.ShloMosaic.Lib.IdealHost

/-! # Sums over the rows of an array taken a tile at a time, and stores over earlier stores -/

@[expose] public section

noncomputable section

namespace Cert.Tiles

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- Where the later stores already hold the entry, the earlier ones do not matter. -/
theorem canon_drop {S : Shape} {e : EltTy} {Val : EltTy → Type} [∀ e, Nonempty (Val e)] (L' : List (View.Piece Val S e)) (y : S.Idx) :
    ∀ L : List (View.Piece Val S e), (∃ p ∈ L, y ∈ p.1.set) → View.canon (L ++ L') y = View.canon L y
  | [], h => by obtain ⟨p, hp, _⟩ := h; exact absurd hp List.not_mem_nil
  | p :: L, h => by
    by_cases hy : y ∈ p.1.set
    · obtain ⟨r, w⟩ := p
      obtain ⟨x, rfl⟩ := r.exists_idx_of_mem hy
      exact (View.canon_cons_emb r w _ x).trans (View.canon_cons_emb r w _ x).symm
    · rw [List.cons_append, View.canon_cons_of_not_mem _ _ hy, View.canon_cons_of_not_mem _ _ hy]
      obtain ⟨q, hq, hyq⟩ := h
      rcases List.mem_cons.mp hq with rfl | hq'
      · exact absurd hyq hy
      · exact canon_drop L' y L ⟨q, hq', hyq⟩

theorem canon_four {S : Shape} {e : EltTy} {Val : EltTy → Type} [∀ e, Nonempty (Val e)] (a b c d p : View.Piece Val S e) (y : S.Idx)
    (h : ∃ q ∈ [a, b, c, d], y ∈ q.1.set) : View.canon [a, b, c, d, p] y = View.canon [a, b, c, d] y :=
  canon_drop [p] y [a, b, c, d] h

/-- Row `r` of tile `n`, of 16 tiles of 1024 rows. -/
def row (n : Fin 16) (r : Fin 1024) : Fin 16384 := ⟨n.val * 1024 + r.val, by omega⟩

/-- The sum of `f` over the rows of tile `n` (nothing past the last tile). -/
def part (f : Fin 16384 → EReal) (n : ℕ) : EReal := if h : n < 16 then ∑ r : Fin 1024, f (row ⟨n, h⟩ r) else 0

theorem part_tile (f : Fin 16384 → EReal) (n : Fin 16) : part f n.val = ∑ r : Fin 1024, f (row n r) := dif_pos n.isLt

theorem sum_part (f : Fin 16384 → EReal) : ∑ n ∈ Finset.range 16, part f n = ∑ t, f t := by
  rw [Finset.sum_range, ← Equiv.sum_comp (finProdFinEquiv (m := 16) (n := 1024)) f, Fintype.sum_prod_type]
  refine Finset.sum_congr rfl fun n _ => ?_
  unfold part
  rw [dif_pos n.isLt]
  refine Finset.sum_congr rfl fun r _ => congrArg f (Fin.ext ?_)
  show n.val * 1024 + r.val = r.val + 1024 * n.val
  omega

/-- A run of a body that starts from the first tile's sum and adds each later tile's holds, after tile `n`, the sum so far. -/
theorem sum_so_far {N : ℕ} (hN : N = 16) (f : Fin 16384 → EReal) (a : (n : ℕ) → n < N → EReal)
    (h0 : ∀ h, a 0 h = part f 0) (hs : ∀ n h, a (n + 1) h = a n (Nat.lt_of_succ_lt h) + part f (n + 1)) :
    ∀ (n : ℕ) (h : n < N), a n h = ∑ i ∈ Finset.range (n + 1), part f i
  | 0, h => by rw [h0, Finset.sum_range_one]
  | n + 1, h => by rw [hs, sum_so_far hN f a h0 hs n, ← Finset.sum_range_succ]

theorem sum_all {N : ℕ} (hN : N = 16) (f : Fin 16384 → EReal) (a : (n : ℕ) → n < N → EReal)
    (h0 : ∀ h, a 0 h = part f 0) (hs : ∀ n h, a (n + 1) h = a n (Nat.lt_of_succ_lt h) + part f (n + 1)) (h : 15 < N) :
    a 15 h = ∑ t, f t := by
  rw [sum_so_far hN f a h0 hs 15 h, sum_part]

end Cert.Tiles

end
-- ==== Proof.GradUp.lean ====
module

public import proofs.«01_k».proof.Defs
public import proofs.«01_k».proof.Proof.Tiles
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Lib.Pipeline.Value
public import Idealize.ShloMosaic.Lib.Pipeline.ValueKit
public import Idealize.ShloMosaic.Lib.Pipeline.ValueKit.Point
public import Idealize.ShloMosaic.Lib.IdealHost

/-! # The weight gradient of a gate or up projection: the tiles' products add up to the reference's product -/

@[expose] public section

noncomputable section

namespace Cert.Kernel2Ideal.Gen

open Idealize.ShloMosaic Idealize.ShloMosaic.TcCoe Idealize.SL.Sem Cert.Tiles

/-! ## The body's products, chip by chip -/

theorem pay5_at (x : Vec Ideal S1x1024x1024 .f32) (w : Vec Ideal S1x1024x704 .bf16) (a : Vec Ideal S1x1024x704 .f32) (k : Fin 1024) (f : Fin 704) :
    k0_pay5 x w a (ix3 0 k f) = a (ix3 0 k f) + ∑ r : Fin 1024, x (ix3 0 r k) * w (ix3 0 r f) := by
  pointwise [k0_pay5, k0_pay4]

theorem pay6_at (x : Vec Ideal S1x1024x1024 .f32) (w : Vec Ideal S1x1024x704 .bf16) (a : Vec Ideal S1x1024x704 .f32) (k : Fin 1024) (f : Fin 704) :
    k0_pay6 x w a (ix3 0 k f) = a (ix3 0 k f) + ∑ r : Fin 1024, x (ix3 0 r k) * w (ix3 0 r f) := by
  pointwise [k0_pay6, k0_pay4]

theorem pay1_at (x : Vec Ideal S1x1024x1024 .f32) (w : Vec Ideal S1x1024x704 .bf16) (a : Vec Ideal S1x1024x704 .f32) (k : Fin 1024) (f : Fin 704) :
    k0_pay1 (k0_pay4 x) (k0_pay7 w) a (ix3 0 k f) = a (ix3 0 k f) + ∑ r : Fin 1024, x (ix3 0 r k) * w (ix3 0 r f) := by
  pointwise [k0_pay1, k0_pay4, k0_pay7]

theorem pay2_at (x : Vec Ideal S1x1024x1024 .f32) (w : Vec Ideal S1x1024x704 .bf16) (a : Vec Ideal S1x1024x704 .f32) (k : Fin 1024) (f : Fin 704) :
    k0_pay2 (k0_pay4 x) w a (ix3 0 k f) = a (ix3 0 k f) + ∑ r : Fin 1024, x (ix3 0 r k) * w (ix3 0 r f) := by
  pointwise [k0_pay2, k0_pay4]

/-- The place in chip `J`'s slab of an entry. -/
theorem place {j : Fin 4} {k : Fin 1024} {f : Fin 704} (J : Fin 4) (x : S1x1024x704.Idx) (h0 : j.val = J.val + (x 0).val)
    (h1 : k.val = (x 1).val) (h2 : f.val = (x 2).val) : j = J ∧ x = ix3 0 k f := by
  have hx : (x 0).val < 1 := (x 0).isLt
  refine ⟨Fin.ext (by omega), (eq_ix3 x).trans ?_⟩
  rw [show x 0 = (0 : Fin 1) from Fin.ext (by show (x 0).val = 0; omega), show x 1 = k from Fin.ext h1.symm,
    show x 2 = f from Fin.ext h2.symm]

variable (c : Dev nD) (i : grid0.Coords)
  (a1 : Memref sig .tc .vmem S1x1024x1024 .f32) (h1 : a1.IsWhole)
  (a2 : Memref sig .tc .vmem S4x1024x704 .bf16) (h2 : a2.IsWhole)
  (a3 : Memref sig .tc .vmem S4x1024x704 .f32) (h3 : a3.IsWhole)
  (x0 : Vec Ideal S1x1024x1024 .f32) (x1 : Vec Ideal S4x1024x704 .bf16) (xo : Vec Ideal S4x1024x704 .f32)

/-- The first tile's body leaves its own product. -/
theorem out_A (hc0 : cond0_0 i) (j : Fin 4) (k : Fin 1024) (f : Fin 704) :
    out0_A_2 c i a1 h1 a2 h2 a3 h3 hc0 x0 x1 (ix3 j k f) = ∑ r : Fin 1024, x0 (ix3 0 r k) * x1 (ix3 j r f) := by
  unfold out0_A_2
  rw [View.read_writes_eq_canon _ _ _ (cover0_A_2 c i a1 h1 a2 h2 a3 h3 hc0 x0 x1)]
  unfold kernelRun0_A
  dsimp only
  sl_unfold_words
  simp only [View.readAt_eq_ld, h1.read_unread, h2.read_unread, h3.read_unread, View.ld_unit_zero (S := S1x1024x1024) hz3]
  simp (disch := decide) only [↓View.readCov_skip, ↓View.readCov_fill]
  rw [canon_four]
  case h => exact View.cover_of_tiledL (s := S4x1024x704) _ ![1, 1024, 704] (by sl_kernel_rfl) _
  canon_tiles
  · obtain ⟨rfl, rfl⟩ := place 3 x h0 h1 h2
    refine (pay2_at _ _ _ k f).trans ?_
    pointwise [k0_pay3]
  · obtain ⟨rfl, rfl⟩ := place 2 x h0 h1 h2
    refine (pay1_at _ _ _ k f).trans ?_
    pointwise [k0_pay3]
  · obtain ⟨rfl, rfl⟩ := place 1 x h0 h1 h2
    refine (pay6_at _ _ _ k f).trans ?_
    pointwise [k0_pay3]
  · obtain ⟨rfl, rfl⟩ := place 0 x (h0.trans (Nat.zero_add _).symm) h1 h2
    refine (pay5_at _ _ _ k f).trans ?_
    pointwise [k0_pay3]

/-- A later tile's body adds its product to what it finds. -/
theorem out_B (hc0 : ¬cond0_0 i) (j : Fin 4) (k : Fin 1024) (f : Fin 704) :
    out0_B_2 c i a1 h1 a2 h2 a3 h3 hc0 x0 x1 xo (ix3 j k f) = xo (ix3 j k f) + ∑ r : Fin 1024, x0 (ix3 0 r k) * x1 (ix3 j r f) := by
  unfold out0_B_2
  rw [View.read_writes_eq_canon _ _ _ (cover0_B_2 c i a1 h1 a2 h2 a3 h3 hc0 x0 x1 xo)]
  unfold kernelRun0_B
  dsimp only
  sl_unfold_words
  simp only [View.readAt_eq_ld, h1.read_unread, h2.read_unread, h3.read_unread, View.ld_unit_zero (S := S1x1024x1024) hz3]
  canon_tiles
  · obtain ⟨rfl, rfl⟩ := place 3 x h0 h1 h2
    refine (pay2_at _ _ _ k f).trans ?_
    pointwise
  · obtain ⟨rfl, rfl⟩ := place 2 x h0 h1 h2
    refine (pay1_at _ _ _ k f).trans ?_
    pointwise
  · obtain ⟨rfl, rfl⟩ := place 1 x h0 h1 h2
    refine (pay6_at _ _ _ k f).trans ?_
    pointwise
  · obtain ⟨rfl, rfl⟩ := place 0 x (h0.trans (Nat.zero_add _).symm) h1 h2
    refine (pay5_at _ _ _ k f).trans ?_
    pointwise

/-! ## The blocks the tiles show the body -/

/-- The tile number of a point of the grid. -/
def tile (t : Fin cfg0.N) : Fin 16 := ⟨t.val, lt_of_lt_of_eq t.isLt N_0⟩

/-- Feature `f` of chip `j`, of four chips' 704. -/
def col (j : Fin 4) (f : Fin 704) : Fin 2816 := ⟨j.val * 704 + f.val, by omega⟩

theorem idx0_0 : ∀ t : Fin cfg0.N, win0_0.index t = ![0, t.val, 0] := by decide +kernel
theorem idx0_1 : ∀ t : Fin cfg0.N, win0_1.index t = ![0, t.val, 0] := by decide +kernel

variable (m : (ℓ : Loc nD τ sig) → Buf (Elt Ideal) ℓ)

/-- The rows' vectors and the rows' features, as functions of the arguments. -/
def X (t : Fin 16384) (k : Fin 1024) : EReal := (m ((c : Thread nD τ).loc main_arg0) : Vec Ideal S16384x1024 .f32) (ix2 t k)
def Y (t : Fin 16384) (f : Fin 2816) : EReal := (m ((c : Thread nD τ).loc main_arg1) : Vec Ideal S16384x2816 .f32) (ix2 t f)

theorem V_x (t : Fin 16384) (k : Fin 1024) : (V m c main_v0 : Vec Ideal S1x16384x1024 .f32) (ix3 0 t k) = X c m t k := by
  entry_read
  pointwise
  rfl

theorem V_y (j : Fin 4) (t : Fin 16384) (f : Fin 704) : (V m c main_v3 : Vec Ideal S4x16384x704 .bf16) (ix3 j t f) = Y c m t (col j f) := by
  entry_read
  pointwise
  rfl

theorem blk_x (t : Fin cfg0.N) (r : Fin 1024) (k : Fin 1024) :
    (iblk m c 0 t : Vec Ideal S1x1024x1024 .f32) (ix3 0 r k) = X c m (row (tile t) r) k := by
  rw [← V_x]
  unfold iblk
  generalize V m c main_v0 = A
  blk_ext! [idx0_0 t, tile, row]

theorem blk_y (t : Fin cfg0.N) (j : Fin 4) (r : Fin 1024) (f : Fin 704) :
    (iblk m c 1 t : Vec Ideal S4x1024x704 .bf16) (ix3 j r f) = Y c m (row (tile t) r) (col j f) := by
  rw [← V_y]
  unfold iblk
  generalize V m c main_v3 = A
  blk_ext! [idx0_1 t, tile, row]

/-- The product of a tile's blocks is the tile's part of the sum over all rows. -/
theorem tile_sum (t : Fin cfg0.N) (x : Vec Ideal S1x1024x1024 .f32) (y : Vec Ideal S4x1024x704 .bf16) (hx : x = iblk m c 0 t)
    (hy : y = iblk m c 1 t) (j : Fin 4) (k : Fin 1024) (f : Fin 704) : ∑ r : Fin 1024, x (ix3 0 r k) * y (ix3 j r f)
      = part (fun i => X c m i k * Y c m i (col j f)) t.val := by
  subst hx hy
  simp only [blk_x, blk_y]
  exact (part_tile (fun i => X c m i k * Y c m i (col j f)) (tile t)).symm

theorem outs_last (h : 15 < cfg0.N) (j : Fin 4) (k : Fin 1024) (f : Fin 704) :
    (outsAt0 m c 15 h) (ix3 j k f) = ∑ i, X c m i k * Y c m i (col j f) := by
  refine sum_all N_0 (fun i => X c m i k * Y c m i (col j f)) (fun n hn => (outsAt0 m c n hn) (ix3 j k f)) (fun h => ?_) (fun n hn => ?_) h
  · have e := outsAt0_A m c ⟨0, h⟩ (Nat.zero_mod _)
    dsimp only at e
    rw [e]
    rw [out_A, tile_sum c m ⟨0, h⟩ _ _ rfl rfl]
  · have hN := lt_of_lt_of_eq hn (show cfg0.N = 16 from N_0)
    have e := outsAt0_B m c ⟨n + 1, hn⟩ (by dsimp only; omega)
    dsimp only [Nat.add_sub_cancel] at e
    rw [e]
    rw [out_B, tile_sum c m ⟨n + 1, hn⟩ _ _ rfl rfl]
    rfl

/-- What the result array ends holding. -/
theorem result : (dats m 0 c).arrAt 2 cfg0.N = (fun i => ∑ t, X c m t (i 1) * Y c m t (col (i 0) (i 2)) : Vec Ideal S4x1024x704 .f32) := by
  refine (dats m 0 c).arrAt_eq_of_after_last 2 ⟨15, by rw [show cfg0.N = 16 from N_0]; decide⟩ (by decide +kernel) _ fun i => ?_
  blk_simp
  refine (congrFun (after0_2 m c _) _).trans ?_
  exact (congrArg _ (eq_ix3 i)).trans (outs_last c m _ (i 0) (i 1) (i 2))

end Cert.Kernel2Ideal.Gen

namespace Cert.Proof

open Idealize.ShloMosaic Idealize.ShloMosaic.TcCoe Idealize.SL.Sem

theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨_, Kernel2Ideal.Value.run_blocks m g, ?_⟩
  refine (θ_run _ _ _).mono (fun r h c => ?_) (Reference2Ideal.Value.run m' g')
  obtain ⟨h0, ha⟩ := h c
  obtain ⟨a0, a1⟩ := hargs c
  refine ⟨h0.trans ?_, ha⟩
  rw [a0, a1, Kernel2Ideal.Gen.result]
  funext i
  rw [← ix3_eta i]
  pointwise
  exact Finset.sum_congr rfl fun t _ => mul_comm _ _

end Cert.Proof

end
-- ==== Proof.GradDown.lean ====
module

public import proofs.«01_k».proof.Defs
public import proofs.«01_k».proof.Proof.Tiles
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.Value
public import Idealize.ShloMosaic.Lib.Pipeline.ValueKit
public import Idealize.ShloMosaic.Lib.Pipeline.ValueKit.Point
public import Idealize.ShloMosaic.Lib.IdealHost

/-! # The weight gradient of a down projection: the tiles' products add up to the reference's product -/

@[expose] public section

noncomputable section

namespace Cert.Kernel3Ideal.Gen

open Idealize.ShloMosaic Idealize.ShloMosaic.TcCoe Idealize.SL.Sem Cert.Tiles

/-! ## The body's products, chip by chip -/

theorem pay5_at (x : Vec Ideal S1x1024x1024 .f32) (w : Vec Ideal S1x1024x704 .bf16) (a : Vec Ideal S1x704x1024 .f32) (k : Fin 1024) (f : Fin 704) :
    k0_pay5 x w a (ix3 0 f k) = a (ix3 0 f k) + ∑ r : Fin 1024, w (ix3 0 r f) * x (ix3 0 r k) := by
  pointwise [k0_pay5, k0_pay4]

theorem pay6_at (x : Vec Ideal S1x1024x1024 .f32) (w : Vec Ideal S1x1024x704 .bf16) (a : Vec Ideal S1x704x1024 .f32) (k : Fin 1024) (f : Fin 704) :
    k0_pay6 x w a (ix3 0 f k) = a (ix3 0 f k) + ∑ r : Fin 1024, w (ix3 0 r f) * x (ix3 0 r k) := by
  pointwise [k0_pay6, k0_pay4]

theorem pay1_at (x : Vec Ideal S1x1024x1024 .f32) (w : Vec Ideal S1x1024x704 .bf16) (a : Vec Ideal S1x704x1024 .f32) (k : Fin 1024) (f : Fin 704) :
    k0_pay1 (k0_pay4 x) (k0_pay7 w) a (ix3 0 f k) = a (ix3 0 f k) + ∑ r : Fin 1024, w (ix3 0 r f) * x (ix3 0 r k) := by
  pointwise [k0_pay1, k0_pay4, k0_pay7]

theorem pay2_at (x : Vec Ideal S1x1024x1024 .f32) (w : Vec Ideal S1x1024x704 .bf16) (a : Vec Ideal S1x704x1024 .f32) (k : Fin 1024) (f : Fin 704) :
    k0_pay2 (k0_pay4 x) w a (ix3 0 f k) = a (ix3 0 f k) + ∑ r : Fin 1024, w (ix3 0 r f) * x (ix3 0 r k) := by
  pointwise [k0_pay2, k0_pay4]

/-- The place in chip `J`'s slab of an entry. -/
theorem place {j : Fin 4} {f : Fin 704} {k : Fin 1024} (J : Fin 4) (x : S1x704x1024.Idx) (h0 : j.val = J.val + (x 0).val)
    (h1 : f.val = (x 1).val) (h2 : k.val = (x 2).val) : j = J ∧ x = ix3 0 f k := by
  have hx : (x 0).val < 1 := (x 0).isLt
  refine ⟨Fin.ext (by omega), (eq_ix3 x).trans ?_⟩
  rw [show x 0 = (0 : Fin 1) from Fin.ext (by show (x 0).val = 0; omega), show x 1 = f from Fin.ext h1.symm,
    show x 2 = k from Fin.ext h2.symm]

variable (c : Dev nD) (i : grid0.Coords)
  (a1 : Memref sig .tc .vmem S4x1024x704 .bf16) (h1 : a1.IsWhole)
  (a2 : Memref sig .tc .vmem S1x1024x1024 .f32) (h2 : a2.IsWhole)
  (a3 : Memref sig .tc .vmem S4x704x1024 .f32) (h3 : a3.IsWhole)
  (x0 : Vec Ideal S4x1024x704 .bf16) (x1 : Vec Ideal S1x1024x1024 .f32) (xo : Vec Ideal S4x704x1024 .f32)

/-- The first tile's body leaves its own product. -/
theorem out_A (hc0 : cond0_0 i) (j : Fin 4) (k : Fin 1024) (f : Fin 704) :
    out0_A_2 c i a1 h1 a2 h2 a3 h3 hc0 x0 x1 (ix3 j f k) = ∑ r : Fin 1024, x0 (ix3 j r f) * x1 (ix3 0 r k) := by
  unfold out0_A_2
  rw [View.read_writes_eq_canon _ _ _ (cover0_A_2 c i a1 h1 a2 h2 a3 h3 hc0 x0 x1)]
  unfold kernelRun0_A
  dsimp only
  sl_unfold_words
  simp only [View.readAt_eq_ld, h1.read_unread, h2.read_unread, h3.read_unread, View.ld_unit_zero (S := S1x1024x1024) hz3]
  simp (disch := decide) only [↓View.readCov_skip, ↓View.readCov_fill]
  rw [canon_four]
  case h => exact View.cover_of_tiledL (s := S4x704x1024) _ ![1, 704, 1024] (by sl_kernel_rfl) _
  canon_tiles
  · obtain ⟨rfl, rfl⟩ := place 3 x h0 h1 h2
    refine (pay2_at _ _ _ k f).trans ?_
    pointwise [k0_pay3]
  · obtain ⟨rfl, rfl⟩ := place 2 x h0 h1 h2
    refine (pay1_at _ _ _ k f).trans ?_
    pointwise [k0_pay3]
  · obtain ⟨rfl, rfl⟩ := place 1 x h0 h1 h2
    refine (pay6_at _ _ _ k f).trans ?_
    pointwise [k0_pay3]
  · obtain ⟨rfl, rfl⟩ := place 0 x (h0.trans (Nat.zero_add _).symm) h1 h2
    refine (pay5_at _ _ _ k f).trans ?_
    pointwise [k0_pay3]

/-- A later tile's body adds its product to what it finds. -/
theorem out_B (hc0 : ¬cond0_0 i) (j : Fin 4) (k : Fin 1024) (f : Fin 704) :
    out0_B_2 c i a1 h1 a2 h2 a3 h3 hc0 x0 x1 xo (ix3 j f k) = xo (ix3 j f k) + ∑ r : Fin 1024, x0 (ix3 j r f) * x1 (ix3 0 r k) := by
  unfold out0_B_2
  rw [View.read_writes_eq_canon _ _ _ (cover0_B_2 c i a1 h1 a2 h2 a3 h3 hc0 x0 x1 xo)]
  unfold kernelRun0_B
  dsimp only
  sl_unfold_words
  simp only [View.readAt_eq_ld, h1.read_unread, h2.read_unread, h3.read_unread, View.ld_unit_zero (S := S1x1024x1024) hz3]
  canon_tiles
  · obtain ⟨rfl, rfl⟩ := place 3 x h0 h1 h2
    refine (pay2_at _ _ _ k f).trans ?_
    pointwise
  · obtain ⟨rfl, rfl⟩ := place 2 x h0 h1 h2
    refine (pay1_at _ _ _ k f).trans ?_
    pointwise
  · obtain ⟨rfl, rfl⟩ := place 1 x h0 h1 h2
    refine (pay6_at _ _ _ k f).trans ?_
    pointwise
  · obtain ⟨rfl, rfl⟩ := place 0 x (h0.trans (Nat.zero_add _).symm) h1 h2
    refine (pay5_at _ _ _ k f).trans ?_
    pointwise

/-! ## The blocks the tiles show the body -/

/-- The tile number of a point of the grid. -/
def tile (t : Fin cfg0.N) : Fin 16 := ⟨t.val, lt_of_lt_of_eq t.isLt N_0⟩

/-- Feature `f` of chip `j`, of four chips' 704. -/
def col (j : Fin 4) (f : Fin 704) : Fin 2816 := ⟨j.val * 704 + f.val, by omega⟩

theorem idx0_0 : ∀ t : Fin cfg0.N, win0_0.index t = ![0, t.val, 0] := by decide +kernel
theorem idx0_1 : ∀ t : Fin cfg0.N, win0_1.index t = ![0, t.val, 0] := by decide +kernel

variable (m : (ℓ : Loc nD τ sig) → Buf (Elt Ideal) ℓ)

/-- The rows' vectors and the rows' features, as functions of the arguments. -/
def X (t : Fin 16384) (k : Fin 1024) : EReal := (m ((c : Thread nD τ).loc main_arg1) : Vec Ideal S16384x1024 .f32) (ix2 t k)
def Y (t : Fin 16384) (f : Fin 2816) : EReal := (m ((c : Thread nD τ).loc main_arg0) : Vec Ideal S16384x2816 .f32) (ix2 t f)

theorem V_x (t : Fin 16384) (k : Fin 1024) : (V m c main_v3 : Vec Ideal S1x16384x1024 .f32) (ix3 0 t k) = X c m t k := by
  entry_read
  pointwise
  rfl

theorem V_y (j : Fin 4) (t : Fin 16384) (f : Fin 704) : (V m c main_v2 : Vec Ideal S4x16384x704 .bf16) (ix3 j t f) = Y c m t (col j f) := by
  entry_read
  pointwise
  rfl

theorem blk_x (t : Fin cfg0.N) (r : Fin 1024) (k : Fin 1024) :
    (iblk m c 1 t : Vec Ideal S1x1024x1024 .f32) (ix3 0 r k) = X c m (row (tile t) r) k := by
  rw [← V_x]
  unfold iblk
  generalize V m c main_v3 = A
  blk_ext! [idx0_1 t, tile, row]

theorem blk_y (t : Fin cfg0.N) (j : Fin 4) (r : Fin 1024) (f : Fin 704) :
    (iblk m c 0 t : Vec Ideal S4x1024x704 .bf16) (ix3 j r f) = Y c m (row (tile t) r) (col j f) := by
  rw [← V_y]
  unfold iblk
  generalize V m c main_v2 = A
  blk_ext! [idx0_0 t, tile, row]

/-- The product of a tile's blocks is the tile's part of the sum over all rows. -/
theorem tile_sum (t : Fin cfg0.N) (x : Vec Ideal S1x1024x1024 .f32) (y : Vec Ideal S4x1024x704 .bf16) (hx : x = iblk m c 1 t)
    (hy : y = iblk m c 0 t) (j : Fin 4) (k : Fin 1024) (f : Fin 704) : ∑ r : Fin 1024, y (ix3 j r f) * x (ix3 0 r k)
      = part (fun i => Y c m i (col j f) * X c m i k) t.val := by
  subst hx hy
  simp only [blk_x, blk_y]
  exact (part_tile (fun i => Y c m i (col j f) * X c m i k) (tile t)).symm

theorem outs_last (h : 15 < cfg0.N) (j : Fin 4) (k : Fin 1024) (f : Fin 704) :
    (outsAt0 m c 15 h) (ix3 j f k) = ∑ i, Y c m i (col j f) * X c m i k := by
  refine sum_all N_0 (fun i => Y c m i (col j f) * X c m i k) (fun n hn => (outsAt0 m c n hn) (ix3 j f k)) (fun h => ?_) (fun n hn => ?_) h
  · have e := outsAt0_A m c ⟨0, h⟩ (Nat.zero_mod _)
    dsimp only at e
    rw [e]
    rw [out_A, tile_sum c m ⟨0, h⟩ _ _ rfl rfl]
  · have hN := lt_of_lt_of_eq hn (show cfg0.N = 16 from N_0)
    have e := outsAt0_B m c ⟨n + 1, hn⟩ (by dsimp only; omega)
    dsimp only [Nat.add_sub_cancel] at e
    rw [e]
    rw [out_B, tile_sum c m ⟨n + 1, hn⟩ _ _ rfl rfl]
    rfl

/-- What the result array ends holding. -/
theorem result : (dats m 0 c).arrAt 2 cfg0.N = (fun i => ∑ t, Y c m t (col (i 0) (i 1)) * X c m t (i 2) : Vec Ideal S4x704x1024 .f32) := by
  refine (dats m 0 c).arrAt_eq_of_after_last 2 ⟨15, by rw [show cfg0.N = 16 from N_0]; decide⟩ (by decide +kernel) _ fun i => ?_
  blk_simp
  refine (congrFun (after0_2 m c _) _).trans ?_
  exact (congrArg _ (eq_ix3 i)).trans (outs_last c m _ (i 0) (i 2) (i 1))

end Cert.Kernel3Ideal.Gen

namespace Cert.Proof

open Idealize.ShloMosaic Idealize.ShloMosaic.TcCoe Idealize.SL.Sem

theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨_, Kernel3Ideal.Value.run_blocks m g, ?_⟩
  refine (θ_run _ _ _).mono (fun r h c => ?_) (Reference3Ideal.Value.run m' g')
  obtain ⟨h0, ha⟩ := h c
  obtain ⟨a0, a1⟩ := hargs c
  refine ⟨h0.trans ?_, ha⟩
  rw [a0, a1, Kernel3Ideal.Gen.result]
  funext i
  rw [← ix3_eta i]
  pointwise
  exact Finset.sum_congr rfl fun t _ => mul_comm _ _

end Cert.Proof

end
-- ==== Proof.GradOut.lean ====
module

public import proofs.«01_k».proof.Defs
public import proofs.«01_k».proof.Proof.Tiles
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Lib.Pipeline.Value
public import Idealize.ShloMosaic.Lib.Pipeline.ValueKit
public import Idealize.ShloMosaic.Lib.Pipeline.ValueKit.Point
public import Idealize.ShloMosaic.Lib.IdealHost

/-! # The weight gradient of the attention's output projection: the tiles' products add up to the reference's product -/

@[expose] public section

noncomputable section

namespace Cert.Kernel4Ideal.Gen

open Idealize.ShloMosaic Idealize.ShloMosaic.TcCoe Idealize.SL.Sem Cert.Tiles

/-- The body adds the product of its two blocks to what it finds. -/
theorem pay2_at (x : Vec Ideal S1024x1024 .bf16) (y : Vec Ideal S1024x1024 .f32) (a : Vec Ideal S1024x1024 .f32) (k : Fin 1024) (f : Fin 1024) :
    k0_pay2 a x y (ix2 k f) = a (ix2 k f) + ∑ r : Fin 1024, x (ix2 k r) * y (ix2 r f) := by
  pointwise [k0_pay2]

theorem pay1_at (k : Fin 1024) (f : Fin 1024) : k0_pay1 (F := Ideal) (ix2 k f) = 0 := by
  pointwise [k0_pay1]

/-- The tile number of a point of the grid. -/
def tile (t : Fin cfg0.N) : Fin 16 := ⟨t.val, lt_of_lt_of_eq t.isLt N_0⟩

theorem idx0_0 : ∀ t : Fin cfg0.N, win0_0.index t = ![0, t.val] := by decide +kernel
theorem idx0_1 : ∀ t : Fin cfg0.N, win0_1.index t = ![t.val, 0] := by decide +kernel

variable (c : Dev nD) (m : (ℓ : Loc nD τ sig) → Buf (Elt Ideal) ℓ)

/-- The two arguments as functions. -/
def X (t : Fin 16384) (k : Fin 1024) : EReal := (m ((c : Thread nD τ).loc main_arg0) : Vec Ideal S16384x1024 .f32) (ix2 t k)
def Y (t : Fin 16384) (f : Fin 1024) : EReal := (m ((c : Thread nD τ).loc main_arg1) : Vec Ideal S16384x1024 .f32) (ix2 t f)

theorem V_x (t : Fin 16384) (k : Fin 1024) : (V m c main_v1 : Vec Ideal S1024x16384 .bf16) (ix2 k t) = X c m t k := by
  entry_read
  pointwise
  rfl

theorem V_y (t : Fin 16384) (f : Fin 1024) : (V m c main_arg1 : Vec Ideal S16384x1024 .f32) (ix2 t f) = Y c m t f := by
  rw [V_main_arg1 m c]
  rfl

theorem blk_x (t : Fin cfg0.N) (r : Fin 1024) (k : Fin 1024) : (iblk m c 0 t : Vec Ideal S1024x1024 .bf16) (ix2 k r) = X c m (row (tile t) r) k := by
  rw [← V_x]
  unfold iblk
  generalize V m c main_v1 = A
  blk_ext! [idx0_0 t, tile, row]

theorem blk_y (t : Fin cfg0.N) (r : Fin 1024) (f : Fin 1024) : (iblk m c 1 t : Vec Ideal S1024x1024 .f32) (ix2 r f) = Y c m (row (tile t) r) f := by
  rw [← V_y]
  unfold iblk
  generalize V m c main_arg1 = A
  blk_ext! [idx0_1 t, tile, row]

/-- The product of a tile's blocks is the tile's part of the sum over all rows. -/
theorem tile_sum (t : Fin cfg0.N) (x : Vec Ideal S1024x1024 .bf16) (y : Vec Ideal S1024x1024 .f32) (hx : x = iblk m c 0 t) (hy : y = iblk m c 1 t)
    (k : Fin 1024) (f : Fin 1024) : ∑ r : Fin 1024, x (ix2 k r) * y (ix2 r f) = part (fun i => X c m i k * Y c m i f) t.val := by
  subst hx hy
  simp only [blk_x, blk_y]
  exact (part_tile (fun i => X c m i k * Y c m i f) (tile t)).symm

theorem outs_last (h : 15 < cfg0.N) (k : Fin 1024) (f : Fin 1024) : outsAt0 m c 15 h (ix2 k f) = ∑ i, X c m i k * Y c m i f := by
  refine sum_all N_0 (fun i => X c m i k * Y c m i f) (fun n hn => outsAt0 m c n hn (ix2 k f)) (fun h => ?_) (fun n hn => ?_) h
  · have e := outsAt0_A m c ⟨0, h⟩ (Nat.zero_mod _)
    dsimp only at e
    rw [e, Value.out_A_2_eq, pay2_at, pay1_at, tile_sum c m ⟨0, h⟩ _ _ rfl rfl, zero_add]
  · have hN := lt_of_lt_of_eq hn (show cfg0.N = 16 from N_0)
    have e := outsAt0_B m c ⟨n + 1, hn⟩ (by dsimp only; omega)
    dsimp only [Nat.add_sub_cancel] at e
    rw [e, Value.out_B_2_eq, pay2_at, tile_sum c m ⟨n + 1, hn⟩ _ _ rfl rfl]
    rfl

/-- What the result array ends holding. -/
theorem result : (dats m 0 c).arrAt 2 cfg0.N = (fun i => ∑ t, X c m t (i 0) * Y c m t (i 1) : Vec Ideal S1024x1024 .f32) := by
  refine (dats m 0 c).arrAt_eq_of_after_last 2 ⟨15, by rw [show cfg0.N = 16 from N_0]; decide⟩ (by decide +kernel) _ fun i => ?_
  blk_simp
  refine (congrFun (after0_2 m c _) _).trans ?_
  exact (congrArg _ (eq_ix2 i)).trans (outs_last c m _ (i 0) (i 1))

end Cert.Kernel4Ideal.Gen

namespace Cert.Proof

open Idealize.ShloMosaic Idealize.ShloMosaic.TcCoe Idealize.SL.Sem

theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨_, Kernel4Ideal.Value.run_blocks m g, ?_⟩
  refine (θ_run _ _ _).mono (fun r h c => ?_) (Reference4Ideal.Value.run m' g')
  obtain ⟨h0, ha⟩ := h c
  obtain ⟨a0, a1⟩ := hargs c
  refine ⟨h0.trans ?_, ha⟩
  rw [a0, a1, Kernel4Ideal.Gen.result]
  funext i
  rw [← ix2_eta i]
  pointwise
  exact Finset.sum_congr rfl fun t _ => mul_comm _ _

end Cert.Proof

end
-- ==== Proof.GradKv.lean ====
module

public import proofs.«01_k».proof.Defs
public import proofs.«01_k».proof.Proof.Tiles
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.Value
public import Idealize.ShloMosaic.Lib.Pipeline.ValueKit
public import Idealize.ShloMosaic.Lib.Pipeline.ValueKit.Point
public import Idealize.ShloMosaic.Lib.IdealHost

/-! # The weight gradient of the key and value projections: the tiles' products add up to the reference's product -/

@[expose] public section

noncomputable section

namespace Cert.Kernel5Ideal.Gen

open Idealize.ShloMosaic Idealize.ShloMosaic.TcCoe Idealize.SL.Sem Cert.Tiles

/-- The body adds the product of its two blocks to what it finds. -/
theorem pay2_at (x : Vec Ideal S1x1024x1024 .f32) (y : Vec Ideal S1x1024x256 .bf16) (a : Vec Ideal S1x1024x256 .f32) (k : Fin 1024) (f : Fin 256) :
    k0_pay2 x y a (ix3 0 k f) = a (ix3 0 k f) + ∑ r : Fin 1024, x (ix3 0 r k) * y (ix3 0 r f) := by
  pointwise [k0_pay2]

theorem pay1_at (k : Fin 1024) (f : Fin 256) : k0_pay1 (F := Ideal) (ix3 0 k f) = 0 := by
  pointwise [k0_pay1]

/-- The tile number of a point of the grid. -/
def tile (t : Fin cfg0.N) : Fin 16 := ⟨t.val, lt_of_lt_of_eq t.isLt N_0⟩

theorem idx0_0 : ∀ t : Fin cfg0.N, win0_0.index t = ![0, t.val, 0] := by decide +kernel
theorem idx0_1 : ∀ t : Fin cfg0.N, win0_1.index t = ![0, t.val, 0] := by decide +kernel

variable (c : Dev nD) (m : (ℓ : Loc nD τ sig) → Buf (Elt Ideal) ℓ)

/-- The two arguments as functions. -/
def X (t : Fin 16384) (k : Fin 1024) : EReal := (m ((c : Thread nD τ).loc main_arg0) : Vec Ideal S16384x1024 .f32) (ix2 t k)
def Y (t : Fin 16384) (f : Fin 256) : EReal := (m ((c : Thread nD τ).loc main_arg1) : Vec Ideal S16384x256 .f32) (ix2 t f)

theorem V_x (t : Fin 16384) (k : Fin 1024) : (V m c main_v0 : Vec Ideal S1x16384x1024 .f32) (ix3 0 t k) = X c m t k := by
  entry_read
  pointwise
  rfl

theorem V_y (t : Fin 16384) (f : Fin 256) : (V m c main_v2 : Vec Ideal S1x16384x256 .bf16) (ix3 0 t f) = Y c m t f := by
  entry_read
  pointwise
  rfl

theorem blk_x (t : Fin cfg0.N) (r : Fin 1024) (k : Fin 1024) : (iblk m c 0 t : Vec Ideal S1x1024x1024 .f32) (ix3 0 r k) = X c m (row (tile t) r) k := by
  rw [← V_x]
  unfold iblk
  generalize V m c main_v0 = A
  blk_ext! [idx0_0 t, tile, row]

theorem blk_y (t : Fin cfg0.N) (r : Fin 1024) (f : Fin 256) : (iblk m c 1 t : Vec Ideal S1x1024x256 .bf16) (ix3 0 r f) = Y c m (row (tile t) r) f := by
  rw [← V_y]
  unfold iblk
  generalize V m c main_v2 = A
  blk_ext! [idx0_1 t, tile, row]

/-- The product of a tile's blocks is the tile's part of the sum over all rows. -/
theorem tile_sum (t : Fin cfg0.N) (x : Vec Ideal S1x1024x1024 .f32) (y : Vec Ideal S1x1024x256 .bf16) (hx : x = iblk m c 0 t) (hy : y = iblk m c 1 t)
    (k : Fin 1024) (f : Fin 256) : ∑ r : Fin 1024, x (ix3 0 r k) * y (ix3 0 r f) = part (fun i => X c m i k * Y c m i f) t.val := by
  subst hx hy
  simp only [blk_x, blk_y]
  exact (part_tile (fun i => X c m i k * Y c m i f) (tile t)).symm

theorem outs_last (h : 15 < cfg0.N) (k : Fin 1024) (f : Fin 256) : outsAt0 m c 15 h (ix3 0 k f) = ∑ i, X c m i k * Y c m i f := by
  refine sum_all N_0 (fun i => X c m i k * Y c m i f) (fun n hn => outsAt0 m c n hn (ix3 0 k f)) (fun h => ?_) (fun n hn => ?_) h
  · have e := outsAt0_A m c ⟨0, h⟩ (Nat.zero_mod _)
    dsimp only at e
    rw [e, Value.out_A_2_eq, pay2_at, pay1_at, tile_sum c m ⟨0, h⟩ _ _ rfl rfl, zero_add]
  · have hN := lt_of_lt_of_eq hn (show cfg0.N = 16 from N_0)
    have e := outsAt0_B m c ⟨n + 1, hn⟩ (by dsimp only; omega)
    dsimp only [Nat.add_sub_cancel] at e
    rw [e, Value.out_B_2_eq, pay2_at, tile_sum c m ⟨n + 1, hn⟩ _ _ rfl rfl]
    rfl

/-- What the result array ends holding. -/
theorem result : (dats m 0 c).arrAt 2 cfg0.N = (fun i => ∑ t, X c m t (i 1) * Y c m t (i 2) : Vec Ideal S1x1024x256 .f32) := by
  refine (dats m 0 c).arrAt_eq_of_after_last 2 ⟨15, by rw [show cfg0.N = 16 from N_0]; decide⟩ (by decide +kernel) _ fun i => ?_
  blk_simp
  refine (congrFun (after0_2 m c _) _).trans ?_
  exact (congrArg _ ((eq_ix3 i).trans (congrArg (fun z => ix3 z (i 1) (i 2)) (Subsingleton.elim (α := Fin 1) _ _)))).trans (outs_last c m _ (i 1) (i 2))

end Cert.Kernel5Ideal.Gen

namespace Cert.Proof

open Idealize.ShloMosaic Idealize.ShloMosaic.TcCoe Idealize.SL.Sem

theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨_, Kernel5Ideal.Value.run_blocks m g, ?_⟩
  refine (θ_run _ _ _).mono (fun r h c => ?_) (Reference5Ideal.Value.run m' g')
  obtain ⟨h0, ha⟩ := h c
  obtain ⟨a0, a1⟩ := hargs c
  refine ⟨h0.trans ?_, ha⟩
  rw [a0, a1, Kernel5Ideal.Gen.result]
  funext i
  rw [← ix3_eta i]
  pointwise
  exact Finset.sum_congr rfl fun t _ => mul_comm _ _

end Cert.Proof

end
-- ==== Proof.GradPw2.lean ====
module

public import proofs.«01_k».proof.Defs
public import proofs.«01_k».proof.Proof.Tiles
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Lib.Pipeline.Value
public import Idealize.ShloMosaic.Lib.Pipeline.ValueKit
public import Idealize.ShloMosaic.Lib.Pipeline.ValueKit.Point
public import Idealize.ShloMosaic.Lib.IdealHost

/-! # The weight gradient of the second pointwise convolution: the tiles' products add up to the reference's product -/

@[expose] public section

noncomputable section

namespace Cert.Kernel6Ideal.Gen

open Idealize.ShloMosaic Idealize.ShloMosaic.TcCoe Idealize.SL.Sem Cert.Tiles

/-- The body adds the product of its two blocks to what it finds. -/
theorem pay2_at (x : Vec Ideal S1x1024x1024 .bf16) (y : Vec Ideal S1x1024x1024 .f32) (a : Vec Ideal S1x1024x1024 .f32) (k : Fin 1024) (f : Fin 1024) :
    k0_pay2 x y a (ix3 0 k f) = a (ix3 0 k f) + ∑ r : Fin 1024, x (ix3 0 r k) * y (ix3 0 r f) := by
  pointwise [k0_pay2]

theorem pay1_at (k : Fin 1024) (f : Fin 1024) : k0_pay1 (F := Ideal) (ix3 0 k f) = 0 := by
  pointwise [k0_pay1]

/-- The tile number of a point of the grid. -/
def tile (t : Fin cfg0.N) : Fin 16 := ⟨t.val, lt_of_lt_of_eq t.isLt N_0⟩

theorem idx0_0 : ∀ t : Fin cfg0.N, win0_0.index t = ![0, t.val, 0] := by decide +kernel
theorem idx0_1 : ∀ t : Fin cfg0.N, win0_1.index t = ![0, t.val, 0] := by decide +kernel

variable (c : Dev nD) (m : (ℓ : Loc nD τ sig) → Buf (Elt Ideal) ℓ)

/-- The two arguments as functions. -/
def X (t : Fin 16384) (k : Fin 1024) : EReal := (m ((c : Thread nD τ).loc main_arg0) : Vec Ideal S16384x1024 .f32) (ix2 t k)
def Y (t : Fin 16384) (f : Fin 1024) : EReal := (m ((c : Thread nD τ).loc main_arg1) : Vec Ideal S16384x1024 .f32) (ix2 t f)

theorem V_x (t : Fin 16384) (k : Fin 1024) : (V m c main_v1 : Vec Ideal S1x16384x1024 .bf16) (ix3 0 t k) = X c m t k := by
  entry_read
  pointwise
  rfl

theorem V_y (t : Fin 16384) (f : Fin 1024) : (V m c main_v2 : Vec Ideal S1x16384x1024 .f32) (ix3 0 t f) = Y c m t f := by
  entry_read
  pointwise
  rfl

theorem blk_x (t : Fin cfg0.N) (r : Fin 1024) (k : Fin 1024) : (iblk m c 0 t : Vec Ideal S1x1024x1024 .bf16) (ix3 0 r k) = X c m (row (tile t) r) k := by
  rw [← V_x]
  unfold iblk
  generalize V m c main_v1 = A
  blk_ext! [idx0_0 t, tile, row]

theorem blk_y (t : Fin cfg0.N) (r : Fin 1024) (f : Fin 1024) : (iblk m c 1 t : Vec Ideal S1x1024x1024 .f32) (ix3 0 r f) = Y c m (row (tile t) r) f := by
  rw [← V_y]
  unfold iblk
  generalize V m c main_v2 = A
  blk_ext! [idx0_1 t, tile, row]

/-- The product of a tile's blocks is the tile's part of the sum over all rows. -/
theorem tile_sum (t : Fin cfg0.N) (x : Vec Ideal S1x1024x1024 .bf16) (y : Vec Ideal S1x1024x1024 .f32) (hx : x = iblk m c 0 t) (hy : y = iblk m c 1 t)
    (k : Fin 1024) (f : Fin 1024) : ∑ r : Fin 1024, x (ix3 0 r k) * y (ix3 0 r f) = part (fun i => X c m i k * Y c m i f) t.val := by
  subst hx hy
  simp only [blk_x, blk_y]
  exact (part_tile (fun i => X c m i k * Y c m i f) (tile t)).symm

theorem outs_last (h : 15 < cfg0.N) (k : Fin 1024) (f : Fin 1024) : outsAt0 m c 15 h (ix3 0 k f) = ∑ i, X c m i k * Y c m i f := by
  refine sum_all N_0 (fun i => X c m i k * Y c m i f) (fun n hn => outsAt0 m c n hn (ix3 0 k f)) (fun h => ?_) (fun n hn => ?_) h
  · have e := outsAt0_A m c ⟨0, h⟩ (Nat.zero_mod _)
    dsimp only at e
    rw [e, Value.out_A_2_eq, pay2_at, pay1_at, tile_sum c m ⟨0, h⟩ _ _ rfl rfl, zero_add]
  · have hN := lt_of_lt_of_eq hn (show cfg0.N = 16 from N_0)
    have e := outsAt0_B m c ⟨n + 1, hn⟩ (by dsimp only; omega)
    dsimp only [Nat.add_sub_cancel] at e
    rw [e, Value.out_B_2_eq, pay2_at, tile_sum c m ⟨n + 1, hn⟩ _ _ rfl rfl]
    rfl

/-- What the result array ends holding. -/
theorem result : (dats m 0 c).arrAt 2 cfg0.N = (fun i => ∑ t, X c m t (i 1) * Y c m t (i 2) : Vec Ideal S1x1024x1024 .f32) := by
  refine (dats m 0 c).arrAt_eq_of_after_last 2 ⟨15, by rw [show cfg0.N = 16 from N_0]; decide⟩ (by decide +kernel) _ fun i => ?_
  blk_simp
  refine (congrFun (after0_2 m c _) _).trans ?_
  exact (congrArg _ ((eq_ix3 i).trans (congrArg (fun z => ix3 z (i 1) (i 2)) (Subsingleton.elim (α := Fin 1) _ _)))).trans (outs_last c m _ (i 1) (i 2))

end Cert.Kernel6Ideal.Gen

namespace Cert.Proof

open Idealize.ShloMosaic Idealize.ShloMosaic.TcCoe Idealize.SL.Sem

theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨_, Kernel6Ideal.Value.run_blocks m g, ?_⟩
  refine (θ_run _ _ _).mono (fun r h c => ?_) (Reference6Ideal.Value.run m' g')
  obtain ⟨h0, ha⟩ := h c
  obtain ⟨a0, a1⟩ := hargs c
  refine ⟨h0.trans ?_, ha⟩
  rw [a0, a1, Kernel6Ideal.Gen.result]
  funext i
  rw [← ix3_eta i]
  pointwise
  exact Finset.sum_congr rfl fun t _ => mul_comm _ _

end Cert.Proof

end
-- ==== Proof.GradPw1.lean ====
module

public import proofs.«01_k».proof.Defs
public import proofs.«01_k».proof.Proof.Tiles
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import Idealize.ShloMosaic.Lib.Pipeline.Value
public import Idealize.ShloMosaic.Lib.Pipeline.ValueKit
public import Idealize.ShloMosaic.Lib.Pipeline.ValueKit.Point
public import Idealize.ShloMosaic.Lib.IdealHost

/-! # The weight gradient of the first pointwise convolution: the tiles' products add up to the reference's product, and the carried array arrives unchanged -/

@[expose] public section

noncomputable section

namespace Cert.Kernel7Ideal.Gen

open Idealize.ShloMosaic Idealize.ShloMosaic.TcCoe Idealize.SL.Sem Cert.Tiles

/-! ## The body's products, chip by chip -/

theorem pay5_at (x : Vec Ideal S1x1024x1024 .f32) (w : Vec Ideal S1x1024x512 .bf16) (a : Vec Ideal S1x1024x512 .f32) (k : Fin 1024) (f : Fin 512) :
    k0_pay5 x w a (ix3 0 k f) = a (ix3 0 k f) + ∑ r : Fin 1024, x (ix3 0 r k) * w (ix3 0 r f) := by
  pointwise [k0_pay5, k0_pay4]

theorem pay6_at (x : Vec Ideal S1x1024x1024 .f32) (w : Vec Ideal S1x1024x512 .bf16) (a : Vec Ideal S1x1024x512 .f32) (k : Fin 1024) (f : Fin 512) :
    k0_pay6 x w a (ix3 0 k f) = a (ix3 0 k f) + ∑ r : Fin 1024, x (ix3 0 r k) * w (ix3 0 r f) := by
  pointwise [k0_pay6, k0_pay4]

theorem pay1_at (x : Vec Ideal S1x1024x1024 .f32) (w : Vec Ideal S1x1024x512 .bf16) (a : Vec Ideal S1x1024x512 .f32) (k : Fin 1024) (f : Fin 512) :
    k0_pay1 (k0_pay4 x) (k0_pay7 w) a (ix3 0 k f) = a (ix3 0 k f) + ∑ r : Fin 1024, x (ix3 0 r k) * w (ix3 0 r f) := by
  pointwise [k0_pay1, k0_pay4, k0_pay7]

theorem pay2_at (x : Vec Ideal S1x1024x1024 .f32) (w : Vec Ideal S1x1024x512 .bf16) (a : Vec Ideal S1x1024x512 .f32) (k : Fin 1024) (f : Fin 512) :
    k0_pay2 (k0_pay4 x) w a (ix3 0 k f) = a (ix3 0 k f) + ∑ r : Fin 1024, x (ix3 0 r k) * w (ix3 0 r f) := by
  pointwise [k0_pay2, k0_pay4]

/-- The place in chip `J`'s slab of an entry. -/
theorem place {j : Fin 4} {k : Fin 1024} {f : Fin 512} (J : Fin 4) (x : S1x1024x512.Idx) (h0 : j.val = J.val + (x 0).val)
    (h1 : k.val = (x 1).val) (h2 : f.val = (x 2).val) : j = J ∧ x = ix3 0 k f := by
  have hx : (x 0).val < 1 := (x 0).isLt
  refine ⟨Fin.ext (by omega), (eq_ix3 x).trans ?_⟩
  rw [show x 0 = (0 : Fin 1) from Fin.ext (by show (x 0).val = 0; omega), show x 1 = k from Fin.ext h1.symm,
    show x 2 = f from Fin.ext h2.symm]

variable (c : Dev nD) (i : grid0.Coords)
  (a1 : Memref sig .tc .vmem S1x1024x1024 .f32) (h1 : a1.IsWhole)
  (a2 : Memref sig .tc .vmem S4x1024x512 .bf16) (h2 : a2.IsWhole)
  (a3 : Memref sig .tc .vmem S1024x1024 .f32) (h3 : a3.IsWhole)
  (a4 : Memref sig .tc .vmem S4x1024x512 .f32) (h4 : a4.IsWhole)
  (a5 : Memref sig .tc .vmem S1024x1024 .f32) (h5 : a5.IsWhole)
  (x0 : Vec Ideal S1x1024x1024 .f32) (x1 : Vec Ideal S4x1024x512 .bf16) (x2 : Vec Ideal S1024x1024 .f32) (xo : Vec Ideal S4x1024x512 .f32)

/-- The first tile's body leaves its own product. -/
theorem out_A (hc0 : cond0_0 i) (j : Fin 4) (k : Fin 1024) (f : Fin 512) :
    out0_A_3 c i a1 h1 a2 h2 a3 h3 a4 h4 a5 h5 hc0 x0 x1 x2 (ix3 j k f) = ∑ r : Fin 1024, x0 (ix3 0 r k) * x1 (ix3 j r f) := by
  unfold out0_A_3
  rw [View.read_writes_eq_canon _ _ _ (cover0_A_3 c i a1 h1 a2 h2 a3 h3 a4 h4 a5 h5 hc0 x0 x1 x2)]
  unfold kernelRun0_A
  dsimp only
  sl_unfold_words
  simp only [View.readAt_eq_ld, h1.read_unread, h2.read_unread, h3.read_unread, h4.read_unread, h5.read_unread, View.ld_unit_zero (S := S1x1024x1024) hz3]
  simp (disch := decide) only [↓View.readCov_skip, ↓View.readCov_fill]
  rw [canon_four]
  case h => exact View.cover_of_tiledL (s := S4x1024x512) _ ![1, 1024, 512] (by sl_kernel_rfl) _
  canon_tiles
  · obtain ⟨rfl, rfl⟩ := place 3 x h0 h1 h2
    refine (pay2_at _ _ _ k f).trans ?_
    pointwise [k0_pay3]
  · obtain ⟨rfl, rfl⟩ := place 2 x h0 h1 h2
    refine (pay1_at _ _ _ k f).trans ?_
    pointwise [k0_pay3]
  · obtain ⟨rfl, rfl⟩ := place 1 x h0 h1 h2
    refine (pay6_at _ _ _ k f).trans ?_
    pointwise [k0_pay3]
  · obtain ⟨rfl, rfl⟩ := place 0 x (h0.trans (Nat.zero_add _).symm) h1 h2
    refine (pay5_at _ _ _ k f).trans ?_
    pointwise [k0_pay3]

/-- A later tile's body adds its product to what it finds. -/
theorem out_B (hc0 : ¬cond0_0 i) (j : Fin 4) (k : Fin 1024) (f : Fin 512) :
    out0_B_3 c i a1 h1 a2 h2 a3 h3 a4 h4 a5 h5 hc0 x0 x1 x2 xo (ix3 j k f) = xo (ix3 j k f) + ∑ r : Fin 1024, x0 (ix3 0 r k) * x1 (ix3 j r f) := by
  unfold out0_B_3
  rw [View.read_writes_eq_canon _ _ _ (cover0_B_3 c i a1 h1 a2 h2 a3 h3 a4 h4 a5 h5 hc0 x0 x1 x2 xo)]
  unfold kernelRun0_B
  dsimp only
  sl_unfold_words
  simp only [View.readAt_eq_ld, h1.read_unread, h2.read_unread, h3.read_unread, h4.read_unread, h5.read_unread, View.ld_unit_zero (S := S1x1024x1024) hz3]
  canon_tiles
  · obtain ⟨rfl, rfl⟩ := place 3 x h0 h1 h2
    refine (pay2_at _ _ _ k f).trans ?_
    pointwise
  · obtain ⟨rfl, rfl⟩ := place 2 x h0 h1 h2
    refine (pay1_at _ _ _ k f).trans ?_
    pointwise
  · obtain ⟨rfl, rfl⟩ := place 1 x h0 h1 h2
    refine (pay6_at _ _ _ k f).trans ?_
    pointwise
  · obtain ⟨rfl, rfl⟩ := place 0 x (h0.trans (Nat.zero_add _).symm) h1 h2
    refine (pay5_at _ _ _ k f).trans ?_
    pointwise

theorem carry_A (hc0 : cond0_0 i) : out0_A_4 c i a1 h1 a2 h2 a3 h3 a4 h4 a5 h5 hc0 x0 x1 x2 = x2 := by
  unfold out0_A_4
  rw [View.read_writes_eq_canon _ _ _ (cover0_A_4 c i a1 h1 a2 h2 a3 h3 a4 h4 a5 h5 hc0 x0 x1 x2)]
  unfold kernelRun0_A
  dsimp only
  sl_unfold_words
  rw [View.canon_unit_zero hz2]
  simp only [View.readAt_eq_ld, h1.read_unread, h2.read_unread, h3.read_unread, h4.read_unread, h5.read_unread, View.ld_unit_zero (S := S1024x1024) hz2]

theorem carry_B (hc0 : ¬cond0_0 i) : out0_B_4 c i a1 h1 a2 h2 a3 h3 a4 h4 a5 h5 hc0 x0 x1 x2 xo = x2 := by
  unfold out0_B_4
  rw [View.read_writes_eq_canon _ _ _ (cover0_B_4 c i a1 h1 a2 h2 a3 h3 a4 h4 a5 h5 hc0 x0 x1 x2 xo)]
  unfold kernelRun0_B
  dsimp only
  sl_unfold_words
  rw [View.canon_unit_zero hz2]
  simp only [View.readAt_eq_ld, h1.read_unread, h2.read_unread, h3.read_unread, h4.read_unread, h5.read_unread, View.ld_unit_zero (S := S1024x1024) hz2]

/-! ## The blocks the tiles show the body -/

/-- The tile number of a point of the grid. -/
def tile (t : Fin cfg0.N) : Fin 16 := ⟨t.val, lt_of_lt_of_eq t.isLt N_0⟩

/-- Feature `f` of chip `j`, of four chips' 512. -/
def col (j : Fin 4) (f : Fin 512) : Fin 2048 := ⟨j.val * 512 + f.val, by omega⟩

theorem idx0_0 : ∀ t : Fin cfg0.N, win0_0.index t = ![0, t.val, 0] := by decide +kernel
theorem idx0_1 : ∀ t : Fin cfg0.N, win0_1.index t = ![0, t.val, 0] := by decide +kernel
theorem idx0_2 : ∀ t : Fin cfg0.N, win0_2.index t = ![t.val, 0] := by decide +kernel
theorem idx0_4 : ∀ t : Fin cfg0.N, win0_4.index t = ![t.val, 0] := by decide +kernel

variable (m : (ℓ : Loc nD τ sig) → Buf (Elt Ideal) ℓ)

/-- The rows' vectors and the rows' features, as functions of the arguments. -/
def X (t : Fin 16384) (k : Fin 1024) : EReal := (m ((c : Thread nD τ).loc main_arg0) : Vec Ideal S16384x1024 .f32) (ix2 t k)
def Y (t : Fin 16384) (f : Fin 2048) : EReal := (m ((c : Thread nD τ).loc main_arg1) : Vec Ideal S16384x2048 .f32) (ix2 t f)

theorem V_x (t : Fin 16384) (k : Fin 1024) : (V m c main_v3 : Vec Ideal S1x16384x1024 .f32) (ix3 0 t k) = X c m t k := by
  entry_read
  pointwise
  rfl

theorem V_y (j : Fin 4) (t : Fin 16384) (f : Fin 512) : (V m c main_v2 : Vec Ideal S4x16384x512 .bf16) (ix3 j t f) = Y c m t (col j f) := by
  entry_read
  pointwise
  rfl

theorem blk_x (t : Fin cfg0.N) (r : Fin 1024) (k : Fin 1024) :
    (iblk m c 0 t : Vec Ideal S1x1024x1024 .f32) (ix3 0 r k) = X c m (row (tile t) r) k := by
  rw [← V_x]
  unfold iblk
  generalize V m c main_v3 = A
  blk_ext! [idx0_0 t, tile, row]

theorem blk_y (t : Fin cfg0.N) (j : Fin 4) (r : Fin 1024) (f : Fin 512) :
    (iblk m c 1 t : Vec Ideal S4x1024x512 .bf16) (ix3 j r f) = Y c m (row (tile t) r) (col j f) := by
  rw [← V_y]
  unfold iblk
  generalize V m c main_v2 = A
  blk_ext! [idx0_1 t, tile, row]

/-- The product of a tile's blocks is the tile's part of the sum over all rows. -/
theorem tile_sum (t : Fin cfg0.N) (x : Vec Ideal S1x1024x1024 .f32) (y : Vec Ideal S4x1024x512 .bf16) (hx : x = iblk m c 0 t)
    (hy : y = iblk m c 1 t) (j : Fin 4) (k : Fin 1024) (f : Fin 512) : ∑ r : Fin 1024, x (ix3 0 r k) * y (ix3 j r f)
      = part (fun i => X c m i k * Y c m i (col j f)) t.val := by
  subst hx hy
  simp only [blk_x, blk_y]
  exact (part_tile (fun i => X c m i k * Y c m i (col j f)) (tile t)).symm

theorem outs_last (h : 15 < cfg0.N) (j : Fin 4) (k : Fin 1024) (f : Fin 512) :
    (outsAt0 m c 15 h).1 (ix3 j k f) = ∑ i, X c m i k * Y c m i (col j f) := by
  refine sum_all N_0 (fun i => X c m i k * Y c m i (col j f)) (fun n hn => (outsAt0 m c n hn).1 (ix3 j k f)) (fun h => ?_) (fun n hn => ?_) h
  · have e := outsAt0_A m c ⟨0, h⟩ (Nat.zero_mod _)
    dsimp only at e
    rw [e]
    dsimp only
    rw [out_A, tile_sum c m ⟨0, h⟩ _ _ rfl rfl]
  · have hN := lt_of_lt_of_eq hn (show cfg0.N = 16 from N_0)
    have e := outsAt0_B m c ⟨n + 1, hn⟩ (by dsimp only; omega)
    dsimp only [Nat.add_sub_cancel] at e
    rw [e]
    dsimp only
    rw [out_B, tile_sum c m ⟨n + 1, hn⟩ _ _ rfl rfl]
    rfl

/-- What the result array ends holding. -/
theorem result : (dats m 0 c).arrAt 3 cfg0.N = (fun i => ∑ t, X c m t (i 1) * Y c m t (col (i 0) (i 2)) : Vec Ideal S4x1024x512 .f32) := by
  refine (dats m 0 c).arrAt_eq_of_after_last 3 ⟨15, by rw [show cfg0.N = 16 from N_0]; decide⟩ (by decide +kernel) _ fun i => ?_
  blk_simp
  refine (congrFun (after0_3 m c _) _).trans ?_
  exact (congrArg _ (eq_ix3 i)).trans (outs_last c m _ (i 0) (i 1) (i 2))

theorem blk_c (t : Fin cfg0.N) (r : Fin 1024) (k : Fin 1024) :
    (iblk m c 2 t : Vec Ideal S1024x1024 .f32) (ix2 r k) = (m ((c : Thread nD τ).loc main_arg2) : Vec Ideal S16384x1024 .f32) (ix2 (row (tile t) r) k) := by
  rw [← V_main_arg2 m c]
  unfold iblk
  generalize V m c main_arg2 = A
  blk_ext! [idx0_2 t, tile, row]

theorem outs_carry (t : Fin cfg0.N) : (outsAt0 m c t.val t.isLt).2 = iblk m c 2 t := by
  by_cases h0 : t.val % 16 = 0
  · rw [outsAt0_A m c t h0]; dsimp only; rw [carry_A]
  · rw [outsAt0_B m c t h0]; dsimp only; rw [carry_B]

/-- The carried array arrives unchanged. -/
theorem carried : (dats m 0 c).arrAt 4 cfg0.N = (m ((c : Thread nD τ).loc main_arg2) : Vec Ideal S16384x1024 .f32) := by
  refine (dats m 0 c).arrAt_eq_of_covers 4 _ (by decide +kernel) fun t hf y => ?_
  blk_simp
  refine (congrFun ((after0_4 m c t).trans (outs_carry c m t)) _).trans ?_
  rw [← V_main_arg2 m c]
  unfold iblk
  generalize V m c main_arg2 = A
  blk_ext! [idx0_2 t, idx0_4 t]

end Cert.Kernel7Ideal.Gen

namespace Cert.Proof

open Idealize.ShloMosaic Idealize.ShloMosaic.TcCoe Idealize.SL.Sem

theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨_, _, Kernel7Ideal.Value.run_blocks m g, ?_⟩
  refine (θ_run _ _ _).mono (fun r h c => ?_) (Reference7Ideal.Value.run m' g')
  obtain ⟨h0, h1, ha⟩ := h c
  obtain ⟨a0, a1, a2⟩ := hargs c
  refine ⟨h0.trans ?_, h1.trans (a2.trans (Kernel7Ideal.Gen.carried c m).symm), ha⟩
  rw [a0, a1, Kernel7Ideal.Gen.result]
  funext i
  rw [← ix3_eta i]
  pointwise
  exact Finset.sum_congr rfl fun t _ => mul_comm _ _

end Cert.Proof

end
-- ==== Proof.Host0.lean ====
module

public import proofs.«01_k».proof.Proof.Math
public import proofs.«01_k».proof.Proof.Gen.Kernel8Ideal.Frame
public import Idealize.ShloMosaic.Lib.Pipeline.Value
public import Idealize.ShloMosaic.Lib.Pipeline.ValueKit.Point

/-! # Layer 0: the kernel's host code: the arrays it hands to the region, entry by entry -/

@[expose] public section

noncomputable section

namespace Cert.Kernel8Ideal.Gen

open Idealize.ShloMosaic Idealize.ShloMosaic.TcCoe Idealize.SL.Sem Cert.Ffn

/-- The kernel's argument arrays hold the real numbers of `I`. -/
abbrev HoldsAt (I : In) (m : (ℓ : Loc nD τ sig) → Buf (Elt Ideal) ℓ) (c : Dev nD) : Prop :=
  Holds 0 I (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7))

variable {I : In} {m : (ℓ : Loc nD τ sig) → Buf (Elt Ideal) ℓ} {c : Dev nD} (H : HoldsAt I m c)

include H

/-- The sub-layer's sum: the residual plus the bias. -/
theorem V_z (t : Fin 16384) (k : Fin 1024) : V m c main_v2 (ix2 t k) = (I.z t k : EReal) := by
  entry_read
  pointwise
  simp only [H.r, H.bo, ← EReal.coe_add, In.z]

/-- The forward pass's gated activation, in chips. -/
theorem V_act (j : Fin 4) (t : Fin 16384) (f : Fin 704) : V m c main_v48 (ix3 j t f) = (silu (I.gate t (col j f)) : EReal) := by
  entry_read
  pointwise
  simp only [H.r, H.bo, H.g, H.b, H.wg, ← EReal.coe_add, ← EReal.coe_mul, ← EReal.coe_sub, coe_sum, ofBits_1024, ofBits_eps, div_1024,
    rsqrt_row fun k => I.r t k + I.bo k, div_one_exp]
  rfl

/-- The up projection times the activation's slope, in chips. -/
theorem V_bm (j : Fin 4) (t : Fin 16384) (f : Fin 704) :
    V m c main_v52 (ix3 j t f) = ((I.up t (col j f) * dsilu (I.gate t (col j f)) : ℝ) : EReal) := by
  entry_read
  pointwise
  simp only [H.r, H.bo, H.g, H.b, H.wg, H.wu, ← EReal.coe_add, ← EReal.coe_mul, ← EReal.coe_sub, coe_sum, ofBits_1024, ofBits_eps, div_1024,
    rsqrt_row fun k => I.r t k + I.bo k, div_one_exp, one_add_coe, one_sub_coe]
  rfl

theorem V_wg (j : Fin 4) (k : Fin 1024) (f : Fin 704) : V m c main_v55 (ix4 j 0 k f) = (I.wg k (col j f) : EReal) := by
  entry_read
  pointwise
  exact H.wg _ _

theorem V_wu (j : Fin 4) (k : Fin 1024) (f : Fin 704) : V m c main_v58 (ix4 j 0 k f) = (I.wu k (col j f) : EReal) := by
  entry_read
  pointwise
  exact H.wu _ _

theorem V_wd (j : Fin 4) (f : Fin 704) (k : Fin 1024) : V m c main_v61 (ix4 j 0 f k) = (I.wd (col j f) k : EReal) := by
  entry_read
  pointwise
  exact H.wd _ _

theorem V_g (k : Fin 1024) : V m c main_v62 (ix2 0 k) = (I.g k : EReal) := by
  entry_read
  pointwise
  exact H.g _

end Cert.Kernel8Ideal.Gen

end
-- ==== Proof.Open0.lean ====
module

public import proofs.«01_k».proof.Proof.Gen.Kernel8Ideal.Frame
public import Idealize.ShloMosaic.Lib.Pipeline.Value
public import Idealize.ShloMosaic.Lib.Pipeline.ValueKit.Point
public import Idealize.ShloMosaic.Lib.IdealHost

/-! # Layer 0: what one run of the kernel's body leaves in its windows and scratch, as one expression of the blocks it loads

The body runs once per tile of 512 rows. Three cases: the first tile (A) starts the three column accumulators from
zero, a middle tile (B) adds to them, the last tile (C) adds and writes their totals out. -/

@[expose] public section

noncomputable section

namespace Cert.Kernel8Ideal.Gen

open Idealize.ShloMosaic Idealize.ShloMosaic.TcCoe Idealize.SL.Sem

theorem hz2 : (![0, 0] : Fin 2 → Nat) = fun _ => 0 := funext fun a => by fin_cases a <;> rfl

/-- Chip 0's columns of a row block, and its slabs of the three weights, as loaded. -/
def cutT0 (x : Vec Ideal S4x512x704 .bf16) : Vec Ideal S1x512x704 .bf16 :=
  View.ld x (Rect.unit ![0, 0, 0] S1x512x704.size inb_S4x512x704_S1x512x704_0_0_0)
def colsT0 (x : Vec Ideal S4x1x1024x704 .bf16) : Vec Ideal S1x1x1024x704 .bf16 :=
  View.ld x (Rect.unit ![0, 0, 0, 0] S1x1x1024x704.size inb_S4x1x1024x704_S1x1x1024x704_0_0_0_0)
def rowsT0 (x : Vec Ideal S4x1x704x1024 .bf16) : Vec Ideal S1x1x704x1024 .bf16 :=
  View.ld x (Rect.unit ![0, 0, 0, 0] S1x1x704x1024.size inb_S4x1x704x1024_S1x1x704x1024_0_0_0_0)

/-- Chip 1's columns of a row block, and its slabs of the three weights, as loaded. -/
def cutT1 (x : Vec Ideal S4x512x704 .bf16) : Vec Ideal S1x512x704 .bf16 :=
  View.ld x (Rect.unit ![1, 0, 0] S1x512x704.size inb_S4x512x704_S1x512x704_1_0_0)
def colsT1 (x : Vec Ideal S4x1x1024x704 .bf16) : Vec Ideal S1x1x1024x704 .bf16 :=
  View.ld x (Rect.unit ![1, 0, 0, 0] S1x1x1024x704.size inb_S4x1x1024x704_S1x1x1024x704_1_0_0_0)
def rowsT1 (x : Vec Ideal S4x1x704x1024 .bf16) : Vec Ideal S1x1x704x1024 .bf16 :=
  View.ld x (Rect.unit ![1, 0, 0, 0] S1x1x704x1024.size inb_S4x1x704x1024_S1x1x704x1024_1_0_0_0)

/-- Chip 2's columns of a row block, and its slabs of the three weights, as loaded. -/
def cutT2 (x : Vec Ideal S4x512x704 .bf16) : Vec Ideal S1x512x704 .bf16 :=
  View.ld x (Rect.unit ![2, 0, 0] S1x512x704.size inb_S4x512x704_S1x512x704_2_0_0)
def colsT2 (x : Vec Ideal S4x1x1024x704 .bf16) : Vec Ideal S1x1x1024x704 .bf16 :=
  View.ld x (Rect.unit ![2, 0, 0, 0] S1x1x1024x704.size inb_S4x1x1024x704_S1x1x1024x704_2_0_0_0)
def rowsT2 (x : Vec Ideal S4x1x704x1024 .bf16) : Vec Ideal S1x1x704x1024 .bf16 :=
  View.ld x (Rect.unit ![2, 0, 0, 0] S1x1x704x1024.size inb_S4x1x704x1024_S1x1x704x1024_2_0_0_0)

/-- Chip 3's columns of a row block, and its slabs of the three weights, as loaded. -/
def cutT3 (x : Vec Ideal S4x512x704 .bf16) : Vec Ideal S1x512x704 .bf16 :=
  View.ld x (Rect.unit ![3, 0, 0] S1x512x704.size inb_S4x512x704_S1x512x704_3_0_0)
def colsT3 (x : Vec Ideal S4x1x1024x704 .bf16) : Vec Ideal S1x1x1024x704 .bf16 :=
  View.ld x (Rect.unit ![3, 0, 0, 0] S1x1x1024x704.size inb_S4x1x1024x704_S1x1x1024x704_3_0_0_0)
def rowsT3 (x : Vec Ideal S4x1x704x1024 .bf16) : Vec Ideal S1x1x704x1024 .bf16 :=
  View.ld x (Rect.unit ![3, 0, 0, 0] S1x1x704x1024.size inb_S4x1x704x1024_S1x1x704x1024_3_0_0_0)

/-- The cotangent of the normalised row block: the four chips' two products added onto `ALPHA * dz`. -/
def dxV (x0 : Vec Ideal S512x1024 .f32) (x1 x2 : Vec Ideal S4x512x704 .bf16) (x3 x4 : Vec Ideal S4x1x1024x704 .bf16)
    (x5 : Vec Ideal S4x1x704x1024 .bf16) : Vec Ideal S512x1024 .f32 :=
  k0_pay36 (k0_pay10 x0) (k0_pay26 (k0_pay10 x0) (rowsT2 x5) (cutT2 x1))
    (k0_pay29 (k0_pay10 x0) (k0_pay20 (k0_pay10 x0) (rowsT1 x5) (cutT1 x1))
      (k0_pay23 (k0_pay10 x0) (k0_pay11 x0) (k0_pay14 x0 (rowsT0 x5) (cutT0 x1))
        (k0_pay17 x0 (rowsT0 x5) (cutT0 x2) (colsT0 x3)) (colsT0 x4) (rowsT1 x5) (cutT1 x2) (colsT1 x3))
      (colsT1 x4) (rowsT2 x5) (cutT2 x2) (colsT2 x3))
    (k0_pay30 (colsT2 x4)) (constant S512x1024 FTy.f32 0#32) (rowsT3 x5) (cutT3 x2) (cutT3 x1) (colsT3 x3) (colsT3 x4)

/-- The stores of the gate's cotangent, chip by chip. -/
def dgL (x0 : Vec Ideal S512x1024 .f32) (x2 : Vec Ideal S4x512x704 .bf16) (x5 : Vec Ideal S4x1x704x1024 .bf16) :
    List (View.Piece (Elt Ideal) S4x512x704 .bf16) :=
  [⟨Rect.unit ![3, 0, 0] S1x512x704.size inb_S4x512x704_S1x512x704_3_0_0, k0_pay34 (k0_pay10 x0) (rowsT3 x5) (cutT3 x2)⟩,
   ⟨Rect.unit ![2, 0, 0] S1x512x704.size inb_S4x512x704_S1x512x704_2_0_0, k0_pay27 (k0_pay10 x0) (rowsT2 x5) (cutT2 x2)⟩,
   ⟨Rect.unit ![1, 0, 0] S1x512x704.size inb_S4x512x704_S1x512x704_1_0_0, k0_pay21 (k0_pay10 x0) (rowsT1 x5) (cutT1 x2)⟩,
   ⟨Rect.unit ![0, 0, 0] S1x512x704.size inb_S4x512x704_S1x512x704_0_0_0, k0_pay15 x0 (rowsT0 x5) (cutT0 x2)⟩]

/-- The stores of the up projection's cotangent, chip by chip. -/
def duL (x0 : Vec Ideal S512x1024 .f32) (x1 : Vec Ideal S4x512x704 .bf16) (x5 : Vec Ideal S4x1x704x1024 .bf16) :
    List (View.Piece (Elt Ideal) S4x512x704 .bf16) :=
  [⟨Rect.unit ![3, 0, 0] S1x512x704.size inb_S4x512x704_S1x512x704_3_0_0, k0_pay35 (k0_pay10 x0) (rowsT3 x5) (cutT3 x1)⟩,
   ⟨Rect.unit ![2, 0, 0] S1x512x704.size inb_S4x512x704_S1x512x704_2_0_0, k0_pay28 (k0_pay10 x0) (rowsT2 x5) (cutT2 x1)⟩,
   ⟨Rect.unit ![1, 0, 0] S1x512x704.size inb_S4x512x704_S1x512x704_1_0_0, k0_pay22 (k0_pay10 x0) (rowsT1 x5) (cutT1 x1)⟩,
   ⟨Rect.unit ![0, 0, 0] S1x512x704.size inb_S4x512x704_S1x512x704_0_0_0, k0_pay16 x0 (rowsT0 x5) (cutT0 x1)⟩]

variable (c : Dev nD) (i : grid0.Coords) (a1 : Memref sig .tc .vmem S512x1024 .f32) (h1 : a1.IsWhole) (a2 : Memref sig .tc .vmem S4x512x704 .bf16) (h2 : a2.IsWhole) (a3 : Memref sig .tc .vmem S4x512x704 .bf16) (h3 : a3.IsWhole) (a4 : Memref sig .tc .vmem S4x1x1024x704 .bf16) (h4 : a4.IsWhole) (a5 : Memref sig .tc .vmem S4x1x1024x704 .bf16) (h5 : a5.IsWhole) (a6 : Memref sig .tc .vmem S4x1x704x1024 .bf16) (h6 : a6.IsWhole) (a7 : Memref sig .tc .vmem S512x1024 .f32) (h7 : a7.IsWhole) (a8 : Memref sig .tc .vmem S1x1024 .f32) (h8 : a8.IsWhole) (a9 : Memref sig .tc .vmem S4x512x704 .bf16) (h9 : a9.IsWhole) (a10 : Memref sig .tc .vmem S4x512x704 .bf16) (h10 : a10.IsWhole) (a11 : Memref sig .tc .vmem S512x1024 .f32) (h11 : a11.IsWhole) (a12 : Memref sig .tc .vmem S1x1024 .f32) (h12 : a12.IsWhole) (a13 : Memref sig .tc .vmem S1x1024 .f32) (h13 : a13.IsWhole) (a14 : Memref sig .tc .vmem S1x1024 .f32) (h14 : a14.IsWhole) (a15 : Memref sig .tc .vmem S8x1024 .f32) (h15 : a15.IsWhole) (a16 : Memref sig .tc .vmem S8x1024 .f32) (h16 : a16.IsWhole) (a17 : Memref sig .tc .vmem S8x1024 .f32) (h17 : a17.IsWhole)
  (x0 : Vec Ideal S512x1024 .f32) (x1 : Vec Ideal S4x512x704 .bf16) (x2 : Vec Ideal S4x512x704 .bf16)
  (x3 : Vec Ideal S4x1x1024x704 .bf16) (x4 : Vec Ideal S4x1x1024x704 .bf16) (x5 : Vec Ideal S4x1x704x1024 .bf16)
  (x6 : Vec Ideal S512x1024 .f32) (x7 : Vec Ideal S1x1024 .f32) (s0 s1 s2 : Vec Ideal S8x1024 .f32)

theorem out_A_8 (hc0 : cond0_0 i) (hc1 : ¬cond0_1 i) :
    out0_A_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = View.canon (dgL x0 x2 x5) := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_A_9 (hc0 : cond0_0 i) (hc1 : ¬cond0_1 i) :
    out0_A_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = View.canon (duL x0 x1 x5) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_A_10 (hc0 : cond0_0 i) (hc1 : ¬cond0_1 i) :
    out0_A_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = k0_pay40 (dxV x0 x1 x2 x3 x4 x5) x6 x7 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_A_0 (hc0 : cond0_0 i) (hc1 : ¬cond0_1 i) :
    sout0_A_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = k0_pay1 (k0_pay41 (dxV x0 x1 x2 x3 x4 x5) x6 (k0_pay7 (F := Ideal))) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  rw [View.canon_cons_unit_zero (S := S8x1024) hz2, View.readCov_unit_zero (S := S8x1024) _ hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_A_1 (hc0 : cond0_0 i) (hc1 : ¬cond0_1 i) :
    sout0_A_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = k0_pay2 (F := Ideal) (dxV x0 x1 x2 x3 x4 x5) (k0_pay8 (F := Ideal)) := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  rw [View.canon_cons_unit_zero (S := S8x1024) hz2, View.readCov_unit_zero (S := S8x1024) _ hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_A_2 (hc0 : cond0_0 i) (hc1 : ¬cond0_1 i) :
    sout0_A_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = k0_pay3 (k0_pay40 (dxV x0 x1 x2 x3 x4 x5) x6 x7) (k0_pay9 (F := Ideal)) := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  rw [View.canon_cons_unit_zero (S := S8x1024) hz2, View.readCov_unit_zero (S := S8x1024) _ hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_B_8 (hc0 : ¬cond0_0 i) (hc1 : ¬cond0_1 i) :
    out0_B_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = View.canon (dgL x0 x2 x5) := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_B
  dsimp only
  sl_unfold_words
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_B_9 (hc0 : ¬cond0_0 i) (hc1 : ¬cond0_1 i) :
    out0_B_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = View.canon (duL x0 x1 x5) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_B
  dsimp only
  sl_unfold_words
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_B_10 (hc0 : ¬cond0_0 i) (hc1 : ¬cond0_1 i) :
    out0_B_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay40 (dxV x0 x1 x2 x3 x4 x5) x6 x7 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_B_0 (hc0 : ¬cond0_0 i) (hc1 : ¬cond0_1 i) :
    sout0_B_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay1 (k0_pay41 (dxV x0 x1 x2 x3 x4 x5) x6 s0) := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_B_1 (hc0 : ¬cond0_0 i) (hc1 : ¬cond0_1 i) :
    sout0_B_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay2 (F := Ideal) (dxV x0 x1 x2 x3 x4 x5) s1 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_B_2 (hc0 : ¬cond0_0 i) (hc1 : ¬cond0_1 i) :
    sout0_B_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay3 (k0_pay40 (dxV x0 x1 x2 x3 x4 x5) x6 x7) s2 := by
  unfold sout0_B_2
  rw [View.read_writes_eq_canon _ _ _ (scover0_B_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_C_8 (hc0 : ¬cond0_0 i) (hc1 : cond0_1 i) :
    out0_C_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = View.canon (dgL x0 x2 x5) := by
  unfold out0_C_8
  rw [View.read_writes_eq_canon _ _ _ (cover0_C_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_C_9 (hc0 : ¬cond0_0 i) (hc1 : cond0_1 i) :
    out0_C_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = View.canon (duL x0 x1 x5) := by
  unfold out0_C_9
  rw [View.read_writes_eq_canon _ _ _ (cover0_C_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_C_10 (hc0 : ¬cond0_0 i) (hc1 : cond0_1 i) :
    out0_C_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay40 (dxV x0 x1 x2 x3 x4 x5) x6 x7 := by
  unfold out0_C_10
  rw [View.read_writes_eq_canon _ _ _ (cover0_C_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_C_0 (hc0 : ¬cond0_0 i) (hc1 : cond0_1 i) :
    sout0_C_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay1 (k0_pay41 (dxV x0 x1 x2 x3 x4 x5) x6 s0) := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_C_1 (hc0 : ¬cond0_0 i) (hc1 : cond0_1 i) :
    sout0_C_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay2 (F := Ideal) (dxV x0 x1 x2 x3 x4 x5) s1 := by
  unfold sout0_C_1
  rw [View.read_writes_eq_canon _ _ _ (scover0_C_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem sout_C_2 (hc0 : ¬cond0_0 i) (hc1 : cond0_1 i) :
    sout0_C_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay3 (k0_pay40 (dxV x0 x1 x2 x3 x4 x5) x6 x7) s2 := by
  unfold sout0_C_2
  rw [View.read_writes_eq_canon _ _ _ (scover0_C_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_C_11 (hc0 : ¬cond0_0 i) (hc1 : cond0_1 i) :
    out0_C_11 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay4 (F := Ideal) (k0_pay1 (k0_pay41 (dxV x0 x1 x2 x3 x4 x5) x6 s0)) := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  rw [View.canon_unit_zero hz2, View.readCov_unit_zero (S := S8x1024) _ hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_C_12 (hc0 : ¬cond0_0 i) (hc1 : cond0_1 i) :
    out0_C_12 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay5 (F := Ideal) (k0_pay2 (F := Ideal) (dxV x0 x1 x2 x3 x4 x5) s1) := by
  unfold out0_C_12
  rw [View.read_writes_eq_canon _ _ _ (cover0_C_12 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  rw [View.canon_unit_zero hz2, View.readCov_unit_zero (S := S8x1024) _ hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

theorem out_C_13 (hc0 : ¬cond0_0 i) (hc1 : cond0_1 i) :
    out0_C_13 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2 = k0_pay6 (F := Ideal) (k0_pay3 (k0_pay40 (dxV x0 x1 x2 x3 x4 x5) x6 x7) s2) := by
  unfold out0_C_13
  rw [View.read_writes_eq_canon _ _ _ (cover0_C_13 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 s0 s1 s2)]
  unfold kernelRun0_C
  dsimp only
  sl_unfold_words
  rw [View.canon_unit_zero hz2, View.readCov_unit_zero (S := S8x1024) _ hz2]
  simp only [View.readAt_eq_ld, h1.read_unread, h2.read_unread, h3.read_unread, h4.read_unread, h5.read_unread, h6.read_unread, h7.read_unread, h8.read_unread, h15.read_unread, h16.read_unread, h17.read_unread, View.ld_unit_zero (S := S512x1024) hz2, View.ld_unit_zero (S := S1x1024) hz2, View.ld_unit_zero (S := S8x1024) hz2]
  rfl

end Cert.Kernel8Ideal.Gen

end
-- ==== Proof.Pay0.lean ====
module

public import proofs.«01_k».proof.Proof.Math
public import proofs.«01_k».proof.Proof.Open0

/-! # Layer 0: the body's expressions, entry by entry, at real blocks -/

@[expose] public section

noncomputable section

namespace Cert.Kernel8Ideal.Gen

open Idealize.ShloMosaic Cert.Ffn

theorem cutT0_at (x : Vec Ideal S4x512x704 .bf16) (r : Fin 512) (f : Fin 704) :
    cutT0 x (ix3 0 r f) = x (ix3 0 r f) :=
  View.ld_unit_apply_of x _ _ _ _ _ (fun a => by fin_cases a <;> simp [ix3])
theorem colsT0_at (x : Vec Ideal S4x1x1024x704 .bf16) (k : Fin 1024) (f : Fin 704) :
    colsT0 x (ix4 0 0 k f) = x (ix4 0 0 k f) :=
  View.ld_unit_apply_of x _ _ _ _ _ (fun a => by fin_cases a <;> simp [ix4])
theorem rowsT0_at (x : Vec Ideal S4x1x704x1024 .bf16) (f : Fin 704) (k : Fin 1024) :
    rowsT0 x (ix4 0 0 f k) = x (ix4 0 0 f k) :=
  View.ld_unit_apply_of x _ _ _ _ _ (fun a => by fin_cases a <;> simp [ix4])

theorem cutT1_at (x : Vec Ideal S4x512x704 .bf16) (r : Fin 512) (f : Fin 704) :
    cutT1 x (ix3 0 r f) = x (ix3 1 r f) :=
  View.ld_unit_apply_of x _ _ _ _ _ (fun a => by fin_cases a <;> simp [ix3])
theorem colsT1_at (x : Vec Ideal S4x1x1024x704 .bf16) (k : Fin 1024) (f : Fin 704) :
    colsT1 x (ix4 0 0 k f) = x (ix4 1 0 k f) :=
  View.ld_unit_apply_of x _ _ _ _ _ (fun a => by fin_cases a <;> simp [ix4])
theorem rowsT1_at (x : Vec Ideal S4x1x704x1024 .bf16) (f : Fin 704) (k : Fin 1024) :
    rowsT1 x (ix4 0 0 f k) = x (ix4 1 0 f k) :=
  View.ld_unit_apply_of x _ _ _ _ _ (fun a => by fin_cases a <;> simp [ix4])

theorem cutT2_at (x : Vec Ideal S4x512x704 .bf16) (r : Fin 512) (f : Fin 704) :
    cutT2 x (ix3 0 r f) = x (ix3 2 r f) :=
  View.ld_unit_apply_of x _ _ _ _ _ (fun a => by fin_cases a <;> simp [ix3])
theorem colsT2_at (x : Vec Ideal S4x1x1024x704 .bf16) (k : Fin 1024) (f : Fin 704) :
    colsT2 x (ix4 0 0 k f) = x (ix4 2 0 k f) :=
  View.ld_unit_apply_of x _ _ _ _ _ (fun a => by fin_cases a <;> simp [ix4])
theorem rowsT2_at (x : Vec Ideal S4x1x704x1024 .bf16) (f : Fin 704) (k : Fin 1024) :
    rowsT2 x (ix4 0 0 f k) = x (ix4 2 0 f k) :=
  View.ld_unit_apply_of x _ _ _ _ _ (fun a => by fin_cases a <;> simp [ix4])

theorem cutT3_at (x : Vec Ideal S4x512x704 .bf16) (r : Fin 512) (f : Fin 704) :
    cutT3 x (ix3 0 r f) = x (ix3 3 r f) :=
  View.ld_unit_apply_of x _ _ _ _ _ (fun a => by fin_cases a <;> simp [ix3])
theorem colsT3_at (x : Vec Ideal S4x1x1024x704 .bf16) (k : Fin 1024) (f : Fin 704) :
    colsT3 x (ix4 0 0 k f) = x (ix4 3 0 k f) :=
  View.ld_unit_apply_of x _ _ _ _ _ (fun a => by fin_cases a <;> simp [ix4])
theorem rowsT3_at (x : Vec Ideal S4x1x704x1024 .bf16) (f : Fin 704) (k : Fin 1024) :
    rowsT3 x (ix4 0 0 f k) = x (ix4 3 0 f k) :=
  View.ld_unit_apply_of x _ _ _ _ _ (fun a => by fin_cases a <;> simp [ix4])

theorem dxV_at (x0 : Vec Ideal S512x1024 .f32) (x1 x2 : Vec Ideal S4x512x704 .bf16) (x3 x4 : Vec Ideal S4x1x1024x704 .bf16)
    (x5 : Vec Ideal S4x1x704x1024 .bf16) (r : Fin 512) (c : Fin 1024 → ℝ) (a b : Fin 4 → Fin 704 → ℝ)
    (wg wu : Fin 4 → Fin 1024 → Fin 704 → ℝ) (wd : Fin 4 → Fin 704 → Fin 1024 → ℝ)
    (h0 : ∀ k, x0 (ix2 r k) = (c k : EReal)) (h1 : ∀ j f, x1 (ix3 j r f) = (a j f : EReal)) (h2 : ∀ j f, x2 (ix3 j r f) = (b j f : EReal))
    (h3 : ∀ j k f, x3 (ix4 j 0 k f) = (wg j k f : EReal)) (h4 : ∀ j k f, x4 (ix4 j 0 k f) = (wu j k f : EReal))
    (h5 : ∀ j f k, x5 (ix4 j 0 f k) = (wd j f k : EReal)) (k : Fin 1024) :
    dxV x0 x1 x2 x3 x4 x5 (ix2 r k) = ((al * c k + ∑ j, ∑ f, (∑ l, c l * wd j f l) * a j f * wu j k f
      + ∑ j, ∑ f, (∑ l, c l * wd j f l) * b j f * wg j k f : ℝ) : EReal) := by
  pointwise [dxV, k0_pay10, k0_pay11, k0_pay12, k0_pay13, k0_pay14, k0_pay17, k0_pay18, k0_pay19, k0_pay20, k0_pay23, k0_pay24,
    k0_pay25, k0_pay26, k0_pay29, k0_pay30, k0_pay31, k0_pay32, k0_pay33, k0_pay36]
  simp only [cutT0_at, cutT1_at, cutT2_at, cutT3_at, colsT0_at, colsT1_at, colsT2_at, colsT3_at, rowsT0_at, rowsT1_at, rowsT2_at,
    rowsT3_at, h0, h1, h2, h3, h4, h5, ofBits_al, coe_sum, ← EReal.coe_mul, ← EReal.coe_add]
  congr 1
  simp only [Fin.sum_univ_four]
  ring

theorem dgT0_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 0 r f) = (b f : EReal)) (h5 : ∀ f k, x5 (ix4 0 0 f k) = (wd f k : EReal)) (f : Fin 704) :
    k0_pay15 x0 (rowsT0 x5) (cutT0 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT0_at, rowsT0_at, h0, h2, h5, coe_sum, ← EReal.coe_mul]

theorem dgT1_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 1 r f) = (b f : EReal)) (h5 : ∀ f k, x5 (ix4 1 0 f k) = (wd f k : EReal)) (f : Fin 704) :
    k0_pay21 (k0_pay10 x0) (rowsT1 x5) (cutT1 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT1_at, rowsT1_at, h0, h2, h5, coe_sum, ← EReal.coe_mul]

theorem dgT2_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 2 r f) = (b f : EReal)) (h5 : ∀ f k, x5 (ix4 2 0 f k) = (wd f k : EReal)) (f : Fin 704) :
    k0_pay27 (k0_pay10 x0) (rowsT2 x5) (cutT2 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT2_at, rowsT2_at, h0, h2, h5, coe_sum, ← EReal.coe_mul]

theorem dgT3_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 3 r f) = (b f : EReal)) (h5 : ∀ f k, x5 (ix4 3 0 f k) = (wd f k : EReal)) (f : Fin 704) :
    k0_pay34 (k0_pay10 x0) (rowsT3 x5) (cutT3 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT3_at, rowsT3_at, h0, h2, h5, coe_sum, ← EReal.coe_mul]

theorem duT0_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 0 r f) = (b f : EReal)) (h5 : ∀ f k, x5 (ix4 0 0 f k) = (wd f k : EReal)) (f : Fin 704) :
    k0_pay16 x0 (rowsT0 x5) (cutT0 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT0_at, rowsT0_at, h0, h2, h5, coe_sum, ← EReal.coe_mul]

theorem duT1_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 1 r f) = (b f : EReal)) (h5 : ∀ f k, x5 (ix4 1 0 f k) = (wd f k : EReal)) (f : Fin 704) :
    k0_pay22 (k0_pay10 x0) (rowsT1 x5) (cutT1 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT1_at, rowsT1_at, h0, h2, h5, coe_sum, ← EReal.coe_mul]

theorem duT2_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 2 r f) = (b f : EReal)) (h5 : ∀ f k, x5 (ix4 2 0 f k) = (wd f k : EReal)) (f : Fin 704) :
    k0_pay28 (k0_pay10 x0) (rowsT2 x5) (cutT2 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT2_at, rowsT2_at, h0, h2, h5, coe_sum, ← EReal.coe_mul]

theorem duT3_at (x0 : Vec Ideal S512x1024 .f32) (x : Vec Ideal S4x512x704 .bf16) (x5 : Vec Ideal S4x1x704x1024 .bf16)
    (c : Fin 1024 → ℝ) (b : Fin 704 → ℝ) (wd : Fin 704 → Fin 1024 → ℝ) (r : Fin 512) (h0 : ∀ k, x0 (ix2 r k) = (c k : EReal))
    (h2 : ∀ f, x (ix3 3 r f) = (b f : EReal)) (h5 : ∀ f k, x5 (ix4 3 0 f k) = (wd f k : EReal)) (f : Fin 704) :
    k0_pay35 (k0_pay10 x0) (rowsT3 x5) (cutT3 x) (ix3 0 r f) = (((∑ l, c l * wd f l) * b f : ℝ) : EReal) := by
  pointwise [k0_pay10, k0_pay12, k0_pay13, k0_pay14, k0_pay15, k0_pay16, k0_pay18, k0_pay19, k0_pay20, k0_pay21, k0_pay22, k0_pay24,
    k0_pay25, k0_pay26, k0_pay27, k0_pay28, k0_pay31, k0_pay32, k0_pay33, k0_pay34, k0_pay35]
  simp only [cutT3_at, rowsT3_at, h0, h2, h5, coe_sum, ← EReal.coe_mul]

theorem pay37_at (v115 : Vec Ideal S512x1024 .f32) (z : Fin 1024 → ℝ) (r : Fin 512) (h : ∀ k, v115 (ix2 r k) = (z k : EReal))
    (k : Fin 1024) : k0_pay37 v115 (ix2 r k) = (cen z k : EReal) := by
  pointwise [k0_pay37]
  simp only [h, coe_sum, ofBits_1024, div_1024, ← EReal.coe_sub, cen, mean]

theorem pay38_at (v115 : Vec Ideal S512x1024 .f32) (z : Fin 1024 → ℝ) (r : Fin 512) (h : ∀ k, v115 (ix2 r k) = (z k : EReal)) :
    k0_pay38 v115 (ix2 r 0) = (rstd z : EReal) := by
  pointwise [k0_pay38]
  simp only [pay37_at v115 z r h, coe_sum, ofBits_1024, ofBits_eps, div_1024, ← EReal.coe_mul, ← EReal.coe_add, rstd]
  exact rsqrt_pos (vare_pos z)

theorem pay39_at (v115 : Vec Ideal S512x1024 .f32) (z : Fin 1024 → ℝ) (r : Fin 512) (h : ∀ k, v115 (ix2 r k) = (z k : EReal))
    (k : Fin 1024) : k0_pay39 v115 (ix2 r k) = (hat z k : EReal) := by
  pointwise [k0_pay39]
  simp only [pay37_at v115 z r h, pay38_at v115 z r h, ← EReal.coe_mul, hat]

theorem pay40_at (v114 v115 : Vec Ideal S512x1024 .f32) (v117 : Vec Ideal S1x1024 .f32) (d z g : Fin 1024 → ℝ) (r : Fin 512)
    (hd : ∀ k, v114 (ix2 r k) = (d k : EReal)) (h : ∀ k, v115 (ix2 r k) = (z k : EReal)) (hg : ∀ k, v117 (ix2 0 k) = (g k : EReal))
    (k : Fin 1024) : k0_pay40 v114 v115 v117 (ix2 r k) = (lnb z (fun k => d k * g k) k : EReal) := by
  pointwise [k0_pay40]
  simp only [hd, hg, pay39_at v115 z r h, pay38_at v115 z r h, coe_sum, ofBits_1024, div_1024, ← EReal.coe_mul, ← EReal.coe_sub, lnb, mean]

theorem pay2_at (d : Vec Ideal S512x1024 .f32) (a : Vec Ideal S8x1024 .f32) (i : Fin 8) (k : Fin 1024) :
    k0_pay2 d a (ix2 i k) = a (ix2 i k) + ∑ x : Fin 64, d (ix2 ⟨x.val * 8 + i.val, by omega⟩ k) := by
  pointwise [k0_pay2]

theorem pay3_at (d : Vec Ideal S512x1024 .f32) (a : Vec Ideal S8x1024 .f32) (i : Fin 8) (k : Fin 1024) :
    k0_pay3 d a (ix2 i k) = a (ix2 i k) + ∑ x : Fin 64, d (ix2 ⟨x.val * 8 + i.val, by omega⟩ k) := by
  pointwise [k0_pay3]

theorem pay41_at (d z : Vec Ideal S512x1024 .f32) (a : Vec Ideal S8x1024 .f32) (i : Fin 8) (k : Fin 1024) :
    k0_pay1 (k0_pay41 d z a) (ix2 i k)
      = a (ix2 i k) + ∑ x : Fin 64, d (ix2 ⟨x.val * 8 + i.val, by omega⟩ k) * k0_pay39 z (ix2 ⟨x.val * 8 + i.val, by omega⟩ k) := by
  pointwise [k0_pay1, k0_pay41]

theorem pay4_at (a : Vec Ideal S8x1024 .f32) (k : Fin 1024) : k0_pay4 a (ix2 0 k) = ∑ i : Fin 8, a (ix2 i k) := by
  pointwise [k0_pay4]
theorem pay5_at (a : Vec Ideal S8x1024 .f32) (k : Fin 1024) : k0_pay5 a (ix2 0 k) = ∑ i : Fin 8, a (ix2 i k) := by
  pointwise [k0_pay5]
theorem pay6_at (a : Vec Ideal S8x1024 .f32) (k : Fin 1024) : k0_pay6 a (ix2 0 k) = ∑ i : Fin 8, a (ix2 i k) := by
  pointwise [k0_pay6]
theorem pay7_at (i : S8x1024.Idx) : k0_pay7 (F := Ideal) i = 0 := by
  pointwise [k0_pay7]
theorem pay8_at (i : S8x1024.Idx) : k0_pay8 (F := Ideal) i = 0 := by
  pointwise [k0_pay8]
theorem pay9_at (i : S8x1024.Idx) : k0_pay9 (F := Ideal) i = 0 := by
  pointwise [k0_pay9]

end Cert.Kernel8Ideal.Gen

end
-- ==== Proof.Blocks0.lean ====
module

public import proofs.«01_k».proof.Proof.Host0
public import proofs.«01_k».proof.Proof.Pay0

/-! # Layer 0: the blocks the region's windows show the body at each tile -/

@[expose] public section

noncomputable section

namespace Cert.Kernel8Ideal.Gen

open Idealize.ShloMosaic Idealize.ShloMosaic.TcCoe Idealize.SL.Sem Cert.Ffn

/-- The tile number of a point of the grid. -/
def tile (t : Fin cfg0.N) : Fin 32 := ⟨t.val, lt_of_lt_of_eq t.isLt N_0⟩

theorem idx0_0 : ∀ t : Fin cfg0.N, win0_0.index t = ![t.val, 0] := by decide +kernel
theorem idx0_1 : ∀ t : Fin cfg0.N, win0_1.index t = ![0, t.val, 0] := by decide +kernel
theorem idx0_2 : ∀ t : Fin cfg0.N, win0_2.index t = ![0, t.val, 0] := by decide +kernel
theorem idx0_3 : ∀ t : Fin cfg0.N, win0_3.index t = ![0, 0, 0, 0] := by decide +kernel
theorem idx0_4 : ∀ t : Fin cfg0.N, win0_4.index t = ![0, 0, 0, 0] := by decide +kernel
theorem idx0_5 : ∀ t : Fin cfg0.N, win0_5.index t = ![0, 0, 0, 0] := by decide +kernel
theorem idx0_6 : ∀ t : Fin cfg0.N, win0_6.index t = ![t.val, 0] := by decide +kernel
theorem idx0_7 : ∀ t : Fin cfg0.N, win0_7.index t = ![0, 0] := by decide +kernel

/-- The place in chip `J`'s tile of an entry of the block. -/
theorem place {j : Fin 4} {r : Fin 512} {f : Fin 704} (J : Fin 4) (x : S1x512x704.Idx) (h0 : j.val = J.val + (x 0).val)
    (h1 : r.val = (x 1).val) (h2 : f.val = (x 2).val) : j = J ∧ x = ix3 0 r f := by
  have hx : (x 0).val < 1 := (x 0).isLt
  refine ⟨Fin.ext (by omega), (eq_ix3 x).trans ?_⟩
  rw [show x 0 = (0 : Fin 1) from Fin.ext (by show (x 0).val = 0; omega), show x 1 = r from Fin.ext h1.symm,
    show x 2 = f from Fin.ext h2.symm]

variable {I : In} {m : (ℓ : Loc nD τ sig) → Buf (Elt Ideal) ℓ} {c : Dev nD} (H : HoldsAt I m c) (t : Fin cfg0.N)

include H

theorem blk_ct (r : Fin 512) (k : Fin 1024) : (iblk m c 0 t : Vec Ideal S512x1024 .f32) (ix2 r k) = (I.ct (row (tile t) r) k : EReal) := by
  rw [← H.ct]
  blk_ext! [iblk, V, idx0_0 t, tile, row]

theorem blk_act (j : Fin 4) (r : Fin 512) (f : Fin 704) :
    (iblk m c 1 t : Vec Ideal S4x512x704 .bf16) (ix3 j r f) = (silu (I.gate (row (tile t) r) (col j f)) : EReal) := by
  rw [← V_act H]
  unfold iblk
  generalize V m c main_v48 = X
  blk_ext! [idx0_1 t, tile, row]

theorem blk_bm (j : Fin 4) (r : Fin 512) (f : Fin 704) : (iblk m c 2 t : Vec Ideal S4x512x704 .bf16) (ix3 j r f)
    = ((I.up (row (tile t) r) (col j f) * dsilu (I.gate (row (tile t) r) (col j f)) : ℝ) : EReal) := by
  rw [← V_bm H]
  unfold iblk
  generalize V m c main_v52 = X
  blk_ext! [idx0_2 t, tile, row]

theorem blk_wg (j : Fin 4) (k : Fin 1024) (f : Fin 704) :
    (iblk m c 3 t : Vec Ideal S4x1x1024x704 .bf16) (ix4 j 0 k f) = (I.wg k (col j f) : EReal) := by
  rw [← V_wg H]
  unfold iblk
  generalize V m c main_v55 = X
  blk_ext! [idx0_3 t]

theorem blk_wu (j : Fin 4) (k : Fin 1024) (f : Fin 704) :
    (iblk m c 4 t : Vec Ideal S4x1x1024x704 .bf16) (ix4 j 0 k f) = (I.wu k (col j f) : EReal) := by
  rw [← V_wu H]
  unfold iblk
  generalize V m c main_v58 = X
  blk_ext! [idx0_4 t]

theorem blk_wd (j : Fin 4) (f : Fin 704) (k : Fin 1024) :
    (iblk m c 5 t : Vec Ideal S4x1x704x1024 .bf16) (ix4 j 0 f k) = (I.wd (col j f) k : EReal) := by
  rw [← V_wd H]
  unfold iblk
  generalize V m c main_v61 = X
  blk_ext! [idx0_5 t]

theorem blk_z (r : Fin 512) (k : Fin 1024) : (iblk m c 6 t : Vec Ideal S512x1024 .f32) (ix2 r k) = (I.z (row (tile t) r) k : EReal) := by
  rw [← V_z H]
  unfold iblk
  generalize V m c main_v2 = X
  blk_ext! [idx0_6 t, tile, row]

theorem blk_g (k : Fin 1024) : (iblk m c 7 t : Vec Ideal S1x1024 .f32) (ix2 0 k) = (I.g k : EReal) := by
  rw [← V_g H]
  unfold iblk
  generalize V m c main_v62 = X
  blk_ext! [idx0_7 t]

/-! ## The body's expressions at those blocks -/

theorem dxV_blk (r : Fin 512) (k : Fin 1024) :
    dxV (iblk m c 0 t) (iblk m c 1 t) (iblk m c 2 t) (iblk m c 3 t) (iblk m c 4 t) (iblk m c 5 t) (ix2 r k)
      = (I.dx (row (tile t) r) k : EReal) := by
  rw [dxV_at _ _ _ _ _ _ r _ _ _ _ _ _ (blk_ct H t r) (fun j => blk_act H t j r) (fun j => blk_bm H t j r) (blk_wg H t) (blk_wu H t)
    (blk_wd H t) k]
  unfold In.dx
  rw [sum_col, sum_col]
  rfl

theorem dzV_blk (r : Fin 512) (k : Fin 1024) :
    k0_pay40 (dxV (iblk m c 0 t) (iblk m c 1 t) (iblk m c 2 t) (iblk m c 3 t) (iblk m c 4 t) (iblk m c 5 t)) (iblk m c 6 t) (iblk m c 7 t)
      (ix2 r k) = (I.dz (row (tile t) r) k : EReal) := by
  rw [pay40_at _ _ _ _ _ _ r (dxV_blk H t r) (blk_z H t r) (blk_g H t) k]
  rfl

theorem hat_blk (r : Fin 512) (k : Fin 1024) : k0_pay39 (iblk m c 6 t : Vec Ideal S512x1024 .f32) (ix2 r k)
    = (hat (I.z (row (tile t) r)) k : EReal) :=
  pay39_at _ _ r (blk_z H t r) k

theorem dgL_blk (j : Fin 4) (r : Fin 512) (f : Fin 704) :
    View.canon (dgL (iblk m c 0 t) (iblk m c 2 t) (iblk m c 5 t)) (ix3 j r f) = (I.dgate (row (tile t) r) (col j f) : EReal) := by
  unfold dgL
  canon_tiles
  · obtain ⟨rfl, rfl⟩ := place 3 x h0 h1 h2
    exact dgT3_at _ _ _ _ _ _ r (blk_ct H t r) (fun f => blk_bm H t 3 r f) (fun f k => blk_wd H t 3 f k) f
  · obtain ⟨rfl, rfl⟩ := place 2 x h0 h1 h2
    exact dgT2_at _ _ _ _ _ _ r (blk_ct H t r) (fun f => blk_bm H t 2 r f) (fun f k => blk_wd H t 2 f k) f
  · obtain ⟨rfl, rfl⟩ := place 1 x h0 h1 h2
    exact dgT1_at _ _ _ _ _ _ r (blk_ct H t r) (fun f => blk_bm H t 1 r f) (fun f k => blk_wd H t 1 f k) f
  · obtain ⟨rfl, rfl⟩ := place 0 x (h0.trans (Nat.zero_add _).symm) h1 h2
    exact dgT0_at _ _ _ _ _ _ r (blk_ct H t r) (fun f => blk_bm H t 0 r f) (fun f k => blk_wd H t 0 f k) f

theorem duL_blk (j : Fin 4) (r : Fin 512) (f : Fin 704) :
    View.canon (duL (iblk m c 0 t) (iblk m c 1 t) (iblk m c 5 t)) (ix3 j r f) = (I.dup (row (tile t) r) (col j f) : EReal) := by
  unfold duL
  canon_tiles
  · obtain ⟨rfl, rfl⟩ := place 3 x h0 h1 h2
    exact duT3_at _ _ _ _ _ _ r (blk_ct H t r) (fun f => blk_act H t 3 r f) (fun f k => blk_wd H t 3 f k) f
  · obtain ⟨rfl, rfl⟩ := place 2 x h0 h1 h2
    exact duT2_at _ _ _ _ _ _ r (blk_ct H t r) (fun f => blk_act H t 2 r f) (fun f k => blk_wd H t 2 f k) f
  · obtain ⟨rfl, rfl⟩ := place 1 x h0 h1 h2
    exact duT1_at _ _ _ _ _ _ r (blk_ct H t r) (fun f => blk_act H t 1 r f) (fun f k => blk_wd H t 1 f k) f
  · obtain ⟨rfl, rfl⟩ := place 0 x (h0.trans (Nat.zero_add _).symm) h1 h2
    exact duT0_at _ _ _ _ _ _ r (blk_ct H t r) (fun f => blk_act H t 0 r f) (fun f k => blk_wd H t 0 f k) f

end Cert.Kernel8Ideal.Gen

end
-- ==== Proof.Arrays0.lean ====
module

public import proofs.«01_k».proof.Proof.Blocks0
public import proofs.«01_k».proof.Proof.Gen.Kernel8Ideal.Value

/-! # Layer 0: the kernel's six result arrays, entry by entry -/

@[expose] public section

noncomputable section

namespace Cert.Kernel8Ideal.Gen

open Idealize.ShloMosaic Idealize.ShloMosaic.TcCoe Idealize.SL.Sem Cert.Ffn Cert.Kernel8Ideal.Value

theorem part_tile (f : Fin 16384 → ℝ) (a : Fin 8) (t : Fin cfg0.N) :
    part f a t.val = ∑ x : Fin 64, f (row (tile t) ⟨x.val * 8 + a.val, by omega⟩) := part_row f a (tile t)

variable {I : In} {m : (ℓ : Loc nD τ sig) → Buf (Elt Ideal) ℓ} {c : Dev nD} (H : HoldsAt I m c) (t : Fin cfg0.N)

include H

/-! ## What a tile leaves in its row blocks -/

theorem outs_dg (j : Fin 4) (r : Fin 512) (f : Fin 704) :
    (outsAt0 m c t.val t.isLt).1 (ix3 j r f) = (I.dgate (row (tile t) r) (col j f) : EReal) := by
  have hN := lt_of_lt_of_eq t.isLt (show cfg0.N = 32 from N_0)
  by_cases h0 : t.val % 32 = 0
  · rw [outsAt0_A m c t h0 (by omega)]; dsimp only; rw [out_A_8]; exact dgL_blk H t j r f
  · by_cases h1 : t.val % 32 = 31
    · rw [outsAt0_C m c t h0 h1]; dsimp only; rw [out_C_8]; exact dgL_blk H t j r f
    · rw [outsAt0_B m c t h0 h1]; dsimp only; rw [out_B_8]; exact dgL_blk H t j r f

theorem outs_du (j : Fin 4) (r : Fin 512) (f : Fin 704) :
    (outsAt0 m c t.val t.isLt).2.1 (ix3 j r f) = (I.dup (row (tile t) r) (col j f) : EReal) := by
  have hN := lt_of_lt_of_eq t.isLt (show cfg0.N = 32 from N_0)
  by_cases h0 : t.val % 32 = 0
  · rw [outsAt0_A m c t h0 (by omega)]; dsimp only; rw [out_A_9]; exact duL_blk H t j r f
  · by_cases h1 : t.val % 32 = 31
    · rw [outsAt0_C m c t h0 h1]; dsimp only; rw [out_C_9]; exact duL_blk H t j r f
    · rw [outsAt0_B m c t h0 h1]; dsimp only; rw [out_B_9]; exact duL_blk H t j r f

theorem outs_dz (r : Fin 512) (k : Fin 1024) :
    (outsAt0 m c t.val t.isLt).2.2.1 (ix2 r k) = (I.dz (row (tile t) r) k : EReal) := by
  have hN := lt_of_lt_of_eq t.isLt (show cfg0.N = 32 from N_0)
  by_cases h0 : t.val % 32 = 0
  · rw [outsAt0_A m c t h0 (by omega)]; dsimp only; rw [out_A_10]; exact dzV_blk H t r k
  · by_cases h1 : t.val % 32 = 31
    · rw [outsAt0_C m c t h0 h1]; dsimp only; rw [out_C_10]; exact dzV_blk H t r k
    · rw [outsAt0_B m c t h0 h1]; dsimp only; rw [out_B_10]; exact dzV_blk H t r k

/-! ## The three column accumulators -/

theorem step_g (s : Vec Ideal S8x1024 .f32) (a : Fin 8) (k : Fin 1024) (v : ℝ) (hs : s (ix2 a k) = (v : EReal)) :
    k0_pay1 (k0_pay41 (dxV (iblk m c 0 t) (iblk m c 1 t) (iblk m c 2 t) (iblk m c 3 t) (iblk m c 4 t) (iblk m c 5 t)) (iblk m c 6 t) s) (ix2 a k)
      = ((v + part (fun t => I.dx t k * hat (I.z t) k) a t.val : ℝ) : EReal) := by
  rw [pay41_at, hs, part_tile]
  simp only [dxV_blk H t, hat_blk H t, ← EReal.coe_mul, coe_sum, ← EReal.coe_add]

theorem step_b (s : Vec Ideal S8x1024 .f32) (a : Fin 8) (k : Fin 1024) (v : ℝ) (hs : s (ix2 a k) = (v : EReal)) :
    k0_pay2 (F := Ideal) (dxV (iblk m c 0 t) (iblk m c 1 t) (iblk m c 2 t) (iblk m c 3 t) (iblk m c 4 t) (iblk m c 5 t)) s (ix2 a k)
      = ((v + part (fun t => I.dx t k) a t.val : ℝ) : EReal) := by
  rw [pay2_at, hs, part_tile]
  simp only [dxV_blk H t, coe_sum, ← EReal.coe_add]

theorem step_s (s : Vec Ideal S8x1024 .f32) (a : Fin 8) (k : Fin 1024) (v : ℝ) (hs : s (ix2 a k) = (v : EReal)) :
    k0_pay3 (F := Ideal) (k0_pay40 (dxV (iblk m c 0 t) (iblk m c 1 t) (iblk m c 2 t) (iblk m c 3 t) (iblk m c 4 t) (iblk m c 5 t)) (iblk m c 6 t) (iblk m c 7 t)) s (ix2 a k)
      = ((v + part (fun t => I.dz t k) a t.val : ℝ) : EReal) := by
  rw [pay3_at, hs, part_tile]
  simp only [dzV_blk H t, coe_sum, ← EReal.coe_add]

/-- After tile `n` each accumulator holds, at row `a`, the sum over the tiles so far of their rows that are `a` modulo 8. -/
theorem accs : ∀ (n : ℕ) (hn : n < cfg0.N) (a : Fin 8) (k : Fin 1024),
    (outsAt0 m c n hn).2.2.2.2.2.2.1 (ix2 a k) = ((∑ i ∈ Finset.range (n + 1), part (fun t => I.dx t k * hat (I.z t) k) a i : ℝ) : EReal)
    ∧ (outsAt0 m c n hn).2.2.2.2.2.2.2.1 (ix2 a k) = ((∑ i ∈ Finset.range (n + 1), part (fun t => I.dx t k) a i : ℝ) : EReal)
    ∧ (outsAt0 m c n hn).2.2.2.2.2.2.2.2 (ix2 a k) = ((∑ i ∈ Finset.range (n + 1), part (fun t => I.dz t k) a i : ℝ) : EReal)
  | 0, hn, a, k => by
    have e := outsAt0_A m c ⟨0, hn⟩ (Nat.zero_mod _) (fun h => by dsimp only at h; omega)
    dsimp only at e
    rw [e]
    dsimp only
    rw [sout_A_0, sout_A_1, sout_A_2, step_g H ⟨0, hn⟩ _ a k 0 (pay7_at _), step_b H ⟨0, hn⟩ _ a k 0 (pay8_at _),
      step_s H ⟨0, hn⟩ _ a k 0 (pay9_at _)]
    simp only [zero_add, Finset.sum_range_one, and_self]
  | n + 1, hn, a, k => by
    obtain ⟨e0, e1, e2⟩ := accs n (Nat.lt_of_succ_lt hn) a k
    have hN := lt_of_lt_of_eq hn (show cfg0.N = 32 from N_0)
    rw [Finset.sum_range_succ _ (n + 1), Finset.sum_range_succ _ (n + 1), Finset.sum_range_succ _ (n + 1)]
    by_cases h1 : (n + 1) % 32 = 31
    · have e := outsAt0_C m c ⟨n + 1, hn⟩ (by dsimp only; omega) h1
      dsimp only at e
      rw [e]
      dsimp only
      rw [sout_C_0, sout_C_1, sout_C_2]
      exact ⟨step_g H ⟨n + 1, hn⟩ _ a k _ e0, step_b H ⟨n + 1, hn⟩ _ a k _ e1, step_s H ⟨n + 1, hn⟩ _ a k _ e2⟩
    · have e := outsAt0_B m c ⟨n + 1, hn⟩ (by dsimp only; omega) h1
      dsimp only at e
      rw [e]
      dsimp only
      rw [sout_B_0, sout_B_1, sout_B_2]
      exact ⟨step_g H ⟨n + 1, hn⟩ _ a k _ e0, step_b H ⟨n + 1, hn⟩ _ a k _ e1, step_s H ⟨n + 1, hn⟩ _ a k _ e2⟩

omit H in
/-- After the last tile the three totals are the accumulators' column sums. -/
theorem last_totals (t : Fin cfg0.N) (h0 : ¬t.val % 32 = 0) (h1 : t.val % 32 = 31) :
    (outsAt0 m c t.val t.isLt).2.2.2.1 = k0_pay4 (F := Ideal) (outsAt0 m c t.val t.isLt).2.2.2.2.2.2.1
    ∧ (outsAt0 m c t.val t.isLt).2.2.2.2.1 = k0_pay5 (F := Ideal) (outsAt0 m c t.val t.isLt).2.2.2.2.2.2.2.1
    ∧ (outsAt0 m c t.val t.isLt).2.2.2.2.2.1 = k0_pay6 (F := Ideal) (outsAt0 m c t.val t.isLt).2.2.2.2.2.2.2.2 := by
  rw [outsAt0_C m c t h0 h1]
  dsimp only
  rw [out_C_11, out_C_12, out_C_13, sout_C_0, sout_C_1, sout_C_2]
  exact ⟨rfl, rfl, rfl⟩

theorem last_sums (hn : 31 < cfg0.N) (k : Fin 1024) :
    (outsAt0 m c 31 hn).2.2.2.1 (ix2 0 k) = (I.dg k : EReal) ∧ (outsAt0 m c 31 hn).2.2.2.2.1 (ix2 0 k) = (I.db k : EReal)
    ∧ (outsAt0 m c 31 hn).2.2.2.2.2.1 (ix2 0 k) = (I.ds k : EReal) := by
  obtain ⟨e0, e1, e2⟩ := last_totals (m := m) (c := c) ⟨31, hn⟩ (by dsimp only; omega) (by dsimp only)
  dsimp only at e0 e1 e2
  rw [e0, e1, e2, pay4_at, pay5_at, pay6_at]
  have a31 := accs H 31 hn
  simp only [(a31 _ k).1, (a31 _ k).2.1, (a31 _ k).2.2, coe_sum, sum_part]
  exact ⟨rfl, rfl, rfl⟩

/-! ## The arrays -/

theorem G8_at (j : Fin 4) (t : Fin 16384) (f : Fin 704) : G8 m c (ix3 j t f) = (I.dgate t (col j f) : EReal) := by
  have hp : pt8Of (ix3 j t f) = t.val / 512 := by
    show 32 * (j.val / 4 - 0) + 1 * (t.val / 512 - 0) + 1 * (f.val / 704 - 0) = _
    omega
  have hN : t.val / 512 < cfg0.N := lt_of_lt_of_eq (by omega) N_0.symm
  have hl : loc8Of (ix3 j t f) = ix3 j ⟨t.val % 512, Nat.mod_lt _ (by decide)⟩ f := by
    funext a; apply Fin.ext
    match a with
    | ⟨0, _⟩ => show j.val % 4 = j.val; omega
    | ⟨1, _⟩ => rfl
    | ⟨2, _⟩ => show f.val % 704 = f.val; omega
  unfold G8
  rw [dif_pos (by rw [hp]; exact hN), hl, fold0_congr m c _ _ _ (by rw [Nat.zero_add]; exact hN) hp, ← outsAt0_sweep m c _ hN,
    outs_dg H ⟨t.val / 512, hN⟩]
  rw [show row (tile ⟨t.val / 512, hN⟩) ⟨t.val % 512, Nat.mod_lt _ (by decide)⟩ = t from Fin.ext (Nat.div_add_mod' _ _)]

theorem G9_at (j : Fin 4) (t : Fin 16384) (f : Fin 704) : G9 m c (ix3 j t f) = (I.dup t (col j f) : EReal) := by
  have hp : pt9Of (ix3 j t f) = t.val / 512 := by
    show 32 * (j.val / 4 - 0) + 1 * (t.val / 512 - 0) + 1 * (f.val / 704 - 0) = _
    omega
  have hN : t.val / 512 < cfg0.N := lt_of_lt_of_eq (by omega) N_0.symm
  have hl : loc9Of (ix3 j t f) = ix3 j ⟨t.val % 512, Nat.mod_lt _ (by decide)⟩ f := by
    funext a; apply Fin.ext
    match a with
    | ⟨0, _⟩ => show j.val % 4 = j.val; omega
    | ⟨1, _⟩ => rfl
    | ⟨2, _⟩ => show f.val % 704 = f.val; omega
  unfold G9
  rw [dif_pos (by rw [hp]; exact hN), hl, fold0_congr m c _ _ _ (by rw [Nat.zero_add]; exact hN) hp, ← outsAt0_sweep m c _ hN,
    outs_du H ⟨t.val / 512, hN⟩]
  rw [show row (tile ⟨t.val / 512, hN⟩) ⟨t.val % 512, Nat.mod_lt _ (by decide)⟩ = t from Fin.ext (Nat.div_add_mod' _ _)]

theorem G10_at (t : Fin 16384) (k : Fin 1024) : G10 m c (ix2 t k) = (I.dz t k : EReal) := by
  have hp : pt10Of (ix2 t k) = t.val / 512 := by
    show 1 * (t.val / 512 - 0) + 1 * (k.val / 1024 - 0) = _
    omega
  have hN : t.val / 512 < cfg0.N := lt_of_lt_of_eq (by omega) N_0.symm
  have hl : loc10Of (ix2 t k) = ix2 ⟨t.val % 512, Nat.mod_lt _ (by decide)⟩ k := by
    funext a; apply Fin.ext
    match a with
    | ⟨0, _⟩ => rfl
    | ⟨1, _⟩ => show k.val % 1024 = k.val; omega
  unfold G10
  rw [dif_pos (by rw [hp]; exact hN), hl, fold0_congr m c _ _ _ (by rw [Nat.zero_add]; exact hN) hp, ← outsAt0_sweep m c _ hN,
    outs_dz H ⟨t.val / 512, hN⟩]
  rw [show row (tile ⟨t.val / 512, hN⟩) ⟨t.val % 512, Nat.mod_lt _ (by decide)⟩ = t from Fin.ext (Nat.div_add_mod' _ _)]

theorem G11_at (k : Fin 1024) : G11 m c (ix2 0 k) = (I.dg k : EReal) := by
  have hN : 31 < cfg0.N := lt_of_lt_of_eq (by decide) N_0.symm
  rw [G11_last, ← outsAt0_sweep m c 31 hN]
  exact (last_sums H hN k).1

theorem G12_at (k : Fin 1024) : G12 m c (ix2 0 k) = (I.db k : EReal) := by
  have hN : 31 < cfg0.N := lt_of_lt_of_eq (by decide) N_0.symm
  rw [G12_last, ← outsAt0_sweep m c 31 hN]
  exact (last_sums H hN k).2.1

theorem G13_at (k : Fin 1024) : G13 m c (ix2 0 k) = (I.ds k : EReal) := by
  have hN : 31 < cfg0.N := lt_of_lt_of_eq (by decide) N_0.symm
  rw [G13_last, ← outsAt0_sweep m c 31 hN]
  exact (last_sums H hN k).2.2

end Cert.Kernel8Ideal.Gen

end
-- ==== Proof.Grad0.lean ====
module

public import proofs.«01_k».proof.Proof.Math
public import proofs.«01_k».proof.Proof.Gen.Reference8Ideal.Run
public import Idealize.ShloMosaic.Lib.Pipeline.Value
public import Idealize.ShloMosaic.Lib.Pipeline.ValueKit.Point

/-! # Layer 0: the reference: the reverse pass of the sub-layer, entry by entry

Each named array of the reference's run is one quantity of `In`; the reverse pass of the layer norm, which goes back
through its variance and its mean, is `lnb`. -/

@[expose] public section

noncomputable section

namespace Cert.Reference8Ideal.Value

open Idealize.ShloMosaic Idealize.ShloMosaic.TcCoe Idealize.SL.Sem Cert.Reference8Ideal Cert.Reference8Ideal.Gen Cert.Ffn

/-- The reference's argument arrays hold the real numbers of `I`. -/
abbrev HoldsIn (I : In) (V0 : Valuation τ sig (Elt Ideal)) : Prop :=
  Holds 0 I (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7))

variable {I : In} {V0 : Valuation τ sig (Elt Ideal)} (H : HoldsIn I V0)

include H

theorem z_at (t : Fin 16384) (k : Fin 1024) : res_main_v3 V0 (ix2 t k) = (I.z t k : EReal) := by
  unfold res_main_v3
  pointwise
  rw [H.r, H.bo, ← EReal.coe_add]; rfl

theorem mean_at (t : Fin 16384) : res_main_v7 V0 (ix2 t 0) = (mean (I.z t) : EReal) := by
  unfold res_main_v7
  pointwise
  simp only [z_at H, coe_sum, ofBits_1024, div_1024]
  rfl

theorem cen_at (t : Fin 16384) (k : Fin 1024) : res_main_v9 V0 (ix2 t k) = (cen (I.z t) k : EReal) := by
  unfold res_main_v9
  pointwise
  rw [z_at H, mean_at H, ← EReal.coe_sub]; rfl

theorem cen_at' (t : Fin 16384) (k : Fin 1024) : res_main_v18 V0 (ix2 t k) = (cen (I.z t) k : EReal) := by
  unfold res_main_v18
  pointwise
  rw [z_at H, mean_at H, ← EReal.coe_sub]; rfl

theorem vare_at (t : Fin 16384) : res_main_v20 V0 (ix2 t 0) = (vare (I.z t) : EReal) := by
  unfold res_main_v20
  pointwise
  simp only [cen_at H, ← EReal.coe_mul, coe_sum, ofBits_1024, ofBits_eps, div_1024, ← EReal.coe_add]
  rfl

theorem rstd_at (t : Fin 16384) : res_main_v21 V0 (ix2 t 0) = (rstd (I.z t) : EReal) := by
  unfold res_main_v21
  pointwise
  rw [vare_at H, rsqrt_pos (vare_pos _)]; rfl

theorem hat_at (t : Fin 16384) (k : Fin 1024) : res_main_v26 V0 (ix2 t k) = (hat (I.z t) k : EReal) := by
  unfold res_main_v26
  pointwise
  rw [cen_at' H, rstd_at H, ← EReal.coe_mul]; rfl

theorem g_at (k : Fin 1024) : res_main_v27 V0 (ix2 0 k) = (I.g k : EReal) := by
  unfold res_main_v27
  pointwise
  exact H.g k

theorem x_at (t : Fin 16384) (k : Fin 1024) : res_main_v32 V0 (ix2 t k) = (I.x t k : EReal) := by
  unfold res_main_v32
  pointwise
  rw [hat_at H, g_at H, H.b, ← EReal.coe_mul, ← EReal.coe_add]; rfl

theorem wg_at (k : Fin 1024) (f : Fin 2816) : res_main_v34 V0 (ix2 k f) = (I.wg k f : EReal) := by
  unfold res_main_v34
  pointwise
  exact H.wg k f

theorem wu_at (k : Fin 1024) (f : Fin 2816) : res_main_v38 V0 (ix2 k f) = (I.wu k f : EReal) := by
  unfold res_main_v38
  pointwise
  exact H.wu k f

theorem wd_at (f : Fin 2816) (k : Fin 1024) : res_main_v46 V0 (ix2 f k) = (I.wd f k : EReal) := by
  unfold res_main_v46
  pointwise
  exact H.wd f k

theorem gate_at (t : Fin 16384) (f : Fin 2816) : res_main_v36 V0 (ix2 t f) = (I.gate t f : EReal) := by
  unfold res_main_v36 res_main_v0
  pointwise
  simp only [x_at H, wg_at H, ← EReal.coe_mul, coe_sum, add_zero]
  rfl

theorem up_at (t : Fin 16384) (f : Fin 2816) : res_main_v40 V0 (ix2 t f) = (I.up t f : EReal) := by
  unfold res_main_v40 res_main_v0
  pointwise
  simp only [x_at H, wu_at H, ← EReal.coe_mul, coe_sum, add_zero]
  rfl

theorem sig_at (t : Fin 16384) (f : Fin 2816) : res_main_v43_2 V0 (ix2 t f) = (Cert.Ffn.sig (I.gate t f) : EReal) := by
  unfold res_main_v43_2
  pointwise
  rw [gate_at H, div_one_exp]; rfl

theorem silu_at (t : Fin 16384) (f : Fin 2816) : res_main_v43_0 V0 (ix2 t f) = (silu (I.gate t f) : EReal) := by
  unfold res_main_v43_0
  pointwise
  rw [gate_at H, sig_at H, ← EReal.coe_mul]; rfl

theorem dh_at (t : Fin 16384) (f : Fin 2816) : res_main_v51 V0 (ix2 t f) = (I.dh t f : EReal) := by
  unfold res_main_v51
  pointwise
  simp only [H.ct, wd_at H, ← EReal.coe_mul, coe_sum]
  rfl

theorem dup_at (t : Fin 16384) (f : Fin 2816) : res_main_v52 V0 (ix2 t f) = (I.dup t f : EReal) := by
  unfold res_main_v52
  pointwise
  rw [silu_at H, dh_at H, ← EReal.coe_mul, mul_comm]; rfl

theorem v53_at (t : Fin 16384) (f : Fin 2816) : res_main_v53 V0 (ix2 t f) = ((I.dh t f * I.up t f : ℝ) : EReal) := by
  unfold res_main_v53
  pointwise
  rw [up_at H, dh_at H, ← EReal.coe_mul]

theorem dgate_at (t : Fin 16384) (f : Fin 2816) : res_main_v54 V0 (ix2 t f) = (I.dgate t f : EReal) := by
  unfold res_main_v54
  pointwise
  rw [v53_at H, sig_at H, gate_at H, one_sub_coe]
  simp only [← EReal.coe_mul, ← EReal.coe_add]
  congr 1
  unfold In.dgate dsilu
  ring

theorem dx_at (t : Fin 16384) (k : Fin 1024) : res_main_v60 V0 (ix2 t k) = (I.dx t k : EReal) := by
  unfold res_main_v60
  pointwise
  simp only [H.ct, dup_at H, dgate_at H, wg_at H, wu_at H, ofBits_al, ← EReal.coe_mul, ← EReal.coe_add, coe_sum]
  rfl

theorem w_at (t : Fin 16384) (k : Fin 1024) : res_main_v68 V0 (ix2 t k) = ((I.dx t k * I.g k : ℝ) : EReal) := by
  unfold res_main_v68
  pointwise
  rw [dx_at H, g_at H, ← EReal.coe_mul]

theorem wr_at (t : Fin 16384) (k : Fin 1024) : res_main_v74 V0 (ix2 t k) = ((I.dx t k * I.g k * rstd (I.z t) : ℝ) : EReal) := by
  unfold res_main_v74
  pointwise
  rw [w_at H, rstd_at H, ← EReal.coe_mul]

theorem viaVar_at (t : Fin 16384) (k : Fin 1024) :
    res_main_v83 V0 (ix2 t k) = (viaVar (I.z t) (fun k => I.dx t k * I.g k) k : EReal) := by
  unfold res_main_v83
  pointwise
  simp only [cen_at H, cen_at' H, w_at H, rstd_at H, vare_at H, Cert.Ffn.div_pos (vare_pos _), ofBits_1024, ofBits_two, ofBits_neg_half,
    ← EReal.coe_mul, coe_sum, div_1024, Fin.sum_univ_one]
  rfl

/-- The residual's gradient as the run states it. -/
def dzIn (V0 : Valuation τ sig (Elt Ideal)) : (⟨S16384x1024, .f32⟩ : BufTy).Contents (Elt Ideal) :=
  addf (addf (res_main_v74 V0) (res_main_v83 V0)) (broadcastInDim S16384x1024 ![0] bcast_S16384_S16384x1024_0 (Host.reduceAdd (Host.divf (addf (shapeCast _ (Host.reduceAdd (Host.negf (res_main_v74 V0)) (constant S_ .f32 0x00000000#32) reducesTo_S16384x1024_S16384_d1 h_S_) shapeCasts_S16384_S16384x1) (shapeCast _ (Host.reduceAdd (Host.negf (res_main_v83 V0)) (constant S_ .f32 0x00000000#32) reducesTo_S16384x1024_S16384_d1 h_S_) shapeCasts_S16384_S16384x1)) (broadcastInDim S16384x1 ![] bcast_S_S16384x1 (constant S_ .f32 0x44800000#32))) (constant S_ .f32 0x00000000#32) reducesTo_S16384x1_S16384_d1 h_S_))

theorem dz_at (t : Fin 16384) (k : Fin 1024) : dzIn V0 (ix2 t k) = (I.dz t k : EReal) := by
  unfold dzIn
  pointwise
  simp only [wr_at H, viaVar_at H, ← EReal.coe_neg, ← EReal.coe_add, coe_sum, ofBits_1024, div_1024, Fin.sum_univ_one]
  congr 1
  exact lnb_of_reverse (I.z t) (fun k => I.dx t k * I.g k) k

/-- The first result: the gate's gradient, in chips. -/
theorem res0_at (j : Fin 4) (t : Fin 16384) (f : Fin 704) :
    (truncf .bf16 (transpose S4x16384x704 [1, 0, 2] (shapeCast _ (res_main_v54 V0) shapeCasts_S16384x2816_S16384x4x704) transposes_S16384x4x704_S4x16384x704_1_0_2) bitsLt_bf16_f32) (ix3 j t f)
      = (I.dgate t (col j f) : EReal) := by
  pointwise
  exact dgate_at H t (col j f)

/-- The second result: the up projection's gradient, in chips. -/
theorem res1_at (j : Fin 4) (t : Fin 16384) (f : Fin 704) :
    (truncf .bf16 (transpose S4x16384x704 [1, 0, 2] (shapeCast _ (res_main_v52 V0) shapeCasts_S16384x2816_S16384x4x704) transposes_S16384x4x704_S4x16384x704_1_0_2) bitsLt_bf16_f32) (ix3 j t f)
      = (I.dup t (col j f) : EReal) := by
  pointwise
  exact dup_at H t (col j f)

/-- The fourth result: the gain's gradient. -/
theorem res3_at (k : Fin 1024) :
    (shapeCast _ (Host.reduceAdd (shapeCast _ (Host.reduceAdd (mulf (res_main_v26 V0) (res_main_v60 V0)) (constant S_ .f32 0x00000000#32) reducesTo_S16384x1024_S1024_d0 h_S_) shapeCasts_S1024_S1x1024) (constant S_ .f32 0x00000000#32) reducesTo_S1x1024_S1024_d0 h_S_) shapeCasts_S1024_S1x1024 : FVec Ideal S1x1024 .f32) (ix2 0 k)
      = (I.dg k : EReal) := by
  pointwise
  simp only [hat_at H, dx_at H, ← EReal.coe_mul, coe_sum, Fin.sum_univ_one]
  exact congrArg _ (Finset.sum_congr rfl fun t _ => mul_comm _ _)

/-- The fifth result: the norm bias's gradient. -/
theorem res4_at (k : Fin 1024) :
    (shapeCast _ (Host.reduceAdd (shapeCast _ (Host.reduceAdd (res_main_v60 V0) (constant S_ .f32 0x00000000#32) reducesTo_S16384x1024_S1024_d0 h_S_) shapeCasts_S1024_S1x1024) (constant S_ .f32 0x00000000#32) reducesTo_S1x1024_S1024_d0 h_S_) shapeCasts_S1024_S1x1024 : FVec Ideal S1x1024 .f32) (ix2 0 k)
      = (I.db k : EReal) := by
  pointwise
  simp only [dx_at H, ← EReal.coe_mul, coe_sum, Fin.sum_univ_one]
  rfl

/-- The sixth result: the gradient of the bias before the sub-layer. -/
theorem res5_at (k : Fin 1024) :
    (shapeCast _ (Host.reduceAdd (shapeCast _ (Host.reduceAdd (dzIn V0) (constant S_ .f32 0x00000000#32) reducesTo_S16384x1024_S1024_d0 h_S_) shapeCasts_S1024_S1x1024) (constant S_ .f32 0x00000000#32) reducesTo_S1x1024_S1024_d0 h_S_) shapeCasts_S1024_S1x1024 : FVec Ideal S1x1024 .f32) (ix2 0 k)
      = (I.ds k : EReal) := by
  pointwise
  simp only [dz_at H, ← EReal.coe_mul, coe_sum, Fin.sum_univ_one]
  rfl

end Cert.Reference8Ideal.Value

end
-- ==== Proof.Finite0.lean ====
module

public import proofs.«01_k».proof.Defs
public import proofs.«01_k».proof.Proof.Host0
public import proofs.«01_k».proof.Proof.Bounded

/-! # Layer 0: the precondition: finite arguments are real numbers -/

@[expose] public section

noncomputable section

namespace Cert.Ffn

open Idealize.ShloMosaic Idealize.ShloMosaic.TcCoe Idealize.SL.Sem

/-- Under the precondition the kernel's arguments hold real numbers. -/
theorem holds_of_pre0 (m : (ℓ : Loc Kernel8Ideal.nD Kernel8Ideal.τ Kernel8Ideal.sig) → Buf (Elt Ideal) ℓ)
    (h : Cert.Pre_Kernel8Ideal_finite (hPre_finite := Pre_finite.shapes) m) (c : Dev Kernel8Ideal.nD) :
    ∃ I, Kernel8Ideal.Gen.HoldsAt I m c := by
  obtain ⟨h0, h1, h2, h3, h4, h5, h6, h7⟩ := h c
  exact exists_holds 0 _ _ _ _ _ _ _ _ (fun i => ne_of_olt _ (congrFun h0 i)) (fun i => ne_of_olt _ (congrFun h1 i))
    (fun i => ne_of_olt _ (congrFun h2 i)) (fun i => ne_of_olt _ (congrFun h3 i)) (fun i => ne_of_olt _ (congrFun h4 i))
    (fun i => ne_of_olt _ (congrFun h5 i)) (fun i => ne_of_olt _ (congrFun h6 i)) (fun i => ne_of_olt _ (congrFun h7 i))

end Cert.Ffn

end
-- ==== Proof.Equation0.lean ====
module

public import proofs.«01_k».proof.Proof.Arrays0
public import proofs.«01_k».proof.Proof.Grad0
public import proofs.«01_k».proof.Proof.Finite0

/-! # Layer 0: the equation: each result of the kernel is the reference's -/

@[expose] public section

noncomputable section

namespace Cert.Proof

open Idealize.ShloMosaic Idealize.ShloMosaic.TcCoe Idealize.ShloMosaic.StableHlo Idealize.SL.Sem Cert.Ffn Cert.Kernel8Ideal.Gen

theorem algebraic8 : Cert.algebraic_Kernel8Ideal_Reference8Ideal_pre_finite (hKernel8Ideal := Cert.Kernel8Ideal.Gen.facts)
    (hReference8Ideal := Cert.Reference8Ideal.Gen.facts) (hPre_finite := Cert.Pre_finite.shapes) := by
  intro m g m' g' hpre hargs
  refine ⟨fun c => Kernel8Ideal.Value.G8 m c, fun c => Kernel8Ideal.Value.G9 m c, fun c => Kernel8Ideal.Value.G10 m c,
    fun c => Kernel8Ideal.Value.G11 m c, fun c => Kernel8Ideal.Value.G12 m c, fun c => Kernel8Ideal.Value.G13 m c,
    Kernel8Ideal.Value.run m g, ?_⟩
  refine (θ_run _ _ _).mono (fun r h c => ?_) (Reference8Ideal.Value.run m' g')
  obtain ⟨h0, h1, h2, h3, h4, h5, ha⟩ := h c
  obtain ⟨I, H⟩ := holds_of_pre0 m hpre c
  obtain ⟨a0, a1, a2, a3, a4, a5, a6, a7⟩ := hargs c
  have H' : Reference8Ideal.Value.HoldsIn I (launchContents m' c) := by
    show Holds 0 I
      (m' ((c.tc : Thread Reference8Ideal.nD Reference8Ideal.τ).loc Reference8Ideal.main_arg0))
      (m' ((c.tc : Thread Reference8Ideal.nD Reference8Ideal.τ).loc Reference8Ideal.main_arg1))
      (m' ((c.tc : Thread Reference8Ideal.nD Reference8Ideal.τ).loc Reference8Ideal.main_arg2))
      (m' ((c.tc : Thread Reference8Ideal.nD Reference8Ideal.τ).loc Reference8Ideal.main_arg3))
      (m' ((c.tc : Thread Reference8Ideal.nD Reference8Ideal.τ).loc Reference8Ideal.main_arg4))
      (m' ((c.tc : Thread Reference8Ideal.nD Reference8Ideal.τ).loc Reference8Ideal.main_arg5))
      (m' ((c.tc : Thread Reference8Ideal.nD Reference8Ideal.τ).loc Reference8Ideal.main_arg6))
      (m' ((c.tc : Thread Reference8Ideal.nD Reference8Ideal.τ).loc Reference8Ideal.main_arg7))
    rw [a0, a1, a2, a3, a4, a5, a6, a7]
    exact H
  refine ⟨h0.trans ?_, h1.trans ?_, h2.trans ?_, h3.trans ?_, h4.trans ?_, h5.trans ?_, ha⟩
  · funext i
    rw [← ix3_eta i]
    exact (Reference8Ideal.Value.res0_at H' _ _ _).trans (G8_at H _ _ _).symm
  · funext i
    rw [← ix3_eta i]
    exact (Reference8Ideal.Value.res1_at H' _ _ _).trans (G9_at H _ _ _).symm
  · funext i
    rw [← ix2_eta i]
    exact (Reference8Ideal.Value.dz_at H' _ _).trans (G10_at H _ _).symm
  · funext i
    rw [row_eta i]
    exact (Reference8Ideal.Value.res3_at H' _).trans (G11_at H _).symm
  · funext i
    rw [row_eta i]
    exact (Reference8Ideal.Value.res4_at H' _).trans (G12_at H _).symm
  · funext i
    rw [row_eta i]
    exact (Reference8Ideal.Value.res5_at H' _).trans (G13_at H _).symm

end Cert.Proof

end
-- ==== Proof.Forward.lean ====
module

public import proofs.«01_k».proof.Proof.Math
public import Idealize.ShloMosaic.Lib.Pipeline.ValueKit.Point
public import Idealize.ShloMosaic.Lib.IdealHost
public import Idealize.ShloMosaic.PureOps.Ideal.Laws

/-! # The feed-forward sub-layer's forward pass, over the extended reals

`In` holds the arrays of the sub-layer, infinite entries allowed, and names each quantity of its forward pass. -/

@[expose] public section

noncomputable section

namespace Cert.Fwd

open Idealize.ShloMosaic Cert.Ffn

/-- The logistic function. -/
def lgs (a : EReal) : EReal := Ideal.div 1 (1 + Ideal.exp (-a))

/-- The slope of the gated activation, as the kernel writes it. -/
def slope (a : EReal) : EReal := lgs a * (1 + a * (1 - lgs a))

/-- The slope as the product rule gives it: equal at every extended real. -/
theorem slope_eq (a : EReal) : lgs a + a * (lgs a * (1 - lgs a)) = slope a := by
  induction a using EReal.rec with
  | bot =>
    have h : lgs ⊥ = 0 := Ideal.logistic_bot
    simp [slope, h]
  | top =>
    have h : lgs ⊤ = 1 := Ideal.logistic_top
    have h1 : (1 : EReal) - 1 = 0 := by rw [← EReal.coe_one, ← EReal.coe_sub, sub_self, EReal.coe_zero]
    simp [slope, h, h1]
  | coe a =>
    have h : lgs (a : EReal) = (((1 + Real.exp (-a))⁻¹ : ℝ) : EReal) := Ideal.logistic_coe _
    simp only [slope, h, ← EReal.coe_one, ← EReal.coe_sub, ← EReal.coe_mul, ← EReal.coe_add]
    congr 1
    ring

/-- The mean of a row. -/
def mean (z : Fin 1024 → EReal) : EReal := Ideal.div (∑ k, z k) (Ideal.ofBits .f32 0x44800000#32)

/-- The normalised row. -/
def hat (z : Fin 1024 → EReal) (k : Fin 1024) : EReal :=
  (z k - mean z) * Ideal.rsqrt (mean (fun k => (z k - mean z) * (z k - mean z)) + Ideal.ofBits .f32 0x3727C5AC#32)

/-- The sum over all columns is the sum of the four chips' sums, added in order. -/
theorem sum_chips (f : Fin 2816 → EReal) :
    ∑ i : Fin 704, f (col 0 i) + ∑ i : Fin 704, f (col 1 i) + ∑ i : Fin 704, f (col 2 i) + ∑ i : Fin 704, f (col 3 i) = ∑ i, f i := by
  rw [← (finProdFinEquiv (m := 4) (n := 704)).sum_comp f, Fintype.sum_prod_type, Fin.sum_univ_four]
  have e : ∀ j : Fin 4, ∑ k : Fin 704, f (finProdFinEquiv (j, k)) = ∑ k : Fin 704, f (col j k) := fun j =>
    Finset.sum_congr rfl fun k _ => congrArg f (Fin.ext (by simp [finProdFinEquiv, col]; omega))
  simp only [e]

/-- The sub-layer's six arrays: its input, the three weights, the norm's gain and bias. -/
structure In where
  x : Fin 16384 → Fin 1024 → EReal
  wg : Fin 1024 → Fin 2816 → EReal
  wu : Fin 1024 → Fin 2816 → EReal
  wd : Fin 2816 → Fin 1024 → EReal
  g : Fin 1024 → EReal
  b : Fin 1024 → EReal

namespace In

variable (I : In)

def gate (t : Fin 16384) (f : Fin 2816) : EReal := ∑ k, I.x t k * I.wg k f
def up (t : Fin 16384) (f : Fin 2816) : EReal := ∑ k, I.x t k * I.wu k f
def act (t : Fin 16384) (f : Fin 2816) : EReal := I.gate t f * lgs (I.gate t f)
def bm (t : Fin 16384) (f : Fin 2816) : EReal := I.up t f * slope (I.gate t f)
def hid (t : Fin 16384) (f : Fin 2816) : EReal := I.act t f * I.up t f
def z (t : Fin 16384) (k : Fin 1024) : EReal :=
  Ideal.ofBits .f32 0x3FB504F3#32 * I.x t k + ∑ f, I.hid t f * I.wd f k
def y (t : Fin 16384) (k : Fin 1024) : EReal := hat (I.z t) k * I.g k + I.b k

end In

end Cert.Fwd

end
-- ==== Proof.Fwd0.lean ====
module

public import proofs.«01_k».proof.Defs
public import proofs.«01_k».proof.Proof.Forward
public import proofs.«01_k».proof.Proof.Gen.Kernel9Ideal
public import proofs.«01_k».proof.Proof.Gen.Kernel9Ideal.Frame
public import proofs.«01_k».proof.Proof.Gen.Kernel9Ideal.Value
public import Idealize.ShloMosaic.Lib.Pipeline.Value
public import Idealize.ShloMosaic.Lib.Pipeline.ValueKit
public import Idealize.ShloMosaic.Lib.Pipeline.ValueKit.Point
public import Idealize.ShloMosaic.Lib.IdealHost

/-! # The first layer's forward feed-forward kernel: its five result arrays, entry by entry

One tile of 512 rows holds the input rows and all four chips' slabs of the weights. The tile's outputs are the entries of the forward
pass `Cert.Fwd.In` at the tile's rows, for any inputs. -/

@[expose] public section

noncomputable section

namespace Cert.Kernel9Ideal.Gen

open Idealize.ShloMosaic Idealize.ShloMosaic.TcCoe Idealize.SL.Sem Cert.Fwd Cert.Kernel9Ideal.Value
open Cert.Ffn (row col)

/-- Chip 0's slabs of the weights, as loaded. -/
theorem cols0_at (x : Vec Ideal S4x1x1024x704 .bf16) (k : Fin 1024) (f : Fin 704) :
    (View.ld x r0_1 : Vec Ideal S1x1x1024x704 .bf16) (ix4 0 0 k f) = x (ix4 0 0 k f) :=
  View.ld_unit_apply_of x _ _ _ _ _ (fun a => by fin_cases a <;> simp [ix4])
theorem rows0_at (x : Vec Ideal S4x1x704x1024 .bf16) (f : Fin 704) (k : Fin 1024) :
    (View.ld x r0_3 : Vec Ideal S1x1x704x1024 .bf16) (ix4 0 0 f k) = x (ix4 0 0 f k) :=
  View.ld_unit_apply_of x _ _ _ _ _ (fun a => by fin_cases a <;> simp [ix4])

/-- Chip 1's slabs of the weights, as loaded. -/
theorem cols1_at (x : Vec Ideal S4x1x1024x704 .bf16) (k : Fin 1024) (f : Fin 704) :
    (View.ld x r0_4 : Vec Ideal S1x1x1024x704 .bf16) (ix4 0 0 k f) = x (ix4 1 0 k f) :=
  View.ld_unit_apply_of x _ _ _ _ _ (fun a => by fin_cases a <;> simp [ix4])
theorem rows1_at (x : Vec Ideal S4x1x704x1024 .bf16) (f : Fin 704) (k : Fin 1024) :
    (View.ld x r0_6 : Vec Ideal S1x1x704x1024 .bf16) (ix4 0 0 f k) = x (ix4 1 0 f k) :=
  View.ld_unit_apply_of x _ _ _ _ _ (fun a => by fin_cases a <;> simp [ix4])

/-- Chip 2's slabs of the weights, as loaded. -/
theorem cols2_at (x : Vec Ideal S4x1x1024x704 .bf16) (k : Fin 1024) (f : Fin 704) :
    (View.ld x r0_7 : Vec Ideal S1x1x1024x704 .bf16) (ix4 0 0 k f) = x (ix4 2 0 k f) :=
  View.ld_unit_apply_of x _ _ _ _ _ (fun a => by fin_cases a <;> simp [ix4])
theorem rows2_at (x : Vec Ideal S4x1x704x1024 .bf16) (f : Fin 704) (k : Fin 1024) :
    (View.ld x r0_9 : Vec Ideal S1x1x704x1024 .bf16) (ix4 0 0 f k) = x (ix4 2 0 f k) :=
  View.ld_unit_apply_of x _ _ _ _ _ (fun a => by fin_cases a <;> simp [ix4])

/-- Chip 3's slabs of the weights, as loaded. -/
theorem cols3_at (x : Vec Ideal S4x1x1024x704 .bf16) (k : Fin 1024) (f : Fin 704) :
    (View.ld x r0_10 : Vec Ideal S1x1x1024x704 .bf16) (ix4 0 0 k f) = x (ix4 3 0 k f) :=
  View.ld_unit_apply_of x _ _ _ _ _ (fun a => by fin_cases a <;> simp [ix4])
theorem rows3_at (x : Vec Ideal S4x1x704x1024 .bf16) (f : Fin 704) (k : Fin 1024) :
    (View.ld x r0_12 : Vec Ideal S1x1x704x1024 .bf16) (ix4 0 0 f k) = x (ix4 3 0 f k) :=
  View.ld_unit_apply_of x _ _ _ _ _ (fun a => by fin_cases a <;> simp [ix4])

/-- The tile number of a point of the grid. -/
def tile (t : Fin cfg0.N) : Fin 32 := ⟨t.val, lt_of_lt_of_eq t.isLt N_0⟩

theorem idx0_0 : ∀ t : Fin cfg0.N, win0_0.index t = ![t.val, 0] := by decide +kernel
theorem idx0_1 : ∀ t : Fin cfg0.N, win0_1.index t = ![0, 0, 0, 0] := by decide +kernel
theorem idx0_2 : ∀ t : Fin cfg0.N, win0_2.index t = ![0, 0, 0, 0] := by decide +kernel
theorem idx0_3 : ∀ t : Fin cfg0.N, win0_3.index t = ![0, 0, 0, 0] := by decide +kernel
theorem idx0_4 : ∀ t : Fin cfg0.N, win0_4.index t = ![0, 0] := by decide +kernel
theorem idx0_5 : ∀ t : Fin cfg0.N, win0_5.index t = ![0, 0] := by decide +kernel

theorem idx0_6 : ∀ t : Fin cfg0.N, win0_6.index t = ![0, t.val, 0] := by decide +kernel
theorem idx0_7 : ∀ t : Fin cfg0.N, win0_7.index t = ![0, t.val, 0] := by decide +kernel
theorem idx0_8 : ∀ t : Fin cfg0.N, win0_8.index t = ![0, t.val, 0] := by decide +kernel
theorem idx0_9 : ∀ t : Fin cfg0.N, win0_9.index t = ![t.val, 0] := by decide +kernel
theorem idx0_10 : ∀ t : Fin cfg0.N, win0_10.index t = ![t.val, 0] := by decide +kernel

theorem hz2 : (![0, 0] : Fin 2 → Nat) = fun _ => 0 := funext fun a => by fin_cases a <;> rfl

variable (m : (ℓ : Loc nD τ sig) → Buf (Elt Ideal) ℓ) (c : Dev nD)

/-- The kernel's arguments. -/
def inp : In where
  x t k := (m (c, Proc.tc.devRef main_arg0) : Vec Ideal S16384x1024 .f32) (ix2 t k)
  wg k f := (m (c, Proc.tc.devRef main_arg1) : Vec Ideal S2x1024x2816 .f32) (ix3 0 k f)
  wu k f := (m (c, Proc.tc.devRef main_arg2) : Vec Ideal S2x1024x2816 .f32) (ix3 0 k f)
  wd f k := (m (c, Proc.tc.devRef main_arg3) : Vec Ideal S2x2816x1024 .f32) (ix3 0 f k)
  g k := (m (c, Proc.tc.devRef main_arg4) : Vec Ideal S1024 .f32) (ix1 k)
  b k := (m (c, Proc.tc.devRef main_arg5) : Vec Ideal S1024 .f32) (ix1 k)

/-! ## The host code's arrays and the blocks of a tile -/

theorem V_wg (j : Fin 4) (k : Fin 1024) (f : Fin 704) : (V m c main_v2 : Vec Ideal S4x2x1024x704 .bf16) (ix4 j 0 k f) = (inp m c).wg k (col j f) := by
  entry_read
  pointwise
  rfl

theorem V_wu (j : Fin 4) (k : Fin 1024) (f : Fin 704) : (V m c main_v5 : Vec Ideal S4x2x1024x704 .bf16) (ix4 j 0 k f) = (inp m c).wu k (col j f) := by
  entry_read
  pointwise
  rfl

theorem V_wd (j : Fin 4) (f : Fin 704) (k : Fin 1024) : (V m c main_v8 : Vec Ideal S4x2x704x1024 .bf16) (ix4 j 0 f k) = (inp m c).wd (col j f) k := by
  entry_read
  pointwise
  rfl

theorem V_g (k : Fin 1024) : (V m c main_v9 : Vec Ideal S1x1024 .f32) (ix2 0 k) = (inp m c).g k := by
  entry_read
  pointwise
  rfl

theorem V_b (k : Fin 1024) : (V m c main_v10 : Vec Ideal S1x1024 .f32) (ix2 0 k) = (inp m c).b k := by
  entry_read
  pointwise
  rfl

variable (t : Fin cfg0.N)

theorem blk_x (r : Fin 512) (k : Fin 1024) : (iblk m c 0 t : Vec Ideal S512x1024 .f32) (ix2 r k) = (inp m c).x (row (tile t) r) k := by
  unfold inp
  dsimp only
  blk_ext! [iblk, V, idx0_0 t, tile, row]

theorem blk_wg (j : Fin 4) (k : Fin 1024) (f : Fin 704) : (iblk m c 1 t : Vec Ideal S4x1x1024x704 .bf16) (ix4 j 0 k f) = (inp m c).wg k (col j f) := by
  rw [← V_wg]
  unfold iblk
  generalize V m c main_v2 = X
  blk_ext! [idx0_1 t]

theorem blk_wu (j : Fin 4) (k : Fin 1024) (f : Fin 704) : (iblk m c 2 t : Vec Ideal S4x1x1024x704 .bf16) (ix4 j 0 k f) = (inp m c).wu k (col j f) := by
  rw [← V_wu]
  unfold iblk
  generalize V m c main_v5 = X
  blk_ext! [idx0_2 t]

theorem blk_wd (j : Fin 4) (f : Fin 704) (k : Fin 1024) : (iblk m c 3 t : Vec Ideal S4x1x704x1024 .bf16) (ix4 j 0 f k) = (inp m c).wd (col j f) k := by
  rw [← V_wd]
  unfold iblk
  generalize V m c main_v8 = X
  blk_ext! [idx0_3 t]

theorem blk_g (k : Fin 1024) : (iblk m c 4 t : Vec Ideal S1x1024 .f32) (ix2 0 k) = (inp m c).g k := by
  rw [← V_g]
  unfold iblk
  generalize V m c main_v9 = X
  blk_ext! [idx0_4 t]

theorem blk_b (k : Fin 1024) : (iblk m c 5 t : Vec Ideal S1x1024 .f32) (ix2 0 k) = (inp m c).b k := by
  rw [← V_b]
  unfold iblk
  generalize V m c main_v10 = X
  blk_ext! [idx0_5 t]

/-! ## The body's expressions at those blocks, chip by chip -/

section

variable {I : In} {R : Fin 16384} {r : Fin 512} {X : Vec Ideal S512x1024 .f32} {j : Fin 4} {G U : Vec Ideal S1x1x1024x704 .bf16}
  {D : Vec Ideal S1x1x704x1024 .bf16}

theorem gate0 (hX : ∀ k, X (ix2 r k) = I.x R k) (hG : ∀ k f, G (ix4 0 0 k f) = I.wg k (col j f)) (f : Fin 704) : k0_pay3 (F := Ideal) X G (ix2 r f) = I.gate R (col j f) := by
  pointwise [k0_pay1, k0_pay3]
  simp only [hX, hG]
  rfl
theorem up0 (hX : ∀ k, X (ix2 r k) = I.x R k) (hU : ∀ k f, U (ix4 0 0 k f) = I.wu k (col j f)) (f : Fin 704) : k0_pay4 (F := Ideal) X U (ix2 r f) = I.up R (col j f) := by
  pointwise [k0_pay1, k0_pay4]
  simp only [hX, hU]
  rfl
theorem act0 (hX : ∀ k, X (ix2 r k) = I.x R k) (hG : ∀ k f, G (ix4 0 0 k f) = I.wg k (col j f)) (f : Fin 704) : k0_pay7 (F := Ideal) X G (ix3 0 r f) = I.act R (col j f) := by
  pointwise [k0_pay7, k0_pay6, k0_pay5]
  rw [gate0 hX hG]
  rfl
theorem bm0 (hX : ∀ k, X (ix2 r k) = I.x R k) (hG : ∀ k f, G (ix4 0 0 k f) = I.wg k (col j f)) (hU : ∀ k f, U (ix4 0 0 k f) = I.wu k (col j f)) (f : Fin 704) : k0_pay8 (F := Ideal) X G U (ix3 0 r f) = I.bm R (col j f) := by
  pointwise [k0_pay8, k0_pay5]
  rw [gate0 hX hG, up0 hX hU]
  rfl
theorem hid0 (hX : ∀ k, X (ix2 r k) = I.x R k) (hG : ∀ k f, G (ix4 0 0 k f) = I.wg k (col j f)) (hU : ∀ k f, U (ix4 0 0 k f) = I.wu k (col j f)) (f : Fin 704) : k0_pay9 (F := Ideal) X G U (ix2 r f) = I.hid R (col j f) := by
  pointwise [k0_pay9, k0_pay6, k0_pay5]
  rw [gate0 hX hG, up0 hX hU]
  rfl
theorem hm0 (hX : ∀ k, X (ix2 r k) = I.x R k) (hG : ∀ k f, G (ix4 0 0 k f) = I.wg k (col j f)) (hU : ∀ k f, U (ix4 0 0 k f) = I.wu k (col j f)) (f : Fin 704) : k0_pay10 (F := Ideal) X G U (ix3 0 r f) = I.hid R (col j f) := by
  rw [← hid0 hX hG hU]
  pointwise [k0_pay10]

theorem gate1 (hX : ∀ k, X (ix2 r k) = I.x R k) (hG : ∀ k f, G (ix4 0 0 k f) = I.wg k (col j f)) (f : Fin 704) : k0_pay12 (F := Ideal) (k0_pay1 X) G (ix2 r f) = I.gate R (col j f) := by
  pointwise [k0_pay1, k0_pay12]
  simp only [hX, hG]
  rfl
theorem up1 (hX : ∀ k, X (ix2 r k) = I.x R k) (hU : ∀ k f, U (ix4 0 0 k f) = I.wu k (col j f)) (f : Fin 704) : k0_pay13 (F := Ideal) (k0_pay1 X) U (ix2 r f) = I.up R (col j f) := by
  pointwise [k0_pay1, k0_pay13]
  simp only [hX, hU]
  rfl
theorem act1 (hX : ∀ k, X (ix2 r k) = I.x R k) (hG : ∀ k f, G (ix4 0 0 k f) = I.wg k (col j f)) (f : Fin 704) : k0_pay16 (F := Ideal) (k0_pay1 X) G (ix3 0 r f) = I.act R (col j f) := by
  pointwise [k0_pay16, k0_pay15, k0_pay14]
  rw [gate1 hX hG]
  rfl
theorem bm1 (hX : ∀ k, X (ix2 r k) = I.x R k) (hG : ∀ k f, G (ix4 0 0 k f) = I.wg k (col j f)) (hU : ∀ k f, U (ix4 0 0 k f) = I.wu k (col j f)) (f : Fin 704) : k0_pay17 (F := Ideal) (k0_pay1 X) G U (ix3 0 r f) = I.bm R (col j f) := by
  pointwise [k0_pay17, k0_pay14]
  rw [gate1 hX hG, up1 hX hU]
  rfl
theorem hid1 (hX : ∀ k, X (ix2 r k) = I.x R k) (hG : ∀ k f, G (ix4 0 0 k f) = I.wg k (col j f)) (hU : ∀ k f, U (ix4 0 0 k f) = I.wu k (col j f)) (f : Fin 704) : k0_pay18 (F := Ideal) (k0_pay1 X) G U (ix2 r f) = I.hid R (col j f) := by
  pointwise [k0_pay18, k0_pay15, k0_pay14]
  rw [gate1 hX hG, up1 hX hU]
  rfl
theorem hm1 (hX : ∀ k, X (ix2 r k) = I.x R k) (hG : ∀ k f, G (ix4 0 0 k f) = I.wg k (col j f)) (hU : ∀ k f, U (ix4 0 0 k f) = I.wu k (col j f)) (f : Fin 704) : k0_pay19 (F := Ideal) (k0_pay1 X) G U (ix3 0 r f) = I.hid R (col j f) := by
  rw [← hid1 hX hG hU]
  pointwise [k0_pay19]

theorem gate2 (hX : ∀ k, X (ix2 r k) = I.x R k) (hG : ∀ k f, G (ix4 0 0 k f) = I.wg k (col j f)) (f : Fin 704) : k0_pay21 (F := Ideal) (k0_pay1 X) G (ix2 r f) = I.gate R (col j f) := by
  pointwise [k0_pay1, k0_pay21]
  simp only [hX, hG]
  rfl
theorem up2 (hX : ∀ k, X (ix2 r k) = I.x R k) (hU : ∀ k f, U (ix4 0 0 k f) = I.wu k (col j f)) (f : Fin 704) : k0_pay22 (F := Ideal) (k0_pay1 X) U (ix2 r f) = I.up R (col j f) := by
  pointwise [k0_pay1, k0_pay22]
  simp only [hX, hU]
  rfl
theorem act2 (hX : ∀ k, X (ix2 r k) = I.x R k) (hG : ∀ k f, G (ix4 0 0 k f) = I.wg k (col j f)) (f : Fin 704) : k0_pay25 (F := Ideal) (k0_pay1 X) G (ix3 0 r f) = I.act R (col j f) := by
  pointwise [k0_pay25, k0_pay24, k0_pay23]
  rw [gate2 hX hG]
  rfl
theorem bm2 (hX : ∀ k, X (ix2 r k) = I.x R k) (hG : ∀ k f, G (ix4 0 0 k f) = I.wg k (col j f)) (hU : ∀ k f, U (ix4 0 0 k f) = I.wu k (col j f)) (f : Fin 704) : k0_pay26 (F := Ideal) (k0_pay1 X) G U (ix3 0 r f) = I.bm R (col j f) := by
  pointwise [k0_pay26, k0_pay23]
  rw [gate2 hX hG, up2 hX hU]
  rfl
theorem hid2 (hX : ∀ k, X (ix2 r k) = I.x R k) (hG : ∀ k f, G (ix4 0 0 k f) = I.wg k (col j f)) (hU : ∀ k f, U (ix4 0 0 k f) = I.wu k (col j f)) (f : Fin 704) : k0_pay27 (F := Ideal) (k0_pay1 X) G U (ix2 r f) = I.hid R (col j f) := by
  pointwise [k0_pay27, k0_pay24, k0_pay23]
  rw [gate2 hX hG, up2 hX hU]
  rfl
theorem hm2 (hX : ∀ k, X (ix2 r k) = I.x R k) (hG : ∀ k f, G (ix4 0 0 k f) = I.wg k (col j f)) (hU : ∀ k f, U (ix4 0 0 k f) = I.wu k (col j f)) (f : Fin 704) : k0_pay28 (F := Ideal) (k0_pay1 X) G U (ix3 0 r f) = I.hid R (col j f) := by
  rw [← hid2 hX hG hU]
  pointwise [k0_pay28]

theorem gate3 (hX : ∀ k, X (ix2 r k) = I.x R k) (hG : ∀ k f, G (ix4 0 0 k f) = I.wg k (col j f)) (f : Fin 704) : k0_pay30 (F := Ideal) (k0_pay1 X) G (ix2 r f) = I.gate R (col j f) := by
  pointwise [k0_pay1, k0_pay30]
  simp only [hX, hG]
  rfl
theorem up3 (hX : ∀ k, X (ix2 r k) = I.x R k) (hU : ∀ k f, U (ix4 0 0 k f) = I.wu k (col j f)) (f : Fin 704) : k0_pay31 (F := Ideal) (k0_pay1 X) U (ix2 r f) = I.up R (col j f) := by
  pointwise [k0_pay1, k0_pay31]
  simp only [hX, hU]
  rfl
theorem act3 (hX : ∀ k, X (ix2 r k) = I.x R k) (hG : ∀ k f, G (ix4 0 0 k f) = I.wg k (col j f)) (f : Fin 704) : k0_pay34 (F := Ideal) (k0_pay1 X) G (ix3 0 r f) = I.act R (col j f) := by
  pointwise [k0_pay34, k0_pay33, k0_pay32]
  rw [gate3 hX hG]
  rfl
theorem bm3 (hX : ∀ k, X (ix2 r k) = I.x R k) (hG : ∀ k f, G (ix4 0 0 k f) = I.wg k (col j f)) (hU : ∀ k f, U (ix4 0 0 k f) = I.wu k (col j f)) (f : Fin 704) : k0_pay35 (F := Ideal) (k0_pay1 X) G U (ix3 0 r f) = I.bm R (col j f) := by
  pointwise [k0_pay35, k0_pay32]
  rw [gate3 hX hG, up3 hX hU]
  rfl
theorem hid3 (hX : ∀ k, X (ix2 r k) = I.x R k) (hG : ∀ k f, G (ix4 0 0 k f) = I.wg k (col j f)) (hU : ∀ k f, U (ix4 0 0 k f) = I.wu k (col j f)) (f : Fin 704) : k0_pay36 (F := Ideal) (k0_pay1 X) G U (ix2 r f) = I.hid R (col j f) := by
  pointwise [k0_pay36, k0_pay33, k0_pay32]
  rw [gate3 hX hG, up3 hX hU]
  rfl
theorem hm3 (hX : ∀ k, X (ix2 r k) = I.x R k) (hG : ∀ k f, G (ix4 0 0 k f) = I.wg k (col j f)) (hU : ∀ k f, U (ix4 0 0 k f) = I.wu k (col j f)) (f : Fin 704) : k0_pay37 (F := Ideal) (k0_pay36 (k0_pay1 X) G U) (ix3 0 r f) = I.hid R (col j f) := by
  rw [← hid3 hX hG hU]
  pointwise [k0_pay37]

/-- The residual sum of the sub-layer: the chips' products, added in order. -/
theorem zV_at (hX : ∀ k, X (ix2 r k) = I.x R k) {G0 G1 G2 G3 U0 U1 U2 U3 : Vec Ideal S1x1x1024x704 .bf16} {D0 D1 D2 D3 : Vec Ideal S1x1x704x1024 .bf16}
    (hG0 : ∀ k f, G0 (ix4 0 0 k f) = I.wg k (col 0 f)) (hU0 : ∀ k f, U0 (ix4 0 0 k f) = I.wu k (col 0 f))
    (hD0 : ∀ f k, D0 (ix4 0 0 f k) = I.wd (col 0 f) k)
    (hG1 : ∀ k f, G1 (ix4 0 0 k f) = I.wg k (col 1 f)) (hU1 : ∀ k f, U1 (ix4 0 0 k f) = I.wu k (col 1 f))
    (hD1 : ∀ f k, D1 (ix4 0 0 f k) = I.wd (col 1 f) k)
    (hG2 : ∀ k f, G2 (ix4 0 0 k f) = I.wg k (col 2 f)) (hU2 : ∀ k f, U2 (ix4 0 0 k f) = I.wu k (col 2 f))
    (hD2 : ∀ f k, D2 (ix4 0 0 f k) = I.wd (col 2 f) k)
    (hG3 : ∀ k f, G3 (ix4 0 0 k f) = I.wg k (col 3 f)) (hU3 : ∀ k f, U3 (ix4 0 0 k f) = I.wu k (col 3 f))
    (hD3 : ∀ f k, D3 (ix4 0 0 f k) = I.wd (col 3 f) k)
    (k : Fin 1024) :
    k0_pay38 X (k0_pay29 (k0_pay20 (k0_pay11 (k0_pay2 (F := Ideal)) (k0_pay9 X G0 U0) D0) (k0_pay18 (k0_pay1 X) G1 U1) D1) (k0_pay27 (k0_pay1 X) G2 U2) D2) (k0_pay36 (k0_pay1 X) G3 U3) D3 (ix2 r k) = I.z R k := by
  pointwise [k0_pay38, k0_pay29, k0_pay20, k0_pay11, k0_pay2]
  simp only [hX, hid0 hX hG0 hU0, hid1 hX hG1 hU1, hid2 hX hG2 hU2, hid3 hX hG3 hU3, hD0, hD1, hD2, hD3]
  unfold In.z
  rw [← sum_chips]

/-- The layer norm of a row of the residual sum. -/
theorem yV_at {A : Vec Ideal S512x1024 .f32} {B : Vec Ideal S512x704 .bf16} {g b : Vec Ideal S1x1024 .f32}
    (hz : ∀ k, k0_pay38 X A B D (ix2 r k) = I.z R k) (hg : ∀ k, g (ix2 0 k) = I.g k) (hb : ∀ k, b (ix2 0 k) = I.b k) (k : Fin 1024) :
    k0_pay39 X A B D g b (ix2 r k) = I.y R k := by
  pointwise [k0_pay39]
  simp only [hz, hg, hb]
  rfl

end

theorem x_at (r : Fin 512) (k : Fin 1024) : (View.ld (iblk m c 0 t : Vec Ideal S512x1024 .f32) r0_0) (ix2 r k) = (inp m c).x (row (tile t) r) k :=
  (congrFun (View.ld_unit_zero (S := S512x1024) hz2 _ _) _).trans (blk_x m c t r k)
theorem g_at (k : Fin 1024) : (View.ld (iblk m c 4 t : Vec Ideal S1x1024 .f32) r0_13) (ix2 0 k) = (inp m c).g k :=
  (congrFun (View.ld_unit_zero (S := S1x1024) hz2 _ _) _).trans (blk_g m c t k)
theorem b_at (k : Fin 1024) : (View.ld (iblk m c 5 t : Vec Ideal S1x1024 .f32) r0_13) (ix2 0 k) = (inp m c).b k :=
  (congrFun (View.ld_unit_zero (S := S1x1024) hz2 _ _) _).trans (blk_b m c t k)
theorem wg_at0 (k : Fin 1024) (f : Fin 704) : (View.ld (iblk m c 1 t : Vec Ideal S4x1x1024x704 .bf16) r0_1) (ix4 0 0 k f) = (inp m c).wg k (col 0 f) := (cols0_at _ k f).trans (blk_wg m c t 0 k f)
theorem wu_at0 (k : Fin 1024) (f : Fin 704) : (View.ld (iblk m c 2 t : Vec Ideal S4x1x1024x704 .bf16) r0_1) (ix4 0 0 k f) = (inp m c).wu k (col 0 f) := (cols0_at _ k f).trans (blk_wu m c t 0 k f)
theorem wd_at0 (f : Fin 704) (k : Fin 1024) : (View.ld (iblk m c 3 t : Vec Ideal S4x1x704x1024 .bf16) r0_3) (ix4 0 0 f k) = (inp m c).wd (col 0 f) k := (rows0_at _ f k).trans (blk_wd m c t 0 f k)
theorem wg_at1 (k : Fin 1024) (f : Fin 704) : (View.ld (iblk m c 1 t : Vec Ideal S4x1x1024x704 .bf16) r0_4) (ix4 0 0 k f) = (inp m c).wg k (col 1 f) := (cols1_at _ k f).trans (blk_wg m c t 1 k f)
theorem wu_at1 (k : Fin 1024) (f : Fin 704) : (View.ld (iblk m c 2 t : Vec Ideal S4x1x1024x704 .bf16) r0_4) (ix4 0 0 k f) = (inp m c).wu k (col 1 f) := (cols1_at _ k f).trans (blk_wu m c t 1 k f)
theorem wd_at1 (f : Fin 704) (k : Fin 1024) : (View.ld (iblk m c 3 t : Vec Ideal S4x1x704x1024 .bf16) r0_6) (ix4 0 0 f k) = (inp m c).wd (col 1 f) k := (rows1_at _ f k).trans (blk_wd m c t 1 f k)
theorem wg_at2 (k : Fin 1024) (f : Fin 704) : (View.ld (iblk m c 1 t : Vec Ideal S4x1x1024x704 .bf16) r0_7) (ix4 0 0 k f) = (inp m c).wg k (col 2 f) := (cols2_at _ k f).trans (blk_wg m c t 2 k f)
theorem wu_at2 (k : Fin 1024) (f : Fin 704) : (View.ld (iblk m c 2 t : Vec Ideal S4x1x1024x704 .bf16) r0_7) (ix4 0 0 k f) = (inp m c).wu k (col 2 f) := (cols2_at _ k f).trans (blk_wu m c t 2 k f)
theorem wd_at2 (f : Fin 704) (k : Fin 1024) : (View.ld (iblk m c 3 t : Vec Ideal S4x1x704x1024 .bf16) r0_9) (ix4 0 0 f k) = (inp m c).wd (col 2 f) k := (rows2_at _ f k).trans (blk_wd m c t 2 f k)
theorem wg_at3 (k : Fin 1024) (f : Fin 704) : (View.ld (iblk m c 1 t : Vec Ideal S4x1x1024x704 .bf16) r0_10) (ix4 0 0 k f) = (inp m c).wg k (col 3 f) := (cols3_at _ k f).trans (blk_wg m c t 3 k f)
theorem wu_at3 (k : Fin 1024) (f : Fin 704) : (View.ld (iblk m c 2 t : Vec Ideal S4x1x1024x704 .bf16) r0_10) (ix4 0 0 k f) = (inp m c).wu k (col 3 f) := (cols3_at _ k f).trans (blk_wu m c t 3 k f)
theorem wd_at3 (f : Fin 704) (k : Fin 1024) : (View.ld (iblk m c 3 t : Vec Ideal S4x1x704x1024 .bf16) r0_12) (ix4 0 0 f k) = (inp m c).wd (col 3 f) k := (rows3_at _ f k).trans (blk_wd m c t 3 f k)

theorem z_at (r : Fin 512) (k : Fin 1024) : k0_pay38 (View.ld (iblk m c 0 t : Vec Ideal S512x1024 .f32) r0_0) (k0_pay41 (iblk m c 0 t) (iblk m c 1 t) (iblk m c 2 t) (iblk m c 3 t) (iblk m c 4 t) (iblk m c 5 t)) (k0_pay42 (iblk m c 0 t) (iblk m c 1 t) (iblk m c 2 t) (iblk m c 3 t) (iblk m c 4 t) (iblk m c 5 t)) (View.ld (iblk m c 3 t : Vec Ideal S4x1x704x1024 .bf16) r0_12) (ix2 r k) = (inp m c).z (row (tile t) r) k := by
  unfold k0_pay41 k0_pay42 k0_pay40
  exact zV_at (x_at m c t r) (wg_at0 m c t) (wu_at0 m c t) (wd_at0 m c t) (wg_at1 m c t) (wu_at1 m c t) (wd_at1 m c t) (wg_at2 m c t) (wu_at2 m c t) (wd_at2 m c t) (wg_at3 m c t) (wu_at3 m c t) (wd_at3 m c t) k

/-- The place in chip `J`'s tile of an entry of the block. -/
theorem place {j : Fin 4} {r : Fin 512} {f : Fin 704} (J : Fin 4) (x : S1x512x704.Idx) (h0 : j.val = J.val + (x 0).val)
    (h1 : r.val = (x 1).val) (h2 : f.val = (x 2).val) : j = J ∧ x = ix3 0 r f := by
  have hx : (x 0).val < 1 := (x 0).isLt
  refine ⟨Fin.ext (by omega), (eq_ix3 x).trans ?_⟩
  rw [show x 0 = (0 : Fin 1) from Fin.ext (by show (x 0).val = 0; omega), show x 1 = r from Fin.ext h1.symm,
    show x 2 = f from Fin.ext h2.symm]

theorem out_act (j : Fin 4) (r : Fin 512) (f : Fin 704) : out0_6 (iblk m c 0 t) (iblk m c 1 t) (iblk m c 2 t) (iblk m c 3 t) (iblk m c 4 t) (iblk m c 5 t) (ix3 j r f) = (inp m c).act (row (tile t) r) (col j f) := by
  unfold_out out0_6
  canon_tiles
  · obtain ⟨rfl, rfl⟩ := place 3 x h0 h1 h2
    exact act3 (x_at m c t r) (wg_at3 m c t) f
  · obtain ⟨rfl, rfl⟩ := place 2 x h0 h1 h2
    exact act2 (x_at m c t r) (wg_at2 m c t) f
  · obtain ⟨rfl, rfl⟩ := place 1 x h0 h1 h2
    exact act1 (x_at m c t r) (wg_at1 m c t) f
  · obtain ⟨rfl, rfl⟩ := place 0 x (h0.trans (Nat.zero_add _).symm) h1 h2
    exact act0 (x_at m c t r) (wg_at0 m c t) f

theorem out_bm (j : Fin 4) (r : Fin 512) (f : Fin 704) : out0_7 (iblk m c 0 t) (iblk m c 1 t) (iblk m c 2 t) (iblk m c 3 t) (iblk m c 4 t) (iblk m c 5 t) (ix3 j r f) = (inp m c).bm (row (tile t) r) (col j f) := by
  unfold_out out0_7
  canon_tiles
  · obtain ⟨rfl, rfl⟩ := place 3 x h0 h1 h2
    exact bm3 (x_at m c t r) (wg_at3 m c t) (wu_at3 m c t) f
  · obtain ⟨rfl, rfl⟩ := place 2 x h0 h1 h2
    exact bm2 (x_at m c t r) (wg_at2 m c t) (wu_at2 m c t) f
  · obtain ⟨rfl, rfl⟩ := place 1 x h0 h1 h2
    exact bm1 (x_at m c t r) (wg_at1 m c t) (wu_at1 m c t) f
  · obtain ⟨rfl, rfl⟩ := place 0 x (h0.trans (Nat.zero_add _).symm) h1 h2
    exact bm0 (x_at m c t r) (wg_at0 m c t) (wu_at0 m c t) f

theorem out_hm (j : Fin 4) (r : Fin 512) (f : Fin 704) : out0_8 (iblk m c 0 t) (iblk m c 1 t) (iblk m c 2 t) (iblk m c 3 t) (iblk m c 4 t) (iblk m c 5 t) (ix3 j r f) = (inp m c).hid (row (tile t) r) (col j f) := by
  unfold_out out0_8
  canon_tiles
  · obtain ⟨rfl, rfl⟩ := place 3 x h0 h1 h2
    exact hm3 (x_at m c t r) (wg_at3 m c t) (wu_at3 m c t) f
  · obtain ⟨rfl, rfl⟩ := place 2 x h0 h1 h2
    exact hm2 (x_at m c t r) (wg_at2 m c t) (wu_at2 m c t) f
  · obtain ⟨rfl, rfl⟩ := place 1 x h0 h1 h2
    exact hm1 (x_at m c t r) (wg_at1 m c t) (wu_at1 m c t) f
  · obtain ⟨rfl, rfl⟩ := place 0 x (h0.trans (Nat.zero_add _).symm) h1 h2
    exact hm0 (x_at m c t r) (wg_at0 m c t) (wu_at0 m c t) f

theorem out_z (r : Fin 512) (k : Fin 1024) : out0_9 (iblk m c 0 t) (iblk m c 1 t) (iblk m c 2 t) (iblk m c 3 t) (iblk m c 4 t) (iblk m c 5 t) (ix2 r k) = (inp m c).z (row (tile t) r) k := by
  unfold out0_9
  rw [View.canon_unit_zero hz2]
  exact z_at m c t r k

theorem out_y (r : Fin 512) (k : Fin 1024) : out0_10 (iblk m c 0 t) (iblk m c 1 t) (iblk m c 2 t) (iblk m c 3 t) (iblk m c 4 t) (iblk m c 5 t) (ix2 r k) = (inp m c).y (row (tile t) r) k := by
  unfold out0_10
  rw [View.canon_unit_zero hz2]
  exact yV_at (z_at m c t r) (g_at m c t) (b_at m c t) k

/-! ## The result arrays -/

theorem arr_act : (dats m 0 c).arrAt 6 cfg0.N = (fun i => (inp m c).act (i 1) (col (i 0) (i 2)) : Vec Ideal S4x16384x704 .bf16) := by
  refine (dats m 0 c).arrAt_eq_of_covers 6 _ (by decide +kernel) fun t hf y => ?_
  blk_simp
  refine (congrFun (after0_6 m c t) _).trans ?_
  rw [eq_ix3 y]
  refine (out_act m c t _ _ _).trans ?_
  let A : Vec Ideal S4x16384x704 .bf16 := fun i => (inp m c).act (i 1) (col (i 0) (i 2))
  show A (ix3 (y 0) (row (tile t) (y 1)) (y 2)) = A _
  generalize A = X
  blk_ext! [idx0_6 t, tile, row]

theorem arr_bm : (dats m 0 c).arrAt 7 cfg0.N = (fun i => (inp m c).bm (i 1) (col (i 0) (i 2)) : Vec Ideal S4x16384x704 .bf16) := by
  refine (dats m 0 c).arrAt_eq_of_covers 7 _ (by decide +kernel) fun t hf y => ?_
  blk_simp
  refine (congrFun (after0_7 m c t) _).trans ?_
  rw [eq_ix3 y]
  refine (out_bm m c t _ _ _).trans ?_
  let A : Vec Ideal S4x16384x704 .bf16 := fun i => (inp m c).bm (i 1) (col (i 0) (i 2))
  show A (ix3 (y 0) (row (tile t) (y 1)) (y 2)) = A _
  generalize A = X
  blk_ext! [idx0_7 t, tile, row]

theorem arr_hm : (dats m 0 c).arrAt 8 cfg0.N = (fun i => (inp m c).hid (i 1) (col (i 0) (i 2)) : Vec Ideal S4x16384x704 .bf16) := by
  refine (dats m 0 c).arrAt_eq_of_covers 8 _ (by decide +kernel) fun t hf y => ?_
  blk_simp
  refine (congrFun (after0_8 m c t) _).trans ?_
  rw [eq_ix3 y]
  refine (out_hm m c t _ _ _).trans ?_
  let A : Vec Ideal S4x16384x704 .bf16 := fun i => (inp m c).hid (i 1) (col (i 0) (i 2))
  show A (ix3 (y 0) (row (tile t) (y 1)) (y 2)) = A _
  generalize A = X
  blk_ext! [idx0_8 t, tile, row]

theorem arr_z : (dats m 0 c).arrAt 9 cfg0.N = (fun i => (inp m c).z (i 0) (i 1) : Vec Ideal S16384x1024 .f32) := by
  refine (dats m 0 c).arrAt_eq_of_covers 9 _ (by decide +kernel) fun t hf y => ?_
  blk_simp
  refine (congrFun (after0_9 m c t) _).trans ?_
  rw [eq_ix2 y]
  refine (out_z m c t _ _).trans ?_
  let A : Vec Ideal S16384x1024 .f32 := fun i => (inp m c).z (i 0) (i 1)
  show A (ix2 (row (tile t) (y 0)) (y 1)) = A _
  generalize A = X
  blk_ext! [idx0_9 t, tile, row]

theorem arr_y : (dats m 0 c).arrAt 10 cfg0.N = (fun i => (inp m c).y (i 0) (i 1) : Vec Ideal S16384x1024 .f32) := by
  refine (dats m 0 c).arrAt_eq_of_covers 10 _ (by decide +kernel) fun t hf y => ?_
  blk_simp
  refine (congrFun (after0_10 m c t) _).trans ?_
  rw [eq_ix2 y]
  refine (out_y m c t _ _).trans ?_
  let A : Vec Ideal S16384x1024 .f32 := fun i => (inp m c).y (i 0) (i 1)
  show A (ix2 (row (tile t) (y 0)) (y 1)) = A _
  generalize A = X
  blk_ext! [idx0_10 t, tile, row]

end Cert.Kernel9Ideal.Gen

end
-- ==== Proof.Equation9.lean ====
module

public import proofs.«01_k».proof.Proof.Fwd0
public import proofs.«01_k».proof.Proof.Gen.Reference9Ideal
public import proofs.«01_k».proof.Proof.Gen.Reference9Ideal.Run

/-! # The forward feed-forward sub-layer of the first layer: each result of the kernel is the reference's, for every input -/

@[expose] public section

noncomputable section

namespace Cert.Proof

open Idealize.ShloMosaic Idealize.ShloMosaic.TcCoe Idealize.SL.Sem Cert.Fwd

theorem algebraic9 : Cert.algebraic_Kernel9Ideal_Reference9Ideal (hKernel9Ideal := Cert.Kernel9Ideal.Gen.facts)
    (hReference9Ideal := Cert.Reference9Ideal.Gen.facts) := by
  intro m g m' g' _ hargs
  refine ⟨_, _, _, _, _, Kernel9Ideal.Value.run_blocks m g, ?_⟩
  refine (θ_run _ _ _).mono (fun r h c => ?_) (Reference9Ideal.Value.run m' g')
  obtain ⟨h0, h1, h2, h3, h4, ha⟩ := h c
  obtain ⟨a0, a1, a2, a3, a4, a5⟩ := hargs c
  refine ⟨h0.trans ?_, h1.trans ?_, h2.trans ?_, h3.trans ?_, h4.trans ?_, ha⟩
  · rw [a0, a1, Kernel9Ideal.Gen.arr_act]
    funext i
    rw [← ix3_eta i]
    pointwise
    rfl
  · rw [a0, a1, a2, Kernel9Ideal.Gen.arr_bm]
    funext i
    rw [← ix3_eta i]
    pointwise
    simp only [In.bm, ← slope_eq]
    rfl
  · rw [a0, a1, a2, Kernel9Ideal.Gen.arr_hm]
    funext i
    rw [← ix3_eta i]
    pointwise
    rfl
  · rw [a0, a1, a2, a3, Kernel9Ideal.Gen.arr_z]
    funext i
    obtain ⟨t, k, rfl⟩ : ∃ t k, i = ix2 t k := ⟨_, _, (ix2_eta i).symm⟩
    pointwise
    rfl
  · rw [Kernel9Ideal.Gen.arr_y]
    unfold Reference9Ideal.Value.res_main_v51
    rw [a0, a1, a2, a3, a4, a5]
    funext i
    obtain ⟨t, k, rfl⟩ : ∃ t k, i = ix2 t k := ⟨_, _, (ix2_eta i).symm⟩
    pointwise
    rfl

end Cert.Proof

end
-- ==== Proof.LossMath.lean ====
module

public import proofs.«01_k».proof.Proof.Forward

/-! # The last layer's feed-forward sub-layer with the loss, in real numbers

`In` holds the sub-layer's arrays and the target. Its forward pass is `Cert.Fwd.In`'s; the loss is half the sum of the rows'
mean squared errors, and the gradient of the loss goes back through the layer norm. -/

@[expose] public section

noncomputable section

namespace Cert.Loss

open Idealize.ShloMosaic Cert.Ffn

/-- The sub-layer's seven arrays, as real numbers. -/
structure In where
  x : Fin 16384 → Fin 1024 → ℝ
  wg : Fin 1024 → Fin 2816 → ℝ
  wu : Fin 1024 → Fin 2816 → ℝ
  wd : Fin 2816 → Fin 1024 → ℝ
  g : Fin 1024 → ℝ
  b : Fin 1024 → ℝ
  tg : Fin 16384 → Fin 1024 → ℝ

namespace In

variable (I : In)

/-- The same arrays, read in the extended reals. -/
def up' : Fwd.In where
  x t k := (I.x t k : EReal)
  wg k f := (I.wg k f : EReal)
  wu k f := (I.wu k f : EReal)
  wd f k := (I.wd f k : EReal)
  g k := (I.g k : EReal)
  b k := (I.b k : EReal)

def gate (t : Fin 16384) (f : Fin 2816) : ℝ := ∑ k, I.x t k * I.wg k f
def up (t : Fin 16384) (f : Fin 2816) : ℝ := ∑ k, I.x t k * I.wu k f
def hid (t : Fin 16384) (f : Fin 2816) : ℝ := silu (I.gate t f) * I.up t f
def z (t : Fin 16384) (k : Fin 1024) : ℝ := al * I.x t k + ∑ f, I.hid t f * I.wd f k
def err (t : Fin 16384) (k : Fin 1024) : ℝ := hat (I.z t) k * I.g k + I.b k - I.tg t k
def dy (t : Fin 16384) (k : Fin 1024) : ℝ := I.err t k * (1 / 1024)
def dz (t : Fin 16384) (k : Fin 1024) : ℝ := lnb (I.z t) (fun k => I.dy t k * I.g k) k
def dg (k : Fin 1024) : ℝ := ∑ t, I.dy t k * hat (I.z t) k
def db (k : Fin 1024) : ℝ := ∑ t, I.dy t k
def sq (k : Fin 1024) : ℝ := ∑ t, I.err t k * I.err t k
def loss : ℝ := (∑ k, I.sq k) * (1 / 2048)

theorem gate_up (t : Fin 16384) (f : Fin 2816) : I.up'.gate t f = (I.gate t f : EReal) := by
  simp only [Fwd.In.gate, up', ← EReal.coe_mul, coe_sum]; rfl

theorem up_up (t : Fin 16384) (f : Fin 2816) : I.up'.up t f = (I.up t f : EReal) := by
  simp only [Fwd.In.up, up', ← EReal.coe_mul, coe_sum]; rfl

theorem lgs_coe (a : ℝ) : Fwd.lgs (a : EReal) = (sig a : EReal) := Ideal.logistic_coe _

theorem hid_up (t : Fin 16384) (f : Fin 2816) : I.up'.hid t f = (I.hid t f : EReal) := by
  simp only [Fwd.In.hid, Fwd.In.act, gate_up, up_up, lgs_coe, ← EReal.coe_mul]; rfl

theorem z_up (t : Fin 16384) (k : Fin 1024) : I.up'.z t k = (I.z t k : EReal) := by
  simp only [Fwd.In.z, hid_up, ofBits_al]
  simp only [up', ← EReal.coe_mul, coe_sum, ← EReal.coe_add]; rfl

/-- The loss as half the sum of the rows' means. -/
theorem loss_rows : 1 / 2 * ∑ t, (∑ k, I.err t k * I.err t k) / 1024 = I.loss := by
  unfold loss sq
  rw [Finset.sum_comm, ← Finset.sum_div]
  ring

end In

theorem ofBits_inv1024 : Ideal.ofBits .f32 0x3A800000#32 = ((1 / 1024 : ℝ) : EReal) := by
  simp [Ideal.ofBits, Ideal.ieee, -EReal.coe_mul]; norm_num

theorem ofBits_inv2048 : Ideal.ofBits .f32 0x3A000000#32 = ((1 / 2048 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

end Cert.Loss

end
-- ==== Proof.LossOpen.lean ====
module

public import proofs.«01_k».proof.Proof.Gen.Kernel10Ideal.Frame
public import Idealize.ShloMosaic.Lib.Pipeline.Value
public import Idealize.ShloMosaic.Lib.Pipeline.ValueKit
public import Idealize.ShloMosaic.Lib.Pipeline.ValueKit.Point
public import Idealize.ShloMosaic.Lib.IdealHost

/-! # The loss kernel's body: what one run of it leaves in its windows and scratch

The body runs once per tile of 512 rows. The first tile (A) starts the three accumulators from zero, a middle tile (B) adds to
them, the last tile (C) adds and writes their totals out. -/

@[expose] public section

noncomputable section

namespace Cert.Kernel10Ideal.Gen

open Idealize.ShloMosaic Idealize.ShloMosaic.TcCoe Idealize.SL.Sem

theorem hz2 : (![0, 0] : Fin 2 → Nat) = fun _ => 0 := funext fun a => by fin_cases a <;> rfl

/-- Chip 0's slabs of the weights, as loaded. -/
def cols0 (x : Vec Ideal S4x1x1024x704 .bf16) : Vec Ideal S1x1x1024x704 .bf16 :=
  View.ld x (Rect.unit ![0, 0, 0, 0] S1x1x1024x704.size inb_S4x1x1024x704_S1x1x1024x704_0_0_0_0)
def rows0 (x : Vec Ideal S4x1x704x1024 .bf16) : Vec Ideal S1x1x704x1024 .bf16 :=
  View.ld x (Rect.unit ![0, 0, 0, 0] S1x1x704x1024.size inb_S4x1x704x1024_S1x1x704x1024_0_0_0_0)

/-- Chip 1's slabs of the weights, as loaded. -/
def cols1 (x : Vec Ideal S4x1x1024x704 .bf16) : Vec Ideal S1x1x1024x704 .bf16 :=
  View.ld x (Rect.unit ![1, 0, 0, 0] S1x1x1024x704.size inb_S4x1x1024x704_S1x1x1024x704_1_0_0_0)
def rows1 (x : Vec Ideal S4x1x704x1024 .bf16) : Vec Ideal S1x1x704x1024 .bf16 :=
  View.ld x (Rect.unit ![1, 0, 0, 0] S1x1x704x1024.size inb_S4x1x704x1024_S1x1x704x1024_1_0_0_0)

/-- Chip 2's slabs of the weights, as loaded. -/
def cols2 (x : Vec Ideal S4x1x1024x704 .bf16) : Vec Ideal S1x1x1024x704 .bf16 :=
  View.ld x (Rect.unit ![2, 0, 0, 0] S1x1x1024x704.size inb_S4x1x1024x704_S1x1x1024x704_2_0_0_0)
def rows2 (x : Vec Ideal S4x1x704x1024 .bf16) : Vec Ideal S1x1x704x1024 .bf16 :=
  View.ld x (Rect.unit ![2, 0, 0, 0] S1x1x704x1024.size inb_S4x1x704x1024_S1x1x704x1024_2_0_0_0)

/-- Chip 3's slabs of the weights, as loaded. -/
def cols3 (x : Vec Ideal S4x1x1024x704 .bf16) : Vec Ideal S1x1x1024x704 .bf16 :=
  View.ld x (Rect.unit ![3, 0, 0, 0] S1x1x1024x704.size inb_S4x1x1024x704_S1x1x1024x704_3_0_0_0)
def rows3 (x : Vec Ideal S4x1x704x1024 .bf16) : Vec Ideal S1x1x704x1024 .bf16 :=
  View.ld x (Rect.unit ![3, 0, 0, 0] S1x1x704x1024.size inb_S4x1x704x1024_S1x1x704x1024_3_0_0_0)

/-- The first three chips' products, added in order, and the fourth chip's hidden entries. -/
def accV (x0 : Vec Ideal S512x1024 .f32) (x1 x2 : Vec Ideal S4x1x1024x704 .bf16) (x3 : Vec Ideal S4x1x704x1024 .bf16) : Vec Ideal S512x1024 .f32 :=
  k0_pay36 (k0_pay27 (k0_pay18 (k0_pay9 (F := Ideal)) (k0_pay16 x0 (cols0 x1) (cols0 x2)) (rows0 x3)) (k0_pay25 (k0_pay8 x0) (cols1 x1) (cols1 x2)) (rows1 x3)) (k0_pay34 (k0_pay8 x0) (cols2 x1) (cols2 x2)) (rows2 x3)
def hidV (x0 : Vec Ideal S512x1024 .f32) (x1 x2 : Vec Ideal S4x1x1024x704 .bf16) : Vec Ideal S512x704 .f32 :=
  k0_pay43 (k0_pay8 x0) (cols3 x1) (cols3 x2)

/-- The normalised rows, their reciprocal standard deviations, and the errors. -/
def hatV (x0 : Vec Ideal S512x1024 .f32) (x1 x2 : Vec Ideal S4x1x1024x704 .bf16) (x3 : Vec Ideal S4x1x704x1024 .bf16) : Vec Ideal S512x1024 .f32 := k0_pay48 x0 (accV x0 x1 x2 x3) (hidV x0 x1 x2) (rows3 x3)
def rsV (x0 : Vec Ideal S512x1024 .f32) (x1 x2 : Vec Ideal S4x1x1024x704 .bf16) (x3 : Vec Ideal S4x1x704x1024 .bf16) : Vec Ideal S512x1 .f32 := k0_pay47 x0 (accV x0 x1 x2 x3) (hidV x0 x1 x2) (rows3 x3)
def errV (x0 : Vec Ideal S512x1024 .f32) (x1 x2 : Vec Ideal S4x1x1024x704 .bf16) (x3 : Vec Ideal S4x1x704x1024 .bf16) (x4 x5 : Vec Ideal S1x1024 .f32) (x6 : Vec Ideal S512x1024 .f32) : Vec Ideal S512x1024 .f32 :=
  k0_pay50 x0 (accV x0 x1 x2 x3) (hidV x0 x1 x2) (rows3 x3) x4 x5 x6
def dzV (x0 : Vec Ideal S512x1024 .f32) (x1 x2 : Vec Ideal S4x1x1024x704 .bf16) (x3 : Vec Ideal S4x1x704x1024 .bf16) (x4 x5 : Vec Ideal S1x1024 .f32) (x6 : Vec Ideal S512x1024 .f32) : Vec Ideal S512x1024 .f32 :=
  k0_pay1 (rsV x0 x1 x2 x3) (hatV x0 x1 x2 x3) (k0_pay56 (k0_pay49 x4) (errV x0 x1 x2 x3 x4 x5 x6))
    (k0_pay57 (hatV x0 x1 x2 x3) (k0_pay49 x4) (errV x0 x1 x2 x3 x4 x5 x6))

/-- The stores of the activation, chip by chip. -/
def actL (x0 : Vec Ideal S512x1024 .f32) (x1 : Vec Ideal S4x1x1024x704 .bf16) : List (View.Piece (Elt Ideal) S4x512x704 .bf16) :=
  [⟨Rect.unit ![3, 0, 0] S1x512x704.size inb_S4x512x704_S1x512x704_3_0_0, k0_pay41 (k0_pay8 x0) (cols3 x1)⟩,
   ⟨Rect.unit ![2, 0, 0] S1x512x704.size inb_S4x512x704_S1x512x704_2_0_0, k0_pay32 (k0_pay8 x0) (cols2 x1)⟩,
   ⟨Rect.unit ![1, 0, 0] S1x512x704.size inb_S4x512x704_S1x512x704_1_0_0, k0_pay23 (k0_pay8 x0) (cols1 x1)⟩,
   ⟨Rect.unit ![0, 0, 0] S1x512x704.size inb_S4x512x704_S1x512x704_0_0_0, k0_pay14 x0 (cols0 x1)⟩]

/-- The stores of the up projection times the slope, chip by chip. -/
def bmL (x0 : Vec Ideal S512x1024 .f32) (x1 x2 : Vec Ideal S4x1x1024x704 .bf16) : List (View.Piece (Elt Ideal) S4x512x704 .bf16) :=
  [⟨Rect.unit ![3, 0, 0] S1x512x704.size inb_S4x512x704_S1x512x704_3_0_0, k0_pay42 (k0_pay8 x0) (cols3 x1) (cols3 x2)⟩,
   ⟨Rect.unit ![2, 0, 0] S1x512x704.size inb_S4x512x704_S1x512x704_2_0_0, k0_pay33 (k0_pay8 x0) (cols2 x1) (cols2 x2)⟩,
   ⟨Rect.unit ![1, 0, 0] S1x512x704.size inb_S4x512x704_S1x512x704_1_0_0, k0_pay24 (k0_pay8 x0) (cols1 x1) (cols1 x2)⟩,
   ⟨Rect.unit ![0, 0, 0] S1x512x704.size inb_S4x512x704_S1x512x704_0_0_0, k0_pay15 x0 (cols0 x1) (cols0 x2)⟩]

/-- The stores of the hidden entries, chip by chip. -/
def hmL (x0 : Vec Ideal S512x1024 .f32) (x1 x2 : Vec Ideal S4x1x1024x704 .bf16) : List (View.Piece (Elt Ideal) S4x512x704 .bf16) :=
  [⟨Rect.unit ![3, 0, 0] S1x512x704.size inb_S4x512x704_S1x512x704_3_0_0, k0_pay45 (k0_pay43 (k0_pay8 x0) (cols3 x1) (cols3 x2))⟩,
   ⟨Rect.unit ![2, 0, 0] S1x512x704.size inb_S4x512x704_S1x512x704_2_0_0, k0_pay35 (k0_pay34 (k0_pay8 x0) (cols2 x1) (cols2 x2))⟩,
   ⟨Rect.unit ![1, 0, 0] S1x512x704.size inb_S4x512x704_S1x512x704_1_0_0, k0_pay26 (k0_pay25 (k0_pay8 x0) (cols1 x1) (cols1 x2))⟩,
   ⟨Rect.unit ![0, 0, 0] S1x512x704.size inb_S4x512x704_S1x512x704_0_0_0, k0_pay17 (k0_pay16 x0 (cols0 x1) (cols0 x2))⟩]

variable (c : Dev nD) (i : grid0.Coords) (a1 : Memref sig .tc .vmem S512x1024 .f32) (h1 : a1.IsWhole) (a2 : Memref sig .tc .vmem S4x1x1024x704 .bf16) (h2 : a2.IsWhole) (a3 : Memref sig .tc .vmem S4x1x1024x704 .bf16) (h3 : a3.IsWhole) (a4 : Memref sig .tc .vmem S4x1x704x1024 .bf16) (h4 : a4.IsWhole) (a5 : Memref sig .tc .vmem S1x1024 .f32) (h5 : a5.IsWhole) (a6 : Memref sig .tc .vmem S1x1024 .f32) (h6 : a6.IsWhole) (a7 : Memref sig .tc .vmem S512x1024 .f32) (h7 : a7.IsWhole) (a8 : Memref sig .tc .vmem S4x512x704 .bf16) (h8 : a8.IsWhole) (a9 : Memref sig .tc .vmem S4x512x704 .bf16) (h9 : a9.IsWhole) (a10 : Memref sig .tc .vmem S4x512x704 .bf16) (h10 : a10.IsWhole) (a11 : Memref sig .tc .vmem S512x1024 .f32) (h11 : a11.IsWhole) (a12 : Memref sig .tc .vmem S1x1024 .f32) (h12 : a12.IsWhole) (a13 : Memref sig .tc .vmem S1x1024 .f32) (h13 : a13.IsWhole) (a14 : Memref sig .tc .vmem S1x1 .f32) (h14 : a14.IsWhole) (a15 : Memref sig .tc .vmem S8x1024 .f32) (h15 : a15.IsWhole) (a16 : Memref sig .tc .vmem S8x1024 .f32) (h16 : a16.IsWhole) (a17 : Memref sig .tc .vmem S8x1024 .f32) (h17 : a17.IsWhole)
  (x0 : Vec Ideal S512x1024 .f32) (x1 x2 : Vec Ideal S4x1x1024x704 .bf16) (x3 : Vec Ideal S4x1x704x1024 .bf16)
  (x4 x5 : Vec Ideal S1x1024 .f32) (x6 : Vec Ideal S512x1024 .f32) (s0 s1 s2 : Vec Ideal S8x1024 .f32)

theorem out_A_7 (hc0 : cond0_0 i) (hc1 : ¬cond0_1 i) :
    out0_A_7 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 = View.canon (actL x0 x1) := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem out_A_8 (hc0 : cond0_0 i) (hc1 : ¬cond0_1 i) :
    out0_A_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 = View.canon (bmL x0 x1 x2) := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem out_A_9 (hc0 : cond0_0 i) (hc1 : ¬cond0_1 i) :
    out0_A_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 = View.canon (hmL x0 x1 x2) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem out_A_10 (hc0 : cond0_0 i) (hc1 : ¬cond0_1 i) :
    out0_A_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 = dzV x0 x1 x2 x3 x4 x5 x6 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem sout_A_0 (hc0 : cond0_0 i) (hc1 : ¬cond0_1 i) :
    sout0_A_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 = k0_pay53 (F := Ideal) (hatV x0 x1 x2 x3) (errV x0 x1 x2 x3 x4 x5 x6) (k0_pay5 (F := Ideal)) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6)]
  unfold kernelRun0_A
  dsimp only
  sl_unfold_words
  rw [View.canon_cons_unit_zero (S := S8x1024) hz2, View.readCov_unit_zero (S := S8x1024) _ hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem sout_A_1 (hc0 : cond0_0 i) (hc1 : ¬cond0_1 i) :
    sout0_A_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 = k0_pay54 (F := Ideal) (errV x0 x1 x2 x3 x4 x5 x6) (k0_pay6 (F := Ideal)) := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6)]
  unfold kernelRun0_A
  dsimp only
  sl_unfold_words
  rw [View.canon_cons_unit_zero (S := S8x1024) hz2, View.readCov_unit_zero (S := S8x1024) _ hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem sout_A_2 (hc0 : cond0_0 i) (hc1 : ¬cond0_1 i) :
    sout0_A_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 = k0_pay51 (F := Ideal) (errV x0 x1 x2 x3 x4 x5 x6) (k0_pay7 (F := Ideal)) := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6)]
  unfold kernelRun0_A
  dsimp only
  sl_unfold_words
  rw [View.canon_cons_unit_zero (S := S8x1024) hz2, View.readCov_unit_zero (S := S8x1024) _ hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem out_B_7 (hc0 : ¬cond0_0 i) (hc1 : ¬cond0_1 i) :
    out0_B_7 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = View.canon (actL x0 x1) := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_B
  dsimp only
  sl_unfold_words
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem out_B_8 (hc0 : ¬cond0_0 i) (hc1 : ¬cond0_1 i) :
    out0_B_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = View.canon (bmL x0 x1 x2) := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_B
  dsimp only
  sl_unfold_words
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem out_B_9 (hc0 : ¬cond0_0 i) (hc1 : ¬cond0_1 i) :
    out0_B_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = View.canon (hmL x0 x1 x2) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_B
  dsimp only
  sl_unfold_words
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem out_B_10 (hc0 : ¬cond0_0 i) (hc1 : ¬cond0_1 i) :
    out0_B_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = dzV x0 x1 x2 x3 x4 x5 x6 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem sout_B_0 (hc0 : ¬cond0_0 i) (hc1 : ¬cond0_1 i) :
    sout0_B_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = k0_pay53 (F := Ideal) (hatV x0 x1 x2 x3) (errV x0 x1 x2 x3 x4 x5 x6) s0 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem sout_B_1 (hc0 : ¬cond0_0 i) (hc1 : ¬cond0_1 i) :
    sout0_B_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = k0_pay54 (F := Ideal) (errV x0 x1 x2 x3 x4 x5 x6) s1 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem sout_B_2 (hc0 : ¬cond0_0 i) (hc1 : ¬cond0_1 i) :
    sout0_B_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = k0_pay51 (F := Ideal) (errV x0 x1 x2 x3 x4 x5 x6) s2 := by
  unfold sout0_B_2
  rw [View.read_writes_eq_canon _ _ _ (scover0_B_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem out_C_7 (hc0 : ¬cond0_0 i) (hc1 : cond0_1 i) :
    out0_C_7 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = View.canon (actL x0 x1) := by
  unfold out0_C_7
  rw [View.read_writes_eq_canon _ _ _ (cover0_C_7 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_C
  dsimp only
  sl_unfold_words
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem out_C_8 (hc0 : ¬cond0_0 i) (hc1 : cond0_1 i) :
    out0_C_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = View.canon (bmL x0 x1 x2) := by
  unfold out0_C_8
  rw [View.read_writes_eq_canon _ _ _ (cover0_C_8 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_C
  dsimp only
  sl_unfold_words
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem out_C_9 (hc0 : ¬cond0_0 i) (hc1 : cond0_1 i) :
    out0_C_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = View.canon (hmL x0 x1 x2) := by
  unfold out0_C_9
  rw [View.read_writes_eq_canon _ _ _ (cover0_C_9 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_C
  dsimp only
  sl_unfold_words
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem out_C_10 (hc0 : ¬cond0_0 i) (hc1 : cond0_1 i) :
    out0_C_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = dzV x0 x1 x2 x3 x4 x5 x6 := by
  unfold out0_C_10
  rw [View.read_writes_eq_canon _ _ _ (cover0_C_10 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem out_C_11 (hc0 : ¬cond0_0 i) (hc1 : cond0_1 i) :
    out0_C_11 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = k0_pay2 (F := Ideal) (k0_pay53 (F := Ideal) (hatV x0 x1 x2 x3) (errV x0 x1 x2 x3 x4 x5 x6) s0) := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_C
  dsimp only
  sl_unfold_words
  rw [View.canon_unit_zero hz2, View.readCov_unit_zero (S := S8x1024) _ hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem out_C_12 (hc0 : ¬cond0_0 i) (hc1 : cond0_1 i) :
    out0_C_12 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = k0_pay3 (F := Ideal) (k0_pay54 (F := Ideal) (errV x0 x1 x2 x3 x4 x5 x6) s1) := by
  unfold out0_C_12
  rw [View.read_writes_eq_canon _ _ _ (cover0_C_12 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_C
  dsimp only
  sl_unfold_words
  rw [View.canon_unit_zero hz2, View.readCov_unit_zero (S := S8x1024) _ hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem out_C_13 (hc0 : ¬cond0_0 i) (hc1 : cond0_1 i) :
    out0_C_13 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = k0_pay4 (F := Ideal) (k0_pay51 (F := Ideal) (errV x0 x1 x2 x3 x4 x5 x6) s2) := by
  unfold out0_C_13
  rw [View.read_writes_eq_canon _ _ _ (cover0_C_13 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_C
  dsimp only
  sl_unfold_words
  rw [View.canon_unit_zero hz2, View.readCov_unit_zero (S := S8x1024) _ hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem sout_C_0 (hc0 : ¬cond0_0 i) (hc1 : cond0_1 i) :
    sout0_C_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = k0_pay53 (F := Ideal) (hatV x0 x1 x2 x3) (errV x0 x1 x2 x3 x4 x5 x6) s0 := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem sout_C_1 (hc0 : ¬cond0_0 i) (hc1 : cond0_1 i) :
    sout0_C_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = k0_pay54 (F := Ideal) (errV x0 x1 x2 x3 x4 x5 x6) s1 := by
  unfold sout0_C_1
  rw [View.read_writes_eq_canon _ _ _ (scover0_C_1 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

theorem sout_C_2 (hc0 : ¬cond0_0 i) (hc1 : cond0_1 i) :
    sout0_C_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2 = k0_pay51 (F := Ideal) (errV x0 x1 x2 x3 x4 x5 x6) s2 := by
  unfold sout0_C_2
  rw [View.read_writes_eq_canon _ _ _ (scover0_C_2 c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 s0 s1 s2)]
  unfold kernelRun0_C
  dsimp only
  sl_unfold_words
  rw [View.canon_unit_zero hz2]
  simp only [View.readAt_eq_ld, h1.read_unread, h2.read_unread, h3.read_unread, h4.read_unread, h5.read_unread, h6.read_unread, h7.read_unread, h15.read_unread, h16.read_unread, h17.read_unread, View.ld_unit_zero (S := S512x1024) hz2, View.ld_unit_zero (S := S1x1024) hz2, View.ld_unit_zero (S := S8x1024) hz2]
  rfl

end Cert.Kernel10Ideal.Gen

end
-- ==== Proof.LossPay.lean ====
module

public import proofs.«01_k».proof.Proof.LossMath
public import proofs.«01_k».proof.Proof.LossOpen

/-! # The loss kernel's body, entry by entry -/

@[expose] public section

noncomputable section

namespace Cert.Kernel10Ideal.Gen

open Idealize.ShloMosaic Idealize.ShloMosaic.TcCoe Idealize.SL.Sem Cert.Fwd Cert.Loss
open Cert.Ffn (row col coe_sum ofBits_1024 div_1024 ofBits_eps rsqrt_pos vare_pos lnb)

theorem cols0_at (x : Vec Ideal S4x1x1024x704 .bf16) (k : Fin 1024) (f : Fin 704) : cols0 x (ix4 0 0 k f) = x (ix4 0 0 k f) :=
  View.ld_unit_apply_of x _ _ _ _ _ (fun a => by fin_cases a <;> simp [ix4])
theorem rows0_at (x : Vec Ideal S4x1x704x1024 .bf16) (f : Fin 704) (k : Fin 1024) : rows0 x (ix4 0 0 f k) = x (ix4 0 0 f k) :=
  View.ld_unit_apply_of x _ _ _ _ _ (fun a => by fin_cases a <;> simp [ix4])

theorem cols1_at (x : Vec Ideal S4x1x1024x704 .bf16) (k : Fin 1024) (f : Fin 704) : cols1 x (ix4 0 0 k f) = x (ix4 1 0 k f) :=
  View.ld_unit_apply_of x _ _ _ _ _ (fun a => by fin_cases a <;> simp [ix4])
theorem rows1_at (x : Vec Ideal S4x1x704x1024 .bf16) (f : Fin 704) (k : Fin 1024) : rows1 x (ix4 0 0 f k) = x (ix4 1 0 f k) :=
  View.ld_unit_apply_of x _ _ _ _ _ (fun a => by fin_cases a <;> simp [ix4])

theorem cols2_at (x : Vec Ideal S4x1x1024x704 .bf16) (k : Fin 1024) (f : Fin 704) : cols2 x (ix4 0 0 k f) = x (ix4 2 0 k f) :=
  View.ld_unit_apply_of x _ _ _ _ _ (fun a => by fin_cases a <;> simp [ix4])
theorem rows2_at (x : Vec Ideal S4x1x704x1024 .bf16) (f : Fin 704) (k : Fin 1024) : rows2 x (ix4 0 0 f k) = x (ix4 2 0 f k) :=
  View.ld_unit_apply_of x _ _ _ _ _ (fun a => by fin_cases a <;> simp [ix4])

theorem cols3_at (x : Vec Ideal S4x1x1024x704 .bf16) (k : Fin 1024) (f : Fin 704) : cols3 x (ix4 0 0 k f) = x (ix4 3 0 k f) :=
  View.ld_unit_apply_of x _ _ _ _ _ (fun a => by fin_cases a <;> simp [ix4])
theorem rows3_at (x : Vec Ideal S4x1x704x1024 .bf16) (f : Fin 704) (k : Fin 1024) : rows3 x (ix4 0 0 f k) = x (ix4 3 0 f k) :=
  View.ld_unit_apply_of x _ _ _ _ _ (fun a => by fin_cases a <;> simp [ix4])

section

variable {I : Fwd.In} {R : Fin 16384} {r : Fin 512} {X : Vec Ideal S512x1024 .f32} {j : Fin 4} {G U : Vec Ideal S1x1x1024x704 .bf16}

theorem gate0 (hX : ∀ k, X (ix2 r k) = I.x R k) (hG : ∀ k f, G (ix4 0 0 k f) = I.wg k (col j f)) (f : Fin 704) : k0_pay10 (F := Ideal) X G (ix2 r f) = I.gate R (col j f) := by
  pointwise [k0_pay8, k0_pay10]
  simp only [hX, hG]
  rfl
theorem up0 (hX : ∀ k, X (ix2 r k) = I.x R k) (hU : ∀ k f, U (ix4 0 0 k f) = I.wu k (col j f)) (f : Fin 704) : k0_pay11 (F := Ideal) X U (ix2 r f) = I.up R (col j f) := by
  pointwise [k0_pay8, k0_pay11]
  simp only [hX, hU]
  rfl
theorem act0 (hX : ∀ k, X (ix2 r k) = I.x R k) (hG : ∀ k f, G (ix4 0 0 k f) = I.wg k (col j f)) (f : Fin 704) : k0_pay14 (F := Ideal) X G (ix3 0 r f) = I.act R (col j f) := by
  pointwise [k0_pay14, k0_pay13, k0_pay12]
  rw [gate0 hX hG]
  rfl
theorem bm0 (hX : ∀ k, X (ix2 r k) = I.x R k) (hG : ∀ k f, G (ix4 0 0 k f) = I.wg k (col j f)) (hU : ∀ k f, U (ix4 0 0 k f) = I.wu k (col j f)) (f : Fin 704) : k0_pay15 (F := Ideal) X G U (ix3 0 r f) = I.bm R (col j f) := by
  pointwise [k0_pay15, k0_pay12]
  rw [gate0 hX hG, up0 hX hU]
  rfl
theorem hid0 (hX : ∀ k, X (ix2 r k) = I.x R k) (hG : ∀ k f, G (ix4 0 0 k f) = I.wg k (col j f)) (hU : ∀ k f, U (ix4 0 0 k f) = I.wu k (col j f)) (f : Fin 704) : k0_pay16 (F := Ideal) X G U (ix2 r f) = I.hid R (col j f) := by
  pointwise [k0_pay16, k0_pay13, k0_pay12]
  rw [gate0 hX hG, up0 hX hU]
  rfl
theorem hm0 (hX : ∀ k, X (ix2 r k) = I.x R k) (hG : ∀ k f, G (ix4 0 0 k f) = I.wg k (col j f)) (hU : ∀ k f, U (ix4 0 0 k f) = I.wu k (col j f)) (f : Fin 704) : k0_pay17 (k0_pay16 X G U) (ix3 0 r f) = I.hid R (col j f) := by
  rw [← hid0 hX hG hU]
  pointwise [k0_pay17]

theorem gate1 (hX : ∀ k, X (ix2 r k) = I.x R k) (hG : ∀ k f, G (ix4 0 0 k f) = I.wg k (col j f)) (f : Fin 704) : k0_pay19 (F := Ideal) (k0_pay8 X) G (ix2 r f) = I.gate R (col j f) := by
  pointwise [k0_pay8, k0_pay19]
  simp only [hX, hG]
  rfl
theorem up1 (hX : ∀ k, X (ix2 r k) = I.x R k) (hU : ∀ k f, U (ix4 0 0 k f) = I.wu k (col j f)) (f : Fin 704) : k0_pay20 (F := Ideal) (k0_pay8 X) U (ix2 r f) = I.up R (col j f) := by
  pointwise [k0_pay8, k0_pay20]
  simp only [hX, hU]
  rfl
theorem act1 (hX : ∀ k, X (ix2 r k) = I.x R k) (hG : ∀ k f, G (ix4 0 0 k f) = I.wg k (col j f)) (f : Fin 704) : k0_pay23 (F := Ideal) (k0_pay8 X) G (ix3 0 r f) = I.act R (col j f) := by
  pointwise [k0_pay23, k0_pay22, k0_pay21]
  rw [gate1 hX hG]
  rfl
theorem bm1 (hX : ∀ k, X (ix2 r k) = I.x R k) (hG : ∀ k f, G (ix4 0 0 k f) = I.wg k (col j f)) (hU : ∀ k f, U (ix4 0 0 k f) = I.wu k (col j f)) (f : Fin 704) : k0_pay24 (F := Ideal) (k0_pay8 X) G U (ix3 0 r f) = I.bm R (col j f) := by
  pointwise [k0_pay24, k0_pay21]
  rw [gate1 hX hG, up1 hX hU]
  rfl
theorem hid1 (hX : ∀ k, X (ix2 r k) = I.x R k) (hG : ∀ k f, G (ix4 0 0 k f) = I.wg k (col j f)) (hU : ∀ k f, U (ix4 0 0 k f) = I.wu k (col j f)) (f : Fin 704) : k0_pay25 (F := Ideal) (k0_pay8 X) G U (ix2 r f) = I.hid R (col j f) := by
  pointwise [k0_pay25, k0_pay22, k0_pay21]
  rw [gate1 hX hG, up1 hX hU]
  rfl
theorem hm1 (hX : ∀ k, X (ix2 r k) = I.x R k) (hG : ∀ k f, G (ix4 0 0 k f) = I.wg k (col j f)) (hU : ∀ k f, U (ix4 0 0 k f) = I.wu k (col j f)) (f : Fin 704) : k0_pay26 (k0_pay25 (k0_pay8 X) G U) (ix3 0 r f) = I.hid R (col j f) := by
  rw [← hid1 hX hG hU]
  pointwise [k0_pay26]

theorem gate2 (hX : ∀ k, X (ix2 r k) = I.x R k) (hG : ∀ k f, G (ix4 0 0 k f) = I.wg k (col j f)) (f : Fin 704) : k0_pay28 (F := Ideal) (k0_pay8 X) G (ix2 r f) = I.gate R (col j f) := by
  pointwise [k0_pay8, k0_pay28]
  simp only [hX, hG]
  rfl
theorem up2 (hX : ∀ k, X (ix2 r k) = I.x R k) (hU : ∀ k f, U (ix4 0 0 k f) = I.wu k (col j f)) (f : Fin 704) : k0_pay29 (F := Ideal) (k0_pay8 X) U (ix2 r f) = I.up R (col j f) := by
  pointwise [k0_pay8, k0_pay29]
  simp only [hX, hU]
  rfl
theorem act2 (hX : ∀ k, X (ix2 r k) = I.x R k) (hG : ∀ k f, G (ix4 0 0 k f) = I.wg k (col j f)) (f : Fin 704) : k0_pay32 (F := Ideal) (k0_pay8 X) G (ix3 0 r f) = I.act R (col j f) := by
  pointwise [k0_pay32, k0_pay31, k0_pay30]
  rw [gate2 hX hG]
  rfl
theorem bm2 (hX : ∀ k, X (ix2 r k) = I.x R k) (hG : ∀ k f, G (ix4 0 0 k f) = I.wg k (col j f)) (hU : ∀ k f, U (ix4 0 0 k f) = I.wu k (col j f)) (f : Fin 704) : k0_pay33 (F := Ideal) (k0_pay8 X) G U (ix3 0 r f) = I.bm R (col j f) := by
  pointwise [k0_pay33, k0_pay30]
  rw [gate2 hX hG, up2 hX hU]
  rfl
theorem hid2 (hX : ∀ k, X (ix2 r k) = I.x R k) (hG : ∀ k f, G (ix4 0 0 k f) = I.wg k (col j f)) (hU : ∀ k f, U (ix4 0 0 k f) = I.wu k (col j f)) (f : Fin 704) : k0_pay34 (F := Ideal) (k0_pay8 X) G U (ix2 r f) = I.hid R (col j f) := by
  pointwise [k0_pay34, k0_pay31, k0_pay30]
  rw [gate2 hX hG, up2 hX hU]
  rfl
theorem hm2 (hX : ∀ k, X (ix2 r k) = I.x R k) (hG : ∀ k f, G (ix4 0 0 k f) = I.wg k (col j f)) (hU : ∀ k f, U (ix4 0 0 k f) = I.wu k (col j f)) (f : Fin 704) : k0_pay35 (k0_pay34 (k0_pay8 X) G U) (ix3 0 r f) = I.hid R (col j f) := by
  rw [← hid2 hX hG hU]
  pointwise [k0_pay35]

theorem gate3 (hX : ∀ k, X (ix2 r k) = I.x R k) (hG : ∀ k f, G (ix4 0 0 k f) = I.wg k (col j f)) (f : Fin 704) : k0_pay37 (F := Ideal) (k0_pay8 X) G (ix2 r f) = I.gate R (col j f) := by
  pointwise [k0_pay8, k0_pay37]
  simp only [hX, hG]
  rfl
theorem up3 (hX : ∀ k, X (ix2 r k) = I.x R k) (hU : ∀ k f, U (ix4 0 0 k f) = I.wu k (col j f)) (f : Fin 704) : k0_pay38 (F := Ideal) (k0_pay8 X) U (ix2 r f) = I.up R (col j f) := by
  pointwise [k0_pay8, k0_pay38]
  simp only [hX, hU]
  rfl
theorem act3 (hX : ∀ k, X (ix2 r k) = I.x R k) (hG : ∀ k f, G (ix4 0 0 k f) = I.wg k (col j f)) (f : Fin 704) : k0_pay41 (F := Ideal) (k0_pay8 X) G (ix3 0 r f) = I.act R (col j f) := by
  pointwise [k0_pay41, k0_pay40, k0_pay39]
  rw [gate3 hX hG]
  rfl
theorem bm3 (hX : ∀ k, X (ix2 r k) = I.x R k) (hG : ∀ k f, G (ix4 0 0 k f) = I.wg k (col j f)) (hU : ∀ k f, U (ix4 0 0 k f) = I.wu k (col j f)) (f : Fin 704) : k0_pay42 (F := Ideal) (k0_pay8 X) G U (ix3 0 r f) = I.bm R (col j f) := by
  pointwise [k0_pay42, k0_pay39]
  rw [gate3 hX hG, up3 hX hU]
  rfl
theorem hid3 (hX : ∀ k, X (ix2 r k) = I.x R k) (hG : ∀ k f, G (ix4 0 0 k f) = I.wg k (col j f)) (hU : ∀ k f, U (ix4 0 0 k f) = I.wu k (col j f)) (f : Fin 704) : k0_pay43 (F := Ideal) (k0_pay8 X) G U (ix2 r f) = I.hid R (col j f) := by
  pointwise [k0_pay43, k0_pay40, k0_pay39]
  rw [gate3 hX hG, up3 hX hU]
  rfl
theorem hm3 (hX : ∀ k, X (ix2 r k) = I.x R k) (hG : ∀ k f, G (ix4 0 0 k f) = I.wg k (col j f)) (hU : ∀ k f, U (ix4 0 0 k f) = I.wu k (col j f)) (f : Fin 704) : k0_pay45 (k0_pay43 (k0_pay8 X) G U) (ix3 0 r f) = I.hid R (col j f) := by
  rw [← hid3 hX hG hU]
  pointwise [k0_pay45, k0_pay44]

/-- The residual sum of the sub-layer: the chips' products, added in order. -/
theorem z_parts (hX : ∀ k, X (ix2 r k) = I.x R k) {G0 G1 G2 G3 U0 U1 U2 U3 : Vec Ideal S1x1x1024x704 .bf16} {D0 D1 D2 D3 : Vec Ideal S1x1x704x1024 .bf16}
    (hG0 : ∀ k f, G0 (ix4 0 0 k f) = I.wg k (col 0 f)) (hU0 : ∀ k f, U0 (ix4 0 0 k f) = I.wu k (col 0 f))
    (hD0 : ∀ f k, D0 (ix4 0 0 f k) = I.wd (col 0 f) k)
    (hG1 : ∀ k f, G1 (ix4 0 0 k f) = I.wg k (col 1 f)) (hU1 : ∀ k f, U1 (ix4 0 0 k f) = I.wu k (col 1 f))
    (hD1 : ∀ f k, D1 (ix4 0 0 f k) = I.wd (col 1 f) k)
    (hG2 : ∀ k f, G2 (ix4 0 0 k f) = I.wg k (col 2 f)) (hU2 : ∀ k f, U2 (ix4 0 0 k f) = I.wu k (col 2 f))
    (hD2 : ∀ f k, D2 (ix4 0 0 f k) = I.wd (col 2 f) k)
    (hG3 : ∀ k f, G3 (ix4 0 0 k f) = I.wg k (col 3 f)) (hU3 : ∀ k f, U3 (ix4 0 0 k f) = I.wu k (col 3 f))
    (hD3 : ∀ f k, D3 (ix4 0 0 f k) = I.wd (col 3 f) k)
    (k : Fin 1024) :
    Ideal.ofBits .f32 0x3FB504F3#32 * X (ix2 r k) + ((k0_pay36 (k0_pay27 (k0_pay18 (k0_pay9 (F := Ideal)) (k0_pay16 X G0 U0) D0) (k0_pay25 (k0_pay8 X) G1 U1) D1) (k0_pay34 (k0_pay8 X) G2 U2) D2) (ix2 r k) + ∑ f, (k0_pay43 (k0_pay8 X) G3 U3) (ix2 r f) * D3 (ix4 0 0 f k))
      = I.z R k := by
  pointwise [k0_pay36, k0_pay27, k0_pay18, k0_pay9]
  simp only [hX, hid0 hX hG0 hU0, hid1 hX hG1 hU1, hid2 hX hG2 hU2, hid3 hX hG3 hU3, hD0, hD1, hD2, hD3]
  unfold Fwd.In.z
  rw [← sum_chips]

end

section

variable {X A : Vec Ideal S512x1024 .f32} {B : Vec Ideal S512x704 .f32} {D : Vec Ideal S1x1x704x1024 .bf16} {r : Fin 512} {Z : Fin 1024 → ℝ}
  (hz : ∀ k, Ideal.ofBits .f32 0x3FB504F3#32 * X (ix2 r k) + (A (ix2 r k) + ∑ f, B (ix2 r f) * D (ix4 0 0 f k)) = (Z k : EReal))

include hz

theorem cen_row (k : Fin 1024) : k0_pay46 X A B D (ix2 r k) = (Ffn.cen Z k : EReal) := by
  pointwise [k0_pay46, k0_pay44]
  simp only [hz, coe_sum, ofBits_1024, div_1024, ← EReal.coe_sub]
  rfl

theorem rstd_row : k0_pay47 X A B D (ix2 r 0) = (Ffn.rstd Z : EReal) := by
  pointwise [k0_pay47]
  simp only [cen_row hz, coe_sum, ofBits_1024, ofBits_eps, div_1024, ← EReal.coe_mul, ← EReal.coe_add]
  exact rsqrt_pos (vare_pos Z)

theorem hat_row (k : Fin 1024) : k0_pay48 X A B D (ix2 r k) = (Ffn.hat Z k : EReal) := by
  pointwise [k0_pay48]
  rw [cen_row hz, rstd_row hz, ← EReal.coe_mul]
  rfl

theorem err_row {g b : Vec Ideal S1x1024 .f32} {T : Vec Ideal S512x1024 .f32} {gr br tr : Fin 1024 → ℝ} (hg : ∀ k, g (ix2 0 k) = (gr k : EReal))
    (hb : ∀ k, b (ix2 0 k) = (br k : EReal)) (ht : ∀ k, T (ix2 r k) = (tr k : EReal)) (k : Fin 1024) :
    k0_pay50 X A B D g b T (ix2 r k) = ((Ffn.hat Z k * gr k + br k - tr k : ℝ) : EReal) := by
  pointwise [k0_pay50, k0_pay49]
  rw [hat_row hz, hg, hb, ht, ← EReal.coe_mul, ← EReal.coe_add, ← EReal.coe_sub]

end

theorem pay49_at (g : Vec Ideal S1x1024 .f32) (k : Fin 1024) : k0_pay49 g (ix2 0 k) = g (ix2 0 k) := by
  pointwise [k0_pay49]

theorem pay1_row {rs : Vec Ideal S512x1 .f32} {h e : Vec Ideal S512x1024 .f32} {g : Vec Ideal S1x1024 .f32} {r : Fin 512} {Z E gr : Fin 1024 → ℝ}
    (hr : rs (ix2 r 0) = (Ffn.rstd Z : EReal)) (hh : ∀ k, h (ix2 r k) = (Ffn.hat Z k : EReal)) (he : ∀ k, e (ix2 r k) = (E k : EReal))
    (hg : ∀ k, g (ix2 0 k) = (gr k : EReal)) (k : Fin 1024) :
    k0_pay1 rs h (k0_pay56 (k0_pay49 g) e) (k0_pay57 h (k0_pay49 g) e) (ix2 r k)
      = (lnb Z (fun k => E k * (1 / 1024) * gr k) k : EReal) := by
  pointwise [k0_pay1, k0_pay56, k0_pay57, k0_pay55, k0_pay52, k0_pay49]
  simp only [hr, hh, he, hg, ofBits_inv1024, coe_sum, ofBits_1024, div_1024, ← EReal.coe_mul, ← EReal.coe_sub]
  rfl

theorem pay53_at (h e : Vec Ideal S512x1024 .f32) (a : Vec Ideal S8x1024 .f32) (i : Fin 8) (k : Fin 1024) :
    k0_pay53 h e a (ix2 i k) = a (ix2 i k) + ∑ x : Fin 64, e (ix2 ⟨x.val * 8 + i.val, by omega⟩ k) * Ideal.ofBits .f32 0x3A800000#32
      * h (ix2 ⟨x.val * 8 + i.val, by omega⟩ k) := by
  pointwise [k0_pay53, k0_pay52]

theorem pay54_at (e : Vec Ideal S512x1024 .f32) (a : Vec Ideal S8x1024 .f32) (i : Fin 8) (k : Fin 1024) :
    k0_pay54 e a (ix2 i k) = a (ix2 i k) + ∑ x : Fin 64, e (ix2 ⟨x.val * 8 + i.val, by omega⟩ k) * Ideal.ofBits .f32 0x3A800000#32 := by
  pointwise [k0_pay54, k0_pay52]

theorem pay51_at (e : Vec Ideal S512x1024 .f32) (a : Vec Ideal S8x1024 .f32) (i : Fin 8) (k : Fin 1024) :
    k0_pay51 e a (ix2 i k) = a (ix2 i k) + ∑ x : Fin 64, e (ix2 ⟨x.val * 8 + i.val, by omega⟩ k) * e (ix2 ⟨x.val * 8 + i.val, by omega⟩ k) := by
  pointwise [k0_pay51]

theorem pay2_at (a : Vec Ideal S8x1024 .f32) (k : Fin 1024) : k0_pay2 a (ix2 0 k) = ∑ i : Fin 8, a (ix2 i k) := by
  pointwise [k0_pay2]
theorem pay3_at (a : Vec Ideal S8x1024 .f32) (k : Fin 1024) : k0_pay3 a (ix2 0 k) = ∑ i : Fin 8, a (ix2 i k) := by
  pointwise [k0_pay3]
theorem pay4_at (a : Vec Ideal S8x1024 .f32) : k0_pay4 a (ix2 0 0) = (∑ i : Fin 8, ∑ k : Fin 1024, a (ix2 i k)) * Ideal.ofBits .f32 0x3A000000#32 := by
  pointwise [k0_pay4]
theorem pay5_at (i : S8x1024.Idx) : k0_pay5 (F := Ideal) i = 0 := by
  pointwise [k0_pay5]
theorem pay6_at (i : S8x1024.Idx) : k0_pay6 (F := Ideal) i = 0 := by
  pointwise [k0_pay6]
theorem pay7_at (i : S8x1024.Idx) : k0_pay7 (F := Ideal) i = 0 := by
  pointwise [k0_pay7]

end Cert.Kernel10Ideal.Gen

end
-- ==== Proof.LossArrays.lean ====
module

public import proofs.«01_k».proof.Proof.LossPay
public import proofs.«01_k».proof.Proof.Gen.Kernel10Ideal.Value

/-! # The loss kernel's seven result arrays, entry by entry -/

@[expose] public section

noncomputable section

namespace Cert.Kernel10Ideal.Gen

open Idealize.ShloMosaic Idealize.ShloMosaic.TcCoe Idealize.SL.Sem Cert.Loss Cert.Kernel10Ideal.Value
open Cert.Ffn (row col coe_sum part part_row sum_part)

/-- The tile number of a point of the grid. -/
def tile (t : Fin cfg0.N) : Fin 32 := ⟨t.val, lt_of_lt_of_eq t.isLt N_0⟩

theorem idx0_0 : ∀ t : Fin cfg0.N, win0_0.index t = ![t.val, 0] := by decide +kernel
theorem idx0_1 : ∀ t : Fin cfg0.N, win0_1.index t = ![0, 1, 0, 0] := by decide +kernel
theorem idx0_2 : ∀ t : Fin cfg0.N, win0_2.index t = ![0, 1, 0, 0] := by decide +kernel
theorem idx0_3 : ∀ t : Fin cfg0.N, win0_3.index t = ![0, 1, 0, 0] := by decide +kernel
theorem idx0_4 : ∀ t : Fin cfg0.N, win0_4.index t = ![0, 0] := by decide +kernel
theorem idx0_5 : ∀ t : Fin cfg0.N, win0_5.index t = ![0, 0] := by decide +kernel
theorem idx0_6 : ∀ t : Fin cfg0.N, win0_6.index t = ![t.val, 0] := by decide +kernel

/-- The place in chip `J`'s tile of an entry of the block. -/
theorem place {j : Fin 4} {r : Fin 512} {f : Fin 704} (J : Fin 4) (x : S1x512x704.Idx) (h0 : j.val = J.val + (x 0).val)
    (h1 : r.val = (x 1).val) (h2 : f.val = (x 2).val) : j = J ∧ x = ix3 0 r f := by
  have hx : (x 0).val < 1 := (x 0).isLt
  refine ⟨Fin.ext (by omega), (eq_ix3 x).trans ?_⟩
  rw [show x 0 = (0 : Fin 1) from Fin.ext (by show (x 0).val = 0; omega), show x 1 = r from Fin.ext h1.symm,
    show x 2 = f from Fin.ext h2.symm]

theorem part_tile (f : Fin 16384 → ℝ) (a : Fin 8) (t : Fin cfg0.N) :
    part f a t.val = ∑ x : Fin 64, f (row (tile t) ⟨x.val * 8 + a.val, by omega⟩) := part_row f a (tile t)

variable (m : (ℓ : Loc nD τ sig) → Buf (Elt Ideal) ℓ) (c : Dev nD)

/-- The kernel's arguments but the target, the weights at the last layer. -/
def inp : Fwd.In where
  x t k := (m (c, Proc.tc.devRef main_arg0) : Vec Ideal S16384x1024 .f32) (ix2 t k)
  wg k f := (m (c, Proc.tc.devRef main_arg1) : Vec Ideal S2x1024x2816 .f32) (ix3 1 k f)
  wu k f := (m (c, Proc.tc.devRef main_arg2) : Vec Ideal S2x1024x2816 .f32) (ix3 1 k f)
  wd f k := (m (c, Proc.tc.devRef main_arg3) : Vec Ideal S2x2816x1024 .f32) (ix3 1 f k)
  g k := (m (c, Proc.tc.devRef main_arg4) : Vec Ideal S1024 .f32) (ix1 k)
  b k := (m (c, Proc.tc.devRef main_arg5) : Vec Ideal S1024 .f32) (ix1 k)

/-- The kernel's arguments hold the real numbers of `I`. -/
structure HoldsAt (I : In) : Prop where
  fwd : inp m c = I.up'
  tg : ∀ t k, (m (c, Proc.tc.devRef main_arg6) : Vec Ideal S16384x1024 .f32) (ix2 t k) = (I.tg t k : EReal)

/-! ## The host code's arrays and the blocks of a tile -/

theorem V_wg (j : Fin 4) (k : Fin 1024) (f : Fin 704) : (V m c main_v2 : Vec Ideal S4x2x1024x704 .bf16) (ix4 j 1 k f) = (inp m c).wg k (col j f) := by
  entry_read
  pointwise
  rfl

theorem V_wu (j : Fin 4) (k : Fin 1024) (f : Fin 704) : (V m c main_v5 : Vec Ideal S4x2x1024x704 .bf16) (ix4 j 1 k f) = (inp m c).wu k (col j f) := by
  entry_read
  pointwise
  rfl

theorem V_wd (j : Fin 4) (f : Fin 704) (k : Fin 1024) : (V m c main_v8 : Vec Ideal S4x2x704x1024 .bf16) (ix4 j 1 f k) = (inp m c).wd (col j f) k := by
  entry_read
  pointwise
  rfl

theorem V_g (k : Fin 1024) : (V m c main_v9 : Vec Ideal S1x1024 .f32) (ix2 0 k) = (inp m c).g k := by
  entry_read
  pointwise
  rfl

theorem V_b (k : Fin 1024) : (V m c main_v10 : Vec Ideal S1x1024 .f32) (ix2 0 k) = (inp m c).b k := by
  entry_read
  pointwise
  rfl

variable (t : Fin cfg0.N)

theorem blk_x (r : Fin 512) (k : Fin 1024) : (iblk m c 0 t : Vec Ideal S512x1024 .f32) (ix2 r k) = (inp m c).x (row (tile t) r) k := by
  unfold inp
  dsimp only
  blk_ext! [iblk, V, idx0_0 t, tile, row]

theorem blk_tg (r : Fin 512) (k : Fin 1024) : (iblk m c 6 t : Vec Ideal S512x1024 .f32) (ix2 r k)
    = (m (c, Proc.tc.devRef main_arg6) : Vec Ideal S16384x1024 .f32) (ix2 (row (tile t) r) k) := by
  blk_ext! [iblk, V, idx0_6 t, tile, row]

theorem blk_wg (j : Fin 4) (k : Fin 1024) (f : Fin 704) : (iblk m c 1 t : Vec Ideal S4x1x1024x704 .bf16) (ix4 j 0 k f) = (inp m c).wg k (col j f) := by
  rw [← V_wg]
  unfold iblk
  generalize V m c main_v2 = X
  blk_ext! [idx0_1 t]

theorem blk_wu (j : Fin 4) (k : Fin 1024) (f : Fin 704) : (iblk m c 2 t : Vec Ideal S4x1x1024x704 .bf16) (ix4 j 0 k f) = (inp m c).wu k (col j f) := by
  rw [← V_wu]
  unfold iblk
  generalize V m c main_v5 = X
  blk_ext! [idx0_2 t]

theorem blk_wd (j : Fin 4) (f : Fin 704) (k : Fin 1024) : (iblk m c 3 t : Vec Ideal S4x1x704x1024 .bf16) (ix4 j 0 f k) = (inp m c).wd (col j f) k := by
  rw [← V_wd]
  unfold iblk
  generalize V m c main_v8 = X
  blk_ext! [idx0_3 t]

theorem blk_g (k : Fin 1024) : (iblk m c 4 t : Vec Ideal S1x1024 .f32) (ix2 0 k) = (inp m c).g k := by
  rw [← V_g]
  unfold iblk
  generalize V m c main_v9 = X
  blk_ext! [idx0_4 t]

theorem blk_b (k : Fin 1024) : (iblk m c 5 t : Vec Ideal S1x1024 .f32) (ix2 0 k) = (inp m c).b k := by
  rw [← V_b]
  unfold iblk
  generalize V m c main_v10 = X
  blk_ext! [idx0_5 t]

theorem wg_at0 (k : Fin 1024) (f : Fin 704) : cols0 (iblk m c 1 t) (ix4 0 0 k f) = (inp m c).wg k (col 0 f) := (cols0_at _ k f).trans (blk_wg m c t 0 k f)
theorem wu_at0 (k : Fin 1024) (f : Fin 704) : cols0 (iblk m c 2 t) (ix4 0 0 k f) = (inp m c).wu k (col 0 f) := (cols0_at _ k f).trans (blk_wu m c t 0 k f)
theorem wd_at0 (f : Fin 704) (k : Fin 1024) : rows0 (iblk m c 3 t) (ix4 0 0 f k) = (inp m c).wd (col 0 f) k := (rows0_at _ f k).trans (blk_wd m c t 0 f k)
theorem wg_at1 (k : Fin 1024) (f : Fin 704) : cols1 (iblk m c 1 t) (ix4 0 0 k f) = (inp m c).wg k (col 1 f) := (cols1_at _ k f).trans (blk_wg m c t 1 k f)
theorem wu_at1 (k : Fin 1024) (f : Fin 704) : cols1 (iblk m c 2 t) (ix4 0 0 k f) = (inp m c).wu k (col 1 f) := (cols1_at _ k f).trans (blk_wu m c t 1 k f)
theorem wd_at1 (f : Fin 704) (k : Fin 1024) : rows1 (iblk m c 3 t) (ix4 0 0 f k) = (inp m c).wd (col 1 f) k := (rows1_at _ f k).trans (blk_wd m c t 1 f k)
theorem wg_at2 (k : Fin 1024) (f : Fin 704) : cols2 (iblk m c 1 t) (ix4 0 0 k f) = (inp m c).wg k (col 2 f) := (cols2_at _ k f).trans (blk_wg m c t 2 k f)
theorem wu_at2 (k : Fin 1024) (f : Fin 704) : cols2 (iblk m c 2 t) (ix4 0 0 k f) = (inp m c).wu k (col 2 f) := (cols2_at _ k f).trans (blk_wu m c t 2 k f)
theorem wd_at2 (f : Fin 704) (k : Fin 1024) : rows2 (iblk m c 3 t) (ix4 0 0 f k) = (inp m c).wd (col 2 f) k := (rows2_at _ f k).trans (blk_wd m c t 2 f k)
theorem wg_at3 (k : Fin 1024) (f : Fin 704) : cols3 (iblk m c 1 t) (ix4 0 0 k f) = (inp m c).wg k (col 3 f) := (cols3_at _ k f).trans (blk_wg m c t 3 k f)
theorem wu_at3 (k : Fin 1024) (f : Fin 704) : cols3 (iblk m c 2 t) (ix4 0 0 k f) = (inp m c).wu k (col 3 f) := (cols3_at _ k f).trans (blk_wu m c t 3 k f)
theorem wd_at3 (f : Fin 704) (k : Fin 1024) : rows3 (iblk m c 3 t) (ix4 0 0 f k) = (inp m c).wd (col 3 f) k := (rows3_at _ f k).trans (blk_wd m c t 3 f k)

/-! ## The body at a tile -/

theorem act_blk (j : Fin 4) (r : Fin 512) (f : Fin 704) :
    View.canon (actL (iblk m c 0 t) (iblk m c 1 t)) (ix3 j r f) = (inp m c).act (row (tile t) r) (col j f) := by
  unfold actL
  canon_tiles
  · obtain ⟨rfl, rfl⟩ := place 3 x h0 h1 h2
    exact act3 (blk_x m c t r) (wg_at3 m c t) f
  · obtain ⟨rfl, rfl⟩ := place 2 x h0 h1 h2
    exact act2 (blk_x m c t r) (wg_at2 m c t) f
  · obtain ⟨rfl, rfl⟩ := place 1 x h0 h1 h2
    exact act1 (blk_x m c t r) (wg_at1 m c t) f
  · obtain ⟨rfl, rfl⟩ := place 0 x (h0.trans (Nat.zero_add _).symm) h1 h2
    exact act0 (blk_x m c t r) (wg_at0 m c t) f

theorem bm_blk (j : Fin 4) (r : Fin 512) (f : Fin 704) :
    View.canon (bmL (iblk m c 0 t) (iblk m c 1 t) (iblk m c 2 t)) (ix3 j r f) = (inp m c).bm (row (tile t) r) (col j f) := by
  unfold bmL
  canon_tiles
  · obtain ⟨rfl, rfl⟩ := place 3 x h0 h1 h2
    exact bm3 (blk_x m c t r) (wg_at3 m c t) (wu_at3 m c t) f
  · obtain ⟨rfl, rfl⟩ := place 2 x h0 h1 h2
    exact bm2 (blk_x m c t r) (wg_at2 m c t) (wu_at2 m c t) f
  · obtain ⟨rfl, rfl⟩ := place 1 x h0 h1 h2
    exact bm1 (blk_x m c t r) (wg_at1 m c t) (wu_at1 m c t) f
  · obtain ⟨rfl, rfl⟩ := place 0 x (h0.trans (Nat.zero_add _).symm) h1 h2
    exact bm0 (blk_x m c t r) (wg_at0 m c t) (wu_at0 m c t) f

theorem hm_blk (j : Fin 4) (r : Fin 512) (f : Fin 704) :
    View.canon (hmL (iblk m c 0 t) (iblk m c 1 t) (iblk m c 2 t)) (ix3 j r f) = (inp m c).hid (row (tile t) r) (col j f) := by
  unfold hmL
  canon_tiles
  · obtain ⟨rfl, rfl⟩ := place 3 x h0 h1 h2
    exact hm3 (blk_x m c t r) (wg_at3 m c t) (wu_at3 m c t) f
  · obtain ⟨rfl, rfl⟩ := place 2 x h0 h1 h2
    exact hm2 (blk_x m c t r) (wg_at2 m c t) (wu_at2 m c t) f
  · obtain ⟨rfl, rfl⟩ := place 1 x h0 h1 h2
    exact hm1 (blk_x m c t r) (wg_at1 m c t) (wu_at1 m c t) f
  · obtain ⟨rfl, rfl⟩ := place 0 x (h0.trans (Nat.zero_add _).symm) h1 h2
    exact hm0 (blk_x m c t r) (wg_at0 m c t) (wu_at0 m c t) f

variable {m c} {I : In} (H : HoldsAt m c I)

include H

theorem z_blk (r : Fin 512) (k : Fin 1024) :
    Ideal.ofBits .f32 0x3FB504F3#32 * (iblk m c 0 t : Vec Ideal S512x1024 .f32) (ix2 r k) + (accV (iblk m c 0 t) (iblk m c 1 t) (iblk m c 2 t) (iblk m c 3 t) (ix2 r k)
      + ∑ f, hidV (iblk m c 0 t) (iblk m c 1 t) (iblk m c 2 t) (ix2 r f) * rows3 (iblk m c 3 t) (ix4 0 0 f k)) = (I.z (row (tile t) r) k : EReal) := by
  rw [← I.z_up, ← H.fwd]
  exact z_parts (blk_x m c t r) (wg_at0 m c t) (wu_at0 m c t) (wd_at0 m c t) (wg_at1 m c t) (wu_at1 m c t) (wd_at1 m c t) (wg_at2 m c t) (wu_at2 m c t) (wd_at2 m c t) (wg_at3 m c t) (wu_at3 m c t) (wd_at3 m c t) k

theorem g_blk (k : Fin 1024) : (iblk m c 4 t : Vec Ideal S1x1024 .f32) (ix2 0 k) = (I.g k : EReal) := by
  rw [blk_g, H.fwd]; rfl

theorem b_blk (k : Fin 1024) : (iblk m c 5 t : Vec Ideal S1x1024 .f32) (ix2 0 k) = (I.b k : EReal) := by
  rw [blk_b, H.fwd]; rfl

theorem hat_blk (r : Fin 512) (k : Fin 1024) : hatV (iblk m c 0 t) (iblk m c 1 t) (iblk m c 2 t) (iblk m c 3 t) (ix2 r k) = (Ffn.hat (I.z (row (tile t) r)) k : EReal) :=
  hat_row (z_blk t H r) k

theorem err_blk (r : Fin 512) (k : Fin 1024) : errV (iblk m c 0 t) (iblk m c 1 t) (iblk m c 2 t) (iblk m c 3 t) (iblk m c 4 t) (iblk m c 5 t) (iblk m c 6 t) (ix2 r k) = (I.err (row (tile t) r) k : EReal) :=
  err_row (z_blk t H r) (g_blk t H) (b_blk t H) (fun k => (blk_tg m c t r k).trans (H.tg _ k)) k

theorem dz_blk (r : Fin 512) (k : Fin 1024) : dzV (iblk m c 0 t) (iblk m c 1 t) (iblk m c 2 t) (iblk m c 3 t) (iblk m c 4 t) (iblk m c 5 t) (iblk m c 6 t) (ix2 r k) = (I.dz (row (tile t) r) k : EReal) :=
  pay1_row (Z := I.z (row (tile t) r)) (rstd_row (z_blk t H r)) (hat_blk t H r) (err_blk t H r) (g_blk t H) k

omit H

/-! ## What a tile leaves in its row blocks -/

theorem outs_act (j : Fin 4) (r : Fin 512) (f : Fin 704) :
    (outsAt0 m c t.val t.isLt).1 (ix3 j r f) = (inp m c).act (row (tile t) r) (col j f) := by
  have hN := lt_of_lt_of_eq t.isLt (show cfg0.N = 32 from N_0)
  by_cases h0 : t.val % 32 = 0
  · rw [outsAt0_A m c t h0 (by omega)]; dsimp only; rw [out_A_7]; exact act_blk m c t j r f
  · by_cases h1 : t.val % 32 = 31
    · rw [outsAt0_C m c t h0 h1]; dsimp only; rw [out_C_7]; exact act_blk m c t j r f
    · rw [outsAt0_B m c t h0 h1]; dsimp only; rw [out_B_7]; exact act_blk m c t j r f

theorem outs_bm (j : Fin 4) (r : Fin 512) (f : Fin 704) :
    (outsAt0 m c t.val t.isLt).2.1 (ix3 j r f) = (inp m c).bm (row (tile t) r) (col j f) := by
  have hN := lt_of_lt_of_eq t.isLt (show cfg0.N = 32 from N_0)
  by_cases h0 : t.val % 32 = 0
  · rw [outsAt0_A m c t h0 (by omega)]; dsimp only; rw [out_A_8]; exact bm_blk m c t j r f
  · by_cases h1 : t.val % 32 = 31
    · rw [outsAt0_C m c t h0 h1]; dsimp only; rw [out_C_8]; exact bm_blk m c t j r f
    · rw [outsAt0_B m c t h0 h1]; dsimp only; rw [out_B_8]; exact bm_blk m c t j r f

theorem outs_hm (j : Fin 4) (r : Fin 512) (f : Fin 704) :
    (outsAt0 m c t.val t.isLt).2.2.1 (ix3 j r f) = (inp m c).hid (row (tile t) r) (col j f) := by
  have hN := lt_of_lt_of_eq t.isLt (show cfg0.N = 32 from N_0)
  by_cases h0 : t.val % 32 = 0
  · rw [outsAt0_A m c t h0 (by omega)]; dsimp only; rw [out_A_9]; exact hm_blk m c t j r f
  · by_cases h1 : t.val % 32 = 31
    · rw [outsAt0_C m c t h0 h1]; dsimp only; rw [out_C_9]; exact hm_blk m c t j r f
    · rw [outsAt0_B m c t h0 h1]; dsimp only; rw [out_B_9]; exact hm_blk m c t j r f

theorem outs_dz (H : HoldsAt m c I) (r : Fin 512) (k : Fin 1024) :
    (outsAt0 m c t.val t.isLt).2.2.2.1 (ix2 r k) = (I.dz (row (tile t) r) k : EReal) := by
  have hN := lt_of_lt_of_eq t.isLt (show cfg0.N = 32 from N_0)
  by_cases h0 : t.val % 32 = 0
  · rw [outsAt0_A m c t h0 (by omega)]; dsimp only; rw [out_A_10]; exact dz_blk t H r k
  · by_cases h1 : t.val % 32 = 31
    · rw [outsAt0_C m c t h0 h1]; dsimp only; rw [out_C_10]; exact dz_blk t H r k
    · rw [outsAt0_B m c t h0 h1]; dsimp only; rw [out_B_10]; exact dz_blk t H r k

/-! ## The three accumulators -/

include H

theorem step_g (s : Vec Ideal S8x1024 .f32) (a : Fin 8) (k : Fin 1024) (v : ℝ) (hs : s (ix2 a k) = (v : EReal)) :
    k0_pay53 (hatV (iblk m c 0 t) (iblk m c 1 t) (iblk m c 2 t) (iblk m c 3 t)) (errV (iblk m c 0 t) (iblk m c 1 t) (iblk m c 2 t) (iblk m c 3 t) (iblk m c 4 t) (iblk m c 5 t) (iblk m c 6 t)) s (ix2 a k)
      = ((v + part (fun t => I.dy t k * Ffn.hat (I.z t) k) a t.val : ℝ) : EReal) := by
  rw [pay53_at, hs, part_tile]
  simp only [err_blk t H, hat_blk t H, ofBits_inv1024, ← EReal.coe_mul, coe_sum, ← EReal.coe_add]
  rfl

theorem step_b (s : Vec Ideal S8x1024 .f32) (a : Fin 8) (k : Fin 1024) (v : ℝ) (hs : s (ix2 a k) = (v : EReal)) :
    k0_pay54 (errV (iblk m c 0 t) (iblk m c 1 t) (iblk m c 2 t) (iblk m c 3 t) (iblk m c 4 t) (iblk m c 5 t) (iblk m c 6 t)) s (ix2 a k) = ((v + part (fun t => I.dy t k) a t.val : ℝ) : EReal) := by
  rw [pay54_at, hs, part_tile]
  simp only [err_blk t H, ofBits_inv1024, ← EReal.coe_mul, coe_sum, ← EReal.coe_add]
  rfl

theorem step_l (s : Vec Ideal S8x1024 .f32) (a : Fin 8) (k : Fin 1024) (v : ℝ) (hs : s (ix2 a k) = (v : EReal)) :
    k0_pay51 (errV (iblk m c 0 t) (iblk m c 1 t) (iblk m c 2 t) (iblk m c 3 t) (iblk m c 4 t) (iblk m c 5 t) (iblk m c 6 t)) s (ix2 a k) = ((v + part (fun t => I.err t k * I.err t k) a t.val : ℝ) : EReal) := by
  rw [pay51_at, hs, part_tile]
  simp only [err_blk t H, ← EReal.coe_mul, coe_sum, ← EReal.coe_add]

/-- After tile `n` each accumulator holds, at row `a`, the sum over the tiles so far of their rows that are `a` modulo 8. -/
theorem accs : ∀ (n : ℕ) (hn : n < cfg0.N) (a : Fin 8) (k : Fin 1024),
    (outsAt0 m c n hn).2.2.2.2.2.2.2.1 (ix2 a k) = ((∑ i ∈ Finset.range (n + 1), part (fun t => I.dy t k * Ffn.hat (I.z t) k) a i : ℝ) : EReal)
    ∧ (outsAt0 m c n hn).2.2.2.2.2.2.2.2.1 (ix2 a k) = ((∑ i ∈ Finset.range (n + 1), part (fun t => I.dy t k) a i : ℝ) : EReal)
    ∧ (outsAt0 m c n hn).2.2.2.2.2.2.2.2.2 (ix2 a k) = ((∑ i ∈ Finset.range (n + 1), part (fun t => I.err t k * I.err t k) a i : ℝ) : EReal)
  | 0, hn, a, k => by
    have e := outsAt0_A m c ⟨0, hn⟩ (Nat.zero_mod _) (fun h => by dsimp only at h; omega)
    dsimp only at e
    rw [e]
    dsimp only
    rw [sout_A_0, sout_A_1, sout_A_2, step_g ⟨0, hn⟩ H _ a k 0 (pay5_at _), step_b ⟨0, hn⟩ H _ a k 0 (pay6_at _),
      step_l ⟨0, hn⟩ H _ a k 0 (pay7_at _)]
    simp only [zero_add, Finset.sum_range_one, and_self]
  | n + 1, hn, a, k => by
    obtain ⟨e0, e1, e2⟩ := accs n (Nat.lt_of_succ_lt hn) a k
    have hN := lt_of_lt_of_eq hn (show cfg0.N = 32 from N_0)
    rw [Finset.sum_range_succ _ (n + 1), Finset.sum_range_succ _ (n + 1), Finset.sum_range_succ _ (n + 1)]
    by_cases h1 : (n + 1) % 32 = 31
    · have e := outsAt0_C m c ⟨n + 1, hn⟩ (by dsimp only; omega) h1
      dsimp only at e
      rw [e]
      dsimp only
      rw [sout_C_0, sout_C_1, sout_C_2]
      exact ⟨step_g ⟨n + 1, hn⟩ H _ a k _ e0, step_b ⟨n + 1, hn⟩ H _ a k _ e1, step_l ⟨n + 1, hn⟩ H _ a k _ e2⟩
    · have e := outsAt0_B m c ⟨n + 1, hn⟩ (by dsimp only; omega) h1
      dsimp only at e
      rw [e]
      dsimp only
      rw [sout_B_0, sout_B_1, sout_B_2]
      exact ⟨step_g ⟨n + 1, hn⟩ H _ a k _ e0, step_b ⟨n + 1, hn⟩ H _ a k _ e1, step_l ⟨n + 1, hn⟩ H _ a k _ e2⟩

omit H in
/-- After the last tile the three totals are the accumulators' sums. -/
theorem last_totals (t : Fin cfg0.N) (h0 : ¬t.val % 32 = 0) (h1 : t.val % 32 = 31) :
    (outsAt0 m c t.val t.isLt).2.2.2.2.1 = k0_pay2 (F := Ideal) (outsAt0 m c t.val t.isLt).2.2.2.2.2.2.2.1
    ∧ (outsAt0 m c t.val t.isLt).2.2.2.2.2.1 = k0_pay3 (F := Ideal) (outsAt0 m c t.val t.isLt).2.2.2.2.2.2.2.2.1
    ∧ (outsAt0 m c t.val t.isLt).2.2.2.2.2.2.1 = k0_pay4 (F := Ideal) (outsAt0 m c t.val t.isLt).2.2.2.2.2.2.2.2.2 := by
  rw [outsAt0_C m c t h0 h1]
  dsimp only
  rw [out_C_11, out_C_12, out_C_13, sout_C_0, sout_C_1, sout_C_2]
  exact ⟨rfl, rfl, rfl⟩

theorem last_sums (hn : 31 < cfg0.N) :
    (∀ k, (outsAt0 m c 31 hn).2.2.2.2.1 (ix2 0 k) = (I.dg k : EReal)) ∧ (∀ k, (outsAt0 m c 31 hn).2.2.2.2.2.1 (ix2 0 k) = (I.db k : EReal))
    ∧ (outsAt0 m c 31 hn).2.2.2.2.2.2.1 (ix2 0 0) = (I.loss : EReal) := by
  obtain ⟨e0, e1, e2⟩ := last_totals (m := m) (c := c) ⟨31, hn⟩ (by dsimp only; omega) (by dsimp only)
  dsimp only at e0 e1 e2
  rw [e0, e1, e2]
  have a31 := accs H 31 hn
  refine ⟨fun k => ?_, fun k => ?_, ?_⟩
  · rw [pay2_at]
    simp only [(a31 _ k).1, coe_sum, sum_part]
    rfl
  · rw [pay3_at]
    simp only [(a31 _ k).2.1, coe_sum, sum_part]
    rfl
  · rw [pay4_at, Finset.sum_comm]
    simp only [fun a k => (a31 a k).2.2, coe_sum, sum_part, ofBits_inv2048, ← EReal.coe_mul]
    rfl

omit H

/-! ## The arrays -/

theorem G7_at (j : Fin 4) (t : Fin 16384) (f : Fin 704) : G7 m c (ix3 j t f) = (inp m c).act t (col j f) := by
  have hp : pt7Of (ix3 j t f) = t.val / 512 := by
    show 32 * (j.val / 4 - 0) + 1 * (t.val / 512 - 0) + 1 * (f.val / 704 - 0) = _
    omega
  have hN : t.val / 512 < cfg0.N := lt_of_lt_of_eq (by omega) N_0.symm
  have hl : loc7Of (ix3 j t f) = ix3 j ⟨t.val % 512, Nat.mod_lt _ (by decide)⟩ f := by
    funext a; apply Fin.ext
    match a with
    | ⟨0, _⟩ => show j.val % 4 = j.val; omega
    | ⟨1, _⟩ => rfl
    | ⟨2, _⟩ => show f.val % 704 = f.val; omega
  unfold G7
  rw [dif_pos (by rw [hp]; exact hN), hl, fold0_congr m c _ _ _ (by rw [Nat.zero_add]; exact hN) hp, ← outsAt0_sweep m c _ hN,
    outs_act ⟨t.val / 512, hN⟩]
  rw [show row (tile ⟨t.val / 512, hN⟩) ⟨t.val % 512, Nat.mod_lt _ (by decide)⟩ = t from Fin.ext (Nat.div_add_mod' _ _)]

theorem G8_at (j : Fin 4) (t : Fin 16384) (f : Fin 704) : G8 m c (ix3 j t f) = (inp m c).bm t (col j f) := by
  have hp : pt8Of (ix3 j t f) = t.val / 512 := by
    show 32 * (j.val / 4 - 0) + 1 * (t.val / 512 - 0) + 1 * (f.val / 704 - 0) = _
    omega
  have hN : t.val / 512 < cfg0.N := lt_of_lt_of_eq (by omega) N_0.symm
  have hl : loc8Of (ix3 j t f) = ix3 j ⟨t.val % 512, Nat.mod_lt _ (by decide)⟩ f := by
    funext a; apply Fin.ext
    match a with
    | ⟨0, _⟩ => show j.val % 4 = j.val; omega
    | ⟨1, _⟩ => rfl
    | ⟨2, _⟩ => show f.val % 704 = f.val; omega
  unfold G8
  rw [dif_pos (by rw [hp]; exact hN), hl, fold0_congr m c _ _ _ (by rw [Nat.zero_add]; exact hN) hp, ← outsAt0_sweep m c _ hN,
    outs_bm ⟨t.val / 512, hN⟩]
  rw [show row (tile ⟨t.val / 512, hN⟩) ⟨t.val % 512, Nat.mod_lt _ (by decide)⟩ = t from Fin.ext (Nat.div_add_mod' _ _)]

theorem G9_at (j : Fin 4) (t : Fin 16384) (f : Fin 704) : G9 m c (ix3 j t f) = (inp m c).hid t (col j f) := by
  have hp : pt9Of (ix3 j t f) = t.val / 512 := by
    show 32 * (j.val / 4 - 0) + 1 * (t.val / 512 - 0) + 1 * (f.val / 704 - 0) = _
    omega
  have hN : t.val / 512 < cfg0.N := lt_of_lt_of_eq (by omega) N_0.symm
  have hl : loc9Of (ix3 j t f) = ix3 j ⟨t.val % 512, Nat.mod_lt _ (by decide)⟩ f := by
    funext a; apply Fin.ext
    match a with
    | ⟨0, _⟩ => show j.val % 4 = j.val; omega
    | ⟨1, _⟩ => rfl
    | ⟨2, _⟩ => show f.val % 704 = f.val; omega
  unfold G9
  rw [dif_pos (by rw [hp]; exact hN), hl, fold0_congr m c _ _ _ (by rw [Nat.zero_add]; exact hN) hp, ← outsAt0_sweep m c _ hN,
    outs_hm ⟨t.val / 512, hN⟩]
  rw [show row (tile ⟨t.val / 512, hN⟩) ⟨t.val % 512, Nat.mod_lt _ (by decide)⟩ = t from Fin.ext (Nat.div_add_mod' _ _)]

include H

theorem G10_at (t : Fin 16384) (k : Fin 1024) : G10 m c (ix2 t k) = (I.dz t k : EReal) := by
  have hp : pt10Of (ix2 t k) = t.val / 512 := by
    show 1 * (t.val / 512 - 0) + 1 * (k.val / 1024 - 0) = _
    omega
  have hN : t.val / 512 < cfg0.N := lt_of_lt_of_eq (by omega) N_0.symm
  have hl : loc10Of (ix2 t k) = ix2 ⟨t.val % 512, Nat.mod_lt _ (by decide)⟩ k := by
    funext a; apply Fin.ext
    match a with
    | ⟨0, _⟩ => rfl
    | ⟨1, _⟩ => show k.val % 1024 = k.val; omega
  unfold G10
  rw [dif_pos (by rw [hp]; exact hN), hl, fold0_congr m c _ _ _ (by rw [Nat.zero_add]; exact hN) hp, ← outsAt0_sweep m c _ hN,
    outs_dz ⟨t.val / 512, hN⟩ H]
  rw [show row (tile ⟨t.val / 512, hN⟩) ⟨t.val % 512, Nat.mod_lt _ (by decide)⟩ = t from Fin.ext (Nat.div_add_mod' _ _)]

theorem G11_at (k : Fin 1024) : G11 m c (ix2 0 k) = (I.dg k : EReal) := by
  have hN : 31 < cfg0.N := lt_of_lt_of_eq (by decide) N_0.symm
  rw [G11_last, ← outsAt0_sweep m c 31 hN]
  exact (last_sums H hN).1 k

theorem G12_at (k : Fin 1024) : G12 m c (ix2 0 k) = (I.db k : EReal) := by
  have hN : 31 < cfg0.N := lt_of_lt_of_eq (by decide) N_0.symm
  rw [G12_last, ← outsAt0_sweep m c 31 hN]
  exact (last_sums H hN).2.1 k

theorem G13_at : G13 m c (ix2 0 0) = (I.loss : EReal) := by
  have hN : 31 < cfg0.N := lt_of_lt_of_eq (by decide) N_0.symm
  rw [G13_last, ← outsAt0_sweep m c 31 hN]
  exact (last_sums H hN).2.2

end Cert.Kernel10Ideal.Gen

end
-- ==== Proof.LossGrad.lean ====
module

public import proofs.«01_k».proof.Proof.LossMath
public import proofs.«01_k».proof.Proof.Gen.Reference10Ideal.Run
public import Idealize.ShloMosaic.Lib.Pipeline.Value
public import Idealize.ShloMosaic.Lib.Pipeline.ValueKit.Point

/-! # The loss's reference, entry by entry: the loss and its reverse pass in real numbers -/

@[expose] public section

noncomputable section

namespace Cert.Reference10Ideal.Value

open Idealize.ShloMosaic Idealize.ShloMosaic.TcCoe Idealize.SL.Sem Cert.Reference10Ideal Cert.Reference10Ideal.Gen Cert.Loss
open Cert.Ffn (row col coe_sum ofBits_1024 ofBits_two ofBits_neg_half ofBits_one div_1024 ofBits_eps rsqrt_pos vare_pos lnb viaVar lnb_of_reverse)

variable (V0 : Valuation τ sig (Elt Ideal))

/-- The reference's arguments but the target, the weights at the last layer. -/
def inp : Fwd.In where
  x t k := (V0 (Proc.devRef .tc main_arg0) : Vec Ideal S16384x1024 .f32) (ix2 t k)
  wg k f := (V0 (Proc.devRef .tc main_arg1) : Vec Ideal S2x1024x2816 .f32) (ix3 1 k f)
  wu k f := (V0 (Proc.devRef .tc main_arg2) : Vec Ideal S2x1024x2816 .f32) (ix3 1 k f)
  wd f k := (V0 (Proc.devRef .tc main_arg3) : Vec Ideal S2x2816x1024 .f32) (ix3 1 f k)
  g k := (V0 (Proc.devRef .tc main_arg4) : Vec Ideal S1024 .f32) (ix1 k)
  b k := (V0 (Proc.devRef .tc main_arg5) : Vec Ideal S1024 .f32) (ix1 k)

/-- The reference's arguments hold the real numbers of `I`. -/
structure HoldsIn (I : In) : Prop where
  fwd : inp V0 = I.up'
  tg : ∀ t k, (V0 (Proc.devRef .tc main_arg6) : Vec Ideal S16384x1024 .f32) (ix2 t k) = (I.tg t k : EReal)

theorem gate_at (t : Fin 16384) (f : Fin 2816) : res_main_v2 V0 (ix2 t f) = (inp V0).gate t f := by
  unfold res_main_v2
  pointwise
  rfl

theorem up_at (t : Fin 16384) (f : Fin 2816) : res_main_v5 V0 (ix2 t f) = (inp V0).up t f := by
  unfold res_main_v5
  pointwise
  rfl

theorem act_at (t : Fin 16384) (f : Fin 2816) : res_main_v6 V0 (ix2 t f) = (inp V0).act t f := by
  unfold res_main_v6
  pointwise
  rw [gate_at]
  rfl

theorem lgs_at (t : Fin 16384) (f : Fin 2816) : res_main_v7_2 V0 (ix2 t f) = Fwd.lgs ((inp V0).gate t f) := by
  unfold res_main_v7_2
  pointwise
  rw [gate_at]
  rfl

theorem one_at (i : S16384x2816.Idx) : @Eq EReal (res_main_v8 V0 i) (1 : EReal) := by
  unfold res_main_v8
  pointwise

theorem z_at (t : Fin 16384) (k : Fin 1024) : res_main_v16 V0 (ix2 t k) = (inp V0).z t k := by
  unfold res_main_v16
  pointwise
  simp only [act_at, up_at]
  rfl

/-- The first three results: the activation, the up projection times the slope, the hidden entries. -/
theorem res0_at (j : Fin 4) (t : Fin 16384) (f : Fin 704) :
    (truncf .bf16 (transpose S4x16384x704 [1, 0, 2] (shapeCast _ (res_main_v6 V0) shapeCasts_S16384x2816_S16384x4x704) transposes_S16384x4x704_S4x16384x704_1_0_2) bitsLt_bf16_f32) (ix3 j t f)
      = (inp V0).act t (col j f) := by
  pointwise
  exact act_at V0 t (col j f)

theorem res1_at (j : Fin 4) (t : Fin 16384) (f : Fin 704) :
    (truncf .bf16 (transpose S4x16384x704 [1, 0, 2] (shapeCast _ (mulf (res_main_v5 V0) (addf (mulf (res_main_v8 V0) (res_main_v7_2 V0)) (mulf (mulf (res_main_v2 V0) (res_main_v8 V0)) (mulf (res_main_v7_2 V0) (subf (broadcastInDim S16384x2816 ![] bcast_S_S16384x2816 (constant S_ .f32 0x3F800000#32)) (res_main_v7_2 V0)))))) shapeCasts_S16384x2816_S16384x4x704) transposes_S16384x4x704_S4x16384x704_1_0_2) bitsLt_bf16_f32) (ix3 j t f)
      = (inp V0).bm t (col j f) := by
  pointwise
  rw [up_at, lgs_at, gate_at]
  erw [one_at]
  rw [one_mul, mul_one]
  exact congrArg _ (Fwd.slope_eq _)

theorem res2_at (j : Fin 4) (t : Fin 16384) (f : Fin 704) :
    (truncf .bf16 (transpose S4x16384x704 [1, 0, 2] (shapeCast _ (mulf (res_main_v6 V0) (res_main_v5 V0)) shapeCasts_S16384x2816_S16384x4x704) transposes_S16384x4x704_S4x16384x704_1_0_2) bitsLt_bf16_f32) (ix3 j t f)
      = (inp V0).hid t (col j f) := by
  have e : ∀ u : Fin 2816, (mulf (res_main_v6 V0) (res_main_v5 V0)) (ix2 t u) = (inp V0).hid t u := fun u => by
    pointwise
    rw [act_at, up_at]
    rfl
  pointwise
  exact e (col j f)

variable {V0} {I : In} (H : HoldsIn V0 I)

include H

theorem zr_at (t : Fin 16384) (k : Fin 1024) : res_main_v16 V0 (ix2 t k) = (I.z t k : EReal) := by
  rw [z_at, H.fwd, In.z_up]

theorem mean_at (t : Fin 16384) : res_main_v20 V0 (ix2 t 0) = (Ffn.mean (I.z t) : EReal) := by
  unfold res_main_v20
  pointwise
  simp only [zr_at H, coe_sum, ofBits_1024, div_1024]
  rfl

theorem cen_at (t : Fin 16384) (k : Fin 1024) : res_main_v22 V0 (ix2 t k) = (Ffn.cen (I.z t) k : EReal) := by
  unfold res_main_v22
  pointwise
  rw [zr_at H, mean_at H, ← EReal.coe_sub]; rfl

theorem cen_at' (t : Fin 16384) (k : Fin 1024) : res_main_v31 V0 (ix2 t k) = (Ffn.cen (I.z t) k : EReal) := by
  unfold res_main_v31
  pointwise
  rw [zr_at H, mean_at H, ← EReal.coe_sub]; rfl

theorem vare_at (t : Fin 16384) : res_main_v33 V0 (ix2 t 0) = (Ffn.vare (I.z t) : EReal) := by
  unfold res_main_v33
  pointwise
  simp only [cen_at H, ← EReal.coe_mul, coe_sum, ofBits_1024, ofBits_eps, div_1024, ← EReal.coe_add]
  rfl

theorem rstd_at (t : Fin 16384) : res_main_v34 V0 (ix2 t 0) = (Ffn.rstd (I.z t) : EReal) := by
  unfold res_main_v34
  pointwise
  rw [vare_at H, rsqrt_pos (vare_pos _)]; rfl

theorem hat_at (t : Fin 16384) (k : Fin 1024) : res_main_v39 V0 (ix2 t k) = (Ffn.hat (I.z t) k : EReal) := by
  unfold res_main_v39
  pointwise
  rw [cen_at' H, rstd_at H, ← EReal.coe_mul]; rfl

theorem g_at (k : Fin 1024) : res_main_v40 V0 (ix2 0 k) = (I.g k : EReal) := by
  unfold res_main_v40
  pointwise
  exact congrFun (congrArg Fwd.In.g H.fwd) k

theorem b_at (k : Fin 1024) : (V0 (Proc.devRef .tc main_arg5) : Vec Ideal S1024 .f32) (ix1 k) = (I.b k : EReal) :=
  congrFun (congrArg Fwd.In.b H.fwd) k

theorem err_at (t : Fin 16384) (k : Fin 1024) : res_main_v46 V0 (ix2 t k) = (I.err t k : EReal) := by
  unfold res_main_v46
  pointwise
  rw [hat_at H, g_at H, b_at H, H.tg, ← EReal.coe_mul, ← EReal.coe_add, ← EReal.coe_sub]; rfl

theorem dy_at (t : Fin 16384) (k : Fin 1024) : res_main_v60 V0 (ix2 t k) = (I.dy t k : EReal) := by
  unfold res_main_v60
  pointwise
  rw [err_at H]
  simp only [ofBits_half, ofBits_one, ofBits_two, ofBits_1024, mul_one, ← EReal.coe_mul, div_1024]
  congr 1
  unfold In.dy
  ring

theorem w_at (t : Fin 16384) (k : Fin 1024) : res_main_v68 V0 (ix2 t k) = ((I.dy t k * I.g k : ℝ) : EReal) := by
  unfold res_main_v68
  pointwise
  rw [dy_at H, g_at H, ← EReal.coe_mul]

theorem wr_at (t : Fin 16384) (k : Fin 1024) : res_main_v74 V0 (ix2 t k) = ((I.dy t k * I.g k * Ffn.rstd (I.z t) : ℝ) : EReal) := by
  unfold res_main_v74
  pointwise
  rw [w_at H, rstd_at H, ← EReal.coe_mul]

theorem viaVar_at (t : Fin 16384) (k : Fin 1024) :
    res_main_v83 V0 (ix2 t k) = (viaVar (I.z t) (fun k => I.dy t k * I.g k) k : EReal) := by
  unfold res_main_v83
  pointwise
  simp only [cen_at H, cen_at' H, w_at H, rstd_at H, vare_at H, Cert.Ffn.div_pos (vare_pos _), ofBits_1024, ofBits_two, ofBits_neg_half,
    ← EReal.coe_mul, coe_sum, div_1024, Fin.sum_univ_one]
  rfl

/-- The fourth result: the residual sum's gradient. -/
theorem res3_at (t : Fin 16384) (k : Fin 1024) :
    (addf (addf (res_main_v74 V0) (res_main_v83 V0)) (broadcastInDim S16384x1024 ![0] bcast_S16384_S16384x1024_0 (Host.reduceAdd (Host.divf (addf (shapeCast _ (Host.reduceAdd (Host.negf (res_main_v74 V0)) (constant S_ .f32 0x00000000#32) reducesTo_S16384x1024_S16384_d1 h_S_) shapeCasts_S16384_S16384x1) (shapeCast _ (Host.reduceAdd (Host.negf (res_main_v83 V0)) (constant S_ .f32 0x00000000#32) reducesTo_S16384x1024_S16384_d1 h_S_) shapeCasts_S16384_S16384x1)) (broadcastInDim S16384x1 ![] bcast_S_S16384x1 (constant S_ .f32 0x44800000#32))) (constant S_ .f32 0x00000000#32) reducesTo_S16384x1_S16384_d1 h_S_)) : Vec Ideal S16384x1024 .f32) (ix2 t k)
      = (I.dz t k : EReal) := by
  pointwise
  simp only [wr_at H, viaVar_at H, ← EReal.coe_neg, ← EReal.coe_add, coe_sum, ofBits_1024, div_1024, Fin.sum_univ_one]
  congr 1
  exact lnb_of_reverse (I.z t) (fun k => I.dy t k * I.g k) k

/-- The fifth and sixth results: the gradients of the gain and of the norm's bias. -/
theorem res4_at (k : Fin 1024) :
    (shapeCast _ (Host.reduceAdd (shapeCast _ (Host.reduceAdd (mulf (res_main_v39 V0) (res_main_v60 V0)) (constant S_ .f32 0x00000000#32) reducesTo_S16384x1024_S1024_d0 h_S_) shapeCasts_S1024_S1x1024) (constant S_ .f32 0x00000000#32) reducesTo_S1x1024_S1024_d0 h_S_) shapeCasts_S1024_S1x1024 : Vec Ideal S1x1024 .f32) (ix2 0 k)
      = (I.dg k : EReal) := by
  pointwise
  simp only [hat_at H, dy_at H, ← EReal.coe_mul, coe_sum, Fin.sum_univ_one]
  exact congrArg _ (Finset.sum_congr rfl fun t _ => mul_comm _ _)

theorem res5_at (k : Fin 1024) :
    (shapeCast _ (Host.reduceAdd (shapeCast _ (Host.reduceAdd (res_main_v60 V0) (constant S_ .f32 0x00000000#32) reducesTo_S16384x1024_S1024_d0 h_S_) shapeCasts_S1024_S1x1024) (constant S_ .f32 0x00000000#32) reducesTo_S1x1024_S1024_d0 h_S_) shapeCasts_S1024_S1x1024 : Vec Ideal S1x1024 .f32) (ix2 0 k)
      = (I.db k : EReal) := by
  pointwise
  simp only [dy_at H, coe_sum, Fin.sum_univ_one]
  rfl

/-- The seventh result: the loss. -/
theorem res6_at :
    (shapeCast _ (mulf (constant S_ .f32 0x3F000000#32) (Host.reduceAdd (Host.divf (Host.reduceAdd (mulf (res_main_v46 V0) (res_main_v46 V0)) (constant S_ .f32 0x00000000#32) reducesTo_S16384x1024_S16384_d1 h_S_) (broadcastInDim S16384 ![] bcast_S_S16384 (constant S_ .f32 0x44800000#32))) (constant S_ .f32 0x00000000#32) reducesTo_S16384_S_d0 h_S_)) shapeCasts_S_S1x1 : Vec Ideal S1x1 .f32) (ix2 0 0)
      = (I.loss : EReal) := by
  pointwise
  simp only [err_at H, ← EReal.coe_mul, coe_sum, ofBits_1024, div_1024, ofBits_half]
  exact congrArg _ I.loss_rows

end Cert.Reference10Ideal.Value

end
-- ==== Proof.Equation10.lean ====
module

public import proofs.«01_k».proof.Defs
public import proofs.«01_k».proof.Proof.Bounded
public import proofs.«01_k».proof.Proof.LossArrays
public import proofs.«01_k».proof.Proof.LossGrad

/-! # The last layer's forward sub-layer with the loss: each result of the kernel is the reference's -/

@[expose] public section

noncomputable section

namespace Cert.Pre_finite_loss

/-- The precondition's shape facts. -/
theorem shapes : Facts where
  bcast_S_S16384x1024 := by decide
  bcast_S_S2x1024x2816 := by decide
  bcast_S_S2x2816x1024 := by decide
  bcast_S_S1024 := by decide

end Cert.Pre_finite_loss

namespace Cert.Loss

open Idealize.ShloMosaic Idealize.ShloMosaic.TcCoe Idealize.SL.Sem
open Cert.Ffn (ne_of_olt)

/-- Under the precondition the kernel's arguments hold real numbers. -/
theorem holds_of_pre (m : (ℓ : Loc Kernel10Ideal.nD Kernel10Ideal.τ Kernel10Ideal.sig) → Buf (Elt Ideal) ℓ)
    (h : Cert.Pre_Kernel10Ideal_finite_loss (hPre_finite_loss := Pre_finite_loss.shapes) m) (c : Dev Kernel10Ideal.nD) :
    ∃ I, Kernel10Ideal.Gen.HoldsAt m c I := by
  obtain ⟨h0, h1, h2, h3, h4, h5, h6⟩ := h c
  have e0 := fun i => ne_of_olt _ (congrFun h0 i)
  have e1 := fun i => ne_of_olt _ (congrFun h1 i)
  have e2 := fun i => ne_of_olt _ (congrFun h2 i)
  have e3 := fun i => ne_of_olt _ (congrFun h3 i)
  have e4 := fun i => ne_of_olt _ (congrFun h4 i)
  have e5 := fun i => ne_of_olt _ (congrFun h5 i)
  have e6 := fun i => ne_of_olt _ (congrFun h6 i)
  let F := Kernel10Ideal.Gen.inp m c
  refine ⟨⟨fun t k => (F.x t k).toReal, fun k f => (F.wg k f).toReal, fun k f => (F.wu k f).toReal, fun f k => (F.wd f k).toReal,
    fun k => (F.g k).toReal, fun k => (F.b k).toReal,
    fun t k => ((m (c, Proc.tc.devRef Kernel10Ideal.main_arg6) : Vec Ideal Kernel10Ideal.S16384x1024 .f32) (ix2 t k) : EReal).toReal⟩, ?_, ?_⟩
  · show F = Fwd.In.mk _ _ _ _ _ _
    have x : F.x = fun t k => ((F.x t k).toReal : EReal) := funext fun t => funext fun k => (EReal.coe_toReal (e0 _).1 (e0 _).2).symm
    have wg : F.wg = fun k f => ((F.wg k f).toReal : EReal) := funext fun k => funext fun f => (EReal.coe_toReal (e1 _).1 (e1 _).2).symm
    have wu : F.wu = fun k f => ((F.wu k f).toReal : EReal) := funext fun k => funext fun f => (EReal.coe_toReal (e2 _).1 (e2 _).2).symm
    have wd : F.wd = fun f k => ((F.wd f k).toReal : EReal) := funext fun f => funext fun k => (EReal.coe_toReal (e3 _).1 (e3 _).2).symm
    have g : F.g = fun k => ((F.g k).toReal : EReal) := funext fun k => (EReal.coe_toReal (e4 _).1 (e4 _).2).symm
    have b : F.b = fun k => ((F.b k).toReal : EReal) := funext fun k => (EReal.coe_toReal (e5 _).1 (e5 _).2).symm
    dsimp only
    rw [← x, ← wg, ← wu, ← wd, ← g, ← b]
  · exact fun t k => (EReal.coe_toReal (e6 _).1 (e6 _).2).symm

end Cert.Loss

namespace Cert.Proof

open Idealize.ShloMosaic Idealize.ShloMosaic.TcCoe Idealize.ShloMosaic.StableHlo Idealize.SL.Sem Cert.Loss Cert.Kernel10Ideal.Gen
open Cert.Ffn (row_eta)

theorem algebraic10 : Cert.algebraic_Kernel10Ideal_Reference10Ideal_pre_finite_loss (hKernel10Ideal := Cert.Kernel10Ideal.Gen.facts)
    (hReference10Ideal := Cert.Reference10Ideal.Gen.facts) (hPre_finite_loss := Cert.Pre_finite_loss.shapes) := by
  intro m g m' g' hpre hargs
  refine ⟨fun c => Kernel10Ideal.Value.G7 m c, fun c => Kernel10Ideal.Value.G8 m c, fun c => Kernel10Ideal.Value.G9 m c,
    fun c => Kernel10Ideal.Value.G10 m c, fun c => Kernel10Ideal.Value.G11 m c, fun c => Kernel10Ideal.Value.G12 m c,
    fun c => Kernel10Ideal.Value.G13 m c, Kernel10Ideal.Value.run m g, ?_⟩
  refine (θ_run _ _ _).mono (fun r h c => ?_) (Reference10Ideal.Value.run m' g')
  obtain ⟨h0, h1, h2, h3, h4, h5, h6, ha⟩ := h c
  obtain ⟨I, H⟩ := holds_of_pre m hpre c
  obtain ⟨a0, a1, a2, a3, a4, a5, a6⟩ := hargs c
  have E : Reference10Ideal.Value.inp (launchContents m' c) = Kernel10Ideal.Gen.inp m c := by
    show Fwd.In.mk (fun t k => (m' ((c.tc : Thread Reference10Ideal.nD Reference10Ideal.τ).loc Reference10Ideal.main_arg0) : Vec Ideal Reference10Ideal.S16384x1024 .f32) (ix2 t k))
      (fun k f => (m' ((c.tc : Thread Reference10Ideal.nD Reference10Ideal.τ).loc Reference10Ideal.main_arg1) : Vec Ideal Reference10Ideal.S2x1024x2816 .f32) (ix3 1 k f))
      (fun k f => (m' ((c.tc : Thread Reference10Ideal.nD Reference10Ideal.τ).loc Reference10Ideal.main_arg2) : Vec Ideal Reference10Ideal.S2x1024x2816 .f32) (ix3 1 k f))
      (fun f k => (m' ((c.tc : Thread Reference10Ideal.nD Reference10Ideal.τ).loc Reference10Ideal.main_arg3) : Vec Ideal Reference10Ideal.S2x2816x1024 .f32) (ix3 1 f k))
      (fun k => (m' ((c.tc : Thread Reference10Ideal.nD Reference10Ideal.τ).loc Reference10Ideal.main_arg4) : Vec Ideal Reference10Ideal.S1024 .f32) (ix1 k))
      (fun k => (m' ((c.tc : Thread Reference10Ideal.nD Reference10Ideal.τ).loc Reference10Ideal.main_arg5) : Vec Ideal Reference10Ideal.S1024 .f32) (ix1 k)) = _
    rw [a0, a1, a2, a3, a4, a5]
    rfl
  have H' : Reference10Ideal.Value.HoldsIn (launchContents m' c) I := by
    refine ⟨E.trans H.fwd, ?_⟩
    show ∀ t k, (m' ((c.tc : Thread Reference10Ideal.nD Reference10Ideal.τ).loc Reference10Ideal.main_arg6) : Vec Ideal Reference10Ideal.S16384x1024 .f32) (ix2 t k) = _
    rw [a6]
    exact H.tg
  refine ⟨h0.trans ?_, h1.trans ?_, h2.trans ?_, h3.trans ?_, h4.trans ?_, h5.trans ?_, h6.trans ?_, ha⟩
  · funext i
    rw [← ix3_eta i]
    exact (Reference10Ideal.Value.res0_at _ _ _ _).trans ((congrArg (fun F : Fwd.In => F.act _ _) E).trans (G7_at _ _ _).symm)
  · funext i
    rw [← ix3_eta i]
    exact (Reference10Ideal.Value.res1_at _ _ _ _).trans ((congrArg (fun F : Fwd.In => F.bm _ _) E).trans (G8_at _ _ _).symm)
  · funext i
    rw [← ix3_eta i]
    exact (Reference10Ideal.Value.res2_at _ _ _ _).trans ((congrArg (fun F : Fwd.In => F.hid _ _) E).trans (G9_at _ _ _).symm)
  · funext i
    rw [← ix2_eta i]
    exact (Reference10Ideal.Value.res3_at H' _ _).trans (G10_at H _ _).symm
  · funext i
    rw [row_eta i]
    exact (Reference10Ideal.Value.res4_at H' _).trans (G11_at H _).symm
  · funext i
    rw [row_eta i]
    exact (Reference10Ideal.Value.res5_at H' _).trans (G12_at H _).symm
  · funext i
    rw [show i = ix2 0 0 from (ix2_eta i).symm.trans (congrArg₂ ix2 (Subsingleton.elim (α := Fin 1) _ _) (Subsingleton.elim (α := Fin 1) _ _))]
    exact (Reference10Ideal.Value.res6_at H').trans (G13_at H).symm

end Cert.Proof

end
-- ==== Proof.HeadMath.lean ====
module

public import proofs.«01_k».proof.Proof.Forward

/-! # The convolution block's head in real numbers: layer norm, silu, second pointwise weight, and the gradient back -/

@[expose] public section

noncomputable section

namespace Cert.Head

open Idealize.ShloMosaic Cert.Ffn

/-- The head's five arrays, as real numbers. -/
structure In where
  c : Fin 16384 → Fin 1024 → ℝ
  g : Fin 1024 → ℝ
  b : Fin 1024 → ℝ
  w : Fin 1024 → Fin 1024 → ℝ
  ct : Fin 16384 → Fin 1024 → ℝ

namespace In

variable (I : In)

/-- The layer norm's result, silu of it, and the gradients: of the layer norm's result, its input, its gain and its bias. -/
def n (t : Fin 16384) (k : Fin 1024) : ℝ := hat (I.c t) k * I.g k + I.b k
def s (t : Fin 16384) (k : Fin 1024) : ℝ := silu (I.n t k)
def ds (t : Fin 16384) (k : Fin 1024) : ℝ := ∑ j, I.ct t j * I.w k j
def dn (t : Fin 16384) (k : Fin 1024) : ℝ := I.ds t k * dsilu (I.n t k)
def dc (t : Fin 16384) (k : Fin 1024) : ℝ := lnb (I.c t) (fun k => I.dn t k * I.g k) k
def dg (k : Fin 1024) : ℝ := ∑ t, I.dn t k * hat (I.c t) k
def db (k : Fin 1024) : ℝ := ∑ t, I.dn t k

end In

theorem lgs_coe (a : ℝ) : Fwd.lgs (a : EReal) = (sig a : EReal) := Ideal.logistic_coe _

theorem slope_coe (a : ℝ) : Fwd.slope (a : EReal) = (dsilu a : EReal) := by
  unfold Fwd.slope
  rw [lgs_coe, ← EReal.coe_one, ← EReal.coe_sub, ← EReal.coe_mul, ← EReal.coe_add, ← EReal.coe_mul]
  rfl

theorem silu_coe (a : ℝ) : (a : EReal) * Fwd.lgs (a : EReal) = (silu a : EReal) := by
  rw [lgs_coe, ← EReal.coe_mul]
  rfl

/-- The product rule at a cotangent. -/
theorem rule_coe (d a : ℝ) : (d : EReal) * Fwd.lgs (a : EReal) + (a : EReal) * d * (Fwd.lgs (a : EReal) * (1 - Fwd.lgs (a : EReal)))
    = ((d * dsilu a : ℝ) : EReal) := by
  rw [lgs_coe, ← EReal.coe_one, ← EReal.coe_sub, ← EReal.coe_mul, ← EReal.coe_mul, ← EReal.coe_mul, ← EReal.coe_mul, ← EReal.coe_add]
  congr 1
  unfold dsilu
  ring

end Cert.Head

end
-- ==== Proof.HeadOpen.lean ====
module

public import proofs.«01_k».proof.Proof.Gen.Kernel11Ideal.Frame
public import Idealize.ShloMosaic.Lib.Pipeline.Value
public import Idealize.ShloMosaic.Lib.Pipeline.ValueKit
public import Idealize.ShloMosaic.Lib.Pipeline.ValueKit.Point
public import Idealize.ShloMosaic.Lib.IdealHost

/-! # The convolution head's body: what one run of it leaves in its windows and scratch

The body runs once per tile of 512 rows. The first tile (A) starts the two accumulators from zero, a middle tile (B) adds to
them, the last tile (C) adds and writes their totals out. -/

@[expose] public section

noncomputable section

namespace Cert.Kernel11Ideal.Gen

open Idealize.ShloMosaic Idealize.ShloMosaic.TcCoe Idealize.SL.Sem

theorem hz2 : (![0, 0] : Fin 2 → Nat) = fun _ => 0 := funext fun a => by fin_cases a <;> rfl

/-- The gradient of the tile's rows, as the body computes it. -/
def dcV (x0 x1 : Vec Ideal S512x1024 .f32) (x2 : Vec Ideal S1024x1024 .bf16) (x3 x4 : Vec Ideal S1x1024 .f32) : Vec Ideal S512x1024 .f32 := k0_pay1 (k0_pay7 x1) (k0_pay16 x0 (k0_pay8 x1) (k0_pay11 x1 x3 x4) x2 x3)

variable (c : Dev nD) (i : grid0.Coords) (a1 : Memref sig .tc .vmem S512x1024 .f32) (h1 : a1.IsWhole) (a2 : Memref sig .tc .vmem S512x1024 .f32) (h2 : a2.IsWhole) (a3 : Memref sig .tc .vmem S1024x1024 .bf16) (h3 : a3.IsWhole) (a4 : Memref sig .tc .vmem S1x1024 .f32) (h4 : a4.IsWhole) (a5 : Memref sig .tc .vmem S1x1024 .f32) (h5 : a5.IsWhole) (a6 : Memref sig .tc .vmem S512x1024 .bf16) (h6 : a6.IsWhole) (a7 : Memref sig .tc .vmem S512x1024 .f32) (h7 : a7.IsWhole) (a8 : Memref sig .tc .vmem S1x1024 .f32) (h8 : a8.IsWhole) (a9 : Memref sig .tc .vmem S1x1024 .f32) (h9 : a9.IsWhole) (a10 : Memref sig .tc .vmem S8x1024 .f32) (h10 : a10.IsWhole) (a11 : Memref sig .tc .vmem S8x1024 .f32) (h11 : a11.IsWhole)
  (x0 x1 : Vec Ideal S512x1024 .f32) (x2 : Vec Ideal S1024x1024 .bf16) (x3 x4 : Vec Ideal S1x1024 .f32) (s0 s1 : Vec Ideal S8x1024 .f32)

theorem out_A_5 (hc0 : cond0_0 i) (hc1 : ¬cond0_1 i) :
    out0_A_5 c i a1 h1 a2 h2 a3 h3 a4 h4 a5 h5 a6 h6 a7 h7 a8 h8 a9 h9 a10 h10 a11 h11 hc0 hc1 x0 x1 x2 x3 x4 = k0_pay12 (F := Ideal) x1 x3 x4 := by
  unfold out0_A_5
  rw [View.read_writes_eq_canon _ _ _ (cover0_A_5 c i a1 h1 a2 h2 a3 h3 a4 h4 a5 h5 a6 h6 a7 h7 a8 h8 a9 h9 a10 h10 a11 h11 hc0 hc1 x0 x1 x2 x3 x4)]
  unfold kernelRun0_A
  dsimp only
  sl_unfold_words
  rw [View.canon_unit_zero hz2]
  simp only [View.readAt_eq_ld, h1.read_unread, h2.read_unread, h3.read_unread, h4.read_unread, h5.read_unread, h10.read_unread, h11.read_unread, View.ld_unit_zero (S := S512x1024) hz2, View.ld_unit_zero (S := S1x1024) hz2, View.ld_unit_zero (S := S1024x1024) hz2, View.ld_unit_zero (S := S8x1024) hz2]

theorem out_A_6 (hc0 : cond0_0 i) (hc1 : ¬cond0_1 i) :
    out0_A_6 c i a1 h1 a2 h2 a3 h3 a4 h4 a5 h5 a6 h6 a7 h7 a8 h8 a9 h9 a10 h10 a11 h11 hc0 hc1 x0 x1 x2 x3 x4 = dcV x0 x1 x2 x3 x4 := by
  unfold out0_A_6
  rw [View.read_writes_eq_canon _ _ _ (cover0_A_6 c i a1 h1 a2 h2 a3 h3 a4 h4 a5 h5 a6 h6 a7 h7 a8 h8 a9 h9 a10 h10 a11 h11 hc0 hc1 x0 x1 x2 x3 x4)]
  unfold kernelRun0_A
  dsimp only
  sl_unfold_words
  rw [View.canon_unit_zero hz2]
  simp only [View.readAt_eq_ld, h1.read_unread, h2.read_unread, h3.read_unread, h4.read_unread, h5.read_unread, h10.read_unread, h11.read_unread, View.ld_unit_zero (S := S512x1024) hz2, View.ld_unit_zero (S := S1x1024) hz2, View.ld_unit_zero (S := S1024x1024) hz2, View.ld_unit_zero (S := S8x1024) hz2]
  rfl

theorem sout_A_0 (hc0 : cond0_0 i) (hc1 : ¬cond0_1 i) :
    sout0_A_0 c i a1 h1 a2 h2 a3 h3 a4 h4 a5 h5 a6 h6 a7 h7 a8 h8 a9 h9 a10 h10 a11 h11 hc0 hc1 x0 x1 x2 x3 x4 = k0_pay14 (F := Ideal) x0 (k0_pay8 x1) (k0_pay11 x1 x3 x4) x2 (k0_pay4 (F := Ideal)) := by
  unfold sout0_A_0
  rw [View.read_writes_eq_canon _ _ _ (scover0_A_0 c i a1 h1 a2 h2 a3 h3 a4 h4 a5 h5 a6 h6 a7 h7 a8 h8 a9 h9 a10 h10 a11 h11 hc0 hc1 x0 x1 x2 x3 x4)]
  unfold kernelRun0_A
  dsimp only
  sl_unfold_words
  rw [View.canon_cons_unit_zero (S := S8x1024) hz2, View.readCov_unit_zero (S := S8x1024) _ hz2]
  simp only [View.readAt_eq_ld, h1.read_unread, h2.read_unread, h3.read_unread, h4.read_unread, h5.read_unread, h10.read_unread, h11.read_unread, View.ld_unit_zero (S := S512x1024) hz2, View.ld_unit_zero (S := S1x1024) hz2, View.ld_unit_zero (S := S1024x1024) hz2, View.ld_unit_zero (S := S8x1024) hz2]

theorem sout_A_1 (hc0 : cond0_0 i) (hc1 : ¬cond0_1 i) :
    sout0_A_1 c i a1 h1 a2 h2 a3 h3 a4 h4 a5 h5 a6 h6 a7 h7 a8 h8 a9 h9 a10 h10 a11 h11 hc0 hc1 x0 x1 x2 x3 x4 = k0_pay15 (F := Ideal) x0 (k0_pay11 x1 x3 x4) x2 (k0_pay5 (F := Ideal)) := by
  unfold sout0_A_1
  rw [View.read_writes_eq_canon _ _ _ (scover0_A_1 c i a1 h1 a2 h2 a3 h3 a4 h4 a5 h5 a6 h6 a7 h7 a8 h8 a9 h9 a10 h10 a11 h11 hc0 hc1 x0 x1 x2 x3 x4)]
  unfold kernelRun0_A
  dsimp only
  sl_unfold_words
  rw [View.canon_cons_unit_zero (S := S8x1024) hz2, View.readCov_unit_zero (S := S8x1024) _ hz2]
  simp only [View.readAt_eq_ld, h1.read_unread, h2.read_unread, h3.read_unread, h4.read_unread, h5.read_unread, h10.read_unread, h11.read_unread, View.ld_unit_zero (S := S512x1024) hz2, View.ld_unit_zero (S := S1x1024) hz2, View.ld_unit_zero (S := S1024x1024) hz2, View.ld_unit_zero (S := S8x1024) hz2]

theorem out_B_5 (hc0 : ¬cond0_0 i) (hc1 : ¬cond0_1 i) :
    out0_B_5 c i a1 h1 a2 h2 a3 h3 a4 h4 a5 h5 a6 h6 a7 h7 a8 h8 a9 h9 a10 h10 a11 h11 hc0 hc1 x0 x1 x2 x3 x4 s0 s1 = k0_pay12 (F := Ideal) x1 x3 x4 := by
  unfold out0_B_5
  rw [View.read_writes_eq_canon _ _ _ (cover0_B_5 c i a1 h1 a2 h2 a3 h3 a4 h4 a5 h5 a6 h6 a7 h7 a8 h8 a9 h9 a10 h10 a11 h11 hc0 hc1 x0 x1 x2 x3 x4 s0 s1)]
  unfold kernelRun0_B
  dsimp only
  sl_unfold_words
  rw [View.canon_unit_zero hz2]
  simp only [View.readAt_eq_ld, h1.read_unread, h2.read_unread, h3.read_unread, h4.read_unread, h5.read_unread, h10.read_unread, h11.read_unread, View.ld_unit_zero (S := S512x1024) hz2, View.ld_unit_zero (S := S1x1024) hz2, View.ld_unit_zero (S := S1024x1024) hz2, View.ld_unit_zero (S := S8x1024) hz2]

theorem out_B_6 (hc0 : ¬cond0_0 i) (hc1 : ¬cond0_1 i) :
    out0_B_6 c i a1 h1 a2 h2 a3 h3 a4 h4 a5 h5 a6 h6 a7 h7 a8 h8 a9 h9 a10 h10 a11 h11 hc0 hc1 x0 x1 x2 x3 x4 s0 s1 = dcV x0 x1 x2 x3 x4 := by
  unfold out0_B_6
  rw [View.read_writes_eq_canon _ _ _ (cover0_B_6 c i a1 h1 a2 h2 a3 h3 a4 h4 a5 h5 a6 h6 a7 h7 a8 h8 a9 h9 a10 h10 a11 h11 hc0 hc1 x0 x1 x2 x3 x4 s0 s1)]
  unfold kernelRun0_B
  dsimp only
  sl_unfold_words
  rw [View.canon_unit_zero hz2]
  simp only [View.readAt_eq_ld, h1.read_unread, h2.read_unread, h3.read_unread, h4.read_unread, h5.read_unread, h10.read_unread, h11.read_unread, View.ld_unit_zero (S := S512x1024) hz2, View.ld_unit_zero (S := S1x1024) hz2, View.ld_unit_zero (S := S1024x1024) hz2, View.ld_unit_zero (S := S8x1024) hz2]
  rfl

theorem sout_B_0 (hc0 : ¬cond0_0 i) (hc1 : ¬cond0_1 i) :
    sout0_B_0 c i a1 h1 a2 h2 a3 h3 a4 h4 a5 h5 a6 h6 a7 h7 a8 h8 a9 h9 a10 h10 a11 h11 hc0 hc1 x0 x1 x2 x3 x4 s0 s1 = k0_pay14 (F := Ideal) x0 (k0_pay8 x1) (k0_pay11 x1 x3 x4) x2 s0 := by
  unfold sout0_B_0
  rw [View.read_writes_eq_canon _ _ _ (scover0_B_0 c i a1 h1 a2 h2 a3 h3 a4 h4 a5 h5 a6 h6 a7 h7 a8 h8 a9 h9 a10 h10 a11 h11 hc0 hc1 x0 x1 x2 x3 x4 s0 s1)]
  unfold kernelRun0_B
  dsimp only
  sl_unfold_words
  rw [View.canon_unit_zero hz2]
  simp only [View.readAt_eq_ld, h1.read_unread, h2.read_unread, h3.read_unread, h4.read_unread, h5.read_unread, h10.read_unread, h11.read_unread, View.ld_unit_zero (S := S512x1024) hz2, View.ld_unit_zero (S := S1x1024) hz2, View.ld_unit_zero (S := S1024x1024) hz2, View.ld_unit_zero (S := S8x1024) hz2]

theorem sout_B_1 (hc0 : ¬cond0_0 i) (hc1 : ¬cond0_1 i) :
    sout0_B_1 c i a1 h1 a2 h2 a3 h3 a4 h4 a5 h5 a6 h6 a7 h7 a8 h8 a9 h9 a10 h10 a11 h11 hc0 hc1 x0 x1 x2 x3 x4 s0 s1 = k0_pay15 (F := Ideal) x0 (k0_pay11 x1 x3 x4) x2 s1 := by
  unfold sout0_B_1
  rw [View.read_writes_eq_canon _ _ _ (scover0_B_1 c i a1 h1 a2 h2 a3 h3 a4 h4 a5 h5 a6 h6 a7 h7 a8 h8 a9 h9 a10 h10 a11 h11 hc0 hc1 x0 x1 x2 x3 x4 s0 s1)]
  unfold kernelRun0_B
  dsimp only
  sl_unfold_words
  rw [View.canon_unit_zero hz2]
  simp only [View.readAt_eq_ld, h1.read_unread, h2.read_unread, h3.read_unread, h4.read_unread, h5.read_unread, h10.read_unread, h11.read_unread, View.ld_unit_zero (S := S512x1024) hz2, View.ld_unit_zero (S := S1x1024) hz2, View.ld_unit_zero (S := S1024x1024) hz2, View.ld_unit_zero (S := S8x1024) hz2]

theorem out_C_5 (hc0 : ¬cond0_0 i) (hc1 : cond0_1 i) :
    out0_C_5 c i a1 h1 a2 h2 a3 h3 a4 h4 a5 h5 a6 h6 a7 h7 a8 h8 a9 h9 a10 h10 a11 h11 hc0 hc1 x0 x1 x2 x3 x4 s0 s1 = k0_pay12 (F := Ideal) x1 x3 x4 := by
  unfold out0_C_5
  rw [View.read_writes_eq_canon _ _ _ (cover0_C_5 c i a1 h1 a2 h2 a3 h3 a4 h4 a5 h5 a6 h6 a7 h7 a8 h8 a9 h9 a10 h10 a11 h11 hc0 hc1 x0 x1 x2 x3 x4 s0 s1)]
  unfold kernelRun0_C
  dsimp only
  sl_unfold_words
  rw [View.canon_unit_zero hz2]
  simp only [View.readAt_eq_ld, h1.read_unread, h2.read_unread, h3.read_unread, h4.read_unread, h5.read_unread, h10.read_unread, h11.read_unread, View.ld_unit_zero (S := S512x1024) hz2, View.ld_unit_zero (S := S1x1024) hz2, View.ld_unit_zero (S := S1024x1024) hz2, View.ld_unit_zero (S := S8x1024) hz2]

theorem out_C_6 (hc0 : ¬cond0_0 i) (hc1 : cond0_1 i) :
    out0_C_6 c i a1 h1 a2 h2 a3 h3 a4 h4 a5 h5 a6 h6 a7 h7 a8 h8 a9 h9 a10 h10 a11 h11 hc0 hc1 x0 x1 x2 x3 x4 s0 s1 = dcV x0 x1 x2 x3 x4 := by
  unfold out0_C_6
  rw [View.read_writes_eq_canon _ _ _ (cover0_C_6 c i a1 h1 a2 h2 a3 h3 a4 h4 a5 h5 a6 h6 a7 h7 a8 h8 a9 h9 a10 h10 a11 h11 hc0 hc1 x0 x1 x2 x3 x4 s0 s1)]
  unfold kernelRun0_C
  dsimp only
  sl_unfold_words
  rw [View.canon_unit_zero hz2]
  simp only [View.readAt_eq_ld, h1.read_unread, h2.read_unread, h3.read_unread, h4.read_unread, h5.read_unread, h10.read_unread, h11.read_unread, View.ld_unit_zero (S := S512x1024) hz2, View.ld_unit_zero (S := S1x1024) hz2, View.ld_unit_zero (S := S1024x1024) hz2, View.ld_unit_zero (S := S8x1024) hz2]
  rfl

theorem out_C_7 (hc0 : ¬cond0_0 i) (hc1 : cond0_1 i) :
    out0_C_7 c i a1 h1 a2 h2 a3 h3 a4 h4 a5 h5 a6 h6 a7 h7 a8 h8 a9 h9 a10 h10 a11 h11 hc0 hc1 x0 x1 x2 x3 x4 s0 s1 = k0_pay2 (F := Ideal) (k0_pay14 (F := Ideal) x0 (k0_pay8 x1) (k0_pay11 x1 x3 x4) x2 s0) := by
  unfold out0_C_7
  rw [View.read_writes_eq_canon _ _ _ (cover0_C_7 c i a1 h1 a2 h2 a3 h3 a4 h4 a5 h5 a6 h6 a7 h7 a8 h8 a9 h9 a10 h10 a11 h11 hc0 hc1 x0 x1 x2 x3 x4 s0 s1)]
  unfold kernelRun0_C
  dsimp only
  sl_unfold_words
  rw [View.canon_unit_zero hz2, View.readCov_unit_zero (S := S8x1024) _ hz2]
  simp only [View.readAt_eq_ld, h1.read_unread, h2.read_unread, h3.read_unread, h4.read_unread, h5.read_unread, h10.read_unread, h11.read_unread, View.ld_unit_zero (S := S512x1024) hz2, View.ld_unit_zero (S := S1x1024) hz2, View.ld_unit_zero (S := S1024x1024) hz2, View.ld_unit_zero (S := S8x1024) hz2]

theorem out_C_8 (hc0 : ¬cond0_0 i) (hc1 : cond0_1 i) :
    out0_C_8 c i a1 h1 a2 h2 a3 h3 a4 h4 a5 h5 a6 h6 a7 h7 a8 h8 a9 h9 a10 h10 a11 h11 hc0 hc1 x0 x1 x2 x3 x4 s0 s1 = k0_pay3 (F := Ideal) (k0_pay15 (F := Ideal) x0 (k0_pay11 x1 x3 x4) x2 s1) := by
  unfold out0_C_8
  rw [View.read_writes_eq_canon _ _ _ (cover0_C_8 c i a1 h1 a2 h2 a3 h3 a4 h4 a5 h5 a6 h6 a7 h7 a8 h8 a9 h9 a10 h10 a11 h11 hc0 hc1 x0 x1 x2 x3 x4 s0 s1)]
  unfold kernelRun0_C
  dsimp only
  sl_unfold_words
  rw [View.canon_unit_zero hz2, View.readCov_unit_zero (S := S8x1024) _ hz2]
  simp only [View.readAt_eq_ld, h1.read_unread, h2.read_unread, h3.read_unread, h4.read_unread, h5.read_unread, h10.read_unread, h11.read_unread, View.ld_unit_zero (S := S512x1024) hz2, View.ld_unit_zero (S := S1x1024) hz2, View.ld_unit_zero (S := S1024x1024) hz2, View.ld_unit_zero (S := S8x1024) hz2]

theorem sout_C_0 (hc0 : ¬cond0_0 i) (hc1 : cond0_1 i) :
    sout0_C_0 c i a1 h1 a2 h2 a3 h3 a4 h4 a5 h5 a6 h6 a7 h7 a8 h8 a9 h9 a10 h10 a11 h11 hc0 hc1 x0 x1 x2 x3 x4 s0 s1 = k0_pay14 (F := Ideal) x0 (k0_pay8 x1) (k0_pay11 x1 x3 x4) x2 s0 := by
  unfold sout0_C_0
  rw [View.read_writes_eq_canon _ _ _ (scover0_C_0 c i a1 h1 a2 h2 a3 h3 a4 h4 a5 h5 a6 h6 a7 h7 a8 h8 a9 h9 a10 h10 a11 h11 hc0 hc1 x0 x1 x2 x3 x4 s0 s1)]
  unfold kernelRun0_C
  dsimp only
  sl_unfold_words
  rw [View.canon_unit_zero hz2]
  simp only [View.readAt_eq_ld, h1.read_unread, h2.read_unread, h3.read_unread, h4.read_unread, h5.read_unread, h10.read_unread, h11.read_unread, View.ld_unit_zero (S := S512x1024) hz2, View.ld_unit_zero (S := S1x1024) hz2, View.ld_unit_zero (S := S1024x1024) hz2, View.ld_unit_zero (S := S8x1024) hz2]

theorem sout_C_1 (hc0 : ¬cond0_0 i) (hc1 : cond0_1 i) :
    sout0_C_1 c i a1 h1 a2 h2 a3 h3 a4 h4 a5 h5 a6 h6 a7 h7 a8 h8 a9 h9 a10 h10 a11 h11 hc0 hc1 x0 x1 x2 x3 x4 s0 s1 = k0_pay15 (F := Ideal) x0 (k0_pay11 x1 x3 x4) x2 s1 := by
  unfold sout0_C_1
  rw [View.read_writes_eq_canon _ _ _ (scover0_C_1 c i a1 h1 a2 h2 a3 h3 a4 h4 a5 h5 a6 h6 a7 h7 a8 h8 a9 h9 a10 h10 a11 h11 hc0 hc1 x0 x1 x2 x3 x4 s0 s1)]
  unfold kernelRun0_C
  dsimp only
  sl_unfold_words
  rw [View.canon_unit_zero hz2]
  simp only [View.readAt_eq_ld, h1.read_unread, h2.read_unread, h3.read_unread, h4.read_unread, h5.read_unread, h10.read_unread, h11.read_unread, View.ld_unit_zero (S := S512x1024) hz2, View.ld_unit_zero (S := S1x1024) hz2, View.ld_unit_zero (S := S1024x1024) hz2, View.ld_unit_zero (S := S8x1024) hz2]

end Cert.Kernel11Ideal.Gen

end
-- ==== Proof.HeadArrays.lean ====
module

public import proofs.«01_k».proof.Proof.HeadMath
public import proofs.«01_k».proof.Proof.HeadOpen
public import proofs.«01_k».proof.Proof.Gen.Kernel11Ideal.Value

/-! # The convolution head's four result arrays, entry by entry -/

@[expose] public section

noncomputable section

namespace Cert.Kernel11Ideal.Gen

open Idealize.ShloMosaic Idealize.ShloMosaic.TcCoe Idealize.SL.Sem Cert.Head Cert.Kernel11Ideal.Value
open Cert.Ffn (row coe_sum ofBits_1024 div_1024 ofBits_eps rsqrt_pos vare_pos lnb part part_row sum_part)

section

variable {I : In} {R : Fin 16384} {r : Fin 512} {D C : Vec Ideal S512x1024 .f32} {W : Vec Ideal S1024x1024 .bf16} {g b : Vec Ideal S1x1024 .f32}

section
variable (hC : ∀ k, C (ix2 r k) = (I.c R k : EReal))
include hC

theorem cen_row (k : Fin 1024) : k0_pay6 C (ix2 r k) = (Ffn.cen (I.c R) k : EReal) := by
  pointwise [k0_pay6]
  simp only [hC, coe_sum, ofBits_1024, div_1024, ← EReal.coe_sub]
  rfl

theorem rstd_row : k0_pay7 C (ix2 r 0) = (Ffn.rstd (I.c R) : EReal) := by
  pointwise [k0_pay7]
  simp only [cen_row hC, coe_sum, ofBits_1024, ofBits_eps, div_1024, ← EReal.coe_mul, ← EReal.coe_add]
  exact rsqrt_pos (vare_pos _)

theorem hat_row (k : Fin 1024) : k0_pay8 C (ix2 r k) = (Ffn.hat (I.c R) k : EReal) := by
  pointwise [k0_pay8]
  rw [cen_row hC, rstd_row hC, ← EReal.coe_mul]
  rfl

variable (hg : ∀ k, g (ix2 0 k) = (I.g k : EReal)) (hb : ∀ k, b (ix2 0 k) = (I.b k : EReal))
include hg hb

theorem n_row (k : Fin 1024) : k0_pay9 C g b (ix2 r k) = (I.n R k : EReal) := by
  pointwise [k0_pay9]
  rw [hat_row hC, hg, hb, ← EReal.coe_mul, ← EReal.coe_add]
  rfl

theorem slope_row (k : Fin 1024) : k0_pay11 C g b (ix2 r k) = (Ffn.dsilu (I.n R k) : EReal) := by
  pointwise [k0_pay11, k0_pay10]
  rw [n_row hC hg hb]
  exact slope_coe _

theorem s_row (k : Fin 1024) : k0_pay12 C g b (ix2 r k) = (I.s R k : EReal) := by
  pointwise [k0_pay12, k0_pay10]
  rw [n_row hC hg hb]
  exact silu_coe _

variable (hD : ∀ k, D (ix2 r k) = (I.ct R k : EReal)) (hW : ∀ k j, W (ix2 k j) = (I.w k j : EReal))
include hD hW

theorem dn_row (k : Fin 1024) : k0_pay13 D (k0_pay11 C g b) W (ix2 r k) = (I.dn R k : EReal) := by
  pointwise [k0_pay13]
  simp only [slope_row hC hg hb, hD, hW, ← EReal.coe_mul, coe_sum]
  rfl

theorem dc_row (k : Fin 1024) : dcV D C W g b (ix2 r k) = (I.dc R k : EReal) := by
  unfold dcV
  pointwise [k0_pay1, k0_pay16]
  simp only [dn_row hC hg hb hD hW, rstd_row hC, hat_row hC, hg, coe_sum, ofBits_1024, div_1024, ← EReal.coe_mul, ← EReal.coe_sub]
  rfl

end

end

theorem pay14_at (D h S : Vec Ideal S512x1024 .f32) (W : Vec Ideal S1024x1024 .bf16) (a : Vec Ideal S8x1024 .f32) (i : Fin 8) (k : Fin 1024) :
    k0_pay14 D h S W a (ix2 i k) = a (ix2 i k) + ∑ x : Fin 64, k0_pay13 D S W (ix2 ⟨x.val * 8 + i.val, by omega⟩ k)
      * h (ix2 ⟨x.val * 8 + i.val, by omega⟩ k) := by
  pointwise [k0_pay14]

theorem pay15_at (D S : Vec Ideal S512x1024 .f32) (W : Vec Ideal S1024x1024 .bf16) (a : Vec Ideal S8x1024 .f32) (i : Fin 8) (k : Fin 1024) :
    k0_pay15 D S W a (ix2 i k) = a (ix2 i k) + ∑ x : Fin 64, k0_pay13 D S W (ix2 ⟨x.val * 8 + i.val, by omega⟩ k) := by
  pointwise [k0_pay15]

theorem pay2_at (a : Vec Ideal S8x1024 .f32) (k : Fin 1024) : k0_pay2 a (ix2 0 k) = ∑ i : Fin 8, a (ix2 i k) := by
  pointwise [k0_pay2]
theorem pay3_at (a : Vec Ideal S8x1024 .f32) (k : Fin 1024) : k0_pay3 a (ix2 0 k) = ∑ i : Fin 8, a (ix2 i k) := by
  pointwise [k0_pay3]
theorem pay4_at (i : S8x1024.Idx) : k0_pay4 (F := Ideal) i = 0 := by
  pointwise [k0_pay4]
theorem pay5_at (i : S8x1024.Idx) : k0_pay5 (F := Ideal) i = 0 := by
  pointwise [k0_pay5]

/-- The tile number of a point of the grid. -/
def tile (t : Fin cfg0.N) : Fin 32 := ⟨t.val, lt_of_lt_of_eq t.isLt N_0⟩

theorem idx0_0 : ∀ t : Fin cfg0.N, win0_0.index t = ![t.val, 0] := by decide +kernel
theorem idx0_1 : ∀ t : Fin cfg0.N, win0_1.index t = ![t.val, 0] := by decide +kernel
theorem idx0_2 : ∀ t : Fin cfg0.N, win0_2.index t = ![0, 0] := by decide +kernel
theorem idx0_3 : ∀ t : Fin cfg0.N, win0_3.index t = ![0, 0] := by decide +kernel
theorem idx0_4 : ∀ t : Fin cfg0.N, win0_4.index t = ![0, 0] := by decide +kernel

theorem part_tile (f : Fin 16384 → ℝ) (a : Fin 8) (t : Fin cfg0.N) :
    part f a t.val = ∑ x : Fin 64, f (row (tile t) ⟨x.val * 8 + a.val, by omega⟩) := part_row f a (tile t)

variable (m : (ℓ : Loc nD τ sig) → Buf (Elt Ideal) ℓ) (c : Dev nD)

/-- The kernel's arguments hold the real numbers of `I`. -/
structure HoldsAt (I : In) : Prop where
  x : ∀ t k, (m (c, Proc.tc.devRef main_arg0) : Vec Ideal S16384x1024 .f32) (ix2 t k) = (I.c t k : EReal)
  g : ∀ k, (m (c, Proc.tc.devRef main_arg1) : Vec Ideal S1024 .f32) (ix1 k) = (I.g k : EReal)
  b : ∀ k, (m (c, Proc.tc.devRef main_arg2) : Vec Ideal S1024 .f32) (ix1 k) = (I.b k : EReal)
  w : ∀ k j, (m (c, Proc.tc.devRef main_arg3) : Vec Ideal S1024x1024 .f32) (ix2 k j) = (I.w k j : EReal)
  ct : ∀ t k, (m (c, Proc.tc.devRef main_arg4) : Vec Ideal S16384x1024 .f32) (ix2 t k) = (I.ct t k : EReal)

theorem V_w (k j : Fin 1024) : (V m c main_v0 : Vec Ideal S1024x1024 .bf16) (ix2 k j) = (m (c, Proc.tc.devRef main_arg3) : Vec Ideal S1024x1024 .f32) (ix2 k j) := by
  entry_read
  pointwise

theorem V_g (k : Fin 1024) : (V m c main_v1 : Vec Ideal S1x1024 .f32) (ix2 0 k) = (m (c, Proc.tc.devRef main_arg1) : Vec Ideal S1024 .f32) (ix1 k) := by
  entry_read
  pointwise

theorem V_b (k : Fin 1024) : (V m c main_v2 : Vec Ideal S1x1024 .f32) (ix2 0 k) = (m (c, Proc.tc.devRef main_arg2) : Vec Ideal S1024 .f32) (ix1 k) := by
  entry_read
  pointwise

variable {m c} (t : Fin cfg0.N) {I : In} (H : HoldsAt m c I)

include H

theorem ct_blk (r : Fin 512) (k : Fin 1024) : (iblk m c 0 t : Vec Ideal S512x1024 .f32) (ix2 r k) = (I.ct (row (tile t) r) k : EReal) := by
  rw [← H.ct]
  blk_ext! [iblk, V, idx0_0 t, tile, row]

theorem c_blk (r : Fin 512) (k : Fin 1024) : (iblk m c 1 t : Vec Ideal S512x1024 .f32) (ix2 r k) = (I.c (row (tile t) r) k : EReal) := by
  rw [← H.x]
  blk_ext! [iblk, V, idx0_1 t, tile, row]

theorem w_blk (k j : Fin 1024) : (iblk m c 2 t : Vec Ideal S1024x1024 .bf16) (ix2 k j) = (I.w k j : EReal) := by
  rw [← H.w, ← V_w m c]
  unfold iblk
  generalize V m c main_v0 = X
  blk_ext! [idx0_2 t]

theorem g_blk (k : Fin 1024) : (iblk m c 3 t : Vec Ideal S1x1024 .f32) (ix2 0 k) = (I.g k : EReal) := by
  rw [← H.g, ← V_g m c]
  unfold iblk
  generalize V m c main_v1 = X
  blk_ext! [idx0_3 t]

theorem b_blk (k : Fin 1024) : (iblk m c 4 t : Vec Ideal S1x1024 .f32) (ix2 0 k) = (I.b k : EReal) := by
  rw [← H.b, ← V_b m c]
  unfold iblk
  generalize V m c main_v2 = X
  blk_ext! [idx0_4 t]

/-! ## What a tile leaves in its row blocks -/

theorem s_blk (r : Fin 512) (k : Fin 1024) : k0_pay12 (F := Ideal) (iblk m c 1 t) (iblk m c 3 t) (iblk m c 4 t) (ix2 r k) = (I.s (row (tile t) r) k : EReal) :=
  s_row (c_blk t H r) (g_blk t H) (b_blk t H) k

theorem dc_blk (r : Fin 512) (k : Fin 1024) : dcV (iblk m c 0 t) (iblk m c 1 t) (iblk m c 2 t) (iblk m c 3 t) (iblk m c 4 t) (ix2 r k) = (I.dc (row (tile t) r) k : EReal) :=
  dc_row (c_blk t H r) (g_blk t H) (b_blk t H) (ct_blk t H r) (w_blk t H) k

theorem outs_s (r : Fin 512) (k : Fin 1024) : (outsAt0 m c t.val t.isLt).1 (ix2 r k) = (I.s (row (tile t) r) k : EReal) := by
  have hN := lt_of_lt_of_eq t.isLt (show cfg0.N = 32 from N_0)
  by_cases h0 : t.val % 32 = 0
  · rw [outsAt0_A m c t h0 (by omega)]; dsimp only; rw [out_A_5]; exact s_blk t H r k
  · by_cases h1 : t.val % 32 = 31
    · rw [outsAt0_C m c t h0 h1]; dsimp only; rw [out_C_5]; exact s_blk t H r k
    · rw [outsAt0_B m c t h0 h1]; dsimp only; rw [out_B_5]; exact s_blk t H r k

theorem outs_dc (r : Fin 512) (k : Fin 1024) : (outsAt0 m c t.val t.isLt).2.1 (ix2 r k) = (I.dc (row (tile t) r) k : EReal) := by
  have hN := lt_of_lt_of_eq t.isLt (show cfg0.N = 32 from N_0)
  by_cases h0 : t.val % 32 = 0
  · rw [outsAt0_A m c t h0 (by omega)]; dsimp only; rw [out_A_6]; exact dc_blk t H r k
  · by_cases h1 : t.val % 32 = 31
    · rw [outsAt0_C m c t h0 h1]; dsimp only; rw [out_C_6]; exact dc_blk t H r k
    · rw [outsAt0_B m c t h0 h1]; dsimp only; rw [out_B_6]; exact dc_blk t H r k

/-! ## The two accumulators -/

theorem step_g (s : Vec Ideal S8x1024 .f32) (a : Fin 8) (k : Fin 1024) (v : ℝ) (hs : s (ix2 a k) = (v : EReal)) :
    k0_pay14 (iblk m c 0 t) (k0_pay8 (iblk m c 1 t)) (k0_pay11 (iblk m c 1 t) (iblk m c 3 t) (iblk m c 4 t)) (iblk m c 2 t) s (ix2 a k)
      = ((v + part (fun t => I.dn t k * Ffn.hat (I.c t) k) a t.val : ℝ) : EReal) := by
  rw [pay14_at, hs, part_tile]
  simp only [dn_row (c_blk t H _) (g_blk t H) (b_blk t H) (ct_blk t H _) (w_blk t H), hat_row (c_blk t H _), ← EReal.coe_mul, coe_sum, ← EReal.coe_add]

theorem step_b (s : Vec Ideal S8x1024 .f32) (a : Fin 8) (k : Fin 1024) (v : ℝ) (hs : s (ix2 a k) = (v : EReal)) :
    k0_pay15 (iblk m c 0 t) (k0_pay11 (iblk m c 1 t) (iblk m c 3 t) (iblk m c 4 t)) (iblk m c 2 t) s (ix2 a k)
      = ((v + part (fun t => I.dn t k) a t.val : ℝ) : EReal) := by
  rw [pay15_at, hs, part_tile]
  simp only [dn_row (c_blk t H _) (g_blk t H) (b_blk t H) (ct_blk t H _) (w_blk t H), coe_sum, ← EReal.coe_add]

/-- After tile `n` each accumulator holds, at row `a`, the sum over the tiles so far of their rows that are `a` modulo 8. -/
theorem accs : ∀ (n : ℕ) (hn : n < cfg0.N) (a : Fin 8) (k : Fin 1024),
    (outsAt0 m c n hn).2.2.2.2.1 (ix2 a k) = ((∑ i ∈ Finset.range (n + 1), part (fun t => I.dn t k * Ffn.hat (I.c t) k) a i : ℝ) : EReal)
    ∧ (outsAt0 m c n hn).2.2.2.2.2 (ix2 a k) = ((∑ i ∈ Finset.range (n + 1), part (fun t => I.dn t k) a i : ℝ) : EReal)
  | 0, hn, a, k => by
    have e := outsAt0_A m c ⟨0, hn⟩ (Nat.zero_mod _) (fun h => by dsimp only at h; omega)
    dsimp only at e
    rw [e]
    dsimp only
    rw [sout_A_0, sout_A_1, step_g ⟨0, hn⟩ H _ a k 0 (pay4_at _), step_b ⟨0, hn⟩ H _ a k 0 (pay5_at _)]
    simp only [zero_add, Finset.sum_range_one, and_self]
  | n + 1, hn, a, k => by
    obtain ⟨e0, e1⟩ := accs n (Nat.lt_of_succ_lt hn) a k
    have hN := lt_of_lt_of_eq hn (show cfg0.N = 32 from N_0)
    rw [Finset.sum_range_succ _ (n + 1), Finset.sum_range_succ _ (n + 1)]
    by_cases h1 : (n + 1) % 32 = 31
    · have e := outsAt0_C m c ⟨n + 1, hn⟩ (by dsimp only; omega) h1
      dsimp only at e
      rw [e]
      dsimp only
      rw [sout_C_0, sout_C_1]
      exact ⟨step_g ⟨n + 1, hn⟩ H _ a k _ e0, step_b ⟨n + 1, hn⟩ H _ a k _ e1⟩
    · have e := outsAt0_B m c ⟨n + 1, hn⟩ (by dsimp only; omega) h1
      dsimp only at e
      rw [e]
      dsimp only
      rw [sout_B_0, sout_B_1]
      exact ⟨step_g ⟨n + 1, hn⟩ H _ a k _ e0, step_b ⟨n + 1, hn⟩ H _ a k _ e1⟩

omit H in
/-- After the last tile the two totals are the accumulators' sums. -/
theorem last_totals (t : Fin cfg0.N) (h0 : ¬t.val % 32 = 0) (h1 : t.val % 32 = 31) :
    (outsAt0 m c t.val t.isLt).2.2.1 = k0_pay2 (F := Ideal) (outsAt0 m c t.val t.isLt).2.2.2.2.1
    ∧ (outsAt0 m c t.val t.isLt).2.2.2.1 = k0_pay3 (F := Ideal) (outsAt0 m c t.val t.isLt).2.2.2.2.2 := by
  rw [outsAt0_C m c t h0 h1]
  dsimp only
  rw [out_C_7, out_C_8, sout_C_0, sout_C_1]
  exact ⟨rfl, rfl⟩

theorem last_sums (hn : 31 < cfg0.N) :
    (∀ k, (outsAt0 m c 31 hn).2.2.1 (ix2 0 k) = (I.dg k : EReal)) ∧ (∀ k, (outsAt0 m c 31 hn).2.2.2.1 (ix2 0 k) = (I.db k : EReal)) := by
  obtain ⟨e0, e1⟩ := last_totals (m := m) (c := c) ⟨31, hn⟩ (by dsimp only; omega) (by dsimp only)
  dsimp only at e0 e1
  rw [e0, e1]
  have a31 := accs H 31 hn
  refine ⟨fun k => ?_, fun k => ?_⟩
  · rw [pay2_at]
    simp only [(a31 _ k).1, coe_sum, sum_part]
    rfl
  · rw [pay3_at]
    simp only [(a31 _ k).2, coe_sum, sum_part]
    rfl

/-! ## The arrays -/

theorem G5_at (t : Fin 16384) (k : Fin 1024) : G5 m c (ix2 t k) = (I.s t k : EReal) := by
  have hp : pt5Of (ix2 t k) = t.val / 512 := by
    show 1 * (t.val / 512 - 0) + 1 * (k.val / 1024 - 0) = _
    omega
  have hN : t.val / 512 < cfg0.N := lt_of_lt_of_eq (by omega) N_0.symm
  have hl : loc5Of (ix2 t k) = ix2 ⟨t.val % 512, Nat.mod_lt _ (by decide)⟩ k := by
    funext a; apply Fin.ext
    match a with
    | ⟨0, _⟩ => rfl
    | ⟨1, _⟩ => show k.val % 1024 = k.val; omega
  unfold G5
  rw [dif_pos (by rw [hp]; exact hN), hl, fold0_congr m c _ _ _ (by rw [Nat.zero_add]; exact hN) hp, ← outsAt0_sweep m c _ hN,
    outs_s ⟨t.val / 512, hN⟩ H]
  rw [show row (tile ⟨t.val / 512, hN⟩) ⟨t.val % 512, Nat.mod_lt _ (by decide)⟩ = t from Fin.ext (Nat.div_add_mod' _ _)]

theorem G6_at (t : Fin 16384) (k : Fin 1024) : G6 m c (ix2 t k) = (I.dc t k : EReal) := by
  have hp : pt6Of (ix2 t k) = t.val / 512 := by
    show 1 * (t.val / 512 - 0) + 1 * (k.val / 1024 - 0) = _
    omega
  have hN : t.val / 512 < cfg0.N := lt_of_lt_of_eq (by omega) N_0.symm
  have hl : loc6Of (ix2 t k) = ix2 ⟨t.val % 512, Nat.mod_lt _ (by decide)⟩ k := by
    funext a; apply Fin.ext
    match a with
    | ⟨0, _⟩ => rfl
    | ⟨1, _⟩ => show k.val % 1024 = k.val; omega
  unfold G6
  rw [dif_pos (by rw [hp]; exact hN), hl, fold0_congr m c _ _ _ (by rw [Nat.zero_add]; exact hN) hp, ← outsAt0_sweep m c _ hN,
    outs_dc ⟨t.val / 512, hN⟩ H]
  rw [show row (tile ⟨t.val / 512, hN⟩) ⟨t.val % 512, Nat.mod_lt _ (by decide)⟩ = t from Fin.ext (Nat.div_add_mod' _ _)]

theorem G7_at (k : Fin 1024) : G7 m c (ix2 0 k) = (I.dg k : EReal) := by
  have hN : 31 < cfg0.N := lt_of_lt_of_eq (by decide) N_0.symm
  rw [G7_last, ← outsAt0_sweep m c 31 hN]
  exact (last_sums H hN).1 k

theorem G8_at (k : Fin 1024) : G8 m c (ix2 0 k) = (I.db k : EReal) := by
  have hN : 31 < cfg0.N := lt_of_lt_of_eq (by decide) N_0.symm
  rw [G8_last, ← outsAt0_sweep m c 31 hN]
  exact (last_sums H hN).2 k

end Cert.Kernel11Ideal.Gen

end
-- ==== Proof.HeadGrad.lean ====
module

public import proofs.«01_k».proof.Proof.HeadMath
public import proofs.«01_k».proof.Proof.Gen.Reference11Ideal.Run
public import Idealize.ShloMosaic.Lib.Pipeline.Value
public import Idealize.ShloMosaic.Lib.Pipeline.ValueKit.Point

/-! # The convolution head's reference, entry by entry -/

@[expose] public section

noncomputable section

namespace Cert.Reference11Ideal.Value

open Idealize.ShloMosaic Idealize.ShloMosaic.TcCoe Idealize.SL.Sem Cert.Reference11Ideal Cert.Reference11Ideal.Gen Cert.Head
open Cert.Ffn (row coe_sum ofBits_1024 ofBits_two ofBits_neg_half ofBits_one div_1024 ofBits_eps rsqrt_pos vare_pos lnb viaVar lnb_of_reverse)

variable (m : (ℓ : Loc nD τ sig) → Buf (Elt Ideal) ℓ) (c : Dev nD)

/-! The values the reference computes on the way, in its order. -/

def r1024 (m : (ℓ : Loc nD τ sig) → Buf (Elt Ideal) ℓ) (c : Dev nD) : FVec Ideal S16384x1 .f32 := broadcastInDim S16384x1 ![] bcast_S_S16384x1 (constant S_ .f32 0x44800000#32)
def cenR : FVec Ideal S16384x1024 .f32 := subf (m ((c.tc : Thread nD τ).loc main_arg0)) (broadcastInDim S16384x1024 ![0, 1] bcast_S16384x1_S16384x1024_0_1 (Host.divf (broadcastInDim S16384x1 ![0] bcast_S16384_S16384x1_0 (Host.reduceAdd (m ((c.tc : Thread nD τ).loc main_arg0)) (constant S_ .f32 0x00000000#32) reducesTo_S16384x1024_S16384_d1 h_S_)) (r1024 m c)))
def vareR : FVec Ideal S16384x1 .f32 := addf (Host.divf (broadcastInDim S16384x1 ![0] bcast_S16384_S16384x1_0 (Host.reduceAdd (mulf (cenR m c) (cenR m c)) (constant S_ .f32 0x00000000#32) reducesTo_S16384x1024_S16384_d1 h_S_)) (r1024 m c)) (broadcastInDim S16384x1 ![] bcast_S_S16384x1 (constant S_ .f32 0x3727C5AC#32))
def rstdR : FVec Ideal S16384x1 .f32 := Host.rsqrt (vareR m c)
def rstdB : FVec Ideal S16384x1024 .f32 := broadcastInDim S16384x1024 ![0, 1] bcast_S16384x1_S16384x1024_0_1 (rstdR m c)
def hatR : FVec Ideal S16384x1024 .f32 := mulf (cenR m c) (rstdB m c)
def gR : FVec Ideal S16384x1024 .f32 := broadcastInDim S16384x1024 ![0, 1] bcast_S1x1024_S16384x1024_0_1 (broadcastInDim S1x1024 ![1] bcast_S1024_S1x1024_1 (m ((c.tc : Thread nD τ).loc main_arg1)))
def nR : FVec Ideal S16384x1024 .f32 := addf (mulf (hatR m c) (gR m c)) (broadcastInDim S16384x1024 ![0, 1] bcast_S1x1024_S16384x1024_0_1 (broadcastInDim S1x1024 ![1] bcast_S1024_S1x1024_1 (m ((c.tc : Thread nD τ).loc main_arg2))))
def oneR (m : (ℓ : Loc nD τ sig) → Buf (Elt Ideal) ℓ) (c : Dev nD) : FVec Ideal S16384x1024 .f32 := broadcastInDim S16384x1024 ![] bcast_S_S16384x1024 (constant S_ .f32 0x3F800000#32)
def lgR : FVec Ideal S16384x1024 .f32 := Host.divf (oneR m c) (addf (oneR m c) (Host.exp (Host.negf (nR m c))))
def dsR : FVec Ideal S16384x1024 .f32 := Host.dotGeneral dot_S16384x1024_S1024x1024_S16384x1024_1_1_0_0_n_n none (φ₁ := .f32) (φ₂ := .f32) (m ((c.tc : Thread nD τ).loc main_arg4)) (m ((c.tc : Thread nD τ).loc main_arg3))
def dnR : FVec Ideal S16384x1024 .f32 := addf (mulf (dsR m c) (lgR m c)) (mulf (mulf (nR m c) (dsR m c)) (mulf (lgR m c) (subf (oneR m c) (lgR m c))))
def wR : FVec Ideal S16384x1024 .f32 := mulf (dnR m c) (gR m c)
def wrR : FVec Ideal S16384x1024 .f32 := mulf (wR m c) (rstdB m c)
def viaR : FVec Ideal S16384x1024 .f32 := mulf (broadcastInDim S16384x1024 ![0] bcast_S16384_S16384x1024_0 (Host.reduceAdd (Host.divf (mulf (shapeCast _ (Host.reduceAdd (mulf (cenR m c) (wR m c)) (constant S_ .f32 0x00000000#32) reducesTo_S16384x1024_S16384_d1 h_S_) shapeCasts_S16384_S16384x1) (mulf (broadcastInDim S16384x1 ![] bcast_S_S16384x1 (constant S_ .f32 0xBF000000#32)) (Host.divf (rstdR m c) (vareR m c)))) (r1024 m c)) (constant S_ .f32 0x00000000#32) reducesTo_S16384x1_S16384_d1 h_S_)) (mulf (broadcastInDim S16384x1024 ![] bcast_S_S16384x1024 (constant S_ .f32 0x40000000#32)) (cenR m c))

/-- The reference's arguments hold the real numbers of `I`. -/
structure HoldsIn (I : In) : Prop where
  x : ∀ t k, (m (c, Proc.tc.devRef main_arg0) : Vec Ideal S16384x1024 .f32) (ix2 t k) = (I.c t k : EReal)
  g : ∀ k, (m (c, Proc.tc.devRef main_arg1) : Vec Ideal S1024 .f32) (ix1 k) = (I.g k : EReal)
  b : ∀ k, (m (c, Proc.tc.devRef main_arg2) : Vec Ideal S1024 .f32) (ix1 k) = (I.b k : EReal)
  w : ∀ k j, (m (c, Proc.tc.devRef main_arg3) : Vec Ideal S1024x1024 .f32) (ix2 k j) = (I.w k j : EReal)
  ct : ∀ t k, (m (c, Proc.tc.devRef main_arg4) : Vec Ideal S16384x1024 .f32) (ix2 t k) = (I.ct t k : EReal)

theorem res_s : res_main_v91 m c = truncf .bf16 (mulf (nR m c) (lgR m c)) bitsLt_bf16_f32 := by
  unfold res_main_v91 lgR oneR nR gR hatR rstdB rstdR vareR cenR r1024
  rfl
theorem res_dc : res_main_v65 m c = addf (addf (wrR m c) (viaR m c)) (broadcastInDim S16384x1024 ![0] bcast_S16384_S16384x1024_0 (Host.reduceAdd (Host.divf (addf (shapeCast _ (Host.reduceAdd (Host.negf (wrR m c)) (constant S_ .f32 0x00000000#32) reducesTo_S16384x1024_S16384_d1 h_S_) shapeCasts_S16384_S16384x1) (shapeCast _ (Host.reduceAdd (Host.negf (viaR m c)) (constant S_ .f32 0x00000000#32) reducesTo_S16384x1024_S16384_d1 h_S_) shapeCasts_S16384_S16384x1)) (r1024 m c)) (constant S_ .f32 0x00000000#32) reducesTo_S16384x1_S16384_d1 h_S_)) := by
  unfold res_main_v65 viaR wrR wR dnR dsR lgR oneR nR gR hatR rstdB rstdR vareR cenR r1024
  rfl
theorem res_dg : res_main_v92 m c = shapeCast _ (Host.reduceAdd (shapeCast _ (Host.reduceAdd (mulf (hatR m c) (dnR m c)) (constant S_ .f32 0x00000000#32) reducesTo_S16384x1024_S1024_d0 h_S_) shapeCasts_S1024_S1x1024) (constant S_ .f32 0x00000000#32) reducesTo_S1x1024_S1024_d0 h_S_) shapeCasts_S1024_S1x1024 := by
  unfold res_main_v92 dnR dsR lgR oneR nR gR hatR rstdB rstdR vareR cenR r1024
  rfl
theorem res_db : res_main_v93 m c = shapeCast _ (Host.reduceAdd (shapeCast _ (Host.reduceAdd (dnR m c) (constant S_ .f32 0x00000000#32) reducesTo_S16384x1024_S1024_d0 h_S_) shapeCasts_S1024_S1x1024) (constant S_ .f32 0x00000000#32) reducesTo_S1x1024_S1024_d0 h_S_) shapeCasts_S1024_S1x1024 := by
  unfold res_main_v93 dnR dsR lgR oneR nR gR hatR rstdB rstdR vareR cenR r1024
  rfl

theorem r1024_at (t : Fin 16384) : r1024 m c (ix2 t 0) = (1024 : ℝ) := by
  unfold r1024
  pointwise
  exact ofBits_1024

theorem oneR_at (i : S16384x1024.Idx) : oneR m c i = 1 := by
  unfold oneR
  pointwise

variable {m c} {I : In} (H : HoldsIn m c I)

include H

theorem cen_at (t : Fin 16384) (k : Fin 1024) : cenR m c (ix2 t k) = (Ffn.cen (I.c t) k : EReal) := by
  unfold cenR
  pointwise
  erw [H.x]
  simp only [r1024_at]
  have e : ∀ k, (m ((c.tc : Thread nD τ).loc main_arg0) : Vec Ideal S16384x1024 .f32) (ix2 t k) = (I.c t k : EReal) := H.x t
  simp only [e, coe_sum, div_1024, ← EReal.coe_sub]
  rfl

theorem vare_at (t : Fin 16384) : vareR m c (ix2 t 0) = (Ffn.vare (I.c t) : EReal) := by
  unfold vareR
  pointwise
  simp only [cen_at H, r1024_at, ← EReal.coe_mul, coe_sum, ofBits_eps, div_1024, ← EReal.coe_add]
  rfl

theorem rstd_at (t : Fin 16384) : rstdR m c (ix2 t 0) = (Ffn.rstd (I.c t) : EReal) := by
  unfold rstdR
  pointwise
  rw [vare_at H, rsqrt_pos (vare_pos _)]; rfl

theorem rstdB_at (t : Fin 16384) (k : Fin 1024) : rstdB m c (ix2 t k) = (Ffn.rstd (I.c t) : EReal) := by
  unfold rstdB
  pointwise
  exact rstd_at H t

theorem hat_at (t : Fin 16384) (k : Fin 1024) : hatR m c (ix2 t k) = (Ffn.hat (I.c t) k : EReal) := by
  unfold hatR
  pointwise
  rw [cen_at H, rstdB_at H, ← EReal.coe_mul]; rfl

theorem g_at (t : Fin 16384) (k : Fin 1024) : gR m c (ix2 t k) = (I.g k : EReal) := by
  unfold gR
  pointwise
  exact H.g k

theorem n_at (t : Fin 16384) (k : Fin 1024) : nR m c (ix2 t k) = (I.n t k : EReal) := by
  unfold nR
  pointwise
  rw [hat_at H, g_at H]
  erw [H.b]
  rw [← EReal.coe_mul, ← EReal.coe_add]; rfl

theorem lg_at (t : Fin 16384) (k : Fin 1024) : lgR m c (ix2 t k) = Fwd.lgs (I.n t k : EReal) := by
  unfold lgR
  pointwise
  rw [n_at H, oneR_at]; rfl

theorem ds_at (t : Fin 16384) (k : Fin 1024) : dsR m c (ix2 t k) = (I.ds t k : EReal) := by
  unfold dsR
  pointwise
  have e : ∀ k, (m ((c.tc : Thread nD τ).loc main_arg4) : Vec Ideal S16384x1024 .f32) (ix2 t k) = (I.ct t k : EReal) := H.ct t
  have e' : ∀ k j, (m ((c.tc : Thread nD τ).loc main_arg3) : Vec Ideal S1024x1024 .f32) (ix2 k j) = (I.w k j : EReal) := H.w
  simp only [e, e', ← EReal.coe_mul, coe_sum]
  rfl

theorem dn_at (t : Fin 16384) (k : Fin 1024) : dnR m c (ix2 t k) = (I.dn t k : EReal) := by
  unfold dnR
  pointwise
  rw [ds_at H, lg_at H, n_at H, oneR_at]
  exact rule_coe _ _

theorem w_at (t : Fin 16384) (k : Fin 1024) : wR m c (ix2 t k) = ((I.dn t k * I.g k : ℝ) : EReal) := by
  unfold wR
  pointwise
  rw [dn_at H, g_at H, ← EReal.coe_mul]

theorem wr_at (t : Fin 16384) (k : Fin 1024) : wrR m c (ix2 t k) = ((I.dn t k * I.g k * Ffn.rstd (I.c t) : ℝ) : EReal) := by
  unfold wrR
  pointwise
  rw [w_at H, rstdB_at H, ← EReal.coe_mul]

theorem via_at (t : Fin 16384) (k : Fin 1024) : viaR m c (ix2 t k) = (viaVar (I.c t) (fun k => I.dn t k * I.g k) k : EReal) := by
  unfold viaR
  pointwise
  simp only [cen_at H, w_at H, rstd_at H, vare_at H, r1024_at, Cert.Ffn.div_pos (vare_pos _), ofBits_two, ofBits_neg_half,
    ← EReal.coe_mul, coe_sum, div_1024, Fin.sum_univ_one]
  rfl

theorem s_at (t : Fin 16384) (k : Fin 1024) : (res_main_v91 m c : Vec Ideal S16384x1024 .bf16) (ix2 t k) = (I.s t k : EReal) := by
  rw [res_s]
  pointwise
  rw [n_at H, lg_at H]
  exact silu_coe _

theorem dc_at (t : Fin 16384) (k : Fin 1024) : (res_main_v65 m c : Vec Ideal S16384x1024 .f32) (ix2 t k) = (I.dc t k : EReal) := by
  rw [res_dc]
  pointwise
  simp only [wr_at H, via_at H, r1024_at, ← EReal.coe_neg, ← EReal.coe_add, coe_sum, div_1024, Fin.sum_univ_one]
  congr 1
  exact lnb_of_reverse (I.c t) (fun k => I.dn t k * I.g k) k

theorem dg_at (k : Fin 1024) : (res_main_v92 m c : Vec Ideal S1x1024 .f32) (ix2 0 k) = (I.dg k : EReal) := by
  rw [res_dg]
  pointwise
  simp only [hat_at H, dn_at H, ← EReal.coe_mul, coe_sum, Fin.sum_univ_one]
  exact congrArg _ (Finset.sum_congr rfl fun t _ => mul_comm _ _)

theorem db_at (k : Fin 1024) : (res_main_v93 m c : Vec Ideal S1x1024 .f32) (ix2 0 k) = (I.db k : EReal) := by
  rw [res_db]
  pointwise
  simp only [dn_at H, coe_sum, Fin.sum_univ_one]
  rfl

end Cert.Reference11Ideal.Value

end
-- ==== Proof.Equation11.lean ====
module

public import proofs.«01_k».proof.Defs
public import proofs.«01_k».proof.Proof.Bounded
public import proofs.«01_k».proof.Proof.HeadArrays
public import proofs.«01_k».proof.Proof.HeadGrad

/-! # The convolution head's gradient: each result of the kernel is the reference's -/

@[expose] public section

noncomputable section

namespace Cert.Pre_finite_head

/-- The precondition's shape facts. -/
theorem shapes : Facts where
  bcast_S_S16384x1024 := by decide
  bcast_S_S1024 := by decide
  bcast_S_S1024x1024 := by decide

end Cert.Pre_finite_head

namespace Cert.Head

open Idealize.ShloMosaic Idealize.ShloMosaic.TcCoe Idealize.SL.Sem
open Cert.Ffn (ne_of_olt)

/-- Under the precondition the kernel's arguments hold real numbers. -/
theorem holds_of_pre (m : (ℓ : Loc Kernel11Ideal.nD Kernel11Ideal.τ Kernel11Ideal.sig) → Buf (Elt Ideal) ℓ)
    (h : Cert.Pre_Kernel11Ideal_finite_head (hPre_finite_head := Pre_finite_head.shapes) m) (c : Dev Kernel11Ideal.nD) :
    ∃ I, Kernel11Ideal.Gen.HoldsAt m c I := by
  obtain ⟨h0, h1, h2, h3, h4⟩ := h c
  have e0 := fun i => ne_of_olt _ (congrFun h0 i)
  have e1 := fun i => ne_of_olt _ (congrFun h1 i)
  have e2 := fun i => ne_of_olt _ (congrFun h2 i)
  have e3 := fun i => ne_of_olt _ (congrFun h3 i)
  have e4 := fun i => ne_of_olt _ (congrFun h4 i)
  exact ⟨⟨fun t k => ((m (c, Proc.tc.devRef Kernel11Ideal.main_arg0) : Vec Ideal Kernel11Ideal.S16384x1024 .f32) (ix2 t k) : EReal).toReal,
    fun k => ((m (c, Proc.tc.devRef Kernel11Ideal.main_arg1) : Vec Ideal Kernel11Ideal.S1024 .f32) (ix1 k) : EReal).toReal,
    fun k => ((m (c, Proc.tc.devRef Kernel11Ideal.main_arg2) : Vec Ideal Kernel11Ideal.S1024 .f32) (ix1 k) : EReal).toReal,
    fun k j => ((m (c, Proc.tc.devRef Kernel11Ideal.main_arg3) : Vec Ideal Kernel11Ideal.S1024x1024 .f32) (ix2 k j) : EReal).toReal,
    fun t k => ((m (c, Proc.tc.devRef Kernel11Ideal.main_arg4) : Vec Ideal Kernel11Ideal.S16384x1024 .f32) (ix2 t k) : EReal).toReal⟩,
    ⟨fun t k => (EReal.coe_toReal (e0 _).1 (e0 _).2).symm, fun k => (EReal.coe_toReal (e1 _).1 (e1 _).2).symm,
      fun k => (EReal.coe_toReal (e2 _).1 (e2 _).2).symm, fun k j => (EReal.coe_toReal (e3 _).1 (e3 _).2).symm,
      fun t k => (EReal.coe_toReal (e4 _).1 (e4 _).2).symm⟩⟩

end Cert.Head

namespace Cert.Proof

open Idealize.ShloMosaic Idealize.ShloMosaic.TcCoe Idealize.ShloMosaic.StableHlo Idealize.SL.Sem Cert.Head Cert.Kernel11Ideal.Gen
open Cert.Ffn (row_eta)

theorem algebraic11 : Cert.algebraic_Kernel11Ideal_Reference11Ideal_pre_finite_head (hKernel11Ideal := Cert.Kernel11Ideal.Gen.facts)
    (hReference11Ideal := Cert.Reference11Ideal.Gen.facts) (hPre_finite_head := Cert.Pre_finite_head.shapes) := by
  intro m g m' g' hpre hargs
  refine ⟨fun c => Kernel11Ideal.Value.G5 m c, fun c => Kernel11Ideal.Value.G6 m c, fun c => Kernel11Ideal.Value.G7 m c,
    fun c => Kernel11Ideal.Value.G8 m c, Kernel11Ideal.Value.run m g, ?_⟩
  refine (θ_run _ _ _).mono (fun r h c => ?_) (Reference11Ideal.Value.run m' g')
  obtain ⟨h0, h1, h2, h3, ha⟩ := h c
  obtain ⟨I, H⟩ := holds_of_pre m hpre c
  obtain ⟨a0, a1, a2, a3, a4⟩ := hargs c
  have H' : Reference11Ideal.Value.HoldsIn m' c I := by
    refine ⟨?_, ?_, ?_, ?_, ?_⟩
    · show ∀ t k, (m' ((c.tc : Thread Reference11Ideal.nD Reference11Ideal.τ).loc Reference11Ideal.main_arg0) : Vec Ideal Reference11Ideal.S16384x1024 .f32) (ix2 t k) = _
      rw [a0]; exact H.x
    · show ∀ k, (m' ((c.tc : Thread Reference11Ideal.nD Reference11Ideal.τ).loc Reference11Ideal.main_arg1) : Vec Ideal Reference11Ideal.S1024 .f32) (ix1 k) = _
      rw [a1]; exact H.g
    · show ∀ k, (m' ((c.tc : Thread Reference11Ideal.nD Reference11Ideal.τ).loc Reference11Ideal.main_arg2) : Vec Ideal Reference11Ideal.S1024 .f32) (ix1 k) = _
      rw [a2]; exact H.b
    · show ∀ k j, (m' ((c.tc : Thread Reference11Ideal.nD Reference11Ideal.τ).loc Reference11Ideal.main_arg3) : Vec Ideal Reference11Ideal.S1024x1024 .f32) (ix2 k j) = _
      rw [a3]; exact H.w
    · show ∀ t k, (m' ((c.tc : Thread Reference11Ideal.nD Reference11Ideal.τ).loc Reference11Ideal.main_arg4) : Vec Ideal Reference11Ideal.S16384x1024 .f32) (ix2 t k) = _
      rw [a4]; exact H.ct
  refine ⟨h0.trans ?_, h1.trans ?_, h2.trans ?_, h3.trans ?_, ha⟩
  · funext i
    rw [← ix2_eta i]
    exact (Reference11Ideal.Value.s_at H' _ _).trans (G5_at H _ _).symm
  · funext i
    rw [← ix2_eta i]
    exact (Reference11Ideal.Value.dc_at H' _ _).trans (G6_at H _ _).symm
  · funext i
    rw [row_eta i]
    exact (Reference11Ideal.Value.dg_at H' _).trans (G7_at H _).symm
  · funext i
    rw [row_eta i]
    exact (Reference11Ideal.Value.db_at H' _).trans (G8_at H _).symm

end Cert.Proof

end
-- ==== Proof.Glu.lean ====
module

public import proofs.«01_k».proof.Defs
public import proofs.«01_k».proof.Proof.Forward
public import proofs.«01_k».proof.Proof.Gen.Kernel12Ideal
public import proofs.«01_k».proof.Proof.Gen.Kernel12Ideal.Frame
public import proofs.«01_k».proof.Proof.Gen.Kernel12Ideal.Value
public import Idealize.ShloMosaic.Lib.Pipeline.Value
public import Idealize.ShloMosaic.Lib.Pipeline.ValueKit
public import Idealize.ShloMosaic.Lib.Pipeline.ValueKit.Point
public import Idealize.ShloMosaic.Lib.IdealHost

/-! # The convolution's gate, forward: the kernel's three result arrays, entry by entry

One tile of 512 rows holds the input rows, all four chips' columns of the first pointwise weight and the whole bias. The first two
chips hold the columns of the value half, the last two those of the gate half; the tile is written in two halves of 512 columns. -/

@[expose] public section

noncomputable section

namespace Cert.Kernel12Ideal.Gen

open Idealize.ShloMosaic Idealize.ShloMosaic.TcCoe Idealize.SL.Sem Cert.Kernel12Ideal.Value
open Cert.Ffn (row)
open Cert.Fwd (lgs)

/-- Column `f` of chip `j`. -/
def wcol (j : Fin 4) (f : Fin 512) : Fin 2048 := ⟨512 * j.val + f.val, by omega⟩
/-- The column of the value half, and the one of the gate half. -/
def left (k : Fin 1024) : Fin 2048 := ⟨k.val, by omega⟩
def right (k : Fin 1024) : Fin 2048 := ⟨1024 + k.val, by omega⟩

/-- The tile number of a point of the grid. -/
def tile (t : Fin cfg0.N) : Fin 32 := ⟨t.val, lt_of_lt_of_eq t.isLt N_0⟩

theorem idx0_0 : ∀ t : Fin cfg0.N, win0_0.index t = ![t.val, 0] := by decide +kernel
theorem idx0_1 : ∀ t : Fin cfg0.N, win0_1.index t = ![0, 0, 0] := by decide +kernel
theorem idx0_2 : ∀ t : Fin cfg0.N, win0_2.index t = ![0, 0] := by decide +kernel
theorem idx0_3 : ∀ t : Fin cfg0.N, win0_3.index t = ![t.val, 0] := by decide +kernel
theorem idx0_4 : ∀ t : Fin cfg0.N, win0_4.index t = ![t.val, 0] := by decide +kernel
theorem idx0_5 : ∀ t : Fin cfg0.N, win0_5.index t = ![t.val, 0] := by decide +kernel

theorem hz2 : (![0, 0] : Fin 2 → Nat) = fun _ => 0 := funext fun a => by fin_cases a <;> rfl

variable (m : (ℓ : Loc nD τ sig) → Buf (Elt Ideal) ℓ) (c : Dev nD)

/-- The input, the weight and the bias. -/
def inX (t : Fin 16384) (k : Fin 1024) : EReal := (m (c, Proc.tc.devRef main_arg0) : Vec Ideal S16384x1024 .f32) (ix2 t k)
def inW (k : Fin 1024) (f : Fin 2048) : EReal := (m (c, Proc.tc.devRef main_arg1) : Vec Ideal S1024x2048 .f32) (ix2 k f)
def inB (f : Fin 2048) : EReal := (m (c, Proc.tc.devRef main_arg2) : Vec Ideal S2048 .f32) (ix1 f)

/-- The pointwise product with its bias. -/
def pre (t : Fin 16384) (f : Fin 2048) : EReal := ∑ k, inX m c t k * inW m c k f + inB m c f

/-- The gated value. -/
def gated (t : Fin 16384) (k : Fin 1024) : EReal := pre m c t (left k) * lgs (pre m c t (right k))

/-! ## The host code's arrays and the blocks of a tile -/

theorem V_w (j : Fin 4) (k : Fin 1024) (f : Fin 512) : (V m c main_v2 : Vec Ideal S4x1024x512 .bf16) (ix3 j k f) = inW m c k (wcol j f) := by
  entry_read
  pointwise
  refine congrArg (m (c, Proc.tc.devRef main_arg1) : Vec Ideal S1024x2048 .f32) (congrArg (ix2 k) (Fin.ext ?_))
  simp [wcol]
  try omega

theorem V_b (f : Fin 2048) : (V m c main_v3 : Vec Ideal S1x2048 .f32) (ix2 0 f) = inB m c f := by
  entry_read
  pointwise
  rfl

variable (t : Fin cfg0.N)

theorem blk_x (r : Fin 512) (k : Fin 1024) : (iblk m c 0 t : Vec Ideal S512x1024 .f32) (ix2 r k) = inX m c (row (tile t) r) k := by
  unfold inX
  blk_ext! [iblk, V, idx0_0 t, tile, row]

theorem blk_w (j : Fin 4) (k : Fin 1024) (f : Fin 512) : (iblk m c 1 t : Vec Ideal S4x1024x512 .bf16) (ix3 j k f) = inW m c k (wcol j f) := by
  rw [← V_w m c]
  unfold iblk
  generalize V m c main_v2 = X
  blk_ext! [idx0_1 t]

theorem blk_b (f : Fin 2048) : (iblk m c 2 t : Vec Ideal S1x2048 .f32) (ix2 0 f) = inB m c f := by
  rw [← V_b m c]
  unfold iblk
  generalize V m c main_v3 = X
  blk_ext! [idx0_2 t]

theorem x_at (r : Fin 512) (k : Fin 1024) : (View.ld (iblk m c 0 t : Vec Ideal S512x1024 .f32) r0_0) (ix2 r k) = inX m c (row (tile t) r) k :=
  (congrFun (View.ld_unit_zero (S := S512x1024) hz2 _ _) _).trans (blk_x m c t r k)

/-- Chip 0's columns of the weight and of the bias, as loaded. -/
theorem w_at0 (k : Fin 1024) (f : Fin 512) : (View.ld (iblk m c 1 t : Vec Ideal S4x1024x512 .bf16) r0_1 : Vec Ideal S1x1024x512 .bf16) (ix3 0 k f) = inW m c k (wcol 0 f) :=
  (View.ld_unit_apply_of _ _ _ _ _ (ix3 0 k f) (fun a => by fin_cases a <;> simp [ix3])).trans (blk_w m c t 0 k f)
theorem b_at0 (f : Fin 512) : (View.ld (iblk m c 2 t : Vec Ideal S1x2048 .f32) r0_2 : Vec Ideal S1x512 .f32) (ix2 0 f) = inB m c (wcol 0 f) :=
  (View.ld_unit_apply_of _ _ _ _ _ (ix2 0 (wcol 0 f)) (fun a => by fin_cases a <;> simp [ix2, wcol])).trans (blk_b m c t (wcol 0 f))

/-- Chip 1's columns of the weight and of the bias, as loaded. -/
theorem w_at1 (k : Fin 1024) (f : Fin 512) : (View.ld (iblk m c 1 t : Vec Ideal S4x1024x512 .bf16) r0_6 : Vec Ideal S1x1024x512 .bf16) (ix3 0 k f) = inW m c k (wcol 1 f) :=
  (View.ld_unit_apply_of _ _ _ _ _ (ix3 1 k f) (fun a => by fin_cases a <;> simp [ix3])).trans (blk_w m c t 1 k f)
theorem b_at1 (f : Fin 512) : (View.ld (iblk m c 2 t : Vec Ideal S1x2048 .f32) r0_7 : Vec Ideal S1x512 .f32) (ix2 0 f) = inB m c (wcol 1 f) :=
  (View.ld_unit_apply_of _ _ _ _ _ (ix2 0 (wcol 1 f)) (fun a => by fin_cases a <;> simp [ix2, wcol])).trans (blk_b m c t (wcol 1 f))

/-- Chip 2's columns of the weight and of the bias, as loaded. -/
theorem w_at2 (k : Fin 1024) (f : Fin 512) : (View.ld (iblk m c 1 t : Vec Ideal S4x1024x512 .bf16) r0_3 : Vec Ideal S1x1024x512 .bf16) (ix3 0 k f) = inW m c k (wcol 2 f) :=
  (View.ld_unit_apply_of _ _ _ _ _ (ix3 2 k f) (fun a => by fin_cases a <;> simp [ix3])).trans (blk_w m c t 2 k f)
theorem b_at2 (f : Fin 512) : (View.ld (iblk m c 2 t : Vec Ideal S1x2048 .f32) r0_4 : Vec Ideal S1x512 .f32) (ix2 0 f) = inB m c (wcol 2 f) :=
  (View.ld_unit_apply_of _ _ _ _ _ (ix2 0 (wcol 2 f)) (fun a => by fin_cases a <;> simp [ix2, wcol])).trans (blk_b m c t (wcol 2 f))

/-- Chip 3's columns of the weight and of the bias, as loaded. -/
theorem w_at3 (k : Fin 1024) (f : Fin 512) : (View.ld (iblk m c 1 t : Vec Ideal S4x1024x512 .bf16) r0_8 : Vec Ideal S1x1024x512 .bf16) (ix3 0 k f) = inW m c k (wcol 3 f) :=
  (View.ld_unit_apply_of _ _ _ _ _ (ix3 3 k f) (fun a => by fin_cases a <;> simp [ix3])).trans (blk_w m c t 3 k f)
theorem b_at3 (f : Fin 512) : (View.ld (iblk m c 2 t : Vec Ideal S1x2048 .f32) r0_9 : Vec Ideal S1x512 .f32) (ix2 0 f) = inB m c (wcol 3 f) :=
  (View.ld_unit_apply_of _ _ _ _ _ (ix2 0 (wcol 3 f)) (fun a => by fin_cases a <;> simp [ix2, wcol])).trans (blk_b m c t (wcol 3 f))

/-! ## The body's expressions at those blocks -/

section

variable {m c} {R : Fin 16384} {r : Fin 512} {X : Vec Ideal S512x1024 .f32} {j i : Fin 4} {W G : Vec Ideal S1x1024x512 .bf16}
  {B C : Vec Ideal S1x512 .f32}

theorem val0 (hX : ∀ k, X (ix2 r k) = inX m c R k) (hW : ∀ k f, W (ix3 0 k f) = inW m c k (wcol j f)) (hB : ∀ f, B (ix2 0 f) = inB m c (wcol j f))
    (f : Fin 512) : k0_pay6 (F := Ideal) X W B (ix2 r f) = pre m c R (wcol j f) := by
  pointwise [k0_pay6, k0_pay5]
  simp only [hX, hW, hB]
  rfl

theorem gate0 (hX : ∀ k, X (ix2 r k) = inX m c R k) (hW : ∀ k f, W (ix3 0 k f) = inW m c k (wcol j f)) (hB : ∀ f, B (ix2 0 f) = inB m c (wcol j f))
    (f : Fin 512) : k0_pay7 (F := Ideal) X W B (ix2 r f) = pre m c R (wcol j f) := by
  pointwise [k0_pay7, k0_pay5]
  simp only [hX, hW, hB]
  rfl

theorem val1 (hX : ∀ k, X (ix2 r k) = inX m c R k) (hW : ∀ k f, W (ix3 0 k f) = inW m c k (wcol j f)) (hB : ∀ f, B (ix2 0 f) = inB m c (wcol j f))
    (f : Fin 512) : k0_pay11 (F := Ideal) X W B (ix2 r f) = pre m c R (wcol j f) := by
  pointwise [k0_pay11, k0_pay5]
  simp only [hX, hW, hB]
  rfl

theorem gate1 (hX : ∀ k, X (ix2 r k) = inX m c R k) (hW : ∀ k f, W (ix3 0 k f) = inW m c k (wcol j f)) (hB : ∀ f, B (ix2 0 f) = inB m c (wcol j f))
    (f : Fin 512) : k0_pay1 (F := Ideal) (k0_pay5 X) W B (ix2 r f) = pre m c R (wcol j f) := by
  pointwise [k0_pay1, k0_pay5]
  simp only [hX, hW, hB]
  rfl

theorem u0 (hX : ∀ k, X (ix2 r k) = inX m c R k) (hW : ∀ k f, W (ix3 0 k f) = inW m c k (wcol j f)) (hB : ∀ f, B (ix2 0 f) = inB m c (wcol j f))
    (hG : ∀ k f, G (ix3 0 k f) = inW m c k (wcol i f)) (hC : ∀ f, C (ix2 0 f) = inB m c (wcol i f))
    (f : Fin 512) : k0_pay10 (F := Ideal) X W B G C (ix2 r f) = pre m c R (wcol j f) * lgs (pre m c R (wcol i f)) := by
  pointwise [k0_pay10]
  rw [val0 hX hW hB, gate0 hX hG hC]
  rfl

theorem u1 (hX : ∀ k, X (ix2 r k) = inX m c R k) (hW : ∀ k f, W (ix3 0 k f) = inW m c k (wcol j f)) (hB : ∀ f, B (ix2 0 f) = inB m c (wcol j f))
    (hG : ∀ k f, G (ix3 0 k f) = inW m c k (wcol i f)) (hC : ∀ f, C (ix2 0 f) = inB m c (wcol i f))
    (f : Fin 512) : k0_pay4 (F := Ideal) (k0_pay5 X) (k0_pay11 X W B) G C (ix2 r f) = pre m c R (wcol j f) * lgs (pre m c R (wcol i f)) := by
  pointwise [k0_pay4]
  rw [val1 hX hW hB, gate1 hX hG hC]
  rfl

end

/-! ## The tile's outputs, each in its two halves -/

/-- The place in a half of an entry of the tile. -/
theorem place {r : Fin 512} {x : S512x512.Idx} (h : r.val = (x 0).val) : x = ix2 r (x 1) :=
  (eq_ix2 x).trans (congrArg (fun r => ix2 r (x 1)) (Fin.ext h.symm))

theorem lefts {k : Fin 1024} {f : Fin 512} {j : Fin 4} (h : k.val = 512 * j.val + f.val) : left k = wcol j f := Fin.ext h
theorem right_of {a b : ℕ} {j i : Fin 4} (hi : i.val = j.val + 2) (h : a = 512 * j.val + b) : 1024 + a = 512 * i.val + b := by omega
theorem rights {k : Fin 1024} {f : Fin 512} {j : Fin 4} (h : 1024 + k.val = 512 * j.val + f.val) : right k = wcol j f := Fin.ext h

theorem out_a (r : Fin 512) (k : Fin 1024) : out0_3 (iblk m c 0 t) (iblk m c 1 t) (iblk m c 2 t) (ix2 r k) = pre m c (row (tile t) r) (left k) := by
  unfold_out out0_3
  canon_tiles
  · rw [lefts (j := 1) (f := x 1) (by simpa using h1), place (r := r) (x := x) (by simpa using h0)]
    pointwise [k0_pay2]
    exact val1 (x_at m c t r) (w_at1 m c t) (b_at1 m c t) _
  · rw [lefts (j := 0) (f := x 1) (by simpa using h1), place (r := r) (x := x) (by simpa using h0)]
    pointwise [k0_pay8]
    exact val0 (x_at m c t r) (w_at0 m c t) (b_at0 m c t) _

theorem out_g (r : Fin 512) (k : Fin 1024) : out0_4 (iblk m c 0 t) (iblk m c 1 t) (iblk m c 2 t) (ix2 r k) = pre m c (row (tile t) r) (right k) := by
  unfold_out out0_4
  canon_tiles
  · rw [rights (j := 3) (f := x 1) (right_of (j := 1) (i := 3) rfl (by simpa using h1)), place (r := r) (x := x) (by simpa using h0)]
    pointwise [k0_pay3]
    exact gate1 (x_at m c t r) (w_at3 m c t) (b_at3 m c t) _
  · rw [rights (j := 2) (f := x 1) (right_of (j := 0) (i := 2) rfl (by simpa using h1)), place (r := r) (x := x) (by simpa using h0)]
    pointwise [k0_pay9]
    exact gate0 (x_at m c t r) (w_at2 m c t) (b_at2 m c t) _

theorem out_u (r : Fin 512) (k : Fin 1024) : out0_5 (iblk m c 0 t) (iblk m c 1 t) (iblk m c 2 t) (ix2 r k) = gated m c (row (tile t) r) k := by
  unfold_out out0_5
  canon_tiles
  · unfold gated
    rw [lefts (j := 1) (f := x 1) (by simpa using h1), rights (j := 3) (f := x 1) (right_of (j := 1) (i := 3) rfl (by simpa using h1)), place (r := r) (x := x) (by simpa using h0)]
    exact u1 (x_at m c t r) (w_at1 m c t) (b_at1 m c t) (w_at3 m c t) (b_at3 m c t) _
  · unfold gated
    rw [lefts (j := 0) (f := x 1) (by simpa using h1), rights (j := 2) (f := x 1) (right_of (j := 0) (i := 2) rfl (by simpa using h1)), place (r := r) (x := x) (by simpa using h0)]
    exact u0 (x_at m c t r) (w_at0 m c t) (b_at0 m c t) (w_at2 m c t) (b_at2 m c t) _

/-! ## The result arrays -/

theorem arr_a : (dats m 0 c).arrAt 3 cfg0.N = (fun i => pre m c (i 0) (left (i 1)) : Vec Ideal S16384x1024 .bf16) := by
  refine (dats m 0 c).arrAt_eq_of_covers 3 _ (by decide +kernel) fun t hf y => ?_
  blk_simp
  refine (congrFun (after0_3 m c t) _).trans ?_
  rw [eq_ix2 y]
  refine (out_a m c t _ _).trans ?_
  let A : Vec Ideal S16384x1024 .bf16 := fun i => pre m c (i 0) (left (i 1))
  show A (ix2 (row (tile t) (y 0)) (y 1)) = A _
  generalize A = X
  blk_ext! [idx0_3 t, tile, row]

theorem arr_g : (dats m 0 c).arrAt 4 cfg0.N = (fun i => pre m c (i 0) (right (i 1)) : Vec Ideal S16384x1024 .bf16) := by
  refine (dats m 0 c).arrAt_eq_of_covers 4 _ (by decide +kernel) fun t hf y => ?_
  blk_simp
  refine (congrFun (after0_4 m c t) _).trans ?_
  rw [eq_ix2 y]
  refine (out_g m c t _ _).trans ?_
  let A : Vec Ideal S16384x1024 .bf16 := fun i => pre m c (i 0) (right (i 1))
  show A (ix2 (row (tile t) (y 0)) (y 1)) = A _
  generalize A = X
  blk_ext! [idx0_4 t, tile, row]

theorem arr_u : (dats m 0 c).arrAt 5 cfg0.N = (fun i => gated m c (i 0) (i 1) : Vec Ideal S16384x1024 .f32) := by
  refine (dats m 0 c).arrAt_eq_of_covers 5 _ (by decide +kernel) fun t hf y => ?_
  blk_simp
  refine (congrFun (after0_5 m c t) _).trans ?_
  rw [eq_ix2 y]
  refine (out_u m c t _ _).trans ?_
  let A : Vec Ideal S16384x1024 .f32 := fun i => gated m c (i 0) (i 1)
  show A (ix2 (row (tile t) (y 0)) (y 1)) = A _
  generalize A = X
  blk_ext! [idx0_5 t, tile, row]

end Cert.Kernel12Ideal.Gen

end
-- ==== Proof.Equation12.lean ====
module

public import proofs.«01_k».proof.Proof.Glu
public import proofs.«01_k».proof.Proof.Gen.Reference12Ideal
public import proofs.«01_k».proof.Proof.Gen.Reference12Ideal.Run

/-! # The convolution's gate, forward: each result of the kernel is the reference's, for every input -/

@[expose] public section

noncomputable section

namespace Cert.Proof

open Idealize.ShloMosaic Idealize.ShloMosaic.TcCoe Idealize.SL.Sem

theorem algebraic12 : Cert.algebraic_Kernel12Ideal_Reference12Ideal (hKernel12Ideal := Cert.Kernel12Ideal.Gen.facts)
    (hReference12Ideal := Cert.Reference12Ideal.Gen.facts) := by
  intro m g m' g' _ hargs
  refine ⟨_, _, _, Kernel12Ideal.Value.run_blocks m g, ?_⟩
  refine (θ_run _ _ _).mono (fun r h c => ?_) (Reference12Ideal.Value.run m' g')
  obtain ⟨h0, h1, h2, ha⟩ := h c
  obtain ⟨a0, a1, a2⟩ := hargs c
  refine ⟨h0.trans ?_, h1.trans ?_, h2.trans ?_, ha⟩
  · rw [a0, a1, a2, Kernel12Ideal.Gen.arr_a]
    funext i
    obtain ⟨t, k, rfl⟩ : ∃ t k, i = ix2 t k := ⟨_, _, (ix2_eta i).symm⟩
    pointwise
    rfl
  · rw [a0, a1, a2, Kernel12Ideal.Gen.arr_g]
    funext i
    obtain ⟨t, k, rfl⟩ : ∃ t k, i = ix2 t k := ⟨_, _, (ix2_eta i).symm⟩
    pointwise
    rfl
  · rw [a0, a1, a2, Kernel12Ideal.Gen.arr_u]
    funext i
    obtain ⟨t, k, rfl⟩ : ∃ t k, i = ix2 t k := ⟨_, _, (ix2_eta i).symm⟩
    pointwise
    rfl

end Cert.Proof

end
-- ==== Proof.TailA.lean ====
module

public import proofs.«01_k».proof.Defs
public import proofs.«01_k».proof.Proof.Forward
public import proofs.«01_k».proof.Proof.Gen.Kernel13Ideal
public import proofs.«01_k».proof.Proof.Gen.Kernel13Ideal.Skeleton
public import Idealize.ShloMosaic.Lib.Pipeline.Value
public import Idealize.ShloMosaic.Lib.Pipeline.ValueKit
public import Idealize.ShloMosaic.Lib.Pipeline.ValueKit.Point
public import Idealize.ShloMosaic.Lib.IdealHost

/-! # The causal convolution's taps: what the kernel's sums are, entry by entry

A trip of the kernel's loop makes 64 rows of the convolution, 256 columns at a time. The rows are kept as 8 groups of 8, so that one
row of 8 weights, all equal, multiplies every group; each step adds a few taps to the running sum. -/

@[expose] public section

noncomputable section

namespace Cert.Kernel13Ideal.Gen

open Idealize.ShloMosaic Idealize.ShloMosaic.TcCoe Idealize.SL.Sem

/-- Row `p` of group `q`, as a row of the chunk. -/
def chunk (q p : Fin 8) : Fin 64 := ⟨q.val * 8 + p.val, by omega⟩

theorem k0_pay2_at (v115 : Vec Ideal S1x64x256 .f32) (v117 : Vec Ideal S1x8x256 .f32) (v126 : Vec Ideal S1x64x256 .f32) (v128 : Vec Ideal S1x8x256 .f32) (v137 : Vec Ideal S1x64x256 .f32) (v139 : Vec Ideal S1x8x256 .f32) (q p : Fin 8) (b : Fin 256) :
    k0_pay2 (F := Ideal) v115 v117 v126 v128 v137 v139 (ix3 q p b) = (((v117 (ix3 0 p b) * v115 (ix3 0 (chunk q p) b)) + (v128 (ix3 0 p b) * v126 (ix3 0 (chunk q p) b))) + (v139 (ix3 0 p b) * v137 (ix3 0 (chunk q p) b))) := by
  pointwise [chunk, k0_pay2]

theorem k0_pay3_at (v145 : FVec Ideal S8x8x256 .f32) (v148 : Vec Ideal S1x64x256 .f32) (v150 : Vec Ideal S1x8x256 .f32) (v159 : Vec Ideal S1x64x256 .f32) (v161 : Vec Ideal S1x8x256 .f32) (v170 : Vec Ideal S1x64x256 .f32) (v172 : Vec Ideal S1x8x256 .f32) (q p : Fin 8) (b : Fin 256) :
    k0_pay3 (F := Ideal) v145 v148 v150 v159 v161 v170 v172 (ix3 q p b) = (((v145 (ix3 q p b) + (v150 (ix3 0 p b) * v148 (ix3 0 (chunk q p) b))) + (v161 (ix3 0 p b) * v159 (ix3 0 (chunk q p) b))) + (v172 (ix3 0 p b) * v170 (ix3 0 (chunk q p) b))) := by
  pointwise [chunk, k0_pay3]

theorem k0_pay4_at (v181 : Vec Ideal S64x256 .f32) (q p : Fin 8) (b : Fin 256) :
    k0_pay4 (F := Ideal) v181 (ix3 q p b) = v181 (ix2 (chunk q p) b) := by
  pointwise [chunk, k0_pay4]

theorem k0_pay5_at (v182 : Vec Ideal S1x8x256 .f32) (p : Fin 8) (b : Fin 256) :
    k0_pay5 (F := Ideal) v182 (ix3 0 p b) = v182 (ix3 0 p b) := by
  pointwise [chunk, k0_pay5]

theorem k0_pay6_at (v178 : FVec Ideal S8x8x256 .f32) (v184 : FVec Ideal S8x8x256 .f32) (v185 : FVec Ideal S1x8x256 .f32) (v191 : Vec Ideal S1x64x256 .f32) (v193 : Vec Ideal S1x8x256 .f32) (v202 : Vec Ideal S1x64x256 .f32) (v204 : Vec Ideal S1x8x256 .f32) (v213 : Vec Ideal S1x64x256 .f32) (v215 : Vec Ideal S1x8x256 .f32) (q p : Fin 8) (b : Fin 256) :
    k0_pay6 (F := Ideal) v178 v184 v185 v191 v193 v202 v204 v213 v215 (ix3 q p b) = ((((v178 (ix3 q p b) + (v185 (ix3 0 p b) * v184 (ix3 q p b))) + (v193 (ix3 0 p b) * v191 (ix3 0 (chunk q p) b))) + (v204 (ix3 0 p b) * v202 (ix3 0 (chunk q p) b))) + (v215 (ix3 0 p b) * v213 (ix3 0 (chunk q p) b))) := by
  pointwise [chunk, k0_pay6]

theorem k0_pay7_at (v221 : FVec Ideal S8x8x256 .f32) (v224 : Vec Ideal S1x64x256 .f32) (v226 : Vec Ideal S1x8x256 .f32) (v235 : Vec Ideal S1x64x256 .f32) (v237 : Vec Ideal S1x8x256 .f32) (v246 : Vec Ideal S1x64x256 .f32) (v248 : Vec Ideal S1x8x256 .f32) (q p : Fin 8) (b : Fin 256) :
    k0_pay7 (F := Ideal) v221 v224 v226 v235 v237 v246 v248 (ix3 q p b) = (((v221 (ix3 q p b) + (v226 (ix3 0 p b) * v224 (ix3 0 (chunk q p) b))) + (v237 (ix3 0 p b) * v235 (ix3 0 (chunk q p) b))) + (v248 (ix3 0 p b) * v246 (ix3 0 (chunk q p) b))) := by
  pointwise [chunk, k0_pay7]

theorem k0_pay8_at (v257 : Vec Ideal S1x64x256 .f32) (q p : Fin 8) (b : Fin 256) :
    k0_pay8 (F := Ideal) v257 (ix3 q p b) = v257 (ix3 0 (chunk q p) b) := by
  pointwise [chunk, k0_pay8]

theorem k0_pay9_at (v259 : Vec Ideal S1x8x256 .f32) (q p : Fin 8) (b : Fin 256) :
    k0_pay9 (F := Ideal) v259 (ix3 q p b) = v259 (ix3 0 p b) := by
  pointwise [chunk, k0_pay9]

theorem k0_pay10_at (v254 : FVec Ideal S8x8x256 .f32) (v261 : FVec Ideal S8x8x256 .f32) (v263 : FVec Ideal S8x8x256 .f32) (v268 : Vec Ideal S64x256 .f32) (v269 : Vec Ideal S1x8x256 .f32) (v278 : Vec Ideal S1x64x256 .f32) (v280 : Vec Ideal S1x8x256 .f32) (v289 : Vec Ideal S1x64x256 .f32) (v291 : Vec Ideal S1x8x256 .f32) (q p : Fin 8) (b : Fin 256) :
    k0_pay10 (F := Ideal) v254 v261 v263 v268 v269 v278 v280 v289 v291 (ix3 q p b) = ((((v254 (ix3 q p b) + (v263 (ix3 q p b) * v261 (ix3 q p b))) + (v269 (ix3 0 p b) * v268 (ix2 (chunk q p) b))) + (v280 (ix3 0 p b) * v278 (ix3 0 (chunk q p) b))) + (v291 (ix3 0 p b) * v289 (ix3 0 (chunk q p) b))) := by
  pointwise [chunk, k0_pay10]

theorem k0_pay11_at (v300 : Vec Ideal S1x64x256 .f32) (q p : Fin 8) (b : Fin 256) :
    k0_pay11 (F := Ideal) v300 (ix2 (chunk q p) b) = v300 (ix3 0 (chunk q p) b) := by
  pointwise [chunk, k0_pay11]

theorem k0_pay12_at (v297 : FVec Ideal S8x8x256 .f32) (v301 : FVec Ideal S64x256 .f32) (v302 : Vec Ideal S1x8x256 .f32) (v311 : Vec Ideal S1x64x256 .f32) (v313 : Vec Ideal S1x8x256 .f32) (v322 : Vec Ideal S1x64x256 .f32) (v324 : Vec Ideal S1x8x256 .f32) (v333 : Vec Ideal S1x64x256 .f32) (v335 : Vec Ideal S1x8x256 .f32) (q p : Fin 8) (b : Fin 256) :
    k0_pay12 (F := Ideal) v297 v301 v302 v311 v313 v322 v324 v333 v335 (ix3 q p b) = ((((v297 (ix3 q p b) + (v302 (ix3 0 p b) * v301 (ix2 (chunk q p) b))) + (v313 (ix3 0 p b) * v311 (ix3 0 (chunk q p) b))) + (v324 (ix3 0 p b) * v322 (ix3 0 (chunk q p) b))) + (v335 (ix3 0 p b) * v333 (ix3 0 (chunk q p) b))) := by
  pointwise [chunk, k0_pay12]

theorem k0_pay13_at (v341 : FVec Ideal S8x8x256 .f32) (v344 : Vec Ideal S1x64x256 .f32) (v346 : Vec Ideal S1x8x256 .f32) (v355 : Vec Ideal S64x256 .f32) (v356 : Vec Ideal S1x8x256 .f32) (v365 : Vec Ideal S1x64x256 .f32) (v367 : Vec Ideal S1x8x256 .f32) (q p : Fin 8) (b : Fin 256) :
    k0_pay13 (F := Ideal) v341 v344 v346 v355 v356 v365 v367 (ix3 q p b) = (((v341 (ix3 q p b) + (v346 (ix3 0 p b) * v344 (ix3 0 (chunk q p) b))) + (v356 (ix3 0 p b) * v355 (ix2 (chunk q p) b))) + (v367 (ix3 0 p b) * v365 (ix3 0 (chunk q p) b))) := by
  pointwise [chunk, k0_pay13]

theorem k0_pay14_at (v376 : Vec Ideal S1x64x256 .f32) (q p : Fin 8) (b : Fin 256) :
    k0_pay14 (F := Ideal) v376 (ix2 (chunk q p) b) = v376 (ix3 0 (chunk q p) b) := by
  pointwise [chunk, k0_pay14]

theorem k0_pay15_at (v378 : Vec Ideal S1x8x256 .f32) (p : Fin 8) (b : Fin 256) :
    k0_pay15 (F := Ideal) v378 (ix2 p b) = v378 (ix3 0 p b) := by
  pointwise [chunk, k0_pay15]

theorem k0_pay16_at (v373 : FVec Ideal S8x8x256 .f32) (v377 : FVec Ideal S64x256 .f32) (v379 : FVec Ideal S8x256 .f32) (v387 : Vec Ideal S1x64x256 .f32) (v389 : Vec Ideal S1x8x256 .f32) (v398 : Vec Ideal S1x64x256 .f32) (v400 : Vec Ideal S1x8x256 .f32) (v409 : Vec Ideal S1x64x256 .f32) (v411 : Vec Ideal S1x8x256 .f32) (q p : Fin 8) (b : Fin 256) :
    k0_pay16 (F := Ideal) v373 v377 v379 v387 v389 v398 v400 v409 v411 (ix3 q p b) = ((((v373 (ix3 q p b) + (v379 (ix2 p b) * v377 (ix2 (chunk q p) b))) + (v389 (ix3 0 p b) * v387 (ix3 0 (chunk q p) b))) + (v400 (ix3 0 p b) * v398 (ix3 0 (chunk q p) b))) + (v411 (ix3 0 p b) * v409 (ix3 0 (chunk q p) b))) := by
  pointwise [chunk, k0_pay16]

theorem k0_pay17_at (v417 : FVec Ideal S8x8x256 .f32) (v420 : Vec Ideal S1x64x256 .f32) (v422 : Vec Ideal S1x8x256 .f32) (v431 : Vec Ideal S1x64x256 .f32) (v433 : Vec Ideal S1x8x256 .f32) (v442 : Vec Ideal S64x256 .f32) (v443 : Vec Ideal S1x8x256 .f32) (v451 : Vec Ideal S1x256 .f32) (q p : Fin 8) (b : Fin 256) :
    k0_pay17 (F := Ideal) v417 v420 v422 v431 v433 v442 v443 v451 (ix2 (chunk q p) b) = ((((v417 (ix3 q p b) + (v422 (ix3 0 p b) * v420 (ix3 0 (chunk q p) b))) + (v433 (ix3 0 p b) * v431 (ix3 0 (chunk q p) b))) + (v443 (ix3 0 p b) * v442 (ix2 (chunk q p) b))) + v451 (ix2 0 b)) := by
  pointwise [chunk, k0_pay17]

theorem k0_pay18_at  (q p : Fin 8) (b : Fin 256) :
    k0_pay18 (F := Ideal)  (ix3 q p b) = 0 := by
  pointwise [chunk, k0_pay18]

theorem k0_pay19_at (v457 : FVec Ideal S8x8x256 .f32) (v460 : Vec Ideal S1x64x256 .f32) (v462 : Vec Ideal S1x8x256 .f32) (v471 : Vec Ideal S1x64x256 .f32) (v473 : Vec Ideal S1x8x256 .f32) (v482 : Vec Ideal S1x64x256 .f32) (v484 : Vec Ideal S1x8x256 .f32) (q p : Fin 8) (b : Fin 256) :
    k0_pay19 (F := Ideal) v457 v460 v462 v471 v473 v482 v484 (ix3 q p b) = (((v457 (ix3 q p b) + (v462 (ix3 0 p b) * v460 (ix3 0 (chunk q p) b))) + (v473 (ix3 0 p b) * v471 (ix3 0 (chunk q p) b))) + (v484 (ix3 0 p b) * v482 (ix3 0 (chunk q p) b))) := by
  pointwise [chunk, k0_pay19]

theorem k0_pay20_at (v493 : Vec Ideal S1x64x256 .f32) (q p : Fin 8) (b : Fin 256) :
    k0_pay20 (F := Ideal) v493 (ix2 (chunk q p) b) = v493 (ix3 0 (chunk q p) b) := by
  pointwise [chunk, k0_pay20]

theorem k0_pay21_at (v490 : FVec Ideal S8x8x256 .f32) (v494 : FVec Ideal S64x256 .f32) (v495 : Vec Ideal S1x8x256 .f32) (v504 : Vec Ideal S1x64x256 .f32) (v506 : Vec Ideal S1x8x256 .f32) (v515 : Vec Ideal S1x64x256 .f32) (v517 : Vec Ideal S1x8x256 .f32) (v526 : Vec Ideal S64x256 .f32) (v527 : Vec Ideal S1x8x256 .f32) (q p : Fin 8) (b : Fin 256) :
    k0_pay21 (F := Ideal) v490 v494 v495 v504 v506 v515 v517 v526 v527 (ix3 q p b) = ((((v490 (ix3 q p b) + (v495 (ix3 0 p b) * v494 (ix2 (chunk q p) b))) + (v506 (ix3 0 p b) * v504 (ix3 0 (chunk q p) b))) + (v517 (ix3 0 p b) * v515 (ix3 0 (chunk q p) b))) + (v527 (ix3 0 p b) * v526 (ix2 (chunk q p) b))) := by
  pointwise [chunk, k0_pay21]

theorem k0_pay22_at (v533 : FVec Ideal S8x8x256 .f32) (v536 : Vec Ideal S1x64x256 .f32) (v538 : Vec Ideal S1x8x256 .f32) (v547 : Vec Ideal S1x64x256 .f32) (v549 : Vec Ideal S1x8x256 .f32) (v558 : Vec Ideal S1x64x256 .f32) (v560 : Vec Ideal S1x8x256 .f32) (q p : Fin 8) (b : Fin 256) :
    k0_pay22 (F := Ideal) v533 v536 v538 v547 v549 v558 v560 (ix3 q p b) = (((v533 (ix3 q p b) + (v538 (ix3 0 p b) * v536 (ix3 0 (chunk q p) b))) + (v549 (ix3 0 p b) * v547 (ix3 0 (chunk q p) b))) + (v560 (ix3 0 p b) * v558 (ix3 0 (chunk q p) b))) := by
  pointwise [chunk, k0_pay22]

theorem k0_pay23_at (v569 : Vec Ideal S1x64x256 .f32) (q p : Fin 8) (b : Fin 256) :
    k0_pay23 (F := Ideal) v569 (ix3 q p b) = v569 (ix3 0 (chunk q p) b) := by
  pointwise [chunk, k0_pay23]

theorem k0_pay24_at (v571 : Vec Ideal S1x8x256 .f32) (p : Fin 8) (b : Fin 256) :
    k0_pay24 (F := Ideal) v571 (ix3 0 p b) = v571 (ix3 0 p b) := by
  pointwise [chunk, k0_pay24]

theorem k0_pay25_at (v566 : FVec Ideal S8x8x256 .f32) (v573 : FVec Ideal S8x8x256 .f32) (v574 : FVec Ideal S1x8x256 .f32) (v580 : Vec Ideal S1x64x256 .f32) (v582 : Vec Ideal S1x8x256 .f32) (v591 : Vec Ideal S1x64x256 .f32) (v593 : Vec Ideal S1x8x256 .f32) (v602 : Vec Ideal S1x64x256 .f32) (v604 : Vec Ideal S1x8x256 .f32) (q p : Fin 8) (b : Fin 256) :
    k0_pay25 (F := Ideal) v566 v573 v574 v580 v582 v591 v593 v602 v604 (ix3 q p b) = ((((v566 (ix3 q p b) + (v574 (ix3 0 p b) * v573 (ix3 q p b))) + (v582 (ix3 0 p b) * v580 (ix3 0 (chunk q p) b))) + (v593 (ix3 0 p b) * v591 (ix3 0 (chunk q p) b))) + (v604 (ix3 0 p b) * v602 (ix3 0 (chunk q p) b))) := by
  pointwise [chunk, k0_pay25]

theorem k0_pay26_at (v610 : FVec Ideal S8x8x256 .f32) (v613 : Vec Ideal S64x256 .f32) (v614 : Vec Ideal S1x8x256 .f32) (v623 : Vec Ideal S1x64x256 .f32) (v625 : Vec Ideal S1x8x256 .f32) (v634 : Vec Ideal S1x64x256 .f32) (v636 : Vec Ideal S1x8x256 .f32) (v645 : Vec Ideal S1x64x256 .f32) (v647 : Vec Ideal S1x8x256 .f32) (q p : Fin 8) (b : Fin 256) :
    k0_pay26 (F := Ideal) v610 v613 v614 v623 v625 v634 v636 v645 v647 (ix3 q p b) = ((((v610 (ix3 q p b) + (v614 (ix3 0 p b) * v613 (ix2 (chunk q p) b))) + (v625 (ix3 0 p b) * v623 (ix3 0 (chunk q p) b))) + (v636 (ix3 0 p b) * v634 (ix3 0 (chunk q p) b))) + (v647 (ix3 0 p b) * v645 (ix3 0 (chunk q p) b))) := by
  pointwise [chunk, k0_pay26]

theorem k0_pay27_at (v653 : FVec Ideal S8x8x256 .f32) (v656 : Vec Ideal S1x64x256 .f32) (v658 : Vec Ideal S1x8x256 .f32) (v667 : Vec Ideal S1x64x256 .f32) (v669 : Vec Ideal S1x8x256 .f32) (v678 : Vec Ideal S1x64x256 .f32) (v680 : Vec Ideal S1x8x256 .f32) (q p : Fin 8) (b : Fin 256) :
    k0_pay27 (F := Ideal) v653 v656 v658 v667 v669 v678 v680 (ix3 q p b) = (((v653 (ix3 q p b) + (v658 (ix3 0 p b) * v656 (ix3 0 (chunk q p) b))) + (v669 (ix3 0 p b) * v667 (ix3 0 (chunk q p) b))) + (v680 (ix3 0 p b) * v678 (ix3 0 (chunk q p) b))) := by
  pointwise [chunk, k0_pay27]

theorem k0_pay28_at (v689 : Vec Ideal S1x64x256 .f32) (q p : Fin 8) (b : Fin 256) :
    k0_pay28 (F := Ideal) v689 (ix2 (chunk q p) b) = v689 (ix3 0 (chunk q p) b) := by
  pointwise [chunk, k0_pay28]

theorem k0_pay29_at (v686 : FVec Ideal S8x8x256 .f32) (v690 : FVec Ideal S64x256 .f32) (v691 : Vec Ideal S1x8x256 .f32) (v700 : Vec Ideal S64x256 .f32) (v701 : Vec Ideal S1x8x256 .f32) (v710 : Vec Ideal S1x64x256 .f32) (v712 : Vec Ideal S1x8x256 .f32) (v721 : Vec Ideal S1x64x256 .f32) (v723 : Vec Ideal S1x8x256 .f32) (q p : Fin 8) (b : Fin 256) :
    k0_pay29 (F := Ideal) v686 v690 v691 v700 v701 v710 v712 v721 v723 (ix3 q p b) = ((((v686 (ix3 q p b) + (v691 (ix3 0 p b) * v690 (ix2 (chunk q p) b))) + (v701 (ix3 0 p b) * v700 (ix2 (chunk q p) b))) + (v712 (ix3 0 p b) * v710 (ix3 0 (chunk q p) b))) + (v723 (ix3 0 p b) * v721 (ix3 0 (chunk q p) b))) := by
  pointwise [chunk, k0_pay29]

theorem k0_pay30_at (v729 : FVec Ideal S8x8x256 .f32) (v732 : Vec Ideal S1x64x256 .f32) (v734 : Vec Ideal S1x8x256 .f32) (v743 : Vec Ideal S1x64x256 .f32) (v745 : Vec Ideal S1x8x256 .f32) (v754 : Vec Ideal S1x64x256 .f32) (v756 : Vec Ideal S1x8x256 .f32) (q p : Fin 8) (b : Fin 256) :
    k0_pay30 (F := Ideal) v729 v732 v734 v743 v745 v754 v756 (ix3 q p b) = (((v729 (ix3 q p b) + (v734 (ix3 0 p b) * v732 (ix3 0 (chunk q p) b))) + (v745 (ix3 0 p b) * v743 (ix3 0 (chunk q p) b))) + (v756 (ix3 0 p b) * v754 (ix3 0 (chunk q p) b))) := by
  pointwise [chunk, k0_pay30]

theorem k0_pay31_at (v765 : Vec Ideal S1x64x256 .f32) (q p : Fin 8) (b : Fin 256) :
    k0_pay31 (F := Ideal) v765 (ix2 (chunk q p) b) = v765 (ix3 0 (chunk q p) b) := by
  pointwise [chunk, k0_pay31]

theorem k0_pay32_at (v767 : Vec Ideal S1x8x256 .f32) (p : Fin 8) (b : Fin 256) :
    k0_pay32 (F := Ideal) v767 (ix2 p b) = v767 (ix3 0 p b) := by
  pointwise [chunk, k0_pay32]

theorem k0_pay33_at (v762 : FVec Ideal S8x8x256 .f32) (v766 : FVec Ideal S64x256 .f32) (v768 : FVec Ideal S8x256 .f32) (v776 : Vec Ideal S1x64x256 .f32) (v778 : Vec Ideal S1x8x256 .f32) (v787 : Vec Ideal S64x256 .f32) (v788 : Vec Ideal S1x8x256 .f32) (v796 : Vec Ideal S1x256 .f32) (q p : Fin 8) (b : Fin 256) :
    k0_pay33 (F := Ideal) v762 v766 v768 v776 v778 v787 v788 v796 (ix2 (chunk q p) b) = ((((v762 (ix3 q p b) + (v768 (ix2 p b) * v766 (ix2 (chunk q p) b))) + (v778 (ix3 0 p b) * v776 (ix3 0 (chunk q p) b))) + (v788 (ix3 0 p b) * v787 (ix2 (chunk q p) b))) + v796 (ix2 0 b)) := by
  pointwise [chunk, k0_pay33]

theorem k0_pay34_at  (q p : Fin 8) (b : Fin 256) :
    k0_pay34 (F := Ideal)  (ix3 q p b) = 0 := by
  pointwise [chunk, k0_pay34]

theorem k0_pay35_at (v805 : Vec Ideal S1x64x256 .f32) (q p : Fin 8) (b : Fin 256) :
    k0_pay35 (F := Ideal) v805 (ix2 (chunk q p) b) = v805 (ix3 0 (chunk q p) b) := by
  pointwise [chunk, k0_pay35]

theorem k0_pay36_at (v802 : FVec Ideal S8x8x256 .f32) (v806 : FVec Ideal S64x256 .f32) (v807 : Vec Ideal S1x8x256 .f32) (v816 : Vec Ideal S1x64x256 .f32) (v818 : Vec Ideal S1x8x256 .f32) (v827 : Vec Ideal S1x64x256 .f32) (v829 : Vec Ideal S1x8x256 .f32) (v838 : Vec Ideal S1x64x256 .f32) (v840 : Vec Ideal S1x8x256 .f32) (q p : Fin 8) (b : Fin 256) :
    k0_pay36 (F := Ideal) v802 v806 v807 v816 v818 v827 v829 v838 v840 (ix3 q p b) = ((((v802 (ix3 q p b) + (v807 (ix3 0 p b) * v806 (ix2 (chunk q p) b))) + (v818 (ix3 0 p b) * v816 (ix3 0 (chunk q p) b))) + (v829 (ix3 0 p b) * v827 (ix3 0 (chunk q p) b))) + (v840 (ix3 0 p b) * v838 (ix3 0 (chunk q p) b))) := by
  pointwise [chunk, k0_pay36]

theorem k0_pay37_at (v846 : FVec Ideal S8x8x256 .f32) (v849 : Vec Ideal S1x64x256 .f32) (v851 : Vec Ideal S1x8x256 .f32) (v860 : Vec Ideal S1x64x256 .f32) (v862 : Vec Ideal S1x8x256 .f32) (v871 : Vec Ideal S64x256 .f32) (v872 : Vec Ideal S1x8x256 .f32) (q p : Fin 8) (b : Fin 256) :
    k0_pay37 (F := Ideal) v846 v849 v851 v860 v862 v871 v872 (ix3 q p b) = (((v846 (ix3 q p b) + (v851 (ix3 0 p b) * v849 (ix3 0 (chunk q p) b))) + (v862 (ix3 0 p b) * v860 (ix3 0 (chunk q p) b))) + (v872 (ix3 0 p b) * v871 (ix2 (chunk q p) b))) := by
  pointwise [chunk, k0_pay37]

theorem k0_pay38_at (v883 : Vec Ideal S1x8x256 .f32) (p : Fin 8) (b : Fin 256) :
    k0_pay38 (F := Ideal) v883 (ix2 p b) = v883 (ix3 0 p b) := by
  pointwise [chunk, k0_pay38]

theorem k0_pay39_at (v881 : Vec Ideal S1x64x256 .f32) (q p : Fin 8) (b : Fin 256) :
    k0_pay39 (F := Ideal) v881 (ix3 q p b) = v881 (ix3 0 (chunk q p) b) := by
  pointwise [chunk, k0_pay39]

theorem k0_pay40_at (v878 : FVec Ideal S8x8x256 .f32) (v884 : FVec Ideal S8x256 .f32) (v885 : FVec Ideal S8x8x256 .f32) (v892 : Vec Ideal S1x64x256 .f32) (v894 : Vec Ideal S1x8x256 .f32) (v903 : Vec Ideal S1x64x256 .f32) (v905 : Vec Ideal S1x8x256 .f32) (v914 : Vec Ideal S1x64x256 .f32) (v916 : Vec Ideal S1x8x256 .f32) (q p : Fin 8) (b : Fin 256) :
    k0_pay40 (F := Ideal) v878 v884 v885 v892 v894 v903 v905 v914 v916 (ix3 q p b) = ((((v878 (ix3 q p b) + (v884 (ix2 p b) * v885 (ix3 q p b))) + (v894 (ix3 0 p b) * v892 (ix3 0 (chunk q p) b))) + (v905 (ix3 0 p b) * v903 (ix3 0 (chunk q p) b))) + (v916 (ix3 0 p b) * v914 (ix3 0 (chunk q p) b))) := by
  pointwise [chunk, k0_pay40]

theorem k0_pay41_at (v922 : FVec Ideal S8x8x256 .f32) (v925 : Vec Ideal S1x64x256 .f32) (v927 : Vec Ideal S1x8x256 .f32) (v936 : Vec Ideal S1x64x256 .f32) (v938 : Vec Ideal S1x8x256 .f32) (v947 : Vec Ideal S1x64x256 .f32) (v949 : Vec Ideal S1x8x256 .f32) (q p : Fin 8) (b : Fin 256) :
    k0_pay41 (F := Ideal) v922 v925 v927 v936 v938 v947 v949 (ix3 q p b) = (((v922 (ix3 q p b) + (v927 (ix3 0 p b) * v925 (ix3 0 (chunk q p) b))) + (v938 (ix3 0 p b) * v936 (ix3 0 (chunk q p) b))) + (v949 (ix3 0 p b) * v947 (ix3 0 (chunk q p) b))) := by
  pointwise [chunk, k0_pay41]

theorem k0_pay42_at (v958 : Vec Ideal S64x256 .f32) (v959 : Vec Ideal S1x8x256 .f32) (q p : Fin 8) (b : Fin 256) :
    k0_pay42 (F := Ideal) v958 v959 (ix3 q p b) = (v959 (ix3 0 p b) * v958 (ix2 (chunk q p) b)) := by
  pointwise [chunk, k0_pay42]

theorem k0_pay43_at (v955 : FVec Ideal S8x8x256 .f32) (v964 : FVec Ideal S8x8x256 .f32) (v968 : Vec Ideal S1x64x256 .f32) (v970 : Vec Ideal S1x8x256 .f32) (v979 : Vec Ideal S1x64x256 .f32) (v981 : Vec Ideal S1x8x256 .f32) (v990 : Vec Ideal S1x64x256 .f32) (v992 : Vec Ideal S1x8x256 .f32) (q p : Fin 8) (b : Fin 256) :
    k0_pay43 (F := Ideal) v955 v964 v968 v970 v979 v981 v990 v992 (ix3 q p b) = ((((v955 (ix3 q p b) + v964 (ix3 q p b)) + (v970 (ix3 0 p b) * v968 (ix3 0 (chunk q p) b))) + (v981 (ix3 0 p b) * v979 (ix3 0 (chunk q p) b))) + (v992 (ix3 0 p b) * v990 (ix3 0 (chunk q p) b))) := by
  pointwise [chunk, k0_pay43]

theorem k0_pay44_at (v1001 : Vec Ideal S1x64x256 .f32) (q p : Fin 8) (b : Fin 256) :
    k0_pay44 (F := Ideal) v1001 (ix2 (chunk q p) b) = v1001 (ix3 0 (chunk q p) b) := by
  pointwise [chunk, k0_pay44]

theorem k0_pay45_at (v998 : FVec Ideal S8x8x256 .f32) (v1002 : FVec Ideal S64x256 .f32) (v1003 : Vec Ideal S1x8x256 .f32) (v1012 : Vec Ideal S1x64x256 .f32) (v1014 : Vec Ideal S1x8x256 .f32) (v1023 : Vec Ideal S1x64x256 .f32) (v1025 : Vec Ideal S1x8x256 .f32) (v1034 : Vec Ideal S1x64x256 .f32) (v1036 : Vec Ideal S1x8x256 .f32) (q p : Fin 8) (b : Fin 256) :
    k0_pay45 (F := Ideal) v998 v1002 v1003 v1012 v1014 v1023 v1025 v1034 v1036 (ix3 q p b) = ((((v998 (ix3 q p b) + (v1003 (ix3 0 p b) * v1002 (ix2 (chunk q p) b))) + (v1014 (ix3 0 p b) * v1012 (ix3 0 (chunk q p) b))) + (v1025 (ix3 0 p b) * v1023 (ix3 0 (chunk q p) b))) + (v1036 (ix3 0 p b) * v1034 (ix3 0 (chunk q p) b))) := by
  pointwise [chunk, k0_pay45]

theorem k0_pay46_at (v1042 : FVec Ideal S8x8x256 .f32) (v1045 : Vec Ideal S64x256 .f32) (v1046 : Vec Ideal S1x8x256 .f32) (v1055 : Vec Ideal S1x64x256 .f32) (v1057 : Vec Ideal S1x8x256 .f32) (v1066 : Vec Ideal S1x64x256 .f32) (v1068 : Vec Ideal S1x8x256 .f32) (q p : Fin 8) (b : Fin 256) :
    k0_pay46 (F := Ideal) v1042 v1045 v1046 v1055 v1057 v1066 v1068 (ix3 q p b) = (((v1042 (ix3 q p b) + (v1046 (ix3 0 p b) * v1045 (ix2 (chunk q p) b))) + (v1057 (ix3 0 p b) * v1055 (ix3 0 (chunk q p) b))) + (v1068 (ix3 0 p b) * v1066 (ix3 0 (chunk q p) b))) := by
  pointwise [chunk, k0_pay46]

theorem k0_pay47_at (v1077 : Vec Ideal S1x64x256 .f32) (q p : Fin 8) (b : Fin 256) :
    k0_pay47 (F := Ideal) v1077 (ix2 (chunk q p) b) = v1077 (ix3 0 (chunk q p) b) := by
  pointwise [chunk, k0_pay47]

theorem k0_pay48_at (v1074 : FVec Ideal S8x8x256 .f32) (v1078 : FVec Ideal S64x256 .f32) (v1079 : Vec Ideal S1x8x256 .f32) (v1088 : Vec Ideal S1x64x256 .f32) (v1090 : Vec Ideal S1x8x256 .f32) (v1099 : Vec Ideal S1x64x256 .f32) (v1101 : Vec Ideal S1x8x256 .f32) (v1110 : Vec Ideal S1x64x256 .f32) (v1112 : Vec Ideal S1x8x256 .f32) (q p : Fin 8) (b : Fin 256) :
    k0_pay48 (F := Ideal) v1074 v1078 v1079 v1088 v1090 v1099 v1101 v1110 v1112 (ix3 q p b) = ((((v1074 (ix3 q p b) + (v1079 (ix3 0 p b) * v1078 (ix2 (chunk q p) b))) + (v1090 (ix3 0 p b) * v1088 (ix3 0 (chunk q p) b))) + (v1101 (ix3 0 p b) * v1099 (ix3 0 (chunk q p) b))) + (v1112 (ix3 0 p b) * v1110 (ix3 0 (chunk q p) b))) := by
  pointwise [chunk, k0_pay48]

theorem k0_pay49_at (v1118 : FVec Ideal S8x8x256 .f32) (v1121 : Vec Ideal S1x64x256 .f32) (v1123 : Vec Ideal S1x8x256 .f32) (v1132 : Vec Ideal S64x256 .f32) (v1133 : Vec Ideal S1x8x256 .f32) (v1141 : Vec Ideal S1x256 .f32) (q p : Fin 8) (b : Fin 256) :
    k0_pay49 (F := Ideal) v1118 v1121 v1123 v1132 v1133 v1141 (ix2 (chunk q p) b) = (((v1118 (ix3 q p b) + (v1123 (ix3 0 p b) * v1121 (ix3 0 (chunk q p) b))) + (v1133 (ix3 0 p b) * v1132 (ix2 (chunk q p) b))) + v1141 (ix2 0 b)) := by
  pointwise [chunk, k0_pay49]

theorem k0_pay50_at (v1150 : Vec Ideal S1x64x256 .f32) (v1152 : Vec Ideal S1x8x256 .f32) (q p : Fin 8) (b : Fin 256) :
    k0_pay50 (F := Ideal) v1150 v1152 (ix3 q p b) = (v1152 (ix3 0 p b) * v1150 (ix3 0 (chunk q p) b)) := by
  pointwise [chunk, k0_pay50]

theorem k0_pay51_at (v1158 : FVec Ideal S8x8x256 .f32) (v1161 : Vec Ideal S1x64x256 .f32) (v1163 : Vec Ideal S1x8x256 .f32) (v1172 : Vec Ideal S1x64x256 .f32) (v1174 : Vec Ideal S1x8x256 .f32) (v1183 : Vec Ideal S1x64x256 .f32) (v1185 : Vec Ideal S1x8x256 .f32) (q p : Fin 8) (b : Fin 256) :
    k0_pay51 (F := Ideal) v1158 v1161 v1163 v1172 v1174 v1183 v1185 (ix3 q p b) = (((v1158 (ix3 q p b) + (v1163 (ix3 0 p b) * v1161 (ix3 0 (chunk q p) b))) + (v1174 (ix3 0 p b) * v1172 (ix3 0 (chunk q p) b))) + (v1185 (ix3 0 p b) * v1183 (ix3 0 (chunk q p) b))) := by
  pointwise [chunk, k0_pay51]

theorem k0_pay52_at (v1194 : Vec Ideal S1x64x256 .f32) (q p : Fin 8) (b : Fin 256) :
    k0_pay52 (F := Ideal) v1194 (ix2 (chunk q p) b) = v1194 (ix3 0 (chunk q p) b) := by
  pointwise [chunk, k0_pay52]

theorem k0_pay53_at (v1191 : FVec Ideal S8x8x256 .f32) (v1195 : FVec Ideal S64x256 .f32) (v1196 : Vec Ideal S1x8x256 .f32) (v1205 : Vec Ideal S1x64x256 .f32) (v1207 : Vec Ideal S1x8x256 .f32) (v1216 : Vec Ideal S64x256 .f32) (v1217 : Vec Ideal S1x8x256 .f32) (v1226 : Vec Ideal S1x64x256 .f32) (v1228 : Vec Ideal S1x8x256 .f32) (q p : Fin 8) (b : Fin 256) :
    k0_pay53 (F := Ideal) v1191 v1195 v1196 v1205 v1207 v1216 v1217 v1226 v1228 (ix3 q p b) = ((((v1191 (ix3 q p b) + (v1196 (ix3 0 p b) * v1195 (ix2 (chunk q p) b))) + (v1207 (ix3 0 p b) * v1205 (ix3 0 (chunk q p) b))) + (v1217 (ix3 0 p b) * v1216 (ix2 (chunk q p) b))) + (v1228 (ix3 0 p b) * v1226 (ix3 0 (chunk q p) b))) := by
  pointwise [chunk, k0_pay53]

theorem k0_pay54_at (v1234 : FVec Ideal S8x8x256 .f32) (v1237 : Vec Ideal S1x64x256 .f32) (v1239 : Vec Ideal S1x8x256 .f32) (v1248 : Vec Ideal S1x64x256 .f32) (v1250 : Vec Ideal S1x8x256 .f32) (v1259 : Vec Ideal S1x64x256 .f32) (v1261 : Vec Ideal S1x8x256 .f32) (q p : Fin 8) (b : Fin 256) :
    k0_pay54 (F := Ideal) v1234 v1237 v1239 v1248 v1250 v1259 v1261 (ix3 q p b) = (((v1234 (ix3 q p b) + (v1239 (ix3 0 p b) * v1237 (ix3 0 (chunk q p) b))) + (v1250 (ix3 0 p b) * v1248 (ix3 0 (chunk q p) b))) + (v1261 (ix3 0 p b) * v1259 (ix3 0 (chunk q p) b))) := by
  pointwise [chunk, k0_pay54]

theorem k0_pay55_at (v1272 : Vec Ideal S1x8x256 .f32) (p : Fin 8) (b : Fin 256) :
    k0_pay55 (F := Ideal) v1272 (ix2 p b) = v1272 (ix3 0 p b) := by
  pointwise [chunk, k0_pay55]

theorem k0_pay56_at (v1270 : Vec Ideal S1x64x256 .f32) (q p : Fin 8) (b : Fin 256) :
    k0_pay56 (F := Ideal) v1270 (ix3 q p b) = v1270 (ix3 0 (chunk q p) b) := by
  pointwise [chunk, k0_pay56]

theorem k0_pay57_at (v1267 : FVec Ideal S8x8x256 .f32) (v1273 : FVec Ideal S8x256 .f32) (v1274 : FVec Ideal S8x8x256 .f32) (v1281 : Vec Ideal S1x64x256 .f32) (v1283 : Vec Ideal S1x8x256 .f32) (v1292 : Vec Ideal S1x64x256 .f32) (v1294 : Vec Ideal S1x8x256 .f32) (v1303 : Vec Ideal S64x256 .f32) (v1304 : Vec Ideal S1x8x256 .f32) (q p : Fin 8) (b : Fin 256) :
    k0_pay57 (F := Ideal) v1267 v1273 v1274 v1281 v1283 v1292 v1294 v1303 v1304 (ix3 q p b) = ((((v1267 (ix3 q p b) + (v1273 (ix2 p b) * v1274 (ix3 q p b))) + (v1283 (ix3 0 p b) * v1281 (ix3 0 (chunk q p) b))) + (v1294 (ix3 0 p b) * v1292 (ix3 0 (chunk q p) b))) + (v1304 (ix3 0 p b) * v1303 (ix2 (chunk q p) b))) := by
  pointwise [chunk, k0_pay57]

theorem k0_pay58_at (v1313 : Vec Ideal S1x64x256 .f32) (q p : Fin 8) (b : Fin 256) :
    k0_pay58 (F := Ideal) v1313 (ix2 (chunk q p) b) = v1313 (ix3 0 (chunk q p) b) := by
  pointwise [chunk, k0_pay58]

theorem k0_pay59_at (v1310 : FVec Ideal S8x8x256 .f32) (v1314 : FVec Ideal S64x256 .f32) (v1315 : Vec Ideal S1x8x256 .f32) (v1324 : Vec Ideal S1x64x256 .f32) (v1326 : Vec Ideal S1x8x256 .f32) (v1335 : Vec Ideal S1x64x256 .f32) (v1337 : Vec Ideal S1x8x256 .f32) (q p : Fin 8) (b : Fin 256) :
    k0_pay59 (F := Ideal) v1310 v1314 v1315 v1324 v1326 v1335 v1337 (ix3 q p b) = (((v1310 (ix3 q p b) + (v1315 (ix3 0 p b) * v1314 (ix2 (chunk q p) b))) + (v1326 (ix3 0 p b) * v1324 (ix3 0 (chunk q p) b))) + (v1337 (ix3 0 p b) * v1335 (ix3 0 (chunk q p) b))) := by
  pointwise [chunk, k0_pay59]

theorem k0_pay60_at (v1346 : Vec Ideal S1x64x256 .f32) (v1348 : Vec Ideal S1x8x256 .f32) (q p : Fin 8) (b : Fin 256) :
    k0_pay60 (F := Ideal) v1346 v1348 (ix3 q p b) = (v1348 (ix3 0 p b) * v1346 (ix3 0 (chunk q p) b)) := by
  pointwise [chunk, k0_pay60]

theorem k0_pay61_at (v1343 : FVec Ideal S8x8x256 .f32) (v1353 : FVec Ideal S8x8x256 .f32) (v1357 : Vec Ideal S1x64x256 .f32) (v1359 : Vec Ideal S1x8x256 .f32) (v1368 : Vec Ideal S1x64x256 .f32) (v1370 : Vec Ideal S1x8x256 .f32) (v1379 : Vec Ideal S1x64x256 .f32) (v1381 : Vec Ideal S1x8x256 .f32) (q p : Fin 8) (b : Fin 256) :
    k0_pay61 (F := Ideal) v1343 v1353 v1357 v1359 v1368 v1370 v1379 v1381 (ix3 q p b) = ((((v1343 (ix3 q p b) + v1353 (ix3 q p b)) + (v1359 (ix3 0 p b) * v1357 (ix3 0 (chunk q p) b))) + (v1370 (ix3 0 p b) * v1368 (ix3 0 (chunk q p) b))) + (v1381 (ix3 0 p b) * v1379 (ix3 0 (chunk q p) b))) := by
  pointwise [chunk, k0_pay61]

theorem k0_pay62_at (v1387 : FVec Ideal S8x8x256 .f32) (v1390 : Vec Ideal S64x256 .f32) (v1391 : Vec Ideal S1x8x256 .f32) (v1400 : Vec Ideal S1x64x256 .f32) (v1402 : Vec Ideal S1x8x256 .f32) (v1411 : Vec Ideal S1x64x256 .f32) (v1413 : Vec Ideal S1x8x256 .f32) (v1422 : Vec Ideal S1x64x256 .f32) (v1424 : Vec Ideal S1x8x256 .f32) (q p : Fin 8) (b : Fin 256) :
    k0_pay62 (F := Ideal) v1387 v1390 v1391 v1400 v1402 v1411 v1413 v1422 v1424 (ix3 q p b) = ((((v1387 (ix3 q p b) + (v1391 (ix3 0 p b) * v1390 (ix2 (chunk q p) b))) + (v1402 (ix3 0 p b) * v1400 (ix3 0 (chunk q p) b))) + (v1413 (ix3 0 p b) * v1411 (ix3 0 (chunk q p) b))) + (v1424 (ix3 0 p b) * v1422 (ix3 0 (chunk q p) b))) := by
  pointwise [chunk, k0_pay62]

theorem k0_pay63_at (v1430 : FVec Ideal S8x8x256 .f32) (v1433 : Vec Ideal S1x64x256 .f32) (v1435 : Vec Ideal S1x8x256 .f32) (v1444 : Vec Ideal S1x64x256 .f32) (v1446 : Vec Ideal S1x8x256 .f32) (v1455 : Vec Ideal S1x64x256 .f32) (v1457 : Vec Ideal S1x8x256 .f32) (q p : Fin 8) (b : Fin 256) :
    k0_pay63 (F := Ideal) v1430 v1433 v1435 v1444 v1446 v1455 v1457 (ix3 q p b) = (((v1430 (ix3 q p b) + (v1435 (ix3 0 p b) * v1433 (ix3 0 (chunk q p) b))) + (v1446 (ix3 0 p b) * v1444 (ix3 0 (chunk q p) b))) + (v1457 (ix3 0 p b) * v1455 (ix3 0 (chunk q p) b))) := by
  pointwise [chunk, k0_pay63]

theorem k0_pay64_at (v1466 : Vec Ideal S1x64x256 .f32) (q p : Fin 8) (b : Fin 256) :
    k0_pay64 (F := Ideal) v1466 (ix2 (chunk q p) b) = v1466 (ix3 0 (chunk q p) b) := by
  pointwise [chunk, k0_pay64]

theorem k0_pay65_at (v1463 : FVec Ideal S8x8x256 .f32) (v1467 : FVec Ideal S64x256 .f32) (v1468 : Vec Ideal S1x8x256 .f32) (v1477 : Vec Ideal S64x256 .f32) (v1478 : Vec Ideal S1x8x256 .f32) (q p : Fin 8) (b : Fin 256) :
    k0_pay65 (F := Ideal) v1463 v1467 v1468 v1477 v1478 (ix2 (chunk q p) b) = ((v1463 (ix3 q p b) + (v1468 (ix3 0 p b) * v1467 (ix2 (chunk q p) b))) + (v1478 (ix3 0 p b) * v1477 (ix2 (chunk q p) b))) := by
  pointwise [chunk, k0_pay65]

theorem k0_pay76_at (v1485 : FVec Ideal S64x256 .f32) (v1486 : Vec Ideal S1x256 .f32) (q p : Fin 8) (b : Fin 256) :
    k0_pay76 (F := Ideal) v1485 v1486 (ix2 (chunk q p) b) = (v1485 (ix2 (chunk q p) b) + v1486 (ix2 0 b)) := by
  pointwise [chunk, k0_pay76]

/-- The rows under the taps, read by row and column; `A` holds them. -/
def Rows (A : Vec Ideal S552x1024 .f32) (E : ℕ → ℕ → EReal) : Prop := ∀ (r : Fin 552) (f : Fin 1024), A (ix2 r f) = E r.val f.val
/-- The seven shifted copies of the rows: copy `s` starts `s + 1` rows later. -/
def Shifted (A : Vec Ideal S7x544x1024 .f32) (E : ℕ → ℕ → EReal) : Prop :=
  ∀ (s : Fin 7) (r : Fin 544) (f : Fin 1024), A (ix3 s r f) = E (r.val + s.val + 1) f.val

theorem ld_shifted {A : Vec Ideal S7x544x1024 .f32} {E : ℕ → ℕ → EReal} (h : Shifted A E) {off : Fin 3 → ℕ} {s R L n : ℕ}
    (ho : off = ![s, R, L]) (inb) (c : Fin 64) (b : Fin 256) (hn : R + c.val + s + 1 = n) :
    View.ld A (Rect.unit (s := S7x544x1024) off ![1, 64, 256] inb) (ix3 0 c b) = E n (L + b.val) := by
  subst ho hn
  have h0 : s + 1 ≤ 7 := inb 0
  have h1 : R + 64 ≤ 544 := inb 1
  have h2 : L + 256 ≤ 1024 := inb 2
  rw [View.ld_unit_apply_of A _ _ inb (ix3 0 c b) (ix3 ⟨s, by omega⟩ ⟨R + c.val, by omega⟩ ⟨L + b.val, by omega⟩)
    (fun a => by fin_cases a <;> rfl)]
  exact h _ _ _

theorem ld_rows {A : Vec Ideal S552x1024 .f32} {E : ℕ → ℕ → EReal} (h : Rows A E) {off : Fin 2 → ℕ} {R L n : ℕ}
    (ho : off = ![R, L]) (inb) (c : Fin 64) (b : Fin 256) (hn : R + c.val = n) :
    View.ld A (Rect.unit (s := S552x1024) off ![64, 256] inb) (ix2 c b) = E n (L + b.val) := by
  subst ho hn
  have h1 : R + 64 ≤ 552 := inb 0
  have h2 : L + 256 ≤ 1024 := inb 1
  rw [View.ld_unit_apply_of A _ _ inb (ix2 c b) (ix2 ⟨R + c.val, by omega⟩ ⟨L + b.val, by omega⟩)
    (fun a => by fin_cases a <;> rfl)]
  exact h _ _

/-- The taps' weights, each kept as eight equal rows. -/
def Taps (A : Vec Ideal S32x8x1024 .f32) (w : ℕ → ℕ → EReal) : Prop :=
  ∀ (t : Fin 32) (p : Fin 8) (f : Fin 1024), A (ix3 t p f) = w t.val f.val

theorem ld_taps {A : Vec Ideal S32x8x1024 .f32} {w : ℕ → ℕ → EReal} (h : Taps A w) (s L : ℕ) (inb) (p : Fin 8) (b : Fin 256) :
    View.ld A (Rect.unit (s := S32x8x1024) ![s, 0, L] ![1, 8, 256] inb) (ix3 0 p b) = w s (L + b.val) := by
  have h0 : s + 1 ≤ 32 := inb 0
  have h2 : L + 256 ≤ 1024 := inb 2
  rw [View.ld_unit_apply_of A _ _ inb (ix3 0 p b) (ix3 ⟨s, by omega⟩ p ⟨L + b.val, by omega⟩)
    (fun a => by fin_cases a <;> simp)]
  exact h _ _ _

theorem ld_bias {A : Vec Ideal S1x1024 .f32} {g : ℕ → EReal} (h : ∀ f : Fin 1024, A (ix2 0 f) = g f.val) (L : ℕ) (inb) (b : Fin 256) :
    View.ld A (Rect.unit (s := S1x1024) ![0, L] ![1, 256] inb) (ix2 0 b) = g (L + b.val) := by
  have h2 : L + 256 ≤ 1024 := inb 1
  rw [View.ld_unit_apply_of A _ _ inb (ix2 0 b) (ix2 0 ⟨L + b.val, by omega⟩) (fun a => by fin_cases a <;> simp)]
  exact h _

theorem tap_0_0 {A : Vec Ideal S7x544x1024 .f32} {E : ℕ → ℕ → EReal} (h : Shifted A E) (k : Fin k0_t1_loop.trips) (inb) (c : Fin 64) (b : Fin 256) :
    View.ld A (Rect.unit (s := S7x544x1024) (k0_off1 k 0#32) ![1, 64, 256] inb) (ix3 0 c b) = E (64 * k.val + c.val + 2) (0 + b.val) :=
  ld_shifted h (k0_off1_eq k 0) inb c b (by omega)

theorem tap_0_1 {A : Vec Ideal S7x544x1024 .f32} {E : ℕ → ℕ → EReal} (h : Shifted A E) (k : Fin k0_t1_loop.trips) (inb) (c : Fin 64) (b : Fin 256) :
    View.ld A (Rect.unit (s := S7x544x1024) (k0_off2 k 0#32) ![1, 64, 256] inb) (ix3 0 c b) = E (64 * k.val + c.val + 3) (0 + b.val) :=
  ld_shifted h (k0_off2_eq k 0) inb c b (by omega)

theorem tap_0_2 {A : Vec Ideal S7x544x1024 .f32} {E : ℕ → ℕ → EReal} (h : Shifted A E) (k : Fin k0_t1_loop.trips) (inb) (c : Fin 64) (b : Fin 256) :
    View.ld A (Rect.unit (s := S7x544x1024) (k0_off3 k 0#32) ![1, 64, 256] inb) (ix3 0 c b) = E (64 * k.val + c.val + 4) (0 + b.val) :=
  ld_shifted h (k0_off3_eq k 0) inb c b (by omega)

theorem tap_0_3 {A : Vec Ideal S7x544x1024 .f32} {E : ℕ → ℕ → EReal} (h : Shifted A E) (k : Fin k0_t1_loop.trips) (inb) (c : Fin 64) (b : Fin 256) :
    View.ld A (Rect.unit (s := S7x544x1024) (k0_off4 k 0#32) ![1, 64, 256] inb) (ix3 0 c b) = E (64 * k.val + c.val + 5) (0 + b.val) :=
  ld_shifted h (k0_off4_eq k 0) inb c b (by omega)

theorem tap_0_4 {A : Vec Ideal S7x544x1024 .f32} {E : ℕ → ℕ → EReal} (h : Shifted A E) (k : Fin k0_t1_loop.trips) (inb) (c : Fin 64) (b : Fin 256) :
    View.ld A (Rect.unit (s := S7x544x1024) (k0_off5 k 0#32) ![1, 64, 256] inb) (ix3 0 c b) = E (64 * k.val + c.val + 6) (0 + b.val) :=
  ld_shifted h (k0_off5_eq k 0) inb c b (by omega)

theorem tap_0_5 {A : Vec Ideal S7x544x1024 .f32} {E : ℕ → ℕ → EReal} (h : Shifted A E) (k : Fin k0_t1_loop.trips) (inb) (c : Fin 64) (b : Fin 256) :
    View.ld A (Rect.unit (s := S7x544x1024) (k0_off6 k 0#32) ![1, 64, 256] inb) (ix3 0 c b) = E (64 * k.val + c.val + 7) (0 + b.val) :=
  ld_shifted h (k0_off6_eq k 0) inb c b (by omega)

theorem tap_0_6 {A : Vec Ideal S552x1024 .f32} {E : ℕ → ℕ → EReal} (h : Rows A E) (k : Fin k0_t1_loop.trips) (inb) (c : Fin 64) (b : Fin 256) :
    View.ld A (Rect.unit (s := S552x1024) (k0_off7 k 8#32) ![64, 256] inb) (ix2 c b) = E (64 * k.val + c.val + 8) (0 + b.val) :=
  ld_rows h (k0_off7_eq k 0) inb c b (by omega)

theorem tap_0_7 {A : Vec Ideal S7x544x1024 .f32} {E : ℕ → ℕ → EReal} (h : Shifted A E) (k : Fin k0_t1_loop.trips) (inb) (c : Fin 64) (b : Fin 256) :
    View.ld A (Rect.unit (s := S7x544x1024) (k0_off8 k 8#32) ![1, 64, 256] inb) (ix3 0 c b) = E (64 * k.val + c.val + 9) (0 + b.val) :=
  ld_shifted h (k0_off8_eq k 0) inb c b (by omega)

theorem tap_0_8 {A : Vec Ideal S7x544x1024 .f32} {E : ℕ → ℕ → EReal} (h : Shifted A E) (k : Fin k0_t1_loop.trips) (inb) (c : Fin 64) (b : Fin 256) :
    View.ld A (Rect.unit (s := S7x544x1024) (k0_off1 k 8#32) ![1, 64, 256] inb) (ix3 0 c b) = E (64 * k.val + c.val + 10) (0 + b.val) :=
  ld_shifted h (k0_off1_eq k 1) inb c b (by omega)

theorem tap_0_9 {A : Vec Ideal S7x544x1024 .f32} {E : ℕ → ℕ → EReal} (h : Shifted A E) (k : Fin k0_t1_loop.trips) (inb) (c : Fin 64) (b : Fin 256) :
    View.ld A (Rect.unit (s := S7x544x1024) (k0_off2 k 8#32) ![1, 64, 256] inb) (ix3 0 c b) = E (64 * k.val + c.val + 11) (0 + b.val) :=
  ld_shifted h (k0_off2_eq k 1) inb c b (by omega)

theorem tap_0_10 {A : Vec Ideal S7x544x1024 .f32} {E : ℕ → ℕ → EReal} (h : Shifted A E) (k : Fin k0_t1_loop.trips) (inb) (c : Fin 64) (b : Fin 256) :
    View.ld A (Rect.unit (s := S7x544x1024) (k0_off3 k 8#32) ![1, 64, 256] inb) (ix3 0 c b) = E (64 * k.val + c.val + 12) (0 + b.val) :=
  ld_shifted h (k0_off3_eq k 1) inb c b (by omega)

theorem tap_0_11 {A : Vec Ideal S7x544x1024 .f32} {E : ℕ → ℕ → EReal} (h : Shifted A E) (k : Fin k0_t1_loop.trips) (inb) (c : Fin 64) (b : Fin 256) :
    View.ld A (Rect.unit (s := S7x544x1024) (k0_off4 k 8#32) ![1, 64, 256] inb) (ix3 0 c b) = E (64 * k.val + c.val + 13) (0 + b.val) :=
  ld_shifted h (k0_off4_eq k 1) inb c b (by omega)

theorem tap_0_12 {A : Vec Ideal S7x544x1024 .f32} {E : ℕ → ℕ → EReal} (h : Shifted A E) (k : Fin k0_t1_loop.trips) (inb) (c : Fin 64) (b : Fin 256) :
    View.ld A (Rect.unit (s := S7x544x1024) (k0_off5 k 8#32) ![1, 64, 256] inb) (ix3 0 c b) = E (64 * k.val + c.val + 14) (0 + b.val) :=
  ld_shifted h (k0_off5_eq k 1) inb c b (by omega)

theorem tap_0_13 {A : Vec Ideal S7x544x1024 .f32} {E : ℕ → ℕ → EReal} (h : Shifted A E) (k : Fin k0_t1_loop.trips) (inb) (c : Fin 64) (b : Fin 256) :
    View.ld A (Rect.unit (s := S7x544x1024) (k0_off6 k 8#32) ![1, 64, 256] inb) (ix3 0 c b) = E (64 * k.val + c.val + 15) (0 + b.val) :=
  ld_shifted h (k0_off6_eq k 1) inb c b (by omega)

theorem tap_0_14 {A : Vec Ideal S552x1024 .f32} {E : ℕ → ℕ → EReal} (h : Rows A E) (k : Fin k0_t1_loop.trips) (inb) (c : Fin 64) (b : Fin 256) :
    View.ld A (Rect.unit (s := S552x1024) (k0_off7 k 16#32) ![64, 256] inb) (ix2 c b) = E (64 * k.val + c.val + 16) (0 + b.val) :=
  ld_rows h (k0_off7_eq k 1) inb c b (by omega)

theorem tap_0_15 {A : Vec Ideal S7x544x1024 .f32} {E : ℕ → ℕ → EReal} (h : Shifted A E) (k : Fin k0_t1_loop.trips) (inb) (c : Fin 64) (b : Fin 256) :
    View.ld A (Rect.unit (s := S7x544x1024) (k0_off8 k 16#32) ![1, 64, 256] inb) (ix3 0 c b) = E (64 * k.val + c.val + 17) (0 + b.val) :=
  ld_shifted h (k0_off8_eq k 1) inb c b (by omega)

theorem tap_0_16 {A : Vec Ideal S7x544x1024 .f32} {E : ℕ → ℕ → EReal} (h : Shifted A E) (k : Fin k0_t1_loop.trips) (inb) (c : Fin 64) (b : Fin 256) :
    View.ld A (Rect.unit (s := S7x544x1024) (k0_off1 k 16#32) ![1, 64, 256] inb) (ix3 0 c b) = E (64 * k.val + c.val + 18) (0 + b.val) :=
  ld_shifted h (k0_off1_eq k 2) inb c b (by omega)

theorem tap_0_17 {A : Vec Ideal S7x544x1024 .f32} {E : ℕ → ℕ → EReal} (h : Shifted A E) (k : Fin k0_t1_loop.trips) (inb) (c : Fin 64) (b : Fin 256) :
    View.ld A (Rect.unit (s := S7x544x1024) (k0_off2 k 16#32) ![1, 64, 256] inb) (ix3 0 c b) = E (64 * k.val + c.val + 19) (0 + b.val) :=
  ld_shifted h (k0_off2_eq k 2) inb c b (by omega)

theorem tap_0_18 {A : Vec Ideal S7x544x1024 .f32} {E : ℕ → ℕ → EReal} (h : Shifted A E) (k : Fin k0_t1_loop.trips) (inb) (c : Fin 64) (b : Fin 256) :
    View.ld A (Rect.unit (s := S7x544x1024) (k0_off3 k 16#32) ![1, 64, 256] inb) (ix3 0 c b) = E (64 * k.val + c.val + 20) (0 + b.val) :=
  ld_shifted h (k0_off3_eq k 2) inb c b (by omega)

theorem tap_0_19 {A : Vec Ideal S7x544x1024 .f32} {E : ℕ → ℕ → EReal} (h : Shifted A E) (k : Fin k0_t1_loop.trips) (inb) (c : Fin 64) (b : Fin 256) :
    View.ld A (Rect.unit (s := S7x544x1024) (k0_off4 k 16#32) ![1, 64, 256] inb) (ix3 0 c b) = E (64 * k.val + c.val + 21) (0 + b.val) :=
  ld_shifted h (k0_off4_eq k 2) inb c b (by omega)

theorem tap_0_20 {A : Vec Ideal S7x544x1024 .f32} {E : ℕ → ℕ → EReal} (h : Shifted A E) (k : Fin k0_t1_loop.trips) (inb) (c : Fin 64) (b : Fin 256) :
    View.ld A (Rect.unit (s := S7x544x1024) (k0_off5 k 16#32) ![1, 64, 256] inb) (ix3 0 c b) = E (64 * k.val + c.val + 22) (0 + b.val) :=
  ld_shifted h (k0_off5_eq k 2) inb c b (by omega)

theorem tap_0_21 {A : Vec Ideal S7x544x1024 .f32} {E : ℕ → ℕ → EReal} (h : Shifted A E) (k : Fin k0_t1_loop.trips) (inb) (c : Fin 64) (b : Fin 256) :
    View.ld A (Rect.unit (s := S7x544x1024) (k0_off6 k 16#32) ![1, 64, 256] inb) (ix3 0 c b) = E (64 * k.val + c.val + 23) (0 + b.val) :=
  ld_shifted h (k0_off6_eq k 2) inb c b (by omega)

theorem tap_0_22 {A : Vec Ideal S552x1024 .f32} {E : ℕ → ℕ → EReal} (h : Rows A E) (k : Fin k0_t1_loop.trips) (inb) (c : Fin 64) (b : Fin 256) :
    View.ld A (Rect.unit (s := S552x1024) (k0_off7 k 24#32) ![64, 256] inb) (ix2 c b) = E (64 * k.val + c.val + 24) (0 + b.val) :=
  ld_rows h (k0_off7_eq k 2) inb c b (by omega)

theorem tap_0_23 {A : Vec Ideal S7x544x1024 .f32} {E : ℕ → ℕ → EReal} (h : Shifted A E) (k : Fin k0_t1_loop.trips) (inb) (c : Fin 64) (b : Fin 256) :
    View.ld A (Rect.unit (s := S7x544x1024) (k0_off8 k 24#32) ![1, 64, 256] inb) (ix3 0 c b) = E (64 * k.val + c.val + 25) (0 + b.val) :=
  ld_shifted h (k0_off8_eq k 2) inb c b (by omega)

theorem tap_0_24 {A : Vec Ideal S7x544x1024 .f32} {E : ℕ → ℕ → EReal} (h : Shifted A E) (k : Fin k0_t1_loop.trips) (inb) (c : Fin 64) (b : Fin 256) :
    View.ld A (Rect.unit (s := S7x544x1024) (k0_off1 k 24#32) ![1, 64, 256] inb) (ix3 0 c b) = E (64 * k.val + c.val + 26) (0 + b.val) :=
  ld_shifted h (k0_off1_eq k 3) inb c b (by omega)

theorem tap_0_25 {A : Vec Ideal S7x544x1024 .f32} {E : ℕ → ℕ → EReal} (h : Shifted A E) (k : Fin k0_t1_loop.trips) (inb) (c : Fin 64) (b : Fin 256) :
    View.ld A (Rect.unit (s := S7x544x1024) (k0_off2 k 24#32) ![1, 64, 256] inb) (ix3 0 c b) = E (64 * k.val + c.val + 27) (0 + b.val) :=
  ld_shifted h (k0_off2_eq k 3) inb c b (by omega)

theorem tap_0_26 {A : Vec Ideal S7x544x1024 .f32} {E : ℕ → ℕ → EReal} (h : Shifted A E) (k : Fin k0_t1_loop.trips) (inb) (c : Fin 64) (b : Fin 256) :
    View.ld A (Rect.unit (s := S7x544x1024) (k0_off3 k 24#32) ![1, 64, 256] inb) (ix3 0 c b) = E (64 * k.val + c.val + 28) (0 + b.val) :=
  ld_shifted h (k0_off3_eq k 3) inb c b (by omega)

theorem tap_0_27 {A : Vec Ideal S7x544x1024 .f32} {E : ℕ → ℕ → EReal} (h : Shifted A E) (k : Fin k0_t1_loop.trips) (inb) (c : Fin 64) (b : Fin 256) :
    View.ld A (Rect.unit (s := S7x544x1024) (k0_off4 k 24#32) ![1, 64, 256] inb) (ix3 0 c b) = E (64 * k.val + c.val + 29) (0 + b.val) :=
  ld_shifted h (k0_off4_eq k 3) inb c b (by omega)

theorem tap_0_28 {A : Vec Ideal S7x544x1024 .f32} {E : ℕ → ℕ → EReal} (h : Shifted A E) (k : Fin k0_t1_loop.trips) (inb) (c : Fin 64) (b : Fin 256) :
    View.ld A (Rect.unit (s := S7x544x1024) (k0_off5 k 24#32) ![1, 64, 256] inb) (ix3 0 c b) = E (64 * k.val + c.val + 30) (0 + b.val) :=
  ld_shifted h (k0_off5_eq k 3) inb c b (by omega)

theorem tap_0_29 {A : Vec Ideal S7x544x1024 .f32} {E : ℕ → ℕ → EReal} (h : Shifted A E) (k : Fin k0_t1_loop.trips) (inb) (c : Fin 64) (b : Fin 256) :
    View.ld A (Rect.unit (s := S7x544x1024) (k0_off6 k 24#32) ![1, 64, 256] inb) (ix3 0 c b) = E (64 * k.val + c.val + 31) (0 + b.val) :=
  ld_shifted h (k0_off6_eq k 3) inb c b (by omega)

theorem tap_0_30 {A : Vec Ideal S552x1024 .f32} {E : ℕ → ℕ → EReal} (h : Rows A E) (k : Fin k0_t1_loop.trips) (inb) (c : Fin 64) (b : Fin 256) :
    View.ld A (Rect.unit (s := S552x1024) (k0_off7 k 32#32) ![64, 256] inb) (ix2 c b) = E (64 * k.val + c.val + 32) (0 + b.val) :=
  ld_rows h (k0_off7_eq k 3) inb c b (by omega)

theorem tap_256_0 {A : Vec Ideal S7x544x1024 .f32} {E : ℕ → ℕ → EReal} (h : Shifted A E) (k : Fin k0_t1_loop.trips) (inb) (c : Fin 64) (b : Fin 256) :
    View.ld A (Rect.unit (s := S7x544x1024) (k0_off10 k 0#32) ![1, 64, 256] inb) (ix3 0 c b) = E (64 * k.val + c.val + 2) (256 + b.val) :=
  ld_shifted h (k0_off10_eq k 0) inb c b (by omega)

theorem tap_256_1 {A : Vec Ideal S7x544x1024 .f32} {E : ℕ → ℕ → EReal} (h : Shifted A E) (k : Fin k0_t1_loop.trips) (inb) (c : Fin 64) (b : Fin 256) :
    View.ld A (Rect.unit (s := S7x544x1024) (k0_off11 k 0#32) ![1, 64, 256] inb) (ix3 0 c b) = E (64 * k.val + c.val + 3) (256 + b.val) :=
  ld_shifted h (k0_off11_eq k 0) inb c b (by omega)

theorem tap_256_2 {A : Vec Ideal S7x544x1024 .f32} {E : ℕ → ℕ → EReal} (h : Shifted A E) (k : Fin k0_t1_loop.trips) (inb) (c : Fin 64) (b : Fin 256) :
    View.ld A (Rect.unit (s := S7x544x1024) (k0_off12 k 0#32) ![1, 64, 256] inb) (ix3 0 c b) = E (64 * k.val + c.val + 4) (256 + b.val) :=
  ld_shifted h (k0_off12_eq k 0) inb c b (by omega)

theorem tap_256_3 {A : Vec Ideal S7x544x1024 .f32} {E : ℕ → ℕ → EReal} (h : Shifted A E) (k : Fin k0_t1_loop.trips) (inb) (c : Fin 64) (b : Fin 256) :
    View.ld A (Rect.unit (s := S7x544x1024) (k0_off13 k 0#32) ![1, 64, 256] inb) (ix3 0 c b) = E (64 * k.val + c.val + 5) (256 + b.val) :=
  ld_shifted h (k0_off13_eq k 0) inb c b (by omega)

theorem tap_256_4 {A : Vec Ideal S7x544x1024 .f32} {E : ℕ → ℕ → EReal} (h : Shifted A E) (k : Fin k0_t1_loop.trips) (inb) (c : Fin 64) (b : Fin 256) :
    View.ld A (Rect.unit (s := S7x544x1024) (k0_off14 k 0#32) ![1, 64, 256] inb) (ix3 0 c b) = E (64 * k.val + c.val + 6) (256 + b.val) :=
  ld_shifted h (k0_off14_eq k 0) inb c b (by omega)

theorem tap_256_5 {A : Vec Ideal S7x544x1024 .f32} {E : ℕ → ℕ → EReal} (h : Shifted A E) (k : Fin k0_t1_loop.trips) (inb) (c : Fin 64) (b : Fin 256) :
    View.ld A (Rect.unit (s := S7x544x1024) (k0_off15 k 0#32) ![1, 64, 256] inb) (ix3 0 c b) = E (64 * k.val + c.val + 7) (256 + b.val) :=
  ld_shifted h (k0_off15_eq k 0) inb c b (by omega)

theorem tap_256_6 {A : Vec Ideal S552x1024 .f32} {E : ℕ → ℕ → EReal} (h : Rows A E) (k : Fin k0_t1_loop.trips) (inb) (c : Fin 64) (b : Fin 256) :
    View.ld A (Rect.unit (s := S552x1024) (k0_off16 k 8#32) ![64, 256] inb) (ix2 c b) = E (64 * k.val + c.val + 8) (256 + b.val) :=
  ld_rows h (k0_off16_eq k 0) inb c b (by omega)

theorem tap_256_7 {A : Vec Ideal S7x544x1024 .f32} {E : ℕ → ℕ → EReal} (h : Shifted A E) (k : Fin k0_t1_loop.trips) (inb) (c : Fin 64) (b : Fin 256) :
    View.ld A (Rect.unit (s := S7x544x1024) (k0_off17 k 8#32) ![1, 64, 256] inb) (ix3 0 c b) = E (64 * k.val + c.val + 9) (256 + b.val) :=
  ld_shifted h (k0_off17_eq k 0) inb c b (by omega)

theorem tap_256_8 {A : Vec Ideal S7x544x1024 .f32} {E : ℕ → ℕ → EReal} (h : Shifted A E) (k : Fin k0_t1_loop.trips) (inb) (c : Fin 64) (b : Fin 256) :
    View.ld A (Rect.unit (s := S7x544x1024) (k0_off10 k 8#32) ![1, 64, 256] inb) (ix3 0 c b) = E (64 * k.val + c.val + 10) (256 + b.val) :=
  ld_shifted h (k0_off10_eq k 1) inb c b (by omega)

theorem tap_256_9 {A : Vec Ideal S7x544x1024 .f32} {E : ℕ → ℕ → EReal} (h : Shifted A E) (k : Fin k0_t1_loop.trips) (inb) (c : Fin 64) (b : Fin 256) :
    View.ld A (Rect.unit (s := S7x544x1024) (k0_off11 k 8#32) ![1, 64, 256] inb) (ix3 0 c b) = E (64 * k.val + c.val + 11) (256 + b.val) :=
  ld_shifted h (k0_off11_eq k 1) inb c b (by omega)

theorem tap_256_10 {A : Vec Ideal S7x544x1024 .f32} {E : ℕ → ℕ → EReal} (h : Shifted A E) (k : Fin k0_t1_loop.trips) (inb) (c : Fin 64) (b : Fin 256) :
    View.ld A (Rect.unit (s := S7x544x1024) (k0_off12 k 8#32) ![1, 64, 256] inb) (ix3 0 c b) = E (64 * k.val + c.val + 12) (256 + b.val) :=
  ld_shifted h (k0_off12_eq k 1) inb c b (by omega)

theorem tap_256_11 {A : Vec Ideal S7x544x1024 .f32} {E : ℕ → ℕ → EReal} (h : Shifted A E) (k : Fin k0_t1_loop.trips) (inb) (c : Fin 64) (b : Fin 256) :
    View.ld A (Rect.unit (s := S7x544x1024) (k0_off13 k 8#32) ![1, 64, 256] inb) (ix3 0 c b) = E (64 * k.val + c.val + 13) (256 + b.val) :=
  ld_shifted h (k0_off13_eq k 1) inb c b (by omega)

theorem tap_256_12 {A : Vec Ideal S7x544x1024 .f32} {E : ℕ → ℕ → EReal} (h : Shifted A E) (k : Fin k0_t1_loop.trips) (inb) (c : Fin 64) (b : Fin 256) :
    View.ld A (Rect.unit (s := S7x544x1024) (k0_off14 k 8#32) ![1, 64, 256] inb) (ix3 0 c b) = E (64 * k.val + c.val + 14) (256 + b.val) :=
  ld_shifted h (k0_off14_eq k 1) inb c b (by omega)

theorem tap_256_13 {A : Vec Ideal S7x544x1024 .f32} {E : ℕ → ℕ → EReal} (h : Shifted A E) (k : Fin k0_t1_loop.trips) (inb) (c : Fin 64) (b : Fin 256) :
    View.ld A (Rect.unit (s := S7x544x1024) (k0_off15 k 8#32) ![1, 64, 256] inb) (ix3 0 c b) = E (64 * k.val + c.val + 15) (256 + b.val) :=
  ld_shifted h (k0_off15_eq k 1) inb c b (by omega)

theorem tap_256_14 {A : Vec Ideal S552x1024 .f32} {E : ℕ → ℕ → EReal} (h : Rows A E) (k : Fin k0_t1_loop.trips) (inb) (c : Fin 64) (b : Fin 256) :
    View.ld A (Rect.unit (s := S552x1024) (k0_off16 k 16#32) ![64, 256] inb) (ix2 c b) = E (64 * k.val + c.val + 16) (256 + b.val) :=
  ld_rows h (k0_off16_eq k 1) inb c b (by omega)

theorem tap_256_15 {A : Vec Ideal S7x544x1024 .f32} {E : ℕ → ℕ → EReal} (h : Shifted A E) (k : Fin k0_t1_loop.trips) (inb) (c : Fin 64) (b : Fin 256) :
    View.ld A (Rect.unit (s := S7x544x1024) (k0_off17 k 16#32) ![1, 64, 256] inb) (ix3 0 c b) = E (64 * k.val + c.val + 17) (256 + b.val) :=
  ld_shifted h (k0_off17_eq k 1) inb c b (by omega)

theorem tap_256_16 {A : Vec Ideal S7x544x1024 .f32} {E : ℕ → ℕ → EReal} (h : Shifted A E) (k : Fin k0_t1_loop.trips) (inb) (c : Fin 64) (b : Fin 256) :
    View.ld A (Rect.unit (s := S7x544x1024) (k0_off10 k 16#32) ![1, 64, 256] inb) (ix3 0 c b) = E (64 * k.val + c.val + 18) (256 + b.val) :=
  ld_shifted h (k0_off10_eq k 2) inb c b (by omega)

theorem tap_256_17 {A : Vec Ideal S7x544x1024 .f32} {E : ℕ → ℕ → EReal} (h : Shifted A E) (k : Fin k0_t1_loop.trips) (inb) (c : Fin 64) (b : Fin 256) :
    View.ld A (Rect.unit (s := S7x544x1024) (k0_off11 k 16#32) ![1, 64, 256] inb) (ix3 0 c b) = E (64 * k.val + c.val + 19) (256 + b.val) :=
  ld_shifted h (k0_off11_eq k 2) inb c b (by omega)

theorem tap_256_18 {A : Vec Ideal S7x544x1024 .f32} {E : ℕ → ℕ → EReal} (h : Shifted A E) (k : Fin k0_t1_loop.trips) (inb) (c : Fin 64) (b : Fin 256) :
    View.ld A (Rect.unit (s := S7x544x1024) (k0_off12 k 16#32) ![1, 64, 256] inb) (ix3 0 c b) = E (64 * k.val + c.val + 20) (256 + b.val) :=
  ld_shifted h (k0_off12_eq k 2) inb c b (by omega)

theorem tap_256_19 {A : Vec Ideal S7x544x1024 .f32} {E : ℕ → ℕ → EReal} (h : Shifted A E) (k : Fin k0_t1_loop.trips) (inb) (c : Fin 64) (b : Fin 256) :
    View.ld A (Rect.unit (s := S7x544x1024) (k0_off13 k 16#32) ![1, 64, 256] inb) (ix3 0 c b) = E (64 * k.val + c.val + 21) (256 + b.val) :=
  ld_shifted h (k0_off13_eq k 2) inb c b (by omega)

theorem tap_256_20 {A : Vec Ideal S7x544x1024 .f32} {E : ℕ → ℕ → EReal} (h : Shifted A E) (k : Fin k0_t1_loop.trips) (inb) (c : Fin 64) (b : Fin 256) :
    View.ld A (Rect.unit (s := S7x544x1024) (k0_off14 k 16#32) ![1, 64, 256] inb) (ix3 0 c b) = E (64 * k.val + c.val + 22) (256 + b.val) :=
  ld_shifted h (k0_off14_eq k 2) inb c b (by omega)

theorem tap_256_21 {A : Vec Ideal S7x544x1024 .f32} {E : ℕ → ℕ → EReal} (h : Shifted A E) (k : Fin k0_t1_loop.trips) (inb) (c : Fin 64) (b : Fin 256) :
    View.ld A (Rect.unit (s := S7x544x1024) (k0_off15 k 16#32) ![1, 64, 256] inb) (ix3 0 c b) = E (64 * k.val + c.val + 23) (256 + b.val) :=
  ld_shifted h (k0_off15_eq k 2) inb c b (by omega)

theorem tap_256_22 {A : Vec Ideal S552x1024 .f32} {E : ℕ → ℕ → EReal} (h : Rows A E) (k : Fin k0_t1_loop.trips) (inb) (c : Fin 64) (b : Fin 256) :
    View.ld A (Rect.unit (s := S552x1024) (k0_off16 k 24#32) ![64, 256] inb) (ix2 c b) = E (64 * k.val + c.val + 24) (256 + b.val) :=
  ld_rows h (k0_off16_eq k 2) inb c b (by omega)

theorem tap_256_23 {A : Vec Ideal S7x544x1024 .f32} {E : ℕ → ℕ → EReal} (h : Shifted A E) (k : Fin k0_t1_loop.trips) (inb) (c : Fin 64) (b : Fin 256) :
    View.ld A (Rect.unit (s := S7x544x1024) (k0_off17 k 24#32) ![1, 64, 256] inb) (ix3 0 c b) = E (64 * k.val + c.val + 25) (256 + b.val) :=
  ld_shifted h (k0_off17_eq k 2) inb c b (by omega)

theorem tap_256_24 {A : Vec Ideal S7x544x1024 .f32} {E : ℕ → ℕ → EReal} (h : Shifted A E) (k : Fin k0_t1_loop.trips) (inb) (c : Fin 64) (b : Fin 256) :
    View.ld A (Rect.unit (s := S7x544x1024) (k0_off10 k 24#32) ![1, 64, 256] inb) (ix3 0 c b) = E (64 * k.val + c.val + 26) (256 + b.val) :=
  ld_shifted h (k0_off10_eq k 3) inb c b (by omega)

theorem tap_256_25 {A : Vec Ideal S7x544x1024 .f32} {E : ℕ → ℕ → EReal} (h : Shifted A E) (k : Fin k0_t1_loop.trips) (inb) (c : Fin 64) (b : Fin 256) :
    View.ld A (Rect.unit (s := S7x544x1024) (k0_off11 k 24#32) ![1, 64, 256] inb) (ix3 0 c b) = E (64 * k.val + c.val + 27) (256 + b.val) :=
  ld_shifted h (k0_off11_eq k 3) inb c b (by omega)

theorem tap_256_26 {A : Vec Ideal S7x544x1024 .f32} {E : ℕ → ℕ → EReal} (h : Shifted A E) (k : Fin k0_t1_loop.trips) (inb) (c : Fin 64) (b : Fin 256) :
    View.ld A (Rect.unit (s := S7x544x1024) (k0_off12 k 24#32) ![1, 64, 256] inb) (ix3 0 c b) = E (64 * k.val + c.val + 28) (256 + b.val) :=
  ld_shifted h (k0_off12_eq k 3) inb c b (by omega)

theorem tap_256_27 {A : Vec Ideal S7x544x1024 .f32} {E : ℕ → ℕ → EReal} (h : Shifted A E) (k : Fin k0_t1_loop.trips) (inb) (c : Fin 64) (b : Fin 256) :
    View.ld A (Rect.unit (s := S7x544x1024) (k0_off13 k 24#32) ![1, 64, 256] inb) (ix3 0 c b) = E (64 * k.val + c.val + 29) (256 + b.val) :=
  ld_shifted h (k0_off13_eq k 3) inb c b (by omega)

theorem tap_256_28 {A : Vec Ideal S7x544x1024 .f32} {E : ℕ → ℕ → EReal} (h : Shifted A E) (k : Fin k0_t1_loop.trips) (inb) (c : Fin 64) (b : Fin 256) :
    View.ld A (Rect.unit (s := S7x544x1024) (k0_off14 k 24#32) ![1, 64, 256] inb) (ix3 0 c b) = E (64 * k.val + c.val + 30) (256 + b.val) :=
  ld_shifted h (k0_off14_eq k 3) inb c b (by omega)

theorem tap_256_29 {A : Vec Ideal S7x544x1024 .f32} {E : ℕ → ℕ → EReal} (h : Shifted A E) (k : Fin k0_t1_loop.trips) (inb) (c : Fin 64) (b : Fin 256) :
    View.ld A (Rect.unit (s := S7x544x1024) (k0_off15 k 24#32) ![1, 64, 256] inb) (ix3 0 c b) = E (64 * k.val + c.val + 31) (256 + b.val) :=
  ld_shifted h (k0_off15_eq k 3) inb c b (by omega)

theorem tap_256_30 {A : Vec Ideal S552x1024 .f32} {E : ℕ → ℕ → EReal} (h : Rows A E) (k : Fin k0_t1_loop.trips) (inb) (c : Fin 64) (b : Fin 256) :
    View.ld A (Rect.unit (s := S552x1024) (k0_off16 k 32#32) ![64, 256] inb) (ix2 c b) = E (64 * k.val + c.val + 32) (256 + b.val) :=
  ld_rows h (k0_off16_eq k 3) inb c b (by omega)

theorem tap_512_0 {A : Vec Ideal S7x544x1024 .f32} {E : ℕ → ℕ → EReal} (h : Shifted A E) (k : Fin k0_t1_loop.trips) (inb) (c : Fin 64) (b : Fin 256) :
    View.ld A (Rect.unit (s := S7x544x1024) (k0_off19 k 0#32) ![1, 64, 256] inb) (ix3 0 c b) = E (64 * k.val + c.val + 2) (512 + b.val) :=
  ld_shifted h (k0_off19_eq k 0) inb c b (by omega)

theorem tap_512_1 {A : Vec Ideal S7x544x1024 .f32} {E : ℕ → ℕ → EReal} (h : Shifted A E) (k : Fin k0_t1_loop.trips) (inb) (c : Fin 64) (b : Fin 256) :
    View.ld A (Rect.unit (s := S7x544x1024) (k0_off20 k 0#32) ![1, 64, 256] inb) (ix3 0 c b) = E (64 * k.val + c.val + 3) (512 + b.val) :=
  ld_shifted h (k0_off20_eq k 0) inb c b (by omega)

theorem tap_512_2 {A : Vec Ideal S7x544x1024 .f32} {E : ℕ → ℕ → EReal} (h : Shifted A E) (k : Fin k0_t1_loop.trips) (inb) (c : Fin 64) (b : Fin 256) :
    View.ld A (Rect.unit (s := S7x544x1024) (k0_off21 k 0#32) ![1, 64, 256] inb) (ix3 0 c b) = E (64 * k.val + c.val + 4) (512 + b.val) :=
  ld_shifted h (k0_off21_eq k 0) inb c b (by omega)

theorem tap_512_3 {A : Vec Ideal S7x544x1024 .f32} {E : ℕ → ℕ → EReal} (h : Shifted A E) (k : Fin k0_t1_loop.trips) (inb) (c : Fin 64) (b : Fin 256) :
    View.ld A (Rect.unit (s := S7x544x1024) (k0_off22 k 0#32) ![1, 64, 256] inb) (ix3 0 c b) = E (64 * k.val + c.val + 5) (512 + b.val) :=
  ld_shifted h (k0_off22_eq k 0) inb c b (by omega)

theorem tap_512_4 {A : Vec Ideal S7x544x1024 .f32} {E : ℕ → ℕ → EReal} (h : Shifted A E) (k : Fin k0_t1_loop.trips) (inb) (c : Fin 64) (b : Fin 256) :
    View.ld A (Rect.unit (s := S7x544x1024) (k0_off23 k 0#32) ![1, 64, 256] inb) (ix3 0 c b) = E (64 * k.val + c.val + 6) (512 + b.val) :=
  ld_shifted h (k0_off23_eq k 0) inb c b (by omega)

theorem tap_512_5 {A : Vec Ideal S7x544x1024 .f32} {E : ℕ → ℕ → EReal} (h : Shifted A E) (k : Fin k0_t1_loop.trips) (inb) (c : Fin 64) (b : Fin 256) :
    View.ld A (Rect.unit (s := S7x544x1024) (k0_off24 k 0#32) ![1, 64, 256] inb) (ix3 0 c b) = E (64 * k.val + c.val + 7) (512 + b.val) :=
  ld_shifted h (k0_off24_eq k 0) inb c b (by omega)

theorem tap_512_6 {A : Vec Ideal S552x1024 .f32} {E : ℕ → ℕ → EReal} (h : Rows A E) (k : Fin k0_t1_loop.trips) (inb) (c : Fin 64) (b : Fin 256) :
    View.ld A (Rect.unit (s := S552x1024) (k0_off25 k 8#32) ![64, 256] inb) (ix2 c b) = E (64 * k.val + c.val + 8) (512 + b.val) :=
  ld_rows h (k0_off25_eq k 0) inb c b (by omega)

theorem tap_512_7 {A : Vec Ideal S7x544x1024 .f32} {E : ℕ → ℕ → EReal} (h : Shifted A E) (k : Fin k0_t1_loop.trips) (inb) (c : Fin 64) (b : Fin 256) :
    View.ld A (Rect.unit (s := S7x544x1024) (k0_off26 k 8#32) ![1, 64, 256] inb) (ix3 0 c b) = E (64 * k.val + c.val + 9) (512 + b.val) :=
  ld_shifted h (k0_off26_eq k 0) inb c b (by omega)

theorem tap_512_8 {A : Vec Ideal S7x544x1024 .f32} {E : ℕ → ℕ → EReal} (h : Shifted A E) (k : Fin k0_t1_loop.trips) (inb) (c : Fin 64) (b : Fin 256) :
    View.ld A (Rect.unit (s := S7x544x1024) (k0_off19 k 8#32) ![1, 64, 256] inb) (ix3 0 c b) = E (64 * k.val + c.val + 10) (512 + b.val) :=
  ld_shifted h (k0_off19_eq k 1) inb c b (by omega)

theorem tap_512_9 {A : Vec Ideal S7x544x1024 .f32} {E : ℕ → ℕ → EReal} (h : Shifted A E) (k : Fin k0_t1_loop.trips) (inb) (c : Fin 64) (b : Fin 256) :
    View.ld A (Rect.unit (s := S7x544x1024) (k0_off20 k 8#32) ![1, 64, 256] inb) (ix3 0 c b) = E (64 * k.val + c.val + 11) (512 + b.val) :=
  ld_shifted h (k0_off20_eq k 1) inb c b (by omega)

theorem tap_512_10 {A : Vec Ideal S7x544x1024 .f32} {E : ℕ → ℕ → EReal} (h : Shifted A E) (k : Fin k0_t1_loop.trips) (inb) (c : Fin 64) (b : Fin 256) :
    View.ld A (Rect.unit (s := S7x544x1024) (k0_off21 k 8#32) ![1, 64, 256] inb) (ix3 0 c b) = E (64 * k.val + c.val + 12) (512 + b.val) :=
  ld_shifted h (k0_off21_eq k 1) inb c b (by omega)

theorem tap_512_11 {A : Vec Ideal S7x544x1024 .f32} {E : ℕ → ℕ → EReal} (h : Shifted A E) (k : Fin k0_t1_loop.trips) (inb) (c : Fin 64) (b : Fin 256) :
    View.ld A (Rect.unit (s := S7x544x1024) (k0_off22 k 8#32) ![1, 64, 256] inb) (ix3 0 c b) = E (64 * k.val + c.val + 13) (512 + b.val) :=
  ld_shifted h (k0_off22_eq k 1) inb c b (by omega)

theorem tap_512_12 {A : Vec Ideal S7x544x1024 .f32} {E : ℕ → ℕ → EReal} (h : Shifted A E) (k : Fin k0_t1_loop.trips) (inb) (c : Fin 64) (b : Fin 256) :
    View.ld A (Rect.unit (s := S7x544x1024) (k0_off23 k 8#32) ![1, 64, 256] inb) (ix3 0 c b) = E (64 * k.val + c.val + 14) (512 + b.val) :=
  ld_shifted h (k0_off23_eq k 1) inb c b (by omega)

theorem tap_512_13 {A : Vec Ideal S7x544x1024 .f32} {E : ℕ → ℕ → EReal} (h : Shifted A E) (k : Fin k0_t1_loop.trips) (inb) (c : Fin 64) (b : Fin 256) :
    View.ld A (Rect.unit (s := S7x544x1024) (k0_off24 k 8#32) ![1, 64, 256] inb) (ix3 0 c b) = E (64 * k.val + c.val + 15) (512 + b.val) :=
  ld_shifted h (k0_off24_eq k 1) inb c b (by omega)

theorem tap_512_14 {A : Vec Ideal S552x1024 .f32} {E : ℕ → ℕ → EReal} (h : Rows A E) (k : Fin k0_t1_loop.trips) (inb) (c : Fin 64) (b : Fin 256) :
    View.ld A (Rect.unit (s := S552x1024) (k0_off25 k 16#32) ![64, 256] inb) (ix2 c b) = E (64 * k.val + c.val + 16) (512 + b.val) :=
  ld_rows h (k0_off25_eq k 1) inb c b (by omega)

theorem tap_512_15 {A : Vec Ideal S7x544x1024 .f32} {E : ℕ → ℕ → EReal} (h : Shifted A E) (k : Fin k0_t1_loop.trips) (inb) (c : Fin 64) (b : Fin 256) :
    View.ld A (Rect.unit (s := S7x544x1024) (k0_off26 k 16#32) ![1, 64, 256] inb) (ix3 0 c b) = E (64 * k.val + c.val + 17) (512 + b.val) :=
  ld_shifted h (k0_off26_eq k 1) inb c b (by omega)

theorem tap_512_16 {A : Vec Ideal S7x544x1024 .f32} {E : ℕ → ℕ → EReal} (h : Shifted A E) (k : Fin k0_t1_loop.trips) (inb) (c : Fin 64) (b : Fin 256) :
    View.ld A (Rect.unit (s := S7x544x1024) (k0_off19 k 16#32) ![1, 64, 256] inb) (ix3 0 c b) = E (64 * k.val + c.val + 18) (512 + b.val) :=
  ld_shifted h (k0_off19_eq k 2) inb c b (by omega)

theorem tap_512_17 {A : Vec Ideal S7x544x1024 .f32} {E : ℕ → ℕ → EReal} (h : Shifted A E) (k : Fin k0_t1_loop.trips) (inb) (c : Fin 64) (b : Fin 256) :
    View.ld A (Rect.unit (s := S7x544x1024) (k0_off20 k 16#32) ![1, 64, 256] inb) (ix3 0 c b) = E (64 * k.val + c.val + 19) (512 + b.val) :=
  ld_shifted h (k0_off20_eq k 2) inb c b (by omega)

theorem tap_512_18 {A : Vec Ideal S7x544x1024 .f32} {E : ℕ → ℕ → EReal} (h : Shifted A E) (k : Fin k0_t1_loop.trips) (inb) (c : Fin 64) (b : Fin 256) :
    View.ld A (Rect.unit (s := S7x544x1024) (k0_off21 k 16#32) ![1, 64, 256] inb) (ix3 0 c b) = E (64 * k.val + c.val + 20) (512 + b.val) :=
  ld_shifted h (k0_off21_eq k 2) inb c b (by omega)

theorem tap_512_19 {A : Vec Ideal S7x544x1024 .f32} {E : ℕ → ℕ → EReal} (h : Shifted A E) (k : Fin k0_t1_loop.trips) (inb) (c : Fin 64) (b : Fin 256) :
    View.ld A (Rect.unit (s := S7x544x1024) (k0_off22 k 16#32) ![1, 64, 256] inb) (ix3 0 c b) = E (64 * k.val + c.val + 21) (512 + b.val) :=
  ld_shifted h (k0_off22_eq k 2) inb c b (by omega)

theorem tap_512_20 {A : Vec Ideal S7x544x1024 .f32} {E : ℕ → ℕ → EReal} (h : Shifted A E) (k : Fin k0_t1_loop.trips) (inb) (c : Fin 64) (b : Fin 256) :
    View.ld A (Rect.unit (s := S7x544x1024) (k0_off23 k 16#32) ![1, 64, 256] inb) (ix3 0 c b) = E (64 * k.val + c.val + 22) (512 + b.val) :=
  ld_shifted h (k0_off23_eq k 2) inb c b (by omega)

theorem tap_512_21 {A : Vec Ideal S7x544x1024 .f32} {E : ℕ → ℕ → EReal} (h : Shifted A E) (k : Fin k0_t1_loop.trips) (inb) (c : Fin 64) (b : Fin 256) :
    View.ld A (Rect.unit (s := S7x544x1024) (k0_off24 k 16#32) ![1, 64, 256] inb) (ix3 0 c b) = E (64 * k.val + c.val + 23) (512 + b.val) :=
  ld_shifted h (k0_off24_eq k 2) inb c b (by omega)

theorem tap_512_22 {A : Vec Ideal S552x1024 .f32} {E : ℕ → ℕ → EReal} (h : Rows A E) (k : Fin k0_t1_loop.trips) (inb) (c : Fin 64) (b : Fin 256) :
    View.ld A (Rect.unit (s := S552x1024) (k0_off25 k 24#32) ![64, 256] inb) (ix2 c b) = E (64 * k.val + c.val + 24) (512 + b.val) :=
  ld_rows h (k0_off25_eq k 2) inb c b (by omega)

theorem tap_512_23 {A : Vec Ideal S7x544x1024 .f32} {E : ℕ → ℕ → EReal} (h : Shifted A E) (k : Fin k0_t1_loop.trips) (inb) (c : Fin 64) (b : Fin 256) :
    View.ld A (Rect.unit (s := S7x544x1024) (k0_off26 k 24#32) ![1, 64, 256] inb) (ix3 0 c b) = E (64 * k.val + c.val + 25) (512 + b.val) :=
  ld_shifted h (k0_off26_eq k 2) inb c b (by omega)

theorem tap_512_24 {A : Vec Ideal S7x544x1024 .f32} {E : ℕ → ℕ → EReal} (h : Shifted A E) (k : Fin k0_t1_loop.trips) (inb) (c : Fin 64) (b : Fin 256) :
    View.ld A (Rect.unit (s := S7x544x1024) (k0_off19 k 24#32) ![1, 64, 256] inb) (ix3 0 c b) = E (64 * k.val + c.val + 26) (512 + b.val) :=
  ld_shifted h (k0_off19_eq k 3) inb c b (by omega)

theorem tap_512_25 {A : Vec Ideal S7x544x1024 .f32} {E : ℕ → ℕ → EReal} (h : Shifted A E) (k : Fin k0_t1_loop.trips) (inb) (c : Fin 64) (b : Fin 256) :
    View.ld A (Rect.unit (s := S7x544x1024) (k0_off20 k 24#32) ![1, 64, 256] inb) (ix3 0 c b) = E (64 * k.val + c.val + 27) (512 + b.val) :=
  ld_shifted h (k0_off20_eq k 3) inb c b (by omega)

theorem tap_512_26 {A : Vec Ideal S7x544x1024 .f32} {E : ℕ → ℕ → EReal} (h : Shifted A E) (k : Fin k0_t1_loop.trips) (inb) (c : Fin 64) (b : Fin 256) :
    View.ld A (Rect.unit (s := S7x544x1024) (k0_off21 k 24#32) ![1, 64, 256] inb) (ix3 0 c b) = E (64 * k.val + c.val + 28) (512 + b.val) :=
  ld_shifted h (k0_off21_eq k 3) inb c b (by omega)

theorem tap_512_27 {A : Vec Ideal S7x544x1024 .f32} {E : ℕ → ℕ → EReal} (h : Shifted A E) (k : Fin k0_t1_loop.trips) (inb) (c : Fin 64) (b : Fin 256) :
    View.ld A (Rect.unit (s := S7x544x1024) (k0_off22 k 24#32) ![1, 64, 256] inb) (ix3 0 c b) = E (64 * k.val + c.val + 29) (512 + b.val) :=
  ld_shifted h (k0_off22_eq k 3) inb c b (by omega)

theorem tap_512_28 {A : Vec Ideal S7x544x1024 .f32} {E : ℕ → ℕ → EReal} (h : Shifted A E) (k : Fin k0_t1_loop.trips) (inb) (c : Fin 64) (b : Fin 256) :
    View.ld A (Rect.unit (s := S7x544x1024) (k0_off23 k 24#32) ![1, 64, 256] inb) (ix3 0 c b) = E (64 * k.val + c.val + 30) (512 + b.val) :=
  ld_shifted h (k0_off23_eq k 3) inb c b (by omega)

theorem tap_512_29 {A : Vec Ideal S7x544x1024 .f32} {E : ℕ → ℕ → EReal} (h : Shifted A E) (k : Fin k0_t1_loop.trips) (inb) (c : Fin 64) (b : Fin 256) :
    View.ld A (Rect.unit (s := S7x544x1024) (k0_off24 k 24#32) ![1, 64, 256] inb) (ix3 0 c b) = E (64 * k.val + c.val + 31) (512 + b.val) :=
  ld_shifted h (k0_off24_eq k 3) inb c b (by omega)

theorem tap_512_30 {A : Vec Ideal S552x1024 .f32} {E : ℕ → ℕ → EReal} (h : Rows A E) (k : Fin k0_t1_loop.trips) (inb) (c : Fin 64) (b : Fin 256) :
    View.ld A (Rect.unit (s := S552x1024) (k0_off25 k 32#32) ![64, 256] inb) (ix2 c b) = E (64 * k.val + c.val + 32) (512 + b.val) :=
  ld_rows h (k0_off25_eq k 3) inb c b (by omega)

theorem tap_768_0 {A : Vec Ideal S7x544x1024 .f32} {E : ℕ → ℕ → EReal} (h : Shifted A E) (k : Fin k0_t1_loop.trips) (inb) (c : Fin 64) (b : Fin 256) :
    View.ld A (Rect.unit (s := S7x544x1024) (k0_off28 k 0#32) ![1, 64, 256] inb) (ix3 0 c b) = E (64 * k.val + c.val + 2) (768 + b.val) :=
  ld_shifted h (k0_off28_eq k 0) inb c b (by omega)

theorem tap_768_1 {A : Vec Ideal S7x544x1024 .f32} {E : ℕ → ℕ → EReal} (h : Shifted A E) (k : Fin k0_t1_loop.trips) (inb) (c : Fin 64) (b : Fin 256) :
    View.ld A (Rect.unit (s := S7x544x1024) (k0_off29 k 0#32) ![1, 64, 256] inb) (ix3 0 c b) = E (64 * k.val + c.val + 3) (768 + b.val) :=
  ld_shifted h (k0_off29_eq k 0) inb c b (by omega)

theorem tap_768_2 {A : Vec Ideal S7x544x1024 .f32} {E : ℕ → ℕ → EReal} (h : Shifted A E) (k : Fin k0_t1_loop.trips) (inb) (c : Fin 64) (b : Fin 256) :
    View.ld A (Rect.unit (s := S7x544x1024) (k0_off30 k 0#32) ![1, 64, 256] inb) (ix3 0 c b) = E (64 * k.val + c.val + 4) (768 + b.val) :=
  ld_shifted h (k0_off30_eq k 0) inb c b (by omega)

theorem tap_768_3 {A : Vec Ideal S7x544x1024 .f32} {E : ℕ → ℕ → EReal} (h : Shifted A E) (k : Fin k0_t1_loop.trips) (inb) (c : Fin 64) (b : Fin 256) :
    View.ld A (Rect.unit (s := S7x544x1024) (k0_off31 k 0#32) ![1, 64, 256] inb) (ix3 0 c b) = E (64 * k.val + c.val + 5) (768 + b.val) :=
  ld_shifted h (k0_off31_eq k 0) inb c b (by omega)

theorem tap_768_4 {A : Vec Ideal S7x544x1024 .f32} {E : ℕ → ℕ → EReal} (h : Shifted A E) (k : Fin k0_t1_loop.trips) (inb) (c : Fin 64) (b : Fin 256) :
    View.ld A (Rect.unit (s := S7x544x1024) (k0_off32 k 0#32) ![1, 64, 256] inb) (ix3 0 c b) = E (64 * k.val + c.val + 6) (768 + b.val) :=
  ld_shifted h (k0_off32_eq k 0) inb c b (by omega)

theorem tap_768_5 {A : Vec Ideal S7x544x1024 .f32} {E : ℕ → ℕ → EReal} (h : Shifted A E) (k : Fin k0_t1_loop.trips) (inb) (c : Fin 64) (b : Fin 256) :
    View.ld A (Rect.unit (s := S7x544x1024) (k0_off33 k 0#32) ![1, 64, 256] inb) (ix3 0 c b) = E (64 * k.val + c.val + 7) (768 + b.val) :=
  ld_shifted h (k0_off33_eq k 0) inb c b (by omega)

theorem tap_768_6 {A : Vec Ideal S552x1024 .f32} {E : ℕ → ℕ → EReal} (h : Rows A E) (k : Fin k0_t1_loop.trips) (inb) (c : Fin 64) (b : Fin 256) :
    View.ld A (Rect.unit (s := S552x1024) (k0_off34 k 8#32) ![64, 256] inb) (ix2 c b) = E (64 * k.val + c.val + 8) (768 + b.val) :=
  ld_rows h (k0_off34_eq k 0) inb c b (by omega)

theorem tap_768_7 {A : Vec Ideal S7x544x1024 .f32} {E : ℕ → ℕ → EReal} (h : Shifted A E) (k : Fin k0_t1_loop.trips) (inb) (c : Fin 64) (b : Fin 256) :
    View.ld A (Rect.unit (s := S7x544x1024) (k0_off35 k 8#32) ![1, 64, 256] inb) (ix3 0 c b) = E (64 * k.val + c.val + 9) (768 + b.val) :=
  ld_shifted h (k0_off35_eq k 0) inb c b (by omega)

theorem tap_768_8 {A : Vec Ideal S7x544x1024 .f32} {E : ℕ → ℕ → EReal} (h : Shifted A E) (k : Fin k0_t1_loop.trips) (inb) (c : Fin 64) (b : Fin 256) :
    View.ld A (Rect.unit (s := S7x544x1024) (k0_off28 k 8#32) ![1, 64, 256] inb) (ix3 0 c b) = E (64 * k.val + c.val + 10) (768 + b.val) :=
  ld_shifted h (k0_off28_eq k 1) inb c b (by omega)

theorem tap_768_9 {A : Vec Ideal S7x544x1024 .f32} {E : ℕ → ℕ → EReal} (h : Shifted A E) (k : Fin k0_t1_loop.trips) (inb) (c : Fin 64) (b : Fin 256) :
    View.ld A (Rect.unit (s := S7x544x1024) (k0_off29 k 8#32) ![1, 64, 256] inb) (ix3 0 c b) = E (64 * k.val + c.val + 11) (768 + b.val) :=
  ld_shifted h (k0_off29_eq k 1) inb c b (by omega)

theorem tap_768_10 {A : Vec Ideal S7x544x1024 .f32} {E : ℕ → ℕ → EReal} (h : Shifted A E) (k : Fin k0_t1_loop.trips) (inb) (c : Fin 64) (b : Fin 256) :
    View.ld A (Rect.unit (s := S7x544x1024) (k0_off30 k 8#32) ![1, 64, 256] inb) (ix3 0 c b) = E (64 * k.val + c.val + 12) (768 + b.val) :=
  ld_shifted h (k0_off30_eq k 1) inb c b (by omega)

theorem tap_768_11 {A : Vec Ideal S7x544x1024 .f32} {E : ℕ → ℕ → EReal} (h : Shifted A E) (k : Fin k0_t1_loop.trips) (inb) (c : Fin 64) (b : Fin 256) :
    View.ld A (Rect.unit (s := S7x544x1024) (k0_off31 k 8#32) ![1, 64, 256] inb) (ix3 0 c b) = E (64 * k.val + c.val + 13) (768 + b.val) :=
  ld_shifted h (k0_off31_eq k 1) inb c b (by omega)

theorem tap_768_12 {A : Vec Ideal S7x544x1024 .f32} {E : ℕ → ℕ → EReal} (h : Shifted A E) (k : Fin k0_t1_loop.trips) (inb) (c : Fin 64) (b : Fin 256) :
    View.ld A (Rect.unit (s := S7x544x1024) (k0_off32 k 8#32) ![1, 64, 256] inb) (ix3 0 c b) = E (64 * k.val + c.val + 14) (768 + b.val) :=
  ld_shifted h (k0_off32_eq k 1) inb c b (by omega)

theorem tap_768_13 {A : Vec Ideal S7x544x1024 .f32} {E : ℕ → ℕ → EReal} (h : Shifted A E) (k : Fin k0_t1_loop.trips) (inb) (c : Fin 64) (b : Fin 256) :
    View.ld A (Rect.unit (s := S7x544x1024) (k0_off33 k 8#32) ![1, 64, 256] inb) (ix3 0 c b) = E (64 * k.val + c.val + 15) (768 + b.val) :=
  ld_shifted h (k0_off33_eq k 1) inb c b (by omega)

theorem tap_768_14 {A : Vec Ideal S552x1024 .f32} {E : ℕ → ℕ → EReal} (h : Rows A E) (k : Fin k0_t1_loop.trips) (inb) (c : Fin 64) (b : Fin 256) :
    View.ld A (Rect.unit (s := S552x1024) (k0_off34 k 16#32) ![64, 256] inb) (ix2 c b) = E (64 * k.val + c.val + 16) (768 + b.val) :=
  ld_rows h (k0_off34_eq k 1) inb c b (by omega)

theorem tap_768_15 {A : Vec Ideal S7x544x1024 .f32} {E : ℕ → ℕ → EReal} (h : Shifted A E) (k : Fin k0_t1_loop.trips) (inb) (c : Fin 64) (b : Fin 256) :
    View.ld A (Rect.unit (s := S7x544x1024) (k0_off35 k 16#32) ![1, 64, 256] inb) (ix3 0 c b) = E (64 * k.val + c.val + 17) (768 + b.val) :=
  ld_shifted h (k0_off35_eq k 1) inb c b (by omega)

theorem tap_768_16 {A : Vec Ideal S7x544x1024 .f32} {E : ℕ → ℕ → EReal} (h : Shifted A E) (k : Fin k0_t1_loop.trips) (inb) (c : Fin 64) (b : Fin 256) :
    View.ld A (Rect.unit (s := S7x544x1024) (k0_off28 k 16#32) ![1, 64, 256] inb) (ix3 0 c b) = E (64 * k.val + c.val + 18) (768 + b.val) :=
  ld_shifted h (k0_off28_eq k 2) inb c b (by omega)

theorem tap_768_17 {A : Vec Ideal S7x544x1024 .f32} {E : ℕ → ℕ → EReal} (h : Shifted A E) (k : Fin k0_t1_loop.trips) (inb) (c : Fin 64) (b : Fin 256) :
    View.ld A (Rect.unit (s := S7x544x1024) (k0_off29 k 16#32) ![1, 64, 256] inb) (ix3 0 c b) = E (64 * k.val + c.val + 19) (768 + b.val) :=
  ld_shifted h (k0_off29_eq k 2) inb c b (by omega)

theorem tap_768_18 {A : Vec Ideal S7x544x1024 .f32} {E : ℕ → ℕ → EReal} (h : Shifted A E) (k : Fin k0_t1_loop.trips) (inb) (c : Fin 64) (b : Fin 256) :
    View.ld A (Rect.unit (s := S7x544x1024) (k0_off30 k 16#32) ![1, 64, 256] inb) (ix3 0 c b) = E (64 * k.val + c.val + 20) (768 + b.val) :=
  ld_shifted h (k0_off30_eq k 2) inb c b (by omega)

theorem tap_768_19 {A : Vec Ideal S7x544x1024 .f32} {E : ℕ → ℕ → EReal} (h : Shifted A E) (k : Fin k0_t1_loop.trips) (inb) (c : Fin 64) (b : Fin 256) :
    View.ld A (Rect.unit (s := S7x544x1024) (k0_off31 k 16#32) ![1, 64, 256] inb) (ix3 0 c b) = E (64 * k.val + c.val + 21) (768 + b.val) :=
  ld_shifted h (k0_off31_eq k 2) inb c b (by omega)

theorem tap_768_20 {A : Vec Ideal S7x544x1024 .f32} {E : ℕ → ℕ → EReal} (h : Shifted A E) (k : Fin k0_t1_loop.trips) (inb) (c : Fin 64) (b : Fin 256) :
    View.ld A (Rect.unit (s := S7x544x1024) (k0_off32 k 16#32) ![1, 64, 256] inb) (ix3 0 c b) = E (64 * k.val + c.val + 22) (768 + b.val) :=
  ld_shifted h (k0_off32_eq k 2) inb c b (by omega)

theorem tap_768_21 {A : Vec Ideal S7x544x1024 .f32} {E : ℕ → ℕ → EReal} (h : Shifted A E) (k : Fin k0_t1_loop.trips) (inb) (c : Fin 64) (b : Fin 256) :
    View.ld A (Rect.unit (s := S7x544x1024) (k0_off33 k 16#32) ![1, 64, 256] inb) (ix3 0 c b) = E (64 * k.val + c.val + 23) (768 + b.val) :=
  ld_shifted h (k0_off33_eq k 2) inb c b (by omega)

theorem tap_768_22 {A : Vec Ideal S552x1024 .f32} {E : ℕ → ℕ → EReal} (h : Rows A E) (k : Fin k0_t1_loop.trips) (inb) (c : Fin 64) (b : Fin 256) :
    View.ld A (Rect.unit (s := S552x1024) (k0_off34 k 24#32) ![64, 256] inb) (ix2 c b) = E (64 * k.val + c.val + 24) (768 + b.val) :=
  ld_rows h (k0_off34_eq k 2) inb c b (by omega)

theorem tap_768_23 {A : Vec Ideal S7x544x1024 .f32} {E : ℕ → ℕ → EReal} (h : Shifted A E) (k : Fin k0_t1_loop.trips) (inb) (c : Fin 64) (b : Fin 256) :
    View.ld A (Rect.unit (s := S7x544x1024) (k0_off35 k 24#32) ![1, 64, 256] inb) (ix3 0 c b) = E (64 * k.val + c.val + 25) (768 + b.val) :=
  ld_shifted h (k0_off35_eq k 2) inb c b (by omega)

theorem tap_768_24 {A : Vec Ideal S7x544x1024 .f32} {E : ℕ → ℕ → EReal} (h : Shifted A E) (k : Fin k0_t1_loop.trips) (inb) (c : Fin 64) (b : Fin 256) :
    View.ld A (Rect.unit (s := S7x544x1024) (k0_off28 k 24#32) ![1, 64, 256] inb) (ix3 0 c b) = E (64 * k.val + c.val + 26) (768 + b.val) :=
  ld_shifted h (k0_off28_eq k 3) inb c b (by omega)

theorem tap_768_25 {A : Vec Ideal S7x544x1024 .f32} {E : ℕ → ℕ → EReal} (h : Shifted A E) (k : Fin k0_t1_loop.trips) (inb) (c : Fin 64) (b : Fin 256) :
    View.ld A (Rect.unit (s := S7x544x1024) (k0_off29 k 24#32) ![1, 64, 256] inb) (ix3 0 c b) = E (64 * k.val + c.val + 27) (768 + b.val) :=
  ld_shifted h (k0_off29_eq k 3) inb c b (by omega)

theorem tap_768_26 {A : Vec Ideal S7x544x1024 .f32} {E : ℕ → ℕ → EReal} (h : Shifted A E) (k : Fin k0_t1_loop.trips) (inb) (c : Fin 64) (b : Fin 256) :
    View.ld A (Rect.unit (s := S7x544x1024) (k0_off30 k 24#32) ![1, 64, 256] inb) (ix3 0 c b) = E (64 * k.val + c.val + 28) (768 + b.val) :=
  ld_shifted h (k0_off30_eq k 3) inb c b (by omega)

theorem tap_768_27 {A : Vec Ideal S7x544x1024 .f32} {E : ℕ → ℕ → EReal} (h : Shifted A E) (k : Fin k0_t1_loop.trips) (inb) (c : Fin 64) (b : Fin 256) :
    View.ld A (Rect.unit (s := S7x544x1024) (k0_off31 k 24#32) ![1, 64, 256] inb) (ix3 0 c b) = E (64 * k.val + c.val + 29) (768 + b.val) :=
  ld_shifted h (k0_off31_eq k 3) inb c b (by omega)

theorem tap_768_28 {A : Vec Ideal S7x544x1024 .f32} {E : ℕ → ℕ → EReal} (h : Shifted A E) (k : Fin k0_t1_loop.trips) (inb) (c : Fin 64) (b : Fin 256) :
    View.ld A (Rect.unit (s := S7x544x1024) (k0_off32 k 24#32) ![1, 64, 256] inb) (ix3 0 c b) = E (64 * k.val + c.val + 30) (768 + b.val) :=
  ld_shifted h (k0_off32_eq k 3) inb c b (by omega)

theorem tap_768_29 {A : Vec Ideal S7x544x1024 .f32} {E : ℕ → ℕ → EReal} (h : Shifted A E) (k : Fin k0_t1_loop.trips) (inb) (c : Fin 64) (b : Fin 256) :
    View.ld A (Rect.unit (s := S7x544x1024) (k0_off33 k 24#32) ![1, 64, 256] inb) (ix3 0 c b) = E (64 * k.val + c.val + 31) (768 + b.val) :=
  ld_shifted h (k0_off33_eq k 3) inb c b (by omega)

theorem tap_768_30 {A : Vec Ideal S552x1024 .f32} {E : ℕ → ℕ → EReal} (h : Rows A E) (k : Fin k0_t1_loop.trips) (inb) (c : Fin 64) (b : Fin 256) :
    View.ld A (Rect.unit (s := S552x1024) (k0_off34 k 32#32) ![64, 256] inb) (ix2 c b) = E (64 * k.val + c.val + 32) (768 + b.val) :=
  ld_rows h (k0_off34_eq k 3) inb c b (by omega)

end Cert.Kernel13Ideal.Gen

end
-- ==== Proof.TailB.lean ====
module

public import proofs.«01_k».proof.Defs
public import proofs.«01_k».proof.Proof.Forward
public import proofs.«01_k».proof.Proof.Gen.Kernel13Ideal
public import proofs.«01_k».proof.Proof.Gen.Kernel13Ideal.Skeleton
public import proofs.«01_k».proof.Proof.Gen.Kernel13Ideal.Loops
public import Idealize.ShloMosaic.Lib.Pipeline.ReadBack
public import proofs.«01_k».proof.Proof.TailA
public import Idealize.ShloMosaic.Lib.Pipeline.Value
public import Idealize.ShloMosaic.Lib.Pipeline.ValueKit
public import Idealize.ShloMosaic.Lib.Pipeline.ValueKit.Point
public import Idealize.ShloMosaic.Lib.IdealHost

/-! # One trip of the convolution's loop: the four pieces it writes

Each trip writes 64 rows in four pieces of 256 columns; each piece holds the convolution of the rows under the taps. -/

@[expose] public section

set_option maxHeartbeats 2000000

noncomputable section

namespace Cert.Kernel13Ideal.Gen

open Idealize.ShloMosaic Idealize.ShloMosaic.TcCoe Idealize.SL.Sem

/-- The convolution of one tile: row `t` reads the rows `t + 2` to `t + 32` of the 552 rows under the taps. -/
def conv (w E : ℕ → ℕ → EReal) (g : ℕ → EReal) (t f : ℕ) : EReal :=
  (∑ s ∈ Finset.range 31, w s f * E (t + (s + 2)) f) + g f

/-- The same as a function of the tile's index. -/
def convAt (w E : ℕ → ℕ → EReal) (g : ℕ → EReal) : Vec Ideal S512x1024 .f32 := fun y => conv w E g (y 0).val (y 1).val

theorem piece_conv {w E : ℕ → ℕ → EReal} {g : ℕ → EReal} {off : Fin 2 → ℕ} {R L : ℕ} (ho : off = ![R, L]) (inb : ∀ a, off a + (![64, 256] : Fin 2 → ℕ) a ≤ S512x1024.size a)
    (P : Vec Ideal S64x256 .f32)
    (hP : ∀ (q p : Fin 8) (b : Fin 256), P (ix2 (chunk q p) b) = conv w E g (R + (chunk q p).val) (L + b.val))
    (x : S64x256.Idx) : P x = convAt w E g ((Rect.unit (s := S512x1024) off ![64, 256] inb).emb x) := by
  subst ho
  obtain ⟨q, p, hqp⟩ : ∃ q p : Fin 8, (x 0).val = q.val * 8 + p.val := by
    have h64 : (x 0).val < 64 := (x 0).isLt
    exact ⟨⟨(x 0).val / 8, by omega⟩, ⟨(x 0).val % 8, by omega⟩, by show _ = (x 0).val / 8 * 8 + (x 0).val % 8; omega⟩
  have hx : x = ix2 (chunk q p) (x 1) := by
    funext a
    fin_cases a
    · exact Fin.ext hqp
    · rfl
  refine (congrArg P hx).trans ((hP q p (x 1)).trans ?_)
  have e0 : ((Rect.unit (s := S512x1024) ![R, L] ![64, 256] inb).emb x 0).val = R + (chunk q p).val :=
    (Rect.idx_unit_val (s := S512x1024) ![R, L] ![64, 256] inb x 0).trans (congrArg (fun n => R + n) hqp)
  have e1 : ((Rect.unit (s := S512x1024) ![R, L] ![64, 256] inb).emb x 1).val = L + (x 1).val :=
    Rect.idx_unit_val (s := S512x1024) ![R, L] ![64, 256] inb x 1
  unfold convAt
  rw [e0, e1]

theorem trip_pieces (𝒱 : Variants) (c : Dev nD) (bd : Option 𝒱.V) (i : grid0.Coords) (arg1 : Memref sig .tc .vmem S512x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S32x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S552x1024 .f32) (harg15 : arg15.IsWhole) (arg16 : Memref sig .tc .vmem S7x544x1024 .f32) (harg16 : arg16.IsWhole) (v23 : Vec Ideal S544x1024 .f32) (X_arg4 : BufTy.Contents (Elt Ideal) arg4.view.ty) (X_arg5 : BufTy.Contents (Elt Ideal) arg5.view.ty) (X_arg15 : BufTy.Contents (Elt Ideal) arg15.view.ty) (X_arg16 : BufTy.Contents (Elt Ideal) arg16.view.ty) (k : Fin k0_t1_loop.trips) {w E : ℕ → ℕ → EReal} {g : ℕ → EReal}
    (h4 : Taps (arg4.view.read (Elt Ideal) X_arg4) w) (h5 : ∀ f : Fin 1024, arg5.view.read (Elt Ideal) X_arg5 (ix2 0 f) = g f.val)
    (h15 : Rows (arg15.view.read (Elt Ideal) X_arg15) E) (h16 : Shifted (arg16.view.read (Elt Ideal) X_arg16) E) :
    View.PiecesOf (convAt w E g) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v23 X_arg4 X_arg5 X_arg15 X_arg16 k) := by
  unfold tripL_k0_t1
  delta trip_k0_t1
  dsimp only
  refine ⟨?_, ?_, ?_, ?_, trivial⟩
  · intro x
    dsimp only
    refine piece_conv (k0_off36_eq k) _ _ (fun q p b => ?_) x
    simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65]
    simp only [k0_pay50_at, k0_pay51_at, k0_pay52_at, k0_pay53_at, k0_pay54_at, k0_pay55_at, k0_pay56_at, k0_pay57_at, k0_pay58_at, k0_pay59_at, k0_pay60_at, k0_pay61_at, k0_pay62_at, k0_pay63_at, k0_pay64_at, k0_pay65_at, k0_pay76_at, View.readAt_eq_ld,
      tap_768_0 h16, tap_768_1 h16, tap_768_2 h16, tap_768_3 h16, tap_768_4 h16, tap_768_5 h16, tap_768_6 h15, tap_768_7 h16, tap_768_8 h16, tap_768_9 h16, tap_768_10 h16, tap_768_11 h16, tap_768_12 h16, tap_768_13 h16, tap_768_14 h15, tap_768_15 h16, tap_768_16 h16, tap_768_17 h16, tap_768_18 h16, tap_768_19 h16, tap_768_20 h16, tap_768_21 h16, tap_768_22 h15, tap_768_23 h16, tap_768_24 h16, tap_768_25 h16, tap_768_26 h16, tap_768_27 h16, tap_768_28 h16, tap_768_29 h16, tap_768_30 h15, ld_taps h4, ld_bias h5]
    simp only [conv, Finset.sum_range_succ, Finset.sum_range_zero, zero_add, Nat.reduceAdd]
  · intro x
    dsimp only
    refine piece_conv (k0_off27_eq k) _ _ (fun q p b => ?_) x
    simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65]
    simp only [k0_pay34_at, k0_pay35_at, k0_pay36_at, k0_pay37_at, k0_pay38_at, k0_pay39_at, k0_pay40_at, k0_pay41_at, k0_pay42_at, k0_pay43_at, k0_pay44_at, k0_pay45_at, k0_pay46_at, k0_pay47_at, k0_pay48_at, k0_pay49_at, View.readAt_eq_ld,
      tap_512_0 h16, tap_512_1 h16, tap_512_2 h16, tap_512_3 h16, tap_512_4 h16, tap_512_5 h16, tap_512_6 h15, tap_512_7 h16, tap_512_8 h16, tap_512_9 h16, tap_512_10 h16, tap_512_11 h16, tap_512_12 h16, tap_512_13 h16, tap_512_14 h15, tap_512_15 h16, tap_512_16 h16, tap_512_17 h16, tap_512_18 h16, tap_512_19 h16, tap_512_20 h16, tap_512_21 h16, tap_512_22 h15, tap_512_23 h16, tap_512_24 h16, tap_512_25 h16, tap_512_26 h16, tap_512_27 h16, tap_512_28 h16, tap_512_29 h16, tap_512_30 h15, ld_taps h4, ld_bias h5]
    simp only [conv, Finset.sum_range_succ, Finset.sum_range_zero, zero_add, Nat.reduceAdd]
  · intro x
    dsimp only
    refine piece_conv (k0_off18_eq k) _ _ (fun q p b => ?_) x
    simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65]
    simp only [k0_pay18_at, k0_pay19_at, k0_pay20_at, k0_pay21_at, k0_pay22_at, k0_pay23_at, k0_pay24_at, k0_pay25_at, k0_pay26_at, k0_pay27_at, k0_pay28_at, k0_pay29_at, k0_pay30_at, k0_pay31_at, k0_pay32_at, k0_pay33_at, View.readAt_eq_ld,
      tap_256_0 h16, tap_256_1 h16, tap_256_2 h16, tap_256_3 h16, tap_256_4 h16, tap_256_5 h16, tap_256_6 h15, tap_256_7 h16, tap_256_8 h16, tap_256_9 h16, tap_256_10 h16, tap_256_11 h16, tap_256_12 h16, tap_256_13 h16, tap_256_14 h15, tap_256_15 h16, tap_256_16 h16, tap_256_17 h16, tap_256_18 h16, tap_256_19 h16, tap_256_20 h16, tap_256_21 h16, tap_256_22 h15, tap_256_23 h16, tap_256_24 h16, tap_256_25 h16, tap_256_26 h16, tap_256_27 h16, tap_256_28 h16, tap_256_29 h16, tap_256_30 h15, ld_taps h4, ld_bias h5]
    simp only [conv, Finset.sum_range_succ, Finset.sum_range_zero, zero_add, Nat.reduceAdd]
  · intro x
    dsimp only
    refine piece_conv (k0_off9_eq k) _ _ (fun q p b => ?_) x
    simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65]
    simp only [k0_pay2_at, k0_pay3_at, k0_pay4_at, k0_pay5_at, k0_pay6_at, k0_pay7_at, k0_pay8_at, k0_pay9_at, k0_pay10_at, k0_pay11_at, k0_pay12_at, k0_pay13_at, k0_pay14_at, k0_pay15_at, k0_pay16_at, k0_pay17_at, View.readAt_eq_ld,
      tap_0_0 h16, tap_0_1 h16, tap_0_2 h16, tap_0_3 h16, tap_0_4 h16, tap_0_5 h16, tap_0_6 h15, tap_0_7 h16, tap_0_8 h16, tap_0_9 h16, tap_0_10 h16, tap_0_11 h16, tap_0_12 h16, tap_0_13 h16, tap_0_14 h15, tap_0_15 h16, tap_0_16 h16, tap_0_17 h16, tap_0_18 h16, tap_0_19 h16, tap_0_20 h16, tap_0_21 h16, tap_0_22 h15, tap_0_23 h16, tap_0_24 h16, tap_0_25 h16, tap_0_26 h16, tap_0_27 h16, tap_0_28 h16, tap_0_29 h16, tap_0_30 h15, ld_taps h4, ld_bias h5]
    simp only [conv, Finset.sum_range_succ, Finset.sum_range_zero, zero_add, Nat.reduceAdd]

theorem piecesOf_append {G : Vec Ideal S512x1024 .f32} : ∀ {L L' : List (View.Piece (Elt Ideal) S512x1024 .f32)},
    View.PiecesOf G L → View.PiecesOf G L' → View.PiecesOf G (L ++ L')
  | [], _, _, h => h
  | _ :: _, _, h, h' => ⟨h.1, piecesOf_append h.2 h'⟩

/-- All trips' pieces are blocks of the convolution. -/
theorem loop_pieces (𝒱 : Variants) (c : Dev nD) (bd : Option 𝒱.V) (i : grid0.Coords) (arg1 : Memref sig .tc .vmem S512x1024 .f32) (harg1 : arg1.IsWhole) (arg2 : Memref sig .tc .vmem S32x1024 .f32) (harg2 : arg2.IsWhole) (arg3 : Memref sig .tc .vmem S512x1024 .f32) (harg3 : arg3.IsWhole) (arg4 : Memref sig .tc .vmem S32x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S552x1024 .f32) (harg15 : arg15.IsWhole) (arg16 : Memref sig .tc .vmem S7x544x1024 .f32) (harg16 : arg16.IsWhole) (v23 : Vec Ideal S544x1024 .f32) (X_arg4 : BufTy.Contents (Elt Ideal) arg4.view.ty) (X_arg5 : BufTy.Contents (Elt Ideal) arg5.view.ty) (X_arg15 : BufTy.Contents (Elt Ideal) arg15.view.ty) (X_arg16 : BufTy.Contents (Elt Ideal) arg16.view.ty) {w E : ℕ → ℕ → EReal} {g : ℕ → EReal}
    (h4 : Taps (arg4.view.read (Elt Ideal) X_arg4) w) (h5 : ∀ f : Fin 1024, arg5.view.read (Elt Ideal) X_arg5 (ix2 0 f) = g f.val)
    (h15 : Rows (arg15.view.read (Elt Ideal) X_arg15) E) (h16 : Shifted (arg16.view.read (Elt Ideal) X_arg16) E) :
    ∀ n : ℕ, n ≤ k0_t1_loop.trips → View.PiecesOf (convAt w E g) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v23 X_arg4 X_arg5 X_arg15 X_arg16 n)
  | 0, _ => trivial
  | n + 1, hn => by
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v23 X_arg4 X_arg5 X_arg15 X_arg16 ⟨n, hn⟩]
    exact piecesOf_append (trip_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v23 X_arg4 X_arg5 X_arg15 X_arg16 ⟨n, hn⟩ h4 h5 h15 h16)
      (loop_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v23 X_arg4 X_arg5 X_arg15 X_arg16 h4 h5 h15 h16 n (Nat.le_of_lt hn))

end Cert.Kernel13Ideal.Gen

end
-- ==== Proof.TailC.lean ====
module

public import proofs.«01_k».proof.Defs
public import proofs.«01_k».proof.Proof.Forward
public import proofs.«01_k».proof.Proof.Gen.Kernel13Ideal
public import proofs.«01_k».proof.Proof.Gen.Kernel13Ideal.Frame
public import proofs.«01_k».proof.Proof.TailB
public import Idealize.ShloMosaic.Lib.Pipeline.ReadBack
public import Idealize.ShloMosaic.Lib.Pipeline.Value
public import Idealize.ShloMosaic.Lib.Pipeline.ValueKit
public import Idealize.ShloMosaic.Lib.Pipeline.ValueKit.Point
public import Idealize.ShloMosaic.Lib.IdealHost

/-! # One tile of the causal convolution: the rows under the taps, their shifted copies, and the sums

The kernel lays the 32 rows before the tile, the tile's 512 rows and 8 rows of zeros in one buffer, and makes seven copies of it,
each one row later than the last, so that every tap reads whole groups of rows. -/

@[expose] public section

noncomputable section

namespace Cert.Kernel13Ideal.Gen

open Idealize.ShloMosaic Idealize.ShloMosaic.TcCoe Idealize.SL.Sem

theorem canon_block {S : Shape} (G : Vec Ideal S .f32) {L : List (View.Piece (Elt Ideal) S .f32)} (h : View.PiecesOf G L)
    (p : View.Piece (Elt Ideal) S .f32) (hp : p ∈ L) (x : p.1.shape.Idx) : View.canon L (p.1.emb x) = G (p.1.emb x) :=
  View.canon_apply_of_pieces G L h.mem _ ⟨p, hp, by rw [← Rect.map_emb_univ]; exact Finset.mem_map_of_mem _ (Finset.mem_univ x)⟩

/-- What the buffer of rows holds, as a function of row and column: the rows before the tile (zero for the first tile), the tile, zeros. -/
structure Ext (i : grid0.Coords) (x0 : Vec Ideal S512x1024 .f32) (x1 : Vec Ideal S32x1024 .f32) (E : ℕ → ℕ → EReal) : Prop where
  before : ∀ (r : Fin 32) (f : Fin 1024), (if (i 0).val = 0 then 0 else x1 (ix2 r f)) = E r.val f.val
  tile : ∀ (r : Fin 512) (f : Fin 1024), x0 (ix2 r f) = E (32 + r.val) f.val
  after : ∀ (r : Fin 8) (f : Fin 1024), E (544 + r.val) f.val = 0

theorem first_tile : ∀ n : Fin 32, Scalar.cmpi .eq (BitVec.ofNat 32 n.val) 0#32 = if n.val = 0 then 1#1 else 0#1 := by decide +kernel

theorem pay66_at (i : grid0.Coords) (v : Vec Ideal S32x1024 .f32) (r : Fin 32) (f : Fin 1024) :
    k0_pay66 (F := Ideal) i v (ix2 r f) = if (i 0).val = 0 then 0 else v (ix2 r f) := by
  pointwise [k0_pay66]
  rw [first_tile (i 0)]
  by_cases h : (i 0).val = 0
  · rw [if_pos h, if_pos h]; rfl
  · rw [if_neg h, if_neg h]; rfl

theorem pay67_at (v : Vec Ideal S512x1024 .f32) (r : Fin 512) (f : Fin 1024) :
    k0_pay67 (F := Ideal) v (ix2 r f) = v (ix2 r f) := by
  pointwise [k0_pay67]

theorem pay68_at (r : Fin 8) (f : Fin 1024) : k0_pay68 (F := Ideal) (ix2 r f) = 0 := by
  pointwise [k0_pay68]

theorem pay69_at (v : Vec Ideal S544x1024 .f32) (r : Fin 544) (f : Fin 1024) :
    k0_pay69 (F := Ideal) v (ix3 0 r f) = v (ix2 r f) := by
  pointwise [k0_pay69]

theorem pay70_at (v : Vec Ideal S544x1024 .f32) (r : Fin 544) (f : Fin 1024) :
    k0_pay70 (F := Ideal) v (ix3 0 r f) = v (ix2 r f) := by
  pointwise [k0_pay70]

theorem pay71_at (v : Vec Ideal S544x1024 .f32) (r : Fin 544) (f : Fin 1024) :
    k0_pay71 (F := Ideal) v (ix3 0 r f) = v (ix2 r f) := by
  pointwise [k0_pay71]

theorem pay72_at (v : Vec Ideal S544x1024 .f32) (r : Fin 544) (f : Fin 1024) :
    k0_pay72 (F := Ideal) v (ix3 0 r f) = v (ix2 r f) := by
  pointwise [k0_pay72]

theorem pay73_at (v : Vec Ideal S544x1024 .f32) (r : Fin 544) (f : Fin 1024) :
    k0_pay73 (F := Ideal) v (ix3 0 r f) = v (ix2 r f) := by
  pointwise [k0_pay73]

theorem pay74_at (v : Vec Ideal S544x1024 .f32) (r : Fin 544) (f : Fin 1024) :
    k0_pay74 (F := Ideal) v (ix3 0 r f) = v (ix2 r f) := by
  pointwise [k0_pay74]

theorem pay75_at (v : Vec Ideal S544x1024 .f32) (r : Fin 544) (f : Fin 1024) :
    k0_pay75 (F := Ideal) v (ix3 0 r f) = v (ix2 r f) := by
  pointwise [k0_pay75]

theorem eta2 {m n : ℕ} (x : (⟨2, ![m, n]⟩ : Shape).Idx) : ∃ (a : Fin m) (b : Fin n), x = ix2 a b :=
  ⟨x 0, x 1, by funext a; fin_cases a <;> rfl⟩

/-- The buffer of rows, and the seven copies of it, as functions of their indices. -/
def rowsAt (E : ℕ → ℕ → EReal) : Vec Ideal S552x1024 .f32 := fun y => E (y 0).val (y 1).val
def shiftedAt (E : ℕ → ℕ → EReal) : Vec Ideal S7x544x1024 .f32 := fun y => E ((y 1).val + (y 0).val + 1) (y 2).val

theorem rows_piece {E : ℕ → ℕ → EReal} {R n : ℕ} (inb : ∀ a, (![R, 0] : Fin 2 → ℕ) a + (![n, 1024] : Fin 2 → ℕ) a ≤ S552x1024.size a)
    (P : Vec Ideal ⟨2, ![n, 1024]⟩ .f32) (hP : ∀ (a : Fin n) (b : Fin 1024), P (ix2 a b) = E (R + a.val) b.val)
    (x : (⟨2, ![n, 1024]⟩ : Shape).Idx) : P x = rowsAt E ((Rect.unit (s := S552x1024) ![R, 0] ![n, 1024] inb).emb x) := by
  obtain ⟨a, b, rfl⟩ := eta2 x
  have e0 : ((Rect.unit (s := S552x1024) ![R, 0] ![n, 1024] inb).emb (ix2 a b) 0).val = R + a.val :=
    Rect.idx_unit_val (s := S552x1024) ![R, 0] ![n, 1024] inb (ix2 a b) 0
  have e1 : ((Rect.unit (s := S552x1024) ![R, 0] ![n, 1024] inb).emb (ix2 a b) 1).val = b.val :=
    (Rect.idx_unit_val (s := S552x1024) ![R, 0] ![n, 1024] inb (ix2 a b) 1).trans (Nat.zero_add _)
  rw [hP]
  unfold rowsAt
  rw [e0, e1]

theorem shifted_piece {E : ℕ → ℕ → EReal} {s : ℕ} (inb : ∀ a, (![s, 0, 0] : Fin 3 → ℕ) a + (![1, 544, 1024] : Fin 3 → ℕ) a ≤ S7x544x1024.size a)
    (P : Vec Ideal S1x544x1024 .f32) (hP : ∀ (a : Fin 544) (b : Fin 1024), P (ix3 0 a b) = E (a.val + s + 1) b.val)
    (x : S1x544x1024.Idx) : P x = shiftedAt E ((Rect.unit (s := S7x544x1024) ![s, 0, 0] ![1, 544, 1024] inb).emb x) := by
  obtain ⟨a, b, rfl⟩ : ∃ (a : Fin 544) (b : Fin 1024), x = ix3 0 a b :=
    ⟨x 1, x 2, by funext a; fin_cases a; exacts [Fin.ext (Nat.lt_one_iff.mp (x 0).isLt), rfl, rfl]⟩
  have e0 : ((Rect.unit (s := S7x544x1024) ![s, 0, 0] ![1, 544, 1024] inb).emb (ix3 0 a b) 0).val = s :=
    Rect.idx_unit_val (s := S7x544x1024) ![s, 0, 0] ![1, 544, 1024] inb (ix3 0 a b) 0
  have e1 : ((Rect.unit (s := S7x544x1024) ![s, 0, 0] ![1, 544, 1024] inb).emb (ix3 0 a b) 1).val = a.val :=
    (Rect.idx_unit_val (s := S7x544x1024) ![s, 0, 0] ![1, 544, 1024] inb (ix3 0 a b) 1).trans (Nat.zero_add _)
  have e2 : ((Rect.unit (s := S7x544x1024) ![s, 0, 0] ![1, 544, 1024] inb).emb (ix3 0 a b) 2).val = b.val :=
    (Rect.idx_unit_val (s := S7x544x1024) ![s, 0, 0] ![1, 544, 1024] inb (ix3 0 a b) 2).trans (Nat.zero_add _)
  rw [hP]
  unfold shiftedAt
  rw [e0, e1, e2]

theorem hz2 : (![0, 0] : Fin 2 → ℕ) = fun _ => 0 := by funext a; fin_cases a <;> rfl

variable {c : Dev nD} {i : grid0.Coords} {arg1 : Memref sig .tc .vmem S512x1024 .f32} {harg1 : arg1.IsWhole} {arg2 : Memref sig .tc .vmem S32x1024 .f32} {harg2 : arg2.IsWhole} {arg3 : Memref sig .tc .vmem S512x1024 .f32} {harg3 : arg3.IsWhole} {arg4 : Memref sig .tc .vmem S32x8x1024 .f32} {harg4 : arg4.IsWhole} {arg5 : Memref sig .tc .vmem S1x1024 .f32} {harg5 : arg5.IsWhole} {arg6 : Memref sig .tc .vmem S1x1024 .f32} {harg6 : arg6.IsWhole} {arg7 : Memref sig .tc .vmem S1x1024 .f32} {harg7 : arg7.IsWhole} {arg8 : Memref sig .tc .vmem S1024x1024 .bf16} {harg8 : arg8.IsWhole} {arg9 : Memref sig .tc .vmem S1x1024 .f32} {harg9 : arg9.IsWhole} {arg10 : Memref sig .tc .vmem S1x1024 .f32} {harg10 : arg10.IsWhole} {arg11 : Memref sig .tc .vmem S1x1024 .f32} {harg11 : arg11.IsWhole} {arg12 : Memref sig .tc .vmem S512x1024 .f32} {harg12 : arg12.IsWhole} {arg13 : Memref sig .tc .vmem S512x1024 .f32} {harg13 : arg13.IsWhole} {arg14 : Memref sig .tc .vmem S512x1024 .f32} {harg14 : arg14.IsWhole} {arg15 : Memref sig .tc .vmem S552x1024 .f32} {harg15 : arg15.IsWhole} {arg16 : Memref sig .tc .vmem S7x544x1024 .f32} {harg16 : arg16.IsWhole}
    {x0 : Vec Ideal S512x1024 .f32} {x1 : Vec Ideal S32x1024 .f32} {x2 : Vec Ideal S512x1024 .f32} {x3 : Vec Ideal S32x8x1024 .f32} {x4 : Vec Ideal S1x1024 .f32} {x5 : Vec Ideal S1x1024 .f32} {x6 : Vec Ideal S1x1024 .f32} {x7 : Vec Ideal S1024x1024 .bf16} {x8 : Vec Ideal S1x1024 .f32} {x9 : Vec Ideal S1x1024 .f32} {x10 : Vec Ideal S1x1024 .f32}

theorem ext_pieces {E : ℕ → ℕ → EReal} (h : Ext i x0 x1 E) :
    View.PiecesOf (rowsAt E) (kernelRun0_A.sl.HS0_3 (F := Ideal) c i arg1 harg1 arg2 harg2 x0 x1) := by
  unfold kernelRun0_A.sl.HS0_3
  simp only [View.readAt_eq_ld, harg1.read_unread, harg2.read_unread, View.ld_unit_zero (S := S512x1024) hz2, View.ld_unit_zero (S := S32x1024) hz2]
  refine ⟨?_, ?_, ?_, trivial⟩
  · intro x
    exact rows_piece (E := E) (R := 544) (n := 8) inb_S552x1024_S8x1024_544_0 (k0_pay68 (F := Ideal)) (fun a b => (pay68_at a b).trans (h.after a b).symm) x
  · intro x
    exact rows_piece (E := E) (R := 32) (n := 512) inb_S552x1024_S512x1024_32_0 (k0_pay67 x0) (fun a b => (pay67_at x0 a b).trans (h.tile a b)) x
  · intro x
    exact rows_piece (E := E) (R := 0) (n := 32) inb_S552x1024_S32x1024_0_0 (k0_pay66 i x1)
      (fun a b => (pay66_at i x1 a b).trans ((h.before a b).trans (congrArg (fun n => E n b.val) (Nat.zero_add _).symm))) x

theorem ext_canon {E : ℕ → ℕ → EReal} (h : Ext i x0 x1 E) :
    View.canon (kernelRun0_A.sl.HS0_3 (F := Ideal) c i arg1 harg1 arg2 harg2 x0 x1) = rowsAt E := by
  funext y
  have hp := ext_pieces (c := c) (arg1 := arg1) (harg1 := harg1) (arg2 := arg2) (harg2 := harg2) h
  refine View.canon_apply_of_pieces _ _ hp.mem y ?_
  unfold kernelRun0_A.sl.HS0_3
  have hy : (y 0).val < 552 := (y 0).isLt
  have hy1 : (y 1).val < 1024 := (y 1).isLt
  rcases lt_or_ge (y 0).val 32 with h1 | h1
  · refine ⟨_, .tail _ (.tail _ (.head _)), ?_⟩
    refine (Rect.mem_set_unit (inb := inb_S552x1024_S32x1024_0_0)).mpr fun a => ?_
    fin_cases a
    · exact ⟨Nat.zero_le _, by show (y 0).val < 0 + 32; omega⟩
    · exact ⟨Nat.zero_le _, by show (y 1).val < 0 + 1024; omega⟩
  rcases lt_or_ge (y 0).val 544 with h2 | h2
  · refine ⟨_, .tail _ (.head _), ?_⟩
    refine (Rect.mem_set_unit (inb := inb_S552x1024_S512x1024_32_0)).mpr fun a => ?_
    fin_cases a
    · exact ⟨h1, by show (y 0).val < 32 + 512; omega⟩
    · exact ⟨Nat.zero_le _, by show (y 1).val < 0 + 1024; omega⟩
  · refine ⟨_, .head _, ?_⟩
    refine (Rect.mem_set_unit (inb := inb_S552x1024_S8x1024_544_0)).mpr fun a => ?_
    fin_cases a
    · exact ⟨h2, by show (y 0).val < 544 + 8; omega⟩
    · exact ⟨Nat.zero_le _, by show (y 1).val < 0 + 1024; omega⟩

theorem v15_at {E : ℕ → ℕ → EReal} (h : Ext i x0 x1 E) (r : Fin 544) (f : Fin 1024) :
    kernelRun0_A.sl.v15 (F := Ideal) c i arg1 harg1 arg2 harg2 arg15 x0 x1 (ix2 r f) = E (r.val + 0 + 1) f.val := by
  unfold kernelRun0_A.sl.v15
  rw [View.readCov_eq_canon']
  show View.canon (kernelRun0_A.sl.HS0_3 (F := Ideal) c i arg1 harg1 arg2 harg2 x0 x1) _ = _
  rw [ext_canon h]
  unfold rowsAt
  congr 1
  · refine (Rect.idx_unit_val (s := S552x1024) ![1, 0] S544x1024.size inb_S552x1024_S544x1024_1_0 (ix2 r f) 0).trans ?_
    show 1 + r.val = _
    omega
  · refine (Rect.idx_unit_val (s := S552x1024) ![1, 0] S544x1024.size inb_S552x1024_S544x1024_1_0 (ix2 r f) 1).trans ?_
    show 0 + f.val = _
    omega

theorem v19_at {E : ℕ → ℕ → EReal} (h : Ext i x0 x1 E) (r : Fin 544) (f : Fin 1024) :
    kernelRun0_A.sl.v19 (F := Ideal) c i arg1 harg1 arg2 harg2 arg15 x0 x1 (ix2 r f) = E (r.val + 1 + 1) f.val := by
  unfold kernelRun0_A.sl.v19
  rw [View.readCov_eq_canon']
  show View.canon (kernelRun0_A.sl.HS0_3 (F := Ideal) c i arg1 harg1 arg2 harg2 x0 x1) _ = _
  rw [ext_canon h]
  unfold rowsAt
  congr 1
  · refine (Rect.idx_unit_val (s := S552x1024) ![2, 0] S544x1024.size inb_S552x1024_S544x1024_2_0 (ix2 r f) 0).trans ?_
    show 2 + r.val = _
    omega
  · refine (Rect.idx_unit_val (s := S552x1024) ![2, 0] S544x1024.size inb_S552x1024_S544x1024_2_0 (ix2 r f) 1).trans ?_
    show 0 + f.val = _
    omega

theorem v23_at {E : ℕ → ℕ → EReal} (h : Ext i x0 x1 E) (r : Fin 544) (f : Fin 1024) :
    kernelRun0_A.sl.v23 (F := Ideal) c i arg1 harg1 arg2 harg2 arg15 x0 x1 (ix2 r f) = E (r.val + 2 + 1) f.val := by
  unfold kernelRun0_A.sl.v23
  rw [View.readCov_eq_canon']
  show View.canon (kernelRun0_A.sl.HS0_3 (F := Ideal) c i arg1 harg1 arg2 harg2 x0 x1) _ = _
  rw [ext_canon h]
  unfold rowsAt
  congr 1
  · refine (Rect.idx_unit_val (s := S552x1024) ![3, 0] S544x1024.size inb_S552x1024_S544x1024_3_0 (ix2 r f) 0).trans ?_
    show 3 + r.val = _
    omega
  · refine (Rect.idx_unit_val (s := S552x1024) ![3, 0] S544x1024.size inb_S552x1024_S544x1024_3_0 (ix2 r f) 1).trans ?_
    show 0 + f.val = _
    omega

theorem v27_at {E : ℕ → ℕ → EReal} (h : Ext i x0 x1 E) (r : Fin 544) (f : Fin 1024) :
    kernelRun0_A.sl.v27 (F := Ideal) c i arg1 harg1 arg2 harg2 arg15 x0 x1 (ix2 r f) = E (r.val + 3 + 1) f.val := by
  unfold kernelRun0_A.sl.v27
  rw [View.readCov_eq_canon']
  show View.canon (kernelRun0_A.sl.HS0_3 (F := Ideal) c i arg1 harg1 arg2 harg2 x0 x1) _ = _
  rw [ext_canon h]
  unfold rowsAt
  congr 1
  · refine (Rect.idx_unit_val (s := S552x1024) ![4, 0] S544x1024.size inb_S552x1024_S544x1024_4_0 (ix2 r f) 0).trans ?_
    show 4 + r.val = _
    omega
  · refine (Rect.idx_unit_val (s := S552x1024) ![4, 0] S544x1024.size inb_S552x1024_S544x1024_4_0 (ix2 r f) 1).trans ?_
    show 0 + f.val = _
    omega

theorem v31_at {E : ℕ → ℕ → EReal} (h : Ext i x0 x1 E) (r : Fin 544) (f : Fin 1024) :
    kernelRun0_A.sl.v31 (F := Ideal) c i arg1 harg1 arg2 harg2 arg15 x0 x1 (ix2 r f) = E (r.val + 4 + 1) f.val := by
  unfold kernelRun0_A.sl.v31
  rw [View.readCov_eq_canon']
  show View.canon (kernelRun0_A.sl.HS0_3 (F := Ideal) c i arg1 harg1 arg2 harg2 x0 x1) _ = _
  rw [ext_canon h]
  unfold rowsAt
  congr 1
  · refine (Rect.idx_unit_val (s := S552x1024) ![5, 0] S544x1024.size inb_S552x1024_S544x1024_5_0 (ix2 r f) 0).trans ?_
    show 5 + r.val = _
    omega
  · refine (Rect.idx_unit_val (s := S552x1024) ![5, 0] S544x1024.size inb_S552x1024_S544x1024_5_0 (ix2 r f) 1).trans ?_
    show 0 + f.val = _
    omega

theorem v35_at {E : ℕ → ℕ → EReal} (h : Ext i x0 x1 E) (r : Fin 544) (f : Fin 1024) :
    kernelRun0_A.sl.v35 (F := Ideal) c i arg1 harg1 arg2 harg2 arg15 x0 x1 (ix2 r f) = E (r.val + 5 + 1) f.val := by
  unfold kernelRun0_A.sl.v35
  rw [View.readCov_eq_canon']
  show View.canon (kernelRun0_A.sl.HS0_3 (F := Ideal) c i arg1 harg1 arg2 harg2 x0 x1) _ = _
  rw [ext_canon h]
  unfold rowsAt
  congr 1
  · refine (Rect.idx_unit_val (s := S552x1024) ![6, 0] S544x1024.size inb_S552x1024_S544x1024_6_0 (ix2 r f) 0).trans ?_
    show 6 + r.val = _
    omega
  · refine (Rect.idx_unit_val (s := S552x1024) ![6, 0] S544x1024.size inb_S552x1024_S544x1024_6_0 (ix2 r f) 1).trans ?_
    show 0 + f.val = _
    omega

theorem v39_at {E : ℕ → ℕ → EReal} (h : Ext i x0 x1 E) (r : Fin 544) (f : Fin 1024) :
    kernelRun0_A.sl.v39 (F := Ideal) c i arg1 harg1 arg2 harg2 arg15 x0 x1 (ix2 r f) = E (r.val + 6 + 1) f.val := by
  unfold kernelRun0_A.sl.v39
  rw [View.readCov_eq_canon']
  show View.canon (kernelRun0_A.sl.HS0_3 (F := Ideal) c i arg1 harg1 arg2 harg2 x0 x1) _ = _
  rw [ext_canon h]
  unfold rowsAt
  congr 1
  · refine (Rect.idx_unit_val (s := S552x1024) ![7, 0] S544x1024.size inb_S552x1024_S544x1024_7_0 (ix2 r f) 0).trans ?_
    show 7 + r.val = _
    omega
  · refine (Rect.idx_unit_val (s := S552x1024) ![7, 0] S544x1024.size inb_S552x1024_S544x1024_7_0 (ix2 r f) 1).trans ?_
    show 0 + f.val = _
    omega

theorem shifted_pieces {E : ℕ → ℕ → EReal} (h : Ext i x0 x1 E) :
    View.PiecesOf (shiftedAt E) (kernelRun0_A.sl.HS1_7 (F := Ideal) c i arg1 harg1 arg2 harg2 arg15 x0 x1) := by
  unfold kernelRun0_A.sl.HS1_7
  refine ⟨?_, ?_, ?_, ?_, ?_, ?_, ?_, trivial⟩
  · exact shifted_piece (E := E) (s := 6) inb_S7x544x1024_S1x544x1024_6_0_0 (k0_pay75 (kernelRun0_A.sl.v39 c i arg1 harg1 arg2 harg2 arg15 x0 x1))
      (fun a b => (pay75_at _ a b).trans (v39_at h a b))
  · exact shifted_piece (E := E) (s := 5) inb_S7x544x1024_S1x544x1024_5_0_0 (k0_pay74 (kernelRun0_A.sl.v35 c i arg1 harg1 arg2 harg2 arg15 x0 x1))
      (fun a b => (pay74_at _ a b).trans (v35_at h a b))
  · exact shifted_piece (E := E) (s := 4) inb_S7x544x1024_S1x544x1024_4_0_0 (k0_pay73 (kernelRun0_A.sl.v31 c i arg1 harg1 arg2 harg2 arg15 x0 x1))
      (fun a b => (pay73_at _ a b).trans (v31_at h a b))
  · exact shifted_piece (E := E) (s := 3) inb_S7x544x1024_S1x544x1024_3_0_0 (k0_pay72 (kernelRun0_A.sl.v27 c i arg1 harg1 arg2 harg2 arg15 x0 x1))
      (fun a b => (pay72_at _ a b).trans (v27_at h a b))
  · exact shifted_piece (E := E) (s := 2) inb_S7x544x1024_S1x544x1024_2_0_0 (k0_pay71 (kernelRun0_A.sl.v23 c i arg1 harg1 arg2 harg2 arg15 x0 x1))
      (fun a b => (pay71_at _ a b).trans (v23_at h a b))
  · exact shifted_piece (E := E) (s := 1) inb_S7x544x1024_S1x544x1024_1_0_0 (k0_pay70 (kernelRun0_A.sl.v19 c i arg1 harg1 arg2 harg2 arg15 x0 x1))
      (fun a b => (pay70_at _ a b).trans (v19_at h a b))
  · exact shifted_piece (E := E) (s := 0) inb_S7x544x1024_S1x544x1024_0_0_0 (k0_pay69 (kernelRun0_A.sl.v15 c i arg1 harg1 arg2 harg2 arg15 x0 x1))
      (fun a b => (pay69_at _ a b).trans (v15_at h a b))

theorem shifted_canon {E : ℕ → ℕ → EReal} (h : Ext i x0 x1 E) :
    View.canon (kernelRun0_A.sl.HS1_7 (F := Ideal) c i arg1 harg1 arg2 harg2 arg15 x0 x1) = shiftedAt E := by
  funext y
  have hp := shifted_pieces (c := c) (arg1 := arg1) (harg1 := harg1) (arg2 := arg2) (harg2 := harg2) (arg15 := arg15) h
  refine View.canon_apply_of_pieces _ _ hp.mem y ?_
  unfold kernelRun0_A.sl.HS1_7
  have hy : (y 0).val < 7 := (y 0).isLt
  have hy1 : (y 1).val < 544 := (y 1).isLt
  have hy2 : (y 2).val < 1024 := (y 2).isLt
  have hy0 : (y 0).val = 0 ∨ (y 0).val = 1 ∨ (y 0).val = 2 ∨ (y 0).val = 3 ∨ (y 0).val = 4 ∨ (y 0).val = 5 ∨ (y 0).val = 6 := by omega
  rcases hy0 with h0 | h0 | h0 | h0 | h0 | h0 | h0
  · refine ⟨_, .tail _ (.tail _ (.tail _ (.tail _ (.tail _ (.tail _ (.head _)))))), ?_⟩
    refine (Rect.mem_set_unit (inb := inb_S7x544x1024_S1x544x1024_0_0_0)).mpr fun a => ?_
    fin_cases a
    · exact ⟨by show 0 ≤ (y 0).val; omega, by show (y 0).val < 0 + 1; omega⟩
    · exact ⟨Nat.zero_le _, by show (y 1).val < 0 + 544; omega⟩
    · exact ⟨Nat.zero_le _, by show (y 2).val < 0 + 1024; omega⟩
  · refine ⟨_, .tail _ (.tail _ (.tail _ (.tail _ (.tail _ (.head _))))), ?_⟩
    refine (Rect.mem_set_unit (inb := inb_S7x544x1024_S1x544x1024_1_0_0)).mpr fun a => ?_
    fin_cases a
    · exact ⟨by show 1 ≤ (y 0).val; omega, by show (y 0).val < 1 + 1; omega⟩
    · exact ⟨Nat.zero_le _, by show (y 1).val < 0 + 544; omega⟩
    · exact ⟨Nat.zero_le _, by show (y 2).val < 0 + 1024; omega⟩
  · refine ⟨_, .tail _ (.tail _ (.tail _ (.tail _ (.head _)))), ?_⟩
    refine (Rect.mem_set_unit (inb := inb_S7x544x1024_S1x544x1024_2_0_0)).mpr fun a => ?_
    fin_cases a
    · exact ⟨by show 2 ≤ (y 0).val; omega, by show (y 0).val < 2 + 1; omega⟩
    · exact ⟨Nat.zero_le _, by show (y 1).val < 0 + 544; omega⟩
    · exact ⟨Nat.zero_le _, by show (y 2).val < 0 + 1024; omega⟩
  · refine ⟨_, .tail _ (.tail _ (.tail _ (.head _))), ?_⟩
    refine (Rect.mem_set_unit (inb := inb_S7x544x1024_S1x544x1024_3_0_0)).mpr fun a => ?_
    fin_cases a
    · exact ⟨by show 3 ≤ (y 0).val; omega, by show (y 0).val < 3 + 1; omega⟩
    · exact ⟨Nat.zero_le _, by show (y 1).val < 0 + 544; omega⟩
    · exact ⟨Nat.zero_le _, by show (y 2).val < 0 + 1024; omega⟩
  · refine ⟨_, .tail _ (.tail _ (.head _)), ?_⟩
    refine (Rect.mem_set_unit (inb := inb_S7x544x1024_S1x544x1024_4_0_0)).mpr fun a => ?_
    fin_cases a
    · exact ⟨by show 4 ≤ (y 0).val; omega, by show (y 0).val < 4 + 1; omega⟩
    · exact ⟨Nat.zero_le _, by show (y 1).val < 0 + 544; omega⟩
    · exact ⟨Nat.zero_le _, by show (y 2).val < 0 + 1024; omega⟩
  · refine ⟨_, .tail _ (.head _), ?_⟩
    refine (Rect.mem_set_unit (inb := inb_S7x544x1024_S1x544x1024_5_0_0)).mpr fun a => ?_
    fin_cases a
    · exact ⟨by show 5 ≤ (y 0).val; omega, by show (y 0).val < 5 + 1; omega⟩
    · exact ⟨Nat.zero_le _, by show (y 1).val < 0 + 544; omega⟩
    · exact ⟨Nat.zero_le _, by show (y 2).val < 0 + 1024; omega⟩
  · refine ⟨_, .head _, ?_⟩
    refine (Rect.mem_set_unit (inb := inb_S7x544x1024_S1x544x1024_6_0_0)).mpr fun a => ?_
    fin_cases a
    · exact ⟨by show 6 ≤ (y 0).val; omega, by show (y 0).val < 6 + 1; omega⟩
    · exact ⟨Nat.zero_le _, by show (y 1).val < 0 + 544; omega⟩
    · exact ⟨Nat.zero_le _, by show (y 2).val < 0 + 1024; omega⟩

/-- The convolution's result array, one tile. -/
theorem out_c {w E : ℕ → ℕ → EReal} {g : ℕ → EReal} (hE : Ext i x0 x1 E) (hw : Taps x3 w) (hg : ∀ f : Fin 1024, x4 (ix2 0 f) = g f.val) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = convAt w E g := by
  have hcov := cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10
  unfold out0_A_11
  rw [View.read_writes_junk_eq_canon]
  funext y
  refine View.canon_apply_of_pieces _ _ (View.PiecesOf.mem ?_) y (hcov y)
  unfold kernelRun0_A
  dsimp only
  refine loop_pieces _ _ _ _ _ _ _ _ _ _ _ _ _ _ _ _ _ _ _ _ _ _ _ _ _ _ _ _ _ _ _ _ _ _ _ _ _ _ _ _ _ ?_ ?_ ?_ ?_ _ (le_of_eq rfl)
  · rw [harg4.read_unread]; exact hw
  · rw [harg5.read_unread]; exact hg
  · rw [View.read_writes_junk_eq_canon, ext_canon hE]
    intro r f; rfl
  · rw [View.read_writes_junk_eq_canon, shifted_canon hE]
    intro s r f; rfl

end Cert.Kernel13Ideal.Gen
end
-- ==== Proof.TailD.lean ====
module

public import proofs.«01_k».proof.Defs
public import proofs.«01_k».proof.Proof.Forward
public import proofs.«01_k».proof.Proof.TailC
public import proofs.«01_k».proof.Proof.Gen.Kernel13Ideal
public import proofs.«01_k».proof.Proof.Gen.Kernel13Ideal.Frame
public import proofs.«01_k».proof.Proof.Gen.Kernel13Ideal.Value
public import Idealize.ShloMosaic.Lib.Pipeline.ReadBack
public import Idealize.ShloMosaic.Lib.Pipeline.Value
public import Idealize.ShloMosaic.Lib.Pipeline.ValueKit
public import Idealize.ShloMosaic.Lib.Pipeline.ValueKit.Point
public import Idealize.ShloMosaic.Lib.IdealHost

/-! # The tail of the convolution sub-layer: one tile's three results

The tile's convolution is read back, normalised, put through its activation and the second pointwise weight, and added to the
scaled input; the sum is normalised once more. -/

@[expose] public section

noncomputable section

namespace Cert.Kernel13Ideal.Gen

open Idealize.ShloMosaic Idealize.ShloMosaic.TcCoe Idealize.SL.Sem
open Cert.Fwd (lgs mean hat)

/-- A number times its logistic. -/
def silu (a : EReal) : EReal := a * lgs a

/-- The sub-layer's sum for one row: the scaled input, and the activation of the normalised convolution through the weight. -/
def mix (C X G B : Fin 1024 → EReal) (W : Fin 1024 → Fin 1024 → EReal) (D : Fin 1024 → EReal) (k : Fin 1024) : EReal :=
  Ideal.ofBits .f32 0x3FB504F3#32 * X k + (∑ f, silu (hat C f * G f + B f) * W f k + D k)

theorem pay80_at {v45 v80 : Vec Ideal S512x1024 .f32} {v47 v49 v76 : Vec Ideal S1x1024 .f32} {v73 : Vec Ideal S1024x1024 .bf16}
    {C X G B D : Fin 1024 → EReal} {W : Fin 1024 → Fin 1024 → EReal} {r : Fin 512}
    (hC : ∀ k, v45 (ix2 r k) = C k) (hG : ∀ k, v47 (ix2 0 k) = G k) (hB : ∀ k, v49 (ix2 0 k) = B k)
    (hW : ∀ f k, v73 (ix2 f k) = W f k) (hD : ∀ k, v76 (ix2 0 k) = D k) (hX : ∀ k, v80 (ix2 r k) = X k) (k : Fin 1024) :
    k0_pay80 (F := Ideal) v45 v47 v49 v73 v76 v80 (ix2 r k) = mix C X G B W D k := by
  pointwise [k0_pay80]
  simp only [hC, hG, hB, hW, hD, hX]
  rfl

theorem pay1_at {v83 : Vec Ideal S512x1024 .f32} {v86 v88 : Vec Ideal S1x1024 .f32} {Z G B : Fin 1024 → EReal} {r : Fin 512}
    (hZ : ∀ k, v83 (ix2 r k) = Z k) (hG : ∀ k, v86 (ix2 0 k) = G k) (hB : ∀ k, v88 (ix2 0 k) = B k) (k : Fin 1024) :
    k0_pay1 (F := Ideal) v83 v86 v88 (ix2 r k) = hat Z k * G k + B k := by
  pointwise [k0_pay1]
  simp only [hZ, hG, hB]
  rfl

theorem pay77_eq (v : Vec Ideal S512x1024 .f32) : k0_pay77 (F := Ideal) v = v := by
  funext y; rw [eq_ix2 y]; pointwise [k0_pay77]
theorem pay78_eq (v : Vec Ideal S1x1024 .f32) : k0_pay78 (F := Ideal) v = v := by
  funext y; rw [eq_ix2 y]; pointwise [k0_pay78]
theorem pay79_eq (v : Vec Ideal S1x1024 .f32) : k0_pay79 (F := Ideal) v = v := by
  funext y; rw [eq_ix2 y]; pointwise [k0_pay79]
theorem pay81_eq (v : Vec Ideal S1x1024 .f32) : k0_pay81 (F := Ideal) v = v := by
  funext y; rw [eq_ix2 y]; pointwise [k0_pay81]
theorem pay82_eq (v : Vec Ideal S1x1024 .f32) : k0_pay82 (F := Ideal) v = v := by
  funext y; rw [eq_ix2 y]; pointwise [k0_pay82]

variable {c : Dev nD} {i : grid0.Coords} {arg1 : Memref sig .tc .vmem S512x1024 .f32} {harg1 : arg1.IsWhole} {arg2 : Memref sig .tc .vmem S32x1024 .f32} {harg2 : arg2.IsWhole} {arg3 : Memref sig .tc .vmem S512x1024 .f32} {harg3 : arg3.IsWhole} {arg4 : Memref sig .tc .vmem S32x8x1024 .f32} {harg4 : arg4.IsWhole} {arg5 : Memref sig .tc .vmem S1x1024 .f32} {harg5 : arg5.IsWhole} {arg6 : Memref sig .tc .vmem S1x1024 .f32} {harg6 : arg6.IsWhole} {arg7 : Memref sig .tc .vmem S1x1024 .f32} {harg7 : arg7.IsWhole} {arg8 : Memref sig .tc .vmem S1024x1024 .bf16} {harg8 : arg8.IsWhole} {arg9 : Memref sig .tc .vmem S1x1024 .f32} {harg9 : arg9.IsWhole} {arg10 : Memref sig .tc .vmem S1x1024 .f32} {harg10 : arg10.IsWhole} {arg11 : Memref sig .tc .vmem S1x1024 .f32} {harg11 : arg11.IsWhole} {arg12 : Memref sig .tc .vmem S512x1024 .f32} {harg12 : arg12.IsWhole} {arg13 : Memref sig .tc .vmem S512x1024 .f32} {harg13 : arg13.IsWhole} {arg14 : Memref sig .tc .vmem S512x1024 .f32} {harg14 : arg14.IsWhole} {arg15 : Memref sig .tc .vmem S552x1024 .f32} {harg15 : arg15.IsWhole} {arg16 : Memref sig .tc .vmem S7x544x1024 .f32} {harg16 : arg16.IsWhole}
    {x0 : Vec Ideal S512x1024 .f32} {x1 : Vec Ideal S32x1024 .f32} {x2 : Vec Ideal S512x1024 .f32} {x3 : Vec Ideal S32x8x1024 .f32} {x4 : Vec Ideal S1x1024 .f32} {x5 : Vec Ideal S1x1024 .f32} {x6 : Vec Ideal S1x1024 .f32} {x7 : Vec Ideal S1024x1024 .bf16} {x8 : Vec Ideal S1x1024 .f32} {x9 : Vec Ideal S1x1024 .f32} {x10 : Vec Ideal S1x1024 .f32}

/-- The convolution, read back from the tile's first result. -/
theorem read_c {w E : ℕ → ℕ → EReal} {g : ℕ → EReal} (hE : Ext i x0 x1 E) (hw : Taps x3 w) (hg : ∀ f : Fin 1024, x4 (ix2 0 f) = g f.val) :
    kernelRun0_A.sl.r (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 = convAt w E g := by
  have hcov := cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 (fun _ => 0) x3 x4 (fun _ => 0) (fun _ => 0) (fun _ => 0) (fun _ => 0) (fun _ => 0) (fun _ => 0)
  unfold kernelRun0_A.sl.r
  rw [pay77_eq, View.readCov_eq_canon']
  funext y
  refine (View.canon_apply_of_pieces (convAt w E g) _ (View.PiecesOf.mem ?_) _ (hcov _)).trans ?_
  · refine loop_pieces _ _ _ _ _ _ _ _ _ _ _ _ _ _ _ _ _ _ _ _ _ _ _ _ _ _ _ _ _ _ _ _ _ _ _ _ _ _ _ _ _ ?_ ?_ ?_ ?_ _ (le_of_eq rfl)
    · rw [harg4.read_unread]; exact hw
    · rw [harg5.read_unread]; exact hg
    · rw [View.read_writes_junk_eq_canon, ext_canon hE]
      intro r f; rfl
    · rw [View.read_writes_junk_eq_canon, shifted_canon hE]
      intro s r f; rfl
  · show conv w E g _ _ = conv w E g _ _
    congr 1
    · exact (Rect.idx_unit_val (s := S512x1024) _ _ _ _ _).trans (by simp)
    · exact (Rect.idx_unit_val (s := S512x1024) _ _ _ _ _).trans (by simp)

theorem out_z {w E : ℕ → ℕ → EReal} {g : ℕ → EReal} (hE : Ext i x0 x1 E) (hw : Taps x3 w) (hg : ∀ f : Fin 1024, x4 (ix2 0 f) = g f.val)
    {X G B D : Fin 1024 → EReal} {W : Fin 1024 → Fin 1024 → EReal} {r : Fin 512}
    (hG : ∀ k, x5 (ix2 0 k) = G k) (hB : ∀ k, x6 (ix2 0 k) = B k)
    (hW : ∀ f k, x7 (ix2 f k) = W f k) (hD : ∀ k, x8 (ix2 0 k) = D k) (hX : ∀ k, x2 (ix2 r k) = X k) (k : Fin 1024) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix2 r k) = mix (fun f => conv w E g r.val f.val) X G B W D k := by
  unfold out0_A_12
  rw [View.read_writes_junk_eq_canon]
  unfold kernelRun0_A
  dsimp only
  rw [View.canon_unit_zero hz2, read_c hE hw hg]
  unfold kernelRun0_A.sl.r_1 kernelRun0_A.sl.r_2
  rw [pay78_eq, pay79_eq]
  simp only [View.readAt_eq_ld, harg3.read_unread, harg6.read_unread, harg7.read_unread, harg8.read_unread, harg9.read_unread, View.ld_unit_zero (S := S1x1024) hz2, View.ld_unit_zero (S := S512x1024) hz2, View.ld_unit_zero (S := S1024x1024) hz2]
  exact pay80_at (C := fun f => conv w E g r.val f.val) (fun k => rfl) hG hB hW hD hX k

theorem out_y {w E : ℕ → ℕ → EReal} {g : ℕ → EReal} (hE : Ext i x0 x1 E) (hw : Taps x3 w) (hg : ∀ f : Fin 1024, x4 (ix2 0 f) = g f.val)
    {X G B D M N : Fin 1024 → EReal} {W : Fin 1024 → Fin 1024 → EReal} {r : Fin 512}
    (hG : ∀ k, x5 (ix2 0 k) = G k) (hB : ∀ k, x6 (ix2 0 k) = B k)
    (hW : ∀ f k, x7 (ix2 f k) = W f k) (hD : ∀ k, x8 (ix2 0 k) = D k) (hX : ∀ k, x2 (ix2 r k) = X k)
    (hM : ∀ k, x9 (ix2 0 k) = M k) (hN : ∀ k, x10 (ix2 0 k) = N k) (k : Fin 1024) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix2 r k) = hat (mix (fun f => conv w E g r.val f.val) X G B W D) k * M k + N k := by
  unfold out0_A_13
  rw [View.read_writes_junk_eq_canon]
  unfold kernelRun0_A
  dsimp only
  rw [View.canon_unit_zero hz2]
  unfold kernelRun0_A.sl.r_3 kernelRun0_A.sl.r_4 kernelRun0_A.sl.r_5
  rw [read_c hE hw hg]
  unfold kernelRun0_A.sl.r_1 kernelRun0_A.sl.r_2
  rw [pay78_eq, pay79_eq, pay81_eq, pay82_eq]
  simp only [View.readAt_eq_ld, harg3.read_unread, harg6.read_unread, harg7.read_unread, harg8.read_unread, harg9.read_unread, harg10.read_unread, harg11.read_unread, View.ld_unit_zero (S := S1x1024) hz2, View.ld_unit_zero (S := S512x1024) hz2, View.ld_unit_zero (S := S1024x1024) hz2]
  exact pay1_at (fun k => pay80_at (C := fun f => conv w E g r.val f.val) (fun k => rfl) hG hB hW hD hX k) hM hN k

end Cert.Kernel13Ideal.Gen

end
-- ==== Proof.TailE.lean ====
module

public import proofs.«01_k».proof.Defs
public import proofs.«01_k».proof.Proof.TailD

/-! # The tail of the convolution sub-layer: the kernel's three result arrays, entry by entry

The rows under the taps of tile `n` are rows `512 n - 32` to `512 n + 511` of the gated values, with zeros before the first row. -/

@[expose] public section

noncomputable section

namespace Cert.Kernel13Ideal.Gen

open Idealize.ShloMosaic Idealize.ShloMosaic.TcCoe Idealize.SL.Sem Cert.Kernel13Ideal.Value
open Cert.Ffn (row)
open Cert.Fwd (lgs mean hat)

/-- The tile number of a point of the grid. -/
def tile (t : Fin cfg0.N) : Fin 32 := ⟨t.val, lt_of_lt_of_eq t.isLt N_0⟩

theorem coord0 : ∀ t : Fin cfg0.N, ((grid0.coords t) 0).val = t.val := by decide +kernel
theorem idx0_0 : ∀ t : Fin cfg0.N, win0_0.index t = ![t.val, 0] := by decide +kernel
theorem idx0_1 : ∀ t : Fin cfg0.N, win0_1.index t = ![16 * t.val - 1, 0] := by decide +kernel
theorem idx0_2 : ∀ t : Fin cfg0.N, win0_2.index t = ![t.val, 0] := by decide +kernel
theorem idx0_3 : ∀ t : Fin cfg0.N, win0_3.index t = ![0, 0, 0] := by decide +kernel
theorem idx0_4 : ∀ t : Fin cfg0.N, win0_4.index t = ![0, 0] := by decide +kernel
theorem idx0_5 : ∀ t : Fin cfg0.N, win0_5.index t = ![0, 0] := by decide +kernel
theorem idx0_6 : ∀ t : Fin cfg0.N, win0_6.index t = ![0, 0] := by decide +kernel
theorem idx0_7 : ∀ t : Fin cfg0.N, win0_7.index t = ![0, 0] := by decide +kernel
theorem idx0_8 : ∀ t : Fin cfg0.N, win0_8.index t = ![0, 0] := by decide +kernel
theorem idx0_9 : ∀ t : Fin cfg0.N, win0_9.index t = ![0, 0] := by decide +kernel
theorem idx0_10 : ∀ t : Fin cfg0.N, win0_10.index t = ![0, 0] := by decide +kernel
theorem idx0_11 : ∀ t : Fin cfg0.N, win0_11.index t = ![t.val, 0] := by decide +kernel
theorem idx0_12 : ∀ t : Fin cfg0.N, win0_12.index t = ![t.val, 0] := by decide +kernel
theorem idx0_13 : ∀ t : Fin cfg0.N, win0_13.index t = ![t.val, 0] := by decide +kernel

variable (m : (ℓ : Loc nD τ sig) → Buf (Elt Ideal) ℓ) (c : Dev nD)

/-- The arguments: the gated values, the sub-layer's input, the taps and their bias, the two norms, the weight and its bias. -/
def inU (a f : ℕ) : EReal := if h : a < 16384 ∧ f < 1024 then (m (c, Proc.tc.devRef main_arg0) : Vec Ideal S16384x1024 .f32) (ix2 ⟨a, h.1⟩ ⟨f, h.2⟩) else 0
def inX (t : Fin 16384) (k : Fin 1024) : EReal := (m (c, Proc.tc.devRef main_arg1) : Vec Ideal S16384x1024 .f32) (ix2 t k)
def tap (s f : ℕ) : EReal := if h : s < 31 ∧ f < 1024 then (m (c, Proc.tc.devRef main_arg2) : Vec Ideal S31x1024 .f32) (ix2 ⟨s, h.1⟩ ⟨f, h.2⟩) else 0
def tapB (f : ℕ) : EReal := if h : f < 1024 then (m (c, Proc.tc.devRef main_arg3) : Vec Ideal S1024 .f32) (ix1 ⟨f, h⟩) else 0
def lnG (k : Fin 1024) : EReal := (m (c, Proc.tc.devRef main_arg4) : Vec Ideal S1024 .f32) (ix1 k)
def lnB (k : Fin 1024) : EReal := (m (c, Proc.tc.devRef main_arg5) : Vec Ideal S1024 .f32) (ix1 k)
def inW (f k : Fin 1024) : EReal := (m (c, Proc.tc.devRef main_arg6) : Vec Ideal S1024x1024 .f32) (ix2 f k)
def inD (k : Fin 1024) : EReal := (m (c, Proc.tc.devRef main_arg7) : Vec Ideal S1024 .f32) (ix1 k)
def mixG (k : Fin 1024) : EReal := (m (c, Proc.tc.devRef main_arg8) : Vec Ideal S1024 .f32) (ix1 k)
def mixB (k : Fin 1024) : EReal := (m (c, Proc.tc.devRef main_arg9) : Vec Ideal S1024 .f32) (ix1 k)

theorem inU_of (a : Fin 16384) (f : Fin 1024) : inU m c a.val f.val = (m (c, Proc.tc.devRef main_arg0) : Vec Ideal S16384x1024 .f32) (ix2 a f) := by
  unfold inU
  rw [dif_pos ⟨a.isLt, f.isLt⟩]
theorem tap_of (s : Fin 31) (f : Fin 1024) : tap m c s.val f.val = (m (c, Proc.tc.devRef main_arg2) : Vec Ideal S31x1024 .f32) (ix2 s f) := by
  unfold tap
  rw [dif_pos ⟨s.isLt, f.isLt⟩]
theorem tapB_of (f : Fin 1024) : tapB m c f.val = (m (c, Proc.tc.devRef main_arg3) : Vec Ideal S1024 .f32) (ix1 f) := by
  unfold tapB
  rw [dif_pos f.isLt]

/-- The gated values with 30 rows of zeros in front. -/
def past (a f : ℕ) : EReal := if 30 ≤ a then inU m c (a - 30) f else 0

/-- The causal convolution with its bias. -/
def cv (t f : ℕ) : EReal := (∑ s ∈ Finset.range 31, tap m c s f * past m c (t + s) f) + tapB m c f

/-- The convolution's entry at a row and a column. -/
def cvAt (t : Fin 16384) (k : Fin 1024) : EReal := cv m c t.val k.val

/-- The sub-layer's sum. -/
def zv (t : Fin 16384) : Fin 1024 → EReal :=
  mix (fun f => cv m c t.val f.val) (inX m c t) (lnG m c) (lnB m c) (inW m c) (inD m c)

/-- The rows under the taps of tile `n`. -/
def under (n r f : ℕ) : EReal := if 32 ≤ n * 512 + r ∧ r < 544 then inU m c (n * 512 + r - 32) f else 0

theorem conv_under (n : Fin 32) (r : Fin 512) (f : ℕ) : conv (tap m c) (under m c n.val) (tapB m c) r.val f = cv m c (row n r).val f := by
  unfold conv cv
  refine congrArg (· + tapB m c f) (Finset.sum_congr rfl fun s hs => congrArg (tap m c s f * ·) ?_)
  have hs' : s < 31 := Finset.mem_range.mp hs
  have hr := r.isLt
  unfold under past row
  by_cases h : 30 ≤ n.val * 512 + r.val + s
  · rw [if_pos ⟨by omega, by omega⟩, if_pos (by exact h)]
    exact congrArg (fun a => inU m c a f) (by show _ = n.val * 512 + r.val + s - 30; omega)
  · rw [if_neg (fun h' => h (by omega)), if_neg (by exact h)]

/-! ## The host code's arrays and the blocks of a tile -/

theorem zero_word : FloatOps.sitofp (F := Ideal) .f32 0#32 = 0 := by
  show (((0#32 : BitVec 32).toInt : ℝ) : EReal) = 0
  simp

theorem V_taps (s : Fin 32) (p : Fin 8) (f : Fin 1024) : (V m c main_v2 : Vec Ideal S32x8x1024 .f32) (ix3 s p f) = tap m c s.val f.val := by
  simp only [V, hostOps0, hostOps0_1, hostOps0_2, List.flatten_cons, List.flatten_nil, List.append_nil, List.cons_append, List.nil_append]
  entry_read
  pointwise
  show pad S32x1024 ![0, 0] ![1, 0] ![0, 0] (m (c, Proc.tc.devRef main_arg2) : Vec Ideal S31x1024 .f32) (sitofp (F := Ideal) .f32 (constantI S_ 32 0#32)) pads_S31x1024_S32x1024_010_000 h_S_ (ix2 s f) = _
  unfold tap
  pointwise
  by_cases h : s.val < 31
  · rw [dif_pos h]
    refine dif_pos fun (a : Fin 2) => ?_
    fin_cases a
    · exact ⟨Nat.zero_le _, Nat.mod_one _, by show (s.val - 0) / (0 + 1) < 31; omega⟩
    · exact ⟨Nat.zero_le _, Nat.mod_one _, by show (f.val - 0) / (0 + 1) < 1024; omega⟩
  · rw [dif_neg h]
    refine (dif_neg fun h' => h ?_).trans zero_word
    have h2 : (s.val - 0) / (0 + 1) < 31 := (h' (0 : Fin 2)).2.2
    omega

theorem V_tapB (f : Fin 1024) : (V m c main_v3 : Vec Ideal S1x1024 .f32) (ix2 0 f) = tapB m c f.val := by
  simp only [V, hostOps0, hostOps0_1, hostOps0_2, List.flatten_cons, List.flatten_nil, List.append_nil, List.cons_append, List.nil_append]
  entry_read
  pointwise
  unfold tapB
  rw [dif_pos f.isLt]
theorem V_lnG (f : Fin 1024) : (V m c main_v4 : Vec Ideal S1x1024 .f32) (ix2 0 f) = lnG m c f := by
  simp only [V, hostOps0, hostOps0_1, hostOps0_2, List.flatten_cons, List.flatten_nil, List.append_nil, List.cons_append, List.nil_append]
  entry_read
  pointwise
  rfl
theorem V_lnB (f : Fin 1024) : (V m c main_v5 : Vec Ideal S1x1024 .f32) (ix2 0 f) = lnB m c f := by
  simp only [V, hostOps0, hostOps0_1, hostOps0_2, List.flatten_cons, List.flatten_nil, List.append_nil, List.cons_append, List.nil_append]
  entry_read
  pointwise
  rfl
theorem V_w (f k : Fin 1024) : (V m c main_v6 : Vec Ideal S1024x1024 .bf16) (ix2 f k) = inW m c f k := by
  simp only [V, hostOps0, hostOps0_1, hostOps0_2, List.flatten_cons, List.flatten_nil, List.append_nil, List.cons_append, List.nil_append]
  entry_read
  pointwise
  rfl
theorem V_d (f : Fin 1024) : (V m c main_v7 : Vec Ideal S1x1024 .f32) (ix2 0 f) = inD m c f := by
  simp only [V, hostOps0, hostOps0_1, hostOps0_2, List.flatten_cons, List.flatten_nil, List.append_nil, List.cons_append, List.nil_append]
  entry_read
  pointwise
  rfl
theorem V_mixG (f : Fin 1024) : (V m c main_v8 : Vec Ideal S1x1024 .f32) (ix2 0 f) = mixG m c f := by
  simp only [V, hostOps0, hostOps0_1, hostOps0_2, List.flatten_cons, List.flatten_nil, List.append_nil, List.cons_append, List.nil_append]
  entry_read
  pointwise
  rfl
theorem V_mixB (f : Fin 1024) : (V m c main_v9 : Vec Ideal S1x1024 .f32) (ix2 0 f) = mixB m c f := by
  simp only [V, hostOps0, hostOps0_1, hostOps0_2, List.flatten_cons, List.flatten_nil, List.append_nil, List.cons_append, List.nil_append]
  entry_read
  pointwise
  rfl

variable (t : Fin cfg0.N)

theorem blk_u (r : Fin 512) (f : Fin 1024) : (iblk m c 0 t : Vec Ideal S512x1024 .f32) (ix2 r f) = inU m c (row (tile t) r).val f.val := by
  unfold inU
  rw [dif_pos ⟨(row (tile t) r).isLt, f.isLt⟩]
  blk_ext! [iblk, V, idx0_0 t, tile, row]

theorem blk_halo (ht : t.val ≠ 0) (r : Fin 32) (f : Fin 1024) : (iblk m c 1 t : Vec Ideal S32x1024 .f32) (ix2 r f) = inU m c (t.val * 512 + r.val - 32) f.val := by
  have h32 : t.val < 32 := lt_of_lt_of_eq t.isLt N_0
  have hlt : t.val * 512 + r.val - 32 < 16384 := by omega
  unfold inU
  rw [dif_pos ⟨hlt, f.isLt⟩]
  blk_ext! [iblk, V, idx0_1 t, tile, row]

theorem blk_x (r : Fin 512) (k : Fin 1024) : (iblk m c 2 t : Vec Ideal S512x1024 .f32) (ix2 r k) = inX m c (row (tile t) r) k := by
  unfold inX
  blk_ext! [iblk, V, idx0_2 t, tile, row]

theorem blk_taps : Taps (iblk m c 3 t : Vec Ideal S32x8x1024 .f32) (tap m c) := by
  intro s p f
  rw [← V_taps m c s p f]
  unfold iblk
  generalize V m c main_v2 = X
  blk_ext! [idx0_3 t]
theorem blk_tapB (f : Fin 1024) : (iblk m c 4 t : Vec Ideal S1x1024 .f32) (ix2 0 f) = tapB m c f.val := by
  rw [← V_tapB m c]
  unfold iblk
  generalize V m c main_v3 = X
  blk_ext! [idx0_4 t]
theorem blk_lnG (f : Fin 1024) : (iblk m c 5 t : Vec Ideal S1x1024 .f32) (ix2 0 f) = lnG m c f := by
  rw [← V_lnG m c]
  unfold iblk
  generalize V m c main_v4 = X
  blk_ext! [idx0_5 t]
theorem blk_lnB (f : Fin 1024) : (iblk m c 6 t : Vec Ideal S1x1024 .f32) (ix2 0 f) = lnB m c f := by
  rw [← V_lnB m c]
  unfold iblk
  generalize V m c main_v5 = X
  blk_ext! [idx0_6 t]
theorem blk_w (f k : Fin 1024) : (iblk m c 7 t : Vec Ideal S1024x1024 .bf16) (ix2 f k) = inW m c f k := by
  rw [← V_w m c]
  unfold iblk
  generalize V m c main_v6 = X
  blk_ext! [idx0_7 t]
theorem blk_d (f : Fin 1024) : (iblk m c 8 t : Vec Ideal S1x1024 .f32) (ix2 0 f) = inD m c f := by
  rw [← V_d m c]
  unfold iblk
  generalize V m c main_v7 = X
  blk_ext! [idx0_8 t]
theorem blk_mixG (f : Fin 1024) : (iblk m c 9 t : Vec Ideal S1x1024 .f32) (ix2 0 f) = mixG m c f := by
  rw [← V_mixG m c]
  unfold iblk
  generalize V m c main_v8 = X
  blk_ext! [idx0_9 t]
theorem blk_mixB (f : Fin 1024) : (iblk m c 10 t : Vec Ideal S1x1024 .f32) (ix2 0 f) = mixB m c f := by
  rw [← V_mixB m c]
  unfold iblk
  generalize V m c main_v9 = X
  blk_ext! [idx0_10 t]

theorem blk_ext : Ext (grid0.coords t) (iblk m c 0 t) (iblk m c 1 t) (under m c t.val) where
  before r f := by
    have hr := r.isLt
    rw [coord0]
    unfold under
    by_cases ht : t.val = 0
    · rw [if_pos ht, if_neg (by omega)]
    · rw [if_neg ht, if_pos ⟨by omega, by omega⟩]
      exact blk_halo m c t ht r f
  tile r f := by
    have hr := r.isLt
    unfold under
    rw [if_pos ⟨by omega, by omega⟩, blk_u]
    exact congrArg (fun a => inU m c a f.val) (by show t.val * 512 + r.val = _; omega)
  after r f := by
    unfold under
    rw [if_neg (by omega)]

/-! ## The tile's outputs -/

theorem tile_conv (r : Fin 512) (f : ℕ) : conv (tap m c) (under m c t.val) (tapB m c) r.val f = cv m c (row (tile t) r).val f :=
  conv_under m c (tile t) r f

theorem tile_mix (r : Fin 512) : mix (fun f => conv (tap m c) (under m c t.val) (tapB m c) r.val f.val) (inX m c (row (tile t) r)) (lnG m c) (lnB m c) (inW m c) (inD m c) =
    zv m c (row (tile t) r) := by
  unfold zv
  congr 1
  funext f
  exact tile_conv m c t r f.val

theorem after_c (r : Fin 512) (k : Fin 1024) : ((dats m 0 c).after 11 t : Vec Ideal S512x1024 .f32) (ix2 r k) = cvAt m c (row (tile t) r) k := by
  rw [after0_11]
  simp only [outsAt0]
  rw [out_c (blk_ext m c t) (blk_taps m c t) (blk_tapB m c t)]
  exact tile_conv m c t r k.val

theorem after_z (r : Fin 512) (k : Fin 1024) : ((dats m 0 c).after 12 t : Vec Ideal S512x1024 .f32) (ix2 r k) = zv m c (row (tile t) r) k := by
  rw [after0_12]
  simp only [outsAt0]
  rw [out_z (blk_ext m c t) (blk_taps m c t) (blk_tapB m c t) (blk_lnG m c t) (blk_lnB m c t) (blk_w m c t) (blk_d m c t) (blk_x m c t r) k]
  exact congrFun (tile_mix m c t r) k

theorem after_y (r : Fin 512) (k : Fin 1024) : ((dats m 0 c).after 13 t : Vec Ideal S512x1024 .f32) (ix2 r k) =
    hat (zv m c (row (tile t) r)) k * mixG m c k + mixB m c k := by
  rw [after0_13]
  simp only [outsAt0]
  rw [out_y (blk_ext m c t) (blk_taps m c t) (blk_tapB m c t) (blk_lnG m c t) (blk_lnB m c t) (blk_w m c t) (blk_d m c t) (blk_x m c t r) (blk_mixG m c t) (blk_mixB m c t) k,
    tile_mix m c t r]

/-! ## The result arrays -/

theorem arr_c : (dats m 0 c).arrAt 11 cfg0.N = (fun i => cvAt m c (i 0) (i 1) : Vec Ideal S16384x1024 .f32) := by
  refine (dats m 0 c).arrAt_eq_of_covers 11 _ (by decide +kernel) fun t hf y => ?_
  blk_simp
  rw [eq_ix2 y]
  refine (after_c m c t _ _).trans ?_
  let A : Vec Ideal S16384x1024 .f32 := fun i => cvAt m c (i 0) (i 1)
  show A (ix2 (row (tile t) (y 0)) (y 1)) = A _
  generalize A = X
  blk_ext! [idx0_11 t, tile, row]

theorem arr_z : (dats m 0 c).arrAt 12 cfg0.N = (fun i => zv m c (i 0) (i 1) : Vec Ideal S16384x1024 .f32) := by
  refine (dats m 0 c).arrAt_eq_of_covers 12 _ (by decide +kernel) fun t hf y => ?_
  blk_simp
  rw [eq_ix2 y]
  refine (after_z m c t _ _).trans ?_
  let A : Vec Ideal S16384x1024 .f32 := fun i => zv m c (i 0) (i 1)
  show A (ix2 (row (tile t) (y 0)) (y 1)) = A _
  generalize A = X
  blk_ext! [idx0_12 t, tile, row]

theorem arr_y : (dats m 0 c).arrAt 13 cfg0.N = (fun i => hat (zv m c (i 0)) (i 1) * mixG m c (i 1) + mixB m c (i 1) : Vec Ideal S16384x1024 .f32) := by
  refine (dats m 0 c).arrAt_eq_of_covers 13 _ (by decide +kernel) fun t hf y => ?_
  blk_simp
  rw [eq_ix2 y]
  refine (after_y m c t _ _).trans ?_
  let A : Vec Ideal S16384x1024 .f32 := fun i => hat (zv m c (i 0)) (i 1) * mixG m c (i 1) + mixB m c (i 1)
  show A (ix2 (row (tile t) (y 0)) (y 1)) = A _
  generalize A = X
  blk_ext! [idx0_13 t, tile, row]

end Cert.Kernel13Ideal.Gen

end
-- ==== Proof.Equation13.lean ====
module

public import proofs.«01_k».proof.Proof.TailE
public import proofs.«01_k».proof.Proof.Gen.Reference13Ideal
public import proofs.«01_k».proof.Proof.Gen.Reference13Ideal.Run

/-! # The tail of the convolution sub-layer: each result of the kernel is the reference's, for every input -/

@[expose] public section

noncomputable section

namespace Cert.Reference13Ideal.Value

open Idealize.ShloMosaic Idealize.ShloMosaic.TcCoe Idealize.SL.Sem

/-- The reference's padded rows: 30 rows of zeros, then the gated values. -/
theorem padded_at (V0 : Valuation τ sig (Elt Ideal)) {U : ℕ → ℕ → EReal}
    (hU : ∀ (a : Fin 16384) (f : Fin 1024), (V0 (Proc.devRef .tc main_arg0) : Vec Ideal S16384x1024 .f32) (ix2 a f) = U a.val f.val)
    (t : Fin 16414) (f : Fin 1024) :
    (res_main_v0 V0 : Vec Ideal S16414x1024 .f32) (ix2 t f) = if 30 ≤ t.val then U (t.val - 30) f.val else 0 := by
  unfold res_main_v0
  pointwise
  have ht := t.isLt
  by_cases h : 30 ≤ t.val
  · rw [if_pos h]
    refine (dif_pos fun (a : Fin 2) => ?_).trans (hU ⟨t.val - 30, by omega⟩ f)
    fin_cases a
    · exact ⟨h, Nat.mod_one _, by show (t.val - 30) / (0 + 1) < 16384; omega⟩
    · exact ⟨Nat.zero_le _, Nat.mod_one _, by show (f.val - 0) / (0 + 1) < 1024; omega⟩
  · rw [if_neg h]
    exact (dif_neg fun h' => h (h' (0 : Fin 2)).1).trans Kernel13Ideal.Gen.zero_word

/-- The reference's 31 shifted products, added in order, with the bias. -/
theorem conv_at (V0 : Valuation τ sig (Elt Ideal)) {w P : ℕ → ℕ → EReal} {g : ℕ → EReal} (t : Fin 16384) (f : Fin 1024)
    (hw : ∀ s : Fin 31, (V0 (Proc.devRef .tc main_arg2) : Vec Ideal S31x1024 .f32) (ix2 s f) = w s.val f.val)
    (hP : ∀ a : Fin 16414, (res_main_v0 V0 : Vec Ideal S16414x1024 .f32) (ix2 a f) = P a.val f.val)
    (hg : (V0 (Proc.devRef .tc main_arg3) : Vec Ideal S1024 .f32) (ix1 f) = g f.val) :
    (res_main_v219 V0 : Vec Ideal S16384x1024 .f32) (ix2 t f) =
      (∑ s ∈ Finset.range 31, w s f.val * P (t.val + s) f.val) + g f.val := by
  have T : ∀ (s : Fin 31) (h : s.val + t.val < 16414),
      (fun a b : EReal => a * b) ((V0 (Proc.devRef .tc main_arg2) : Vec Ideal S31x1024 .f32) (ix2 s f)) ((res_main_v0 V0 : Vec Ideal S16414x1024 .f32) (ix2 ⟨s.val + t.val, h⟩ f)) =
        w s.val f.val * P (t.val + s.val) f.val := fun s h =>
    congrArg₂ (fun a b : EReal => a * b) (hw s) ((hP ⟨s.val + t.val, h⟩).trans (congrArg (fun a => P a f.val) (Nat.add_comm s.val t.val)))
  unfold res_main_v219 res_main_v207 res_main_v196
  pointwise
  simp only [Finset.sum_range_succ, Finset.sum_range_zero, zero_add]
  refine congrArg₂ (fun a b : EReal => a + b) ?_ hg
  refine congrArg₂ (fun a b : EReal => a + b) ?_ (T 30 _)
  refine congrArg₂ (fun a b : EReal => a + b) ?_ (T 29 _)
  refine congrArg₂ (fun a b : EReal => a + b) ?_ (T 28 _)
  refine congrArg₂ (fun a b : EReal => a + b) ?_ (T 27 _)
  refine congrArg₂ (fun a b : EReal => a + b) ?_ (T 26 _)
  refine congrArg₂ (fun a b : EReal => a + b) ?_ (T 25 _)
  refine congrArg₂ (fun a b : EReal => a + b) ?_ (T 24 _)
  refine congrArg₂ (fun a b : EReal => a + b) ?_ (T 23 _)
  refine congrArg₂ (fun a b : EReal => a + b) ?_ (T 22 _)
  refine congrArg₂ (fun a b : EReal => a + b) ?_ (T 21 _)
  refine congrArg₂ (fun a b : EReal => a + b) ?_ (T 20 _)
  refine congrArg₂ (fun a b : EReal => a + b) ?_ (T 19 _)
  refine congrArg₂ (fun a b : EReal => a + b) ?_ (T 18 _)
  refine congrArg₂ (fun a b : EReal => a + b) ?_ (T 17 _)
  refine congrArg₂ (fun a b : EReal => a + b) ?_ (T 16 _)
  refine congrArg₂ (fun a b : EReal => a + b) ?_ (T 15 _)
  refine congrArg₂ (fun a b : EReal => a + b) ?_ (T 14 _)
  refine congrArg₂ (fun a b : EReal => a + b) ?_ (T 13 _)
  refine congrArg₂ (fun a b : EReal => a + b) ?_ (T 12 _)
  refine congrArg₂ (fun a b : EReal => a + b) ?_ (T 11 _)
  refine congrArg₂ (fun a b : EReal => a + b) ?_ (T 10 _)
  refine congrArg₂ (fun a b : EReal => a + b) ?_ (T 9 _)
  refine congrArg₂ (fun a b : EReal => a + b) ?_ (T 8 _)
  refine congrArg₂ (fun a b : EReal => a + b) ?_ (T 7 _)
  refine congrArg₂ (fun a b : EReal => a + b) ?_ (T 6 _)
  refine congrArg₂ (fun a b : EReal => a + b) ?_ (T 5 _)
  refine congrArg₂ (fun a b : EReal => a + b) ?_ (T 4 _)
  refine congrArg₂ (fun a b : EReal => a + b) ?_ (T 3 _)
  refine congrArg₂ (fun a b : EReal => a + b) ?_ (T 2 _)
  refine congrArg₂ (fun a b : EReal => a + b) ?_ (T 1 _)
  exact congrArg₂ (fun a b : EReal => a * b) (hw 0) (hP _)

open Cert.Fwd (hat lgs mean)
open Cert.Kernel13Ideal.Gen (mix silu)

/-- The reference's sum, from its convolution. -/
theorem sum_at (V0 : Valuation τ sig (Elt Ideal)) {C X G B D : Fin 1024 → EReal} {W : Fin 1024 → Fin 1024 → EReal} (t : Fin 16384) (k : Fin 1024)
    (hC : ∀ k, (res_main_v219 V0 : Vec Ideal S16384x1024 .f32) (ix2 t k) = C k)
    (hX : ∀ k, (V0 (Proc.devRef .tc main_arg1) : Vec Ideal S16384x1024 .f32) (ix2 t k) = X k)
    (hG : ∀ k, (V0 (Proc.devRef .tc main_arg4) : Vec Ideal S1024 .f32) (ix1 k) = G k)
    (hB : ∀ k, (V0 (Proc.devRef .tc main_arg5) : Vec Ideal S1024 .f32) (ix1 k) = B k)
    (hW : ∀ f k, (V0 (Proc.devRef .tc main_arg6) : Vec Ideal S1024x1024 .f32) (ix2 f k) = W f k)
    (hD : ∀ k, (V0 (Proc.devRef .tc main_arg7) : Vec Ideal S1024 .f32) (ix1 k) = D k) :
    (res_main_v251 V0 : Vec Ideal S16384x1024 .f32) (ix2 t k) = mix C X G B W D k := by
  unfold res_main_v251 res_main_v245 res_main_v227 res_main_v225
  generalize res_main_v219 V0 = c at *
  generalize V0 (Proc.devRef .tc main_arg1) = x at *
  generalize V0 (Proc.devRef .tc main_arg4) = g at *
  generalize V0 (Proc.devRef .tc main_arg5) = b at *
  generalize V0 (Proc.devRef .tc main_arg6) = w at *
  generalize V0 (Proc.devRef .tc main_arg7) = d at *
  pointwise
  simp only [hC, hX, hG, hB, hW, hD]
  rfl

open Cert.Reference13Ideal.Gen in
/-- The reference's third result, from its sum. -/
theorem norm_at (V0 : Valuation τ sig (Elt Ideal)) {Z G B : Fin 1024 → EReal} (t : Fin 16384) (k : Fin 1024)
    (hZ : ∀ k, (res_main_v251 V0 : Vec Ideal S16384x1024 .f32) (ix2 t k) = Z k)
    (hG : ∀ k, (V0 (Proc.devRef .tc main_arg8) : Vec Ideal S1024 .f32) (ix1 k) = G k)
    (hB : ∀ k, (V0 (Proc.devRef .tc main_arg9) : Vec Ideal S1024 .f32) (ix1 k) = B k) :
    (addf (mulf (mulf (subf (res_main_v251 V0) (broadcastInDim S16384x1024 ![0, 1] bcast_S16384x1_S16384x1024_0_1 (res_main_v255 V0))) (broadcastInDim S16384x1024 ![0, 1] bcast_S16384x1_S16384x1024_0_1 (Host.rsqrt (addf (Host.divf (broadcastInDim S16384x1 ![0] bcast_S16384_S16384x1_0 (Host.reduceAdd (mulf (res_main_v257 V0) (res_main_v257 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 (V0 (Proc.devRef .tc main_arg8))))) (broadcastInDim S16384x1024 ![0, 1] bcast_S1x1024_S16384x1024_0_1 (broadcastInDim S1x1024 ![1] bcast_S1024_S1x1024_1 (V0 (Proc.devRef .tc main_arg9)))) : Vec Ideal S16384x1024 .f32) (ix2 t k) = hat Z k * G k + B k := by
  unfold res_main_v257 res_main_v255
  generalize res_main_v251 V0 = z at *
  generalize V0 (Proc.devRef .tc main_arg8) = g at *
  generalize V0 (Proc.devRef .tc main_arg9) = b at *
  pointwise
  simp only [hZ, hG, hB]
  rfl

end Cert.Reference13Ideal.Value

namespace Cert.Proof

open Idealize.ShloMosaic Idealize.ShloMosaic.TcCoe Idealize.SL.Sem Cert.Fwd

theorem algebraic13 : Cert.algebraic_Kernel13Ideal_Reference13Ideal (hKernel13Ideal := Cert.Kernel13Ideal.Gen.facts)
    (hReference13Ideal := Cert.Reference13Ideal.Gen.facts) := by
  intro m g m' g' _ hargs
  refine ⟨_, _, _, Kernel13Ideal.Value.run_blocks m g, ?_⟩
  refine (θ_run _ _ _).mono (fun r h c => ?_) (Reference13Ideal.Value.run m' g')
  obtain ⟨h0, h1, h2, ha⟩ := h c
  obtain ⟨a0, a1, a2, a3, a4, a5, a6, a7, a8, a9⟩ := hargs c
  have hc : ∀ (t : Fin 16384) (k : Fin 1024), (Reference13Ideal.Value.res_main_v219 (StableHlo.launchContents m' c) : Vec Ideal Reference13Ideal.S16384x1024 .f32) (ix2 t k) = Kernel13Ideal.Gen.cvAt m c t k := by
    intro t k
    refine Reference13Ideal.Value.conv_at _ t k (fun s => ?_) (fun a => Reference13Ideal.Value.padded_at _ (fun a f => ?_) a k) ?_
    · refine (congrFun a2 (ix2 s k)).trans ?_
      exact (Kernel13Ideal.Gen.tap_of m c s k).symm
    · refine (congrFun a0 (ix2 a f)).trans ?_
      exact (Kernel13Ideal.Gen.inU_of m c a f).symm
    · refine (congrFun a3 (ix1 k)).trans ?_
      exact (Kernel13Ideal.Gen.tapB_of m c k).symm
  have hz : ∀ (t : Fin 16384) (k : Fin 1024), (Reference13Ideal.Value.res_main_v251 (StableHlo.launchContents m' c) : Vec Ideal Reference13Ideal.S16384x1024 .f32) (ix2 t k) = Kernel13Ideal.Gen.zv m c t k := fun t k =>
    Reference13Ideal.Value.sum_at _ t k (hc t) (fun k => congrFun a1 (ix2 t k)) (fun k => congrFun a4 (ix1 k)) (fun k => congrFun a5 (ix1 k))
      (fun f k => congrFun a6 (ix2 f k)) (fun k => congrFun a7 (ix1 k))
  refine ⟨h0.trans ?_, h1.trans ?_, h2.trans ?_, ha⟩
  · rw [Kernel13Ideal.Gen.arr_c]
    funext i
    obtain ⟨t, k, rfl⟩ : ∃ t k, i = ix2 t k := ⟨_, _, (ix2_eta i).symm⟩
    exact hc t k
  · rw [Kernel13Ideal.Gen.arr_z]
    funext i
    obtain ⟨t, k, rfl⟩ : ∃ t k, i = ix2 t k := ⟨_, _, (ix2_eta i).symm⟩
    exact hz t k
  · rw [Kernel13Ideal.Gen.arr_y]
    funext i
    obtain ⟨t, k, rfl⟩ : ∃ t k, i = ix2 t k := ⟨_, _, (ix2_eta i).symm⟩
    exact Reference13Ideal.Value.norm_at _ t k (hz t) (fun k => congrFun a8 (ix1 k)) (fun k => congrFun a9 (ix1 k))

end Cert.Proof

end
-- ==== Proof.Equation14.lean ====
module

public import proofs.«01_k».proof.Defs
public import Idealize.ShloMosaic.Lib.IdealHost
public import Idealize.ShloMosaic.Lib.Pointwise
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run

/-! # The optimiser's step of the convolution's matrices: each result of the kernel is the reference's, for every input -/

@[expose] public section

noncomputable section

namespace Cert.Proof

open Idealize.ShloMosaic Idealize.ShloMosaic.TcCoe Idealize.SL.Sem

theorem algebraic14 : Cert.algebraic_Kernel14Ideal_Reference14Ideal (hKernel14Ideal := Cert.Kernel14Ideal.Gen.facts)
    (hReference14Ideal := Cert.Reference14Ideal.Gen.facts) := by
  intro m g m' g' _ hargs
  refine ⟨_, _, _, _, _, _, Kernel14Ideal.Value.run m g, ?_⟩
  refine (θ_run _ _ _).mono (fun r h c => ?_) (Reference14Ideal.Value.run m' g')
  obtain ⟨h0, h1, h2, h3, h4, h5, ha⟩ := h c
  obtain ⟨a0, a1, a2, a3, a4, a5, a6, a7⟩ := hargs c
  refine ⟨h0.trans ?_, h1.trans ?_, h2.trans ?_, h3.trans ?_, h4.trans ?_, h5.trans ?_, ha⟩
  · rw [a0, a1, a2, a3]
    funext i
    pointwise
  · rw [a1, a2]
    funext i
    pointwise
  · rw [a1, a3]
    funext i
    pointwise
  · rw [a4, a5, a6, a7]
    funext i
    pointwise
  · rw [a5, a6]
    funext i
    pointwise
  · rw [a5, a7]
    funext i
    pointwise

end Cert.Proof

end
-- ==== Proof.Equation15.lean ====
module

public import proofs.«01_k».proof.Defs
public import Idealize.ShloMosaic.Lib.IdealHost
public import Idealize.ShloMosaic.Lib.Pointwise
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run

/-! # The optimiser's step of the key and value projections: each result of the kernel is the reference's, for every input -/

@[expose] public section

noncomputable section

namespace Cert.Proof

open Idealize.ShloMosaic Idealize.ShloMosaic.TcCoe Idealize.SL.Sem

theorem algebraic15 : Cert.algebraic_Kernel15Ideal_Reference15Ideal (hKernel15Ideal := Cert.Kernel15Ideal.Gen.facts)
    (hReference15Ideal := Cert.Reference15Ideal.Gen.facts) := by
  intro m g m' g' _ hargs
  refine ⟨_, _, _, _, _, _, Kernel15Ideal.Value.run m g, ?_⟩
  refine (θ_run _ _ _).mono (fun r h c => ?_) (Reference15Ideal.Value.run m' g')
  obtain ⟨h0, h1, h2, h3, h4, h5, ha⟩ := h c
  obtain ⟨a0, a1, a2, a3, a4, a5, a6, a7⟩ := hargs c
  refine ⟨h0.trans ?_, h1.trans ?_, h2.trans ?_, h3.trans ?_, h4.trans ?_, h5.trans ?_, ha⟩
  · rw [a0, a1, a2, a3]
    funext i
    pointwise
  · rw [a1, a2]
    funext i
    pointwise
  · rw [a1, a3]
    funext i
    pointwise
  · rw [a4, a5, a6, a7]
    funext i
    pointwise
  · rw [a5, a6]
    funext i
    pointwise
  · rw [a5, a7]
    funext i
    pointwise

end Cert.Proof

end
-- ==== Proof.Equation16.lean ====
module

public import proofs.«01_k».proof.Defs
public import Idealize.ShloMosaic.Lib.IdealHost
public import Idealize.ShloMosaic.Lib.Pointwise
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run

/-! # The optimiser's step of the packed small weights: each result of the kernel is the reference's, for every input -/

@[expose] public section

noncomputable section

namespace Cert.Proof

open Idealize.ShloMosaic Idealize.ShloMosaic.TcCoe Idealize.SL.Sem

theorem algebraic16 : Cert.algebraic_Kernel16Ideal_Reference16Ideal (hKernel16Ideal := Cert.Kernel16Ideal.Gen.facts)
    (hReference16Ideal := Cert.Reference16Ideal.Gen.facts) := by
  intro m g m' g' _ hargs
  refine ⟨_, _, _, Kernel16Ideal.Value.run m g, ?_⟩
  refine (θ_run _ _ _).mono (fun r h c => ?_) (Reference16Ideal.Value.run m' g')
  obtain ⟨h0, h1, h2, ha⟩ := h c
  obtain ⟨a0, a1, a2, a3⟩ := hargs c
  refine ⟨h0.trans ?_, h1.trans ?_, h2.trans ?_, ha⟩
  · rw [a0, a1, a2, a3]
    funext i
    pointwise
  · rw [a1, a2]
    funext i
    pointwise
  · rw [a1, a3]
    funext i
    pointwise

end Cert.Proof

end
-- ==== Proof.Equation17.lean ====
module

public import proofs.«01_k».proof.Defs
public import Idealize.ShloMosaic.Lib.IdealHost
public import Idealize.ShloMosaic.Lib.Pointwise
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run

/-! # The optimiser's step of the feed-forward layers' matrices: each result of the kernel is the reference's, for every input -/

@[expose] public section

noncomputable section

namespace Cert.Proof

open Idealize.ShloMosaic Idealize.ShloMosaic.TcCoe Idealize.SL.Sem

theorem algebraic17 : Cert.algebraic_Kernel17Ideal_Reference17Ideal (hKernel17Ideal := Cert.Kernel17Ideal.Gen.facts)
    (hReference17Ideal := Cert.Reference17Ideal.Gen.facts) := by
  intro m g m' g' _ hargs
  refine ⟨_, _, _, _, _, _, _, _, _, Kernel17Ideal.Value.run m g, ?_⟩
  refine (θ_run _ _ _).mono (fun r h c => ?_) (Reference17Ideal.Value.run m' g')
  obtain ⟨h0, h1, h2, h3, h4, h5, h6, h7, h8, ha⟩ := h c
  obtain ⟨a0, a1, a2, a3, a4, a5, a6, a7, a8, a9, a10, a11⟩ := hargs c
  refine ⟨h0.trans ?_, h1.trans ?_, h2.trans ?_, h3.trans ?_, h4.trans ?_, h5.trans ?_, h6.trans ?_, h7.trans ?_, h8.trans ?_, ha⟩
  · rw [a0, a1, a2, a3]
    funext i
    pointwise
  · rw [a1, a2]
    funext i
    pointwise
  · rw [a1, a3]
    funext i
    pointwise
  · rw [a4, a5, a6, a7]
    funext i
    pointwise
  · rw [a5, a6]
    funext i
    pointwise
  · rw [a5, a7]
    funext i
    pointwise
  · rw [a8, a9, a10, a11]
    funext i
    pointwise
  · rw [a9, a10]
    funext i
    pointwise
  · rw [a9, a11]
    funext i
    pointwise

end Cert.Proof

end
-- ==== Proof.Equation18.lean ====
module

public import proofs.«01_k».proof.Defs
public import Idealize.ShloMosaic.Lib.IdealHost
public import Idealize.ShloMosaic.Lib.Pointwise
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run

/-! # The optimiser's step of the attention's query and output projections: each result of the kernel is the reference's, for every input -/

@[expose] public section

noncomputable section

namespace Cert.Proof

open Idealize.ShloMosaic Idealize.ShloMosaic.TcCoe Idealize.SL.Sem

theorem algebraic18 : Cert.algebraic_Kernel18Ideal_Reference18Ideal (hKernel18Ideal := Cert.Kernel18Ideal.Gen.facts)
    (hReference18Ideal := Cert.Reference18Ideal.Gen.facts) := by
  intro m g m' g' _ hargs
  refine ⟨_, _, _, _, _, _, Kernel18Ideal.Value.run m g, ?_⟩
  refine (θ_run _ _ _).mono (fun r h c => ?_) (Reference18Ideal.Value.run m' g')
  obtain ⟨h0, h1, h2, h3, h4, h5, ha⟩ := h c
  obtain ⟨a0, a1, a2, a3, a4, a5, a6, a7⟩ := hargs c
  refine ⟨h0.trans ?_, h1.trans ?_, h2.trans ?_, h3.trans ?_, h4.trans ?_, h5.trans ?_, ha⟩
  · rw [a0, a1, a2, a3]
    funext i
    pointwise
  · rw [a1, a2]
    funext i
    pointwise
  · rw [a1, a3]
    funext i
    pointwise
  · rw [a4, a5, a6, a7]
    funext i
    pointwise
  · rw [a5, a6]
    funext i
    pointwise
  · rw [a5, a7]
    funext i
    pointwise

end Cert.Proof

end
-- ==== Proof.lean ====
/- The certificate's assembly: the frames of the programs' runs, the idealizations without rewrites, and each kernel's
   equation with its reference (Proof/Equation*.lean for the feed-forward calls, Proof/Grad*.lean for the products). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.GradUp
public import proofs.«01_k».proof.Proof.GradDown
public import proofs.«01_k».proof.Proof.GradOut
public import proofs.«01_k».proof.Proof.GradKv
public import proofs.«01_k».proof.Proof.GradPw2
public import proofs.«01_k».proof.Proof.GradPw1
public import proofs.«01_k».proof.Proof.Equation0
public import proofs.«01_k».proof.Proof.Equation9
public import proofs.«01_k».proof.Proof.Equation10
public import proofs.«01_k».proof.Proof.Equation11
public import proofs.«01_k».proof.Proof.Equation12
public import proofs.«01_k».proof.Proof.Equation13
public import proofs.«01_k».proof.Proof.Equation14
public import proofs.«01_k».proof.Proof.Equation15
public import proofs.«01_k».proof.Proof.Equation16
public import proofs.«01_k».proof.Proof.Equation17
public import proofs.«01_k».proof.Proof.Equation18
public import Idealize.ShloMosaic.Adequacy
public import Idealize.ShloMosaic.Init

@[expose] public section

noncomputable section

namespace Cert.Proof

open Idealize.ShloMosaic Idealize.SL.Sem

/-- The reference has no semaphore and leaves its arguments. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

theorem frame_ri2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_ri3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_ri4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_ri5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_ri6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_ri7 : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem frame_ri8 : Cert.quiescent_Reference8Ideal (hReference8Ideal := Cert.Reference8Ideal.Gen.facts) := fun m ρ _ =>
  (θ_run Cert.Reference8Ideal.defs _ _).mono (fun r h => ⟨fun c => (h c).2.2.2.2.2.2, sem_eq_zero_of_no_sems (by decide) r.2⟩)
    (Cert.Reference8Ideal.Value.run (F := Ideal) m ρ)

theorem frame_ri9 : Cert.quiescent_Reference9Ideal (hReference9Ideal := Cert.Reference9Ideal.Gen.facts) := fun m ρ _ =>
  (θ_run Cert.Reference9Ideal.defs _ _).mono (fun r h => ⟨fun c => (h c).2.2.2.2.2, sem_eq_zero_of_no_sems (by decide) r.2⟩)
    (Cert.Reference9Ideal.Value.run (F := Ideal) m ρ)

theorem frame_ri10 : Cert.quiescent_Reference10Ideal (hReference10Ideal := Cert.Reference10Ideal.Gen.facts) := fun m ρ _ =>
  (θ_run Cert.Reference10Ideal.defs _ _).mono (fun r h => ⟨fun c => (h c).2.2.2.2.2.2.2, sem_eq_zero_of_no_sems (by decide) r.2⟩)
    (Cert.Reference10Ideal.Value.run (F := Ideal) m ρ)

theorem frame_ri11 : Cert.quiescent_Reference11Ideal (hReference11Ideal := Cert.Reference11Ideal.Gen.facts) := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

theorem frame_ri12 : Cert.quiescent_Reference12Ideal (hReference12Ideal := Cert.Reference12Ideal.Gen.facts) := fun m ρ _ =>
  (θ_run Cert.Reference12Ideal.defs _ _).mono (fun r h => ⟨fun c => (h c).2.2.2, sem_eq_zero_of_no_sems (by decide) r.2⟩)
    (Cert.Reference12Ideal.Value.run (F := Ideal) m ρ)

theorem frame_ri13 : Cert.quiescent_Reference13Ideal (hReference13Ideal := Cert.Reference13Ideal.Gen.facts) := fun m ρ _ =>
  (θ_run Cert.Reference13Ideal.defs _ _).mono (fun r h => ⟨fun c => (h c).2.2.2, sem_eq_zero_of_no_sems (by decide) r.2⟩)
    (Cert.Reference13Ideal.Value.run (F := Ideal) m ρ)

theorem frame_ri14 : Cert.quiescent_Reference14Ideal (hReference14Ideal := Cert.Reference14Ideal.Gen.facts) := fun m ρ _ =>
  (θ_run Cert.Reference14Ideal.defs _ _).mono (fun r h => ⟨fun c => (h c).2.2.2.2.2.2, sem_eq_zero_of_no_sems (by decide) r.2⟩)
    (Cert.Reference14Ideal.Value.run (F := Ideal) m ρ)

theorem frame_ri15 : Cert.quiescent_Reference15Ideal (hReference15Ideal := Cert.Reference15Ideal.Gen.facts) := fun m ρ _ =>
  (θ_run Cert.Reference15Ideal.defs _ _).mono (fun r h => ⟨fun c => (h c).2.2.2.2.2.2, sem_eq_zero_of_no_sems (by decide) r.2⟩)
    (Cert.Reference15Ideal.Value.run (F := Ideal) m ρ)

theorem frame_ri16 : Cert.quiescent_Reference16Ideal (hReference16Ideal := Cert.Reference16Ideal.Gen.facts) := fun m ρ _ =>
  (θ_run Cert.Reference16Ideal.defs _ _).mono (fun r h => ⟨fun c => (h c).2.2.2, sem_eq_zero_of_no_sems (by decide) r.2⟩)
    (Cert.Reference16Ideal.Value.run (F := Ideal) m ρ)

theorem frame_ri17 : Cert.quiescent_Reference17Ideal (hReference17Ideal := Cert.Reference17Ideal.Gen.facts) := fun m ρ _ =>
  (θ_run Cert.Reference17Ideal.defs _ _).mono (fun r h => ⟨fun c => (h c).2.2.2.2.2.2.2.2.2, sem_eq_zero_of_no_sems (by decide) r.2⟩)
    (Cert.Reference17Ideal.Value.run (F := Ideal) m ρ)

theorem frame_ri18 : Cert.quiescent_Reference18Ideal (hReference18Ideal := Cert.Reference18Ideal.Gen.facts) := fun m ρ _ =>
  (θ_run Cert.Reference18Ideal.defs _ _).mono (fun r h => ⟨fun c => (h c).2.2.2.2.2.2, sem_eq_zero_of_no_sems (by decide) r.2⟩)
    (Cert.Reference18Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Pre_finite.shapes, Cert.Pre_finite_loss.shapes, Cert.Pre_finite_head.shapes,
    fun m ρ _ => Cert.Kernel.Gen.frame m ρ, fun m ρ _ => Cert.KernelIdeal.Gen.frame m ρ,
    fun m ρ _ => Cert.KernelIdeal.Gen.frame m ρ,
    frame_ri,
    fun m ρ _ => frame_ri m ρ trivial,
    fun m ρ _ => Cert.Kernel2.Gen.frame m ρ, fun m ρ _ => Cert.Kernel2Ideal.Gen.frame m ρ, frame_ri2,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ, frame_ri4,
    fun m ρ _ => Cert.Kernel5.Gen.frame m ρ, fun m ρ _ => Cert.Kernel5Ideal.Gen.frame m ρ, frame_ri5,
    fun m ρ _ => Cert.Kernel6.Gen.frame m ρ, fun m ρ _ => Cert.Kernel6Ideal.Gen.frame m ρ, frame_ri6,
    fun m ρ _ => Cert.Kernel7.Gen.frame m ρ, fun m ρ _ => Cert.Kernel7Ideal.Gen.frame m ρ, frame_ri7,
    fun m ρ _ => Cert.Kernel8.Gen.frame m ρ, fun m ρ _ => Cert.Kernel8Ideal.Gen.frame m ρ, fun m ρ _ => Cert.Kernel8Ideal.Gen.frame m ρ,
    frame_ri8, fun m ρ _ => frame_ri8 m ρ trivial,
    fun m ρ _ => Cert.Kernel9.Gen.frame m ρ, fun m ρ _ => Cert.Kernel9Ideal.Gen.frame m ρ, frame_ri9,
    fun m ρ _ => Cert.Kernel10.Gen.frame m ρ, fun m ρ _ => Cert.Kernel10Ideal.Gen.frame m ρ, fun m ρ _ => Cert.Kernel10Ideal.Gen.frame m ρ,
    frame_ri10, fun m ρ _ => frame_ri10 m ρ trivial,
    fun m ρ _ => Cert.Kernel11.Gen.frame m ρ, fun m ρ _ => Cert.Kernel11Ideal.Gen.frame m ρ, fun m ρ _ => Cert.Kernel11Ideal.Gen.frame m ρ,
    frame_ri11, fun m ρ _ => frame_ri11 m ρ trivial,
    fun m ρ _ => Cert.Kernel12.Gen.frame m ρ, fun m ρ _ => Cert.Kernel12Ideal.Gen.frame m ρ, frame_ri12,
    fun m ρ _ => Cert.Kernel13.Gen.frame m ρ, fun m ρ _ => Cert.Kernel13Ideal.Gen.frame m ρ, frame_ri13,
    fun m ρ _ => Cert.Kernel14.Gen.frame m ρ, fun m ρ _ => Cert.Kernel14Ideal.Gen.frame m ρ, frame_ri14,
    fun m ρ _ => Cert.Kernel15.Gen.frame m ρ, fun m ρ _ => Cert.Kernel15Ideal.Gen.frame m ρ, frame_ri15,
    fun m ρ _ => Cert.Kernel16.Gen.frame m ρ, fun m ρ _ => Cert.Kernel16Ideal.Gen.frame m ρ, frame_ri16,
    fun m ρ _ => Cert.Kernel17.Gen.frame m ρ, fun m ρ _ => Cert.Kernel17Ideal.Gen.frame m ρ, frame_ri17,
    fun m ρ _ => Cert.Kernel18.Gen.frame m ρ, fun m ρ _ => Cert.Kernel18Ideal.Gen.frame m ρ, frame_ri18,
    trivial, algebraic, trivial, algebraic2, trivial, algebraic3,
    trivial, algebraic4, trivial, algebraic5, trivial, algebraic6, trivial, algebraic7,
    trivial, algebraic8, trivial, algebraic9, trivial, algebraic10, trivial, algebraic11,
    trivial, algebraic12, trivial, algebraic13, trivial, algebraic14, trivial, algebraic15,
    trivial, algebraic16, trivial, algebraic17, trivial, algebraic18⟩

end Cert.Proof

end
